-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_real_scores [hPre_real_scores : Cert.Pre_real_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_real_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_real_scores [hPre_real_scores : Cert.Pre_real_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_real_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_real_scores [hKernel2Ideal : Cert.Kernel2Ideal.Facts] [hPre_real_scores : Cert.Pre_real_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_real_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_real_scores [hReference2Ideal : Cert.Reference2Ideal.Facts] [hPre_real_scores : Cert.Pre_real_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_real_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal_pre_real_scores [hKernel2Ideal : Cert.Kernel2Ideal.Facts] [hReference2Ideal : Cert.Reference2Ideal.Facts] [hPre_real_scores : Cert.Pre_real_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_real_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)) (v2 : (c : Dev Cert.Kernel3Ideal.nD) → Buf (Elt Ideal) ((c.tc : Thread Cert.Kernel3Ideal.nD Cert.Kernel3Ideal.τ).loc Cert.Kernel3Ideal.main_v31_2)) (v3 : (c : Dev Cert.Kernel3Ideal.nD) → Buf (Elt Ideal) ((c.tc : Thread Cert.Kernel3Ideal.nD Cert.Kernel3Ideal.τ).loc Cert.Kernel3Ideal.main_v31_3)) (v4 : (c : Dev Cert.Kernel3Ideal.nD) → Buf (Elt Ideal) ((c.tc : Thread Cert.Kernel3Ideal.nD Cert.Kernel3Ideal.τ).loc Cert.Kernel3Ideal.main_v31_4)) (v5 : (c : Dev Cert.Kernel3Ideal.nD) → Buf (Elt Ideal) ((c.tc : Thread Cert.Kernel3Ideal.nD Cert.Kernel3Ideal.τ).loc Cert.Kernel3Ideal.main_v31_5)) (v6 : (c : Dev Cert.Kernel3Ideal.nD) → Buf (Elt Ideal) ((c.tc : Thread Cert.Kernel3Ideal.nD Cert.Kernel3Ideal.τ).loc Cert.Kernel3Ideal.main_v31_6)) (v7 : (c : Dev Cert.Kernel3Ideal.nD) → Buf (Elt Ideal) ((c.tc : Thread Cert.Kernel3Ideal.nD Cert.Kernel3Ideal.τ).loc Cert.Kernel3Ideal.main_v31_7)) (v8 : (c : Dev Cert.Kernel3Ideal.nD) → Buf (Elt Ideal) ((c.tc : Thread Cert.Kernel3Ideal.nD Cert.Kernel3Ideal.τ).loc Cert.Kernel3Ideal.main_v31_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_v31_2) = v2 c
          ∧ r.2.mem ((c.tc : Thread Cert.Kernel3Ideal.nD Cert.Kernel3Ideal.τ).loc Cert.Kernel3Ideal.main_v31_3) = v3 c
          ∧ r.2.mem ((c.tc : Thread Cert.Kernel3Ideal.nD Cert.Kernel3Ideal.τ).loc Cert.Kernel3Ideal.main_v31_4) = v4 c
          ∧ r.2.mem ((c.tc : Thread Cert.Kernel3Ideal.nD Cert.Kernel3Ideal.τ).loc Cert.Kernel3Ideal.main_v31_5) = v5 c
          ∧ r.2.mem ((c.tc : Thread Cert.Kernel3Ideal.nD Cert.Kernel3Ideal.τ).loc Cert.Kernel3Ideal.main_v31_6) = v6 c
          ∧ r.2.mem ((c.tc : Thread Cert.Kernel3Ideal.nD Cert.Kernel3Ideal.τ).loc Cert.Kernel3Ideal.main_v31_7) = v7 c
          ∧ r.2.mem ((c.tc : Thread Cert.Kernel3Ideal.nD Cert.Kernel3Ideal.τ).loc Cert.Kernel3Ideal.main_v31_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_v27) = v4 c
          ∧ r.2.mem ((c.tc : Thread Cert.Reference3Ideal.nD Cert.Reference3Ideal.τ).loc Cert.Reference3Ideal.main_v28) = v5 c
          ∧ r.2.mem ((c.tc : Thread Cert.Reference3Ideal.nD Cert.Reference3Ideal.τ).loc Cert.Reference3Ideal.main_v29) = v6 c
          ∧ r.2.mem ((c.tc : Thread Cert.Reference3Ideal.nD Cert.Reference3Ideal.τ).loc Cert.Reference3Ideal.main_v30) = v7 c
          ∧ r.2.mem ((c.tc : Thread Cert.Reference3Ideal.nD Cert.Reference3Ideal.τ).loc Cert.Reference3Ideal.main_v32) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v76_0)) (v1 : (c : Dev Cert.Kernel4Ideal.nD) → Buf (Elt Ideal) ((c.tc : Thread Cert.Kernel4Ideal.nD Cert.Kernel4Ideal.τ).loc Cert.Kernel4Ideal.main_v76_1)) (v2 : (c : Dev Cert.Kernel4Ideal.nD) → Buf (Elt Ideal) ((c.tc : Thread Cert.Kernel4Ideal.nD Cert.Kernel4Ideal.τ).loc Cert.Kernel4Ideal.main_v76_2)) (v3 : (c : Dev Cert.Kernel4Ideal.nD) → Buf (Elt Ideal) ((c.tc : Thread Cert.Kernel4Ideal.nD Cert.Kernel4Ideal.τ).loc Cert.Kernel4Ideal.main_v76_3)) (v4 : (c : Dev Cert.Kernel4Ideal.nD) → Buf (Elt Ideal) ((c.tc : Thread Cert.Kernel4Ideal.nD Cert.Kernel4Ideal.τ).loc Cert.Kernel4Ideal.main_v76_4)) (v5 : (c : Dev Cert.Kernel4Ideal.nD) → Buf (Elt Ideal) ((c.tc : Thread Cert.Kernel4Ideal.nD Cert.Kernel4Ideal.τ).loc Cert.Kernel4Ideal.main_v76_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v76_0) = v0 c
          ∧ r.2.mem ((c.tc : Thread Cert.Kernel4Ideal.nD Cert.Kernel4Ideal.τ).loc Cert.Kernel4Ideal.main_v76_1) = v1 c
          ∧ r.2.mem ((c.tc : Thread Cert.Kernel4Ideal.nD Cert.Kernel4Ideal.τ).loc Cert.Kernel4Ideal.main_v76_2) = v2 c
          ∧ r.2.mem ((c.tc : Thread Cert.Kernel4Ideal.nD Cert.Kernel4Ideal.τ).loc Cert.Kernel4Ideal.main_v76_3) = v3 c
          ∧ r.2.mem ((c.tc : Thread Cert.Kernel4Ideal.nD Cert.Kernel4Ideal.τ).loc Cert.Kernel4Ideal.main_v76_4) = v4 c
          ∧ r.2.mem ((c.tc : Thread Cert.Kernel4Ideal.nD Cert.Kernel4Ideal.τ).loc Cert.Kernel4Ideal.main_v76_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v151) = v1 c
          ∧ r.2.mem ((c.tc : Thread Cert.Reference4Ideal.nD Cert.Reference4Ideal.τ).loc Cert.Reference4Ideal.main_v154) = v2 c
          ∧ r.2.mem ((c.tc : Thread Cert.Reference4Ideal.nD Cert.Reference4Ideal.τ).loc Cert.Reference4Ideal.main_v157) = v3 c
          ∧ r.2.mem ((c.tc : Thread Cert.Reference4Ideal.nD Cert.Reference4Ideal.τ).loc Cert.Reference4Ideal.main_v160) = v4 c
          ∧ r.2.mem ((c.tc : Thread Cert.Reference4Ideal.nD Cert.Reference4Ideal.τ).loc Cert.Reference4Ideal.main_v162) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_real_scores : Cert.Pre_real_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_real_scores (hKernel2Ideal := hKernel2Ideal) (hPre_real_scores := hPre_real_scores)
    ∧ quiescent_Reference2Ideal (hReference2Ideal := hReference2Ideal)
    ∧ quiescent_Reference2Ideal_pre_real_scores (hReference2Ideal := hReference2Ideal) (hPre_real_scores := hPre_real_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_real_scores (hKernel2Ideal := hKernel2Ideal) (hReference2Ideal := hReference2Ideal) (hPre_real_scores := hPre_real_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_real_scores.lean ====
abbrev S16x2048x16x96 : Shape := ⟨4, ![16, 2048, 16, 96]⟩
abbrev S16x2048x16x64 : Shape := ⟨4, ![16, 2048, 16, 64]⟩
abbrev S16x2048x32 : Shape := ⟨3, ![16, 2048, 32]⟩
abbrev S_ : Shape := ⟨0, ![]⟩

class Facts : Prop where
  bcast_S_S16x2048x16x96 : S_.BroadcastsInDim S16x2048x16x96 (![] : Fin 0 → Fin S16x2048x16x96.rank)
  reducesTo_S16x2048x16x96_S_d0_1_2_3 : S16x2048x16x96.ReducesTo [0, 1, 2, 3] S_
  h_S_ : 0 < S_.numel
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_
  bcast_S_S16x2048x32 : S_.BroadcastsInDim S16x2048x32 (![] : Fin 0 → Fin S16x2048x32.rank)
  reducesTo_S16x2048x32_S_d0_1_2 : S16x2048x32.ReducesTo [0, 1, 2] S_

variable [Facts]

def fn_part1 {F : FTy → Type} [FloatOps F] (main_arg2 : FVec F S16x2048x32 .f32) (main_v12 : IVec S_ 1) (main_v14 : IVec S16x2048x32 1) (main_v15 : FVec F S16x2048x32 .f32) : IVec S_ 1 :=
  let main_v16 : IVec S16x2048x32 1 := cmpf .olt main_arg2 main_v15
  let main_v17 : IVec S16x2048x32 1 := andi main_v14 main_v16
  let main_c_6 : IVec S_ 1 := constantI S_ 1 1#1
  let main_v18 : IVec S_ 1 := (fun x v => Host.reduce IntOp.andi x v reducesTo_S16x2048x32_S_d0_1_2 h_S_) main_v17 main_c_6
  let main_v19 : IVec S_ 1 := andi main_v12 main_v18
  main_v19

def fn {F : FTy → Type} [FloatOps F] (main_arg0 : FVec F S16x2048x16x96 .f32) (main_arg1 : FVec F S16x2048x16x64 .f32) (main_arg2 : FVec F S16x2048x32 .f32) (main_arg3 : FVec F S16x2048x16x64 .f32) : IVec S_ 1 :=
  let main_cst : FVec F S_ .f32 := constant S_ .f32 0xFF800000#32
  let main_v0 : FVec F S16x2048x16x96 .f32 := broadcastInDim S16x2048x16x96 ![] bcast_S_S16x2048x16x96 main_cst
  let main_v1 : IVec S16x2048x16x96 1 := cmpf .ogt main_arg0 main_v0
  let main_cst_0 : FVec F S_ .f32 := constant S_ .f32 0x7F800000#32
  let main_v2 : FVec F S16x2048x16x96 .f32 := broadcastInDim S16x2048x16x96 ![] bcast_S_S16x2048x16x96 main_cst_0
  let main_v3 : IVec S16x2048x16x96 1 := cmpf .olt main_arg0 main_v2
  let main_v4 : IVec S16x2048x16x96 1 := andi main_v1 main_v3
  let main_c : IVec S_ 1 := constantI S_ 1 1#1
  let main_v5 : IVec S_ 1 := (fun x v => Host.reduce IntOp.andi x v reducesTo_S16x2048x16x96_S_d0_1_2_3 h_S_) main_v4 main_c
  let main_cst_1 : FVec F S_ .f32 := constant S_ .f32 0xFF800000#32
  let main_v6 : FVec F S16x2048x16x64 .f32 := broadcastInDim S16x2048x16x64 ![] bcast_S_S16x2048x16x64 main_cst_1
  let main_v7 : IVec S16x2048x16x64 1 := cmpf .ogt main_arg1 main_v6
  let main_cst_2 : FVec F S_ .f32 := constant S_ .f32 0x7F800000#32
  let main_v8 : FVec F S16x2048x16x64 .f32 := broadcastInDim S16x2048x16x64 ![] bcast_S_S16x2048x16x64 main_cst_2
  let main_v9 : IVec S16x2048x16x64 1 := cmpf .olt main_arg1 main_v8
  let main_v10 : IVec S16x2048x16x64 1 := andi main_v7 main_v9
  let main_c_3 : IVec S_ 1 := constantI S_ 1 1#1
  let main_v11 : IVec S_ 1 := (fun x v => Host.reduce IntOp.andi x v reducesTo_S16x2048x16x64_S_d0_1_2_3 h_S_) main_v10 main_c_3
  let main_v12 : IVec S_ 1 := andi main_v5 main_v11
  let main_cst_4 : FVec F S_ .f32 := constant S_ .f32 0xFF800000#32
  let main_v13 : FVec F S16x2048x32 .f32 := broadcastInDim S16x2048x32 ![] bcast_S_S16x2048x32 main_cst_4
  let main_v14 : IVec S16x2048x32 1 := cmpf .ogt main_arg2 main_v13
  let main_cst_5 : FVec F S_ .f32 := constant S_ .f32 0x7F800000#32
  let main_v15 : FVec F S16x2048x32 .f32 := broadcastInDim S16x2048x32 ![] bcast_S_S16x2048x32 main_cst_5
  fn_part1 (F := F) main_arg2 main_v12 main_v14 main_v15
-- ==== Kernel.lean ====
abbrev S32768x1024 : Shape := ⟨2, ![32768, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S3x512x1024 : Shape := ⟨3, ![3, 512, 1024]⟩
abbrev S3 : Shape := ⟨1, ![3]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S32768x1024, .f32⟩
  | .local _ .vmem, ⟨0, _⟩ => ⟨S1024x1024, .bf16⟩
  | .local _ .vmem, ⟨1, _⟩ => ⟨S1x1024, .f32⟩
  | .local _ .vmem, ⟨2, _⟩ => ⟨S1x1024, .f32⟩
  | .local _ .vmem, ⟨3, _⟩ => ⟨S3x512x1024, .bf16⟩
  | .local _ .vmem, ⟨4, _⟩ => ⟨S3x512x1024, .bf16⟩
  | .local _ .vmem, ⟨5, _⟩ => ⟨S3x512x1024, .f32⟩
  | .local _ .vmem, ⟨6, _⟩ => ⟨S2x512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scoped0 : Ref sig .tc := ⟨.vmem, 3, rfl⟩
abbrev cc0_scoped2 : Ref sig .tc := ⟨.vmem, 4, rfl⟩
abbrev cc0_scoped4 : Ref sig .tc := ⟨.vmem, 5, rfl⟩
abbrev cc0_scoped6 : Ref sig .tc := ⟨.vmem, 6, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 : Fin 1 → Nat :=
  let c0_i32_19_r0 : BitVec 32 := 0#32
  let c3_i32_r0 : BitVec 32 := 3#32
  let v22_r0 : BitVec 32 := Scalar.remui c0_i32_19_r0 c3_i32_r0
  ![v22_r0.toNat]
def k0_off2 : Fin 3 → Nat :=
  let c0_i32_19_r0 : BitVec 32 := 0#32
  let c3_i32_r0 : BitVec 32 := 3#32
  let v22_r0 : BitVec 32 := Scalar.remui c0_i32_19_r0 c3_i32_r0
  let c0_i32_20_r0 : BitVec 32 := 0#32
  let c0_i32_21_r0 : BitVec 32 := 0#32
  ![v22_r0.toNat, 0, 0]
def k0_cond1 : BitVec 1 :=
  let true_43_r0 : BitVec 1 := 1#1
  let true_5_r0 : BitVec 1 := 1#1
  let c1_i32_r0 : BitVec 32 := 1#32
  let c0_i32_6_r0 : BitVec 32 := 0#32
  let v8_r0 : BitVec 32 := Scalar.select true_5_r0 c1_i32_r0 c0_i32_6_r0
  let c64_i32_r0 : BitVec 32 := 64#32
  let v9_r0 : BitVec 1 := Scalar.cmpi .eq v8_r0 c64_i32_r0
  let c0_i32_7_r0 : BitVec 32 := 0#32
  let v10_r0 : BitVec 32 := Scalar.select v9_r0 c0_i32_7_r0 v8_r0
  let c0_i32_8_r0 : BitVec 32 := 0#32
  let v11_r0 : BitVec 32 := Scalar.addi v10_r0 c0_i32_8_r0
  let c0_i32_42_r0 : BitVec 32 := 0#32
  let v43_r0 : BitVec 1 := Scalar.cmpi .ne v11_r0 c0_i32_42_r0
  let v44_r0 : BitVec 1 := Scalar.andi true_43_r0 v43_r0
  let true_44_r0 : BitVec 1 := 1#1
  let v45_r0 : BitVec 1 := Scalar.andi v44_r0 true_44_r0
  let v46_r0 : BitVec 32 := Scalar.extui v45_r0
  let c0_i32_45_r0 : BitVec 32 := 0#32
  let v47_r0 : BitVec 1 := Scalar.cmpi .ne v46_r0 c0_i32_45_r0
  v47_r0

def k0_off3 : Fin 1 → Nat :=
  let c0_i32_24_r0 : BitVec 32 := 0#32
  let c1_i32_25_r0 : BitVec 32 := 1#32
  let v28_r0 : BitVec 32 := Scalar.addi c0_i32_24_r0 c1_i32_25_r0
  let c3_i32_95_r0 : BitVec 32 := 3#32
  let v98_r0 : BitVec 32 := Scalar.remui v28_r0 c3_i32_95_r0
  ![v98_r0.toNat]
def k0_off4 : Fin 3 → Nat :=
  let c0_i32_24_r0 : BitVec 32 := 0#32
  let c1_i32_25_r0 : BitVec 32 := 1#32
  let v28_r0 : BitVec 32 := Scalar.addi c0_i32_24_r0 c1_i32_25_r0
  let c3_i32_95_r0 : BitVec 32 := 3#32
  let v98_r0 : BitVec 32 := Scalar.remui v28_r0 c3_i32_95_r0
  let c0_i32_97_r0 : BitVec 32 := 0#32
  let c0_i32_98_r0 : BitVec 32 := 0#32
  ![v98_r0.toNat, 0, 0]
def k0_off5 : Fin 2 → Nat :=
  let c512_i32_96_r0 : BitVec 32 := 512#32
  let true_5_r0 : BitVec 1 := 1#1
  let c1_i32_r0 : BitVec 32 := 1#32
  let c0_i32_6_r0 : BitVec 32 := 0#32
  let v8_r0 : BitVec 32 := Scalar.select true_5_r0 c1_i32_r0 c0_i32_6_r0
  let c64_i32_r0 : BitVec 32 := 64#32
  let v9_r0 : BitVec 1 := Scalar.cmpi .eq v8_r0 c64_i32_r0
  let c0_i32_7_r0 : BitVec 32 := 0#32
  let v10_r0 : BitVec 32 := Scalar.select v9_r0 c0_i32_7_r0 v8_r0
  let c0_i32_8_r0 : BitVec 32 := 0#32
  let v11_r0 : BitVec 32 := Scalar.addi v10_r0 c0_i32_8_r0
  let v99_r0 : BitVec 32 := Scalar.muli c512_i32_96_r0 v11_r0
  let c0_i32_99_r0 : BitVec 32 := 0#32
  ![v99_r0.toNat, 0]
def k0_cond2 : BitVec 1 :=
  let true_48_r0 : BitVec 1 := 1#1
  let true_5_r0 : BitVec 1 := 1#1
  let c1_i32_r0 : BitVec 32 := 1#32
  let c0_i32_6_r0 : BitVec 32 := 0#32
  let v8_r0 : BitVec 32 := Scalar.select true_5_r0 c1_i32_r0 c0_i32_6_r0
  let c64_i32_r0 : BitVec 32 := 64#32
  let v9_r0 : BitVec 1 := Scalar.cmpi .eq v8_r0 c64_i32_r0
  let c0_i32_7_r0 : BitVec 32 := 0#32
  let v10_r0 : BitVec 32 := Scalar.select v9_r0 c0_i32_7_r0 v8_r0
  let c0_i32_8_r0 : BitVec 32 := 0#32
  let v11_r0 : BitVec 32 := Scalar.addi v10_r0 c0_i32_8_r0
  let c0_i32_47_r0 : BitVec 32 := 0#32
  let v50_r0 : BitVec 1 := Scalar.cmpi .ne v11_r0 c0_i32_47_r0
  let v51_r0 : BitVec 1 := Scalar.andi true_48_r0 v50_r0
  let true_49_r0 : BitVec 1 := 1#1
  let v52_r0 : BitVec 1 := Scalar.andi v51_r0 true_49_r0
  let v53_r0 : BitVec 32 := Scalar.extui v52_r0
  let c0_i32_50_r0 : BitVec 32 := 0#32
  let v54_r0 : BitVec 1 := Scalar.cmpi .ne v53_r0 c0_i32_50_r0
  v54_r0

def k0_off6 : Fin 1 → Nat :=
  let c0_i32_32_r0 : BitVec 32 := 0#32
  let c1_i32_33_r0 : BitVec 32 := 1#32
  let v35_r0 : BitVec 32 := Scalar.addi c0_i32_32_r0 c1_i32_33_r0
  let c3_i32_95_r0 : BitVec 32 := 3#32
  let v98_r0 : BitVec 32 := Scalar.remui v35_r0 c3_i32_95_r0
  ![v98_r0.toNat]
def k0_off7 : Fin 3 → Nat :=
  let c0_i32_32_r0 : BitVec 32 := 0#32
  let c1_i32_33_r0 : BitVec 32 := 1#32
  let v35_r0 : BitVec 32 := Scalar.addi c0_i32_32_r0 c1_i32_33_r0
  let c3_i32_95_r0 : BitVec 32 := 3#32
  let v98_r0 : BitVec 32 := Scalar.remui v35_r0 c3_i32_95_r0
  let c0_i32_97_r0 : BitVec 32 := 0#32
  let c0_i32_98_r0 : BitVec 32 := 0#32
  ![v98_r0.toNat, 0, 0]
def k0_off8 : Fin 2 → Nat :=
  let c512_i32_96_r0 : BitVec 32 := 512#32
  let true_5_r0 : BitVec 1 := 1#1
  let c1_i32_r0 : BitVec 32 := 1#32
  let c0_i32_6_r0 : BitVec 32 := 0#32
  let v8_r0 : BitVec 32 := Scalar.select true_5_r0 c1_i32_r0 c0_i32_6_r0
  let c64_i32_r0 : BitVec 32 := 64#32
  let v9_r0 : BitVec 1 := Scalar.cmpi .eq v8_r0 c64_i32_r0
  let c0_i32_7_r0 : BitVec 32 := 0#32
  let v10_r0 : BitVec 32 := Scalar.select v9_r0 c0_i32_7_r0 v8_r0
  let c0_i32_8_r0 : BitVec 32 := 0#32
  let v11_r0 : BitVec 32 := Scalar.addi v10_r0 c0_i32_8_r0
  let v99_r0 : BitVec 32 := Scalar.muli c512_i32_96_r0 v11_r0
  let c0_i32_99_r0 : BitVec 32 := 0#32
  ![v99_r0.toNat, 0]
def k0_cond3 : BitVec 1 :=
  let true_53_r0 : BitVec 1 := 1#1
  let true_5_r0 : BitVec 1 := 1#1
  let c1_i32_r0 : BitVec 32 := 1#32
  let c0_i32_6_r0 : BitVec 32 := 0#32
  let v8_r0 : BitVec 32 := Scalar.select true_5_r0 c1_i32_r0 c0_i32_6_r0
  let c64_i32_r0 : BitVec 32 := 64#32
  let v9_r0 : BitVec 1 := Scalar.cmpi .eq v8_r0 c64_i32_r0
  let c0_i32_7_r0 : BitVec 32 := 0#32
  let v10_r0 : BitVec 32 := Scalar.select v9_r0 c0_i32_7_r0 v8_r0
  let c0_i32_8_r0 : BitVec 32 := 0#32
  let v11_r0 : BitVec 32 := Scalar.addi v10_r0 c0_i32_8_r0
  let c0_i32_52_r0 : BitVec 32 := 0#32
  let v57_r0 : BitVec 1 := Scalar.cmpi .ne v11_r0 c0_i32_52_r0
  let v58_r0 : BitVec 1 := Scalar.andi true_53_r0 v57_r0
  let true_54_r0 : BitVec 1 := 1#1
  let v59_r0 : BitVec 1 := Scalar.andi v58_r0 true_54_r0
  let v60_r0 : BitVec 32 := Scalar.extui v59_r0
  let c0_i32_55_r0 : BitVec 32 := 0#32
  let v61_r0 : BitVec 1 := Scalar.cmpi .ne v60_r0 c0_i32_55_r0
  v61_r0

def k0_off9 : Fin 1 → Nat :=
  let c0_i32_40_r0 : BitVec 32 := 0#32
  let c1_i32_41_r0 : BitVec 32 := 1#32
  let v42_r0 : BitVec 32 := Scalar.addi c0_i32_40_r0 c1_i32_41_r0
  let c3_i32_95_r0 : BitVec 32 := 3#32
  let v98_r0 : BitVec 32 := Scalar.remui v42_r0 c3_i32_95_r0
  ![v98_r0.toNat]
def k0_off10 : Fin 3 → Nat :=
  let c0_i32_40_r0 : BitVec 32 := 0#32
  let c1_i32_41_r0 : BitVec 32 := 1#32
  let v42_r0 : BitVec 32 := Scalar.addi c0_i32_40_r0 c1_i32_41_r0
  let c3_i32_95_r0 : BitVec 32 := 3#32
  let v98_r0 : BitVec 32 := Scalar.remui v42_r0 c3_i32_95_r0
  let c0_i32_97_r0 : BitVec 32 := 0#32
  let c0_i32_98_r0 : BitVec 32 := 0#32
  ![v98_r0.toNat, 0, 0]
def k0_off11 : Fin 2 → Nat :=
  let c512_i32_96_r0 : BitVec 32 := 512#32
  let true_5_r0 : BitVec 1 := 1#1
  let c1_i32_r0 : BitVec 32 := 1#32
  let c0_i32_6_r0 : BitVec 32 := 0#32
  let v8_r0 : BitVec 32 := Scalar.select true_5_r0 c1_i32_r0 c0_i32_6_r0
  let c64_i32_r0 : BitVec 32 := 64#32
  let v9_r0 : BitVec 1 := Scalar.cmpi .eq v8_r0 c64_i32_r0
  let c0_i32_7_r0 : BitVec 32 := 0#32
  let v10_r0 : BitVec 32 := Scalar.select v9_r0 c0_i32_7_r0 v8_r0
  let c0_i32_8_r0 : BitVec 32 := 0#32
  let v11_r0 : BitVec 32 := Scalar.addi v10_r0 c0_i32_8_r0
  let v99_r0 : BitVec 32 := Scalar.muli c512_i32_96_r0 v11_r0
  let c0_i32_99_r0 : BitVec 32 := 0#32
  ![v99_r0.toNat, 0]
@[reducible] def k0_t1_loop : Scf.Loop 32 :=
  let c0_i32_63_r0 : BitVec 32 := 0#32
  let c64_i32_64_r0 : BitVec 32 := 64#32
  let v64_r0 : BitVec 32 := Scalar.addi c0_i32_63_r0 c64_i32_64_r0
  let c1_i32_65_r0 : BitVec 32 := 1#32
  ⟨c0_i32_63_r0, v64_r0, c1_i32_65_r0⟩
def k0_off12 (arg8_r0 : BitVec 32) : Fin 1 → Nat :=
  let c3_i32_232_r0 : BitVec 32 := 3#32
  let v339_r0 : BitVec 32 := Scalar.remui arg8_r0 c3_i32_232_r0
  ![v339_r0.toNat]
def k0_cond4 (k0_t1 : Fin k0_t1_loop.trips) (arg16_r0 : BitVec 32) : BitVec 1 :=
  let true_104_r0 : BitVec 1 := 1#1
  let c1_i32_103_r0 : BitVec 32 := 1#32
  let v106_r0 : BitVec 32 := Scalar.addi arg16_r0 c1_i32_103_r0
  let v107_r0 : BitVec 32 := Scalar.select true_104_r0 v106_r0 arg16_r0
  let c64_i32_105_r0 : BitVec 32 := 64#32
  let v108_r0 : BitVec 1 := Scalar.cmpi .eq v107_r0 c64_i32_105_r0
  let c0_i32_106_r0 : BitVec 32 := 0#32
  let v109_r0 : BitVec 32 := Scalar.select v108_r0 c0_i32_106_r0 v107_r0
  let c0_i32_107_r0 : BitVec 32 := 0#32
  let v110_r0 : BitVec 32 := Scalar.addi v109_r0 c0_i32_107_r0
  let true_109_r0 : BitVec 1 := 1#1
  let c1_i32_108_r0 : BitVec 32 := 1#32
  let v111_r0 : BitVec 32 := Scalar.addi v109_r0 c1_i32_108_r0
  let v112_r0 : BitVec 32 := Scalar.select true_109_r0 v111_r0 v109_r0
  let c64_i32_110_r0 : BitVec 32 := 64#32
  let v113_r0 : BitVec 1 := Scalar.cmpi .eq v112_r0 c64_i32_110_r0
  let c0_i32_111_r0 : BitVec 32 := 0#32
  let v114_r0 : BitVec 32 := Scalar.select v113_r0 c0_i32_111_r0 v112_r0
  let c0_i32_112_r0 : BitVec 32 := 0#32
  let v115_r0 : BitVec 32 := Scalar.addi v114_r0 c0_i32_112_r0
  let v121_r0 : BitVec 1 := Scalar.cmpi .ne v110_r0 v115_r0
  let c0_i32_63_r0 : BitVec 32 := 0#32
  let c1_i32_65_r0 : BitVec 32 := 1#32
  let arg7_r0 : BitVec 32 := Scf.iv c0_i32_63_r0 c1_i32_65_r0 k0_t1
  let c62_i32_r0 : BitVec 32 := 62#32
  let v122_r0 : BitVec 1 := Scalar.cmpi .sge arg7_r0 c62_i32_r0
  let true_118_r0 : BitVec 1 := 1#1
  let v123_r0 : BitVec 1 := Scalar.xori v122_r0 true_118_r0
  let v124_r0 : BitVec 1 := Scalar.andi v121_r0 v123_r0
  let true_119_r0 : BitVec 1 := 1#1
  let v125_r0 : BitVec 1 := Scalar.andi v124_r0 true_119_r0
  let v126_r0 : BitVec 32 := Scalar.extui v125_r0
  let c0_i32_120_r0 : BitVec 32 := 0#32
  let v127_r0 : BitVec 1 := Scalar.cmpi .ne v126_r0 c0_i32_120_r0
  v127_r0

def k0_off13 (arg8_r0 : BitVec 32) : Fin 3 → Nat :=
  let c3_i32_232_r0 : BitVec 32 := 3#32
  let v339_r0 : BitVec 32 := Scalar.remui arg8_r0 c3_i32_232_r0
  let c0_i32_234_r0 : BitVec 32 := 0#32
  let c0_i32_235_r0 : BitVec 32 := 0#32
  ![v339_r0.toNat, 0, 0]
def k0_off14 (arg16_r0 : BitVec 32) : Fin 2 → Nat :=
  let c512_i32_233_r0 : BitVec 32 := 512#32
  let true_109_r0 : BitVec 1 := 1#1
  let true_104_r0 : BitVec 1 := 1#1
  let c1_i32_103_r0 : BitVec 32 := 1#32
  let v106_r0 : BitVec 32 := Scalar.addi arg16_r0 c1_i32_103_r0
  let v107_r0 : BitVec 32 := Scalar.select true_104_r0 v106_r0 arg16_r0
  let c64_i32_105_r0 : BitVec 32 := 64#32
  let v108_r0 : BitVec 1 := Scalar.cmpi .eq v107_r0 c64_i32_105_r0
  let c0_i32_106_r0 : BitVec 32 := 0#32
  let v109_r0 : BitVec 32 := Scalar.select v108_r0 c0_i32_106_r0 v107_r0
  let c1_i32_108_r0 : BitVec 32 := 1#32
  let v111_r0 : BitVec 32 := Scalar.addi v109_r0 c1_i32_108_r0
  let v112_r0 : BitVec 32 := Scalar.select true_109_r0 v111_r0 v109_r0
  let c64_i32_110_r0 : BitVec 32 := 64#32
  let v113_r0 : BitVec 1 := Scalar.cmpi .eq v112_r0 c64_i32_110_r0
  let c0_i32_111_r0 : BitVec 32 := 0#32
  let v114_r0 : BitVec 32 := Scalar.select v113_r0 c0_i32_111_r0 v112_r0
  let c0_i32_112_r0 : BitVec 32 := 0#32
  let v115_r0 : BitVec 32 := Scalar.addi v114_r0 c0_i32_112_r0
  let v340_r0 : BitVec 32 := Scalar.muli c512_i32_233_r0 v115_r0
  let c0_i32_236_r0 : BitVec 32 := 0#32
  ![v340_r0.toNat, 0]
def k0_off15 (arg10_r0 : BitVec 32) : Fin 1 → Nat :=
  let c3_i32_232_r0 : BitVec 32 := 3#32
  let v339_r0 : BitVec 32 := Scalar.remui arg10_r0 c3_i32_232_r0
  ![v339_r0.toNat]
def k0_cond5 (k0_t1 : Fin k0_t1_loop.trips) (arg16_r0 : BitVec 32) : BitVec 1 :=
  let true_104_r0 : BitVec 1 := 1#1
  let c1_i32_103_r0 : BitVec 32 := 1#32
  let v106_r0 : BitVec 32 := Scalar.addi arg16_r0 c1_i32_103_r0
  let v107_r0 : BitVec 32 := Scalar.select true_104_r0 v106_r0 arg16_r0
  let c64_i32_105_r0 : BitVec 32 := 64#32
  let v108_r0 : BitVec 1 := Scalar.cmpi .eq v107_r0 c64_i32_105_r0
  let c0_i32_106_r0 : BitVec 32 := 0#32
  let v109_r0 : BitVec 32 := Scalar.select v108_r0 c0_i32_106_r0 v107_r0
  let c0_i32_107_r0 : BitVec 32 := 0#32
  let v110_r0 : BitVec 32 := Scalar.addi v109_r0 c0_i32_107_r0
  let true_109_r0 : BitVec 1 := 1#1
  let c1_i32_108_r0 : BitVec 32 := 1#32
  let v111_r0 : BitVec 32 := Scalar.addi v109_r0 c1_i32_108_r0
  let v112_r0 : BitVec 32 := Scalar.select true_109_r0 v111_r0 v109_r0
  let c64_i32_110_r0 : BitVec 32 := 64#32
  let v113_r0 : BitVec 1 := Scalar.cmpi .eq v112_r0 c64_i32_110_r0
  let c0_i32_111_r0 : BitVec 32 := 0#32
  let v114_r0 : BitVec 32 := Scalar.select v113_r0 c0_i32_111_r0 v112_r0
  let c0_i32_112_r0 : BitVec 32 := 0#32
  let v115_r0 : BitVec 32 := Scalar.addi v114_r0 c0_i32_112_r0
  let v131_r0 : BitVec 1 := Scalar.cmpi .ne v110_r0 v115_r0
  let c0_i32_63_r0 : BitVec 32 := 0#32
  let c1_i32_65_r0 : BitVec 32 := 1#32
  let arg7_r0 : BitVec 32 := Scf.iv c0_i32_63_r0 c1_i32_65_r0 k0_t1
  let c62_i32_123_r0 : BitVec 32 := 62#32
  let v132_r0 : BitVec 1 := Scalar.cmpi .sge arg7_r0 c62_i32_123_r0
  let true_124_r0 : BitVec 1 := 1#1
  let v133_r0 : BitVec 1 := Scalar.xori v132_r0 true_124_r0
  let v134_r0 : BitVec 1 := Scalar.andi v131_r0 v133_r0
  let true_125_r0 : BitVec 1 := 1#1
  let v135_r0 : BitVec 1 := Scalar.andi v134_r0 true_125_r0
  let v136_r0 : BitVec 32 := Scalar.extui v135_r0
  let c0_i32_126_r0 : BitVec 32 := 0#32
  let v137_r0 : BitVec 1 := Scalar.cmpi .ne v136_r0 c0_i32_126_r0
  v137_r0

def k0_off16 (arg10_r0 : BitVec 32) : Fin 3 → Nat :=
  let c3_i32_232_r0 : BitVec 32 := 3#32
  let v339_r0 : BitVec 32 := Scalar.remui arg10_r0 c3_i32_232_r0
  let c0_i32_234_r0 : BitVec 32 := 0#32
  let c0_i32_235_r0 : BitVec 32 := 0#32
  ![v339_r0.toNat, 0, 0]
def k0_off17 (arg16_r0 : BitVec 32) : Fin 2 → Nat :=
  let c512_i32_233_r0 : BitVec 32 := 512#32
  let true_109_r0 : BitVec 1 := 1#1
  let true_104_r0 : BitVec 1 := 1#1
  let c1_i32_103_r0 : BitVec 32 := 1#32
  let v106_r0 : BitVec 32 := Scalar.addi arg16_r0 c1_i32_103_r0
  let v107_r0 : BitVec 32 := Scalar.select true_104_r0 v106_r0 arg16_r0
  let c64_i32_105_r0 : BitVec 32 := 64#32
  let v108_r0 : BitVec 1 := Scalar.cmpi .eq v107_r0 c64_i32_105_r0
  let c0_i32_106_r0 : BitVec 32 := 0#32
  let v109_r0 : BitVec 32 := Scalar.select v108_r0 c0_i32_106_r0 v107_r0
  let c1_i32_108_r0 : BitVec 32 := 1#32
  let v111_r0 : BitVec 32 := Scalar.addi v109_r0 c1_i32_108_r0
  let v112_r0 : BitVec 32 := Scalar.select true_109_r0 v111_r0 v109_r0
  let c64_i32_110_r0 : BitVec 32 := 64#32
  let v113_r0 : BitVec 1 := Scalar.cmpi .eq v112_r0 c64_i32_110_r0
  let c0_i32_111_r0 : BitVec 32 := 0#32
  let v114_r0 : BitVec 32 := Scalar.select v113_r0 c0_i32_111_r0 v112_r0
  let c0_i32_112_r0 : BitVec 32 := 0#32
  let v115_r0 : BitVec 32 := Scalar.addi v114_r0 c0_i32_112_r0
  let v340_r0 : BitVec 32 := Scalar.muli c512_i32_233_r0 v115_r0
  let c0_i32_236_r0 : BitVec 32 := 0#32
  ![v340_r0.toNat, 0]
def k0_off18 (arg12_r0 : BitVec 32) : Fin 1 → Nat :=
  let c3_i32_232_r0 : BitVec 32 := 3#32
  let v339_r0 : BitVec 32 := Scalar.remui arg12_r0 c3_i32_232_r0
  ![v339_r0.toNat]
def k0_cond6 (k0_t1 : Fin k0_t1_loop.trips) (arg16_r0 : BitVec 32) : BitVec 1 :=
  let true_104_r0 : BitVec 1 := 1#1
  let c1_i32_103_r0 : BitVec 32 := 1#32
  let v106_r0 : BitVec 32 := Scalar.addi arg16_r0 c1_i32_103_r0
  let v107_r0 : BitVec 32 := Scalar.select true_104_r0 v106_r0 arg16_r0
  let c64_i32_105_r0 : BitVec 32 := 64#32
  let v108_r0 : BitVec 1 := Scalar.cmpi .eq v107_r0 c64_i32_105_r0
  let c0_i32_106_r0 : BitVec 32 := 0#32
  let v109_r0 : BitVec 32 := Scalar.select v108_r0 c0_i32_106_r0 v107_r0
  let c0_i32_107_r0 : BitVec 32 := 0#32
  let v110_r0 : BitVec 32 := Scalar.addi v109_r0 c0_i32_107_r0
  let true_109_r0 : BitVec 1 := 1#1
  let c1_i32_108_r0 : BitVec 32 := 1#32
  let v111_r0 : BitVec 32 := Scalar.addi v109_r0 c1_i32_108_r0
  let v112_r0 : BitVec 32 := Scalar.select true_109_r0 v111_r0 v109_r0
  let c64_i32_110_r0 : BitVec 32 := 64#32
  let v113_r0 : BitVec 1 := Scalar.cmpi .eq v112_r0 c64_i32_110_r0
  let c0_i32_111_r0 : BitVec 32 := 0#32
  let v114_r0 : BitVec 32 := Scalar.select v113_r0 c0_i32_111_r0 v112_r0
  let c0_i32_112_r0 : BitVec 32 := 0#32
  let v115_r0 : BitVec 32 := Scalar.addi v114_r0 c0_i32_112_r0
  let v141_r0 : BitVec 1 := Scalar.cmpi .ne v110_r0 v115_r0
  let c0_i32_63_r0 : BitVec 32 := 0#32
  let c1_i32_65_r0 : BitVec 32 := 1#32
  let arg7_r0 : BitVec 32 := Scf.iv c0_i32_63_r0 c1_i32_65_r0 k0_t1
  let c62_i32_129_r0 : BitVec 32 := 62#32
  let v142_r0 : BitVec 1 := Scalar.cmpi .sge arg7_r0 c62_i32_129_r0
  let true_130_r0 : BitVec 1 := 1#1
  let v143_r0 : BitVec 1 := Scalar.xori v142_r0 true_130_r0
  let v144_r0 : BitVec 1 := Scalar.andi v141_r0 v143_r0
  let true_131_r0 : BitVec 1 := 1#1
  let v145_r0 : BitVec 1 := Scalar.andi v144_r0 true_131_r0
  let v146_r0 : BitVec 32 := Scalar.extui v145_r0
  let c0_i32_132_r0 : BitVec 32 := 0#32
  let v147_r0 : BitVec 1 := Scalar.cmpi .ne v146_r0 c0_i32_132_r0
  v147_r0

def k0_off19 (arg12_r0 : BitVec 32) : Fin 3 → Nat :=
  let c3_i32_232_r0 : BitVec 32 := 3#32
  let v339_r0 : BitVec 32 := Scalar.remui arg12_r0 c3_i32_232_r0
  let c0_i32_234_r0 : BitVec 32 := 0#32
  let c0_i32_235_r0 : BitVec 32 := 0#32
  ![v339_r0.toNat, 0, 0]
def k0_off20 (arg16_r0 : BitVec 32) : Fin 2 → Nat :=
  let c512_i32_233_r0 : BitVec 32 := 512#32
  let true_109_r0 : BitVec 1 := 1#1
  let true_104_r0 : BitVec 1 := 1#1
  let c1_i32_103_r0 : BitVec 32 := 1#32
  let v106_r0 : BitVec 32 := Scalar.addi arg16_r0 c1_i32_103_r0
  let v107_r0 : BitVec 32 := Scalar.select true_104_r0 v106_r0 arg16_r0
  let c64_i32_105_r0 : BitVec 32 := 64#32
  let v108_r0 : BitVec 1 := Scalar.cmpi .eq v107_r0 c64_i32_105_r0
  let c0_i32_106_r0 : BitVec 32 := 0#32
  let v109_r0 : BitVec 32 := Scalar.select v108_r0 c0_i32_106_r0 v107_r0
  let c1_i32_108_r0 : BitVec 32 := 1#32
  let v111_r0 : BitVec 32 := Scalar.addi v109_r0 c1_i32_108_r0
  let v112_r0 : BitVec 32 := Scalar.select true_109_r0 v111_r0 v109_r0
  let c64_i32_110_r0 : BitVec 32 := 64#32
  let v113_r0 : BitVec 1 := Scalar.cmpi .eq v112_r0 c64_i32_110_r0
  let c0_i32_111_r0 : BitVec 32 := 0#32
  let v114_r0 : BitVec 32 := Scalar.select v113_r0 c0_i32_111_r0 v112_r0
  let c0_i32_112_r0 : BitVec 32 := 0#32
  let v115_r0 : BitVec 32 := Scalar.addi v114_r0 c0_i32_112_r0
  let v340_r0 : BitVec 32 := Scalar.muli c512_i32_233_r0 v115_r0
  let c0_i32_236_r0 : BitVec 32 := 0#32
  ![v340_r0.toNat, 0]
def k0_off21 (arg9_r0 : BitVec 32) : Fin 1 → Nat :=
  let c3_i32_233_r0 : BitVec 32 := 3#32
  let v340_r0 : BitVec 32 := Scalar.remui arg9_r0 c3_i32_233_r0
  ![v340_r0.toNat]
def k0_cond7 (k0_t1 : Fin k0_t1_loop.trips) (arg16_r0 : BitVec 32) : BitVec 1 :=
  let c0_i32_97_r0 : BitVec 32 := 0#32
  let v100_r0 : BitVec 32 := Scalar.addi arg16_r0 c0_i32_97_r0
  let true_99_r0 : BitVec 1 := 1#1
  let c1_i32_98_r0 : BitVec 32 := 1#32
  let v101_r0 : BitVec 32 := Scalar.subi arg16_r0 c1_i32_98_r0
  let v102_r0 : BitVec 32 := Scalar.select true_99_r0 v101_r0 arg16_r0
  let c_m1_i32_100_r0 : BitVec 32 := 4294967295#32
  let v103_r0 : BitVec 1 := Scalar.cmpi .eq v102_r0 c_m1_i32_100_r0
  let c63_i32_101_r0 : BitVec 32 := 63#32
  let v104_r0 : BitVec 32 := Scalar.select v103_r0 c63_i32_101_r0 v102_r0
  let c0_i32_102_r0 : BitVec 32 := 0#32
  let v105_r0 : BitVec 32 := Scalar.addi v104_r0 c0_i32_102_r0
  let v155_r0 : BitVec 1 := Scalar.cmpi .ne v100_r0 v105_r0
  let c0_i32_63_r0 : BitVec 32 := 0#32
  let c1_i32_65_r0 : BitVec 32 := 1#32
  let arg7_r0 : BitVec 32 := Scf.iv c0_i32_63_r0 c1_i32_65_r0 k0_t1
  let c0_i32_95_r0 : BitVec 32 := 0#32
  let v98_r0 : BitVec 1 := Scalar.cmpi .eq arg7_r0 c0_i32_95_r0
  let v156_r0 : BitVec 1 := Scalar.ori v155_r0 v98_r0
  let c0_i32_137_r0 : BitVec 32 := 0#32
  let v157_r0 : BitVec 1 := Scalar.cmpi .sge arg7_r0 c0_i32_137_r0
  let v158_r0 : BitVec 1 := Scalar.andi v156_r0 v157_r0
  let v159_r0 : BitVec 32 := Scalar.extui v158_r0
  let c0_i32_138_r0 : BitVec 32 := 0#32
  let v160_r0 : BitVec 1 := Scalar.cmpi .ne v159_r0 c0_i32_138_r0
  v160_r0

def k0_off22 (arg9_r0 : BitVec 32) : Fin 3 → Nat :=
  let c3_i32_233_r0 : BitVec 32 := 3#32
  let v340_r0 : BitVec 32 := Scalar.remui arg9_r0 c3_i32_233_r0
  let c0_i32_234_r0 : BitVec 32 := 0#32
  let c0_i32_235_r0 : BitVec 32 := 0#32
  ![v340_r0.toNat, 0, 0]
def k0_off23 (arg16_r0 : BitVec 32) : Fin 2 → Nat :=
  let c512_i32_232_r0 : BitVec 32 := 512#32
  let c0_i32_97_r0 : BitVec 32 := 0#32
  let v100_r0 : BitVec 32 := Scalar.addi arg16_r0 c0_i32_97_r0
  let v339_r0 : BitVec 32 := Scalar.muli c512_i32_232_r0 v100_r0
  let c0_i32_236_r0 : BitVec 32 := 0#32
  ![v339_r0.toNat, 0]
def k0_off24 (arg11_r0 : BitVec 32) : Fin 1 → Nat :=
  let c3_i32_233_r0 : BitVec 32 := 3#32
  let v340_r0 : BitVec 32 := Scalar.remui arg11_r0 c3_i32_233_r0
  ![v340_r0.toNat]
def k0_cond8 (k0_t1 : Fin k0_t1_loop.trips) (arg16_r0 : BitVec 32) : BitVec 1 :=
  let c0_i32_97_r0 : BitVec 32 := 0#32
  let v100_r0 : BitVec 32 := Scalar.addi arg16_r0 c0_i32_97_r0
  let true_99_r0 : BitVec 1 := 1#1
  let c1_i32_98_r0 : BitVec 32 := 1#32
  let v101_r0 : BitVec 32 := Scalar.subi arg16_r0 c1_i32_98_r0
  let v102_r0 : BitVec 32 := Scalar.select true_99_r0 v101_r0 arg16_r0
  let c_m1_i32_100_r0 : BitVec 32 := 4294967295#32
  let v103_r0 : BitVec 1 := Scalar.cmpi .eq v102_r0 c_m1_i32_100_r0
  let c63_i32_101_r0 : BitVec 32 := 63#32
  let v104_r0 : BitVec 32 := Scalar.select v103_r0 c63_i32_101_r0 v102_r0
  let c0_i32_102_r0 : BitVec 32 := 0#32
  let v105_r0 : BitVec 32 := Scalar.addi v104_r0 c0_i32_102_r0
  let v161_r0 : BitVec 1 := Scalar.cmpi .ne v100_r0 v105_r0
  let c0_i32_63_r0 : BitVec 32 := 0#32
  let c1_i32_65_r0 : BitVec 32 := 1#32
  let arg7_r0 : BitVec 32 := Scf.iv c0_i32_63_r0 c1_i32_65_r0 k0_t1
  let c0_i32_95_r0 : BitVec 32 := 0#32
  let v98_r0 : BitVec 1 := Scalar.cmpi .eq arg7_r0 c0_i32_95_r0
  let v162_r0 : BitVec 1 := Scalar.ori v161_r0 v98_r0
  let c0_i32_139_r0 : BitVec 32 := 0#32
  let v163_r0 : BitVec 1 := Scalar.cmpi .sge arg7_r0 c0_i32_139_r0
  let v164_r0 : BitVec 1 := Scalar.andi v162_r0 v163_r0
  let v165_r0 : BitVec 32 := Scalar.extui v164_r0
  let c0_i32_140_r0 : BitVec 32 := 0#32
  let v166_r0 : BitVec 1 := Scalar.cmpi .ne v165_r0 c0_i32_140_r0
  v166_r0

def k0_off25 (arg11_r0 : BitVec 32) : Fin 3 → Nat :=
  let c3_i32_233_r0 : BitVec 32 := 3#32
  let v340_r0 : BitVec 32 := Scalar.remui arg11_r0 c3_i32_233_r0
  let c0_i32_234_r0 : BitVec 32 := 0#32
  let c0_i32_235_r0 : BitVec 32 := 0#32
  ![v340_r0.toNat, 0, 0]
def k0_off26 (arg16_r0 : BitVec 32) : Fin 2 → Nat :=
  let c512_i32_232_r0 : BitVec 32 := 512#32
  let c0_i32_97_r0 : BitVec 32 := 0#32
  let v100_r0 : BitVec 32 := Scalar.addi arg16_r0 c0_i32_97_r0
  let v339_r0 : BitVec 32 := Scalar.muli c512_i32_232_r0 v100_r0
  let c0_i32_236_r0 : BitVec 32 := 0#32
  ![v339_r0.toNat, 0]
def k0_off27 (arg13_r0 : BitVec 32) : Fin 1 → Nat :=
  let c3_i32_233_r0 : BitVec 32 := 3#32
  let v340_r0 : BitVec 32 := Scalar.remui arg13_r0 c3_i32_233_r0
  ![v340_r0.toNat]
def k0_cond9 (k0_t1 : Fin k0_t1_loop.trips) (arg16_r0 : BitVec 32) : BitVec 1 :=
  let c0_i32_97_r0 : BitVec 32 := 0#32
  let v100_r0 : BitVec 32 := Scalar.addi arg16_r0 c0_i32_97_r0
  let true_99_r0 : BitVec 1 := 1#1
  let c1_i32_98_r0 : BitVec 32 := 1#32
  let v101_r0 : BitVec 32 := Scalar.subi arg16_r0 c1_i32_98_r0
  let v102_r0 : BitVec 32 := Scalar.select true_99_r0 v101_r0 arg16_r0
  let c_m1_i32_100_r0 : BitVec 32 := 4294967295#32
  let v103_r0 : BitVec 1 := Scalar.cmpi .eq v102_r0 c_m1_i32_100_r0
  let c63_i32_101_r0 : BitVec 32 := 63#32
  let v104_r0 : BitVec 32 := Scalar.select v103_r0 c63_i32_101_r0 v102_r0
  let c0_i32_102_r0 : BitVec 32 := 0#32
  let v105_r0 : BitVec 32 := Scalar.addi v104_r0 c0_i32_102_r0
  let v167_r0 : BitVec 1 := Scalar.cmpi .ne v100_r0 v105_r0
  let c0_i32_63_r0 : BitVec 32 := 0#32
  let c1_i32_65_r0 : BitVec 32 := 1#32
  let arg7_r0 : BitVec 32 := Scf.iv c0_i32_63_r0 c1_i32_65_r0 k0_t1
  let c0_i32_95_r0 : BitVec 32 := 0#32
  let v98_r0 : BitVec 1 := Scalar.cmpi .eq arg7_r0 c0_i32_95_r0
  let v168_r0 : BitVec 1 := Scalar.ori v167_r0 v98_r0
  let c0_i32_141_r0 : BitVec 32 := 0#32
  let v169_r0 : BitVec 1 := Scalar.cmpi .sge arg7_r0 c0_i32_141_r0
  let v170_r0 : BitVec 1 := Scalar.andi v168_r0 v169_r0
  let v171_r0 : BitVec 32 := Scalar.extui v170_r0
  let c0_i32_142_r0 : BitVec 32 := 0#32
  let v172_r0 : BitVec 1 := Scalar.cmpi .ne v171_r0 c0_i32_142_r0
  v172_r0

def k0_off28 (arg13_r0 : BitVec 32) : Fin 3 → Nat :=
  let c3_i32_233_r0 : BitVec 32 := 3#32
  let v340_r0 : BitVec 32 := Scalar.remui arg13_r0 c3_i32_233_r0
  let c0_i32_234_r0 : BitVec 32 := 0#32
  let c0_i32_235_r0 : BitVec 32 := 0#32
  ![v340_r0.toNat, 0, 0]
def k0_off29 (arg16_r0 : BitVec 32) : Fin 2 → Nat :=
  let c512_i32_232_r0 : BitVec 32 := 512#32
  let c0_i32_97_r0 : BitVec 32 := 0#32
  let v100_r0 : BitVec 32 := Scalar.addi arg16_r0 c0_i32_97_r0
  let v339_r0 : BitVec 32 := Scalar.muli c512_i32_232_r0 v100_r0
  let c0_i32_236_r0 : BitVec 32 := 0#32
  ![v339_r0.toNat, 0]
def k0_off30 (arg9_r0 : BitVec 32) : Fin 3 → Nat :=
  let c3_i32_145_r0 : BitVec 32 := 3#32
  let v179_r0 : BitVec 32 := Scalar.remui arg9_r0 c3_i32_145_r0
  let c0_i32_149_r0 : BitVec 32 := 0#32
  let c0_i32_150_r0 : BitVec 32 := 0#32
  ![v179_r0.toNat, 0, 0]

def k0_chk2 (arg9_r0 : BitVec 32) : Prop :=
  (∀ a, (k0_off30 arg9_r0) a + S1x512x1024.size a ≤ S3x512x1024.size a)
theorem k0_off30_inb : ∀ (arg9_r0 : BitVec 32) (k0_hw2 : k0_chk2 arg9_r0), ∀ a, (k0_off30 arg9_r0) a + S1x512x1024.size a ≤ S3x512x1024.size a := fun arg9_r0 k0_hw2 => k0_hw2

def k0_off31 (arg11_r0 : BitVec 32) : Fin 3 → Nat :=
  let c3_i32_146_r0 : BitVec 32 := 3#32
  let v180_r0 : BitVec 32 := Scalar.remui arg11_r0 c3_i32_146_r0
  let c0_i32_152_r0 : BitVec 32 := 0#32
  let c0_i32_153_r0 : BitVec 32 := 0#32
  ![v180_r0.toNat, 0, 0]

def k0_chk3 (arg11_r0 : BitVec 32) : Prop :=
  (∀ a, (k0_off31 arg11_r0) a + S1x512x1024.size a ≤ S3x512x1024.size a)
theorem k0_off31_inb : ∀ (arg11_r0 : BitVec 32) (k0_hw3 : k0_chk3 arg11_r0), ∀ a, (k0_off31 arg11_r0) a + S1x512x1024.size a ≤ S3x512x1024.size a := fun arg11_r0 k0_hw3 => k0_hw3

def k0_off32 (arg13_r0 : BitVec 32) : Fin 3 → Nat :=
  let c3_i32_147_r0 : BitVec 32 := 3#32
  let v181_r0 : BitVec 32 := Scalar.remui arg13_r0 c3_i32_147_r0
  let c0_i32_168_r0 : BitVec 32 := 0#32
  let c0_i32_169_r0 : BitVec 32 := 0#32
  ![v181_r0.toNat, 0, 0]

def k0_off33 (arg14_r0 : BitVec 32) : Fin 3 → Nat :=
  let c2_i32_148_r0 : BitVec 32 := 2#32
  let v182_r0 : BitVec 32 := Scalar.remui arg14_r0 c2_i32_148_r0
  let c0_i32_182_r0 : BitVec 32 := 0#32
  let c0_i32_183_r0 : BitVec 32 := 0#32
  ![v182_r0.toNat, 0, 0]

def k0_chk5 (arg14_r0 : BitVec 32) : Prop :=
  (∀ a, (k0_off33 arg14_r0) a + S1x512x1024.size a ≤ S2x512x1024.size a)
theorem k0_off33_inb : ∀ (arg14_r0 : BitVec 32) (k0_hw5 : k0_chk5 arg14_r0), ∀ a, (k0_off33 arg14_r0) a + S1x512x1024.size a ≤ S2x512x1024.size a := fun arg14_r0 k0_hw5 => k0_hw5

def k0_off34 (arg13_r0 : BitVec 32) : Fin 3 → Nat :=
  let c3_i32_147_r0 : BitVec 32 := 3#32
  let v181_r0 : BitVec 32 := Scalar.remui arg13_r0 c3_i32_147_r0
  let c0_i32_186_r0 : BitVec 32 := 0#32
  let c0_i32_187_r0 : BitVec 32 := 0#32
  ![v181_r0.toNat, 0, 0]

def k0_chk4 (arg13_r0 : BitVec 32) : Prop :=
  (∀ a, (k0_off32 arg13_r0) a + S1x512x1024.size a ≤ S3x512x1024.size a) ∧
  (∀ a, (k0_off34 arg13_r0) a + S1x512x1024.size a ≤ S3x512x1024.size a)
theorem k0_off32_inb : ∀ (arg13_r0 : BitVec 32) (k0_hw4 : k0_chk4 arg13_r0), ∀ a, (k0_off32 arg13_r0) a + S1x512x1024.size a ≤ S3x512x1024.size a := fun arg13_r0 k0_hw4 => k0_hw4.1
theorem k0_off34_inb : ∀ (arg13_r0 : BitVec 32) (k0_hw4 : k0_chk4 arg13_r0), ∀ a, (k0_off34 arg13_r0) a + S1x512x1024.size a ≤ S3x512x1024.size a := fun arg13_r0 k0_hw4 => k0_hw4.2

def k0_off35 (arg14_r0 : BitVec 32) : Fin 1 → Nat :=
  let c2_i32_232_r0 : BitVec 32 := 2#32
  let v339_r0 : BitVec 32 := Scalar.remui arg14_r0 c2_i32_232_r0
  ![v339_r0.toNat]
def k0_cond14 (k0_t1 : Fin k0_t1_loop.trips) (arg16_r0 : BitVec 32) : BitVec 1 :=
  let c0_i32_97_r0 : BitVec 32 := 0#32
  let v100_r0 : BitVec 32 := Scalar.addi arg16_r0 c0_i32_97_r0
  let true_104_r0 : BitVec 1 := 1#1
  let c1_i32_103_r0 : BitVec 32 := 1#32
  let v106_r0 : BitVec 32 := Scalar.addi arg16_r0 c1_i32_103_r0
  let v107_r0 : BitVec 32 := Scalar.select true_104_r0 v106_r0 arg16_r0
  let c64_i32_105_r0 : BitVec 32 := 64#32
  let v108_r0 : BitVec 1 := Scalar.cmpi .eq v107_r0 c64_i32_105_r0
  let c0_i32_106_r0 : BitVec 32 := 0#32
  let v109_r0 : BitVec 32 := Scalar.select v108_r0 c0_i32_106_r0 v107_r0
  let c0_i32_107_r0 : BitVec 32 := 0#32
  let v110_r0 : BitVec 32 := Scalar.addi v109_r0 c0_i32_107_r0
  let v290_r0 : BitVec 1 := Scalar.cmpi .ne v100_r0 v110_r0
  let c0_i32_63_r0 : BitVec 32 := 0#32
  let c1_i32_65_r0 : BitVec 32 := 1#32
  let arg7_r0 : BitVec 32 := Scf.iv c0_i32_63_r0 c1_i32_65_r0 k0_t1
  let c63_i32_96_r0 : BitVec 32 := 63#32
  let v99_r0 : BitVec 1 := Scalar.cmpi .eq arg7_r0 c63_i32_96_r0
  let v291_r0 : BitVec 1 := Scalar.ori v290_r0 v99_r0
  let v292_r0 : BitVec 32 := Scalar.extui v291_r0
  let c0_i32_209_r0 : BitVec 32 := 0#32
  let v293_r0 : BitVec 1 := Scalar.cmpi .ne v292_r0 c0_i32_209_r0
  v293_r0

def k0_off36 (arg16_r0 : BitVec 32) : Fin 2 → Nat :=
  let c512_i32_233_r0 : BitVec 32 := 512#32
  let c0_i32_97_r0 : BitVec 32 := 0#32
  let v100_r0 : BitVec 32 := Scalar.addi arg16_r0 c0_i32_97_r0
  let v340_r0 : BitVec 32 := Scalar.muli c512_i32_233_r0 v100_r0
  let c0_i32_234_r0 : BitVec 32 := 0#32
  ![v340_r0.toNat, 0]
def k0_off37 (arg14_r0 : BitVec 32) : Fin 3 → Nat :=
  let c2_i32_232_r0 : BitVec 32 := 2#32
  let v339_r0 : BitVec 32 := Scalar.remui arg14_r0 c2_i32_232_r0
  let c0_i32_235_r0 : BitVec 32 := 0#32
  let c0_i32_236_r0 : BitVec 32 := 0#32
  ![v339_r0.toNat, 0, 0]
def k0_off38 (arg15_r0 : BitVec 32) : Fin 1 → Nat :=
  let c2_i32_232_r0 : BitVec 32 := 2#32
  let v339_r0 : BitVec 32 := Scalar.remui arg15_r0 c2_i32_232_r0
  ![v339_r0.toNat]
def k0_cond18 (k0_t1 : Fin k0_t1_loop.trips) (arg16_r0 : BitVec 32) : BitVec 1 :=
  let c0_i32_97_r0 : BitVec 32 := 0#32
  let v100_r0 : BitVec 32 := Scalar.addi arg16_r0 c0_i32_97_r0
  let true_99_r0 : BitVec 1 := 1#1
  let c1_i32_98_r0 : BitVec 32 := 1#32
  let v101_r0 : BitVec 32 := Scalar.subi arg16_r0 c1_i32_98_r0
  let v102_r0 : BitVec 32 := Scalar.select true_99_r0 v101_r0 arg16_r0
  let c_m1_i32_100_r0 : BitVec 32 := 4294967295#32
  let v103_r0 : BitVec 1 := Scalar.cmpi .eq v102_r0 c_m1_i32_100_r0
  let c63_i32_101_r0 : BitVec 32 := 63#32
  let v104_r0 : BitVec 32 := Scalar.select v103_r0 c63_i32_101_r0 v102_r0
  let c0_i32_102_r0 : BitVec 32 := 0#32
  let v105_r0 : BitVec 32 := Scalar.addi v104_r0 c0_i32_102_r0
  let v315_r0 : BitVec 1 := Scalar.cmpi .ne v100_r0 v105_r0
  let c0_i32_63_r0 : BitVec 32 := 0#32
  let c1_i32_65_r0 : BitVec 32 := 1#32
  let arg7_r0 : BitVec 32 := Scf.iv c0_i32_63_r0 c1_i32_65_r0 k0_t1
  let c0_i32_95_r0 : BitVec 32 := 0#32
  let v98_r0 : BitVec 1 := Scalar.cmpi .eq arg7_r0 c0_i32_95_r0
  let true_221_r0 : BitVec 1 := 1#1
  let v316_r0 : BitVec 1 := Scalar.xori v98_r0 true_221_r0
  let v317_r0 : BitVec 1 := Scalar.andi v315_r0 v316_r0
  let v318_r0 : BitVec 32 := Scalar.extui v317_r0
  let c0_i32_222_r0 : BitVec 32 := 0#32
  let v319_r0 : BitVec 1 := Scalar.cmpi .ne v318_r0 c0_i32_222_r0
  v319_r0

def k0_off39 (arg16_r0 : BitVec 32) : Fin 2 → Nat :=
  let c512_i32_233_r0 : BitVec 32 := 512#32
  let true_99_r0 : BitVec 1 := 1#1
  let c1_i32_98_r0 : BitVec 32 := 1#32
  let v101_r0 : BitVec 32 := Scalar.subi arg16_r0 c1_i32_98_r0
  let v102_r0 : BitVec 32 := Scalar.select true_99_r0 v101_r0 arg16_r0
  let c_m1_i32_100_r0 : BitVec 32 := 4294967295#32
  let v103_r0 : BitVec 1 := Scalar.cmpi .eq v102_r0 c_m1_i32_100_r0
  let c63_i32_101_r0 : BitVec 32 := 63#32
  let v104_r0 : BitVec 32 := Scalar.select v103_r0 c63_i32_101_r0 v102_r0
  let c0_i32_102_r0 : BitVec 32 := 0#32
  let v105_r0 : BitVec 32 := Scalar.addi v104_r0 c0_i32_102_r0
  let v340_r0 : BitVec 32 := Scalar.muli c512_i32_233_r0 v105_r0
  let c0_i32_234_r0 : BitVec 32 := 0#32
  ![v340_r0.toNat, 0]
def k0_off40 (arg15_r0 : BitVec 32) : Fin 3 → Nat :=
  let c2_i32_232_r0 : BitVec 32 := 2#32
  let v339_r0 : BitVec 32 := Scalar.remui arg15_r0 c2_i32_232_r0
  let c0_i32_235_r0 : BitVec 32 := 0#32
  let c0_i32_236_r0 : BitVec 32 := 0#32
  ![v339_r0.toNat, 0, 0]

def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) : Prop :=
  (∀ (k0_h4 : k0_cond4 k0_t1 arg16_r0 = 1#1), ∀ a, (k0_off12 arg8_r0) a + S1.size a ≤ S3.size a) ∧
  (∀ (k0_h4 : k0_cond4 k0_t1 arg16_r0 = 1#1), ∀ a, (k0_off13 arg8_r0) a + S1x512x1024.size a ≤ S3x512x1024.size a) ∧
  (∀ (k0_h4 : k0_cond4 k0_t1 arg16_r0 = 1#1), ∀ a, (k0_off14 arg16_r0) a + S512x1024.size a ≤ S32768x1024.size a) ∧
  (∀ (k0_h4 : k0_cond4 k0_t1 arg16_r0 = 1#1), ∀ (hinb : ∀ a, (k0_off14 arg16_r0) a + S512x1024.size a ≤ S32768x1024.size a), (Rect.unit (s := S32768x1024) (k0_off14 arg16_r0) S512x1024.size hinb).WholeWords (EltTy.packing .bf16)) ∧
  (∀ (k0_h4 : k0_cond4 k0_t1 arg16_r0 = 1#1), ∀ (hinb : ∀ a, (k0_off13 arg8_r0) a + S1x512x1024.size a ≤ S3x512x1024.size a), (Rect.unit (s := S3x512x1024) (k0_off13 arg8_r0) S1x512x1024.size hinb).WholeWords (EltTy.packing .bf16)) ∧
  (∀ (k0_h5 : k0_cond5 k0_t1 arg16_r0 = 1#1), ∀ a, (k0_off15 arg10_r0) a + S1.size a ≤ S3.size a) ∧
  (∀ (k0_h5 : k0_cond5 k0_t1 arg16_r0 = 1#1), ∀ a, (k0_off16 arg10_r0) a + S1x512x1024.size a ≤ S3x512x1024.size a) ∧
  (∀ (k0_h5 : k0_cond5 k0_t1 arg16_r0 = 1#1), ∀ a, (k0_off17 arg16_r0) a + S512x1024.size a ≤ S32768x1024.size a) ∧
  (∀ (k0_h5 : k0_cond5 k0_t1 arg16_r0 = 1#1), ∀ (hinb : ∀ a, (k0_off17 arg16_r0) a + S512x1024.size a ≤ S32768x1024.size a), (Rect.unit (s := S32768x1024) (k0_off17 arg16_r0) S512x1024.size hinb).WholeWords (EltTy.packing .bf16)) ∧
  (∀ (k0_h5 : k0_cond5 k0_t1 arg16_r0 = 1#1), ∀ (hinb : ∀ a, (k0_off16 arg10_r0) a + S1x512x1024.size a ≤ S3x512x1024.size a), (Rect.unit (s := S3x512x1024) (k0_off16 arg10_r0) S1x512x1024.size hinb).WholeWords (EltTy.packing .bf16)) ∧
  (∀ (k0_h6 : k0_cond6 k0_t1 arg16_r0 = 1#1), ∀ a, (k0_off18 arg12_r0) a + S1.size a ≤ S3.size a) ∧
  (∀ (k0_h6 : k0_cond6 k0_t1 arg16_r0 = 1#1), ∀ a, (k0_off19 arg12_r0) a + S1x512x1024.size a ≤ S3x512x1024.size a) ∧
  (∀ (k0_h6 : k0_cond6 k0_t1 arg16_r0 = 1#1), ∀ a, (k0_off20 arg16_r0) a + S512x1024.size a ≤ S32768x1024.size a) ∧
  (∀ (k0_h7 : k0_cond7 k0_t1 arg16_r0 = 1#1), ∀ a, (k0_off21 arg9_r0) a + S1.size a ≤ S3.size a) ∧
  (∀ (k0_h7 : k0_cond7 k0_t1 arg16_r0 = 1#1), ∀ a, (k0_off22 arg9_r0) a + S1x512x1024.size a ≤ S3x512x1024.size a) ∧
  (∀ (k0_h7 : k0_cond7 k0_t1 arg16_r0 = 1#1), ∀ a, (k0_off23 arg16_r0) a + S512x1024.size a ≤ S32768x1024.size a) ∧
  (∀ (k0_h7 : k0_cond7 k0_t1 arg16_r0 = 1#1), ∀ (hinb : ∀ a, (k0_off23 arg16_r0) a + S512x1024.size a ≤ S32768x1024.size a), (Rect.unit (s := S32768x1024) (k0_off23 arg16_r0) S512x1024.size hinb).WholeWords (EltTy.packing .bf16)) ∧
  (∀ (k0_h7 : k0_cond7 k0_t1 arg16_r0 = 1#1), ∀ (hinb : ∀ a, (k0_off22 arg9_r0) a + S1x512x1024.size a ≤ S3x512x1024.size a), (Rect.unit (s := S3x512x1024) (k0_off22 arg9_r0) S1x512x1024.size hinb).WholeWords (EltTy.packing .bf16)) ∧
  (∀ (k0_h8 : k0_cond8 k0_t1 arg16_r0 = 1#1), ∀ a, (k0_off24 arg11_r0) a + S1.size a ≤ S3.size a) ∧
  (∀ (k0_h8 : k0_cond8 k0_t1 arg16_r0 = 1#1), ∀ a, (k0_off25 arg11_r0) a + S1x512x1024.size a ≤ S3x512x1024.size a) ∧
  (∀ (k0_h8 : k0_cond8 k0_t1 arg16_r0 = 1#1), ∀ a, (k0_off26 arg16_r0) a + S512x1024.size a ≤ S32768x1024.size a) ∧
  (∀ (k0_h8 : k0_cond8 k0_t1 arg16_r0 = 1#1), ∀ (hinb : ∀ a, (k0_off26 arg16_r0) a + S512x1024.size a ≤ S32768x1024.size a), (Rect.unit (s := S32768x1024) (k0_off26 arg16_r0) S512x1024.size hinb).WholeWords (EltTy.packing .bf16)) ∧
  (∀ (k0_h8 : k0_cond8 k0_t1 arg16_r0 = 1#1), ∀ (hinb : ∀ a, (k0_off25 arg11_r0) a + S1x512x1024.size a ≤ S3x512x1024.size a), (Rect.unit (s := S3x512x1024) (k0_off25 arg11_r0) S1x512x1024.size hinb).WholeWords (EltTy.packing .bf16)) ∧
  (∀ (k0_h9 : k0_cond9 k0_t1 arg16_r0 = 1#1), ∀ a, (k0_off27 arg13_r0) a + S1.size a ≤ S3.size a) ∧
  (∀ (k0_h9 : k0_cond9 k0_t1 arg16_r0 = 1#1), ∀ a, (k0_off28 arg13_r0) a + S1x512x1024.size a ≤ S3x512x1024.size a) ∧
  (∀ (k0_h9 : k0_cond9 k0_t1 arg16_r0 = 1#1), ∀ a, (k0_off29 arg16_r0) a + S512x1024.size a ≤ S32768x1024.size a) ∧
  (∀ (k0_h14 : k0_cond14 k0_t1 arg16_r0 = 1#1), ∀ a, (k0_off35 arg14_r0) a + S1.size a ≤ S2.size a) ∧
  (∀ (k0_h14 : k0_cond14 k0_t1 arg16_r0 = 1#1), ∀ a, (k0_off36 arg16_r0) a + S512x1024.size a ≤ S32768x1024.size a) ∧
  (∀ (k0_h14 : k0_cond14 k0_t1 arg16_r0 = 1#1), ∀ a, (k0_off37 arg14_r0) a + S1x512x1024.size a ≤ S2x512x1024.size a) ∧
  (∀ (k0_h18 : k0_cond18 k0_t1 arg16_r0 = 1#1), ∀ a, (k0_off38 arg15_r0) a + S1.size a ≤ S2.size a) ∧
  (∀ (k0_h18 : k0_cond18 k0_t1 arg16_r0 = 1#1), ∀ a, (k0_off39 arg16_r0) a + S512x1024.size a ≤ S32768x1024.size a) ∧
  (∀ (k0_h18 : k0_cond18 k0_t1 arg16_r0 = 1#1), ∀ a, (k0_off40 arg15_r0) a + S1x512x1024.size a ≤ S2x512x1024.size a)
theorem k0_off12_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h4 : k0_cond4 k0_t1 arg16_r0 = 1#1), ∀ a, (k0_off12 arg8_r0) a + S1.size a ≤ S3.size a := fun k0_t1 arg8_r0 arg9_r0 arg10_r0 arg11_r0 arg12_r0 arg13_r0 arg14_r0 arg15_r0 arg16_r0 k0_hw1 k0_h4 => k0_hw1.1 k0_h4
theorem k0_off13_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h4 : k0_cond4 k0_t1 arg16_r0 = 1#1), ∀ a, (k0_off13 arg8_r0) a + S1x512x1024.size a ≤ S3x512x1024.size a := fun k0_t1 arg8_r0 arg9_r0 arg10_r0 arg11_r0 arg12_r0 arg13_r0 arg14_r0 arg15_r0 arg16_r0 k0_hw1 k0_h4 => k0_hw1.2.1 k0_h4
theorem k0_off14_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h4 : k0_cond4 k0_t1 arg16_r0 = 1#1), ∀ a, (k0_off14 arg16_r0) a + S512x1024.size a ≤ S32768x1024.size a := fun k0_t1 arg8_r0 arg9_r0 arg10_r0 arg11_r0 arg12_r0 arg13_r0 arg14_r0 arg15_r0 arg16_r0 k0_hw1 k0_h4 => k0_hw1.2.2.1 k0_h4
theorem k0_off14_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h4 : k0_cond4 k0_t1 arg16_r0 = 1#1), (Rect.unit (s := S32768x1024) (k0_off14 arg16_r0) S512x1024.size (k0_off14_inb k0_t1 arg8_r0 arg9_r0 arg10_r0 arg11_r0 arg12_r0 arg13_r0 arg14_r0 arg15_r0 arg16_r0 k0_hw1 k0_h4)).WholeWords (EltTy.packing .bf16) := fun k0_t1 arg8_r0 arg9_r0 arg10_r0 arg11_r0 arg12_r0 arg13_r0 arg14_r0 arg15_r0 arg16_r0 k0_hw1 k0_h4 => k0_hw1.2.2.2.1 k0_h4 (k0_off14_inb k0_t1 arg8_r0 arg9_r0 arg10_r0 arg11_r0 arg12_r0 arg13_r0 arg14_r0 arg15_r0 arg16_r0 k0_hw1 k0_h4)
theorem k0_off13_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h4 : k0_cond4 k0_t1 arg16_r0 = 1#1), (Rect.unit (s := S3x512x1024) (k0_off13 arg8_r0) S1x512x1024.size (k0_off13_inb k0_t1 arg8_r0 arg9_r0 arg10_r0 arg11_r0 arg12_r0 arg13_r0 arg14_r0 arg15_r0 arg16_r0 k0_hw1 k0_h4)).WholeWords (EltTy.packing .bf16) := fun k0_t1 arg8_r0 arg9_r0 arg10_r0 arg11_r0 arg12_r0 arg13_r0 arg14_r0 arg15_r0 arg16_r0 k0_hw1 k0_h4 => k0_hw1.2.2.2.2.1 k0_h4 (k0_off13_inb k0_t1 arg8_r0 arg9_r0 arg10_r0 arg11_r0 arg12_r0 arg13_r0 arg14_r0 arg15_r0 arg16_r0 k0_hw1 k0_h4)
theorem k0_off15_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), ∀ a, (k0_off15 arg10_r0) a + S1.size a ≤ S3.size a := fun k0_t1 arg8_r0 arg9_r0 arg10_r0 arg11_r0 arg12_r0 arg13_r0 arg14_r0 arg15_r0 arg16_r0 k0_hw1 k0_h5 => k0_hw1.2.2.2.2.2.1 k0_h5
theorem k0_off16_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), ∀ a, (k0_off16 arg10_r0) a + S1x512x1024.size a ≤ S3x512x1024.size a := fun k0_t1 arg8_r0 arg9_r0 arg10_r0 arg11_r0 arg12_r0 arg13_r0 arg14_r0 arg15_r0 arg16_r0 k0_hw1 k0_h5 => k0_hw1.2.2.2.2.2.2.1 k0_h5
theorem k0_off17_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), ∀ a, (k0_off17 arg16_r0) a + S512x1024.size a ≤ S32768x1024.size a := fun k0_t1 arg8_r0 arg9_r0 arg10_r0 arg11_r0 arg12_r0 arg13_r0 arg14_r0 arg15_r0 arg16_r0 k0_hw1 k0_h5 => k0_hw1.2.2.2.2.2.2.2.1 k0_h5
theorem k0_off17_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), (Rect.unit (s := S32768x1024) (k0_off17 arg16_r0) S512x1024.size (k0_off17_inb k0_t1 arg8_r0 arg9_r0 arg10_r0 arg11_r0 arg12_r0 arg13_r0 arg14_r0 arg15_r0 arg16_r0 k0_hw1 k0_h5)).WholeWords (EltTy.packing .bf16) := fun k0_t1 arg8_r0 arg9_r0 arg10_r0 arg11_r0 arg12_r0 arg13_r0 arg14_r0 arg15_r0 arg16_r0 k0_hw1 k0_h5 => k0_hw1.2.2.2.2.2.2.2.2.1 k0_h5 (k0_off17_inb k0_t1 arg8_r0 arg9_r0 arg10_r0 arg11_r0 arg12_r0 arg13_r0 arg14_r0 arg15_r0 arg16_r0 k0_hw1 k0_h5)
theorem k0_off16_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h5 : k0_cond5 k0_t1 arg16_r0 = 1#1), (Rect.unit (s := S3x512x1024) (k0_off16 arg10_r0) S1x512x1024.size (k0_off16_inb k0_t1 arg8_r0 arg9_r0 arg10_r0 arg11_r0 arg12_r0 arg13_r0 arg14_r0 arg15_r0 arg16_r0 k0_hw1 k0_h5)).WholeWords (EltTy.packing .bf16) := fun k0_t1 arg8_r0 arg9_r0 arg10_r0 arg11_r0 arg12_r0 arg13_r0 arg14_r0 arg15_r0 arg16_r0 k0_hw1 k0_h5 => k0_hw1.2.2.2.2.2.2.2.2.2.1 k0_h5 (k0_off16_inb k0_t1 arg8_r0 arg9_r0 arg10_r0 arg11_r0 arg12_r0 arg13_r0 arg14_r0 arg15_r0 arg16_r0 k0_hw1 k0_h5)
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h6 : k0_cond6 k0_t1 arg16_r0 = 1#1), ∀ a, (k0_off18 arg12_r0) a + S1.size a ≤ S3.size a := fun k0_t1 arg8_r0 arg9_r0 arg10_r0 arg11_r0 arg12_r0 arg13_r0 arg14_r0 arg15_r0 arg16_r0 k0_hw1 k0_h6 => k0_hw1.2.2.2.2.2.2.2.2.2.2.1 k0_h6
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h6 : k0_cond6 k0_t1 arg16_r0 = 1#1), ∀ a, (k0_off19 arg12_r0) a + S1x512x1024.size a ≤ S3x512x1024.size a := fun k0_t1 arg8_r0 arg9_r0 arg10_r0 arg11_r0 arg12_r0 arg13_r0 arg14_r0 arg15_r0 arg16_r0 k0_hw1 k0_h6 => k0_hw1.2.2.2.2.2.2.2.2.2.2.2.1 k0_h6
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h6 : k0_cond6 k0_t1 arg16_r0 = 1#1), ∀ a, (k0_off20 arg16_r0) a + S512x1024.size a ≤ S32768x1024.size a := fun k0_t1 arg8_r0 arg9_r0 arg10_r0 arg11_r0 arg12_r0 arg13_r0 arg14_r0 arg15_r0 arg16_r0 k0_hw1 k0_h6 => k0_hw1.2.2.2.2.2.2.2.2.2.2.2.2.1 k0_h6
theorem k0_off21_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h7 : k0_cond7 k0_t1 arg16_r0 = 1#1), ∀ a, (k0_off21 arg9_r0) a + S1.size a ≤ S3.size a := fun k0_t1 arg8_r0 arg9_r0 arg10_r0 arg11_r0 arg12_r0 arg13_r0 arg14_r0 arg15_r0 arg16_r0 k0_hw1 k0_h7 => k0_hw1.2.2.2.2.2.2.2.2.2.2.2.2.2.1 k0_h7
theorem k0_off22_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h7 : k0_cond7 k0_t1 arg16_r0 = 1#1), ∀ a, (k0_off22 arg9_r0) a + S1x512x1024.size a ≤ S3x512x1024.size a := fun k0_t1 arg8_r0 arg9_r0 arg10_r0 arg11_r0 arg12_r0 arg13_r0 arg14_r0 arg15_r0 arg16_r0 k0_hw1 k0_h7 => k0_hw1.2.2.2.2.2.2.2.2.2.2.2.2.2.2.1 k0_h7
theorem k0_off23_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h7 : k0_cond7 k0_t1 arg16_r0 = 1#1), ∀ a, (k0_off23 arg16_r0) a + S512x1024.size a ≤ S32768x1024.size a := fun k0_t1 arg8_r0 arg9_r0 arg10_r0 arg11_r0 arg12_r0 arg13_r0 arg14_r0 arg15_r0 arg16_r0 k0_hw1 k0_h7 => k0_hw1.2.2.2.2.2.2.2.2.2.2.2.2.2.2.2.1 k0_h7
theorem k0_off23_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h7 : k0_cond7 k0_t1 arg16_r0 = 1#1), (Rect.unit (s := S32768x1024) (k0_off23 arg16_r0) S512x1024.size (k0_off23_inb k0_t1 arg8_r0 arg9_r0 arg10_r0 arg11_r0 arg12_r0 arg13_r0 arg14_r0 arg15_r0 arg16_r0 k0_hw1 k0_h7)).WholeWords (EltTy.packing .bf16) := fun k0_t1 arg8_r0 arg9_r0 arg10_r0 arg11_r0 arg12_r0 arg13_r0 arg14_r0 arg15_r0 arg16_r0 k0_hw1 k0_h7 => k0_hw1.2.2.2.2.2.2.2.2.2.2.2.2.2.2.2.2.1 k0_h7 (k0_off23_inb k0_t1 arg8_r0 arg9_r0 arg10_r0 arg11_r0 arg12_r0 arg13_r0 arg14_r0 arg15_r0 arg16_r0 k0_hw1 k0_h7)
theorem k0_off22_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h7 : k0_cond7 k0_t1 arg16_r0 = 1#1), (Rect.unit (s := S3x512x1024) (k0_off22 arg9_r0) S1x512x1024.size (k0_off22_inb k0_t1 arg8_r0 arg9_r0 arg10_r0 arg11_r0 arg12_r0 arg13_r0 arg14_r0 arg15_r0 arg16_r0 k0_hw1 k0_h7)).WholeWords (EltTy.packing .bf16) := fun k0_t1 arg8_r0 arg9_r0 arg10_r0 arg11_r0 arg12_r0 arg13_r0 arg14_r0 arg15_r0 arg16_r0 k0_hw1 k0_h7 => k0_hw1.2.2.2.2.2.2.2.2.2.2.2.2.2.2.2.2.2.1 k0_h7 (k0_off22_inb k0_t1 arg8_r0 arg9_r0 arg10_r0 arg11_r0 arg12_r0 arg13_r0 arg14_r0 arg15_r0 arg16_r0 k0_hw1 k0_h7)
theorem k0_off24_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h8 : k0_cond8 k0_t1 arg16_r0 = 1#1), ∀ a, (k0_off24 arg11_r0) a + S1.size a ≤ S3.size a := fun k0_t1 arg8_r0 arg9_r0 arg10_r0 arg11_r0 arg12_r0 arg13_r0 arg14_r0 arg15_r0 arg16_r0 k0_hw1 k0_h8 => k0_hw1.2.2.2.2.2.2.2.2.2.2.2.2.2.2.2.2.2.2.1 k0_h8
theorem k0_off25_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h8 : k0_cond8 k0_t1 arg16_r0 = 1#1), ∀ a, (k0_off25 arg11_r0) a + S1x512x1024.size a ≤ S3x512x1024.size a := fun k0_t1 arg8_r0 arg9_r0 arg10_r0 arg11_r0 arg12_r0 arg13_r0 arg14_r0 arg15_r0 arg16_r0 k0_hw1 k0_h8 => k0_hw1.2.2.2.2.2.2.2.2.2.2.2.2.2.2.2.2.2.2.2.1 k0_h8
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h8 : k0_cond8 k0_t1 arg16_r0 = 1#1), ∀ a, (k0_off26 arg16_r0) a + S512x1024.size a ≤ S32768x1024.size a := fun k0_t1 arg8_r0 arg9_r0 arg10_r0 arg11_r0 arg12_r0 arg13_r0 arg14_r0 arg15_r0 arg16_r0 k0_hw1 k0_h8 => k0_hw1.2.2.2.2.2.2.2.2.2.2.2.2.2.2.2.2.2.2.2.2.1 k0_h8
theorem k0_off26_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h8 : k0_cond8 k0_t1 arg16_r0 = 1#1), (Rect.unit (s := S32768x1024) (k0_off26 arg16_r0) S512x1024.size (k0_off26_inb k0_t1 arg8_r0 arg9_r0 arg10_r0 arg11_r0 arg12_r0 arg13_r0 arg14_r0 arg15_r0 arg16_r0 k0_hw1 k0_h8)).WholeWords (EltTy.packing .bf16) := fun k0_t1 arg8_r0 arg9_r0 arg10_r0 arg11_r0 arg12_r0 arg13_r0 arg14_r0 arg15_r0 arg16_r0 k0_hw1 k0_h8 => k0_hw1.2.2.2.2.2.2.2.2.2.2.2.2.2.2.2.2.2.2.2.2.2.1 k0_h8 (k0_off26_inb k0_t1 arg8_r0 arg9_r0 arg10_r0 arg11_r0 arg12_r0 arg13_r0 arg14_r0 arg15_r0 arg16_r0 k0_hw1 k0_h8)
theorem k0_off25_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h8 : k0_cond8 k0_t1 arg16_r0 = 1#1), (Rect.unit (s := S3x512x1024) (k0_off25 arg11_r0) S1x512x1024.size (k0_off25_inb k0_t1 arg8_r0 arg9_r0 arg10_r0 arg11_r0 arg12_r0 arg13_r0 arg14_r0 arg15_r0 arg16_r0 k0_hw1 k0_h8)).WholeWords (EltTy.packing .bf16) := fun k0_t1 arg8_r0 arg9_r0 arg10_r0 arg11_r0 arg12_r0 arg13_r0 arg14_r0 arg15_r0 arg16_r0 k0_hw1 k0_h8 => k0_hw1.2.2.2.2.2.2.2.2.2.2.2.2.2.2.2.2.2.2.2.2.2.2.1 k0_h8 (k0_off25_inb k0_t1 arg8_r0 arg9_r0 arg10_r0 arg11_r0 arg12_r0 arg13_r0 arg14_r0 arg15_r0 arg16_r0 k0_hw1 k0_h8)
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h9 : k0_cond9 k0_t1 arg16_r0 = 1#1), ∀ a, (k0_off27 arg13_r0) a + S1.size a ≤ S3.size a := fun k0_t1 arg8_r0 arg9_r0 arg10_r0 arg11_r0 arg12_r0 arg13_r0 arg14_r0 arg15_r0 arg16_r0 k0_hw1 k0_h9 => k0_hw1.2.2.2.2.2.2.2.2.2.2.2.2.2.2.2.2.2.2.2.2.2.2.2.1 k0_h9
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h9 : k0_cond9 k0_t1 arg16_r0 = 1#1), ∀ a, (k0_off28 arg13_r0) a + S1x512x1024.size a ≤ S3x512x1024.size a := fun k0_t1 arg8_r0 arg9_r0 arg10_r0 arg11_r0 arg12_r0 arg13_r0 arg14_r0 arg15_r0 arg16_r0 k0_hw1 k0_h9 => k0_hw1.2.2.2.2.2.2.2.2.2.2.2.2.2.2.2.2.2.2.2.2.2.2.2.2.1 k0_h9
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h9 : k0_cond9 k0_t1 arg16_r0 = 1#1), ∀ a, (k0_off29 arg16_r0) a + S512x1024.size a ≤ S32768x1024.size a := fun k0_t1 arg8_r0 arg9_r0 arg10_r0 arg11_r0 arg12_r0 arg13_r0 arg14_r0 arg15_r0 arg16_r0 k0_hw1 k0_h9 => k0_hw1.2.2.2.2.2.2.2.2.2.2.2.2.2.2.2.2.2.2.2.2.2.2.2.2.2.1 k0_h9
theorem k0_off35_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h14 : k0_cond14 k0_t1 arg16_r0 = 1#1), ∀ a, (k0_off35 arg14_r0) a + S1.size a ≤ S2.size a := fun k0_t1 arg8_r0 arg9_r0 arg10_r0 arg11_r0 arg12_r0 arg13_r0 arg14_r0 arg15_r0 arg16_r0 k0_hw1 k0_h14 => k0_hw1.2.2.2.2.2.2.2.2.2.2.2.2.2.2.2.2.2.2.2.2.2.2.2.2.2.2.1 k0_h14
theorem k0_off36_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h14 : k0_cond14 k0_t1 arg16_r0 = 1#1), ∀ a, (k0_off36 arg16_r0) a + S512x1024.size a ≤ S32768x1024.size a := fun k0_t1 arg8_r0 arg9_r0 arg10_r0 arg11_r0 arg12_r0 arg13_r0 arg14_r0 arg15_r0 arg16_r0 k0_hw1 k0_h14 => k0_hw1.2.2.2.2.2.2.2.2.2.2.2.2.2.2.2.2.2.2.2.2.2.2.2.2.2.2.2.1 k0_h14
theorem k0_off37_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h14 : k0_cond14 k0_t1 arg16_r0 = 1#1), ∀ a, (k0_off37 arg14_r0) a + S1x512x1024.size a ≤ S2x512x1024.size a := fun k0_t1 arg8_r0 arg9_r0 arg10_r0 arg11_r0 arg12_r0 arg13_r0 arg14_r0 arg15_r0 arg16_r0 k0_hw1 k0_h14 => k0_hw1.2.2.2.2.2.2.2.2.2.2.2.2.2.2.2.2.2.2.2.2.2.2.2.2.2.2.2.2.1 k0_h14
theorem k0_off38_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h18 : k0_cond18 k0_t1 arg16_r0 = 1#1), ∀ a, (k0_off38 arg15_r0) a + S1.size a ≤ S2.size a := fun k0_t1 arg8_r0 arg9_r0 arg10_r0 arg11_r0 arg12_r0 arg13_r0 arg14_r0 arg15_r0 arg16_r0 k0_hw1 k0_h18 => k0_hw1.2.2.2.2.2.2.2.2.2.2.2.2.2.2.2.2.2.2.2.2.2.2.2.2.2.2.2.2.2.1 k0_h18
theorem k0_off39_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h18 : k0_cond18 k0_t1 arg16_r0 = 1#1), ∀ a, (k0_off39 arg16_r0) a + S512x1024.size a ≤ S32768x1024.size a := fun k0_t1 arg8_r0 arg9_r0 arg10_r0 arg11_r0 arg12_r0 arg13_r0 arg14_r0 arg15_r0 arg16_r0 k0_hw1 k0_h18 => k0_hw1.2.2.2.2.2.2.2.2.2.2.2.2.2.2.2.2.2.2.2.2.2.2.2.2.2.2.2.2.2.2.1 k0_h18
theorem k0_off40_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (k0_hw1 : k0_chk1 k0_t1 arg8_r0 arg9_r0 arg10_r0 arg11_r0 arg12_r0 arg13_r0 arg14_r0 arg15_r0 arg16_r0), ∀ (k0_h18 : k0_cond18 k0_t1 arg16_r0 = 1#1), ∀ a, (k0_off40 arg15_r0) a + S1x512x1024.size a ≤ S2x512x1024.size a := fun k0_t1 arg8_r0 arg9_r0 arg10_r0 arg11_r0 arg12_r0 arg13_r0 arg14_r0 arg15_r0 arg16_r0 k0_hw1 k0_h18 => k0_hw1.2.2.2.2.2.2.2.2.2.2.2.2.2.2.2.2.2.2.2.2.2.2.2.2.2.2.2.2.2.2.2 k0_h18

def k0_off41 (v65_7_r0 : BitVec 32) : Fin 1 → Nat :=
  let c2_i32_r0 : BitVec 32 := 2#32
  let v91_r0 : BitVec 32 := Scalar.remui v65_7_r0 c2_i32_r0
  ![v91_r0.toNat]

def k0_off42 (v65_8_r0 : BitVec 32) : Fin 2 → Nat :=
  let c512_i32_r0 : BitVec 32 := 512#32
  let true_68_r0 : BitVec 1 := 1#1
  let c1_i32_67_r0 : BitVec 32 := 1#32
  let v66_r0 : BitVec 32 := Scalar.subi v65_8_r0 c1_i32_67_r0
  let v67_r0 : BitVec 32 := Scalar.select true_68_r0 v66_r0 v65_8_r0
  let c_m1_i32_69_r0 : BitVec 32 := 4294967295#32
  let v68_r0 : BitVec 1 := Scalar.cmpi .eq v67_r0 c_m1_i32_69_r0
  let c63_i32_70_r0 : BitVec 32 := 63#32
  let v69_r0 : BitVec 32 := Scalar.select v68_r0 c63_i32_70_r0 v67_r0
  let c0_i32_71_r0 : BitVec 32 := 0#32
  let v70_r0 : BitVec 32 := Scalar.addi v69_r0 c0_i32_71_r0
  let v92_r0 : BitVec 32 := Scalar.muli c512_i32_r0 v70_r0
  let c0_i32_92_r0 : BitVec 32 := 0#32
  ![v92_r0.toNat, 0]

def k0_chk7 (v65_8_r0 : BitVec 32) : Prop :=
  (∀ a, (k0_off42 v65_8_r0) a + S512x1024.size a ≤ S32768x1024.size a)
theorem k0_off42_inb : ∀ (v65_8_r0 : BitVec 32) (k0_hw7 : k0_chk7 v65_8_r0), ∀ a, (k0_off42 v65_8_r0) a + S512x1024.size a ≤ S32768x1024.size a := fun v65_8_r0 k0_hw7 => k0_hw7

def k0_off43 (v65_7_r0 : BitVec 32) : Fin 3 → Nat :=
  let c2_i32_r0 : BitVec 32 := 2#32
  let v91_r0 : BitVec 32 := Scalar.remui v65_7_r0 c2_i32_r0
  let c0_i32_93_r0 : BitVec 32 := 0#32
  let c0_i32_94_r0 : BitVec 32 := 0#32
  ![v91_r0.toNat, 0, 0]

def k0_chk6 (v65_7_r0 : BitVec 32) : Prop :=
  (∀ a, (k0_off41 v65_7_r0) a + S1.size a ≤ S2.size a) ∧
  (∀ a, (k0_off43 v65_7_r0) a + S1x512x1024.size a ≤ S2x512x1024.size a)
theorem k0_off41_inb : ∀ (v65_7_r0 : BitVec 32) (k0_hw6 : k0_chk6 v65_7_r0), ∀ a, (k0_off41 v65_7_r0) a + S1.size a ≤ S2.size a := fun v65_7_r0 k0_hw6 => k0_hw6.1
theorem k0_off43_inb : ∀ (v65_7_r0 : BitVec 32) (k0_hw6 : k0_chk6 v65_7_r0), ∀ a, (k0_off43 v65_7_r0) a + S1x512x1024.size a ≤ S2x512x1024.size a := fun v65_7_r0 k0_hw6 => k0_hw6.2

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32768x1024 : Shape := ⟨2, ![32768, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S32768 : Shape := ⟨1, ![32768]⟩
abbrev S32768x1 : Shape := ⟨2, ![32768, 1]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S1024x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel2.lean ====
abbrev S16x2048x16x96 : Shape := ⟨4, ![16, 2048, 16, 96]⟩
abbrev S16x2048x16x64 : Shape := ⟨4, ![16, 2048, 16, 64]⟩
abbrev S16x2048x32 : Shape := ⟨3, ![16, 2048, 32]⟩
abbrev S_ : Shape := ⟨0, ![]⟩
abbrev S16x2048x16x32 : Shape := ⟨4, ![16, 2048, 16, 32]⟩
abbrev S16x2048x16x128 : Shape := ⟨4, ![16, 2048, 16, 128]⟩
abbrev S16x2048x64 : Shape := ⟨3, ![16, 2048, 64]⟩
abbrev S16x2048x128 : Shape := ⟨3, ![16, 2048, 128]⟩
abbrev S32768x2048 : Shape := ⟨2, ![32768, 2048]⟩
abbrev S32768x1024 : Shape := ⟨2, ![32768, 1024]⟩
abbrev S32768x128 : Shape := ⟨2, ![32768, 128]⟩
abbrev S2048x256 : Shape := ⟨2, ![2048, 256]⟩
abbrev S2048x128 : Shape := ⟨2, ![2048, 128]⟩
abbrev S2x2048x128 : Shape := ⟨3, ![2, 2048, 128]⟩
abbrev S2x128x2048 : Shape := ⟨3, ![2, 128, 2048]⟩
abbrev S2x80x2048 : Shape := ⟨3, ![2, 80, 2048]⟩
abbrev S4x2048x256 : Shape := ⟨3, ![4, 2048, 256]⟩
abbrev S256x256 : Shape := ⟨2, ![256, 256]⟩
abbrev S256x128 : Shape := ⟨2, ![256, 128]⟩
abbrev S16x256 : Shape := ⟨2, ![16, 256]⟩
abbrev S128x256 : Shape := ⟨2, ![128, 256]⟩
abbrev S1x256x128 : Shape := ⟨3, ![1, 256, 128]⟩
abbrev S1x128x256 : Shape := ⟨3, ![1, 128, 256]⟩
abbrev S64x256 : Shape := ⟨2, ![64, 256]⟩
abbrev S80x256 : Shape := ⟨2, ![80, 256]⟩
abbrev S1x80x256 : Shape := ⟨3, ![1, 80, 256]⟩
abbrev S1x256x256 : Shape := ⟨3, ![1, 256, 256]⟩
abbrev S8x256 : Shape := ⟨2, ![8, 256]⟩
abbrev S256 : Shape := ⟨1, ![256]⟩
abbrev S1x256 : Shape := ⟨2, ![1, 256]⟩

abbrev nBuf : Space → Nat
  | .hbm => 28
  | .vmem => 15
  | .smem => 0
  | _ => 0

abbrev bufTy : (tb : Table) → Fin (tcTables nBuf tb) → BufTy
  | .hbm, ⟨0, _⟩ => ⟨S16x2048x16x96, .f32⟩
  | .hbm, ⟨1, _⟩ => ⟨S16x2048x16x64, .f32⟩
  | .hbm, ⟨2, _⟩ => ⟨S16x2048x32, .f32⟩
  | .hbm, ⟨3, _⟩ => ⟨S16x2048x16x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x2048x16x96, .f32⟩
  | .hbm, ⟨10, _⟩ => ⟨S16x2048x16x96, .f32⟩
  | .hbm, ⟨11, _⟩ => ⟨S_, .f32⟩
  | .hbm, ⟨12, _⟩ => ⟨S16x2048x16x32, .f32⟩
  | .hbm, ⟨13, _⟩ => ⟨S16x2048x16x128, .f32⟩
  | .hbm, ⟨14, _⟩ => ⟨S_, .f32⟩
  | .hbm, ⟨15, _⟩ => ⟨S16x2048x64, .f32⟩
  | .hbm, ⟨16, _⟩ => ⟨S_, .f32⟩
  | .hbm, ⟨17, _⟩ => ⟨S16x2048x32, .f32⟩
  | .hbm, ⟨18, _⟩ => ⟨S16x2048x128, .f32⟩
  | .hbm, ⟨19, _⟩ => ⟨S32768x2048, .f32⟩
  | .hbm, ⟨20, _⟩ => ⟨S32768x2048, .bf16⟩
  | .hbm, ⟨21, _⟩ => ⟨S32768x1024, .f32⟩
  | .hbm, ⟨22, _⟩ => ⟨S32768x1024, .bf16⟩
  | .hbm, ⟨23, _⟩ => ⟨S32768x128, .f32⟩
  | .hbm, ⟨24, _⟩ => ⟨S32768x128, .bf16⟩
  | .hbm, ⟨25, _⟩ => ⟨S32768x1024, .f32⟩
  | .hbm, ⟨26, _⟩ => ⟨S32768x1024, .bf16⟩
  | .hbm, ⟨27, _⟩ => ⟨S32768x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2x2048x128, .bf16⟩
  | .local _ .vmem, ⟨11, _⟩ => ⟨S2x128x2048, .bf16⟩
  | .local _ .vmem, ⟨12, _⟩ => ⟨S2x80x2048, .bf16⟩
  | .local _ .vmem, ⟨13, _⟩ => ⟨S4x2048x256, .f32⟩
  | .local _ .vmem, ⟨14, _⟩ => ⟨S256x256, .f32⟩
  | _, _ => ⟨S16x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S16x2048x16x96 : Shape := ⟨4, ![16, 2048, 16, 96]⟩
abbrev S16x2048x16x64 : Shape := ⟨4, ![16, 2048, 16, 64]⟩
abbrev S16x2048x32 : Shape := ⟨3, ![16, 2048, 32]⟩
abbrev S_ : Shape := ⟨0, ![]⟩
abbrev S2048 : Shape := ⟨1, ![2048]⟩
abbrev S16x16x2048x2048 : Shape := ⟨4, ![16, 16, 2048, 2048]⟩
abbrev S16x2048x16x32 : Shape := ⟨4, ![16, 2048, 16, 32]⟩
abbrev S16x2048x2048x16 : Shape := ⟨4, ![16, 2048, 2048, 16]⟩
abbrev S1x2048 : Shape := ⟨2, ![1, 2048]⟩
abbrev S2048x1 : Shape := ⟨2, ![2048, 1]⟩
abbrev S2048x2048 : Shape := ⟨2, ![2048, 2048]⟩
abbrev S16x16x2048 : Shape := ⟨3, ![16, 16, 2048]⟩
abbrev S16x16x2048x1 : Shape := ⟨4, ![16, 16, 2048, 1]⟩
abbrev S1x1x2048x2048 : Shape := ⟨4, ![1, 1, 2048, 2048]⟩
abbrev S16x16x64x2048 : Shape := ⟨4, ![16, 16, 64, 2048]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x16x96, .f32⟩
  | .hbm, ⟨1, _⟩ => ⟨S16x2048x16x64, .f32⟩
  | .hbm, ⟨2, _⟩ => ⟨S16x2048x32, .f32⟩
  | .hbm, ⟨3, _⟩ => ⟨S16x2048x16x64, .f32⟩
  | .hbm, ⟨4, _⟩ => ⟨S_, .f32⟩
  | .hbm, ⟨5, _⟩ => ⟨S_, .f32⟩
  | .hbm, ⟨6, _⟩ => ⟨S16x2048x16x96, .f32⟩
  | .hbm, ⟨7, _⟩ => ⟨S16x2048x16x96, .f32⟩
  | .hbm, ⟨8, _⟩ => ⟨S2048, .i32⟩
  | .hbm, ⟨9, _⟩ => ⟨S16x2048x16x64, .f32⟩
  | .hbm, ⟨10, _⟩ => ⟨S16x16x2048x2048, .f32⟩
  | .hbm, ⟨11, _⟩ => ⟨S16x2048x16x32, .f32⟩
  | .hbm, ⟨12, _⟩ => ⟨S16x2048x2048x16, .f32⟩
  | .hbm, ⟨13, _⟩ => ⟨S16x16x2048x2048, .f32⟩
  | .hbm, ⟨14, _⟩ => ⟨S16x16x2048x2048, .f32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S16x16x2048x2048, .i1⟩
  | .hbm, ⟨23, _⟩ => ⟨S16x16x2048x2048, .f32⟩
  | .hbm, ⟨24, _⟩ => ⟨S16x16x2048x2048, .f32⟩
  | .hbm, ⟨25, _⟩ => ⟨S_, .f32⟩
  | .hbm, ⟨26, _⟩ => ⟨S16x16x2048, .f32⟩
  | .hbm, ⟨27, _⟩ => ⟨S_, .f32⟩
  | .hbm, ⟨28, _⟩ => ⟨S16x16x2048, .f32⟩
  | .hbm, ⟨29, _⟩ => ⟨S16x16x2048, .f32⟩
  | .hbm, ⟨30, _⟩ => ⟨S16x16x2048x1, .f32⟩
  | .hbm, ⟨31, _⟩ => ⟨S16x16x2048x2048, .f32⟩
  | .hbm, ⟨32, _⟩ => ⟨S16x16x2048x2048, .f32⟩
  | .hbm, ⟨33, _⟩ => ⟨S16x16x2048x2048, .f32⟩
  | .hbm, ⟨34, _⟩ => ⟨S_, .f32⟩
  | .hbm, ⟨35, _⟩ => ⟨S16x16x2048, .f32⟩
  | .hbm, ⟨36, _⟩ => ⟨S16x16x2048x1, .f32⟩
  | .hbm, ⟨37, _⟩ => ⟨S16x16x2048x2048, .f32⟩
  | .hbm, ⟨38, _⟩ => ⟨S16x16x2048x2048, .f32⟩
  | .hbm, ⟨39, _⟩ => ⟨S2048x2048, .f32⟩
  | .hbm, ⟨40, _⟩ => ⟨S1x1x2048x2048, .f32⟩
  | .hbm, ⟨41, _⟩ => ⟨S16x16x2048x2048, .f32⟩
  | .hbm, ⟨42, _⟩ => ⟨S16x16x2048x2048, .f32⟩
  | .hbm, ⟨43, _⟩ => ⟨S16x16x64x2048, .f32⟩
  | .hbm, ⟨44, _⟩ => ⟨S16x2048x16x64, .f32⟩
  | .hbm, ⟨45, _⟩ => ⟨S32768x1024, .f32⟩
  | .hbm, ⟨46, _⟩ => ⟨S32768x1024, .bf16⟩
  | _, _ => ⟨S16x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel3.lean ====
abbrev S32768x1024 : Shape := ⟨2, ![32768, 1024]⟩
abbrev S1x1024x3368 : Shape := ⟨3, ![1, 1024, 3368]⟩
abbrev S1024x3368 : Shape := ⟨2, ![1024, 3368]⟩
abbrev S1024x768 : Shape := ⟨2, ![1024, 768]⟩
abbrev S1024x64 : Shape := ⟨2, ![1024, 64]⟩
abbrev S1024x24 : Shape := ⟨2, ![1024, 24]⟩
abbrev S1024x3x2x4 : Shape := ⟨4, ![1024, 3, 2, 4]⟩
abbrev S1024x2x3x4 : Shape := ⟨4, ![1024, 2, 3, 4]⟩
abbrev S1024x2x12 : Shape := ⟨3, ![1024, 2, 12]⟩
abbrev S_ : Shape := ⟨0, ![]⟩
abbrev S1024x2x16 : Shape := ⟨3, ![1024, 2, 16]⟩
abbrev S1024x32 : Shape := ⟨2, ![1024, 32]⟩
abbrev S1024x128 : Shape := ⟨2, ![1024, 128]⟩
abbrev S1024x16 : Shape := ⟨2, ![1024, 16]⟩
abbrev S1024x512 : Shape := ⟨2, ![1024, 512]⟩
abbrev S1024x256 : Shape := ⟨2, ![1024, 256]⟩
abbrev S1024x3584 : Shape := ⟨2, ![1024, 3584]⟩
abbrev S128x1024 : Shape := ⟨2, ![128, 1024]⟩
abbrev S32768x512 : Shape := ⟨2, ![32768, 512]⟩
abbrev S32768x256 : Shape := ⟨2, ![32768, 256]⟩
abbrev S128x32768 : Shape := ⟨2, ![128, 32768]⟩
abbrev S32768x128 : Shape := ⟨2, ![32768, 128]⟩
abbrev S512x1024 : Shape := ⟨2, ![512, 1024]⟩
abbrev S512x512 : Shape := ⟨2, ![512, 512]⟩
abbrev S512x256 : Shape := ⟨2, ![512, 256]⟩
abbrev S128x512 : Shape := ⟨2, ![128, 512]⟩
abbrev S512x128 : Shape := ⟨2, ![512, 128]⟩

abbrev nBuf : Space → Nat
  | .hbm => 49
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1x1024x3368, .f32⟩
  | .hbm, ⟨2, _⟩ => ⟨S1024x3368, .f32⟩
  | .hbm, ⟨3, _⟩ => ⟨S1024x3368, .bf16⟩
  | .hbm, ⟨4, _⟩ => ⟨S1024x768, .bf16⟩
  | .hbm, ⟨5, _⟩ => ⟨S1024x64, .bf16⟩
  | .hbm, ⟨6, _⟩ => ⟨S1024x64, .bf16⟩
  | .hbm, ⟨7, _⟩ => ⟨S1024x64, .bf16⟩
  | .hbm, ⟨8, _⟩ => ⟨S1024x64, .bf16⟩
  | .hbm, ⟨9, _⟩ => ⟨S1024x64, .bf16⟩
  | .hbm, ⟨10, _⟩ => ⟨S1024x64, .bf16⟩
  | .hbm, ⟨11, _⟩ => ⟨S1024x64, .bf16⟩
  | .hbm, ⟨12, _⟩ => ⟨S1024x64, .bf16⟩
  | .hbm, ⟨13, _⟩ => ⟨S1024x24, .bf16⟩
  | .hbm, ⟨14, _⟩ => ⟨S1024x3x2x4, .bf16⟩
  | .hbm, ⟨15, _⟩ => ⟨S1024x2x3x4, .bf16⟩
  | .hbm, ⟨16, _⟩ => ⟨S1024x2x12, .bf16⟩
  | .hbm, ⟨17, _⟩ => ⟨S_, .i32⟩
  | .hbm, ⟨18, _⟩ => ⟨S_, .bf16⟩
  | .hbm, ⟨19, _⟩ => ⟨S1024x2x16, .bf16⟩
  | .hbm, ⟨20, _⟩ => ⟨S1024x32, .bf16⟩
  | .hbm, ⟨21, _⟩ => ⟨S_, .i32⟩
  | .hbm, ⟨22, _⟩ => ⟨S_, .bf16⟩
  | .hbm, ⟨23, _⟩ => ⟨S1024x128, .bf16⟩
  | .hbm, ⟨24, _⟩ => ⟨S1024x16, .bf16⟩
  | .hbm, ⟨25, _⟩ => ⟨S_, .i32⟩
  | .hbm, ⟨26, _⟩ => ⟨S_, .bf16⟩
  | .hbm, ⟨27, _⟩ => ⟨S1024x128, .bf16⟩
  | .hbm, ⟨28, _⟩ => ⟨S1024x512, .bf16⟩
  | .hbm, ⟨29, _⟩ => ⟨S_, .bf16⟩
  | .hbm, ⟨30, _⟩ => ⟨S1024x512, .bf16⟩
  | .hbm, ⟨31, _⟩ => ⟨S1024x512, .bf16⟩
  | .hbm, ⟨32, _⟩ => ⟨S1024x256, .bf16⟩
  | .hbm, ⟨33, _⟩ => ⟨S1024x512, .bf16⟩
  | .hbm, ⟨34, _⟩ => ⟨S1024x512, .bf16⟩
  | .hbm, ⟨35, _⟩ => ⟨S1024x512, .bf16⟩
  | .hbm, ⟨36, _⟩ => ⟨S1024x512, .bf16⟩
  | .hbm, ⟨37, _⟩ => ⟨S1024x3584, .bf16⟩
  | .hbm, ⟨38, _⟩ => ⟨S1024x128, .bf16⟩
  | .hbm, ⟨39, _⟩ => ⟨S128x1024, .bf16⟩
  | .hbm, ⟨40, _⟩ => ⟨S32768x512, .bf16⟩
  | .hbm, ⟨41, _⟩ => ⟨S32768x256, .f32⟩
  | .hbm, ⟨42, _⟩ => ⟨S32768x512, .bf16⟩
  | .hbm, ⟨43, _⟩ => ⟨S128x32768, .f32⟩
  | .hbm, ⟨44, _⟩ => ⟨S32768x512, .bf16⟩
  | .hbm, ⟨45, _⟩ => ⟨S32768x512, .f32⟩
  | .hbm, ⟨46, _⟩ => ⟨S32768x512, .bf16⟩
  | .hbm, ⟨47, _⟩ => ⟨S32768x128, .f32⟩
  | .hbm, ⟨48, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S128x1024, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S512x512, .bf16⟩
  | .local _ .vmem, ⟨9, _⟩ => ⟨S512x512, .bf16⟩
  | .local _ .vmem, ⟨10, _⟩ => ⟨S128x512, .f32⟩
  | .local _ .vmem, ⟨11, _⟩ => ⟨S128x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S512x512, .bf16⟩
  | .local _ .vmem, ⟨21, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_call2_v0 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev main_v31_4 : Ref sig .tc := ⟨.hbm, 44, rfl⟩
abbrev main_v31_5 : Ref sig .tc := ⟨.hbm, 45, rfl⟩
abbrev main_v31_6 : Ref sig .tc := ⟨.hbm, 46, rfl⟩
abbrev main_v31_7 : Ref sig .tc := ⟨.hbm, 47, rfl⟩
abbrev main_v31_8 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x1024 : Shape := ⟨2, ![32768, 1024]⟩
abbrev S1x1024x3368 : Shape := ⟨3, ![1, 1024, 3368]⟩
abbrev S1024x3368 : Shape := ⟨2, ![1024, 3368]⟩
abbrev S32768x3368 : Shape := ⟨2, ![32768, 3368]⟩
abbrev S32768x512 : Shape := ⟨2, ![32768, 512]⟩
abbrev S32768x768 : Shape := ⟨2, ![32768, 768]⟩
abbrev S32768x24 : Shape := ⟨2, ![32768, 24]⟩
abbrev S32768x256 : Shape := ⟨2, ![32768, 256]⟩
abbrev S32768x16 : Shape := ⟨2, ![32768, 16]⟩
abbrev S32768x3x2x2x64 : Shape := ⟨5, ![32768, 3, 2, 2, 64]⟩
abbrev S32768x2x2x2x64 : Shape := ⟨5, ![32768, 2, 2, 2, 64]⟩
abbrev S32768x3x2x4 : Shape := ⟨4, ![32768, 3, 2, 4]⟩
abbrev S2x3x4x32768 : Shape := ⟨4, ![2, 3, 4, 32768]⟩
abbrev S2x12x32768 : Shape := ⟨3, ![2, 12, 32768]⟩
abbrev S_ : Shape := ⟨0, ![]⟩
abbrev S2x16x32768 : Shape := ⟨3, ![2, 16, 32768]⟩
abbrev S32x32768 : Shape := ⟨2, ![32, 32768]⟩
abbrev S128x32768 : Shape := ⟨2, ![128, 32768]⟩
abbrev S32768x128 : Shape := ⟨2, ![32768, 128]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024x3368, .f32⟩
  | .hbm, ⟨2, _⟩ => ⟨S1024x3368, .f32⟩
  | .hbm, ⟨3, _⟩ => ⟨S32768x3368, .f32⟩
  | .hbm, ⟨4, _⟩ => ⟨S32768x512, .f32⟩
  | .hbm, ⟨5, _⟩ => ⟨S32768x768, .f32⟩
  | .hbm, ⟨6, _⟩ => ⟨S32768x24, .f32⟩
  | .hbm, ⟨7, _⟩ => ⟨S32768x512, .f32⟩
  | .hbm, ⟨8, _⟩ => ⟨S32768x256, .f32⟩
  | .hbm, ⟨9, _⟩ => ⟨S32768x256, .f32⟩
  | .hbm, ⟨10, _⟩ => ⟨S32768x512, .f32⟩
  | .hbm, ⟨11, _⟩ => ⟨S32768x16, .f32⟩
  | .hbm, ⟨12, _⟩ => ⟨S32768x512, .f32⟩
  | .hbm, ⟨13, _⟩ => ⟨S32768x3x2x2x64, .f32⟩
  | .hbm, ⟨14, _⟩ => ⟨S32768x2x2x2x64, .f32⟩
  | .hbm, ⟨15, _⟩ => ⟨S32768x2x2x2x64, .f32⟩
  | .hbm, ⟨16, _⟩ => ⟨S32768x3x2x4, .f32⟩
  | .hbm, ⟨17, _⟩ => ⟨S2x3x4x32768, .f32⟩
  | .hbm, ⟨18, _⟩ => ⟨S2x12x32768, .f32⟩
  | .hbm, ⟨19, _⟩ => ⟨S_, .i32⟩
  | .hbm, ⟨20, _⟩ => ⟨S_, .f32⟩
  | .hbm, ⟨21, _⟩ => ⟨S2x16x32768, .f32⟩
  | .hbm, ⟨22, _⟩ => ⟨S32x32768, .f32⟩
  | .hbm, ⟨23, _⟩ => ⟨S_, .f32⟩
  | .hbm, ⟨24, _⟩ => ⟨S32768x512, .f32⟩
  | .hbm, ⟨25, _⟩ => ⟨S32768x512, .f32⟩
  | .hbm, ⟨26, _⟩ => ⟨S32768x512, .bf16⟩
  | .hbm, ⟨27, _⟩ => ⟨S32768x256, .f32⟩
  | .hbm, ⟨28, _⟩ => ⟨S32768x512, .f32⟩
  | .hbm, ⟨29, _⟩ => ⟨S32768x512, .bf16⟩
  | .hbm, ⟨30, _⟩ => ⟨S_, .i32⟩
  | .hbm, ⟨31, _⟩ => ⟨S_, .f32⟩
  | .hbm, ⟨32, _⟩ => ⟨S128x32768, .f32⟩
  | .hbm, ⟨33, _⟩ => ⟨S32768x512, .f32⟩
  | .hbm, ⟨34, _⟩ => ⟨S32768x512, .f32⟩
  | .hbm, ⟨35, _⟩ => ⟨S_, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .bf16⟩
  | .hbm, ⟨43, _⟩ => ⟨S32768x512, .f32⟩
  | .hbm, ⟨44, _⟩ => ⟨S32768x512, .bf16⟩
  | .hbm, ⟨45, _⟩ => ⟨S_, .i32⟩
  | .hbm, ⟨46, _⟩ => ⟨S_, .f32⟩
  | .hbm, ⟨47, _⟩ => ⟨S32768x128, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S_, .f32⟩
  | .hbm, ⟨54, _⟩ => ⟨S32768x512, .f32⟩
  | .hbm, ⟨55, _⟩ => ⟨S32768x512, .f32⟩
  | .hbm, ⟨56, _⟩ => ⟨S32768x512, .f32⟩
  | .hbm, ⟨57, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_0 : Ref sig .tc := ⟨.hbm, 30, rfl⟩
abbrev main_call1_v0 : Ref sig .tc := ⟨.hbm, 31, rfl⟩
abbrev main_v25 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_1 : Ref sig .tc := ⟨.hbm, 45, rfl⟩
abbrev main_call3_v0 : Ref sig .tc := ⟨.hbm, 46, rfl⟩
abbrev main_v30 : Ref sig .tc := ⟨.hbm, 47, rfl⟩
abbrev main_call4_v0 : Ref sig .tc := ⟨.hbm, 48, rfl⟩
abbrev main_call4_v1 : Ref sig .tc := ⟨.hbm, 49, rfl⟩
abbrev main_call4_cst : Ref sig .tc := ⟨.hbm, 50, rfl⟩
abbrev main_call4_v2 : Ref sig .tc := ⟨.hbm, 51, rfl⟩
abbrev main_call4_v3 : Ref sig .tc := ⟨.hbm, 52, rfl⟩
abbrev main_call4_cst_0 : Ref sig .tc := ⟨.hbm, 53, rfl⟩
abbrev main_call4_v4 : Ref sig .tc := ⟨.hbm, 54, rfl⟩
abbrev main_call4_v5 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]
-- ==== Kernel4.lean ====
abbrev S32768x512 : Shape := ⟨2, ![32768, 512]⟩
abbrev S32768x1024 : Shape := ⟨2, ![32768, 1024]⟩
abbrev S1x1024x1024 : Shape := ⟨3, ![1, 1024, 1024]⟩
abbrev S1x1024 : Shape := ⟨2, ![1, 1024]⟩
abbrev S1x1024x1696 : Shape := ⟨3, ![1, 1024, 1696]⟩
abbrev S1x384 : Shape := ⟨2, ![1, 384]⟩
abbrev S1x384x1536 : Shape := ⟨3, ![1, 384, 1536]⟩
abbrev S1x256 : Shape := ⟨2, ![1, 256]⟩
abbrev S1x256x2048 : Shape := ⟨3, ![1, 256, 2048]⟩
abbrev S1024x1696 : Shape := ⟨2, ![1024, 1696]⟩
abbrev S384x1536 : Shape := ⟨2, ![384, 1536]⟩
abbrev S256x2048 : Shape := ⟨2, ![256, 2048]⟩
abbrev S_ : Shape := ⟨0, ![]⟩
abbrev S1024x64 : Shape := ⟨2, ![1024, 64]⟩
abbrev S1024x32 : Shape := ⟨2, ![1024, 32]⟩
abbrev S1024x640 : Shape := ⟨2, ![1024, 640]⟩
abbrev S1024x1024 : Shape := ⟨2, ![1024, 1024]⟩
abbrev S1024x1792 : Shape := ⟨2, ![1024, 1792]⟩
abbrev S384x16x96 : Shape := ⟨3, ![384, 16, 96]⟩
abbrev S384x16x32 : Shape := ⟨3, ![384, 16, 32]⟩
abbrev S384x16x128 : Shape := ⟨3, ![384, 16, 128]⟩
abbrev S384x2048 : Shape := ⟨2, ![384, 2048]⟩
abbrev S256x16x128 : Shape := ⟨3, ![256, 16, 128]⟩
abbrev S256x16x64 : Shape := ⟨3, ![256, 16, 64]⟩
abbrev S256x1024 : Shape := ⟨2, ![256, 1024]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S1024 : Shape := ⟨1, ![1024]⟩
abbrev S384 : Shape := ⟨1, ![384]⟩
abbrev S256 : Shape := ⟨1, ![256]⟩
abbrev S32768x2048 : Shape := ⟨2, ![32768, 2048]⟩
abbrev S32768x128 : Shape := ⟨2, ![32768, 128]⟩
abbrev S512x512 : Shape := ⟨2, ![512, 512]⟩
abbrev S512x1024 : Shape := ⟨2, ![512, 1024]⟩
abbrev S512x128 : Shape := ⟨2, ![512, 128]⟩
abbrev S512x2048 : Shape := ⟨2, ![512, 2048]⟩
abbrev S256x512 : Shape := ⟨2, ![256, 512]⟩
abbrev S256x1 : Shape := ⟨2, ![256, 1]⟩
abbrev S1024x384 : Shape := ⟨2, ![1024, 384]⟩
abbrev S256x384 : Shape := ⟨2, ![256, 384]⟩
abbrev S1024x256 : Shape := ⟨2, ![1024, 256]⟩
abbrev S256x256 : Shape := ⟨2, ![256, 256]⟩
abbrev S1024x128 : Shape := ⟨2, ![1024, 128]⟩
abbrev S256x128 : Shape := ⟨2, ![256, 128]⟩
abbrev S1024x512 : Shape := ⟨2, ![1024, 512]⟩
abbrev S384x512 : Shape := ⟨2, ![384, 512]⟩

abbrev nBuf : Space → Nat
  | .hbm => 113
  | .vmem => 41
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x1696, .f32⟩
  | .hbm, ⟨8, _⟩ => ⟨S1x384, .f32⟩
  | .hbm, ⟨9, _⟩ => ⟨S1x384x1536, .f32⟩
  | .hbm, ⟨10, _⟩ => ⟨S1x256, .f32⟩
  | .hbm, ⟨11, _⟩ => ⟨S1x256x2048, .f32⟩
  | .hbm, ⟨12, _⟩ => ⟨S1024x1696, .f32⟩
  | .hbm, ⟨13, _⟩ => ⟨S384x1536, .f32⟩
  | .hbm, ⟨14, _⟩ => ⟨S256x2048, .f32⟩
  | .hbm, ⟨15, _⟩ => ⟨S1024x1696, .bf16⟩
  | .hbm, ⟨16, _⟩ => ⟨S384x1536, .bf16⟩
  | .hbm, ⟨17, _⟩ => ⟨S256x2048, .bf16⟩
  | .hbm, ⟨18, _⟩ => ⟨S_, .bf16⟩
  | .hbm, ⟨19, _⟩ => ⟨S1024x64, .bf16⟩
  | .hbm, ⟨20, _⟩ => ⟨S_, .bf16⟩
  | .hbm, ⟨21, _⟩ => ⟨S1024x32, .bf16⟩
  | .hbm, ⟨22, _⟩ => ⟨S1024x640, .bf16⟩
  | .hbm, ⟨23, _⟩ => ⟨S1024x32, .bf16⟩
  | .hbm, ⟨24, _⟩ => ⟨S1024x1024, .bf16⟩
  | .hbm, ⟨25, _⟩ => ⟨S1024x1792, .bf16⟩
  | .hbm, ⟨26, _⟩ => ⟨S384x16x96, .bf16⟩
  | .hbm, ⟨27, _⟩ => ⟨S_, .bf16⟩
  | .hbm, ⟨28, _⟩ => ⟨S384x16x32, .bf16⟩
  | .hbm, ⟨29, _⟩ => ⟨S384x16x128, .bf16⟩
  | .hbm, ⟨30, _⟩ => ⟨S384x2048, .bf16⟩
  | .hbm, ⟨31, _⟩ => ⟨S256x16x128, .bf16⟩
  | .hbm, ⟨32, _⟩ => ⟨S256x16x64, .bf16⟩
  | .hbm, ⟨33, _⟩ => ⟨S256x1024, .bf16⟩
  | .hbm, ⟨34, _⟩ => ⟨S256x16x64, .bf16⟩
  | .hbm, ⟨35, _⟩ => ⟨S256x1024, .bf16⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S2048, .f32⟩
  | .hbm, ⟨48, _⟩ => ⟨S2048x1, .f32⟩
  | .hbm, ⟨49, _⟩ => ⟨S1x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x16, .f32⟩
  | .hbm, ⟨54, _⟩ => ⟨S2048x16, .f32⟩
  | .hbm, ⟨55, _⟩ => ⟨S_, .f32⟩
  | .hbm, ⟨56, _⟩ => ⟨S2048x16, .f32⟩
  | .hbm, ⟨57, _⟩ => ⟨S_, .f32⟩
  | .hbm, ⟨58, _⟩ => ⟨S2048x32, .f32⟩
  | .hbm, ⟨59, _⟩ => ⟨S_, .f32⟩
  | .hbm, ⟨60, _⟩ => ⟨S2048x64, .f32⟩
  | .hbm, ⟨61, _⟩ => ⟨S_, .f32⟩
  | .hbm, ⟨62, _⟩ => ⟨S2048x64, .f32⟩
  | .hbm, ⟨63, _⟩ => ⟨S_, .f32⟩
  | .hbm, ⟨64, _⟩ => ⟨S2048x16, .f32⟩
  | .hbm, ⟨65, _⟩ => ⟨S2048x16, .f32⟩
  | .hbm, ⟨66, _⟩ => ⟨S_, .f32⟩
  | .hbm, ⟨67, _⟩ => ⟨S2048x16, .f32⟩
  | .hbm, ⟨68, _⟩ => ⟨S2048x16, .f32⟩
  | .hbm, ⟨69, _⟩ => ⟨S2048x128, .f32⟩
  | .hbm, ⟨70, _⟩ => ⟨S2048x16, .f32⟩
  | .hbm, ⟨71, _⟩ => ⟨S_, .f32⟩
  | .hbm, ⟨72, _⟩ => ⟨S2048x16, .f32⟩
  | .hbm, ⟨73, _⟩ => ⟨S2048x16, .f32⟩
  | .hbm, ⟨74, _⟩ => ⟨S2048x128, .f32⟩
  | .hbm, ⟨75, _⟩ => ⟨S_, .f32⟩
  | .hbm, ⟨76, _⟩ => ⟨S2048x16, .f32⟩
  | .hbm, ⟨77, _⟩ => ⟨S2048x16, .f32⟩
  | .hbm, ⟨78, _⟩ => ⟨S2048x128, .f32⟩
  | .hbm, ⟨79, _⟩ => ⟨S_, .f32⟩
  | .hbm, ⟨80, _⟩ => ⟨S2048x64, .f32⟩
  | .hbm, ⟨81, _⟩ => ⟨S_, .f32⟩
  | .hbm, ⟨82, _⟩ => ⟨S2048x16, .f32⟩
  | .hbm, ⟨83, _⟩ => ⟨S2048x16, .f32⟩
  | .hbm, ⟨84, _⟩ => ⟨S_, .f32⟩
  | .hbm, ⟨85, _⟩ => ⟨S2048x16, .f32⟩
  | .hbm, ⟨86, _⟩ => ⟨S2048x16, .f32⟩
  | .hbm, ⟨87, _⟩ => ⟨S2048x128, .f32⟩
  | .hbm, ⟨88, _⟩ => ⟨S2048x16, .f32⟩
  | .hbm, ⟨89, _⟩ => ⟨S_, .f32⟩
  | .hbm, ⟨90, _⟩ => ⟨S2048x16, .f32⟩
  | .hbm, ⟨91, _⟩ => ⟨S2048x16, .f32⟩
  | .hbm, ⟨92, _⟩ => ⟨S2048x128, .f32⟩
  | .hbm, ⟨93, _⟩ => ⟨S_, .f32⟩
  | .hbm, ⟨94, _⟩ => ⟨S2048x16, .f32⟩
  | .hbm, ⟨95, _⟩ => ⟨S2048x16, .f32⟩
  | .hbm, ⟨96, _⟩ => ⟨S2048x128, .f32⟩
  | .hbm, ⟨97, _⟩ => ⟨S1024x1024, .f32⟩
  | .hbm, ⟨98, _⟩ => ⟨S1024x1024, .bf16⟩
  | .hbm, ⟨99, _⟩ => ⟨S1024, .f32⟩
  | .hbm, ⟨100, _⟩ => ⟨S1x1024, .f32⟩
  | .hbm, ⟨101, _⟩ => ⟨S1024, .f32⟩
  | .hbm, ⟨102, _⟩ => ⟨S1x1024, .f32⟩
  | .hbm, ⟨103, _⟩ => ⟨S384, .f32⟩
  | .hbm, ⟨104, _⟩ => ⟨S1x384, .f32⟩
  | .hbm, ⟨105, _⟩ => ⟨S256, .f32⟩
  | .hbm, ⟨106, _⟩ => ⟨S1x256, .f32⟩
  | .hbm, ⟨107, _⟩ => ⟨S32768x1024, .f32⟩
  | .hbm, ⟨108, _⟩ => ⟨S32768x2048, .bf16⟩
  | .hbm, ⟨109, _⟩ => ⟨S32768x1024, .bf16⟩
  | .hbm, ⟨110, _⟩ => ⟨S32768x128, .bf16⟩
  | .hbm, ⟨111, _⟩ => ⟨S32768x1024, .bf16⟩
  | .hbm, ⟨112, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1792, .bf16⟩
  | .local _ .vmem, ⟨12, _⟩ => ⟨S384x2048, .bf16⟩
  | .local _ .vmem, ⟨13, _⟩ => ⟨S256x1024, .bf16⟩
  | .local _ .vmem, ⟨14, _⟩ => ⟨S256x1024, .bf16⟩
  | .local _ .vmem, ⟨15, _⟩ => ⟨S1x384, .f32⟩
  | .local _ .vmem, ⟨16, _⟩ => ⟨S1x256, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x1024, .f32⟩
  | .local _ .vmem, ⟨30, _⟩ => ⟨S512x1024, .f32⟩
  | .local _ .vmem, ⟨31, _⟩ => ⟨S512x2048, .bf16⟩
  | .local _ .vmem, ⟨32, _⟩ => ⟨S512x2048, .bf16⟩
  | .local _ .vmem, ⟨33, _⟩ => ⟨S512x1024, .bf16⟩
  | .local _ .vmem, ⟨34, _⟩ => ⟨S512x1024, .bf16⟩
  | .local _ .vmem, ⟨35, _⟩ => ⟨S512x128, .bf16⟩
  | .local _ .vmem, ⟨36, _⟩ => ⟨S512x128, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_17 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76_0 : Ref sig .tc := ⟨.hbm, 107, rfl⟩
abbrev main_v76_1 : Ref sig .tc := ⟨.hbm, 108, rfl⟩
abbrev main_v76_2 : Ref sig .tc := ⟨.hbm, 109, rfl⟩
abbrev main_v76_3 : Ref sig .tc := ⟨.hbm, 110, rfl⟩
abbrev main_v76_4 : Ref sig .tc := ⟨.hbm, 111, rfl⟩
abbrev main_v76_5 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_16 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_17 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_18 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1792 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference4Ideal.lean ====
abbrev S32768x512 : Shape := ⟨2, ![32768, 512]⟩
abbrev S32768x1024 : Shape := ⟨2, ![32768, 1024]⟩
abbrev S1x1024x1024 : Shape := ⟨3, ![1, 1024, 1024]⟩
abbrev S1x1024 : Shape := ⟨2, ![1, 1024]⟩
abbrev S1x1024x1696 : Shape := ⟨3, ![1, 1024, 1696]⟩
abbrev S1x384 : Shape := ⟨2, ![1, 384]⟩
abbrev S1x384x1536 : Shape := ⟨3, ![1, 384, 1536]⟩
abbrev S1x256 : Shape := ⟨2, ![1, 256]⟩
abbrev S1x256x2048 : Shape := ⟨3, ![1, 256, 2048]⟩
abbrev S1024x1024 : Shape := ⟨2, ![1024, 1024]⟩
abbrev S_ : Shape := ⟨0, ![]⟩
abbrev S1024 : Shape := ⟨1, ![1024]⟩
abbrev S32768 : Shape := ⟨1, ![32768]⟩
abbrev S32768x1 : Shape := ⟨2, ![32768, 1]⟩
abbrev S1024x1696 : Shape := ⟨2, ![1024, 1696]⟩
abbrev S32768x1696 : Shape := ⟨2, ![32768, 1696]⟩
abbrev S32768x384 : Shape := ⟨2, ![32768, 384]⟩
abbrev S32768x256 : Shape := ⟨2, ![32768, 256]⟩
abbrev S32768x32 : Shape := ⟨2, ![32768, 32]⟩
abbrev S2048 : Shape := ⟨1, ![2048]⟩
abbrev S384 : Shape := ⟨1, ![384]⟩
abbrev S384x1536 : Shape := ⟨2, ![384, 1536]⟩
abbrev S32768x1536 : Shape := ⟨2, ![32768, 1536]⟩
abbrev S16x2048x16x96 : Shape := ⟨4, ![16, 2048, 16, 96]⟩
abbrev S16x2048x16x64 : Shape := ⟨4, ![16, 2048, 16, 64]⟩
abbrev S16x2048x16x32 : Shape := ⟨4, ![16, 2048, 16, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x16x16 : Shape := ⟨4, ![16, 2048, 16, 16]⟩
abbrev S1x2048x1x16 : Shape := ⟨4, ![1, 2048, 1, 16]⟩
abbrev S256 : Shape := ⟨1, ![256]⟩
abbrev S256x2048 : Shape := ⟨2, ![256, 2048]⟩
abbrev S32768x2048 : Shape := ⟨2, ![32768, 2048]⟩
abbrev S16x2048x16x128 : Shape := ⟨4, ![16, 2048, 16, 128]⟩
abbrev S16x2048x32 : Shape := ⟨3, ![16, 2048, 32]⟩
abbrev S16x2048x16 : Shape := ⟨3, ![16, 2048, 16]⟩
abbrev S1x2048x16 : Shape := ⟨3, ![1, 2048, 16]⟩
abbrev S32768x128 : Shape := ⟨2, ![32768, 128]⟩

abbrev nBuf : Space → Nat
  | .hbm => 206
  | .vmem => 0
  | .smem => 0
  | _ => 0

abbrev hbmTy0_0 (i : Nat) : BufTy := match i % 128 with
  | 0 => ⟨S32768x512, .bf16⟩
  | 1 => ⟨S32768x512, .bf16⟩
  | 2 => ⟨S32768x512, .bf16⟩
  | 3 => ⟨S32768x1024, .f32⟩
  | 4 => ⟨S1x1024x1024, .f32⟩
  | 5 => ⟨S1x1024, .f32⟩
  | 6 => ⟨S1x1024, .f32⟩
  | 7 => ⟨S1x1024x1696, .f32⟩
  | 8 => ⟨S1x384, .f32⟩
  | 9 => ⟨S1x384x1536, .f32⟩
  | 10 => ⟨S1x256, .f32⟩
  | 11 => ⟨S1x256x2048, .f32⟩
  | 12 => ⟨S32768x512, .f32⟩
  | 13 => ⟨S32768x512, .f32⟩
  | 14 => ⟨S32768x512, .f32⟩
  | 15 => ⟨S32768x512, .f32⟩
  | 16 => ⟨S32768x1024, .f32⟩
  | 17 => ⟨S1024x1024, .f32⟩
  | 18 => ⟨S32768x1024, .f32⟩
  | 19 => ⟨S_, .f32⟩
  | 20 => ⟨S32768x1024, .f32⟩
  | 21 => ⟨S32768x1024, .f32⟩
  | 22 => ⟨S32768x1024, .f32⟩
  | 23 => ⟨S1024, .f32⟩
  | 24 => ⟨S1024, .f32⟩
  | 25 => ⟨S_, .f32⟩
  | 26 => ⟨S32768, .f32⟩
  | 27 => ⟨S32768x1, .f32⟩
  | 28 => ⟨S_, .f32⟩
  | 29 => ⟨S32768x1, .f32⟩
  | 30 => ⟨S32768x1, .f32⟩
  | 31 => ⟨S32768x1024, .f32⟩
  | 32 => ⟨S32768x1024, .f32⟩
  | 33 => ⟨S32768x1024, .f32⟩
  | 34 => ⟨S_, .f32⟩
  | 35 => ⟨S32768, .f32⟩
  | 36 => ⟨S32768x1, .f32⟩
  | 37 => ⟨S_, .f32⟩
  | 38 => ⟨S32768x1, .f32⟩
  | 39 => ⟨S32768x1, .f32⟩
  | 40 => ⟨S32768x1024, .f32⟩
  | 41 => ⟨S32768x1024, .f32⟩
  | 42 => ⟨S_, .f32⟩
  | 43 => ⟨S32768x1, .f32⟩
  | 44 => ⟨S32768x1, .f32⟩
  | 45 => ⟨S32768x1, .f32⟩
  | 46 => ⟨S32768x1024, .f32⟩
  | 47 => ⟨S32768x1024, .f32⟩
  | 48 => ⟨S1x1024, .f32⟩
  | 49 => ⟨S32768x1024, .f32⟩
  | 50 => ⟨S32768x1024, .f32⟩
  | 51 => ⟨S1x1024, .f32⟩
  | 52 => ⟨S32768x1024, .f32⟩
  | 53 => ⟨S32768x1024, .f32⟩
  | 54 => ⟨S1024x1696, .f32⟩
  | 55 => ⟨S32768x1696, .f32⟩
  | 56 => ⟨S32768x384, .f32⟩
  | 57 => ⟨S32768x256, .f32⟩
  | 58 => ⟨S32768x32, .f32⟩
  | 59 => ⟨S32768x1024, .f32⟩
  | 60 => ⟨S2048, .f32⟩
  | 61 => ⟨S384, .f32⟩
  | 62 => ⟨S32768x384, .f32⟩
  | 63 => ⟨S_, .f32⟩
  | 64 => ⟨S32768, .f32⟩
  | 65 => ⟨S32768x1, .f32⟩
  | 66 => ⟨S_, .f32⟩
  | 67 => ⟨S32768x1, .f32⟩
  | 68 => ⟨S32768x1, .f32⟩
  | 69 => ⟨S_, .f32⟩
  | 70 => ⟨S32768x1, .f32⟩
  | 71 => ⟨S32768x1, .f32⟩
  | 72 => ⟨S32768x1, .f32⟩
  | 73 => ⟨S32768x384, .f32⟩
  | 74 => ⟨S32768x384, .f32⟩
  | 75 => ⟨S1x384, .f32⟩
  | 76 => ⟨S32768x384, .f32⟩
  | 77 => ⟨S32768x384, .f32⟩
  | 78 => ⟨S384x1536, .f32⟩
  | 79 => ⟨S32768x1536, .f32⟩
  | 80 => ⟨S16x2048x16x96, .f32⟩
  | 81 => ⟨S16x2048x16x64, .f32⟩
  | 82 => ⟨S16x2048x16x32, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S16, .f32⟩
  | 94 => ⟨S2048x1, .f32⟩
  | 95 => ⟨S1x16, .f32⟩
  | 96 => ⟨S2048x16, .f32⟩
  | 97 => ⟨S2048x16, .f32⟩
  | 98 => ⟨S2048x16, .f32⟩
  | 99 => ⟨S2048x16, .f32⟩
  | 100 => ⟨S2048x1x16, .f32⟩
  | 101 => ⟨S2048x16, .f32⟩
  | 102 => ⟨S2048x1x16, .f32⟩
  | 103 => ⟨S16x2048x16x16, .f32⟩
  | 104 => ⟨S16x2048x16x16, .f32⟩
  | 105 => ⟨S1x2048x1x16, .f32⟩
  | 106 => ⟨S16x2048x16x16, .f32⟩
  | 107 => ⟨S16x2048x16x16, .f32⟩
  | 108 => ⟨S1x2048x1x16, .f32⟩
  | 109 => ⟨S16x2048x16x16, .f32⟩
  | 110 => ⟨S16x2048x16x16, .f32⟩
  | 111 => ⟨S16x2048x16x16, .f32⟩
  | 112 => ⟨S1x2048x1x16, .f32⟩
  | 113 => ⟨S16x2048x16x16, .f32⟩
  | 114 => ⟨S16x2048x16x16, .f32⟩
  | 115 => ⟨S1x2048x1x16, .f32⟩
  | 116 => ⟨S16x2048x16x16, .f32⟩
  | 117 => ⟨S16x2048x16x16, .f32⟩
  | 118 => ⟨S16x2048x16x16, .f32⟩
  | 119 => ⟨S16x2048x16x32, .f32⟩
  | 120 => ⟨S16x2048x16x96, .f32⟩
  | 121 => ⟨S_, .f32⟩
  | 122 => ⟨S16x2048x16x96, .f32⟩
  | 123 => ⟨S16x2048x16x96, .f32⟩
  | 124 => ⟨S256, .f32⟩
  | 125 => ⟨S32768x256, .f32⟩
  | 126 => ⟨S_, .f32⟩
  | 127 => ⟨S32768, .f32⟩
  | _ => ⟨S32768x512, .bf16⟩

abbrev hbmTy0_1 (i : Nat) : BufTy := match i % 128 with
  | 0 => ⟨S32768x1, .f32⟩
  | 1 => ⟨S_, .f32⟩
  | 2 => ⟨S32768x1, .f32⟩
  | 3 => ⟨S32768x1, .f32⟩
  | 4 => ⟨S_, .f32⟩
  | 5 => ⟨S32768x1, .f32⟩
  | 6 => ⟨S32768x1, .f32⟩
  | 7 => ⟨S32768x1, .f32⟩
  | 8 => ⟨S32768x256, .f32⟩
  | 9 => ⟨S32768x256, .f32⟩
  | 10 => ⟨S1x256, .f32⟩
  | 11 => ⟨S32768x256, .f32⟩
  | 12 => ⟨S32768x256, .f32⟩
  | 13 => ⟨S256x2048, .f32⟩
  | 14 => ⟨S32768x2048, .f32⟩
  | 15 => ⟨S16x2048x16x128, .f32⟩
  | 16 => ⟨S16x2048x32, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S2048x1, .f32⟩
  | 29 => ⟨S1x16, .f32⟩
  | 30 => ⟨S2048x16, .f32⟩
  | 31 => ⟨S2048x16, .f32⟩
  | 32 => ⟨S2048x16, .f32⟩
  | 33 => ⟨S2048x16, .f32⟩
  | 34 => ⟨S2048x16, .f32⟩
  | 35 => ⟨S16x2048x16, .f32⟩
  | 36 => ⟨S16x2048x16, .f32⟩
  | 37 => ⟨S1x2048x16, .f32⟩
  | 38 => ⟨S16x2048x16, .f32⟩
  | 39 => ⟨S16x2048x16, .f32⟩
  | 40 => ⟨S1x2048x16, .f32⟩
  | 41 => ⟨S16x2048x16, .f32⟩
  | 42 => ⟨S16x2048x16, .f32⟩
  | 43 => ⟨S16x2048x16, .f32⟩
  | 44 => ⟨S1x2048x16, .f32⟩
  | 45 => ⟨S16x2048x16, .f32⟩
  | 46 => ⟨S16x2048x16, .f32⟩
  | 47 => ⟨S1x2048x16, .f32⟩
  | 48 => ⟨S16x2048x16, .f32⟩
  | 49 => ⟨S16x2048x16, .f32⟩
  | 50 => ⟨S16x2048x16, .f32⟩
  | 51 => ⟨S16x2048x32, .f32⟩
  | 52 => ⟨S_, .i32⟩
  | 53 => ⟨S_, .f32⟩
  | 54 => ⟨S16x2048x16x128, .f32⟩
  | 55 => ⟨S32768x2048, .f32⟩
  | 56 => ⟨S32768x2048, .bf16⟩
  | 57 => ⟨S16x2048x16x64, .f32⟩
  | 58 => ⟨S32768x1024, .f32⟩
  | 59 => ⟨S32768x1024, .bf16⟩
  | 60 => ⟨S32768x32, .f32⟩
  | 61 => ⟨S_, .i32⟩
  | 62 => ⟨S_, .f32⟩
  | 63 => ⟨S32768x128, .f32⟩
  | 64 => ⟨S32768x128, .bf16⟩
  | 65 => ⟨S16x2048x16x64, .f32⟩
  | 66 => ⟨S32768x1024, .f32⟩
  | 67 => ⟨S32768x1024, .bf16⟩
  | 68 => ⟨S32768x1024, .f32⟩
  | 69 => ⟨S32768x1024, .f32⟩
  | 70 => ⟨S_, .f32⟩
  | 71 => ⟨S32768x1024, .f32⟩
  | 72 => ⟨S32768x1024, .f32⟩
  | 73 => ⟨S_, .f32⟩
  | 74 => ⟨S32768x1024, .f32⟩
  | 75 => ⟨S32768x1024, .f32⟩
  | 76 => ⟨S32768x1024, .f32⟩
  | 77 => ⟨S32768x1024, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_11 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_12 : Ref sig .tc := ⟨.hbm, 126, rfl⟩
abbrev main_v101 : Ref sig .tc := ⟨.hbm, 127, rfl⟩
abbrev main_v102 : Ref sig .tc := ⟨.hbm, 128, rfl⟩
abbrev main_cst_13 : Ref sig .tc := ⟨.hbm, 129, rfl⟩
abbrev main_v103 : Ref sig .tc := ⟨.hbm, 130, rfl⟩
abbrev main_v104 : Ref sig .tc := ⟨.hbm, 131, rfl⟩
abbrev main_cst_14 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_15 : Ref sig .tc := ⟨.hbm, 146, rfl⟩
abbrev main_v118 : Ref sig .tc := ⟨.hbm, 147, rfl⟩
abbrev main_v119 : Ref sig .tc := ⟨.hbm, 148, rfl⟩
abbrev main_cst_16 : Ref sig .tc := ⟨.hbm, 149, rfl⟩
abbrev main_v120 : Ref sig .tc := ⟨.hbm, 150, rfl⟩
abbrev main_v121 : Ref sig .tc := ⟨.hbm, 151, rfl⟩
abbrev main_cst_17 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_c : Ref sig .tc := ⟨.hbm, 180, rfl⟩
abbrev main_call0_v0 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_c_18 : Ref sig .tc := ⟨.hbm, 189, rfl⟩
abbrev main_call1_v0 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_call2_v0 : Ref sig .tc := ⟨.hbm, 196, rfl⟩
abbrev main_call2_v1 : Ref sig .tc := ⟨.hbm, 197, rfl⟩
abbrev main_call2_cst : Ref sig .tc := ⟨.hbm, 198, rfl⟩
abbrev main_call2_v2 : Ref sig .tc := ⟨.hbm, 199, rfl⟩
abbrev main_call2_v3 : Ref sig .tc := ⟨.hbm, 200, rfl⟩
abbrev main_call2_cst_0 : Ref sig .tc := ⟨.hbm, 201, rfl⟩
abbrev main_call2_v4 : Ref sig .tc := ⟨.hbm, 202, rfl⟩
abbrev main_call2_v5 : Ref sig .tc := ⟨.hbm, 203, rfl⟩
abbrev main_v161 : Ref sig .tc := ⟨.hbm, 204, rfl⟩
abbrev main_v162 : Ref sig .tc := ⟨.hbm, 205, rfl⟩

abbrev nD : Nat := 1
abbrev τ : Topo := Topo.v7x

variable {F : FTy → Type} [FloatOps F]
-- ==== Proof.Words.lean ====
/- The words of the pipelined call's row-block loop, in closed form.

The loop carries nine counters. Before trip `k` of 64 they are: three copy-in counters at `k + 2` (at most 64), three
wait counters at `k`, the copy-out counter at `k`, the copy-out wait counter at `k - 1`, and the block coordinate `k`
(back at 0 after the last trip). Everything the body computes from them — conditions, ring slots, block offsets — is
listed here by finite checks over the 64 trips. -/
module

public import proofs.«01_k».proof.Defs
public import proofs.«01_k».proof.Proof.Gen.KernelIdeal.Loops
public import Idealize.ShloMosaic.Lib.Ring
public import Idealize.ShloMosaic.Lib.Ring.Trips

@[expose] public section

set_option maxRecDepth 16384

noncomputable section

namespace Cert.KernelIdeal.OddOut

open Idealize.ShloMosaic Idealize.ShloMosaic.TcCoe

/-- The copy-in counters before trip `k`. -/
def wIn (k : ℕ) : BitVec 32 := BitVec.ofNat 32 (min (k + 2) 64)
/-- The wait counters and the copy-out counter before trip `k`. -/
def wAt (k : ℕ) : BitVec 32 := BitVec.ofNat 32 k
/-- The copy-out wait counter before trip `k`. -/
def wBack (k : ℕ) : BitVec 32 := BitVec.ofNat 32 (k - 1)
/-- The block coordinate before trip `k`: it wraps to 0 after the last block. -/
def wBlk (k : ℕ) : BitVec 32 := BitVec.ofNat 32 (k % 64)

/-- The nine carried counters before trip `k`. -/
abbrev accAt (k : ℕ) : BitVec 32 × BitVec 32 × BitVec 32 × BitVec 32 × BitVec 32 × BitVec 32 × BitVec 32 × BitVec 32 × BitVec 32 :=
  (wIn k, wAt k, wIn k, wAt k, wIn k, wAt k, wAt k, wBack k, wBlk k)

/-- The first element of slot `s` of a ring buffer. -/
abbrev slotOff {n : ℕ} (s : Fin n) : Fin 3 → ℕ := ![s.val, 0, 0]
/-- The place of slot `s`'s semaphore. -/
abbrev semOff {n : ℕ} (s : Fin n) : Fin 1 → ℕ := ![s.val]
/-- The first element of row block `b`. -/
abbrev blkOff (b : Fin 64) : Fin 2 → ℕ := ![512 * b.val, 0]

theorem chk1_all : ∀ k : Fin k0_t1_loop.trips,
    k0_chk1 k (wIn k.val) (wAt k.val) (wIn k.val) (wAt k.val) (wIn k.val) (wAt k.val) (wAt k.val) (wBack k.val) (wBlk k.val) := by
  decide +kernel
theorem chk2_all : ∀ k : Fin k0_t1_loop.trips, k0_chk2 (wAt k.val) := by decide +kernel
theorem chk3_all : ∀ k : Fin k0_t1_loop.trips, k0_chk3 (wAt k.val) := by decide +kernel
theorem chk4_all : ∀ k : Fin k0_t1_loop.trips, k0_chk4 (wAt k.val) := by decide +kernel
theorem chk5_all : ∀ k : Fin k0_t1_loop.trips, k0_chk5 (wAt k.val) := by decide +kernel
theorem chk6_end : k0_chk6 (wBack 64) := by decide +kernel
theorem chk7_end : k0_chk7 (wBlk 64) := by decide +kernel

theorem cond4_iff : ∀ k : Fin k0_t1_loop.trips, k0_cond4 k (wBlk k.val) = if k.val + 2 < 64 then 1#1 else 0#1 := by decide +kernel
theorem cond5_iff : ∀ k : Fin k0_t1_loop.trips, k0_cond5 k (wBlk k.val) = if k.val + 2 < 64 then 1#1 else 0#1 := by decide +kernel
theorem cond6_iff : ∀ k : Fin k0_t1_loop.trips, k0_cond6 k (wBlk k.val) = if k.val + 2 < 64 then 1#1 else 0#1 := by decide +kernel
theorem cond7_all : ∀ k : Fin k0_t1_loop.trips, k0_cond7 k (wBlk k.val) = 1#1 := by decide +kernel
theorem cond8_all : ∀ k : Fin k0_t1_loop.trips, k0_cond8 k (wBlk k.val) = 1#1 := by decide +kernel
theorem cond9_all : ∀ k : Fin k0_t1_loop.trips, k0_cond9 k (wBlk k.val) = 1#1 := by decide +kernel
theorem cond14_all : ∀ k : Fin k0_t1_loop.trips, k0_cond14 k (wBlk k.val) = 1#1 := by decide +kernel
theorem cond18_iff : ∀ k : Fin k0_t1_loop.trips, k0_cond18 k (wBlk k.val) = if k.val = 0 then 0#1 else 1#1 := by decide +kernel

theorem off12_eq : ∀ k : Fin k0_t1_loop.trips, k.val + 2 < 64 → k0_off12 (wIn k.val) = semOff (Ring.sl 3 (k.val + 2)) := by decide +kernel
theorem off13_eq : ∀ k : Fin k0_t1_loop.trips, k.val + 2 < 64 → k0_off13 (wIn k.val) = slotOff (Ring.sl 3 (k.val + 2)) := by decide +kernel
theorem off14_eq : ∀ k : Fin k0_t1_loop.trips, k.val + 2 < 64 → k0_off14 (wBlk k.val) = blkOff (Ring.bk 64 (k.val + 2)) := by decide +kernel
theorem off15_eq : ∀ k : Fin k0_t1_loop.trips, k.val + 2 < 64 → k0_off15 (wIn k.val) = semOff (Ring.sl 3 (k.val + 2)) := by decide +kernel
theorem off16_eq : ∀ k : Fin k0_t1_loop.trips, k.val + 2 < 64 → k0_off16 (wIn k.val) = slotOff (Ring.sl 3 (k.val + 2)) := by decide +kernel
theorem off17_eq : ∀ k : Fin k0_t1_loop.trips, k.val + 2 < 64 → k0_off17 (wBlk k.val) = blkOff (Ring.bk 64 (k.val + 2)) := by decide +kernel
theorem off18_eq : ∀ k : Fin k0_t1_loop.trips, k.val + 2 < 64 → k0_off18 (wIn k.val) = semOff (Ring.sl 3 (k.val + 2)) := by decide +kernel
theorem off19_eq : ∀ k : Fin k0_t1_loop.trips, k.val + 2 < 64 → k0_off19 (wIn k.val) = slotOff (Ring.sl 3 (k.val + 2)) := by decide +kernel
theorem off20_eq : ∀ k : Fin k0_t1_loop.trips, k.val + 2 < 64 → k0_off20 (wBlk k.val) = blkOff (Ring.bk 64 (k.val + 2)) := by decide +kernel
theorem off21_eq : ∀ k : Fin k0_t1_loop.trips, k0_off21 (wAt k.val) = semOff (Ring.sl 3 k.val) := by decide +kernel
theorem off22_eq : ∀ k : Fin k0_t1_loop.trips, k0_off22 (wAt k.val) = slotOff (Ring.sl 3 k.val) := by decide +kernel
theorem off23_eq : ∀ k : Fin k0_t1_loop.trips, k0_off23 (wBlk k.val) = blkOff (Ring.bk 64 k.val) := by decide +kernel
theorem off24_eq : ∀ k : Fin k0_t1_loop.trips, k0_off24 (wAt k.val) = semOff (Ring.sl 3 k.val) := by decide +kernel
theorem off25_eq : ∀ k : Fin k0_t1_loop.trips, k0_off25 (wAt k.val) = slotOff (Ring.sl 3 k.val) := by decide +kernel
theorem off26_eq : ∀ k : Fin k0_t1_loop.trips, k0_off26 (wBlk k.val) = blkOff (Ring.bk 64 k.val) := by decide +kernel
theorem off27_eq : ∀ k : Fin k0_t1_loop.trips, k0_off27 (wAt k.val) = semOff (Ring.sl 3 k.val) := by decide +kernel
theorem off28_eq : ∀ k : Fin k0_t1_loop.trips, k0_off28 (wAt k.val) = slotOff (Ring.sl 3 k.val) := by decide +kernel
theorem off29_eq : ∀ k : Fin k0_t1_loop.trips, k0_off29 (wBlk k.val) = blkOff (Ring.bk 64 k.val) := by decide +kernel
theorem off30_eq : ∀ k : Fin k0_t1_loop.trips, k0_off30 (wAt k.val) = slotOff (Ring.sl 3 k.val) := by decide +kernel
theorem off31_eq : ∀ k : Fin k0_t1_loop.trips, k0_off31 (wAt k.val) = slotOff (Ring.sl 3 k.val) := by decide +kernel
theorem off32_eq : ∀ k : Fin k0_t1_loop.trips, k0_off32 (wAt k.val) = slotOff (Ring.sl 3 k.val) := by decide +kernel
theorem off33_eq : ∀ k : Fin k0_t1_loop.trips, k0_off33 (wAt k.val) = slotOff (Ring.sl 2 k.val) := by decide +kernel
theorem off34_eq : ∀ k : Fin k0_t1_loop.trips, k0_off34 (wAt k.val) = slotOff (Ring.sl 3 k.val) := by decide +kernel
theorem off35_eq : ∀ k : Fin k0_t1_loop.trips, k0_off35 (wAt k.val) = semOff (Ring.sl 2 k.val) := by decide +kernel
theorem off36_eq : ∀ k : Fin k0_t1_loop.trips, k0_off36 (wBlk k.val) = blkOff (Ring.bk 64 k.val) := by decide +kernel
theorem off37_eq : ∀ k : Fin k0_t1_loop.trips, k0_off37 (wAt k.val) = slotOff (Ring.sl 2 k.val) := by decide +kernel
theorem off38_eq : ∀ k : Fin k0_t1_loop.trips, ¬k.val = 0 → k0_off38 (wBack k.val) = semOff (Ring.sl 2 (k.val + 1)) := by decide +kernel
theorem off39_eq : ∀ k : Fin k0_t1_loop.trips, ¬k.val = 0 → k0_off39 (wBlk k.val) = blkOff (Ring.bk 64 (k.val - 1)) := by decide +kernel
theorem off40_eq : ∀ k : Fin k0_t1_loop.trips, ¬k.val = 0 → k0_off40 (wBack k.val) = slotOff (Ring.sl 2 (k.val + 1)) := by decide +kernel
theorem off41_end : k0_off41 (wBack 64) = semOff (Ring.sl 2 65) := by decide +kernel
theorem off42_end : k0_off42 (wBlk 64) = blkOff (Ring.bk 64 63) := by decide +kernel
theorem off43_end : k0_off43 (wBack 64) = slotOff (Ring.sl 2 65) := by decide +kernel

end Cert.KernelIdeal.OddOut

end
-- ==== Proof.Names.lean ====
/- Names for what the pipelined call moves: row block `b` of each operand and of the result in HBM, slot `s` of each
ring buffer in VMEM and that slot's semaphore; the equations saying the body's own slices are these; and the pieces of
state the loop's invariant is made of. -/
module

public import proofs.«01_k».proof.Proof.Words
public import proofs.«01_k».proof.Proof.Gen.KernelIdeal.Launch
public import proofs.«01_k».proof.Proof.Gen.KernelIdeal.Points
public import Idealize.ShloMosaic.Lib.Pipeline.KitQuiescent
public import Idealize.ShloMosaic.Lib.Affine
public import Idealize.ShloMosaic.Lib.Tactic

@[expose] public section

set_option maxRecDepth 16384

noncomputable section

namespace Cert.KernelIdeal.OddOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The resource algebra: the pipeline library's, beside the counters the kernel's own transfers ride on. -/
abbrev UU (nD : Nat) (τ : Topo) : Type := UR sig nD τ × Counters
local notation "𝕄" => MT nD τ sig Unit (Elt F) ℕ (UU nD τ) ℕ
/-- The pipeline library's part of it. -/
abbrev EP : Emb (UR sig nD τ) (MT nD τ sig Unit (Elt F) ℕ (UU nD τ) ℕ) := embL
/-- The run states no variant. -/
abbrev 𝒱₀ : Variants := Variants.none

/-! ## The arrays and ring buffers, whole -/

/-- The attention's output `o` in HBM. -/
abbrev oM : Memref sig .tc .hbm S32768x1024 .bf16 := Memref.whole main_arg0
/-- The gate `z` in HBM. -/
abbrev zM : Memref sig .tc .hbm S32768x1024 .bf16 := Memref.whole main_arg1
/-- The residual `x` in HBM. -/
abbrev xM : Memref sig .tc .hbm S32768x1024 .f32 := Memref.whole main_arg2
/-- The result in HBM. -/
abbrev yM : Memref sig .tc .hbm S32768x1024 .f32 := Memref.whole main_v6
/-- The ring of `o`. -/
abbrev oR : Memref sig .tc .vmem S3x512x1024 .bf16 := Memref.whole cc0_scoped0
/-- The ring of `z`. -/
abbrev zR : Memref sig .tc .vmem S3x512x1024 .bf16 := Memref.whole cc0_scoped2
/-- The ring of `x`. -/
abbrev xR : Memref sig .tc .vmem S3x512x1024 .f32 := Memref.whole cc0_scoped4
/-- The ring of the result. -/
abbrev yR : Memref sig .tc .vmem S2x512x1024 .f32 := Memref.whole cc0_scoped6

theorem blkOff_inb (b : Fin 64) : ∀ a, blkOff b a + S512x1024.size a ≤ S32768x1024.size a := by
  have := b.isLt; intro a; fin_cases a
  · show 512 * b.val + 512 ≤ 32768; omega
  · show 0 + 1024 ≤ 1024; omega
theorem slotOff3_inb (s : Fin 3) : ∀ a, slotOff s a + S1x512x1024.size a ≤ S3x512x1024.size a := by
  have := s.isLt; intro a; fin_cases a
  · show s.val + 1 ≤ 3; omega
  · show 0 + 512 ≤ 512; omega
  · show 0 + 1024 ≤ 1024; omega
theorem slotOff2_inb (s : Fin 2) : ∀ a, slotOff s a + S1x512x1024.size a ≤ S2x512x1024.size a := by
  have := s.isLt; intro a; fin_cases a
  · show s.val + 1 ≤ 2; omega
  · show 0 + 512 ≤ 512; omega
  · show 0 + 1024 ≤ 1024; omega
theorem semOff3_inb (s : Fin 3) : ∀ a, semOff s a + S1.size a ≤ S3.size a := by
  have := s.isLt; intro a; fin_cases a; show s.val + 1 ≤ 3; omega
theorem semOff2_inb (s : Fin 2) : ∀ a, semOff s a + S1.size a ≤ S2.size a := by
  have := s.isLt; intro a; fin_cases a; show s.val + 1 ≤ 2; omega

instance (s : Fin 3) : ClosedOff (slotOff s) := ⟨slotOff s, rfl⟩
instance (s : Fin 2) : ClosedOff (slotOff s) := ⟨slotOff s, rfl⟩
instance (b : Fin 64) : ClosedOff (blkOff b) := ⟨blkOff b, rfl⟩

/-! ### `o` -/

/-- Row block `b` of `o` in HBM. -/
def blkO (b : Fin 64) : Memref sig .tc .hbm S512x1024 .bf16 :=
  oM.slice (Rect.unit (s := S32768x1024) (blkOff b) S512x1024.size (blkOff_inb b)) (fun _ => rfl)
/-- Slot `s` of `o`'s ring. -/
def slotO (s : Fin 3) : Memref sig .tc .vmem S512x1024 .bf16 :=
  (oR.slice (Rect.unit (s := S3x512x1024) (slotOff s) S1x512x1024.size (slotOff3_inb s)) (fun _ => rfl)).squeeze S512x1024 squeezes_S1x512x1024_S512x1024
/-- Slot `s`'s semaphore in `o`'s ring. -/
def semO (s : Fin 3) : DmaSems sig S_ := (cc0_scoped1.slice (Rect.unit (s := S3) (semOff s) S1.size (semOff3_inb s))).squeeze S_ squeezes_S1_S_

theorem blkO_congr {off : Fin 2 → Nat} {b : Fin 64} (e : off = blkOff b) (hh hs) :
    oM.slice (Rect.unit (s := S32768x1024) off S512x1024.size hh) hs = blkO b := by subst e; rfl
theorem slotO_congr {off : Fin 3 → Nat} {s : Fin 3} (e : off = slotOff s) (hh hs) :
    (oR.slice (Rect.unit (s := S3x512x1024) off S1x512x1024.size hh) hs).squeeze S512x1024 squeezes_S1x512x1024_S512x1024 = slotO s :=
  congrArg (fun M : Memref sig .tc .vmem S1x512x1024 .bf16 => M.squeeze S512x1024 squeezes_S1x512x1024_S512x1024) (Memref.slice_unit_congr _ e _ _ _ _)
theorem semO_congr {off : Fin 1 → Nat} {s : Fin 3} (e : off = semOff s) (hh) :
    (cc0_scoped1.slice (Rect.unit (s := S3) off S1.size hh)).squeeze S_ squeezes_S1_S_ = semO s :=
  congrArg (fun A : DmaSems sig S1 => A.squeeze S_ squeezes_S1_S_) (SemArray.slice_unit_congr _ e _ _)

/-! ### `z` -/

/-- Row block `b` of `z` in HBM. -/
def blkZ (b : Fin 64) : Memref sig .tc .hbm S512x1024 .bf16 :=
  zM.slice (Rect.unit (s := S32768x1024) (blkOff b) S512x1024.size (blkOff_inb b)) (fun _ => rfl)
/-- Slot `s` of `z`'s ring. -/
def slotZ (s : Fin 3) : Memref sig .tc .vmem S512x1024 .bf16 :=
  (zR.slice (Rect.unit (s := S3x512x1024) (slotOff s) S1x512x1024.size (slotOff3_inb s)) (fun _ => rfl)).squeeze S512x1024 squeezes_S1x512x1024_S512x1024
/-- Slot `s`'s semaphore in `z`'s ring. -/
def semZ (s : Fin 3) : DmaSems sig S_ := (cc0_scoped3.slice (Rect.unit (s := S3) (semOff s) S1.size (semOff3_inb s))).squeeze S_ squeezes_S1_S_

theorem blkZ_congr {off : Fin 2 → Nat} {b : Fin 64} (e : off = blkOff b) (hh hs) :
    zM.slice (Rect.unit (s := S32768x1024) off S512x1024.size hh) hs = blkZ b := by subst e; rfl
theorem slotZ_congr {off : Fin 3 → Nat} {s : Fin 3} (e : off = slotOff s) (hh hs) :
    (zR.slice (Rect.unit (s := S3x512x1024) off S1x512x1024.size hh) hs).squeeze S512x1024 squeezes_S1x512x1024_S512x1024 = slotZ s :=
  congrArg (fun M : Memref sig .tc .vmem S1x512x1024 .bf16 => M.squeeze S512x1024 squeezes_S1x512x1024_S512x1024) (Memref.slice_unit_congr _ e _ _ _ _)
theorem semZ_congr {off : Fin 1 → Nat} {s : Fin 3} (e : off = semOff s) (hh) :
    (cc0_scoped3.slice (Rect.unit (s := S3) off S1.size hh)).squeeze S_ squeezes_S1_S_ = semZ s :=
  congrArg (fun A : DmaSems sig S1 => A.squeeze S_ squeezes_S1_S_) (SemArray.slice_unit_congr _ e _ _)

/-! ### `x` -/

/-- Row block `b` of `x` in HBM. -/
def blkX (b : Fin 64) : Memref sig .tc .hbm S512x1024 .f32 :=
  xM.slice (Rect.unit (s := S32768x1024) (blkOff b) S512x1024.size (blkOff_inb b)) (fun _ => rfl)
/-- Slot `s` of `x`'s ring. -/
def slotX (s : Fin 3) : Memref sig .tc .vmem S512x1024 .f32 :=
  (xR.slice (Rect.unit (s := S3x512x1024) (slotOff s) S1x512x1024.size (slotOff3_inb s)) (fun _ => rfl)).squeeze S512x1024 squeezes_S1x512x1024_S512x1024
/-- Slot `s`'s semaphore in `x`'s ring. -/
def semX (s : Fin 3) : DmaSems sig S_ := (cc0_scoped5.slice (Rect.unit (s := S3) (semOff s) S1.size (semOff3_inb s))).squeeze S_ squeezes_S1_S_

theorem blkX_congr {off : Fin 2 → Nat} {b : Fin 64} (e : off = blkOff b) (hh hs) :
    xM.slice (Rect.unit (s := S32768x1024) off S512x1024.size hh) hs = blkX b := by subst e; rfl
theorem slotX_congr {off : Fin 3 → Nat} {s : Fin 3} (e : off = slotOff s) (hh hs) :
    (xR.slice (Rect.unit (s := S3x512x1024) off S1x512x1024.size hh) hs).squeeze S512x1024 squeezes_S1x512x1024_S512x1024 = slotX s :=
  congrArg (fun M : Memref sig .tc .vmem S1x512x1024 .f32 => M.squeeze S512x1024 squeezes_S1x512x1024_S512x1024) (Memref.slice_unit_congr _ e _ _ _ _)
theorem semX_congr {off : Fin 1 → Nat} {s : Fin 3} (e : off = semOff s) (hh) :
    (cc0_scoped5.slice (Rect.unit (s := S3) off S1.size hh)).squeeze S_ squeezes_S1_S_ = semX s :=
  congrArg (fun A : DmaSems sig S1 => A.squeeze S_ squeezes_S1_S_) (SemArray.slice_unit_congr _ e _ _)

/-! ### `y` -/

/-- Row block `b` of `y` in HBM. -/
def blkY (b : Fin 64) : Memref sig .tc .hbm S512x1024 .f32 :=
  yM.slice (Rect.unit (s := S32768x1024) (blkOff b) S512x1024.size (blkOff_inb b)) (fun _ => rfl)
/-- Slot `s` of `y`'s ring. -/
def slotY (s : Fin 2) : Memref sig .tc .vmem S512x1024 .f32 :=
  (yR.slice (Rect.unit (s := S2x512x1024) (slotOff s) S1x512x1024.size (slotOff2_inb s)) (fun _ => rfl)).squeeze S512x1024 squeezes_S1x512x1024_S512x1024
/-- Slot `s`'s semaphore in `y`'s ring. -/
def semY (s : Fin 2) : DmaSems sig S_ := (cc0_scoped7.slice (Rect.unit (s := S2) (semOff s) S1.size (semOff2_inb s))).squeeze S_ squeezes_S1_S_

theorem blkY_congr {off : Fin 2 → Nat} {b : Fin 64} (e : off = blkOff b) (hh hs) :
    yM.slice (Rect.unit (s := S32768x1024) off S512x1024.size hh) hs = blkY b := by subst e; rfl
theorem slotY_congr {off : Fin 3 → Nat} {s : Fin 2} (e : off = slotOff s) (hh hs) :
    (yR.slice (Rect.unit (s := S2x512x1024) off S1x512x1024.size hh) hs).squeeze S512x1024 squeezes_S1x512x1024_S512x1024 = slotY s :=
  congrArg (fun M : Memref sig .tc .vmem S1x512x1024 .f32 => M.squeeze S512x1024 squeezes_S1x512x1024_S512x1024) (Memref.slice_unit_congr _ e _ _ _ _)
theorem semY_congr {off : Fin 1 → Nat} {s : Fin 2} (e : off = semOff s) (hh) :
    (cc0_scoped7.slice (Rect.unit (s := S2) off S1.size hh)).squeeze S_ squeezes_S1_S_ = semY s :=
  congrArg (fun A : DmaSems sig S1 => A.squeeze S_ squeezes_S1_S_) (SemArray.slice_unit_congr _ e _ _)

/-! ## The body's slices under these names: a trip's -/

@[sl_canon] theorem semO_in (k : Fin k0_t1_loop.trips) (h : k.val + 2 < 64) (hh) :
    (cc0_scoped1.slice (Rect.unit (s := S3) (k0_off12 (wIn k.val)) S1.size hh)).squeeze S_ squeezes_S1_S_ = semO (Ring.sl 3 (k.val + 2)) := semO_congr (off12_eq k h) _
@[sl_canon] theorem slotO_in (k : Fin k0_t1_loop.trips) (h : k.val + 2 < 64) (hh hs) :
    (oR.slice (Rect.unit (s := S3x512x1024) (k0_off13 (wIn k.val)) S1x512x1024.size hh) hs).squeeze S512x1024 squeezes_S1x512x1024_S512x1024 = slotO (Ring.sl 3 (k.val + 2)) := slotO_congr (off13_eq k h) _ _
@[sl_canon] theorem blkO_in (k : Fin k0_t1_loop.trips) (h : k.val + 2 < 64) (hh hs) :
    oM.slice (Rect.unit (s := S32768x1024) (k0_off14 (wBlk k.val)) S512x1024.size hh) hs = blkO (Ring.bk 64 (k.val + 2)) := blkO_congr (off14_eq k h) _ _
@[sl_canon] theorem semO_at (k : Fin k0_t1_loop.trips) (hh) :
    (cc0_scoped1.slice (Rect.unit (s := S3) (k0_off21 (wAt k.val)) S1.size hh)).squeeze S_ squeezes_S1_S_ = semO (Ring.sl 3 k.val) := semO_congr (off21_eq k) _
@[sl_canon] theorem slotO_at (k : Fin k0_t1_loop.trips) (hh hs) :
    (oR.slice (Rect.unit (s := S3x512x1024) (k0_off22 (wAt k.val)) S1x512x1024.size hh) hs).squeeze S512x1024 squeezes_S1x512x1024_S512x1024 = slotO (Ring.sl 3 k.val) := slotO_congr (off22_eq k) _ _
@[sl_canon] theorem blkO_at (k : Fin k0_t1_loop.trips) (hh hs) :
    oM.slice (Rect.unit (s := S32768x1024) (k0_off23 (wBlk k.val)) S512x1024.size hh) hs = blkO (Ring.bk 64 k.val) := blkO_congr (off23_eq k) _ _
@[sl_canon] theorem slotO_ld30 (k : Fin k0_t1_loop.trips) (hh hs) :
    (oR.slice (Rect.unit (s := S3x512x1024) (k0_off30 (wAt k.val)) S1x512x1024.size hh) hs).squeeze S512x1024 squeezes_S1x512x1024_S512x1024 = slotO (Ring.sl 3 k.val) := slotO_congr (off30_eq k) _ _
@[sl_canon] theorem semZ_in (k : Fin k0_t1_loop.trips) (h : k.val + 2 < 64) (hh) :
    (cc0_scoped3.slice (Rect.unit (s := S3) (k0_off15 (wIn k.val)) S1.size hh)).squeeze S_ squeezes_S1_S_ = semZ (Ring.sl 3 (k.val + 2)) := semZ_congr (off15_eq k h) _
@[sl_canon] theorem slotZ_in (k : Fin k0_t1_loop.trips) (h : k.val + 2 < 64) (hh hs) :
    (zR.slice (Rect.unit (s := S3x512x1024) (k0_off16 (wIn k.val)) S1x512x1024.size hh) hs).squeeze S512x1024 squeezes_S1x512x1024_S512x1024 = slotZ (Ring.sl 3 (k.val + 2)) := slotZ_congr (off16_eq k h) _ _
@[sl_canon] theorem blkZ_in (k : Fin k0_t1_loop.trips) (h : k.val + 2 < 64) (hh hs) :
    zM.slice (Rect.unit (s := S32768x1024) (k0_off17 (wBlk k.val)) S512x1024.size hh) hs = blkZ (Ring.bk 64 (k.val + 2)) := blkZ_congr (off17_eq k h) _ _
@[sl_canon] theorem semZ_at (k : Fin k0_t1_loop.trips) (hh) :
    (cc0_scoped3.slice (Rect.unit (s := S3) (k0_off24 (wAt k.val)) S1.size hh)).squeeze S_ squeezes_S1_S_ = semZ (Ring.sl 3 k.val) := semZ_congr (off24_eq k) _
@[sl_canon] theorem slotZ_at (k : Fin k0_t1_loop.trips) (hh hs) :
    (zR.slice (Rect.unit (s := S3x512x1024) (k0_off25 (wAt k.val)) S1x512x1024.size hh) hs).squeeze S512x1024 squeezes_S1x512x1024_S512x1024 = slotZ (Ring.sl 3 k.val) := slotZ_congr (off25_eq k) _ _
@[sl_canon] theorem blkZ_at (k : Fin k0_t1_loop.trips) (hh hs) :
    zM.slice (Rect.unit (s := S32768x1024) (k0_off26 (wBlk k.val)) S512x1024.size hh) hs = blkZ (Ring.bk 64 k.val) := blkZ_congr (off26_eq k) _ _
@[sl_canon] theorem slotZ_ld31 (k : Fin k0_t1_loop.trips) (hh hs) :
    (zR.slice (Rect.unit (s := S3x512x1024) (k0_off31 (wAt k.val)) S1x512x1024.size hh) hs).squeeze S512x1024 squeezes_S1x512x1024_S512x1024 = slotZ (Ring.sl 3 k.val) := slotZ_congr (off31_eq k) _ _
@[sl_canon] theorem semX_in (k : Fin k0_t1_loop.trips) (h : k.val + 2 < 64) (hh) :
    (cc0_scoped5.slice (Rect.unit (s := S3) (k0_off18 (wIn k.val)) S1.size hh)).squeeze S_ squeezes_S1_S_ = semX (Ring.sl 3 (k.val + 2)) := semX_congr (off18_eq k h) _
@[sl_canon] theorem slotX_in (k : Fin k0_t1_loop.trips) (h : k.val + 2 < 64) (hh hs) :
    (xR.slice (Rect.unit (s := S3x512x1024) (k0_off19 (wIn k.val)) S1x512x1024.size hh) hs).squeeze S512x1024 squeezes_S1x512x1024_S512x1024 = slotX (Ring.sl 3 (k.val + 2)) := slotX_congr (off19_eq k h) _ _
@[sl_canon] theorem blkX_in (k : Fin k0_t1_loop.trips) (h : k.val + 2 < 64) (hh hs) :
    xM.slice (Rect.unit (s := S32768x1024) (k0_off20 (wBlk k.val)) S512x1024.size hh) hs = blkX (Ring.bk 64 (k.val + 2)) := blkX_congr (off20_eq k h) _ _
@[sl_canon] theorem semX_at (k : Fin k0_t1_loop.trips) (hh) :
    (cc0_scoped5.slice (Rect.unit (s := S3) (k0_off27 (wAt k.val)) S1.size hh)).squeeze S_ squeezes_S1_S_ = semX (Ring.sl 3 k.val) := semX_congr (off27_eq k) _
@[sl_canon] theorem slotX_at (k : Fin k0_t1_loop.trips) (hh hs) :
    (xR.slice (Rect.unit (s := S3x512x1024) (k0_off28 (wAt k.val)) S1x512x1024.size hh) hs).squeeze S512x1024 squeezes_S1x512x1024_S512x1024 = slotX (Ring.sl 3 k.val) := slotX_congr (off28_eq k) _ _
@[sl_canon] theorem blkX_at (k : Fin k0_t1_loop.trips) (hh hs) :
    xM.slice (Rect.unit (s := S32768x1024) (k0_off29 (wBlk k.val)) S512x1024.size hh) hs = blkX (Ring.bk 64 k.val) := blkX_congr (off29_eq k) _ _
@[sl_canon] theorem slotX_ld32 (k : Fin k0_t1_loop.trips) (hh hs) :
    (xR.slice (Rect.unit (s := S3x512x1024) (k0_off32 (wAt k.val)) S1x512x1024.size hh) hs).squeeze S512x1024 squeezes_S1x512x1024_S512x1024 = slotX (Ring.sl 3 k.val) := slotX_congr (off32_eq k) _ _
@[sl_canon] theorem slotX_ld34 (k : Fin k0_t1_loop.trips) (hh hs) :
    (xR.slice (Rect.unit (s := S3x512x1024) (k0_off34 (wAt k.val)) S1x512x1024.size hh) hs).squeeze S512x1024 squeezes_S1x512x1024_S512x1024 = slotX (Ring.sl 3 k.val) := slotX_congr (off34_eq k) _ _
@[sl_canon] theorem slotY_st (k : Fin k0_t1_loop.trips) (hh hs) :
    (yR.slice (Rect.unit (s := S2x512x1024) (k0_off33 (wAt k.val)) S1x512x1024.size hh) hs).squeeze S512x1024 squeezes_S1x512x1024_S512x1024 = slotY (Ring.sl 2 k.val) := slotY_congr (off33_eq k) _ _
@[sl_canon] theorem semY_at (k : Fin k0_t1_loop.trips) (hh) :
    (cc0_scoped7.slice (Rect.unit (s := S2) (k0_off35 (wAt k.val)) S1.size hh)).squeeze S_ squeezes_S1_S_ = semY (Ring.sl 2 k.val) := semY_congr (off35_eq k) _
@[sl_canon] theorem blkY_at (k : Fin k0_t1_loop.trips) (hh hs) :
    yM.slice (Rect.unit (s := S32768x1024) (k0_off36 (wBlk k.val)) S512x1024.size hh) hs = blkY (Ring.bk 64 k.val) := blkY_congr (off36_eq k) _ _
@[sl_canon] theorem slotY_at (k : Fin k0_t1_loop.trips) (hh hs) :
    (yR.slice (Rect.unit (s := S2x512x1024) (k0_off37 (wAt k.val)) S1x512x1024.size hh) hs).squeeze S512x1024 squeezes_S1x512x1024_S512x1024 = slotY (Ring.sl 2 k.val) := slotY_congr (off37_eq k) _ _
@[sl_canon] theorem semY_back (k : Fin k0_t1_loop.trips) (h : ¬k.val = 0) (hh) :
    (cc0_scoped7.slice (Rect.unit (s := S2) (k0_off38 (wBack k.val)) S1.size hh)).squeeze S_ squeezes_S1_S_ = semY (Ring.sl 2 (k.val + 1)) := semY_congr (off38_eq k h) _
@[sl_canon] theorem blkY_back (k : Fin k0_t1_loop.trips) (h : ¬k.val = 0) (hh hs) :
    yM.slice (Rect.unit (s := S32768x1024) (k0_off39 (wBlk k.val)) S512x1024.size hh) hs = blkY (Ring.bk 64 (k.val - 1)) := blkY_congr (off39_eq k h) _ _
@[sl_canon] theorem slotY_back (k : Fin k0_t1_loop.trips) (h : ¬k.val = 0) (hh hs) :
    (yR.slice (Rect.unit (s := S2x512x1024) (k0_off40 (wBack k.val)) S1x512x1024.size hh) hs).squeeze S512x1024 squeezes_S1x512x1024_S512x1024 = slotY (Ring.sl 2 (k.val + 1)) := slotY_congr (off40_eq k h) _ _

/-! ## The prologue's and the epilogue's -/

@[sl_canon] theorem semO_0 (hh) :
    (cc0_scoped1.slice (Rect.unit (s := S3) k0_off1 S1.size hh)).squeeze S_ squeezes_S1_S_ = semO 0 := semO_congr (by decide +kernel) _
@[sl_canon] theorem slotO_0 (hh hs) :
    (oR.slice (Rect.unit (s := S3x512x1024) k0_off2 S1x512x1024.size hh) hs).squeeze S512x1024 squeezes_S1x512x1024_S512x1024 = slotO 0 := slotO_congr (by decide +kernel) _ _
@[sl_canon] theorem blkO_0 (hh hs) :
    oM.slice (Rect.unit (s := S32768x1024) ![0, 0] S512x1024.size hh) hs = blkO 0 := blkO_congr (by decide +kernel) _ _
@[sl_canon] theorem semO_1 (hh) :
    (cc0_scoped1.slice (Rect.unit (s := S3) k0_off3 S1.size hh)).squeeze S_ squeezes_S1_S_ = semO 1 := semO_congr (by decide +kernel) _
@[sl_canon] theorem slotO_1 (hh hs) :
    (oR.slice (Rect.unit (s := S3x512x1024) k0_off4 S1x512x1024.size hh) hs).squeeze S512x1024 squeezes_S1x512x1024_S512x1024 = slotO 1 := slotO_congr (by decide +kernel) _ _
@[sl_canon] theorem blkO_1 (hh hs) :
    oM.slice (Rect.unit (s := S32768x1024) k0_off5 S512x1024.size hh) hs = blkO 1 := blkO_congr (by decide +kernel) _ _
@[sl_canon] theorem semZ_0 (hh) :
    (cc0_scoped3.slice (Rect.unit (s := S3) k0_off1 S1.size hh)).squeeze S_ squeezes_S1_S_ = semZ 0 := semZ_congr (by decide +kernel) _
@[sl_canon] theorem slotZ_0 (hh hs) :
    (zR.slice (Rect.unit (s := S3x512x1024) k0_off2 S1x512x1024.size hh) hs).squeeze S512x1024 squeezes_S1x512x1024_S512x1024 = slotZ 0 := slotZ_congr (by decide +kernel) _ _
@[sl_canon] theorem blkZ_0 (hh hs) :
    zM.slice (Rect.unit (s := S32768x1024) ![0, 0] S512x1024.size hh) hs = blkZ 0 := blkZ_congr (by decide +kernel) _ _
@[sl_canon] theorem semZ_1 (hh) :
    (cc0_scoped3.slice (Rect.unit (s := S3) k0_off6 S1.size hh)).squeeze S_ squeezes_S1_S_ = semZ 1 := semZ_congr (by decide +kernel) _
@[sl_canon] theorem slotZ_1 (hh hs) :
    (zR.slice (Rect.unit (s := S3x512x1024) k0_off7 S1x512x1024.size hh) hs).squeeze S512x1024 squeezes_S1x512x1024_S512x1024 = slotZ 1 := slotZ_congr (by decide +kernel) _ _
@[sl_canon] theorem blkZ_1 (hh hs) :
    zM.slice (Rect.unit (s := S32768x1024) k0_off8 S512x1024.size hh) hs = blkZ 1 := blkZ_congr (by decide +kernel) _ _
@[sl_canon] theorem semX_0 (hh) :
    (cc0_scoped5.slice (Rect.unit (s := S3) k0_off1 S1.size hh)).squeeze S_ squeezes_S1_S_ = semX 0 := semX_congr (by decide +kernel) _
@[sl_canon] theorem slotX_0 (hh hs) :
    (xR.slice (Rect.unit (s := S3x512x1024) k0_off2 S1x512x1024.size hh) hs).squeeze S512x1024 squeezes_S1x512x1024_S512x1024 = slotX 0 := slotX_congr (by decide +kernel) _ _
@[sl_canon] theorem blkX_0 (hh hs) :
    xM.slice (Rect.unit (s := S32768x1024) ![0, 0] S512x1024.size hh) hs = blkX 0 := blkX_congr (by decide +kernel) _ _
@[sl_canon] theorem semX_1 (hh) :
    (cc0_scoped5.slice (Rect.unit (s := S3) k0_off9 S1.size hh)).squeeze S_ squeezes_S1_S_ = semX 1 := semX_congr (by decide +kernel) _
@[sl_canon] theorem slotX_1 (hh hs) :
    (xR.slice (Rect.unit (s := S3x512x1024) k0_off10 S1x512x1024.size hh) hs).squeeze S512x1024 squeezes_S1x512x1024_S512x1024 = slotX 1 := slotX_congr (by decide +kernel) _ _
@[sl_canon] theorem blkX_1 (hh hs) :
    xM.slice (Rect.unit (s := S32768x1024) k0_off11 S512x1024.size hh) hs = blkX 1 := blkX_congr (by decide +kernel) _ _
@[sl_canon] theorem semY_end (hh) :
    (cc0_scoped7.slice (Rect.unit (s := S2) (k0_off41 (wBack 64)) S1.size hh)).squeeze S_ squeezes_S1_S_ = semY (Ring.sl 2 65) := semY_congr off41_end _
@[sl_canon] theorem blkY_end (hh hs) :
    yM.slice (Rect.unit (s := S32768x1024) (k0_off42 (wBlk 64)) S512x1024.size hh) hs = blkY (Ring.bk 64 63) := blkY_congr off42_end _ _
@[sl_canon] theorem slotY_end (hh hs) :
    (yR.slice (Rect.unit (s := S2x512x1024) (k0_off43 (wBack 64)) S1x512x1024.size hh) hs).squeeze S512x1024 squeezes_S1x512x1024_S512x1024 = slotY (Ring.sl 2 65) := slotY_congr off43_end _ _

/-! ## The pieces -/

section Pieces
variable (c : Dev nD)

/-- Slot `s` of `o`'s ring, at `f`. -/
abbrev slotOP (s : Fin 3) (f : Buf (Elt F) ((slotO s).view.loc (c : Thread nD τ))) : sProp 𝕄 :=
  (slotO s).view.loc (c : Thread nD τ) ↦[(slotO s).view.set]{fullShare} f
/-- Slot `s`'s semaphore at rest. -/
abbrev cellOP (s : Fin 3) : sProp 𝕄 := semVal ((c : Thread nD τ), SemLoc.dma (semO s).sem) 0
/-- Row block `b` of `o`, at `A`. -/
abbrev blkOP (A : Buf (Elt F) (oM.view.loc (c : Thread nD τ))) (b : Fin 64) : sProp 𝕄 :=
  (blkO b).view.loc (c : Thread nD τ) ↦[(blkO b).view.set]{fullShare} A
/-- Slot `s` of `o`'s ring free: at anything, its semaphore at rest. -/
abbrev freeO (s : Fin 3) : sProp 𝕄 := iprop((∃ f, slotOP (F := F) c s f) ∗ cellOP (F := F) c s)
/-- What the transfer of row block `b` leaves in slot `s` over `f`. -/
abbrev landedO (A : Buf (Elt F) (oM.view.loc (c : Thread nD τ))) (s : Fin 3) (b : Fin 64) (f : Buf (Elt F) ((slotO s).view.loc (c : Thread nD τ))) :
    Buf (Elt F) ((slotO s).view.loc (c : Thread nD τ)) :=
  (slotO s).view.writes (Elt F) f [⟨Rect.whole S512x1024, ReadAs.same.apply ((blkO b).view.read (Elt F) A)⟩]
/-- Slot `s` of `o`'s ring in flight with row block `b`. -/
abbrev inflO (A : Buf (Elt F) (oM.view.loc (c : Thread nD τ))) (s : Fin 3) (b : Fin 64) : sProp 𝕄 :=
  iprop(∃ f, Transfers.Flight countersEmb (c : Thread nD τ) (SemLoc.dma (semO s).sem) () 32768 iprop(slotOP c s (landedO c A s b f) ∗ blkOP c A b))

/-- Slot `s` of `z`'s ring, at `f`. -/
abbrev slotZP (s : Fin 3) (f : Buf (Elt F) ((slotZ s).view.loc (c : Thread nD τ))) : sProp 𝕄 :=
  (slotZ s).view.loc (c : Thread nD τ) ↦[(slotZ s).view.set]{fullShare} f
/-- Slot `s`'s semaphore at rest. -/
abbrev cellZP (s : Fin 3) : sProp 𝕄 := semVal ((c : Thread nD τ), SemLoc.dma (semZ s).sem) 0
/-- Row block `b` of `z`, at `A`. -/
abbrev blkZP (A : Buf (Elt F) (zM.view.loc (c : Thread nD τ))) (b : Fin 64) : sProp 𝕄 :=
  (blkZ b).view.loc (c : Thread nD τ) ↦[(blkZ b).view.set]{fullShare} A
/-- Slot `s` of `z`'s ring free: at anything, its semaphore at rest. -/
abbrev freeZ (s : Fin 3) : sProp 𝕄 := iprop((∃ f, slotZP (F := F) c s f) ∗ cellZP (F := F) c s)
/-- What the transfer of row block `b` leaves in slot `s` over `f`. -/
abbrev landedZ (A : Buf (Elt F) (zM.view.loc (c : Thread nD τ))) (s : Fin 3) (b : Fin 64) (f : Buf (Elt F) ((slotZ s).view.loc (c : Thread nD τ))) :
    Buf (Elt F) ((slotZ s).view.loc (c : Thread nD τ)) :=
  (slotZ s).view.writes (Elt F) f [⟨Rect.whole S512x1024, ReadAs.same.apply ((blkZ b).view.read (Elt F) A)⟩]
/-- Slot `s` of `z`'s ring in flight with row block `b`. -/
abbrev inflZ (A : Buf (Elt F) (zM.view.loc (c : Thread nD τ))) (s : Fin 3) (b : Fin 64) : sProp 𝕄 :=
  iprop(∃ f, Transfers.Flight countersEmb (c : Thread nD τ) (SemLoc.dma (semZ s).sem) () 32768 iprop(slotZP c s (landedZ c A s b f) ∗ blkZP c A b))

/-- Slot `s` of `x`'s ring, at `f`. -/
abbrev slotXP (s : Fin 3) (f : Buf (Elt F) ((slotX s).view.loc (c : Thread nD τ))) : sProp 𝕄 :=
  (slotX s).view.loc (c : Thread nD τ) ↦[(slotX s).view.set]{fullShare} f
/-- Slot `s`'s semaphore at rest. -/
abbrev cellXP (s : Fin 3) : sProp 𝕄 := semVal ((c : Thread nD τ), SemLoc.dma (semX s).sem) 0
/-- Row block `b` of `x`, at `A`. -/
abbrev blkXP (A : Buf (Elt F) (xM.view.loc (c : Thread nD τ))) (b : Fin 64) : sProp 𝕄 :=
  (blkX b).view.loc (c : Thread nD τ) ↦[(blkX b).view.set]{fullShare} A
/-- Slot `s` of `x`'s ring free: at anything, its semaphore at rest. -/
abbrev freeX (s : Fin 3) : sProp 𝕄 := iprop((∃ f, slotXP (F := F) c s f) ∗ cellXP (F := F) c s)
/-- What the transfer of row block `b` leaves in slot `s` over `f`. -/
abbrev landedX (A : Buf (Elt F) (xM.view.loc (c : Thread nD τ))) (s : Fin 3) (b : Fin 64) (f : Buf (Elt F) ((slotX s).view.loc (c : Thread nD τ))) :
    Buf (Elt F) ((slotX s).view.loc (c : Thread nD τ)) :=
  (slotX s).view.writes (Elt F) f [⟨Rect.whole S512x1024, ReadAs.same.apply ((blkX b).view.read (Elt F) A)⟩]
/-- Slot `s` of `x`'s ring in flight with row block `b`. -/
abbrev inflX (A : Buf (Elt F) (xM.view.loc (c : Thread nD τ))) (s : Fin 3) (b : Fin 64) : sProp 𝕄 :=
  iprop(∃ f, Transfers.Flight countersEmb (c : Thread nD τ) (SemLoc.dma (semX s).sem) () 65536 iprop(slotXP c s (landedX c A s b f) ∗ blkXP c A b))

/-- Slot `s` of `y`'s ring, at `f`. -/
abbrev slotYP (s : Fin 2) (f : Buf (Elt F) ((slotY s).view.loc (c : Thread nD τ))) : sProp 𝕄 :=
  (slotY s).view.loc (c : Thread nD τ) ↦[(slotY s).view.set]{fullShare} f
/-- Slot `s`'s semaphore at rest. -/
abbrev cellYP (s : Fin 2) : sProp 𝕄 := semVal ((c : Thread nD τ), SemLoc.dma (semY s).sem) 0
/-- Row block `b` of `y`, at `A`. -/
abbrev blkYP (A : Buf (Elt F) (yM.view.loc (c : Thread nD τ))) (b : Fin 64) : sProp 𝕄 :=
  (blkY b).view.loc (c : Thread nD τ) ↦[(blkY b).view.set]{fullShare} A
/-- Slot `s` of `y`'s ring free: at anything, its semaphore at rest. -/
abbrev freeY (s : Fin 2) : sProp 𝕄 := iprop((∃ f, slotYP (F := F) c s f) ∗ cellYP (F := F) c s)

end Pieces

end Cert.KernelIdeal.OddOut

end
-- ==== Proof.Tile.lean ====
/- What one trip of the row-block loop writes: a block of 512 rows, computed as two halves of 256 rows. -/
module

public import proofs.«01_k».proof.Proof.Names
public import Idealize.ShloMosaic.Lib.WritesUnit
public import Idealize.ShloMosaic.Lib.Pointwise

@[expose] public section

set_option maxRecDepth 16384

noncomputable section

namespace Cert.KernelIdeal.OddOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- The first 256 rows of a block. -/
abbrev topR : LoadRect S512x1024 := (Rect.unit (s := S512x1024) ![0, 0] S256x1024.size inb_S512x1024_S256x1024_0_0).toLoadRect
/-- The last 256 rows of a block. -/
abbrev botR : LoadRect S512x1024 := (Rect.unit (s := S512x1024) ![256, 0] S256x1024.size inb_S512x1024_S256x1024_256_0).toLoadRect

/-- The first half of a block's result, from the blocks of `o`, `z`, `x`, the weights, the gain and the bias. -/
def tileTop (o z : Vec F S512x1024 .bf16) (x : Vec F S512x1024 .f32) (W : Vec F S1024x1024 .bf16) (g b : Vec F S1x1024 .f32) : FVec F S256x1024 .f32 :=
  k0_pay7 (k0_pay3 g) (k0_pay4 b) (k0_pay5 (k0_pay1 (fun j => o (topR.idx j)) (fun j => z (topR.idx j)) W) (fun j => x (topR.idx j)))
    (k0_pay6 (k0_pay1 (fun j => o (topR.idx j)) (fun j => z (topR.idx j)) W) (fun j => x (topR.idx j)))
/-- The second half. -/
def tileBot (o z : Vec F S512x1024 .bf16) (x : Vec F S512x1024 .f32) (W : Vec F S1024x1024 .bf16) (g b : Vec F S1x1024 .f32) : FVec F S256x1024 .f32 :=
  k0_pay8 (k0_pay2 (fun j => o (botR.idx j)) (fun j => z (botR.idx j)) W) (fun j => x (botR.idx j)) g b
/-- A block's result. -/
def tileY (o z : Vec F S512x1024 .bf16) (x : Vec F S512x1024 .f32) (W : Vec F S1024x1024 .bf16) (g b : Vec F S1x1024 .f32) : Vec F S512x1024 .f32 :=
  fun y => if h : 256 ≤ (y 0).val then tileBot o z x W g b (ix2 ⟨(y 0).val - 256, by have h0 : (y 0).val < 512 := (y 0).isLt; omega⟩ (y 1))
    else tileTop o z x W g b (ix2 ⟨(y 0).val, by omega⟩ (y 1))

/-- A load within a slot just written whole reads what was written. -/
theorem readCov_whole {κ : Kind} {sp : Space} {e : EltTy} [∀ e, Nonempty (Elt F e)] (v : View sig κ sp S512x1024 e) (x : S512x1024.Idx → Elt F e) (lr : LoadRect S512x1024) :
    v.readCov [⟨Rect.whole S512x1024, x⟩] lr = fun j => x (lr.idx j) := View.readAt_rep v lr x

/-- Two stores of 256 rows each fill the slot: it then reads as the two halves. -/
theorem read_halves {κ : Kind} {sp : Space} (v : View sig κ sp S512x1024 .f32) (f : v.ty.Contents (Elt F)) (p q : S256x1024.Idx → Elt F .f32) :
    v.read (Elt F) (v.writes (Elt F) f [⟨Rect.unit (s := S512x1024) ![256, 0] S256x1024.size inb_S512x1024_S256x1024_256_0, q⟩,
        ⟨Rect.unit (s := S512x1024) ![0, 0] S256x1024.size inb_S512x1024_S256x1024_0_0, p⟩])
      = fun y => if h : 256 ≤ (y 0).val then q (ix2 ⟨(y 0).val - 256, by have h0 : (y 0).val < 512 := (y 0).isLt; omega⟩ (y 1))
        else p (ix2 ⟨(y 0).val, by omega⟩ (y 1)) := by
  funext y
  have h0 : (y 0).val < 512 := (y 0).isLt
  by_cases h : 256 ≤ (y 0).val
  · rw [dif_pos h]
    exact View.read_writes_cons_rows_of_mem v f _ q _ y (ix2 ⟨(y 0).val - 256, by omega⟩ (y 1)) rfl ((by show (y 0).val = 256 + ((y 0).val - 256); omega)) rfl
  · rw [dif_neg h]
    refine (View.read_writes_cons_rows_of_not_mem v f _ q _ y (o := 256) (W := 256) rfl rfl (by omega)).trans ?_
    exact View.read_writes_cons_rows_of_mem v f _ p _ y (ix2 ⟨(y 0).val, by omega⟩ (y 1)) rfl ((by show (y 0).val = 0 + (y 0).val; omega)) rfl
local notation "𝕄" => MT nD τ sig Unit (Elt F) ℕ (UU nD τ) ℕ

section Values

variable (c : Dev nD)
  (XO : Buf (Elt F) (oM.view.loc (c : Thread nD τ))) (XZ : Buf (Elt F) (zM.view.loc (c : Thread nD τ))) (XX : Buf (Elt F) (xM.view.loc (c : Thread nD τ)))
  (arg3 : Memref sig .tc .vmem S1024x1024 .bf16) (arg4 : Memref sig .tc .vmem S1x1024 .f32) (arg5 : Memref sig .tc .vmem S1x1024 .f32)
  (W3 : Buf (Elt F) (arg3.view.loc (c : Thread nD τ))) (G4 : Buf (Elt F) (arg4.view.loc (c : Thread nD τ))) (B5 : Buf (Elt F) (arg5.view.loc (c : Thread nD τ)))

/-- The weights as a trip loads them. -/
abbrev wRd : Vec F S1024x1024 .bf16 := arg3.view.readAt (Elt F) (Rect.unit (s := S1024x1024) ![0, 0] S1024x1024.size inb_S1024x1024_S1024x1024_0_0).toLoadRect W3
/-- The gain or the bias as a trip loads it. -/
abbrev rowRd (a : Memref sig .tc .vmem S1x1024 .f32) (G : Buf (Elt F) (a.view.loc (c : Thread nD τ))) : Vec F S1x1024 .f32 :=
  a.view.readAt (Elt F) (Rect.unit (s := S1x1024) ![0, 0] S1x1024.size inb_S1x1024_S1x1024_0_0).toLoadRect G

/-- Row block `b` of the result. -/
def blkVal (b : Fin 64) : Vec F S512x1024 .f32 :=
  tileY ((blkO b).view.read (Elt F) XO) ((blkZ b).view.read (Elt F) XZ) ((blkX b).view.read (Elt F) XX) (wRd c arg3 W3) (rowRd c arg4 G4) (rowRd c arg5 B5)

/-- The weights' staging buffer. -/
abbrev wP : sProp 𝕄 := arg3.view.loc (c : Thread nD τ) ↦[arg3.view.set]{fullShare} W3
/-- The gain's or the bias's staging buffer. -/
abbrev rowP (a : Memref sig .tc .vmem S1x1024 .f32) (G : Buf (Elt F) (a.view.loc (c : Thread nD τ))) : sProp 𝕄 := a.view.loc (c : Thread nD τ) ↦[a.view.set]{fullShare} G
/-- The three staging buffers. -/
abbrev stgP : sProp 𝕄 := iprop(wP c arg3 W3 ∗ rowP c arg4 G4 ∗ rowP c arg5 B5)
/-- What the core owes. -/
abbrev owesP : sProp 𝕄 := iprop(∃ W, owes (c : Thread nD τ) 0 W)
/-- Row block `b` of the result, not yet written. -/
abbrev anyY (b : Fin 64) : sProp 𝕄 := iprop(∃ g, blkYP (F := F) c g b)
/-- Row block `b` of the result, written. -/
abbrev doneY (b : Fin 64) : sProp 𝕄 :=
  iprop(∃ g, blkYP (F := F) c g b ∗ ⌜(blkY b).view.read (Elt F) g = blkVal c XO XZ XX arg3 arg4 arg5 W3 G4 B5 b⌝)
/-- Slot `s` of the result's ring in flight to row block `b`. -/
abbrev inflY (s : Fin 2) (b : Fin 64) : sProp 𝕄 :=
  iprop(∃ g f, ⌜(blkY b).view.read (Elt F) g = blkVal c XO XZ XX arg3 arg4 arg5 W3 G4 B5 b⌝
    ∗ Transfers.Flight countersEmb (c : Thread nD τ) (SemLoc.dma (semY s).sem) () 65536 iprop(blkYP c g b ∗ slotYP c s f))

/-- What the copy out delivers is the block's result. -/
theorem written (s s' s'' : Fin 3) (t : Fin 2) (b : Fin 64) (f : (slotY t).view.ty.Contents (Elt F)) :
    (slotY t).view.read (Elt F) ((slotY t).view.writes (Elt F) f
        [⟨Rect.unit (s := S512x1024) ![256, 0] S256x1024.size inb_S512x1024_S256x1024_256_0,
          k0_pay8 (k0_pay2 ((slotO s).view.readCov [⟨Rect.whole S512x1024, ReadAs.same.apply ((blkO b).view.read (Elt F) XO)⟩] botR)
              ((slotZ s').view.readCov [⟨Rect.whole S512x1024, ReadAs.same.apply ((blkZ b).view.read (Elt F) XZ)⟩] botR) (wRd c arg3 W3))
            ((slotX s'').view.readCov [⟨Rect.whole S512x1024, ReadAs.same.apply ((blkX b).view.read (Elt F) XX)⟩] botR) (rowRd c arg4 G4) (rowRd c arg5 B5)⟩,
        ⟨Rect.unit (s := S512x1024) ![0, 0] S256x1024.size inb_S512x1024_S256x1024_0_0,
          k0_pay7 (k0_pay3 (rowRd c arg4 G4)) (k0_pay4 (rowRd c arg5 B5))
            (k0_pay5 (k0_pay1 ((slotO s).view.readCov [⟨Rect.whole S512x1024, ReadAs.same.apply ((blkO b).view.read (Elt F) XO)⟩] topR)
              ((slotZ s').view.readCov [⟨Rect.whole S512x1024, ReadAs.same.apply ((blkZ b).view.read (Elt F) XZ)⟩] topR) (wRd c arg3 W3))
              ((slotX s'').view.readCov [⟨Rect.whole S512x1024, ReadAs.same.apply ((blkX b).view.read (Elt F) XX)⟩] topR))
            (k0_pay6 (k0_pay1 ((slotO s).view.readCov [⟨Rect.whole S512x1024, ReadAs.same.apply ((blkO b).view.read (Elt F) XO)⟩] topR)
              ((slotZ s').view.readCov [⟨Rect.whole S512x1024, ReadAs.same.apply ((blkZ b).view.read (Elt F) XZ)⟩] topR) (wRd c arg3 W3))
              ((slotX s'').view.readCov [⟨Rect.whole S512x1024, ReadAs.same.apply ((blkX b).view.read (Elt F) XX)⟩] topR))⟩])
      = blkVal c XO XZ XX arg3 arg4 arg5 W3 G4 B5 b := by
  rw [read_halves]
  simp only [readCov_whole]
  rfl

end Values

end Cert.KernelIdeal.OddOut

end
-- ==== Proof.Trip.lean ====
/- One trip of the row-block loop, in the three roles it plays: the first trip (nothing to wait on the way out), a
middle trip, and the last two (nothing left to bring in). -/
module

public import proofs.«01_k».proof.Proof.Tile

@[expose] public section

set_option maxRecDepth 16384

noncomputable section

namespace Cert.KernelIdeal.OddOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UU nD τ) ℕ

section Trip

variable (c : Dev nD)
  (XO : Buf (Elt F) (oM.view.loc (c : Thread nD τ))) (XZ : Buf (Elt F) (zM.view.loc (c : Thread nD τ))) (XX : Buf (Elt F) (xM.view.loc (c : Thread nD τ)))
  (arg3 : Memref sig .tc .vmem S1024x1024 .bf16) (harg3 : arg3.IsWhole)
  (arg4 : Memref sig .tc .vmem S1x1024 .f32) (harg4 : arg4.IsWhole)
  (arg5 : Memref sig .tc .vmem S1x1024 .f32) (harg5 : arg5.IsWhole)
  (v11 v42 v49 v56 : BitVec 32) (v58 v59 : BitVec 1)
  (W3 : Buf (Elt F) (arg3.view.loc (c : Thread nD τ))) (G4 : Buf (Elt F) (arg4.view.loc (c : Thread nD τ))) (B5 : Buf (Elt F) (arg5.view.loc (c : Thread nD τ)))

/-- The region of trip `k` at the counters it meets. -/
abbrev tripG (k : Fin k0_t1_loop.trips) :=
  k0_t1_body (F := F) oM (Memref.isWhole_whole _) zM (Memref.isWhole_whole _) xM (Memref.isWhole_whole _) arg3 harg3 arg4 harg4 arg5 harg5 yM (Memref.isWhole_whole _)
    oR (Memref.isWhole_whole _) cc0_scoped1 zR (Memref.isWhole_whole _) cc0_scoped3 xR (Memref.isWhole_whole _) cc0_scoped5 yR (Memref.isWhole_whole _) cc0_scoped7
    v11 v42 v49 v56 v58 v59 k (accAt k.val)

/-- A middle trip: block `k + 2` brought in, block `k` computed and sent out, block `k - 1` waited for. -/
theorem trip_mid (k : Fin k0_t1_loop.trips) (h2 : k.val + 2 < 64) (h0 : ¬k.val = 0) :
    iprop(stgP c arg3 arg4 arg5 W3 G4 B5
      ∗ owesP (F := F) c
      ∗ inflO c XO (Ring.sl 3 k.val) (Ring.bk 64 k.val)
      ∗ blkOP c XO (Ring.bk 64 (k.val + 2))
      ∗ freeO (F := F) c (Ring.sl 3 (k.val + 2))
      ∗ inflZ c XZ (Ring.sl 3 k.val) (Ring.bk 64 k.val)
      ∗ blkZP c XZ (Ring.bk 64 (k.val + 2))
      ∗ freeZ (F := F) c (Ring.sl 3 (k.val + 2))
      ∗ inflX c XX (Ring.sl 3 k.val) (Ring.bk 64 k.val)
      ∗ blkXP c XX (Ring.bk 64 (k.val + 2))
      ∗ freeX (F := F) c (Ring.sl 3 (k.val + 2))
      ∗ freeY (F := F) c (Ring.sl 2 k.val)
      ∗ anyY (F := F) c (Ring.bk 64 k.val)
      ∗ inflY c XO XZ XX arg3 arg4 arg5 W3 G4 B5 (Ring.sl 2 (k.val + 1)) (Ring.bk 64 (k.val - 1)))
    ⊢ wp frame (wpE (defs₀ (F := F)) 𝒱₀ (c : Thread nD τ) none) Set.univ (tripG arg3 harg3 arg4 harg4 arg5 harg5 v11 v42 v49 v56 v58 v59 k)
      (fun acc => iprop(⌜acc = accAt (k.val + 1)⌝
      ∗ stgP c arg3 arg4 arg5 W3 G4 B5
      ∗ owesP (F := F) c
      ∗ blkOP c XO (Ring.bk 64 k.val)
      ∗ freeO (F := F) c (Ring.sl 3 k.val)
      ∗ inflO c XO (Ring.sl 3 (k.val + 2)) (Ring.bk 64 (k.val + 2))
      ∗ blkZP c XZ (Ring.bk 64 k.val)
      ∗ freeZ (F := F) c (Ring.sl 3 k.val)
      ∗ inflZ c XZ (Ring.sl 3 (k.val + 2)) (Ring.bk 64 (k.val + 2))
      ∗ blkXP c XX (Ring.bk 64 k.val)
      ∗ freeX (F := F) c (Ring.sl 3 k.val)
      ∗ inflX c XX (Ring.sl 3 (k.val + 2)) (Ring.bk 64 (k.val + 2))
      ∗ inflY c XO XZ XX arg3 arg4 arg5 W3 G4 B5 (Ring.sl 2 k.val) (Ring.bk 64 k.val)
      ∗ freeY (F := F) c (Ring.sl 2 (k.val + 1))
      ∗ doneY c XO XZ XX arg3 arg4 arg5 W3 G4 B5 (Ring.bk 64 (k.val - 1))))  := by
  have hc1 := chk1_all k
  have hc2 := chk2_all k
  have hc3 := chk3_all k
  have hc4 := chk4_all k
  have hc5 := chk5_all k
  have hd4 : k0_cond4 k (wBlk k.val) = 1#1 := by rw [cond4_iff, if_pos h2]
  have hd5 : k0_cond5 k (wBlk k.val) = 1#1 := by rw [cond5_iff, if_pos h2]
  have hd6 : k0_cond6 k (wBlk k.val) = 1#1 := by rw [cond6_iff, if_pos h2]
  have hd7 := cond7_all k
  have hd8 := cond8_all k
  have hd9 := cond9_all k
  have hd14 := cond14_all k
  have hd18 : k0_cond18 k (wBlk k.val) = 1#1 := by rw [cond18_iff, if_neg h0]
  iintro ⟨⟨H3, H4, H5⟩, ⟨%W, HW⟩, ⟨%fO, HFO⟩, HBO, ⟨⟨%gO, HSO⟩, HCO⟩, ⟨%fZ, HFZ⟩, HBZ, ⟨⟨%gZ, HSZ⟩, HCZ⟩, ⟨%fX, HFX⟩, HBX, ⟨⟨%gX, HSX⟩, HCX⟩, ⟨⟨%fy, HSY⟩, HCY⟩, ⟨%gy, HBY⟩, ⟨%g1, %f1, %hg, HFY⟩⟩
  dsimp only [tripG, accAt]
  sl_unfold [k0_t1_body]
  sl_exec
  sl_step
  isplitr
  · ipureintro; clear * -; simp only [Prod.mk.injEq]; refine ⟨?_, ?_, ?_, ?_, ?_, ?_, ?_, ?_, ?_⟩ <;> (revert k; decide +kernel)
  isplitl [H3 H4 H5]
  · isplitl [H3]; · iexact H3
    isplitl [H4]; · iexact H4
    iexact H5
  isplitl [HW]; · iexists _; iexact HW
  isplitl [HFO_src]; · iexact HFO_src
  isplitl [HFO_dst HFO]
  · isplitl [HFO_dst]; · iexists _; iexact HFO_dst
    iexact HFO
  isplitl [HCO]; · iexists gO; iexact HCO
  isplitl [HFZ_src]; · iexact HFZ_src
  isplitl [HFZ_dst HFZ]
  · isplitl [HFZ_dst]; · iexists _; iexact HFZ_dst
    iexact HFZ
  isplitl [HCZ]; · iexists gZ; iexact HCZ
  isplitl [HFX_src]; · iexact HFX_src
  isplitl [HFX_dst HFX]
  · isplitl [HFX_dst]; · iexists _; iexact HFX_dst
    iexact HFX
  isplitl [HCX]; · iexists gX; iexact HCX
  isplitl [HCY]
  · iexists _, _
    isplitr
    swap
    · iexact HCY
    · ipureintro
      refine (View.read_writes_whole _ _ _).trans ?_
      exact written c XO XZ XX arg3 arg4 arg5 W3 G4 B5 (Ring.sl 3 k.val) (Ring.sl 3 k.val) (Ring.sl 3 k.val) (Ring.sl 2 k.val) (Ring.bk 64 k.val) fy
  isplitl [HFY_src HFY]
  · isplitl [HFY_src]; · iexists _; iexact HFY_src
    iexact HFY
  iexists g1
  isplitl [HFY_dst]; · iexact HFY_dst
  ipureintro; exact hg

/-- The first trip: block 2 brought in, block 0 computed and sent out. -/
theorem trip_first (k : Fin k0_t1_loop.trips) (h2 : k.val + 2 < 64) (h0 : k.val = 0) :
    iprop(stgP c arg3 arg4 arg5 W3 G4 B5
      ∗ owesP (F := F) c
      ∗ inflO c XO (Ring.sl 3 k.val) (Ring.bk 64 k.val)
      ∗ blkOP c XO (Ring.bk 64 (k.val + 2))
      ∗ freeO (F := F) c (Ring.sl 3 (k.val + 2))
      ∗ inflZ c XZ (Ring.sl 3 k.val) (Ring.bk 64 k.val)
      ∗ blkZP c XZ (Ring.bk 64 (k.val + 2))
      ∗ freeZ (F := F) c (Ring.sl 3 (k.val + 2))
      ∗ inflX c XX (Ring.sl 3 k.val) (Ring.bk 64 k.val)
      ∗ blkXP c XX (Ring.bk 64 (k.val + 2))
      ∗ freeX (F := F) c (Ring.sl 3 (k.val + 2))
      ∗ freeY (F := F) c (Ring.sl 2 k.val)
      ∗ anyY (F := F) c (Ring.bk 64 k.val))
    ⊢ wp frame (wpE (defs₀ (F := F)) 𝒱₀ (c : Thread nD τ) none) Set.univ (tripG arg3 harg3 arg4 harg4 arg5 harg5 v11 v42 v49 v56 v58 v59 k)
      (fun acc => iprop(⌜acc = accAt (k.val + 1)⌝
      ∗ stgP c arg3 arg4 arg5 W3 G4 B5
      ∗ owesP (F := F) c
      ∗ blkOP c XO (Ring.bk 64 k.val)
      ∗ freeO (F := F) c (Ring.sl 3 k.val)
      ∗ inflO c XO (Ring.sl 3 (k.val + 2)) (Ring.bk 64 (k.val + 2))
      ∗ blkZP c XZ (Ring.bk 64 k.val)
      ∗ freeZ (F := F) c (Ring.sl 3 k.val)
      ∗ inflZ c XZ (Ring.sl 3 (k.val + 2)) (Ring.bk 64 (k.val + 2))
      ∗ blkXP c XX (Ring.bk 64 k.val)
      ∗ freeX (F := F) c (Ring.sl 3 k.val)
      ∗ inflX c XX (Ring.sl 3 (k.val + 2)) (Ring.bk 64 (k.val + 2))
      ∗ inflY c XO XZ XX arg3 arg4 arg5 W3 G4 B5 (Ring.sl 2 k.val) (Ring.bk 64 k.val)))  := by
  have hc1 := chk1_all k
  have hc2 := chk2_all k
  have hc3 := chk3_all k
  have hc4 := chk4_all k
  have hc5 := chk5_all k
  have hd4 : k0_cond4 k (wBlk k.val) = 1#1 := by rw [cond4_iff, if_pos h2]
  have hd5 : k0_cond5 k (wBlk k.val) = 1#1 := by rw [cond5_iff, if_pos h2]
  have hd6 : k0_cond6 k (wBlk k.val) = 1#1 := by rw [cond6_iff, if_pos h2]
  have hd7 := cond7_all k
  have hd8 := cond8_all k
  have hd9 := cond9_all k
  have hd14 := cond14_all k
  have hd18 : ¬k0_cond18 k (wBlk k.val) = 1#1 := by rw [cond18_iff, if_pos h0]; decide
  iintro ⟨⟨H3, H4, H5⟩, ⟨%W, HW⟩, ⟨%fO, HFO⟩, HBO, ⟨⟨%gO, HSO⟩, HCO⟩, ⟨%fZ, HFZ⟩, HBZ, ⟨⟨%gZ, HSZ⟩, HCZ⟩, ⟨%fX, HFX⟩, HBX, ⟨⟨%gX, HSX⟩, HCX⟩, ⟨⟨%fy, HSY⟩, HCY⟩, ⟨%gy, HBY⟩⟩
  dsimp only [tripG, accAt]
  sl_unfold [k0_t1_body]
  sl_exec
  sl_step
  isplitr
  · ipureintro; clear * -; simp only [Prod.mk.injEq]; refine ⟨?_, ?_, ?_, ?_, ?_, ?_, ?_, ?_, ?_⟩ <;> (revert k; decide +kernel)
  isplitl [H3 H4 H5]
  · isplitl [H3]; · iexact H3
    isplitl [H4]; · iexact H4
    iexact H5
  isplitl [HW]; · iexists _; iexact HW
  isplitl [HFO_src]; · iexact HFO_src
  isplitl [HFO_dst HFO]
  · isplitl [HFO_dst]; · iexists _; iexact HFO_dst
    iexact HFO
  isplitl [HCO]; · iexists gO; iexact HCO
  isplitl [HFZ_src]; · iexact HFZ_src
  isplitl [HFZ_dst HFZ]
  · isplitl [HFZ_dst]; · iexists _; iexact HFZ_dst
    iexact HFZ
  isplitl [HCZ]; · iexists gZ; iexact HCZ
  isplitl [HFX_src]; · iexact HFX_src
  isplitl [HFX_dst HFX]
  · isplitl [HFX_dst]; · iexists _; iexact HFX_dst
    iexact HFX
  isplitl [HCX]; · iexists gX; iexact HCX
  iexists _, _
  isplitr
  swap
  · iexact HCY
  · ipureintro
    refine (View.read_writes_whole _ _ _).trans ?_
    exact written c XO XZ XX arg3 arg4 arg5 W3 G4 B5 (Ring.sl 3 k.val) (Ring.sl 3 k.val) (Ring.sl 3 k.val) (Ring.sl 2 k.val) (Ring.bk 64 k.val) fy

/-- The last two trips: block `k` computed and sent out, block `k - 1` waited for. -/
theorem trip_last (k : Fin k0_t1_loop.trips) (h2 : ¬k.val + 2 < 64) (h0 : ¬k.val = 0) :
    iprop(stgP c arg3 arg4 arg5 W3 G4 B5
      ∗ owesP (F := F) c
      ∗ inflO c XO (Ring.sl 3 k.val) (Ring.bk 64 k.val)
      ∗ inflZ c XZ (Ring.sl 3 k.val) (Ring.bk 64 k.val)
      ∗ inflX c XX (Ring.sl 3 k.val) (Ring.bk 64 k.val)
      ∗ freeY (F := F) c (Ring.sl 2 k.val)
      ∗ anyY (F := F) c (Ring.bk 64 k.val)
      ∗ inflY c XO XZ XX arg3 arg4 arg5 W3 G4 B5 (Ring.sl 2 (k.val + 1)) (Ring.bk 64 (k.val - 1)))
    ⊢ wp frame (wpE (defs₀ (F := F)) 𝒱₀ (c : Thread nD τ) none) Set.univ (tripG arg3 harg3 arg4 harg4 arg5 harg5 v11 v42 v49 v56 v58 v59 k)
      (fun acc => iprop(⌜acc = accAt (k.val + 1)⌝
      ∗ stgP c arg3 arg4 arg5 W3 G4 B5
      ∗ owesP (F := F) c
      ∗ blkOP c XO (Ring.bk 64 k.val)
      ∗ freeO (F := F) c (Ring.sl 3 k.val)
      ∗ blkZP c XZ (Ring.bk 64 k.val)
      ∗ freeZ (F := F) c (Ring.sl 3 k.val)
      ∗ blkXP c XX (Ring.bk 64 k.val)
      ∗ freeX (F := F) c (Ring.sl 3 k.val)
      ∗ inflY c XO XZ XX arg3 arg4 arg5 W3 G4 B5 (Ring.sl 2 k.val) (Ring.bk 64 k.val)
      ∗ freeY (F := F) c (Ring.sl 2 (k.val + 1))
      ∗ doneY c XO XZ XX arg3 arg4 arg5 W3 G4 B5 (Ring.bk 64 (k.val - 1))))  := by
  have hc1 := chk1_all k
  have hc2 := chk2_all k
  have hc3 := chk3_all k
  have hc4 := chk4_all k
  have hc5 := chk5_all k
  have hd4 : ¬k0_cond4 k (wBlk k.val) = 1#1 := by rw [cond4_iff, if_neg h2]; decide
  have hd5 : ¬k0_cond5 k (wBlk k.val) = 1#1 := by rw [cond5_iff, if_neg h2]; decide
  have hd6 : ¬k0_cond6 k (wBlk k.val) = 1#1 := by rw [cond6_iff, if_neg h2]; decide
  have hd7 := cond7_all k
  have hd8 := cond8_all k
  have hd9 := cond9_all k
  have hd14 := cond14_all k
  have hd18 : k0_cond18 k (wBlk k.val) = 1#1 := by rw [cond18_iff, if_neg h0]
  iintro ⟨⟨H3, H4, H5⟩, ⟨%W, HW⟩, ⟨%fO, HFO⟩, ⟨%fZ, HFZ⟩, ⟨%fX, HFX⟩, ⟨⟨%fy, HSY⟩, HCY⟩, ⟨%gy, HBY⟩, ⟨%g1, %f1, %hg, HFY⟩⟩
  dsimp only [tripG, accAt]
  sl_unfold [k0_t1_body]
  sl_exec
  sl_step
  isplitr
  · ipureintro; clear * -; simp only [Prod.mk.injEq]; refine ⟨?_, ?_, ?_, ?_, ?_, ?_, ?_, ?_, ?_⟩ <;> (revert k; decide +kernel)
  isplitl [H3 H4 H5]
  · isplitl [H3]; · iexact H3
    isplitl [H4]; · iexact H4
    iexact H5
  isplitl [HW]; · iexists _; iexact HW
  isplitl [HFO_src]; · iexact HFO_src
  isplitl [HFO_dst HFO]
  · isplitl [HFO_dst]; · iexists _; iexact HFO_dst
    iexact HFO
  isplitl [HFZ_src]; · iexact HFZ_src
  isplitl [HFZ_dst HFZ]
  · isplitl [HFZ_dst]; · iexists _; iexact HFZ_dst
    iexact HFZ
  isplitl [HFX_src]; · iexact HFX_src
  isplitl [HFX_dst HFX]
  · isplitl [HFX_dst]; · iexists _; iexact HFX_dst
    iexact HFX
  isplitl [HCY]
  · iexists _, _
    isplitr
    swap
    · iexact HCY
    · ipureintro
      refine (View.read_writes_whole _ _ _).trans ?_
      exact written c XO XZ XX arg3 arg4 arg5 W3 G4 B5 (Ring.sl 3 k.val) (Ring.sl 3 k.val) (Ring.sl 3 k.val) (Ring.sl 2 k.val) (Ring.bk 64 k.val) fy
  isplitl [HFY_src HFY]
  · isplitl [HFY_src]; · iexists _; iexact HFY_src
    iexact HFY
  iexists g1
  isplitl [HFY_dst]; · iexact HFY_dst
  ipureintro; exact hg

end Trip

end Cert.KernelIdeal.OddOut

end
-- ==== Proof.Loop.lean ====
/- The loop's invariant: what is held before trip `k`, and that each trip keeps it. -/
module

public import proofs.«01_k».proof.Proof.Trip

@[expose] public section

set_option maxRecDepth 16384

noncomputable section

namespace Cert.KernelIdeal.OddOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UU nD τ) ℕ

/-! ## A ring of three slots, read two blocks ahead -/

section Ring3

/-- Slot `s`, the one that carries block `p`, before trip `p`. -/
abbrev role (free : Fin 3 → sProp 𝕄) (infl : Fin 3 → Fin 64 → sProp 𝕄) (s p : ℕ) : sProp 𝕄 := @Ring.roleAt 𝕄 _ 64 _ (free (Ring.sl 3 s)) (infl (Ring.sl 3 s)) p

/-- Equal assertions entail each other. -/
theorem ent_eq {P Q : sProp 𝕄} (e : P = Q) : P ⊢ Q := e ▸ .rfl
/-- A block taken out of a set of blocks. -/
theorem bigSep_out (home : Fin 64 → sProp 𝕄) (A B : Finset (Fin 64)) (b : Fin 64) (e : A = insert b B) (hb : b ∉ B) :
    bigSep A home = iprop(home b ∗ bigSep B home) := by rw [e, bigSep_insert hb]; rfl

/-- A slot's role while its block exists. -/
theorem role_lt (free : Fin 3 → sProp 𝕄) (infl : Fin 3 → Fin 64 → sProp 𝕄) (s p : ℕ) (h : p < 64) : role free infl s p = infl (Ring.sl 3 s) (Ring.bk 64 p) :=
  Ring.roleAt_of_lt _ _ p h
/-- A slot's role past the last block. -/
theorem role_le (free : Fin 3 → sProp 𝕄) (infl : Fin 3 → Fin 64 → sProp 𝕄) (s p : ℕ) (h : 64 ≤ p) : role free infl s p = free (Ring.sl 3 s) :=
  Ring.roleAt_of_le _ _ p h

/-- Before a trip with a block to bring in: the block awaited, the block to bring in and the free slot, apart from what the trip leaves alone. -/
theorem ring_open (home : Fin 64 → sProp 𝕄) (free : Fin 3 → sProp 𝕄) (infl : Fin 3 → Fin 64 → sProp 𝕄) (k : ℕ) (h : k + 2 < 64) :
    iprop(bigSep (Ring.homeSet 2 k) home ∗ role free infl k k ∗ role free infl (k + 1) (k + 1) ∗ free (Ring.sl 3 (k + 2)))
      ⊢ iprop(infl (Ring.sl 3 k) (Ring.bk 64 k) ∗ home (Ring.bk 64 (k + 2)) ∗ free (Ring.sl 3 (k + 2))
        ∗ bigSep ((Ring.homeSet 2 k).erase (Ring.bk 64 (k + 2))) home ∗ role free infl (k + 1) (k + 1)) := by
  rw [role_lt free infl k k (by omega)]
  rw [bigSep_out home _ _ _ (Ring.homeSet_out 2 k h) (Ring.bkL_not_mem_erase 2 k)]
  iintro ⟨⟨Hb, Hr⟩, H0, H1, H2⟩
  isplitl [H0]; · iexact H0
  isplitl [Hb]; · iexact Hb
  isplitl [H2]; · iexact H2
  isplitl [Hr]; · iexact Hr
  iexact H1

/-- After such a trip: the ring before the next. -/
theorem ring_close (home : Fin 64 → sProp 𝕄) (free : Fin 3 → sProp 𝕄) (infl : Fin 3 → Fin 64 → sProp 𝕄) (k : ℕ) (h : k + 2 < 64) :
    iprop(home (Ring.bk 64 k) ∗ free (Ring.sl 3 k) ∗ infl (Ring.sl 3 (k + 2)) (Ring.bk 64 (k + 2))
        ∗ bigSep ((Ring.homeSet 2 k).erase (Ring.bk 64 (k + 2))) home ∗ role free infl (k + 1) (k + 1))
      ⊢ iprop(bigSep (Ring.homeSet 2 (k + 1)) home ∗ role free infl (k + 1) (k + 1) ∗ role free infl (k + 1 + 1) (k + 1 + 1) ∗ free (Ring.sl 3 (k + 1 + 2))) := by
  rw [role_lt free infl (k + 1 + 1) (k + 1 + 1) (by omega), Ring.sl_succ_add 3 k 2 rfl]
  rw [bigSep_out home _ _ _ (Ring.homeSet_succ 2 k h) (Ring.bk_not_mem_erase 2 k (by omega) (by decide))]
  iintro ⟨Hb, H0, H2, Hr, H1⟩
  isplitl [Hb Hr]
  · isplitl [Hb]; · iexact Hb
    iexact Hr
  isplitl [H1]; · iexact H1
  isplitl [H2]; · iexact H2
  iexact H0

/-- Before one of the last two trips: the block awaited, apart from the rest. -/
theorem ring_open_last (home : Fin 64 → sProp 𝕄) (free : Fin 3 → sProp 𝕄) (infl : Fin 3 → Fin 64 → sProp 𝕄) (k : ℕ) (hk : k < 64) :
    iprop(bigSep (Ring.homeSet 2 k) home ∗ role free infl k k ∗ role free infl (k + 1) (k + 1) ∗ free (Ring.sl 3 (k + 2)))
      ⊢ iprop(infl (Ring.sl 3 k) (Ring.bk 64 k) ∗ bigSep (Ring.homeSet 2 k) home ∗ role free infl (k + 1) (k + 1) ∗ free (Ring.sl 3 (k + 2))) := by
  rw [role_lt free infl k k hk]
  iintro ⟨Hr, H0, H1, H2⟩
  isplitl [H0]; · iexact H0
  isplitl [Hr]; · iexact Hr
  isplitl [H1]; · iexact H1
  iexact H2

/-- After one of the last two trips. -/
theorem ring_close_last (home : Fin 64 → sProp 𝕄) (free : Fin 3 → sProp 𝕄) (infl : Fin 3 → Fin 64 → sProp 𝕄) (k : ℕ) (h : 64 ≤ k + 2) (hk : k < 64) :
    iprop(home (Ring.bk 64 k) ∗ free (Ring.sl 3 k) ∗ bigSep (Ring.homeSet 2 k) home ∗ role free infl (k + 1) (k + 1) ∗ free (Ring.sl 3 (k + 2)))
      ⊢ iprop(bigSep (Ring.homeSet 2 (k + 1)) home ∗ role free infl (k + 1) (k + 1) ∗ role free infl (k + 1 + 1) (k + 1 + 1) ∗ free (Ring.sl 3 (k + 1 + 2))) := by
  rw [role_le free infl (k + 1 + 1) (k + 1 + 1) (by omega), Ring.sl_succ_add 3 k 2 rfl]
  rw [bigSep_out home _ _ _ (Ring.homeSet_succ_tail 2 k h hk) (Ring.bk_not_mem_homeSet 2 k hk (by decide))]
  iintro ⟨Hb, H0, Hr, H1, H2⟩
  isplitl [Hb Hr]
  · isplitl [Hb]; · iexact Hb
    iexact Hr
  isplitl [H1]; · iexact H1
  isplitl [H2]; · iexact H2
  iexact H0

end Ring3

/-! ## The result's ring of two slots, each waited a trip later -/

section Ring2

/-- The slot issued at trip `p - 1`, before trip `p`. -/
abbrev roleOut (free : Fin 2 → sProp 𝕄) (infl : Fin 2 → Fin 64 → sProp 𝕄) (p : ℕ) : sProp 𝕄 := @Ring.roleBAt 𝕄 _ 64 _ 1 (free (Ring.sl 2 (p + 1))) (infl (Ring.sl 2 (p + 1))) p

/-- The slot issued a trip back is in flight past the first trip. -/
theorem roleOut_le (free : Fin 2 → sProp 𝕄) (infl : Fin 2 → Fin 64 → sProp 𝕄) (p : ℕ) (h : 1 ≤ p) : roleOut free infl p = infl (Ring.sl 2 (p + 1)) (Ring.bk 64 (p - 1)) :=
  Ring.roleBAt_of_le 1 _ _ p h
/-- It is free before the first trip. -/
theorem roleOut_lt (free : Fin 2 → sProp 𝕄) (infl : Fin 2 → Fin 64 → sProp 𝕄) (p : ℕ) (h : p < 1) : roleOut free infl p = free (Ring.sl 2 (p + 1)) :=
  Ring.roleBAt_of_lt 1 _ _ p h

/-- Before a trip past the first. -/
theorem out_open (any done : Fin 64 → sProp 𝕄) (free : Fin 2 → sProp 𝕄) (infl : Fin 2 → Fin 64 → sProp 𝕄) (k : ℕ) (h0 : ¬k = 0) (hk : k < 64) :
    iprop(bigSep (Ring.aheadSet k) any ∗ bigSep (Ring.behindSet 1 k) done ∗ free (Ring.sl 2 k) ∗ roleOut free infl k)
      ⊢ iprop(free (Ring.sl 2 k) ∗ any (Ring.bk 64 k) ∗ infl (Ring.sl 2 (k + 1)) (Ring.bk 64 (k - 1))
        ∗ bigSep (Ring.aheadSet (k + 1)) any ∗ bigSep (Ring.behindSet 1 k) done) := by
  rw [roleOut_le free infl k (by omega)]
  rw [bigSep_out any _ _ _ (Ring.aheadSet_open k hk) (Ring.bk_not_mem_aheadSet_succ k hk)]
  iintro ⟨⟨Ha, Hr⟩, Hd, H0, H1⟩
  isplitl [H0]; · iexact H0
  isplitl [Ha]; · iexact Ha
  isplitl [H1]; · iexact H1
  isplitl [Hr]; · iexact Hr
  iexact Hd

/-- After such a trip. -/
theorem out_close (any done : Fin 64 → sProp 𝕄) (free : Fin 2 → sProp 𝕄) (infl : Fin 2 → Fin 64 → sProp 𝕄) (k : ℕ) (h0 : ¬k = 0) (hk : k < 64) :
    iprop(infl (Ring.sl 2 k) (Ring.bk 64 k) ∗ free (Ring.sl 2 (k + 1)) ∗ done (Ring.bk 64 (k - 1))
        ∗ bigSep (Ring.aheadSet (k + 1)) any ∗ bigSep (Ring.behindSet 1 k) done)
      ⊢ iprop(bigSep (Ring.aheadSet (k + 1)) any ∗ bigSep (Ring.behindSet 1 (k + 1)) done ∗ free (Ring.sl 2 (k + 1)) ∗ roleOut free infl (k + 1)) := by
  rw [roleOut_le free infl (k + 1) (by omega), Ring.sl_succ_add 2 k 1 rfl, Nat.add_sub_cancel]
  rw [bigSep_out done _ _ _ (Ring.behindSet_close 1 k (by omega) hk) (Ring.bk_not_mem_behindSet 1 k (by omega) hk)]
  iintro ⟨Hi, Hf, Hd, Ha, Hr⟩
  isplitl [Ha]; · iexact Ha
  isplitl [Hd Hr]
  · isplitl [Hd]; · iexact Hd
    iexact Hr
  isplitl [Hf]; · iexact Hf
  iexact Hi

/-- Before the first trip. -/
theorem out_open_first (any done : Fin 64 → sProp 𝕄) (free : Fin 2 → sProp 𝕄) (infl : Fin 2 → Fin 64 → sProp 𝕄) (k : ℕ) (h0 : k = 0) :
    iprop(bigSep (Ring.aheadSet k) any ∗ bigSep (Ring.behindSet 1 k) done ∗ free (Ring.sl 2 k) ∗ roleOut free infl k)
      ⊢ iprop(free (Ring.sl 2 k) ∗ any (Ring.bk 64 k) ∗ free (Ring.sl 2 (k + 1)) ∗ bigSep (Ring.aheadSet (k + 1)) any ∗ bigSep (Ring.behindSet 1 k) done) := by
  rw [roleOut_lt free infl k (by omega)]
  rw [bigSep_out any _ _ _ (Ring.aheadSet_open k (by omega)) (Ring.bk_not_mem_aheadSet_succ k (by omega))]
  iintro ⟨⟨Ha, Hr⟩, Hd, H0, H1⟩
  isplitl [H0]; · iexact H0
  isplitl [Ha]; · iexact Ha
  isplitl [H1]; · iexact H1
  isplitl [Hr]; · iexact Hr
  iexact Hd

/-- After the first trip. -/
theorem out_close_first (any done : Fin 64 → sProp 𝕄) (free : Fin 2 → sProp 𝕄) (infl : Fin 2 → Fin 64 → sProp 𝕄) (k : ℕ) (h0 : k = 0) :
    iprop(infl (Ring.sl 2 k) (Ring.bk 64 k) ∗ free (Ring.sl 2 (k + 1)) ∗ bigSep (Ring.aheadSet (k + 1)) any ∗ bigSep (Ring.behindSet 1 k) done)
      ⊢ iprop(bigSep (Ring.aheadSet (k + 1)) any ∗ bigSep (Ring.behindSet 1 (k + 1)) done ∗ free (Ring.sl 2 (k + 1)) ∗ roleOut free infl (k + 1)) := by
  rw [roleOut_le free infl (k + 1) (by omega), Ring.sl_succ_add 2 k 1 rfl, Nat.add_sub_cancel, Ring.behindSet_boot 1 k (by omega), Ring.behindSet_boot 1 (k + 1) (by omega)]
  iintro ⟨Hi, Hf, Ha, Hr⟩
  isplitl [Ha]; · iexact Ha
  isplitl [Hr]; · iexact Hr
  isplitl [Hf]; · iexact Hf
  iexact Hi

end Ring2

/-! ## The invariant -/

section Inv

variable (c : Dev nD)
  (XO : Buf (Elt F) (oM.view.loc (c : Thread nD τ))) (XZ : Buf (Elt F) (zM.view.loc (c : Thread nD τ))) (XX : Buf (Elt F) (xM.view.loc (c : Thread nD τ)))
  (arg3 : Memref sig .tc .vmem S1024x1024 .bf16) (harg3 : arg3.IsWhole)
  (arg4 : Memref sig .tc .vmem S1x1024 .f32) (harg4 : arg4.IsWhole)
  (arg5 : Memref sig .tc .vmem S1x1024 .f32) (harg5 : arg5.IsWhole)
  (v11 v42 v49 v56 : BitVec 32) (v58 v59 : BitVec 1)
  (W3 : Buf (Elt F) (arg3.view.loc (c : Thread nD τ))) (G4 : Buf (Elt F) (arg4.view.loc (c : Thread nD τ))) (B5 : Buf (Elt F) (arg5.view.loc (c : Thread nD τ)))

/-- Before trip `k`: the counters; the weights, gain and bias; of each operand the blocks in HBM and its ring's three
    slots; of the result the blocks not yet written, the blocks written, and its ring's two slots. -/
@[reducible] def invAt (k : ℕ) (acc : BitVec 32 × BitVec 32 × BitVec 32 × BitVec 32 × BitVec 32 × BitVec 32 × BitVec 32 × BitVec 32 × BitVec 32) : sProp 𝕄 :=
  iprop(⌜acc = accAt k⌝ ∗ (wP c arg3 W3 ∗ rowP c arg4 G4 ∗ rowP c arg5 B5) ∗ (∃ W, owes (c : Thread nD τ) 0 W)
    ∗ (bigSep (Ring.homeSet 2 k) (blkOP c XO) ∗ role (freeO (F := F) c) (inflO c XO) k k ∗ role (freeO (F := F) c) (inflO c XO) (k + 1) (k + 1) ∗ freeO (F := F) c (Ring.sl 3 (k + 2)))
    ∗ (bigSep (Ring.homeSet 2 k) (blkZP c XZ) ∗ role (freeZ (F := F) c) (inflZ c XZ) k k ∗ role (freeZ (F := F) c) (inflZ c XZ) (k + 1) (k + 1) ∗ freeZ (F := F) c (Ring.sl 3 (k + 2)))
    ∗ (bigSep (Ring.homeSet 2 k) (blkXP c XX) ∗ role (freeX (F := F) c) (inflX c XX) k k ∗ role (freeX (F := F) c) (inflX c XX) (k + 1) (k + 1) ∗ freeX (F := F) c (Ring.sl 3 (k + 2)))
    ∗ (bigSep (Ring.aheadSet k) (anyY (F := F) c) ∗ bigSep (Ring.behindSet 1 k) (doneY c XO XZ XX arg3 arg4 arg5 W3 G4 B5) ∗ freeY (F := F) c (Ring.sl 2 k)
      ∗ roleOut (freeY (F := F) c) (inflY c XO XZ XX arg3 arg4 arg5 W3 G4 B5) k))

/-- A middle trip keeps the invariant. -/
theorem step_mid (k : Fin k0_t1_loop.trips) (h2 : k.val + 2 < 64) (h0 : ¬k.val = 0) :
    invAt c XO XZ XX arg3 arg4 arg5 W3 G4 B5 k.val (accAt k.val) ⊢ wp frame (wpE (defs₀ (F := F)) 𝒱₀ (c : Thread nD τ) none) Set.univ (tripG arg3 harg3 arg4 harg4 arg5 harg5 v11 v42 v49 v56 v58 v59 k)
      (invAt c XO XZ XX arg3 arg4 arg5 W3 G4 B5 (k.val + 1)) := by
  have hk : k.val < 64 := k.isLt
  unfold invAt
  iintro ⟨-, HS, HW, HO, HZ, HX, HY⟩
  ihave H := (ring_open (blkOP c XO) (freeO (F := F) c) (inflO c XO) k.val h2) $$ HO
  icases H with ⟨HFO, HBO, HEO, HRO, HMO⟩
  ihave H := (ring_open (blkZP c XZ) (freeZ (F := F) c) (inflZ c XZ) k.val h2) $$ HZ
  icases H with ⟨HFZ, HBZ, HEZ, HRZ, HMZ⟩
  ihave H := (ring_open (blkXP c XX) (freeX (F := F) c) (inflX c XX) k.val h2) $$ HX
  icases H with ⟨HFX, HBX, HEX, HRX, HMX⟩
  ihave H := (out_open (anyY (F := F) c) (doneY c XO XZ XX arg3 arg4 arg5 W3 G4 B5) (freeY (F := F) c) (inflY c XO XZ XX arg3 arg4 arg5 W3 G4 B5) k.val h0 hk) $$ HY
  icases H with ⟨HYF, HYA, HYI, HYR, HYD⟩
  iapply (wp_wand_r Idealize.ShloMosaic.frame (wpE (defs₀ (F := F)) 𝒱₀ (c : Thread nD τ) none) Set.univ)
  isplitl [HS HW HFO HBO HEO HFZ HBZ HEZ HFX HBX HEX HYF HYA HYI]
  · iapply (trip_mid c XO XZ XX arg3 harg3 arg4 harg4 arg5 harg5 v11 v42 v49 v56 v58 v59 W3 G4 B5 k h2 h0)
    isplitl [HS]; · iexact HS
    isplitl [HW]; · iexact HW
    isplitl [HFO]; · iexact HFO
    isplitl [HBO]; · iexact HBO
    isplitl [HEO]; · iexact HEO
    isplitl [HFZ]; · iexact HFZ
    isplitl [HBZ]; · iexact HBZ
    isplitl [HEZ]; · iexact HEZ
    isplitl [HFX]; · iexact HFX
    isplitl [HBX]; · iexact HBX
    isplitl [HEX]; · iexact HEX
    isplitl [HYF]; · iexact HYF
    isplitl [HYA]; · iexact HYA
    iexact HYI
  · iintro %acc ⟨%hacc, HS, HW, HGO, HFO, HIO, HGZ, HFZ, HIZ, HGX, HFX, HIX, HYI, HYE, HYN⟩
    isplitr; · ipureintro; exact hacc
    isplitl [HS]; · iexact HS
    isplitl [HW]; · iexact HW
    isplitl [HGO HFO HIO HRO HMO]
    · iapply (ring_close (blkOP c XO) (freeO (F := F) c) (inflO c XO) k.val h2)
      isplitl [HGO]; · iexact HGO
      isplitl [HFO]; · iexact HFO
      isplitl [HIO]; · iexact HIO
      isplitl [HRO]; · iexact HRO
      iexact HMO
    isplitl [HGZ HFZ HIZ HRZ HMZ]
    · iapply (ring_close (blkZP c XZ) (freeZ (F := F) c) (inflZ c XZ) k.val h2)
      isplitl [HGZ]; · iexact HGZ
      isplitl [HFZ]; · iexact HFZ
      isplitl [HIZ]; · iexact HIZ
      isplitl [HRZ]; · iexact HRZ
      iexact HMZ
    isplitl [HGX HFX HIX HRX HMX]
    · iapply (ring_close (blkXP c XX) (freeX (F := F) c) (inflX c XX) k.val h2)
      isplitl [HGX]; · iexact HGX
      isplitl [HFX]; · iexact HFX
      isplitl [HIX]; · iexact HIX
      isplitl [HRX]; · iexact HRX
      iexact HMX
    iapply (out_close (anyY (F := F) c) (doneY c XO XZ XX arg3 arg4 arg5 W3 G4 B5) (freeY (F := F) c) (inflY c XO XZ XX arg3 arg4 arg5 W3 G4 B5) k.val h0 hk)
    isplitl [HYI]; · iexact HYI
    isplitl [HYE]; · iexact HYE
    isplitl [HYN]; · iexact HYN
    isplitl [HYR]; · iexact HYR
    iexact HYD

/-- The first trip keeps the invariant. -/
theorem step_first (k : Fin k0_t1_loop.trips) (h2 : k.val + 2 < 64) (h0 : k.val = 0) :
    invAt c XO XZ XX arg3 arg4 arg5 W3 G4 B5 k.val (accAt k.val) ⊢ wp frame (wpE (defs₀ (F := F)) 𝒱₀ (c : Thread nD τ) none) Set.univ (tripG arg3 harg3 arg4 harg4 arg5 harg5 v11 v42 v49 v56 v58 v59 k)
      (invAt c XO XZ XX arg3 arg4 arg5 W3 G4 B5 (k.val + 1)) := by
  have hk : k.val < 64 := k.isLt
  unfold invAt
  iintro ⟨-, HS, HW, HO, HZ, HX, HY⟩
  ihave H := (ring_open (blkOP c XO) (freeO (F := F) c) (inflO c XO) k.val h2) $$ HO
  icases H with ⟨HFO, HBO, HEO, HRO, HMO⟩
  ihave H := (ring_open (blkZP c XZ) (freeZ (F := F) c) (inflZ c XZ) k.val h2) $$ HZ
  icases H with ⟨HFZ, HBZ, HEZ, HRZ, HMZ⟩
  ihave H := (ring_open (blkXP c XX) (freeX (F := F) c) (inflX c XX) k.val h2) $$ HX
  icases H with ⟨HFX, HBX, HEX, HRX, HMX⟩
  ihave H := (out_open_first (anyY (F := F) c) (doneY c XO XZ XX arg3 arg4 arg5 W3 G4 B5) (freeY (F := F) c) (inflY c XO XZ XX arg3 arg4 arg5 W3 G4 B5) k.val h0) $$ HY
  icases H with ⟨HYF, HYA, HYE, HYR, HYD⟩
  iapply (wp_wand_r Idealize.ShloMosaic.frame (wpE (defs₀ (F := F)) 𝒱₀ (c : Thread nD τ) none) Set.univ)
  isplitl [HS HW HFO HBO HEO HFZ HBZ HEZ HFX HBX HEX HYF HYA]
  · iapply (trip_first c XO XZ XX arg3 harg3 arg4 harg4 arg5 harg5 v11 v42 v49 v56 v58 v59 W3 G4 B5 k h2 h0)
    isplitl [HS]; · iexact HS
    isplitl [HW]; · iexact HW
    isplitl [HFO]; · iexact HFO
    isplitl [HBO]; · iexact HBO
    isplitl [HEO]; · iexact HEO
    isplitl [HFZ]; · iexact HFZ
    isplitl [HBZ]; · iexact HBZ
    isplitl [HEZ]; · iexact HEZ
    isplitl [HFX]; · iexact HFX
    isplitl [HBX]; · iexact HBX
    isplitl [HEX]; · iexact HEX
    isplitl [HYF]; · iexact HYF
    iexact HYA
  · iintro %acc ⟨%hacc, HS, HW, HGO, HFO, HIO, HGZ, HFZ, HIZ, HGX, HFX, HIX, HYI⟩
    isplitr; · ipureintro; exact hacc
    isplitl [HS]; · iexact HS
    isplitl [HW]; · iexact HW
    isplitl [HGO HFO HIO HRO HMO]
    · iapply (ring_close (blkOP c XO) (freeO (F := F) c) (inflO c XO) k.val h2)
      isplitl [HGO]; · iexact HGO
      isplitl [HFO]; · iexact HFO
      isplitl [HIO]; · iexact HIO
      isplitl [HRO]; · iexact HRO
      iexact HMO
    isplitl [HGZ HFZ HIZ HRZ HMZ]
    · iapply (ring_close (blkZP c XZ) (freeZ (F := F) c) (inflZ c XZ) k.val h2)
      isplitl [HGZ]; · iexact HGZ
      isplitl [HFZ]; · iexact HFZ
      isplitl [HIZ]; · iexact HIZ
      isplitl [HRZ]; · iexact HRZ
      iexact HMZ
    isplitl [HGX HFX HIX HRX HMX]
    · iapply (ring_close (blkXP c XX) (freeX (F := F) c) (inflX c XX) k.val h2)
      isplitl [HGX]; · iexact HGX
      isplitl [HFX]; · iexact HFX
      isplitl [HIX]; · iexact HIX
      isplitl [HRX]; · iexact HRX
      iexact HMX
    iapply (out_close_first (anyY (F := F) c) (doneY c XO XZ XX arg3 arg4 arg5 W3 G4 B5) (freeY (F := F) c) (inflY c XO XZ XX arg3 arg4 arg5 W3 G4 B5) k.val h0)
    isplitl [HYI]; · iexact HYI
    isplitl [HYE]; · iexact HYE
    isplitl [HYR]; · iexact HYR
    iexact HYD

/-- The last two trips keep the invariant. -/
theorem step_last (k : Fin k0_t1_loop.trips) (h2 : ¬k.val + 2 < 64) (h0 : ¬k.val = 0) :
    invAt c XO XZ XX arg3 arg4 arg5 W3 G4 B5 k.val (accAt k.val) ⊢ wp frame (wpE (defs₀ (F := F)) 𝒱₀ (c : Thread nD τ) none) Set.univ (tripG arg3 harg3 arg4 harg4 arg5 harg5 v11 v42 v49 v56 v58 v59 k)
      (invAt c XO XZ XX arg3 arg4 arg5 W3 G4 B5 (k.val + 1)) := by
  have hk : k.val < 64 := k.isLt
  unfold invAt
  iintro ⟨-, HS, HW, HO, HZ, HX, HY⟩
  ihave H := (ring_open_last (blkOP c XO) (freeO (F := F) c) (inflO c XO) k.val hk) $$ HO
  icases H with ⟨HFO, HRO, HMO, HEO⟩
  ihave H := (ring_open_last (blkZP c XZ) (freeZ (F := F) c) (inflZ c XZ) k.val hk) $$ HZ
  icases H with ⟨HFZ, HRZ, HMZ, HEZ⟩
  ihave H := (ring_open_last (blkXP c XX) (freeX (F := F) c) (inflX c XX) k.val hk) $$ HX
  icases H with ⟨HFX, HRX, HMX, HEX⟩
  ihave H := (out_open (anyY (F := F) c) (doneY c XO XZ XX arg3 arg4 arg5 W3 G4 B5) (freeY (F := F) c) (inflY c XO XZ XX arg3 arg4 arg5 W3 G4 B5) k.val h0 hk) $$ HY
  icases H with ⟨HYF, HYA, HYI, HYR, HYD⟩
  iapply (wp_wand_r Idealize.ShloMosaic.frame (wpE (defs₀ (F := F)) 𝒱₀ (c : Thread nD τ) none) Set.univ)
  isplitl [HS HW HFO HFZ HFX HYF HYA HYI]
  · iapply (trip_last c XO XZ XX arg3 harg3 arg4 harg4 arg5 harg5 v11 v42 v49 v56 v58 v59 W3 G4 B5 k h2 h0)
    isplitl [HS]; · iexact HS
    isplitl [HW]; · iexact HW
    isplitl [HFO]; · iexact HFO
    isplitl [HFZ]; · iexact HFZ
    isplitl [HFX]; · iexact HFX
    isplitl [HYF]; · iexact HYF
    isplitl [HYA]; · iexact HYA
    iexact HYI
  · iintro %acc ⟨%hacc, HS, HW, HGO, HFO, HGZ, HFZ, HGX, HFX, HYI, HYE, HYN⟩
    isplitr; · ipureintro; exact hacc
    isplitl [HS]; · iexact HS
    isplitl [HW]; · iexact HW
    isplitl [HGO HFO HRO HMO HEO]
    · iapply (ring_close_last (blkOP c XO) (freeO (F := F) c) (inflO c XO) k.val (by omega) hk)
      isplitl [HGO]; · iexact HGO
      isplitl [HFO]; · iexact HFO
      isplitl [HRO]; · iexact HRO
      isplitl [HMO]; · iexact HMO
      iexact HEO
    isplitl [HGZ HFZ HRZ HMZ HEZ]
    · iapply (ring_close_last (blkZP c XZ) (freeZ (F := F) c) (inflZ c XZ) k.val (by omega) hk)
      isplitl [HGZ]; · iexact HGZ
      isplitl [HFZ]; · iexact HFZ
      isplitl [HRZ]; · iexact HRZ
      isplitl [HMZ]; · iexact HMZ
      iexact HEZ
    isplitl [HGX HFX HRX HMX HEX]
    · iapply (ring_close_last (blkXP c XX) (freeX (F := F) c) (inflX c XX) k.val (by omega) hk)
      isplitl [HGX]; · iexact HGX
      isplitl [HFX]; · iexact HFX
      isplitl [HRX]; · iexact HRX
      isplitl [HMX]; · iexact HMX
      iexact HEX
    iapply (out_close (anyY (F := F) c) (doneY c XO XZ XX arg3 arg4 arg5 W3 G4 B5) (freeY (F := F) c) (inflY c XO XZ XX arg3 arg4 arg5 W3 G4 B5) k.val h0 hk)
    isplitl [HYI]; · iexact HYI
    isplitl [HYE]; · iexact HYE
    isplitl [HYN]; · iexact HYN
    isplitl [HYR]; · iexact HYR
    iexact HYD

/-- Every trip keeps the invariant, whatever counters it is stated at. -/
theorem step_all (k : Fin k0_t1_loop.trips) (acc) :
    invAt c XO XZ XX arg3 arg4 arg5 W3 G4 B5 k.val acc ⊢ wp frame (wpE (defs₀ (F := F)) 𝒱₀ (c : Thread nD τ) none) Set.univ
      (k0_t1_body (F := F) oM (Memref.isWhole_whole _) zM (Memref.isWhole_whole _) xM (Memref.isWhole_whole _) arg3 harg3 arg4 harg4 arg5 harg5 yM (Memref.isWhole_whole _)
        oR (Memref.isWhole_whole _) cc0_scoped1 zR (Memref.isWhole_whole _) cc0_scoped3 xR (Memref.isWhole_whole _) cc0_scoped5 yR (Memref.isWhole_whole _) cc0_scoped7
        v11 v42 v49 v56 v58 v59 k acc)
      (invAt c XO XZ XX arg3 arg4 arg5 W3 G4 B5 (k.val + 1)) := by
  by_cases ha : acc = accAt k.val
  · subst ha
    by_cases h0 : k.val = 0
    · exact step_first c XO XZ XX arg3 harg3 arg4 harg4 arg5 harg5 v11 v42 v49 v56 v58 v59 W3 G4 B5 k (by omega) h0
    by_cases h2 : k.val + 2 < 64
    · exact step_mid c XO XZ XX arg3 harg3 arg4 harg4 arg5 harg5 v11 v42 v49 v56 v58 v59 W3 G4 B5 k h2 h0
    · exact step_last c XO XZ XX arg3 harg3 arg4 harg4 arg5 harg5 v11 v42 v49 v56 v58 v59 W3 G4 B5 k h2 h0
  · conv_lhs => unfold invAt
    iintro ⟨%h, -⟩
    exact absurd h ha

set_option warn.classDefReducibility false in
/-- The loop's invariant, in the form the run looks for. -/
@[sl_loop] def loopInv (init) :
    LoopInvTy_k0_t1 (F := F) Unit ℕ (UU nD τ) ℕ 𝒱₀ c none Set.univ oM (Memref.isWhole_whole _) zM (Memref.isWhole_whole _) xM (Memref.isWhole_whole _) arg3 harg3 arg4 harg4 arg5 harg5 yM (Memref.isWhole_whole _)
        oR (Memref.isWhole_whole _) cc0_scoped1 zR (Memref.isWhole_whole _) cc0_scoped3 xR (Memref.isWhole_whole _) cc0_scoped5 yR (Memref.isWhole_whole _) cc0_scoped7
        v11 v42 v49 v56 v58 v59 init where
  inv k acc := invAt c XO XZ XX arg3 arg4 arg5 W3 G4 B5 k acc
  step k acc := step_all c XO XZ XX arg3 harg3 arg4 harg4 arg5 harg5 v11 v42 v49 v56 v58 v59 W3 G4 B5 k acc

end Inv

end Cert.KernelIdeal.OddOut

end
-- ==== Proof.Body.lean ====
/- The kernel's body: the prologue's transfers, the loop of 64 row blocks, the last write-back's wait. -/
module

public import proofs.«01_k».proof.Proof.Loop

@[expose] public section

set_option maxRecDepth 16384

noncomputable section

namespace Cert.KernelIdeal.OddOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UU nD τ) ℕ

section Body

variable (c : Dev nD)
  (XO : Buf (Elt F) (oM.view.loc (c : Thread nD τ))) (XZ : Buf (Elt F) (zM.view.loc (c : Thread nD τ))) (XX : Buf (Elt F) (xM.view.loc (c : Thread nD τ)))
  (arg3 : Memref sig .tc .vmem S1024x1024 .bf16) (harg3 : arg3.IsWhole)
  (arg4 : Memref sig .tc .vmem S1x1024 .f32) (harg4 : arg4.IsWhole)
  (arg5 : Memref sig .tc .vmem S1x1024 .f32) (harg5 : arg5.IsWhole)
  (W3 : Buf (Elt F) (arg3.view.loc (c : Thread nD τ))) (G4 : Buf (Elt F) (arg4.view.loc (c : Thread nD τ))) (B5 : Buf (Elt F) (arg5.view.loc (c : Thread nD τ)))

/-- The body on the given staging buffers. -/
abbrev bodyG : Prog (TpuEff nD τ sig (Elt F) Λ₀ .tc) PUnit :=
  cc0_odd_out_proj_ln oM (Memref.isWhole_whole _) zM (Memref.isWhole_whole _) xM (Memref.isWhole_whole _) arg3 harg3 arg4 harg4 arg5 harg5 yM (Memref.isWhole_whole _)
    oR (Memref.isWhole_whole _) cc0_scoped1 zR (Memref.isWhole_whole _) cc0_scoped3 xR (Memref.isWhole_whole _) cc0_scoped5 yR (Memref.isWhole_whole _) cc0_scoped7

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem sl2_0 : Ring.sl 2 0 = 0 := Fin.ext (by rfl)
theorem sl2_1 : Ring.sl 2 (0 + 1) = 1 := Fin.ext (by rfl)
theorem bk64_0 : Ring.bk 64 0 = 0 := Fin.ext (by rfl)
theorem bk64_1 : Ring.bk 64 (0 + 1) = 1 := Fin.ext (by rfl)

/-- Every block of an operand is back once the last trip is done. -/
theorem ring_end (home : Fin 64 → sProp 𝕄) (free : Fin 3 → sProp 𝕄) (infl : Fin 3 → Fin 64 → sProp 𝕄) :
    iprop(bigSep (Ring.homeSet 2 64) home ∗ role free infl 64 64 ∗ role free infl (64 + 1) (64 + 1) ∗ free (Ring.sl 3 (64 + 2)))
      ⊢ iprop(bigSep Finset.univ home ∗ free 0 ∗ free 1 ∗ free 2) := by
  rw [role_le free infl 64 64 (by omega), role_le free infl (64 + 1) (64 + 1) (by omega), show Ring.sl 3 64 = 1 from Fin.ext (by rfl), show Ring.sl 3 (64 + 1) = 2 from Fin.ext (by rfl),
    show Ring.sl 3 (64 + 2) = 0 from Fin.ext (by rfl),
    show Ring.homeSet (NB := 64) 2 64 = Finset.univ from by ext b; have := b.isLt; simp only [Ring.mem_homeSet, Finset.mem_univ, iff_true]; omega]
  iintro ⟨Hb, H1, H2, H0⟩
  isplitl [Hb]; · iexact Hb
  isplitl [H0]; · iexact H0
  isplitl [H1]; · iexact H1
  iexact H2

/-- The blocks written before the last wait, with the last. -/
theorem all_written : (Finset.univ : Finset (Fin 64)) = insert (Ring.bk 64 63) (Ring.behindSet 1 64) := by
  ext u; have := u.isLt
  simp only [Finset.mem_univ, Finset.mem_insert, Ring.mem_behindSet, true_iff, Fin.ext_iff, Ring.bk_val (show 63 < 64 by decide)]; omega
/-- The last block is not among them. -/
theorem last_not_written : Ring.bk 64 63 ∉ Ring.behindSet (NB := 64) 1 64 := by
  rw [Ring.mem_behindSet, Ring.bk_val (by decide)]; omega

set_option warn.classDefReducibility false in
/-- After the loop: every operand's blocks home and its slots free, every block of the result written but the last, which
    is in flight. -/
def loopExit (v11 v42 v49 v56 : BitVec 32) (v58 v59 : BitVec 1) (init) :
    LoopExit (loopInv c XO XZ XX arg3 harg3 arg4 harg4 arg5 harg5 v11 v42 v49 v56 v58 v59 W3 G4 B5 init) where
  post acc := iprop(⌜acc = accAt 64⌝ ∗ (wP c arg3 W3 ∗ rowP c arg4 G4 ∗ rowP c arg5 B5) ∗ (∃ W, owes (c : Thread nD τ) 0 W)
    ∗ (bigSep Finset.univ (blkOP c XO) ∗ freeO (F := F) c 0 ∗ freeO (F := F) c 1 ∗ freeO (F := F) c 2)
    ∗ (bigSep Finset.univ (blkZP c XZ) ∗ freeZ (F := F) c 0 ∗ freeZ (F := F) c 1 ∗ freeZ (F := F) c 2)
    ∗ (bigSep Finset.univ (blkXP c XX) ∗ freeX (F := F) c 0 ∗ freeX (F := F) c 1 ∗ freeX (F := F) c 2)
    ∗ bigSep (Ring.behindSet 1 64) (doneY c XO XZ XX arg3 arg4 arg5 W3 G4 B5) ∗ freeY (F := F) c 0 ∗ inflY c XO XZ XX arg3 arg4 arg5 W3 G4 B5 (Ring.sl 2 65) (Ring.bk 64 63))
  exit acc := by
    show invAt c XO XZ XX arg3 arg4 arg5 W3 G4 B5 64 acc ⊢ _
    unfold invAt
    rw [roleOut_le _ _ 64 (by omega), show Ring.sl 2 64 = 0 from Fin.ext (by rfl)]
    iintro ⟨%h, HS, HW, HO, HZ, HX, -, Hd, HF, HI⟩
    ihave HO := (ring_end (blkOP c XO) (freeO (F := F) c) (inflO c XO)) $$ HO
    ihave HZ := (ring_end (blkZP c XZ) (freeZ (F := F) c) (inflZ c XZ)) $$ HZ
    ihave HX := (ring_end (blkXP c XX) (freeX (F := F) c) (inflX c XX)) $$ HX
    isplitr; · ipureintro; exact h
    isplitl [HS]; · iexact HS
    isplitl [HW]; · iexact HW
    isplitl [HO]; · iexact HO
    isplitl [HZ]; · iexact HZ
    isplitl [HX]; · iexact HX
    isplitl [Hd]; · iexact Hd
    isplitl [HF]; · iexact HF
    iexact HI

set_option warn.classDefReducibility false in
attribute [local instance] loopExit in
attribute [local sl_canon] sl3_0 sl3_1 sl3_2 sl2_0 sl2_1 bk64_0 bk64_1 in
/-- The body runs: the row blocks of each operand come back, every block of the result is written. -/
theorem bodyRun (Q : PUnit → sProp 𝕄) :
    iprop((wP c arg3 W3 ∗ rowP c arg4 G4 ∗ rowP c arg5 B5) ∗ (∃ W, owes (c : Thread nD τ) 0 W)
    ∗ (blkOP c XO 0 ∗ blkOP c XO 1 ∗ bigSep (Ring.homeSet 2 0) (blkOP c XO) ∗ freeO (F := F) c 0 ∗ freeO (F := F) c 1 ∗ freeO (F := F) c 2)
    ∗ (blkZP c XZ 0 ∗ blkZP c XZ 1 ∗ bigSep (Ring.homeSet 2 0) (blkZP c XZ) ∗ freeZ (F := F) c 0 ∗ freeZ (F := F) c 1 ∗ freeZ (F := F) c 2)
    ∗ (blkXP c XX 0 ∗ blkXP c XX 1 ∗ bigSep (Ring.homeSet 2 0) (blkXP c XX) ∗ freeX (F := F) c 0 ∗ freeX (F := F) c 1 ∗ freeX (F := F) c 2)
    ∗ (bigSep (Ring.aheadSet 0) (anyY (F := F) c) ∗ bigSep (Ring.behindSet 1 0) (doneY c XO XZ XX arg3 arg4 arg5 W3 G4 B5) ∗ freeY (F := F) c 0 ∗ freeY (F := F) c 1)
    ∗ (((wP c arg3 W3 ∗ rowP c arg4 G4 ∗ rowP c arg5 B5) ∗ (∃ W, owes (c : Thread nD τ) 0 W)
    ∗ (bigSep Finset.univ (blkOP c XO) ∗ freeO (F := F) c 0 ∗ freeO (F := F) c 1 ∗ freeO (F := F) c 2)
    ∗ (bigSep Finset.univ (blkZP c XZ) ∗ freeZ (F := F) c 0 ∗ freeZ (F := F) c 1 ∗ freeZ (F := F) c 2)
    ∗ (bigSep Finset.univ (blkXP c XX) ∗ freeX (F := F) c 0 ∗ freeX (F := F) c 1 ∗ freeX (F := F) c 2)
    ∗ (bigSep Finset.univ (doneY c XO XZ XX arg3 arg4 arg5 W3 G4 B5) ∗ freeY (F := F) c 0 ∗ freeY (F := F) c 1)) -∗ Q ⟨⟩))
      ⊢ wp frame (wpE (defs₀ (F := F)) 𝒱₀ (c : Thread nD τ) none) Set.univ (bodyG arg3 harg3 arg4 harg4 arg5 harg5) Q := by
  iintro ⟨⟨Hw3, Hg4, Hb5⟩, ⟨%W, HW⟩, ⟨HOb0, HOb1, HOh, ⟨⟨%fO0, HOs0⟩, HOc0⟩, ⟨⟨%fO1, HOs1⟩, HOc1⟩, ⟨%fO2, HOs2⟩, HOc2⟩, ⟨HZb0, HZb1, HZh, ⟨⟨%fZ0, HZs0⟩, HZc0⟩, ⟨⟨%fZ1, HZs1⟩, HZc1⟩, ⟨%fZ2, HZs2⟩, HZc2⟩, ⟨HXb0, HXb1, HXh, ⟨⟨%fX0, HXs0⟩, HXc0⟩, ⟨⟨%fX1, HXs1⟩, HXc1⟩, ⟨%fX2, HXs2⟩, HXc2⟩, ⟨HYa, HYd, ⟨⟨%fY0, HYs0⟩, HYc0⟩, ⟨%fY1, HYs1⟩, HYc1⟩, Hk⟩
  sl_exec
  sl_step
  iapply Hk
  isplitl [HL1 HL2 HL3]
  · isplitl [HL1]; · iexact HL1
    isplitl [HL2]; · iexact HL2
    iexact HL3
  isplitl [HL4]; · iexists _; iexact HL4
  isplitl [HL5 HL6 HL7 HL8 HL9 HL10 HL11]
  · isplitl [HL5]; · iexact HL5
    isplitl [HL6 HL7]
    · isplitl [HL6]; · iexists _; iexact HL6
      iexact HL7
    isplitl [HL8 HL9]
    · isplitl [HL8]; · iexists _; iexact HL8
      iexact HL9
    isplitl [HL10]; · iexists _; iexact HL10
    iexact HL11
  isplitl [HL12 HL13 HL14 HL15 HL16 HL17 HL18]
  · isplitl [HL12]; · iexact HL12
    isplitl [HL13 HL14]
    · isplitl [HL13]; · iexists _; iexact HL13
      iexact HL14
    isplitl [HL15 HL16]
    · isplitl [HL15]; · iexists _; iexact HL15
      iexact HL16
    isplitl [HL17]; · iexists _; iexact HL17
    iexact HL18
  isplitl [HL19 HL20 HL21 HL22 HL23 HL24 HL25]
  · isplitl [HL19]; · iexact HL19
    isplitl [HL20 HL21]
    · isplitl [HL20]; · iexists _; iexact HL20
      iexact HL21
    isplitl [HL22 HL23]
    · isplitl [HL22]; · iexists _; iexact HL22
      iexact HL23
    isplitl [HL24]; · iexists _; iexact HL24
    iexact HL25
  isplitl [HL26 HL30_dst]
  · iapply (ent_eq (bigSep_out (doneY c XO XZ XX arg3 arg4 arg5 W3 G4 B5) Finset.univ (Ring.behindSet 1 64) (Ring.bk 64 63) all_written last_not_written).symm)
    isplitl [HL30_dst]
    · iexists _; isplitl [HL30_dst]; · iexact HL30_dst
      ipureintro; exact hL29
    iexact HL26
  isplitl [HL27 HL28]
  · isplitl [HL27]; · iexists _; iexact HL27
    iexact HL28
  irw [show (1 : Fin 2) = Ring.sl 2 65 from Fin.ext (by rfl)]
  isplitl [HL30_src]; · iexists _; iexact HL30_src
  iexact HL30

end Body

end Cert.KernelIdeal.OddOut

end
-- ==== Proof.Split.lean ====
/- The launch: the arrays split into row blocks and the ring buffers into slots, the body run once, the result joined. -/
module

public import proofs.«01_k».proof.Proof.Body
public import proofs.«01_k».proof.Proof.Gen.KernelIdeal.Frame
public import Idealize.ShloMosaic.Lib.Pipeline.KitQuiescent

@[expose] public section

set_option maxRecDepth 16384

noncomputable section

namespace Cert.KernelIdeal.OddOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## Row blocks and slots as sets of elements -/

/-- Row block `b`'s elements. -/
abbrev G64 (b : Fin 64) : Finset S32768x1024.Idx := (Rect.unit (s := S32768x1024) (blkOff b) S512x1024.size (blkOff_inb b)).set
/-- Slot `s`'s elements in a ring of three. -/
abbrev R3 (s : Fin 3) : Finset S3x512x1024.Idx := (Rect.unit (s := S3x512x1024) (slotOff s) S1x512x1024.size (slotOff3_inb s)).set
/-- Slot `s`'s elements in a ring of two. -/
abbrev R2 (s : Fin 2) : Finset S2x512x1024.Idx := (Rect.unit (s := S2x512x1024) (slotOff s) S1x512x1024.size (slotOff2_inb s)).set

theorem mem_G64 (b : Fin 64) (y : S32768x1024.Idx) : y ∈ G64 b ↔ 512 * b.val ≤ (y 0).val ∧ (y 0).val < 512 * b.val + 512 := by
  rw [Rect.mem_set_unit]
  have h1 : (y 1).val < 1024 := (y 1).isLt
  constructor
  · intro H; have a0 : 512 * b.val ≤ (y 0).val ∧ (y 0).val < 512 * b.val + 512 := H 0; exact a0
  · intro H i; fin_cases i
    · show 512 * b.val ≤ (y 0).val ∧ (y 0).val < 512 * b.val + 512; exact H
    · show 0 ≤ (y 1).val ∧ (y 1).val < 0 + 1024; omega
theorem mem_R3 (s : Fin 3) (y : S3x512x1024.Idx) : y ∈ R3 s ↔ (y 0).val = s.val := by
  rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
theorem R3_disjoint : ∀ b b' : Fin 3, b ≠ b' → Disjoint (R3 b) (R3 b') := by
  intro b b' hne; rw [Finset.disjoint_left]; intro y hy hy'; rw [mem_R3] at hy hy'; exact hne (Fin.ext (hy.symm.trans hy'))
theorem R3_cover : (Finset.univ : Finset (Fin 3)).biUnion R3 = Finset.univ := by
  ext y; simp only [Finset.mem_biUnion, Finset.mem_univ, true_and, iff_true]; exact ⟨(y 0).cast (by decide), by rw [mem_R3]; rfl⟩
theorem mem_R2 (s : Fin 2) (y : S2x512x1024.Idx) : y ∈ R2 s ↔ (y 0).val = s.val := by
  rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
theorem R2_disjoint : ∀ b b' : Fin 2, b ≠ b' → Disjoint (R2 b) (R2 b') := by
  intro b b' hne; rw [Finset.disjoint_left]; intro y hy hy'; rw [mem_R2] at hy hy'; exact hne (Fin.ext (hy.symm.trans hy'))
theorem R2_cover : (Finset.univ : Finset (Fin 2)).biUnion R2 = Finset.univ := by
  ext y; simp only [Finset.mem_biUnion, Finset.mem_univ, true_and, iff_true]; exact ⟨(y 0).cast (by decide), by rw [mem_R2]; rfl⟩
theorem G64_disjoint : ∀ b b' : Fin 64, b ≠ b' → Disjoint (G64 b) (G64 b') := by
  intro b b' hne; rw [Finset.disjoint_left]; intro y hy hy'; rw [mem_G64] at hy hy'; exact hne (Fin.ext (by omega))
/-- The row block row `y 0` lies in. -/
def blkOf (y : S32768x1024.Idx) : Fin 64 := ⟨(y 0).val / 512, by have h : (y 0).val < 32768 := (y 0).isLt; omega⟩
theorem G64_cover : (Finset.univ : Finset (Fin 64)).biUnion G64 = Finset.univ := by
  ext y; simp only [Finset.mem_biUnion, Finset.mem_univ, true_and, iff_true]
  refine ⟨blkOf y, ?_⟩; rw [mem_G64]; show 512 * ((y 0).val / 512) ≤ (y 0).val ∧ (y 0).val < 512 * ((y 0).val / 512) + 512; omega

theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- At the body's entry the first two row blocks stand apart. -/
theorem homes_zero (home : Fin 64 → sProp 𝕄) :
    bigSep Finset.univ home = iprop(home 0 ∗ home 1 ∗ bigSep (Ring.homeSet 2 0) home) := by
  have e : (Finset.univ : Finset (Fin 64)) = insert 0 (insert 1 (Ring.homeSet (NB := 64) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

/-! ## The arrays as row blocks, the ring buffers as slots -/

theorem blkO_set (b : Fin 64) : (blkO b).view.set = G64 b := View.set_slice_whole _ _
theorem slotO_set (s : Fin 3) : (slotO s).view.set = R3 s := (View.set_reshape _ _).trans (View.set_slice_whole _ _)
/-- The array whole is its row blocks. -/
theorem arrO_eq (c : Dev nD) (A : Buf (Elt F) (oM.view.loc (c : Thread nD τ))) :
    (((c : Thread nD τ).loc main_arg0) ↦{fullShare} A : sProp 𝕄) = bigSep Finset.univ (blkOP c A) := by
  rw [Ring.pointsTo_blocks (ℓ := (c : Thread nD τ).loc main_arg0) G64 G64_disjoint G64_cover]
  exact bigSep_congr fun b _ => by rw [← blkO_set]; rfl
theorem slotOP_eq (c : Dev nD) (s : Fin 3) (f) : slotOP c s f = (((c : Thread nD τ).loc cc0_scoped0) ↦[R3 s]{fullShare} f : sProp 𝕄) :=
  congrArg (fun S => (_ ↦[S]{fullShare} f : sProp 𝕄)) (slotO_set s)
/-- The ring buffer whole is its slots; -/
theorem ringO_split (c : Dev nD) :
    iprop(∃ f : Buf (Elt F) ((c : Thread nD τ).loc cc0_scoped0), ((c : Thread nD τ).loc cc0_scoped0) ↦{fullShare} f)
      ⊢ (iprop((∃ f, slotOP (F := F) c 0 f) ∗ (∃ f, slotOP (F := F) c 1 f) ∗ (∃ f, slotOP (F := F) c 2 f)) : sProp 𝕄) := by
  iintro ⟨%f, H⟩
  ihave H2 := (ent_eq ((Ring.pointsTo_blocks (Ix := Unit) (Name := ℕ) (U := UU nD τ) (Lvl := ℕ) (q := fullShare) (ℓ := (c : Thread nD τ).loc cc0_scoped0) R3 R3_disjoint R3_cover f).trans (bigSep_fin3 _))) $$ H
  icases H2 with ⟨H0, H1, H2⟩
  isplitl [H0]
  · iexists f; iapply (ent_eq (slotOP_eq c 0 f).symm); iexact H0
  isplitl [H1]
  · iexists f; iapply (ent_eq (slotOP_eq c 1 f).symm); iexact H1
  iexists f; iapply (ent_eq (slotOP_eq c 2 f).symm); iexact H2
/-- and back. -/
theorem ringO_join (c : Dev nD) :
    iprop((∃ f, slotOP (F := F) c 0 f) ∗ (∃ f, slotOP (F := F) c 1 f) ∗ (∃ f, slotOP (F := F) c 2 f))
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped0) R3 R3_disjoint R3_cover f0)
  irw [bigSep_fin3]
  isplitl [H0]
  · iexists f0; iapply (ent_eq (slotOP_eq c 0 f0)); iexact H0
  isplitl [H1]
  · iexists f1; iapply (ent_eq (slotOP_eq c 1 f1)); iexact H1
  iexists f2; iapply (ent_eq (slotOP_eq c 2 f2)); iexact H2

theorem blkZ_set (b : Fin 64) : (blkZ b).view.set = G64 b := View.set_slice_whole _ _
theorem slotZ_set (s : Fin 3) : (slotZ s).view.set = R3 s := (View.set_reshape _ _).trans (View.set_slice_whole _ _)
/-- The array whole is its row blocks. -/
theorem arrZ_eq (c : Dev nD) (A : Buf (Elt F) (zM.view.loc (c : Thread nD τ))) :
    (((c : Thread nD τ).loc main_arg1) ↦{fullShare} A : sProp 𝕄) = bigSep Finset.univ (blkZP c A) := by
  rw [Ring.pointsTo_blocks (ℓ := (c : Thread nD τ).loc main_arg1) G64 G64_disjoint G64_cover]
  exact bigSep_congr fun b _ => by rw [← blkZ_set]; rfl
theorem slotZP_eq (c : Dev nD) (s : Fin 3) (f) : slotZP c s f = (((c : Thread nD τ).loc cc0_scoped2) ↦[R3 s]{fullShare} f : sProp 𝕄) :=
  congrArg (fun S => (_ ↦[S]{fullShare} f : sProp 𝕄)) (slotZ_set s)
/-- The ring buffer whole is its slots; -/
theorem ringZ_split (c : Dev nD) :
    iprop(∃ f : Buf (Elt F) ((c : Thread nD τ).loc cc0_scoped2), ((c : Thread nD τ).loc cc0_scoped2) ↦{fullShare} f)
      ⊢ (iprop((∃ f, slotZP (F := F) c 0 f) ∗ (∃ f, slotZP (F := F) c 1 f) ∗ (∃ f, slotZP (F := F) c 2 f)) : sProp 𝕄) := by
  iintro ⟨%f, H⟩
  ihave H2 := (ent_eq ((Ring.pointsTo_blocks (Ix := Unit) (Name := ℕ) (U := UU nD τ) (Lvl := ℕ) (q := fullShare) (ℓ := (c : Thread nD τ).loc cc0_scoped2) R3 R3_disjoint R3_cover f).trans (bigSep_fin3 _))) $$ H
  icases H2 with ⟨H0, H1, H2⟩
  isplitl [H0]
  · iexists f; iapply (ent_eq (slotZP_eq c 0 f).symm); iexact H0
  isplitl [H1]
  · iexists f; iapply (ent_eq (slotZP_eq c 1 f).symm); iexact H1
  iexists f; iapply (ent_eq (slotZP_eq c 2 f).symm); iexact H2
/-- and back. -/
theorem ringZ_join (c : Dev nD) :
    iprop((∃ f, slotZP (F := F) c 0 f) ∗ (∃ f, slotZP (F := F) c 1 f) ∗ (∃ f, slotZP (F := F) c 2 f))
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped2) R3 R3_disjoint R3_cover f0)
  irw [bigSep_fin3]
  isplitl [H0]
  · iexists f0; iapply (ent_eq (slotZP_eq c 0 f0)); iexact H0
  isplitl [H1]
  · iexists f1; iapply (ent_eq (slotZP_eq c 1 f1)); iexact H1
  iexists f2; iapply (ent_eq (slotZP_eq c 2 f2)); iexact H2

theorem blkX_set (b : Fin 64) : (blkX b).view.set = G64 b := View.set_slice_whole _ _
theorem slotX_set (s : Fin 3) : (slotX s).view.set = R3 s := (View.set_reshape _ _).trans (View.set_slice_whole _ _)
/-- The array whole is its row blocks. -/
theorem arrX_eq (c : Dev nD) (A : Buf (Elt F) (xM.view.loc (c : Thread nD τ))) :
    (((c : Thread nD τ).loc main_arg2) ↦{fullShare} A : sProp 𝕄) = bigSep Finset.univ (blkXP c A) := by
  rw [Ring.pointsTo_blocks (ℓ := (c : Thread nD τ).loc main_arg2) G64 G64_disjoint G64_cover]
  exact bigSep_congr fun b _ => by rw [← blkX_set]; rfl
theorem slotXP_eq (c : Dev nD) (s : Fin 3) (f) : slotXP c s f = (((c : Thread nD τ).loc cc0_scoped4) ↦[R3 s]{fullShare} f : sProp 𝕄) :=
  congrArg (fun S => (_ ↦[S]{fullShare} f : sProp 𝕄)) (slotX_set s)
/-- The ring buffer whole is its slots; -/
theorem ringX_split (c : Dev nD) :
    iprop(∃ f : Buf (Elt F) ((c : Thread nD τ).loc cc0_scoped4), ((c : Thread nD τ).loc cc0_scoped4) ↦{fullShare} f)
      ⊢ (iprop((∃ f, slotXP (F := F) c 0 f) ∗ (∃ f, slotXP (F := F) c 1 f) ∗ (∃ f, slotXP (F := F) c 2 f)) : sProp 𝕄) := by
  iintro ⟨%f, H⟩
  ihave H2 := (ent_eq ((Ring.pointsTo_blocks (Ix := Unit) (Name := ℕ) (U := UU nD τ) (Lvl := ℕ) (q := fullShare) (ℓ := (c : Thread nD τ).loc cc0_scoped4) R3 R3_disjoint R3_cover f).trans (bigSep_fin3 _))) $$ H
  icases H2 with ⟨H0, H1, H2⟩
  isplitl [H0]
  · iexists f; iapply (ent_eq (slotXP_eq c 0 f).symm); iexact H0
  isplitl [H1]
  · iexists f; iapply (ent_eq (slotXP_eq c 1 f).symm); iexact H1
  iexists f; iapply (ent_eq (slotXP_eq c 2 f).symm); iexact H2
/-- and back. -/
theorem ringX_join (c : Dev nD) :
    iprop((∃ f, slotXP (F := F) c 0 f) ∗ (∃ f, slotXP (F := F) c 1 f) ∗ (∃ f, slotXP (F := F) c 2 f))
      ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped4) R3 R3_disjoint R3_cover f0)
  irw [bigSep_fin3]
  isplitl [H0]
  · iexists f0; iapply (ent_eq (slotXP_eq c 0 f0)); iexact H0
  isplitl [H1]
  · iexists f1; iapply (ent_eq (slotXP_eq c 1 f1)); iexact H1
  iexists f2; iapply (ent_eq (slotXP_eq c 2 f2)); iexact H2

theorem blkY_set (b : Fin 64) : (blkY b).view.set = G64 b := View.set_slice_whole _ _
theorem slotY_set (s : Fin 2) : (slotY s).view.set = R2 s := (View.set_reshape _ _).trans (View.set_slice_whole _ _)
theorem blkYP_eq (c : Dev nD) (A : Buf (Elt F) (yM.view.loc (c : Thread nD τ))) (b : Fin 64) :
    blkYP c A b = (((c : Thread nD τ).loc main_v6) ↦[G64 b]{fullShare} A : sProp 𝕄) :=
  congrArg (fun S => (_ ↦[S]{fullShare} A : sProp 𝕄)) (blkY_set b)
theorem arrY_eq (c : Dev nD) (A : Buf (Elt F) (yM.view.loc (c : Thread nD τ))) :
    (((c : Thread nD τ).loc main_v6) ↦{fullShare} A : sProp 𝕄) = bigSep Finset.univ (fun b => blkYP c A b) := by
  rw [Ring.pointsTo_blocks (ℓ := (c : Thread nD τ).loc main_v6) G64 G64_disjoint G64_cover]
  exact bigSep_congr fun b _ => (blkYP_eq c A b).symm
theorem slotYP_eq (c : Dev nD) (s : Fin 2) (f) : slotYP c s f = (((c : Thread nD τ).loc cc0_scoped6) ↦[R2 s]{fullShare} f : sProp 𝕄) :=
  congrArg (fun S => (_ ↦[S]{fullShare} f : sProp 𝕄)) (slotY_set s)
/-- The ring buffer whole is its slots; -/
theorem ringY_split (c : Dev nD) :
    iprop(∃ f : Buf (Elt F) ((c : Thread nD τ).loc cc0_scoped6), ((c : Thread nD τ).loc cc0_scoped6) ↦{fullShare} f)
      ⊢ (iprop((∃ f, slotYP (F := F) c 0 f) ∗ (∃ f, slotYP (F := F) c 1 f)) : sProp 𝕄) := by
  iintro ⟨%f, H⟩
  ihave H2 := (ent_eq ((Ring.pointsTo_blocks (Ix := Unit) (Name := ℕ) (U := UU nD τ) (Lvl := ℕ) (q := fullShare) (ℓ := (c : Thread nD τ).loc cc0_scoped6) R2 R2_disjoint R2_cover f).trans (bigSep_fin2 _))) $$ H
  icases H2 with ⟨H0, H1⟩
  isplitl [H0]
  · iexists f; iapply (ent_eq (slotYP_eq c 0 f).symm); iexact H0
  iexists f; iapply (ent_eq (slotYP_eq c 1 f).symm); iexact H1
/-- and back. -/
theorem ringY_join (c : Dev nD) :
    iprop((∃ f, slotYP (F := F) c 0 f) ∗ (∃ f, slotYP (F := F) c 1 f))
      ⊢ (iprop(∃ f : Buf (Elt F) ((c : Thread nD τ).loc cc0_scoped6), ((c : Thread nD τ).loc cc0_scoped6) ↦{fullShare} f) : sProp 𝕄) := by
  iintro ⟨⟨%f0, H0⟩, ⟨%f1, H1⟩⟩
  iapply (Ring.pointsTo_blocks_join_exists (ℓ := (c : Thread nD τ).loc cc0_scoped6) R2 R2_disjoint R2_cover f0)
  irw [bigSep_fin2]
  isplitl [H0]
  · iexists f0; iapply (ent_eq (slotYP_eq c 0 f0)); iexact H0
  iexists f1; iapply (ent_eq (slotYP_eq c 1 f1)); iexact H1

/-! ## The kernel's own semaphores -/

/-- The slots' semaphores, ring by ring. -/
abbrev osem : Fin 11 → SemLoc sig := ![.dma (semO 0).sem, .dma (semO 1).sem, .dma (semO 2).sem, .dma (semZ 0).sem, .dma (semZ 1).sem, .dma (semZ 2).sem, .dma (semX 0).sem, .dma (semX 1).sem, .dma (semX 2).sem, .dma (semY 0).sem, .dma (semY 1).sem]
theorem ownSemFacts : Pipeline.OwnSemFacts spec0 osem := by decide
/-- They start at rest. -/
theorem ownSems0_eq (c : Dev nD) : (Pipeline.ownSems0 (Ix := Unit) (Name := ℕ) (U := UU nD τ) (Lvl := ℕ) (Val := Elt F) (τ := τ) osem c : sProp 𝕄)
    = iprop(cellOP (F := F) c 0 ∗ cellOP (F := F) c 1 ∗ cellOP (F := F) c 2 ∗ cellZP (F := F) c 0 ∗ cellZP (F := F) c 1 ∗ cellZP (F := F) c 2 ∗ cellXP (F := F) c 0 ∗ cellXP (F := F) c 1 ∗ cellXP (F := F) c 2 ∗ cellYP (F := F) c 0 ∗ cellYP (F := F) c 1) := by
  unfold Pipeline.ownSems0
  exact bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) _

end Cert.KernelIdeal.OddOut

end
-- ==== Proof.Launch.lean ====
/- The run: the body's obligation at the one grid point, and the whole program from any memory. -/
module

public import proofs.«01_k».proof.Proof.Split

@[expose] public section

set_option maxRecDepth 16384

noncomputable section

namespace Cert.KernelIdeal.OddOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UU nD τ) ℕ

variable (m : (ℓ : Loc nD τ sig) → Buf (Elt F) ℓ) (ρ : Dev nD → PrngReg)

/-- The staging buffers at a point. -/
abbrev st0 (t : Fin cfg0.N) := win0_0.stage ((cfg0.slots t) 0)
abbrev st1 (t : Fin cfg0.N) := win0_1.stage ((cfg0.slots t) 1)
abbrev st2 (t : Fin cfg0.N) := win0_2.stage ((cfg0.slots t) 2)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0

/-- The weights, the gain and the bias as staged. -/
abbrev WS (c : Dev nD) : Buf (Elt F) ((st0 t0_0).view.loc (c : Thread nD τ)) := (st0 t0_0).view.rep (iblk m c 0 t0_0)
abbrev GS (c : Dev nD) : Buf (Elt F) ((st1 t0_0).view.loc (c : Thread nD τ)) := (st1 t0_0).view.rep (iblk m c 1 t0_0)
abbrev BS (c : Dev nD) : Buf (Elt F) ((st2 t0_0).view.loc (c : Thread nD τ)) := (st2 t0_0).view.rep (iblk m c 2 t0_0)

/-- Row block `b` of the result. -/
def valY (c : Dev nD) (b : Fin 64) : Vec F S512x1024 .f32 :=
  blkVal c (V m c main_arg0) (V m c main_arg1) (V m c main_arg2) (st0 t0_0) (st1 t0_0) (st2 t0_0) (WS m c) (GS m c) (BS m c) b
/-- The result whole: each row from its block. -/
def outY (c : Dev nD) : Buf (Elt F) (yM.view.loc (c : Thread nD τ)) := fun i =>
  valY m c (blkOf i) (ix2 ⟨(i 0).val % 512, Nat.mod_lt _ (by decide)⟩ (i 1))

/-- Row block `b` read off the result whole is row block `b`. -/
theorem read_outY (c : Dev nD) (b : Fin 64) : (blkY b).view.read (Elt F) (outY m c) = valY m c b := by
  funext y
  have e : (blkY b).view.read (Elt F) (outY m c) y = outY m c ((blkY b).view.emb y) := rfl
  rw [e]
  have h0 : (y 0).val < 512 := (y 0).isLt
  have hb : blkOf ((blkY b).view.emb y) = b := Fin.ext (by
    show (512 * b.val + 1 * (y 0).val) / 512 = b.val; omega)
  show valY m c (blkOf ((blkY b).view.emb y)) _ = _
  rw [hb]
  refine congrArg (valY m c b) (funext fun a => Fin.ext ?_)
  fin_cases a
  · show (512 * b.val + 1 * (y 0).val) % 512 = (y 0).val; omega
  · show 0 + 1 * (y 1).val = (y 1).val; omega

/-- A written row block holds the result's rows. -/
theorem doneY_out (c : Dev nD) (b : Fin 64) :
    doneY c (V m c main_arg0) (V m c main_arg1) (V m c main_arg2) (st0 t0_0) (st1 t0_0) (st2 t0_0) (WS m c) (GS m c) (BS m c) b
      ⊢ (blkYP c (outY m c) b : sProp 𝕄) := by
  iintro ⟨%g, H, %hg⟩
  iapply (ent_eq (show (blkYP c g b : sProp 𝕄) = blkYP c (outY m c) b from
    ((pointsTo_rep (Ix := Unit) (Name := ℕ) (U := UU nD τ) (Lvl := ℕ) (c : Thread nD τ) (blkY b) g fullShare).trans
      (congrArg (fun r => ((blkY b).view.loc (c : Thread nD τ) ↦[(blkY b).view.set]{fullShare} (blkY b).view.rep r : sProp 𝕄)) (hg.trans (read_outY m c b).symm))).trans
      (pointsTo_rep (Ix := Unit) (Name := ℕ) (U := UU nD τ) (Lvl := ℕ) (c : Thread nD τ) (blkY b) (outY m c) fullShare).symm))
  iexact H
/-- All row blocks written are the result whole. -/
theorem outY_join (c : Dev nD) :
    bigSep Finset.univ (doneY c (V m c main_arg0) (V m c main_arg1) (V m c main_arg2) (st0 t0_0) (st1 t0_0) (st2 t0_0) (WS m c) (GS m c) (BS m c))
      ⊢ (((c : Thread nD τ).loc main_v6) ↦{fullShare} outY m c : sProp 𝕄) := by
  rw [arrY_eq]
  exact bigSep_mono fun b _ => doneY_out m c b
/-- The result's array at launch is its row blocks, none written. -/
theorem anyY_split (c : Dev nD) (A : Buf (Elt F) (yM.view.loc (c : Thread nD τ))) :
    (((c : Thread nD τ).loc main_v6) ↦{fullShare} A : sProp 𝕄) ⊢ bigSep (Ring.aheadSet 0) (anyY (F := F) c) := by
  rw [arrY_eq, Ring.aheadSet_zero]
  exact bigSep_mono fun b _ => (show (blkYP c A b : sProp 𝕄) ⊢ iprop(∃ g, blkYP (F := F) c g b) from by iintro H; iexists A; iexact H)
/-- No row block is behind at the body's entry. -/
theorem behind_nil (P : Fin 64 → sProp 𝕄) : (BI.emp : sProp 𝕄) ⊢ bigSep (Ring.behindSet 1 0) P := by
  rw [Ring.behindSet_boot 1 0 (by decide), bigSep_empty]

/-- What the kernel keeps beside the result: the operands' row blocks, the slots and their semaphores. -/
def kept (c : Dev nD) : sProp 𝕄 :=
  iprop((bigSep Finset.univ (blkOP c (V m c main_arg0)) ∗ freeO (F := F) c 0 ∗ freeO (F := F) c 1 ∗ freeO (F := F) c 2)
    ∗ (bigSep Finset.univ (blkZP c (V m c main_arg1)) ∗ freeZ (F := F) c 0 ∗ freeZ (F := F) c 1 ∗ freeZ (F := F) c 2)
    ∗ (bigSep Finset.univ (blkXP c (V m c main_arg2)) ∗ freeX (F := F) c 0 ∗ freeX (F := F) c 1 ∗ freeX (F := F) c 2)
    ∗ (freeY (F := F) c 0 ∗ freeY (F := F) c 1))
/-- The kernel's state before and after the one point. -/
def Φk (c : Dev nD) : Fin (cfg0.N + 1) → sProp 𝕄 := fun k =>
  iprop((if k.val = 0 then ((c : Thread nD τ).loc main_v6) ↦{fullShare} V m c main_v6 else ((c : Thread nD τ).loc main_v6) ↦{fullShare} outY m c) ∗ kept m c)
theorem Φk_first (c : Dev nD) (k : Fin (cfg0.N + 1)) (h : k.val = 0) : Φk m c k = iprop((((c : Thread nD τ).loc main_v6) ↦{fullShare} V m c main_v6) ∗ kept m c) := by
  unfold Φk; rw [if_pos h]
theorem Φk_last (c : Dev nD) (k : Fin (cfg0.N + 1)) (h : k.val ≠ 0) : Φk m c k = iprop((((c : Thread nD τ).loc main_v6) ↦{fullShare} outY m c) ∗ kept m c) := by
  unfold Φk; rw [if_neg h]

/-- The proof data: each window's array as the region finds it and left as staged. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ k := Φk m c k
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]

/-- The body table's entry is the kernel on the staging buffers. -/
theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t)) = bodyG (st0 t) (hst0 t) (st1 t) (hst1 t) (st2 t) (hst2 t) :=
  (congrFun defs_tc _).trans rfl

set_option backward.isDefEq.respectTransparency.types false in
/-- The body does what the proof data says at the one point. -/
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, after_w0, after_w1, after_w2]
  rw [show (dats m 0 c).Φ t0_0.castSucc = _ from Φk_first m c _ rfl, show (dats m 0 c).Φ t0_0.succ = _ from Φk_last m c _ (by decide)]
  unfold Dat.owesAt Pipeline.owesWithin
  rw [show (dats m 0 c).owed t0_0.castSucc = 0 from rfl, show (dats m 0 c).owed t0_0.succ = 0 from rfl]
  unfold owns kept
  iintro ⟨⟨HY, ⟨HOa, HOf0, HOf1, HOf2⟩, ⟨HZa, HZf0, HZf1, HZf2⟩, ⟨HXa, HXf0, HXf1, HXf2⟩, HYf0, HYf1⟩, ⟨%W, -, HW⟩, ⟨%d0, %g0, %hg0, H0⟩, ⟨%d1, %g1, %hg1, H1⟩, ⟨%d2, %g2, %hg2, H2⟩⟩
  ihave HO3 := (ent_eq (homes_zero (blkOP c (V m c main_arg0)))) $$ HOa
  icases HO3 with ⟨HO0, HO1, HOh⟩
  ihave HZ3 := (ent_eq (homes_zero (blkZP c (V m c main_arg1)))) $$ HZa
  icases HZ3 with ⟨HZ0, HZ1, HZh⟩
  ihave HX3 := (ent_eq (homes_zero (blkXP c (V m c main_arg2)))) $$ HXa
  icases HX3 with ⟨HX0, HX1, HXh⟩
  ihave HYa := (anyY_split c (V m c main_v6)) $$ HY
  ihave H0' := (pointsTo_rep_entails (c : Thread nD τ) (st0 t0_0) g0 fullShare) $$ H0
  rw [hg0]
  ihave H1' := (pointsTo_rep_entails (c : Thread nD τ) (st1 t0_0) g1 fullShare) $$ H1
  rw [hg1]
  ihave H2' := (pointsTo_rep_entails (c : Thread nD τ) (st2 t0_0) g2 fullShare) $$ H2
  rw [hg2]
  sl_rw [prog_eq t0_0]
  iapply (bodyRun c (V m c main_arg0) (V m c main_arg1) (V m c main_arg2) (st0 t0_0) (hst0 t0_0) (st1 t0_0) (hst1 t0_0) (st2 t0_0) (hst2 t0_0) (WS m c) (GS m c) (BS m c) _)
  isplitl [H0' H1' H2']
  · isplitl [H0']; · iexact H0'
    isplitl [H1']; · iexact H1'
    iexact H2'
  isplitl [HW]; · iexists _; iexact HW
  isplitl [HO0 HO1 HOh HOf0 HOf1 HOf2]
  · isplitl [HO0]; · iexact HO0
    isplitl [HO1]; · iexact HO1
    isplitl [HOh]; · iexact HOh
    isplitl [HOf0]; · iexact HOf0
    isplitl [HOf1]; · iexact HOf1
    iexact HOf2
  isplitl [HZ0 HZ1 HZh HZf0 HZf1 HZf2]
  · isplitl [HZ0]; · iexact HZ0
    isplitl [HZ1]; · iexact HZ1
    isplitl [HZh]; · iexact HZh
    isplitl [HZf0]; · iexact HZf0
    isplitl [HZf1]; · iexact HZf1
    iexact HZf2
  isplitl [HX0 HX1 HXh HXf0 HXf1 HXf2]
  · isplitl [HX0]; · iexact HX0
    isplitl [HX1]; · iexact HX1
    isplitl [HXh]; · iexact HXh
    isplitl [HXf0]; · iexact HXf0
    isplitl [HXf1]; · iexact HXf1
    iexact HXf2
  isplitl [HYa HYf0 HYf1]
  · isplitl [HYa]; · iexact HYa
    isplitr
    · iapply (behind_nil _); iempintro
    isplitl [HYf0]; · iexact HYf0
    iexact HYf1
  iintro ⟨⟨H0, H1, H2⟩, ⟨%W', HW⟩, ⟨HOa, HOf0, HOf1, HOf2⟩, ⟨HZa, HZf0, HZf1, HZf2⟩, ⟨HXa, HXf0, HXf1, HXf2⟩, HYa, HYf0, HYf1⟩
  isplitl [HYa HOa HOf0 HOf1 HOf2 HZa HZf0 HZf1 HZf2 HXa HXf0 HXf1 HXf2 HYf0 HYf1]
  · isplitl [HYa]; · iapply (outY_join m c); iexact HYa
    isplitl [HOa HOf0 HOf1 HOf2]
    · isplitl [HOa]; · iexact HOa
      isplitl [HOf0]; · iexact HOf0
      isplitl [HOf1]; · iexact HOf1
      iexact HOf2
    isplitl [HZa HZf0 HZf1 HZf2]
    · isplitl [HZa]; · iexact HZa
      isplitl [HZf0]; · iexact HZf0
      isplitl [HZf1]; · iexact HZf1
      iexact HZf2
    isplitl [HXa HXf0 HXf1 HXf2]
    · isplitl [HXa]; · iexact HXa
      isplitl [HXf0]; · iexact HXf0
      isplitl [HXf1]; · iexact HXf1
      iexact HXf2
    isplitl [HYf0]; · iexact HYf0
    iexact HYf1
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  iexists _; isplitr; · ipureintro; exact View.read_rep _ _
  iexact H2

/-! ## The run -/

/-- The arrays of `o`, `z`, `x` whole. -/
def arrs (c : Dev nD) : sProp 𝕄 :=
  iprop((((c : Thread nD τ).loc main_arg0) ↦{fullShare} V m c main_arg0) ∗ (((c : Thread nD τ).loc main_arg1) ↦{fullShare} V m c main_arg1) ∗ (((c : Thread nD τ).loc main_arg2) ↦{fullShare} V m c main_arg2))
/-- The arrays of the weights, the gain and the bias as passed. -/
def rest (c : Dev nD) : sProp 𝕄 :=
  iprop((((c : Thread nD τ).loc main_arg3) ↦{fullShare} V m c main_arg3) ∗ (((c : Thread nD τ).loc main_arg4) ↦{fullShare} V m c main_arg4) ∗ (((c : Thread nD τ).loc main_arg5) ↦{fullShare} V m c main_arg5))
/-- What goes into the region. -/
def into (c : Dev nD) : sProp 𝕄 := iprop((((c : Thread nD τ).loc main_v6) ↦{fullShare} V m c main_v6) ∗ arrs m c ∗ Pipeline.ownSems0 osem c)
/-- What comes out. -/
def outOf (c : Dev nD) : sProp 𝕄 := iprop((((c : Thread nD τ).loc main_v6) ↦{fullShare} outY m c) ∗ arrs m c)
/-- The ghost state at launch. -/
def u₀ : UU nD τ := (initOf (Pipeline.cells cfgs Cert.KernelIdeal.Gen.cellOf_inj) (Pipeline.launchToks cfgs Cert.KernelIdeal.Gen.cellOf_inj), 1)
/-- What is claimed of a core's memory at the end. -/
def QY (c : Dev nD) (s : MemSt nD τ sig (Elt F)) : Prop :=
  s.mem ((c : Thread nD τ).loc main_v6) = outY m c
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)

set_option maxHeartbeats 800000 in
/-- The program up to the region: the host operations. -/
theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- Into the kernel's state: the arrays split into row blocks, the rings into slots. -/
theorem kept_intro (c : Dev nD) :
    iprop(arrs m c ∗ Pipeline.ownSems0 osem c ∗ Pipeline.scopedRest (Ix := Unit) (Name := ℕ) (U := UU nD τ) (Lvl := ℕ) (Val := Elt F) spec0 c) ⊢ (kept m c : sProp 𝕄) := by
  rw [scopedRest0_eq, ownSems0_eq]
  unfold arrs kept
  rw [← arrO_eq, ← arrZ_eq, ← arrX_eq]
  iintro ⟨⟨HO, HZ, HX⟩, ⟨HO0, HO1, HO2, HZ0, HZ1, HZ2, HX0, HX1, HX2, HY0, HY1⟩, HOr, HZr, HXr, HYr⟩
  ihave HOs := (ringO_split c) $$ HOr
  icases HOs with ⟨HOs0, HOs1, HOs2⟩
  ihave HZs := (ringZ_split c) $$ HZr
  icases HZs with ⟨HZs0, HZs1, HZs2⟩
  ihave HXs := (ringX_split c) $$ HXr
  icases HXs with ⟨HXs0, HXs1, HXs2⟩
  ihave HYs := (ringY_split c) $$ HYr
  icases HYs with ⟨HYs0, HYs1⟩
  isplitl [HO HO0 HOs0 HO1 HOs1 HO2 HOs2]
  · isplitl [HO]; · iexact HO
    isplitl [HO0 HOs0]
    · isplitl [HOs0]; · iexact HOs0
      iexact HO0
    isplitl [HO1 HOs1]
    · isplitl [HOs1]; · iexact HOs1
      iexact HO1
    isplitl [HOs2]; · iexact HOs2
    iexact HO2
  isplitl [HZ HZ0 HZs0 HZ1 HZs1 HZ2 HZs2]
  · isplitl [HZ]; · iexact HZ
    isplitl [HZ0 HZs0]
    · isplitl [HZs0]; · iexact HZs0
      iexact HZ0
    isplitl [HZ1 HZs1]
    · isplitl [HZs1]; · iexact HZs1
      iexact HZ1
    isplitl [HZs2]; · iexact HZs2
    iexact HZ2
  isplitl [HX HX0 HXs0 HX1 HXs1 HX2 HXs2]
  · isplitl [HX]; · iexact HX
    isplitl [HX0 HXs0]
    · isplitl [HXs0]; · iexact HXs0
      iexact HX0
    isplitl [HX1 HXs1]
    · isplitl [HXs1]; · iexact HXs1
      iexact HX1
    isplitl [HXs2]; · iexact HXs2
    iexact HX2
  isplitl [HY0 HYs0]
  · isplitl [HYs0]; · iexact HYs0
    iexact HY0
  isplitl [HYs1]; · iexact HYs1
  iexact HY1
/-- and back. -/
theorem kept_elim (c : Dev nD) :
    (kept m c : sProp 𝕄) ⊢ iprop(arrs m c ∗ Pipeline.ownSems0 osem c ∗ Pipeline.scopedRest (Ix := Unit) (Name := ℕ) (U := UU nD τ) (Lvl := ℕ) (Val := Elt F) spec0 c) := by
  rw [scopedRest0_eq, ownSems0_eq]
  unfold arrs kept
  rw [← arrO_eq, ← arrZ_eq, ← arrX_eq]
  iintro ⟨⟨HO, ⟨HOs0, HO0⟩, ⟨HOs1, HO1⟩, ⟨HOs2, HO2⟩⟩, ⟨HZ, ⟨HZs0, HZ0⟩, ⟨HZs1, HZ1⟩, ⟨HZs2, HZ2⟩⟩, ⟨HX, ⟨HXs0, HX0⟩, ⟨HXs1, HX1⟩, ⟨HXs2, HX2⟩⟩, ⟨HYs0, HY0⟩, HYs1, HY1⟩
  isplitl [HO HZ HX]
  · isplitl [HO]; · iexact HO
    isplitl [HZ]; · iexact HZ
    iexact HX
  isplitl [HO0 HO1 HO2 HZ0 HZ1 HZ2 HX0 HX1 HX2 HY0 HY1]
  · isplitl [HO0]; · iexact HO0
    isplitl [HO1]; · iexact HO1
    isplitl [HO2]; · iexact HO2
    isplitl [HZ0]; · iexact HZ0
    isplitl [HZ1]; · iexact HZ1
    isplitl [HZ2]; · iexact HZ2
    isplitl [HX0]; · iexact HX0
    isplitl [HX1]; · iexact HX1
    isplitl [HX2]; · iexact HX2
    isplitl [HY0]; · iexact HY0
    iexact HY1
  isplitl [HOs0 HOs1 HOs2]
  · iapply (ringO_join c)
    isplitl [HOs0]; · iexact HOs0
    isplitl [HOs1]; · iexact HOs1
    iexact HOs2
  isplitl [HZs0 HZs1 HZs2]
  · iapply (ringZ_join c)
    isplitl [HZs0]; · iexact HZs0
    isplitl [HZs1]; · iexact HZs1
    iexact HZs2
  isplitl [HXs0 HXs1 HXs2]
  · iapply (ringX_join c)
    isplitl [HXs0]; · iexact HXs0
    isplitl [HXs1]; · iexact HXs1
    iexact HXs2
  iapply (ringY_join c)
  isplitl [HYs0]; · iexact HYs0
  iexact HYs1

/-- From any memory with zero counters every weakly fair execution terminates; the result is `outY`, the arguments are
unchanged, every counter is at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := into m) (Y := outOf m) (Z := rest m)
    (hX := fun c => by
      rw [unscopedRest0_eq]
      unfold into arrs rest
      iintro ⟨⟨H0, H1, H2, H3, H4, H5, -, -, -, H6⟩, HS, -, -, -⟩; imodintro
      isplitl [H0 H1 H2 H6 HS]
      · isplitl [H6]; · iexact H6
        isplitl [H0 H1 H2]
        · isplitl [H0]; · iexact H0
          isplitl [H1]; · iexact H1
          iexact H2
        iexact HS
      isplitl [H3]; · iexact H3
      isplitl [H4]; · iexact H4
      iexact H5)
    (hin := fun c => by
      rw [show (dats m 0 c).Φ 0 = _ from Φk_first m c _ rfl]
      unfold into
      iintro ⟨⟨H6, HA, HS⟩, HR⟩
      isplitl [H6]; · iexact H6
      iapply (kept_intro m c)
      isplitl [HA]; · iexact HA
      isplitl [HS]; · iexact HS
      iexact HR)
    (hout := fun c => by
      rw [show (dats m 0 c).Φ (Fin.last cfg0.N) = _ from Φk_last m c _ (by decide)]
      unfold outOf
      iintro ⟨H6, HK⟩
      ihave H := (kept_elim m c) $$ HK
      icases H with ⟨HA, HS, HR⟩
      isplitl [H6 HA]
      · isplitl [H6]; · iexact H6
        iexact HA
      isplitl [HS]; · iexact HS
      iexact HR)
    (QY := QY m)
    (hY := fun c s' => by
      unfold outOf arrs rest
      iintro ⟨⟨H6, H0, H1, H2⟩, ⟨H3, H4, H5⟩, HSI⟩
      icombine HSI H6 gives %h6
      icombine HSI H0 gives %h0
      icombine HSI H1 gives %h1
      icombine HSI H2 gives %h2
      icombine HSI H3 gives %h3
      icombine HSI H4 gives %h4
      icombine HSI H5 gives %h5
      imodintro
      isplitr
      · ipureintro
        exact ⟨Buf.eq_of_forall_mem_univ h6, (Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c), (Buf.eq_of_forall_mem_univ h5).trans (V_main_arg5 m c)⟩
      iexact HSI)
    (hQ := fun _ hh hz => ⟨fun c => (hh c).2, hz⟩)

/-- The frame, for any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_main m ρ)

end Cert.KernelIdeal.OddOut

end
-- ==== Proof.Value.lean ====
/- The result's value over the extended reals: each row is the layer norm of `alpha * x + (o * z) W`, on the kernel's
side half a block at a time and on the reference's side whole. -/
module

public import proofs.«01_k».proof.Proof.Launch
public import proofs.«01_k».proof.Proof.Gen.ReferenceIdeal.Run
public import Idealize.ShloMosaic.Lib.Pointwise
public import Idealize.ShloMosaic.Lib.MatmulPlain
public import Idealize.ShloMosaic.Lib.StackMember

@[expose] public section

set_option maxRecDepth 16384

noncomputable section

namespace Cert.KernelIdeal.OddOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

/-- `alpha * x + (o * z) W` at column `q` of a row. -/
def preRow (o z x : Fin 1024 → EReal) (W : Fin 1024 → Fin 1024 → EReal) (q : Fin 1024) : EReal :=
  Ideal.ofBits .f32 0x3FB504F3#32 * x q + ∑ k : Fin 1024, (o k * z k) * W k q
/-- A row's mean. -/
def meanRow (s : Fin 1024 → EReal) : EReal := Ideal.div (∑ k : Fin 1024, s k) (Ideal.ofBits .f32 0x44800000#32)
/-- A row's layer norm at column `q`, before the gain and the bias. -/
def normRow (s : Fin 1024 → EReal) (q : Fin 1024) : EReal :=
  (s q - meanRow s) * Ideal.rsqrt (meanRow (fun k => (s k - meanRow s) * (s k - meanRow s)) + Ideal.ofBits .f32 0x3727C5AC#32)

theorem pay1_apply (o z : Vec Ideal S256x1024 .bf16) (W : Vec Ideal S1024x1024 .bf16) (r : Fin 256) (q : Fin 1024) :
    k0_pay1 o z W (ix2 r q) = ∑ k : Fin 1024, (o (ix2 r k) * z (ix2 r k)) * W (ix2 k q) := by
  unfold k0_pay1
  refine (Ideal.matmul_plain_apply (M := 256) (K := 1024) (N := 1024) none _ _ _ r q).trans ?_
  pointwise
  rfl

/-- A row of the result at column `q`. -/
def rowVal (o z x : Fin 1024 → EReal) (W : Fin 1024 → Fin 1024 → EReal) (g b : Fin 1024 → EReal) (q : Fin 1024) : EReal :=
  normRow (preRow o z x W) q * g q + b q

theorem rowVal_congr {o o' z z' x x' : Fin 1024 → EReal} {W W' : Fin 1024 → Fin 1024 → EReal} {g g' b b' : Fin 1024 → EReal}
    (ho : ∀ k, o k = o' k) (hz : ∀ k, z k = z' k) (hx : ∀ k, x k = x' k) (hW : ∀ k q, W k q = W' k q) (hg : ∀ q, g q = g' q) (hb : ∀ q, b q = b' q) (q : Fin 1024) :
    rowVal o z x W g b q = rowVal o' z' x' W' g' b' q := by
  obtain rfl := funext ho; obtain rfl := funext hz; obtain rfl := funext hx; obtain rfl := funext fun k => funext (hW k); obtain rfl := funext hg; obtain rfl := funext hb; rfl

theorem pay2_apply (o z : Vec Ideal S256x1024 .bf16) (W : Vec Ideal S1024x1024 .bf16) (r : Fin 256) (q : Fin 1024) :
    k0_pay2 o z W (ix2 r q) = ∑ k : Fin 1024, (o (ix2 r k) * z (ix2 r k)) * W (ix2 k q) := pay1_apply o z W r q

/-- The first half's rows. -/
theorem top_apply (o z : Vec Ideal S512x1024 .bf16) (x : Vec Ideal S512x1024 .f32) (W : Vec Ideal S1024x1024 .bf16) (g b : Vec Ideal S1x1024 .f32) (r : Fin 256) (q : Fin 1024) :
    tileTop o z x W g b (ix2 r q) = rowVal (fun k => o (topR.idx (ix2 r k))) (fun k => z (topR.idx (ix2 r k))) (fun k => x (topR.idx (ix2 r k)))
      (fun k q => W (ix2 k q)) (fun q => g (ix2 0 q)) (fun q => b (ix2 0 q)) q := by
  unfold tileTop k0_pay7 k0_pay6 k0_pay5 k0_pay4 k0_pay3
  dsimp only
  pointwise [pay1_apply]
  unfold rowVal normRow meanRow preRow
  rfl
/-- The second half's rows. -/
theorem bot_apply (o z : Vec Ideal S512x1024 .bf16) (x : Vec Ideal S512x1024 .f32) (W : Vec Ideal S1024x1024 .bf16) (g b : Vec Ideal S1x1024 .f32) (r : Fin 256) (q : Fin 1024) :
    tileBot o z x W g b (ix2 r q) = rowVal (fun k => o (botR.idx (ix2 r k))) (fun k => z (botR.idx (ix2 r k))) (fun k => x (botR.idx (ix2 r k)))
      (fun k q => W (ix2 k q)) (fun q => g (ix2 0 q)) (fun q => b (ix2 0 q)) q := by
  unfold tileBot k0_pay8
  dsimp only
  pointwise [pay2_apply]
  unfold rowVal normRow meanRow preRow
  rfl
theorem topR_idx (r : Fin 256) (k : Fin 1024) : topR.idx (ix2 r k) = ix2 ⟨r.val, by omega⟩ k := by
  funext a; apply Fin.ext; fin_cases a
  · show 0 + 1 * r.val = r.val; omega
  · show 0 + 1 * k.val = k.val; omega
theorem botR_idx (r : Fin 256) (k : Fin 1024) : botR.idx (ix2 r k) = ix2 ⟨256 + r.val, by omega⟩ k := by
  funext a; apply Fin.ext; fin_cases a
  · show 256 + 1 * r.val = 256 + r.val; omega
  · show 0 + 1 * k.val = k.val; omega

/-- A block's rows, either half. -/
theorem tileY_apply (o z : Vec Ideal S512x1024 .bf16) (x : Vec Ideal S512x1024 .f32) (W : Vec Ideal S1024x1024 .bf16) (g b : Vec Ideal S1x1024 .f32) (r : Fin 512) (q : Fin 1024) :
    tileY o z x W g b (ix2 r q) = rowVal (fun k => o (ix2 r k)) (fun k => z (ix2 r k)) (fun k => x (ix2 r k))
      (fun k q => W (ix2 k q)) (fun q => g (ix2 0 q)) (fun q => b (ix2 0 q)) q := by
  unfold tileY
  by_cases h : 256 ≤ r.val
  · refine (dif_pos h).trans ((bot_apply o z x W g b ⟨r.val - 256, by omega⟩ q).trans ?_)
    have e (k : Fin 1024) : botR.idx (ix2 (⟨r.val - 256, by omega⟩ : Fin 256) k) = ix2 r k :=
      (botR_idx _ k).trans (congrArg (fun t : Fin 512 => ix2 t k) (Fin.ext (by show 256 + (r.val - 256) = r.val; omega)))
    simp only [e]
  · refine (dif_neg h).trans ((top_apply o z x W g b ⟨r.val, by omega⟩ q).trans ?_)
    have e (k : Fin 1024) : topR.idx (ix2 (⟨r.val, by omega⟩ : Fin 256) k) = ix2 r k := topR_idx _ k
    simp only [e]

/-! ## What the host passes -/

variable (m : (ℓ : Loc nD τ sig) → Buf (Elt Ideal) ℓ)

theorem weights_cast (A : FVec Ideal Cert.KernelIdeal.S1x1024x1024 .f32) (k q : Fin 1024) :
    (truncf .bf16 (shapeCast S1024x1024 A shapeCasts_S1x1024x1024_S1024x1024) bitsLt_bf16_f32 : FVec Ideal S1024x1024 .bf16) (ix2 k q) = A (ix3 0 k q) := by
  pointwise
theorem V_v1 (c : Dev nD) (k q : Fin 1024) : V m c main_v1 (ix2 k q) = m ((c : Thread nD τ).loc main_arg3) (ix3 0 k q) := by
  have e : V m c main_v1 = truncf .bf16 (shapeCast S1024x1024 (m ((c : Thread nD τ).loc main_arg3)) shapeCasts_S1x1024x1024_S1024x1024 : FVec Ideal S1024x1024 .f32) bitsLt_bf16_f32 := by
    unfold V hostOps0
    after_results_simp <;> rfl
  exact (congrFun e (ix2 k q)).trans (weights_cast _ k q)
theorem V_v3 (c : Dev nD) (q : Fin 1024) : V m c main_v3 (ix2 0 q) = m ((c : Thread nD τ).loc main_arg4) (ix2 0 q) := by
  have e : V m c main_v3 = shapeCast S1x1024 (shapeCast S1024 (m ((c : Thread nD τ).loc main_arg4)) shapeCasts_S1x1024_S1024 : FVec Ideal S1024 .f32) shapeCasts_S1024_S1x1024 := by
    unfold V hostOps0
    after_results_simp <;> rfl
  rw [e]
  pointwise
theorem V_v5 (c : Dev nD) (q : Fin 1024) : V m c main_v5 (ix2 0 q) = m ((c : Thread nD τ).loc main_arg5) (ix2 0 q) := by
  have e : V m c main_v5 = shapeCast S1x1024 (shapeCast S1024 (m ((c : Thread nD τ).loc main_arg5)) shapeCasts_S1x1024_S1024 : FVec Ideal S1024 .f32) shapeCasts_S1024_S1x1024 := by
    unfold V hostOps0
    after_results_simp <;> rfl
  rw [e]
  pointwise

theorem wRd_rep (c : Dev nD) (M : Memref sig .tc .vmem S1024x1024 .bf16) (x : S1024x1024.Idx → Elt Ideal .bf16) (k q : Fin 1024) :
    wRd c M (M.view.rep x) (ix2 k q) = x (ix2 k q) := by
  unfold wRd
  rw [View.readAt_rep]
  refine congrArg x (funext fun a => Fin.ext ?_)
  fin_cases a
  · show 0 + 1 * k.val = k.val; omega
  · show 0 + 1 * q.val = q.val; omega
theorem rowRd_rep (c : Dev nD) (M : Memref sig .tc .vmem S1x1024 .f32) (x : S1x1024.Idx → Elt Ideal .f32) (q : Fin 1024) :
    rowRd c M (M.view.rep x) (ix2 0 q) = x (ix2 0 q) := by
  unfold rowRd
  rw [View.readAt_rep]
  refine congrArg x (funext fun a => Fin.ext ?_)
  fin_cases a
  · rfl
  · show 0 + 1 * q.val = q.val; omega
theorem iblk_0 (c : Dev nD) : iblk m c 0 t0_0 = V m c main_v1 := by
  show (win0_0.blk t0_0).view.read (Elt Ideal) (V m c main_v1) = _
  exact Memref.read_access_unit_zero (Elt Ideal) main_v1
    (show (fun a => (win0_0.index t0_0) a * main_v1.ty.shape.size a) = fun _ => 0 from
      funext fun a => by fin_cases a <;> decide) (fun a => by fin_cases a <;> decide) _
theorem iblk_1 (c : Dev nD) : iblk m c 1 t0_0 = V m c main_v3 := by
  show (win0_1.blk t0_0).view.read (Elt Ideal) (V m c main_v3) = _
  exact Memref.read_access_unit_zero (Elt Ideal) main_v3
    (show (fun a => (win0_1.index t0_0) a * main_v3.ty.shape.size a) = fun _ => 0 from
      funext fun a => by fin_cases a <;> decide) (fun a => by fin_cases a <;> decide) _
theorem iblk_2 (c : Dev nD) : iblk m c 2 t0_0 = V m c main_v5 := by
  show (win0_2.blk t0_0).view.read (Elt Ideal) (V m c main_v5) = _
  exact Memref.read_access_unit_zero (Elt Ideal) main_v5
    (show (fun a => (win0_2.index t0_0) a * main_v5.ty.shape.size a) = fun _ => 0 from
      funext fun a => by fin_cases a <;> decide) (fun a => by fin_cases a <;> decide) _
theorem wRd_stage (c : Dev nD) (k q : Fin 1024) : wRd c (st0 t0_0) (WS m c) (ix2 k q) = V m c main_v1 (ix2 k q) :=
  (wRd_rep c (st0 t0_0) (iblk m c 0 t0_0) k q).trans (congrFun (iblk_0 m c) (ix2 k q))
theorem gRd_stage (c : Dev nD) (q : Fin 1024) : rowRd c (st1 t0_0) (GS m c) (ix2 0 q) = V m c main_v3 (ix2 0 q) :=
  (rowRd_rep c (st1 t0_0) (iblk m c 1 t0_0) q).trans (congrFun (iblk_1 m c) (ix2 0 q))
theorem bRd_stage (c : Dev nD) (q : Fin 1024) : rowRd c (st2 t0_0) (BS m c) (ix2 0 q) = V m c main_v5 (ix2 0 q) :=
  (rowRd_rep c (st2 t0_0) (iblk m c 2 t0_0) q).trans (congrFun (iblk_2 m c) (ix2 0 q))

theorem blkO_read (c : Dev nD) (A : Buf (Elt Ideal) ((c : Thread nD τ).loc main_arg0)) (i : Fin 32768) (k : Fin 1024) :
    (blkO ⟨i.val / 512, by omega⟩).view.read (Elt Ideal) A (ix2 ⟨i.val % 512, by omega⟩ k) = A (ix2 i k) := by
  show A _ = _
  refine congrArg A (funext fun a => Fin.ext ?_)
  fin_cases a
  · show 512 * (i.val / 512) + 1 * (i.val % 512) = i.val; omega
  · show 0 + 1 * k.val = k.val; omega
theorem blkZ_read (c : Dev nD) (A : Buf (Elt Ideal) ((c : Thread nD τ).loc main_arg1)) (i : Fin 32768) (k : Fin 1024) :
    (blkZ ⟨i.val / 512, by omega⟩).view.read (Elt Ideal) A (ix2 ⟨i.val % 512, by omega⟩ k) = A (ix2 i k) := by
  show A _ = _
  refine congrArg A (funext fun a => Fin.ext ?_)
  fin_cases a
  · show 512 * (i.val / 512) + 1 * (i.val % 512) = i.val; omega
  · show 0 + 1 * k.val = k.val; omega
theorem blkX_read (c : Dev nD) (A : Buf (Elt Ideal) ((c : Thread nD τ).loc main_arg2)) (i : Fin 32768) (k : Fin 1024) :
    (blkX ⟨i.val / 512, by omega⟩).view.read (Elt Ideal) A (ix2 ⟨i.val % 512, by omega⟩ k) = A (ix2 i k) := by
  show A _ = _
  refine congrArg A (funext fun a => Fin.ext ?_)
  fin_cases a
  · show 512 * (i.val / 512) + 1 * (i.val % 512) = i.val; omega
  · show 0 + 1 * k.val = k.val; omega

/-- The kernel's result, row by row. -/
theorem outY_apply (c : Dev nD) (i : Fin 32768) (q : Fin 1024) :
    outY m c (ix2 i q) = rowVal (fun k => m ((c : Thread nD τ).loc main_arg0) (ix2 i k)) (fun k => m ((c : Thread nD τ).loc main_arg1) (ix2 i k)) (fun k => m ((c : Thread nD τ).loc main_arg2) (ix2 i k))
      (fun k q => m ((c : Thread nD τ).loc main_arg3) (ix3 0 k q)) (fun q => m ((c : Thread nD τ).loc main_arg4) (ix2 0 q)) (fun q => m ((c : Thread nD τ).loc main_arg5) (ix2 0 q)) q := by
  refine (tileY_apply _ _ _ _ _ _ ⟨i.val % 512, by omega⟩ q).trans ?_
  exact rowVal_congr (fun k => (blkO_read c (V m c main_arg0) i k).trans (congrFun (V_main_arg0 m c) (ix2 i k)))
    (fun k => (blkZ_read c (V m c main_arg1) i k).trans (congrFun (V_main_arg1 m c) (ix2 i k)))
    (fun k => (blkX_read c (V m c main_arg2) i k).trans (congrFun (V_main_arg2 m c) (ix2 i k)))
    (fun k q => (wRd_stage m c k q).trans (V_v1 m c k q)) (fun q => (gRd_stage m c q).trans (V_v3 m c q)) (fun q => (bRd_stage m c q).trans (V_v5 m c q)) q

end Cert.KernelIdeal.OddOut

end
-- ==== Proof.Ref.lean ====
/- The reference's result over the extended reals, row by row. -/
module

public import proofs.«01_k».proof.Proof.Value

@[expose] public section

set_option maxRecDepth 16384

noncomputable section

namespace Cert.ReferenceIdeal.OddOut

open Idealize.ShloMosaic Idealize.ShloMosaic.TcCoe Idealize.ShloMosaic.Tactic Idealize.SL.Sem
open Cert.ReferenceIdeal Cert.ReferenceIdeal.Gen
open Cert.KernelIdeal.OddOut (preRow meanRow normRow rowVal)

/-- The pre-norm sum of every row. -/
def hPre (o z : FVec Ideal S32768x1024 .bf16) (x : FVec Ideal S32768x1024 .f32) (w : FVec Ideal S1x1024x1024 .f32) : FVec Ideal S32768x1024 .f32 :=
  addf (mulf (broadcastInDim S32768x1024 ![] bcast_S_S32768x1024 (constant S_ .f32 0x3FB504F3#32)) x)
    (Host.dotGeneral dot_S32768x1024_S1024x1024_S32768x1024_1_0_0_1_n_n none (mulf (extf .f32 o bitsLt_bf16_f32) (extf .f32 z bitsLt_bf16_f32)) (shapeCast _ w shapeCasts_S1x1024x1024_S1024x1024))
/-- Every row's mean. -/
def hMean (S : FVec Ideal S32768x1024 .f32) : FVec Ideal S32768x1 .f32 :=
  Host.divf (broadcastInDim S32768x1 ![0] bcast_S32768_S32768x1_0 (Host.reduceAdd S (constant S_ .f32 0x00000000#32) reducesTo_S32768x1024_S32768_d1 h_S_))
    (broadcastInDim S32768x1 ![] bcast_S_S32768x1 (constant S_ .f32 0x44800000#32))
/-- Every row less its mean. -/
def hCen (S : FVec Ideal S32768x1024 .f32) : FVec Ideal S32768x1024 .f32 :=
  subf S (broadcastInDim S32768x1024 ![0, 1] bcast_S32768x1_S32768x1024_0_1 (hMean S))
/-- Every row normed. -/
def hNorm (S : FVec Ideal S32768x1024 .f32) : FVec Ideal S32768x1024 .f32 :=
  mulf (hCen S) (broadcastInDim S32768x1024 ![0, 1] bcast_S32768x1_S32768x1024_0_1
    (Host.rsqrt (addf (hMean (mulf (hCen S) (hCen S))) (broadcastInDim S32768x1 ![] bcast_S_S32768x1 (constant S_ .f32 0x3727C5AC#32)))))
/-- The gain or the bias on every row. -/
def hRow (g : FVec Ideal S1x1024 .f32) : FVec Ideal S32768x1024 .f32 :=
  broadcastInDim S32768x1024 ![0, 1] bcast_S1x1024_S32768x1024_0_1 (broadcastInDim S1x1024 ![1] bcast_S1024_S1x1024_1 (shapeCast S1024 g shapeCasts_S1x1024_S1024))

theorem dot_apply (a : FVec Ideal S32768x1024 .f32) (w : FVec Ideal S1024x1024 .f32) (r : Fin 32768) (k : Fin 1024) :
    Host.dotGeneral dot_S32768x1024_S1024x1024_S32768x1024_1_0_0_1_n_n none a w (ix2 r k) = ∑ c : Fin 1024, a (ix2 r c) * w (ix2 c k) :=
  StackMember.dotGeneral_plain_apply (m := 32768) (k := 1024) (n := 1024) none a w r k
theorem hPre_apply (o z : FVec Ideal S32768x1024 .bf16) (x : FVec Ideal S32768x1024 .f32) (w : FVec Ideal S1x1024x1024 .f32) (i : Fin 32768) (q : Fin 1024) :
    hPre o z x w (ix2 i q) = preRow (fun k => o (ix2 i k)) (fun k => z (ix2 i k)) (fun k => x (ix2 i k)) (fun k q => w (ix3 0 k q)) q := by
  unfold hPre preRow
  pointwise [dot_apply]
theorem hMean_apply (S : FVec Ideal S32768x1024 .f32) (i : Fin 32768) (j : Fin 1) :
    hMean S (ix2 i j) = meanRow (fun k => S (ix2 i k)) := by
  unfold hMean meanRow
  pointwise
theorem hCen_apply (S : FVec Ideal S32768x1024 .f32) (i : Fin 32768) (q : Fin 1024) :
    hCen S (ix2 i q) = S (ix2 i q) - meanRow (fun k => S (ix2 i k)) := by
  unfold hCen
  pointwise [hMean_apply]
theorem hNorm_apply (S : FVec Ideal S32768x1024 .f32) (i : Fin 32768) (q : Fin 1024) :
    hNorm S (ix2 i q) = normRow (fun k => S (ix2 i k)) q := by
  unfold hNorm normRow
  pointwise [hMean_apply, hCen_apply]
theorem hRow_apply (g : FVec Ideal S1x1024 .f32) (i : Fin 32768) (q : Fin 1024) : hRow g (ix2 i q) = g (ix2 0 q) := by
  unfold hRow
  pointwise

variable (m : (ℓ : Loc nD τ sig) → Buf (Elt Ideal) ℓ)

theorem res_eq (c : Dev nD) : Value.res_main_v33 m c
    = addf (mulf (hNorm (hPre (m ((c.tc : Thread nD τ).loc main_arg0)) (m ((c.tc : Thread nD τ).loc main_arg1)) (m ((c.tc : Thread nD τ).loc main_arg2)) (m ((c.tc : Thread nD τ).loc main_arg3))))
        (hRow (m ((c.tc : Thread nD τ).loc main_arg4)))) (hRow (m ((c.tc : Thread nD τ).loc main_arg5))) := rfl

/-- The reference's result, row by row. -/
theorem ref_apply (c : Dev nD) (i : Fin 32768) (q : Fin 1024) :
    Value.res_main_v33 m c (ix2 i q)
      = rowVal (fun k => m ((c.tc : Thread nD τ).loc main_arg0) (ix2 i k)) (fun k => m ((c.tc : Thread nD τ).loc main_arg1) (ix2 i k)) (fun k => m ((c.tc : Thread nD τ).loc main_arg2) (ix2 i k))
          (fun k q => m ((c.tc : Thread nD τ).loc main_arg3) (ix3 0 k q)) (fun q => m ((c.tc : Thread nD τ).loc main_arg4) (ix2 0 q)) (fun q => m ((c.tc : Thread nD τ).loc main_arg5) (ix2 0 q)) q := by
  refine (congrFun (res_eq m c) (ix2 i q)).trans ?_
  show hNorm _ (ix2 i q) * hRow _ (ix2 i q) + hRow _ (ix2 i q) = _
  rw [hNorm_apply, hRow_apply, hRow_apply]
  unfold rowVal
  simp only [hPre_apply]

end Cert.ReferenceIdeal.OddOut

end
-- ==== Proof.Reals.lean ====
/- The condition on the arguments, read entry by entry: queries and keys are real numbers. -/
module

public import proofs.«01_k».proof.Pre_real_scores
public import Idealize.ShloMosaic.Lib.Pointwise

@[expose] public section

set_option maxRecDepth 16384

noncomputable section

namespace Cert.Pre_real_scores

open Idealize.ShloMosaic

theorem facts : Facts where
  bcast_S_S16x2048x16x96 := by decide
  reducesTo_S16x2048x16x96_S_d0_1_2_3 := by decide
  h_S_ := by decide
  bcast_S_S16x2048x16x64 := by decide
  reducesTo_S16x2048x16x64_S_d0_1_2_3 := by decide
  bcast_S_S16x2048x32 := by decide
  reducesTo_S16x2048x32_S_d0_1_2 := by decide

/-- A conjunction over every index holds at each. -/
theorem all_of_reduce {s : Shape} {axes : List (Fin s.rank)} (x : IVec s 1) (init : IVec S_ 1) (h : s.ReducesTo axes S_) (hu : 0 < S_.numel) (j : S_.Idx)
    (e : Host.reduce IntOp.andi x init h hu j = 1#1) (i : s.Idx) : x i = 1#1 := by
  rw [Host.reduce_eq_fold] at e
  have hr : ∀ {a y z : BitVec 1}, (fun _ v : BitVec 1 => v = 1#1) a (IntOp.andi y z) ↔ (fun _ v : BitVec 1 => v = 1#1) a y ∧ (fun _ v : BitVec 1 => v = 1#1) a z := by
    intro a y z
    show IntOp.andi y z = 1#1 ↔ y = 1#1 ∧ z = 1#1
    clear a e i x
    revert y z; decide
  have := (Finset.fold_op_rel_iff_and (r := fun _ v : BitVec 1 => v = 1#1) (@fun a y z => @hr a y z) (c := 1#1)).mp e
  exact this.2 i (Finset.mem_filter.mpr ⟨Finset.mem_univ i, funext fun a => a.elim0⟩)

/-- Strictly between the infinities is a real number. -/
theorem real_of_between (x : EReal) (h : IntOp.andi (Ideal.cmp .ogt x (Ideal.ofBits .f32 0xFF800000#32)) (Ideal.cmp .olt x (Ideal.ofBits .f32 0x7F800000#32)) = 1#1) :
    ((x.toReal : ℝ) : EReal) = x := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  induction x with
  | bot => simp [Ideal.cmp] at h; exact absurd h (by decide)
  | top => simp [Ideal.cmp] at h; exact absurd h (by decide)
  | coe r => rfl

variable [Facts]

/-- Where the condition holds, every query and key entry is a real number. -/
theorem reals (a0 : FVec Ideal S16x2048x16x96 .f32) (a1 : FVec Ideal S16x2048x16x64 .f32) (a2 : FVec Ideal S16x2048x32 .f32) (a3 : FVec Ideal S16x2048x16x64 .f32)
    (h : fn (F := Ideal) a0 a1 a2 a3 = fun _ => 1#1) :
    (∀ i, (((a0 i : EReal).toReal : ℝ) : EReal) = a0 i) ∧ (∀ i, (((a1 i : EReal).toReal : ℝ) : EReal) = a1 i) ∧ (∀ i, (((a2 i : EReal).toReal : ℝ) : EReal) = a2 i) := by
  have e := congrFun h (fun a => a.elim0)
  unfold fn fn_part1 at e
  have key : ∀ {x y : BitVec 1}, IntOp.andi x y = 1#1 → x = 1#1 ∧ y = 1#1 := by intro x y; revert x y; decide
  obtain ⟨e01, e2⟩ := key e
  obtain ⟨e0, e1⟩ := key e01
  exact ⟨fun i => real_of_between _ (all_of_reduce _ _ _ _ _ e0 i), fun i => real_of_between _ (all_of_reduce _ _ _ _ _ e1 i), fun i => real_of_between _ (all_of_reduce _ _ _ _ _ e2 i)⟩

end Cert.Pre_real_scores

end
-- ==== Proof.Soft.lean ====
/-
  The arithmetic of one row of masked attention over the extended reals. A row has real scores, of which the ones past the
  query's own position are masked by `⊥`. The kernel takes exponentials to base two of scores already divided by `log 2`,
  adds the weighted values first and divides once by the sum of the weights; the reference takes natural exponentials,
  divides each weight by their sum, multiplies by the mask and adds the weighted values last. The two agree for all values,
  finite or not, since the sum of the weights is a positive real number.
-/
module

public import Idealize.ShloMosaic.PureOps.Ideal

@[expose] public section

noncomputable section

namespace Cert.Mla

open Idealize.ShloMosaic

/-- A sum of extended reals times a nonnegative real number, term by term. -/
theorem sum_mul_coe {ι : Type} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A sum of real numbers, read in the extended reals. -/
theorem sum_coe {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The greatest of the scores `f k`, `k ≤ q`, the others masked, over any range that holds `q`. -/
theorem sup_masked (f : ℕ → ℝ) {q n k₀ : ℕ} (hq : q < n) (hk : k₀ ≤ q) (hmax : ∀ k ≤ q, f k ≤ f k₀) :
    ((Finset.range n).sup fun k => if k ≤ q then (f k : EReal) else ⊥) = (f k₀ : EReal) := by
  refine le_antisymm (Finset.sup_le fun k _ => ?_) ?_
  · by_cases h : k ≤ q
    · rw [if_pos h]; exact EReal.coe_le_coe_iff.mpr (hmax k h)
    · rw [if_neg h]; exact bot_le
  · have := Finset.le_sup (f := fun k => if k ≤ q then (f k : EReal) else ⊥) (Finset.mem_range.mpr (lt_of_le_of_lt hk hq))
    simpa only [if_pos hk] using this

/-- The weight of key `k` for the query at position `q`: zero past the query. -/
def weight (σ : ℕ → ℝ) (q k₀ k : ℕ) : ℝ := if k ≤ q then Real.exp (σ k - σ k₀) else 0

theorem weight_nonneg (σ : ℕ → ℝ) (q k₀ k : ℕ) : 0 ≤ weight σ q k₀ k := by
  unfold weight; split
  · exact (Real.exp_pos _).le
  · exact le_rfl

/-- The reference's exponential of a score less the row's greatest. -/
theorem exp_masked (σ : ℕ → ℝ) (q k₀ k : ℕ) :
    Ideal.exp ((if k ≤ q then (σ k : EReal) else ⊥) - (σ k₀ : EReal)) = (weight σ q k₀ k : EReal) := by
  unfold weight
  by_cases h : k ≤ q
  · simp only [if_pos h]; rw [← EReal.coe_sub]; rfl
  · simp only [if_neg h]; rw [EReal.bot_sub]; rfl

/-- The kernel's exponential to base two of a score over `log 2` less the row's greatest. -/
theorem exp2_masked (σ : ℕ → ℝ) (q k₀ k : ℕ) :
    Ideal.exp2 ((if k ≤ q then ((σ k / Real.log 2 : ℝ) : EReal) else ⊥) - ((σ k₀ / Real.log 2 : ℝ) : EReal))
      = (weight σ q k₀ k : EReal) := by
  unfold weight
  by_cases h : k ≤ q
  · simp only [if_pos h]; rw [← EReal.coe_sub]
    show ((Real.rpow 2 _ : ℝ) : EReal) = _
    congr 1
    refine (Real.rpow_def_of_pos (by norm_num : (0 : ℝ) < 2) _).trans ?_
    congr 1
    have : Real.log 2 ≠ 0 := (Real.log_pos (by norm_num)).ne'
    field_simp
  · simp only [if_neg h]; rw [EReal.bot_sub]; rfl

/-- The sum of the weights over a range that holds the query is positive, and the masked rest of a longer range adds nothing. -/
theorem sum_weight_pos (σ : ℕ → ℝ) {q n k₀ : ℕ} (hq : q < n) (hk : k₀ ≤ q) : 0 < ∑ k ∈ Finset.range n, weight σ q k₀ k := by
  refine Finset.sum_pos' (fun k _ => weight_nonneg σ q k₀ k) ⟨k₀, Finset.mem_range.mpr (lt_of_le_of_lt hk hq), ?_⟩
  unfold weight; rw [if_pos hk]; exact Real.exp_pos _

theorem sum_range_masked {M : Type} [AddCommMonoid M] (f : ℕ → M) {q n N : ℕ} (hq : q < n) (hn : n ≤ N) (hf : ∀ k, q < k → f k = 0) :
    ∑ k ∈ Finset.range N, f k = ∑ k ∈ Finset.range n, f k := by
  refine (Finset.sum_subset (Finset.range_subset_range.mpr hn) fun k _ hk => hf k ?_).symm
  exact lt_of_lt_of_le hq (Nat.le_of_not_lt fun h => hk (Finset.mem_range.mpr h))

/-- ONE ROW: the kernel's quotient of two sums is the reference's sum of masked quotients. -/
theorem row (σ : ℕ → ℝ) (v : ℕ → EReal) {q n N : ℕ} (hq : q < n) (hn : n ≤ N) (sk sr : ℕ → EReal)
    (hsk : ∀ k, sk k = if k ≤ q then ((σ k / Real.log 2 : ℝ) : EReal) else ⊥)
    (hsr : ∀ k, sr k = if k ≤ q then (σ k : EReal) else ⊥) :
    Ideal.div (∑ k ∈ Finset.range n, v k * Ideal.exp2 (sk k - (Finset.range n).sup sk))
        (∑ k ∈ Finset.range n, 1 * Ideal.exp2 (sk k - (Finset.range n).sup sk))
      = ∑ k ∈ Finset.range N, v k * (Ideal.div (Ideal.exp (sr k - (Finset.range N).sup sr))
          (∑ l ∈ Finset.range N, Ideal.exp (sr l - (Finset.range N).sup sr)) * (if k ≤ q then 1 else 0)) := by
  obtain ⟨k₀, hk₀, hmax⟩ := Finset.exists_max_image (Finset.range (q + 1)) σ ⟨q, Finset.mem_range.mpr (Nat.lt_succ_self q)⟩
  have hk : k₀ ≤ q := Nat.le_of_lt_succ (Finset.mem_range.mp hk₀)
  have hm : ∀ k ≤ q, σ k ≤ σ k₀ := fun k h => hmax k (Finset.mem_range.mpr (Nat.lt_succ_of_le h))
  have hlog : 0 < Real.log 2 := Real.log_pos (by norm_num)
  obtain rfl : sk = _ := funext hsk
  obtain rfl : sr = _ := funext hsr
  rw [sup_masked (fun k => σ k / Real.log 2) hq hk fun k h => div_le_div_of_nonneg_right (hm k h) hlog.le,
    sup_masked σ (lt_of_lt_of_le hq hn) hk hm]
  simp only [exp_masked, exp2_masked, one_mul]
  rw [sum_coe, sum_coe, sum_range_masked (weight σ q k₀) hq hn fun k h => if_neg (Nat.not_le.mpr h)]
  have hD := sum_weight_pos σ hq hk
  generalize (∑ k ∈ Finset.range n, weight σ q k₀ k) = D at hD
  simp only [Ideal.div_coe hD.ne']
  rw [sum_mul_coe _ _ (by positivity), sum_range_masked _ hq hn]
  · refine Finset.sum_congr rfl fun k _ => ?_
    by_cases h : k ≤ q
    · rw [if_pos h, mul_one, mul_assoc]
    · have : weight σ q k₀ k = 0 := if_neg h
      rw [this, if_neg h]; simp
  · intro k h
    rw [if_neg (Nat.not_le.mpr h)]; simp

end Cert.Mla

end
-- ==== Proof.Tiles.lean ====
/-
  The vector steps of the attention kernel at the ideal instance: the rows it lays out, a tile of scores, the greatest score of a
  column, a tile of weighted values, and the quotient at the end, each stated of any operands whose entries are known.
-/
module

public import proofs.«01_k».proof.Proof.Soft
public import proofs.«01_k».proof.Proof.Gen.Kernel2Ideal.Value
public import Idealize.ShloMosaic.Lib.Pointwise
public import Idealize.ShloMosaic.Lib.MatmulPlain
public import Idealize.ShloMosaic.Lib.Pipeline.ReadBack
public import Idealize.ShloMosaic.Lib.Pipeline.FrameBody

@[expose] public section

set_option maxRecDepth 16384

noncomputable section

namespace Cert.Mla

open Idealize.ShloMosaic Cert.Kernel2Ideal Cert.Kernel2Ideal.Gen

/-! ## What the kernel computes, by row and column numbers -/

/-- A block's entry at a row and a column, zero outside. -/
def rd {R C : ℕ} (x : (⟨2, ![R, C]⟩ : Shape).Idx → EReal) (r c : ℕ) : EReal :=
  if h : r < R ∧ c < C then x (ix2 ⟨r, h.1⟩ ⟨c, h.2⟩) else 0

variable (x0 : Vec Ideal S2048x256 .bf16) (x1 x2 x3 : Vec Ideal S2048x128 .bf16)

/-- A head's key: its own 64 lanes, then the shared ones. -/
def KX (h k d : ℕ) : EReal := if d < 64 then rd (R := 2048) (C := 128) x1 k (64 * h + d) else rd (R := 2048) (C := 128) x2 k d
/-- A head's query. -/
def QT (h d q : ℕ) : EReal := rd (R := 2048) (C := 256) x0 q (128 * h + d)
/-- A head's values, with a row of ones under them. -/
def VT (h c k : ℕ) : EReal := if c < 64 then rd (R := 2048) (C := 128) x3 k (64 * h + c) else if c = 64 then 1 else 0
/-- A score. -/
def SC (h q k : ℕ) : EReal := ∑ d ∈ Finset.range 128, KX x1 x2 h k d * QT x0 h d q
/-- A score, minus infinity past the diagonal. -/
def SM (h q k : ℕ) : EReal := if k ≤ q then SC x0 x1 x2 h q k else ⊥
/-- The scores of the queries from `p` on. -/
def SF (h p : ℕ) : ℕ → Fin 256 → EReal := fun k b => SM x0 x1 x2 h (p + b.val) k
/-- A column's greatest score over the keys below `n`. -/
def MF (f : ℕ → Fin 256 → EReal) (n : ℕ) (b : Fin 256) : EReal := (Finset.range n).sup fun k => f k b
/-- The weighted values over the keys below `n`, a weight being the exponential of the score less `M`. -/
def AF (g : ℕ → ℕ → EReal) (f : ℕ → Fin 256 → EReal) (M : Fin 256 → EReal) (n c : ℕ) (b : Fin 256) : EReal :=
  ∑ k ∈ Finset.range n, g c k * Ideal.exp2 (f k b - M b)
/-- A head's result at a query. -/
def OF (h q n c : ℕ) : EReal :=
  Ideal.div (∑ k ∈ Finset.range n, VT x3 h c k * Ideal.exp2 (SM x0 x1 x2 h q k - (Finset.range n).sup fun k => SM x0 x1 x2 h q k))
    (∑ k ∈ Finset.range n, VT x3 h 64 k * Ideal.exp2 (SM x0 x1 x2 h q k - (Finset.range n).sup fun k => SM x0 x1 x2 h q k))

/-- A tile's rows are `f` from `o` on. -/
def IsS (f : ℕ → Fin 256 → EReal) (o : ℕ) (s : FVec Ideal S256x256 .f32) : Prop := ∀ a b : Fin 256, s (ix2 a b) = f (o + a.val) b
/-- The same of a tile read back from the scratch. -/
def IsL (f : ℕ → Fin 256 → EReal) (o : ℕ) (s : Vec Ideal S1x256x256 .f32) : Prop := ∀ a b : Fin 256, s (ix3 0 a b) = f (o + a.val) b
/-- Eight partial greatest scores whose greatest is that of the rows below `n`. -/
def IsX (f : ℕ → Fin 256 → EReal) (n : ℕ) (mx : FVec Ideal S8x256 .f32) : Prop :=
  ∀ b : Fin 256, (Finset.univ.sup fun a : Fin 8 => (mx (ix2 a b) : EReal)) = MF f n b
/-- A row of greatest scores. -/
def IsM (M : Fin 256 → EReal) (m : FVec Ideal S1x256 .f32) : Prop := ∀ b : Fin 256, m (ix2 0 b) = M b
/-- A key tile of head `h` from key `o` on. -/
def IsK (g : ℕ → ℕ → EReal) (o : ℕ) (K : Vec Ideal S1x256x128 .bf16) : Prop := ∀ (a : Fin 256) (d : Fin 128), K (ix3 0 a d) = g (o + a.val) d.val
/-- A query tile from query `p` on. -/
def IsQ (g : ℕ → ℕ → EReal) (p : ℕ) (Q : Vec Ideal S1x128x256 .bf16) : Prop := ∀ (d : Fin 128) (b : Fin 256), Q (ix3 0 d b) = g d.val (p + b.val)
/-- A value tile from key `o` on. -/
def IsV (g : ℕ → ℕ → EReal) (o : ℕ) (V : Vec Ideal S1x80x256 .bf16) : Prop := ∀ (c : Fin 80) (a : Fin 256), V (ix3 0 c a) = g c.val (o + a.val)
/-- Weighted values over the keys below `n`. -/
def IsA (g : ℕ → ℕ → EReal) (f : ℕ → Fin 256 → EReal) (M : Fin 256 → EReal) (n : ℕ) (A : FVec Ideal S80x256 .f32) : Prop :=
  ∀ (c : Fin 80) (b : Fin 256), A (ix2 c b) = AF g f M n c.val b
/-- A head's quotients for the queries from `p` on, over the keys below `n`. -/
def IsO (h p n : ℕ) (O : FVec Ideal S64x256 .f32) : Prop :=
  ∀ (c : Fin 64) (b : Fin 256), O (ix2 c b) = OF x0 x1 x2 x3 h (p + b.val) n c.val

/-! ## Reading back from the scratch -/

/-- A load past a write of other cells. -/
theorem past {κ : Kind} {sp : Space} {s : Shape} {e : EltTy} {v : View sig κ sp s e} {r : Rect s} {w : r.shape.Idx → Elt Ideal e}
    {L : List (View.Piece (Elt Ideal) s e)} {B : LoadRect s} {z : B.shape.Idx → Elt Ideal e} (d : LoadRect.disj r B = true) (h : v.readCov L B = z) :
    v.readCov (⟨r, w⟩ :: L) B = z :=
  (View.readCov_skip v r w L B d).trans h
/-- A load of the last write's cells. -/
theorem here {κ : Kind} {sp : Space} {s : Shape} {e : EltTy} {v : View sig κ sp s e} {r : Rect s} {w : r.shape.Idx → Elt Ideal e}
    {L : List (View.Piece (Elt Ideal) s e)} : v.readCov (⟨r, w⟩ :: L) r.toLoadRect = w :=
  View.readCov_cons_toLoadRect v r w L
theorem ofEq {α : Type} {P : α → Prop} {x y : α} (h : P y) (e : x = y) : P x := e ▸ h

/-! ## The rows as laid out -/

/-- A block of an argument read from row `o`, column `p`. -/
def IsB {R C : ℕ} (x : (⟨2, ![R, C]⟩ : Shape).Idx → EReal) (o p : ℕ) (B : Vec Ideal S256x128 .bf16) : Prop :=
  ∀ (a : Fin 256) (d : Fin 128), B (ix2 a d) = rd x (o + a.val) (p + d.val)

theorem isB_256 (M : Memref sig .tc .vmem S2048x256 .bf16) (hM : M.IsWhole) (o p : ℕ) (ho : o ≤ 1792) (hp : p ≤ 128)
    (inb : ∀ a, (![o, p] : Fin 2 → ℕ) a + S256x128.size a ≤ S2048x256.size a) :
    IsB (R := 2048) (C := 256) x0 o p (View.readAt (Elt Ideal) M.view (Rect.unit (s := S2048x256) ![o, p] S256x128.size inb).toLoadRect (hM.unread x0)) := by
  intro a d
  refine (congrFun (View.readAt_eq_ld M.view (hM.unread x0) (Rect.unit (s := S2048x256) ![o, p] S256x128.size inb)) (ix2 a d)).trans ?_
  unfold View.ld rd
  rw [hM.read_unread, dif_pos ⟨by omega, by omega⟩]
  refine congrArg x0 (funext fun t => Fin.ext ?_)
  fin_cases t
  · show o + 1 * a.val = o + a.val; omega
  · show p + 1 * d.val = p + d.val; omega

theorem isB_128 (M : Memref sig .tc .vmem S2048x128 .bf16) (hM : M.IsWhole) (x : Vec Ideal S2048x128 .bf16) (o : ℕ) (ho : o ≤ 1792)
    (inb : ∀ a, (![o, 0] : Fin 2 → ℕ) a + S256x128.size a ≤ S2048x128.size a) :
    IsB (R := 2048) (C := 128) x o 0 (View.readAt (Elt Ideal) M.view (Rect.unit (s := S2048x128) ![o, 0] S256x128.size inb).toLoadRect (hM.unread x)) := by
  intro a d
  refine (congrFun (View.readAt_eq_ld M.view (hM.unread x) (Rect.unit (s := S2048x128) ![o, 0] S256x128.size inb)) (ix2 a d)).trans ?_
  unfold View.ld rd
  rw [hM.read_unread, dif_pos ⟨by omega, by omega⟩]
  refine congrArg x (funext fun t => Fin.ext ?_)
  fin_cases t
  · show o + 1 * a.val = o + a.val; omega
  · show 0 + 1 * d.val = 0 + d.val; omega

/-- The first head's keys. -/
def kx0V (a b : Vec Ideal S256x128 .bf16) : FVec Ideal S1x256x128 .bf16 := k0_pay7 a b
/-- The second head's keys. -/
def kx1V (a b : Vec Ideal S256x128 .bf16) : FVec Ideal S1x256x128 .bf16 :=
  k0_pay11 (iota .tc S256x128 32 [1] iota_S256x128_d1_w32) (k0_pay4 a) (k0_pay5 b)
/-- A head's queries, turned. -/
def qtV (a : Vec Ideal S256x128 .bf16) : FVec Ideal S1x128x256 .bf16 := k0_pay12 a
/-- The first head's values, turned, over the ones. -/
def vt0V (a : Vec Ideal S256x128 .bf16) : FVec Ideal S1x80x256 .bf16 := k0_pay10 k0_pay3 (k0_pay6 a)
/-- The second head's. -/
def vt1V (a : Vec Ideal S256x128 .bf16) : FVec Ideal S1x80x256 .bf16 := k0_pay13 k0_pay3 (k0_pay6 a)

theorem lane_lt (d : Fin 128) : IntOp.cmpi .slt (BitVec.ofNat 32 d.val) 64#32 = if d.val < 64 then 1#1 else 0#1 := by
  revert d; decide
theorem row_zero (d : Fin 16) : IntOp.cmpi .eq (BitVec.ofNat 32 d.val) 0#32 = if d.val = 0 then 1#1 else 0#1 := by
  revert d; decide

variable {x0 x1 x2 x3}

theorem kx0 {o : ℕ} {A B : Vec Ideal S256x128 .bf16} (hA : IsB (R := 2048) (C := 128) x1 o 0 A) (hB : IsB (R := 2048) (C := 128) x2 o 0 B) :
    IsK (KX x1 x2 0) o (kx0V A B) := by
  intro a d
  unfold kx0V k0_pay7 k0_pay4 k0_pay5
  dsimp only
  pointwise
  rw [hA, hB, lane_lt]
  unfold KX
  by_cases h : d.val < 64 <;> simp [h, Scalar.select]

theorem kx1 {o : ℕ} {A B : Vec Ideal S256x128 .bf16} (hA : IsB (R := 2048) (C := 128) x1 o 0 A) (hB : IsB (R := 2048) (C := 128) x2 o 0 B) :
    IsK (KX x1 x2 1) o (kx1V A B) := by
  intro a d
  unfold kx1V k0_pay11 k0_pay4 k0_pay5
  dsimp only
  pointwise
  rw [hA, hB, lane_lt]
  unfold KX
  by_cases h : d.val < 64
  · have e : (d.val + 64) % 128 = 64 + d.val := by omega
    simp [h, e, Scalar.select]
  · simp [h, Scalar.select]

theorem qt0 {p : ℕ} {A : Vec Ideal S256x128 .bf16} (hA : IsB (R := 2048) (C := 256) x0 p 0 A) : IsQ (QT x0 0) p (qtV A) := by
  intro d b
  unfold qtV k0_pay12
  dsimp only
  pointwise
  rw [hA]
  rfl
theorem qt1 {p : ℕ} {A : Vec Ideal S256x128 .bf16} (hA : IsB (R := 2048) (C := 256) x0 p 128 A) : IsQ (QT x0 1) p (qtV A) := by
  intro d b
  unfold qtV k0_pay12
  dsimp only
  pointwise
  rw [hA]
  rfl

theorem vt0 {o : ℕ} {A : Vec Ideal S256x128 .bf16} (hA : IsB (R := 2048) (C := 128) x3 o 0 A) : IsV (VT x3 0) o (vt0V A) := by
  intro c a
  unfold vt0V k0_pay10 k0_pay3 k0_pay6
  dsimp only
  pointwise
  unfold VT
  by_cases h : c.val < 64
  · rw [dif_pos h, if_pos h, hA]
  · rw [dif_neg h, if_neg h]
    rw [row_zero ⟨c.val - 64, by omega⟩]
    by_cases e : c.val = 64
    · simp [e, Scalar.select]
    · have : ¬ c.val - 64 = 0 := by omega
      simp [e, this, Scalar.select]
theorem vt1 {o : ℕ} {A : Vec Ideal S256x128 .bf16} (hA : IsB (R := 2048) (C := 128) x3 o 0 A) : IsV (VT x3 1) o (vt1V A) := by
  intro c a
  unfold vt1V k0_pay13 k0_pay3 k0_pay6
  dsimp only
  pointwise
  unfold VT
  by_cases h : c.val < 64
  · rw [dif_pos h, if_pos h, hA]; simp
  · rw [dif_neg h, if_neg h]
    rw [row_zero ⟨c.val - 64, by omega⟩]
    by_cases e : c.val = 64
    · simp [e, Scalar.select]
    · have : ¬ c.val - 64 = 0 := by omega
      simp [e, this, Scalar.select]

/-! ## A tile of scores -/

/-- A tile of scores: 256 keys by 256 queries. -/
def scoreV (K : Vec Ideal S1x256x128 .bf16) (Q : Vec Ideal S1x128x256 .bf16) : FVec Ideal S256x256 .f32 :=
  matmul (F := Ideal) (φ₁ := .bf16) (φ₂ := .bf16) dot_S256x128_S128x256_S256x256_1_0_0_1_n_n none (shapeCast S256x128 K shapeCasts_S1x256x128_S256x128)
    (shapeCast S128x256 Q shapeCasts_S1x128x256_S128x256) (constant S256x256 .f32 0x00000000#32)

theorem scoreV_apply (K : Vec Ideal S1x256x128 .bf16) (Q : Vec Ideal S1x128x256 .bf16) (a b : Fin 256) :
    scoreV K Q (ix2 a b) = ∑ d : Fin 128, K (ix3 0 a d) * Q (ix3 0 d b) := by
  unfold scoreV
  refine (Ideal.matmul_plain_apply (M := 256) (K := 128) (N := 256) none _ _ _ a b).trans ?_
  pointwise

theorem score_eq {h o p : ℕ} {K : Vec Ideal S1x256x128 .bf16} {Q : Vec Ideal S1x128x256 .bf16}
    (hK : IsK (KX x1 x2 h) o K) (hQ : IsQ (QT x0 h) p Q) (a b : Fin 256) : scoreV K Q (ix2 a b) = SC x0 x1 x2 h (p + b.val) (o + a.val) := by
  rw [scoreV_apply]
  unfold SC
  rw [Finset.sum_range]
  exact Finset.sum_congr rfl fun d _ => congrArg₂ (· * ·) (hK a d) (hQ d b)

/-- A tile below the diagonal. -/
theorem tile_off {h o p : ℕ} {K : Vec Ideal S1x256x128 .bf16} {Q : Vec Ideal S1x128x256 .bf16}
    (hK : IsK (KX x1 x2 h) o K) (hQ : IsQ (QT x0 h) p Q) (hop : o + 256 ≤ p) : IsS (SF x0 x1 x2 h p) o (scoreV K Q) := by
  intro a b
  rw [score_eq hK hQ]
  unfold SF SM
  rw [if_pos (by omega)]

theorem bias_apply (a b : Fin 256) : (k0_pay2 (F := Ideal)) (ix2 a b) = if a.val ≤ b.val then (0 : EReal) else ⊥ := by
  have e : IntOp.cmpi .sle (BitVec.ofNat 32 a.val) (BitVec.ofNat 32 b.val) = if a.val ≤ b.val then 1#1 else 0#1 := by
    have h1 : (BitVec.ofNat 32 a.val).toInt = a.val := by
      rw [BitVec.toInt_eq_toNat_of_lt (by simp [BitVec.toNat_ofNat]; omega)]; simp [BitVec.toNat_ofNat]; omega
    have h2 : (BitVec.ofNat 32 b.val).toInt = b.val := by
      rw [BitVec.toInt_eq_toNat_of_lt (by simp [BitVec.toNat_ofNat]; omega)]; simp [BitVec.toNat_ofNat]; omega
    unfold IntOp.cmpi
    simp only [BitVec.sle, h1, h2]
    by_cases h : a.val ≤ b.val <;> simp [h]
  unfold k0_pay2
  dsimp only
  pointwise
  rw [e]
  by_cases h : a.val ≤ b.val
  · simp [h, Scalar.select]
  · simp [h, Scalar.select]
    rfl

/-- A tile on the diagonal. -/
theorem tile_diag {h p : ℕ} {K : Vec Ideal S1x256x128 .bf16} {Q : Vec Ideal S1x128x256 .bf16} {B : FVec Ideal S256x256 .f32}
    (hK : IsK (KX x1 x2 h) p K) (hQ : IsQ (QT x0 h) p Q) (hB : B = k0_pay2 (F := Ideal)) : IsS (SF x0 x1 x2 h p) p (addf (scoreV K Q) B) := by
  intro a b
  subst hB
  show scoreV K Q (ix2 a b) + k0_pay2 (F := Ideal) (ix2 a b) = _
  rw [score_eq hK hQ, bias_apply]
  unfold SF SM
  by_cases h : a.val ≤ b.val
  · rw [if_pos h, if_pos (by omega), add_zero]
  · rw [if_neg h, if_neg (by omega), EReal.add_bot]

/-- A tile read back from the scratch. -/
theorem load_eq {f : ℕ → Fin 256 → EReal} {o : ℕ} {s : FVec Ideal S256x256 .f32} {L : Vec Ideal S1x256x256 .f32}
    (hs : IsS f o s) (hL : L = shapeCast S1x256x256 s shapeCasts_S256x256_S1x256x256) : IsL f o L := by
  intro a b
  subst hL
  pointwise
  exact hs a b

/-! ## The greatest score of a column -/

/-- The greatest of 32 slices of 8 rows. -/
def tileMaxV (s : FVec Ideal S256x256 .f32) : FVec Ideal S8x256 .f32 :=
  maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (extractStridedSlice S8x256 ![0, 0] s slices_S256x256_o0_0_S8x256)
      (extractStridedSlice S8x256 ![8, 0] s slices_S256x256_o8_0_S8x256))
      (extractStridedSlice S8x256 ![16, 0] s slices_S256x256_o16_0_S8x256))
      (extractStridedSlice S8x256 ![24, 0] s slices_S256x256_o24_0_S8x256))
      (extractStridedSlice S8x256 ![32, 0] s slices_S256x256_o32_0_S8x256))
      (extractStridedSlice S8x256 ![40, 0] s slices_S256x256_o40_0_S8x256))
      (extractStridedSlice S8x256 ![48, 0] s slices_S256x256_o48_0_S8x256))
      (extractStridedSlice S8x256 ![56, 0] s slices_S256x256_o56_0_S8x256))
      (extractStridedSlice S8x256 ![64, 0] s slices_S256x256_o64_0_S8x256))
      (extractStridedSlice S8x256 ![72, 0] s slices_S256x256_o72_0_S8x256))
      (extractStridedSlice S8x256 ![80, 0] s slices_S256x256_o80_0_S8x256))
      (extractStridedSlice S8x256 ![88, 0] s slices_S256x256_o88_0_S8x256))
      (extractStridedSlice S8x256 ![96, 0] s slices_S256x256_o96_0_S8x256))
      (extractStridedSlice S8x256 ![104, 0] s slices_S256x256_o104_0_S8x256))
      (extractStridedSlice S8x256 ![112, 0] s slices_S256x256_o112_0_S8x256))
      (extractStridedSlice S8x256 ![120, 0] s slices_S256x256_o120_0_S8x256))
      (extractStridedSlice S8x256 ![128, 0] s slices_S256x256_o128_0_S8x256))
      (extractStridedSlice S8x256 ![136, 0] s slices_S256x256_o136_0_S8x256))
      (extractStridedSlice S8x256 ![144, 0] s slices_S256x256_o144_0_S8x256))
      (extractStridedSlice S8x256 ![152, 0] s slices_S256x256_o152_0_S8x256))
      (extractStridedSlice S8x256 ![160, 0] s slices_S256x256_o160_0_S8x256))
      (extractStridedSlice S8x256 ![168, 0] s slices_S256x256_o168_0_S8x256))
      (extractStridedSlice S8x256 ![176, 0] s slices_S256x256_o176_0_S8x256))
      (extractStridedSlice S8x256 ![184, 0] s slices_S256x256_o184_0_S8x256))
      (extractStridedSlice S8x256 ![192, 0] s slices_S256x256_o192_0_S8x256))
      (extractStridedSlice S8x256 ![200, 0] s slices_S256x256_o200_0_S8x256))
      (extractStridedSlice S8x256 ![208, 0] s slices_S256x256_o208_0_S8x256))
      (extractStridedSlice S8x256 ![216, 0] s slices_S256x256_o216_0_S8x256))
      (extractStridedSlice S8x256 ![224, 0] s slices_S256x256_o224_0_S8x256))
      (extractStridedSlice S8x256 ![232, 0] s slices_S256x256_o232_0_S8x256))
      (extractStridedSlice S8x256 ![240, 0] s slices_S256x256_o240_0_S8x256))
      (extractStridedSlice S8x256 ![248, 0] s slices_S256x256_o248_0_S8x256)

theorem sup_succ (f : ℕ → EReal) (n : ℕ) : (Finset.range (n + 1)).sup f = (Finset.range n).sup f ⊔ f n := by
  rw [Finset.range_add_one, Finset.sup_insert, sup_comm]

theorem sup_rows (s : ℕ → EReal) : (Finset.univ.sup fun a : Fin 8 => (Finset.range 32).sup fun c => s (8 * c + a.val)) = (Finset.range 256).sup s := by
  apply le_antisymm
  · refine Finset.sup_le fun a _ => Finset.sup_le fun c hc => ?_
    exact Finset.le_sup (f := s) (Finset.mem_range.2 (by have := Finset.mem_range.1 hc; omega))
  · refine Finset.sup_le fun k hk => ?_
    have hk := Finset.mem_range.1 hk
    have h1 : s k = (fun c => s (8 * c + (⟨k % 8, by omega⟩ : Fin 8).val)) (k / 8) := congrArg s (by show k = 8 * (k / 8) + k % 8; omega)
    rw [h1]
    refine le_trans (Finset.le_sup (f := fun c => s (8 * c + (⟨k % 8, by omega⟩ : Fin 8).val)) (Finset.mem_range.2 (by omega : k / 8 < 32))) ?_
    exact Finset.le_sup (f := fun a : Fin 8 => (Finset.range 32).sup fun c => s (8 * c + a.val)) (Finset.mem_univ _)

theorem tileMaxV_apply {f : ℕ → Fin 256 → EReal} {o : ℕ} {s : FVec Ideal S256x256 .f32} (hs : IsS f o s) (a : Fin 8) (b : Fin 256) :
    tileMaxV s (ix2 a b) = (Finset.range 32).sup fun c => f (o + (8 * c + a.val)) b := by
  have hs' : ∀ (n : Fin 256), s (ix2 n b) = f (o + n.val) b := fun n => hs n b
  unfold tileMaxV
  pointwise
  simp only [hs']
  simp only [sup_succ, Finset.range_zero, Finset.sup_empty, bot_sup_eq, Nat.mul_zero, Nat.zero_add, Nat.reduceMul, Ideal.maximumf_def, add_comm, add_left_comm]
  rfl

theorem sup_split {f : ℕ → EReal} (n k : ℕ) : (Finset.range (n + k)).sup f = (Finset.range n).sup f ⊔ (Finset.range k).sup fun i => f (n + i) := by
  induction k with
  | zero => simp
  | succ k ih => rw [← Nat.add_assoc, sup_succ, sup_succ, ih, sup_assoc]

theorem max_first {f : ℕ → Fin 256 → EReal} {s : FVec Ideal S256x256 .f32} (hs : IsS f 0 s) : IsX f 256 (tileMaxV s) := by
  intro b
  simp only [tileMaxV_apply hs, Nat.zero_add]
  exact sup_rows fun k => f k b

theorem max_next {f : ℕ → Fin 256 → EReal} {o : ℕ} {mx : FVec Ideal S8x256 .f32} {s : FVec Ideal S256x256 .f32} (hm : IsX f o mx) (hs : IsS f o s) :
    IsX f (o + 256) (maximumf mx (tileMaxV s)) := by
  intro b
  have e (a : Fin 8) : (maximumf mx (tileMaxV s) (ix2 a b) : EReal) = mx (ix2 a b) ⊔ tileMaxV s (ix2 a b) := rfl
  refine ((Finset.sup_congr rfl fun a _ => e a).trans Finset.sup_sup).trans ?_
  rw [hm b, Finset.sup_congr rfl fun a _ => tileMaxV_apply hs a b]
  unfold MF
  rw [sup_split]
  exact congrArg _ (sup_rows fun k => f (o + k) b)

/-- The greatest of a column of 8 rows. -/
def maxV (mx : FVec Ideal S8x256 .f32) : FVec Ideal S1x256 .f32 :=
  shapeCast S1x256 (multiReduction .maximumf [0] S256 mx 0xFF800000#32 reduces_S8x256_S256 (.inl rfl) rfl) shapeCasts_S256_S1x256

theorem maxV_apply (mx : FVec Ideal S8x256 .f32) (b : Fin 256) :
    maxV mx (ix2 0 b) = Finset.univ.sup fun a : Fin 8 => (mx (ix2 a b) : EReal) := by
  unfold maxV
  pointwise
  rw [show Ideal.ofBits FTy.f32 4286578688#32 = ⊥ from by simp [Ideal.ofBits, Ideal.ieee]]
  rfl

theorem max_last {f : ℕ → Fin 256 → EReal} {n : ℕ} {mx : FVec Ideal S8x256 .f32} (hm : IsX f n mx) : IsM (MF f n) (maxV mx) :=
  fun b => (maxV_apply mx b).trans (hm b)

/-! ## The weighted values -/

/-- A tile of weighted values: the exponentials of the scores less the column's greatest, under the values and the row of ones. -/
def pvV (V : Vec Ideal S1x80x256 .bf16) (s : Vec Ideal S1x256x256 .f32) (m : FVec Ideal S1x256 .f32) : FVec Ideal S80x256 .f32 :=
  matmul (F := Ideal) (φ₁ := .bf16) (φ₂ := .bf16) dot_S80x256_S256x256_S80x256_1_0_0_1_n_n none (shapeCast S80x256 V shapeCasts_S1x80x256_S80x256)
    (truncf .bf16 (exp2 (subf (shapeCast S256x256 s shapeCasts_S1x256x256_S256x256) (broadcastTo S256x256 m broadcasts_S1x256_S256x256))) bitsLt_bf16_f32)
    (constant S80x256 .f32 0x00000000#32)

theorem pvV_apply (V : Vec Ideal S1x80x256 .bf16) (s : Vec Ideal S1x256x256 .f32) (m : FVec Ideal S1x256 .f32) (c : Fin 80) (b : Fin 256) :
    pvV V s m (ix2 c b) = ∑ a : Fin 256, V (ix3 0 c a) * Ideal.exp2 (s (ix3 0 a b) - m (ix2 0 b)) := by
  unfold pvV
  refine (Ideal.matmul_plain_apply (M := 80) (K := 256) (N := 256) none _ _ _ c b).trans ?_
  pointwise
  rfl

theorem pv_eq {g : ℕ → ℕ → EReal} {f : ℕ → Fin 256 → EReal} {M : Fin 256 → EReal} {o : ℕ} {V : Vec Ideal S1x80x256 .bf16} {s : Vec Ideal S1x256x256 .f32}
    {m : FVec Ideal S1x256 .f32} (hV : IsV g o V) (hs : IsL f o s) (hm : IsM M m) (c : Fin 80) (b : Fin 256) :
    pvV V s m (ix2 c b) = ∑ a ∈ Finset.range 256, g c.val (o + a) * Ideal.exp2 (f (o + a) b - M b) := by
  rw [pvV_apply, Finset.sum_range]
  exact Finset.sum_congr rfl fun a _ => congrArg₂ (· * ·) (hV c a) (congrArg Ideal.exp2 (congrArg₂ (· - ·) (hs a b) (hm b)))

theorem acc_first {g : ℕ → ℕ → EReal} {f : ℕ → Fin 256 → EReal} {M : Fin 256 → EReal} {V : Vec Ideal S1x80x256 .bf16} {s : Vec Ideal S1x256x256 .f32}
    {m : FVec Ideal S1x256 .f32} (hm : IsM M m) (hV : IsV g 0 V) (hs : IsL f 0 s) : IsA g f M 256 (pvV V s m) := by
  intro c b
  rw [pv_eq hV hs hm]
  simp only [Nat.zero_add]
  rfl
theorem acc_next {g : ℕ → ℕ → EReal} {f : ℕ → Fin 256 → EReal} {M : Fin 256 → EReal} {o : ℕ} {A : FVec Ideal S80x256 .f32} {V : Vec Ideal S1x80x256 .bf16}
    {s : Vec Ideal S1x256x256 .f32} {m : FVec Ideal S1x256 .f32} (hA : IsA g f M o A) (hm : IsM M m) (hV : IsV g o V) (hs : IsL f o s) :
    IsA g f M (o + 256) (addf A (pvV V s m)) := by
  intro c b
  show (A (ix2 c b) : EReal) + pvV V s m (ix2 c b) = _
  rw [pv_eq hV hs hm, hA c b]
  unfold AF
  rw [Finset.sum_range_add]

/-- The quotient of the weighted values by the sum of the weights. -/
def quotV (acc : FVec Ideal S80x256 .f32) : FVec Ideal S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

theorem quotV_apply (acc : FVec Ideal S80x256 .f32) (c : Fin 64) (b : Fin 256) :
    quotV acc (ix2 c b) = Ideal.div (acc (ix2 ⟨c.val, by omega⟩ b)) (acc (ix2 ⟨64, by omega⟩ b)) := by
  unfold quotV
  pointwise

theorem quot_eq {h p n : ℕ} {A : FVec Ideal S80x256 .f32}
    (hA : IsA (VT x3 h) (SF x0 x1 x2 h p) (MF (SF x0 x1 x2 h p) n) n A) : IsO x0 x1 x2 x3 h p n (quotV A) := by
  intro c b
  rw [quotV_apply, hA, hA]
  rfl

/-! ## The block of results -/

/-- Two heads' quotients side by side, a query a row. -/
def outV (o0 o1 : FVec Ideal S64x256 .f32) : FVec Ideal S256x128 .bf16 :=
  truncf .bf16 (transpose S256x128 [1, 0] (concatenate S128x256 0 [⟨S64x256, o0⟩, ⟨S64x256, o1⟩] concatenates_S64x256_S64x256_S128x256_d0)
    transposes_S128x256_p1_0_S256x128) bitsLt_bf16_f32

variable (x0 x1 x2 x3) in
/-- The block of results. -/
def OB : S2048x128.Idx → EReal := fun y =>
  OF x0 x1 x2 x3 ((y 1).val / 64) (y 0).val (256 * ((y 0).val / 256) + 256) ((y 1).val % 64)

theorem out_eq {i : ℕ} (hi : i < 8) {o0 o1 : FVec Ideal S64x256 .f32} (h0 : IsO x0 x1 x2 x3 0 (256 * i) (256 * i + 256) o0)
    (h1 : IsO x0 x1 x2 x3 1 (256 * i) (256 * i + 256) o1) (x : S256x128.Idx) :
    outV o0 o1 x = OF x0 x1 x2 x3 ((x 1).val / 64) (256 * i + (x 0).val) (256 * i + 256) ((x 1).val % 64) := by
  obtain ⟨r, q, rfl⟩ : ∃ (r : Fin 256) (q : Fin 128), x = ix2 r q := ⟨x 0, x 1, by funext t; fin_cases t <;> rfl⟩
  unfold outV
  pointwise
  by_cases h : q.val < 64
  · have e1 : q.val / 64 = 0 := by omega
    have e2 : q.val % 64 = q.val := by omega
    rw [dif_pos h, h0]
    simp [e1, e2]
  · have e1 : q.val / 64 = 1 := by omega
    have e2 : q.val % 64 = q.val - 64 := by omega
    rw [dif_neg h, h1]
    simp [e1, e2]

end Cert.Mla

end
-- ==== Proof.Rows.lean ====
/- The key, query and value rows as the kernel reads them back from its scratch. -/
module

public import proofs.«01_k».proof.Proof.Tiles

@[expose] public section

set_option maxRecDepth 65536

noncomputable section

namespace Cert.Mla

open Idealize.ShloMosaic Cert.Kernel2Ideal Cert.Kernel2Ideal.Gen Cert.Kernel2Ideal.Gen.kernelRun0_A

variable (c : Dev nD) (arg2 : Memref sig .tc .vmem S2048x256 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .bf16) (harg5 : arg5.IsWhole)
  (arg7 : Memref sig .tc .vmem S2x2048x128 .bf16) (arg8 : Memref sig .tc .vmem S2x128x2048 .bf16) (arg9 : Memref sig .tc .vmem S2x80x2048 .bf16)
  (arg10 : Memref sig .tc .vmem S4x2048x256 .f32) (arg11 : Memref sig .tc .vmem S256x256 .f32)
  (x0 : Vec Ideal S2048x256 .bf16) (x1 x2 x3 : Vec Ideal S2048x128 .bf16)
include c arg2 harg2 arg3 harg3 arg4 harg4 arg5 harg5 arg7 arg8 arg9 arg10 arg11 x0 x1 x2 x3

theorem kx_0_0 : IsK (KX x1 x2 0) 0 (sl.v442 (F := Ideal) c arg3 harg3 arg4 harg4 arg7 x1 x2) :=
  ofEq (P := IsK (KX x1 x2 0) 0) (kx0 (isB_128 arg3 harg3 x1 0 (by decide) inb_S2048x128_S256x128_0_0) (isB_128 arg4 harg4 x2 0 (by decide) inb_S2048x128_S256x128_0_0))
    (past (by decide) (past (by decide) (past (by decide) (past (by decide) (past (by decide) (past (by decide) (past (by decide) (past (by decide) (past (by decide) (past (by decide) (past (by decide) (past (by decide) (past (by decide) (past (by decide) (past (by decide) (here))))))))))))))))
theorem kx_0_1 : IsK (KX x1 x2 0) 256 (sl.v661 (F := Ideal) c arg3 harg3 arg4 harg4 arg7 x1 x2) :=
  ofEq (P := IsK (KX x1 x2 0) 256) (kx0 (isB_128 arg3 harg3 x1 256 (by decide) inb_S2048x128_S256x128_256_0) (isB_128 arg4 harg4 x2 256 (by decide) inb_S2048x128_S256x128_256_0))
    (past (by decide) (past (by decide) (past (by decide) (past (by decide) (past (by decide) (past (by decide) (past (by decide) (past (by decide) (past (by decide) (past (by decide) (past (by decide) (past (by decide) (past (by decide) (here))))))))))))))
theorem kx_0_2 : IsK (KX x1 x2 0) 512 (sl.v1070 (F := Ideal) c arg3 harg3 arg4 harg4 arg7 x1 x2) :=
  ofEq (P := IsK (KX x1 x2 0) 512) (kx0 (isB_128 arg3 harg3 x1 512 (by decide) inb_S2048x128_S256x128_512_0) (isB_128 arg4 harg4 x2 512 (by decide) inb_S2048x128_S256x128_512_0))
    (past (by decide) (past (by decide) (past (by decide) (past (by decide) (past (by decide) (past (by decide) (past (by decide) (past (by decide) (past (by decide) (past (by decide) (past (by decide) (here))))))))))))
theorem kx_0_3 : IsK (KX x1 x2 0) 768 (sl.v1620 (F := Ideal) c arg3 harg3 arg4 harg4 arg7 x1 x2) :=
  ofEq (P := IsK (KX x1 x2 0) 768) (kx0 (isB_128 arg3 harg3 x1 768 (by decide) inb_S2048x128_S256x128_768_0) (isB_128 arg4 harg4 x2 768 (by decide) inb_S2048x128_S256x128_768_0))
    (past (by decide) (past (by decide) (past (by decide) (past (by decide) (past (by decide) (past (by decide) (past (by decide) (past (by decide) (past (by decide) (here))))))))))
theorem kx_0_4 : IsK (KX x1 x2 0) 1024 (sl.v2350 (F := Ideal) c arg3 harg3 arg4 harg4 arg7 x1 x2) :=
  ofEq (P := IsK (KX x1 x2 0) 1024) (kx0 (isB_128 arg3 harg3 x1 1024 (by decide) inb_S2048x128_S256x128_1024_0) (isB_128 arg4 harg4 x2 1024 (by decide) inb_S2048x128_S256x128_1024_0))
    (past (by decide) (past (by decide) (past (by decide) (past (by decide) (past (by decide) (past (by decide) (past (by decide) (here))))))))
theorem kx_0_5 : IsK (KX x1 x2 0) 1280 (sl.v3220 (F := Ideal) c arg3 harg3 arg4 harg4 arg7 x1 x2) :=
  ofEq (P := IsK (KX x1 x2 0) 1280) (kx0 (isB_128 arg3 harg3 x1 1280 (by decide) inb_S2048x128_S256x128_1280_0) (isB_128 arg4 harg4 x2 1280 (by decide) inb_S2048x128_S256x128_1280_0))
    (past (by decide) (past (by decide) (past (by decide) (past (by decide) (past (by decide) (here))))))
theorem kx_0_6 : IsK (KX x1 x2 0) 1536 (sl.v4270 (F := Ideal) c arg3 harg3 arg4 harg4 arg7 x1 x2) :=
  ofEq (P := IsK (KX x1 x2 0) 1536) (kx0 (isB_128 arg3 harg3 x1 1536 (by decide) inb_S2048x128_S256x128_1536_0) (isB_128 arg4 harg4 x2 1536 (by decide) inb_S2048x128_S256x128_1536_0))
    (past (by decide) (past (by decide) (past (by decide) (here))))
theorem kx_0_7 : IsK (KX x1 x2 0) 1792 (sl.v5460 (F := Ideal) c arg3 harg3 arg4 harg4 arg7 x1 x2) :=
  ofEq (P := IsK (KX x1 x2 0) 1792) (kx0 (isB_128 arg3 harg3 x1 1792 (by decide) inb_S2048x128_S256x128_1792_0) (isB_128 arg4 harg4 x2 1792 (by decide) inb_S2048x128_S256x128_1792_0))
    (past (by decide) (here))
theorem kx_1_0 : IsK (KX x1 x2 1) 0 (sl.v517 (F := Ideal) c arg3 harg3 arg4 harg4 arg7 x1 x2) :=
  ofEq (P := IsK (KX x1 x2 1) 0) (kx1 (isB_128 arg3 harg3 x1 0 (by decide) inb_S2048x128_S256x128_0_0) (isB_128 arg4 harg4 x2 0 (by decide) inb_S2048x128_S256x128_0_0))
    (past (by decide) (past (by decide) (past (by decide) (past (by decide) (past (by decide) (past (by decide) (past (by decide) (past (by decide) (past (by decide) (past (by decide) (past (by decide) (past (by decide) (past (by decide) (past (by decide) (here)))))))))))))))
theorem kx_1_1 : IsK (KX x1 x2 1) 256 (sl.v819 (F := Ideal) c arg3 harg3 arg4 harg4 arg7 x1 x2) :=
  ofEq (P := IsK (KX x1 x2 1) 256) (kx1 (isB_128 arg3 harg3 x1 256 (by decide) inb_S2048x128_S256x128_256_0) (isB_128 arg4 harg4 x2 256 (by decide) inb_S2048x128_S256x128_256_0))
    (past (by decide) (past (by decide) (past (by decide) (past (by decide) (past (by decide) (past (by decide) (past (by decide) (past (by decide) (past (by decide) (past (by decide) (past (by decide) (past (by decide) (here)))))))))))))
theorem kx_1_2 : IsK (KX x1 x2 1) 512 (sl.v1308 (F := Ideal) c arg3 harg3 arg4 harg4 arg7 x1 x2) :=
  ofEq (P := IsK (KX x1 x2 1) 512) (kx1 (isB_128 arg3 harg3 x1 512 (by decide) inb_S2048x128_S256x128_512_0) (isB_128 arg4 harg4 x2 512 (by decide) inb_S2048x128_S256x128_512_0))
    (past (by decide) (past (by decide) (past (by decide) (past (by decide) (past (by decide) (past (by decide) (past (by decide) (past (by decide) (past (by decide) (past (by decide) (here)))))))))))
theorem kx_1_3 : IsK (KX x1 x2 1) 768 (sl.v1938 (F := Ideal) c arg3 harg3 arg4 harg4 arg7 x1 x2) :=
  ofEq (P := IsK (KX x1 x2 1) 768) (kx1 (isB_128 arg3 harg3 x1 768 (by decide) inb_S2048x128_S256x128_768_0) (isB_128 arg4 harg4 x2 768 (by decide) inb_S2048x128_S256x128_768_0))
    (past (by decide) (past (by decide) (past (by decide) (past (by decide) (past (by decide) (past (by decide) (past (by decide) (past (by decide) (here)))))))))
theorem kx_1_4 : IsK (KX x1 x2 1) 1024 (sl.v2748 (F := Ideal) c arg3 harg3 arg4 harg4 arg7 x1 x2) :=
  ofEq (P := IsK (KX x1 x2 1) 1024) (kx1 (isB_128 arg3 harg3 x1 1024 (by decide) inb_S2048x128_S256x128_1024_0) (isB_128 arg4 harg4 x2 1024 (by decide) inb_S2048x128_S256x128_1024_0))
    (past (by decide) (past (by decide) (past (by decide) (past (by decide) (past (by decide) (past (by decide) (here)))))))
theorem kx_1_5 : IsK (KX x1 x2 1) 1280 (sl.v3698 (F := Ideal) c arg3 harg3 arg4 harg4 arg7 x1 x2) :=
  ofEq (P := IsK (KX x1 x2 1) 1280) (kx1 (isB_128 arg3 harg3 x1 1280 (by decide) inb_S2048x128_S256x128_1280_0) (isB_128 arg4 harg4 x2 1280 (by decide) inb_S2048x128_S256x128_1280_0))
    (past (by decide) (past (by decide) (past (by decide) (past (by decide) (here)))))
theorem kx_1_6 : IsK (KX x1 x2 1) 1536 (sl.v4828 (F := Ideal) c arg3 harg3 arg4 harg4 arg7 x1 x2) :=
  ofEq (P := IsK (KX x1 x2 1) 1536) (kx1 (isB_128 arg3 harg3 x1 1536 (by decide) inb_S2048x128_S256x128_1536_0) (isB_128 arg4 harg4 x2 1536 (by decide) inb_S2048x128_S256x128_1536_0))
    (past (by decide) (past (by decide) (here)))
theorem kx_1_7 : IsK (KX x1 x2 1) 1792 (sl.v6098 (F := Ideal) c arg3 harg3 arg4 harg4 arg7 x1 x2) :=
  ofEq (P := IsK (KX x1 x2 1) 1792) (kx1 (isB_128 arg3 harg3 x1 1792 (by decide) inb_S2048x128_S256x128_1792_0) (isB_128 arg4 harg4 x2 1792 (by decide) inb_S2048x128_S256x128_1792_0))
    (here)
theorem qt_0_0 : IsQ (QT x0 0) 0 (sl.v440 (F := Ideal) c arg2 harg2 arg8 x0) :=
  ofEq (P := IsQ (QT x0 0) 0) (qt0 (isB_256 x0 arg2 harg2 0 0 (by decide) (by decide) inb_S2048x256_S256x128_0_0))
    (past (by decide) (past (by decide) (past (by decide) (past (by decide) (past (by decide) (past (by decide) (past (by decide) (past (by decide) (past (by decide) (past (by decide) (past (by decide) (past (by decide) (past (by decide) (past (by decide) (past (by decide) (here))))))))))))))))
theorem qt_0_1 : IsQ (QT x0 0) 256 (sl.v590 (F := Ideal) c arg2 harg2 arg8 x0) :=
  ofEq (P := IsQ (QT x0 0) 256) (qt0 (isB_256 x0 arg2 harg2 256 0 (by decide) (by decide) inb_S2048x256_S256x128_256_0))
    (past (by decide) (past (by decide) (past (by decide) (past (by decide) (past (by decide) (past (by decide) (past (by decide) (past (by decide) (past (by decide) (past (by decide) (past (by decide) (past (by decide) (past (by decide) (here))))))))))))))
theorem qt_0_2 : IsQ (QT x0 0) 512 (sl.v910 (F := Ideal) c arg2 harg2 arg8 x0) :=
  ofEq (P := IsQ (QT x0 0) 512) (qt0 (isB_256 x0 arg2 harg2 512 0 (by decide) (by decide) inb_S2048x256_S256x128_512_0))
    (past (by decide) (past (by decide) (past (by decide) (past (by decide) (past (by decide) (past (by decide) (past (by decide) (past (by decide) (past (by decide) (past (by decide) (past (by decide) (here))))))))))))
theorem qt_0_3 : IsQ (QT x0 0) 768 (sl.v1390 (F := Ideal) c arg2 harg2 arg8 x0) :=
  ofEq (P := IsQ (QT x0 0) 768) (qt0 (isB_256 x0 arg2 harg2 768 0 (by decide) (by decide) inb_S2048x256_S256x128_768_0))
    (past (by decide) (past (by decide) (past (by decide) (past (by decide) (past (by decide) (past (by decide) (past (by decide) (past (by decide) (past (by decide) (here))))))))))
theorem qt_0_4 : IsQ (QT x0 0) 1024 (sl.v2030 (F := Ideal) c arg2 harg2 arg8 x0) :=
  ofEq (P := IsQ (QT x0 0) 1024) (qt0 (isB_256 x0 arg2 harg2 1024 0 (by decide) (by decide) inb_S2048x256_S256x128_1024_0))
    (past (by decide) (past (by decide) (past (by decide) (past (by decide) (past (by decide) (past (by decide) (past (by decide) (here))))))))
theorem qt_0_5 : IsQ (QT x0 0) 1280 (sl.v2830 (F := Ideal) c arg2 harg2 arg8 x0) :=
  ofEq (P := IsQ (QT x0 0) 1280) (qt0 (isB_256 x0 arg2 harg2 1280 0 (by decide) (by decide) inb_S2048x256_S256x128_1280_0))
    (past (by decide) (past (by decide) (past (by decide) (past (by decide) (past (by decide) (here))))))
theorem qt_0_6 : IsQ (QT x0 0) 1536 (sl.v3790 (F := Ideal) c arg2 harg2 arg8 x0) :=
  ofEq (P := IsQ (QT x0 0) 1536) (qt0 (isB_256 x0 arg2 harg2 1536 0 (by decide) (by decide) inb_S2048x256_S256x128_1536_0))
    (past (by decide) (past (by decide) (past (by decide) (here))))
theorem qt_0_7 : IsQ (QT x0 0) 1792 (sl.v4910 (F := Ideal) c arg2 harg2 arg8 x0) :=
  ofEq (P := IsQ (QT x0 0) 1792) (qt0 (isB_256 x0 arg2 harg2 1792 0 (by decide) (by decide) inb_S2048x256_S256x128_1792_0))
    (past (by decide) (here))
theorem qt_1_0 : IsQ (QT x0 1) 0 (sl.v515 (F := Ideal) c arg2 harg2 arg8 x0) :=
  ofEq (P := IsQ (QT x0 1) 0) (qt1 (isB_256 x0 arg2 harg2 0 128 (by decide) (by decide) inb_S2048x256_S256x128_0_128))
    (past (by decide) (past (by decide) (past (by decide) (past (by decide) (past (by decide) (past (by decide) (past (by decide) (past (by decide) (past (by decide) (past (by decide) (past (by decide) (past (by decide) (past (by decide) (past (by decide) (here)))))))))))))))
theorem qt_1_1 : IsQ (QT x0 1) 256 (sl.v748 (F := Ideal) c arg2 harg2 arg8 x0) :=
  ofEq (P := IsQ (QT x0 1) 256) (qt1 (isB_256 x0 arg2 harg2 256 128 (by decide) (by decide) inb_S2048x256_S256x128_256_128))
    (past (by decide) (past (by decide) (past (by decide) (past (by decide) (past (by decide) (past (by decide) (past (by decide) (past (by decide) (past (by decide) (past (by decide) (past (by decide) (past (by decide) (here)))))))))))))
theorem qt_1_2 : IsQ (QT x0 1) 512 (sl.v1148 (F := Ideal) c arg2 harg2 arg8 x0) :=
  ofEq (P := IsQ (QT x0 1) 512) (qt1 (isB_256 x0 arg2 harg2 512 128 (by decide) (by decide) inb_S2048x256_S256x128_512_128))
    (past (by decide) (past (by decide) (past (by decide) (past (by decide) (past (by decide) (past (by decide) (past (by decide) (past (by decide) (past (by decide) (past (by decide) (here)))))))))))
theorem qt_1_3 : IsQ (QT x0 1) 768 (sl.v1708 (F := Ideal) c arg2 harg2 arg8 x0) :=
  ofEq (P := IsQ (QT x0 1) 768) (qt1 (isB_256 x0 arg2 harg2 768 128 (by decide) (by decide) inb_S2048x256_S256x128_768_128))
    (past (by decide) (past (by decide) (past (by decide) (past (by decide) (past (by decide) (past (by decide) (past (by decide) (past (by decide) (here)))))))))
theorem qt_1_4 : IsQ (QT x0 1) 1024 (sl.v2428 (F := Ideal) c arg2 harg2 arg8 x0) :=
  ofEq (P := IsQ (QT x0 1) 1024) (qt1 (isB_256 x0 arg2 harg2 1024 128 (by decide) (by decide) inb_S2048x256_S256x128_1024_128))
    (past (by decide) (past (by decide) (past (by decide) (past (by decide) (past (by decide) (past (by decide) (here)))))))
theorem qt_1_5 : IsQ (QT x0 1) 1280 (sl.v3308 (F := Ideal) c arg2 harg2 arg8 x0) :=
  ofEq (P := IsQ (QT x0 1) 1280) (qt1 (isB_256 x0 arg2 harg2 1280 128 (by decide) (by decide) inb_S2048x256_S256x128_1280_128))
    (past (by decide) (past (by decide) (past (by decide) (past (by decide) (here)))))
theorem qt_1_6 : IsQ (QT x0 1) 1536 (sl.v4348 (F := Ideal) c arg2 harg2 arg8 x0) :=
  ofEq (P := IsQ (QT x0 1) 1536) (qt1 (isB_256 x0 arg2 harg2 1536 128 (by decide) (by decide) inb_S2048x256_S256x128_1536_128))
    (past (by decide) (past (by decide) (here)))
theorem qt_1_7 : IsQ (QT x0 1) 1792 (sl.v5548 (F := Ideal) c arg2 harg2 arg8 x0) :=
  ofEq (P := IsQ (QT x0 1) 1792) (qt1 (isB_256 x0 arg2 harg2 1792 128 (by decide) (by decide) inb_S2048x256_S256x128_1792_128))
    (here)
theorem vt_0_0 : IsV (VT x3 0) 0 (sl.v739 (F := Ideal) c arg5 harg5 arg9 x3) :=
  ofEq (P := IsV (VT x3 0) 0) (vt0 (isB_128 arg5 harg5 x3 0 (by decide) inb_S2048x128_S256x128_0_0))
    (past (by decide) (past (by decide) (past (by decide) (past (by decide) (past (by decide) (past (by decide) (past (by decide) (past (by decide) (past (by decide) (past (by decide) (past (by decide) (past (by decide) (past (by decide) (past (by decide) (past (by decide) (here))))))))))))))))
theorem vt_0_1 : IsV (VT x3 0) 256 (sl.v1066 (F := Ideal) c arg5 harg5 arg9 x3) :=
  ofEq (P := IsV (VT x3 0) 256) (vt0 (isB_128 arg5 harg5 x3 256 (by decide) inb_S2048x128_S256x128_256_0))
    (past (by decide) (past (by decide) (past (by decide) (past (by decide) (past (by decide) (past (by decide) (past (by decide) (past (by decide) (past (by decide) (past (by decide) (past (by decide) (past (by decide) (past (by decide) (here))))))))))))))
theorem vt_0_2 : IsV (VT x3 0) 512 (sl.v1698 (F := Ideal) c arg5 harg5 arg9 x3) :=
  ofEq (P := IsV (VT x3 0) 512) (vt0 (isB_128 arg5 harg5 x3 512 (by decide) inb_S2048x128_S256x128_512_0))
    (past (by decide) (past (by decide) (past (by decide) (past (by decide) (past (by decide) (past (by decide) (past (by decide) (past (by decide) (past (by decide) (past (by decide) (past (by decide) (here))))))))))))
theorem vt_0_3 : IsV (VT x3 0) 768 (sl.v2346 (F := Ideal) c arg5 harg5 arg9 x3) :=
  ofEq (P := IsV (VT x3 0) 768) (vt0 (isB_128 arg5 harg5 x3 768 (by decide) inb_S2048x128_S256x128_768_0))
    (past (by decide) (past (by decide) (past (by decide) (past (by decide) (past (by decide) (past (by decide) (past (by decide) (past (by decide) (past (by decide) (here))))))))))
theorem vt_0_4 : IsV (VT x3 0) 1024 (sl.v3298 (F := Ideal) c arg5 harg5 arg9 x3) :=
  ofEq (P := IsV (VT x3 0) 1024) (vt0 (isB_128 arg5 harg5 x3 1024 (by decide) inb_S2048x128_S256x128_1024_0))
    (past (by decide) (past (by decide) (past (by decide) (past (by decide) (past (by decide) (past (by decide) (past (by decide) (here))))))))
theorem vt_0_5 : IsV (VT x3 0) 1280 (sl.v4266 (F := Ideal) c arg5 harg5 arg9 x3) :=
  ofEq (P := IsV (VT x3 0) 1280) (vt0 (isB_128 arg5 harg5 x3 1280 (by decide) inb_S2048x128_S256x128_1280_0))
    (past (by decide) (past (by decide) (past (by decide) (past (by decide) (past (by decide) (here))))))
theorem vt_0_6 : IsV (VT x3 0) 1536 (sl.v5538 (F := Ideal) c arg5 harg5 arg9 x3) :=
  ofEq (P := IsV (VT x3 0) 1536) (vt0 (isB_128 arg5 harg5 x3 1536 (by decide) inb_S2048x128_S256x128_1536_0))
    (past (by decide) (past (by decide) (past (by decide) (here))))
theorem vt_0_7 : IsV (VT x3 0) 1792 (sl.v6265 (F := Ideal) c arg5 harg5 arg9 x3) :=
  ofEq (P := IsV (VT x3 0) 1792) (vt0 (isB_128 arg5 harg5 x3 1792 (by decide) inb_S2048x128_S256x128_1792_0))
    (past (by decide) (here))
theorem vt_1_0 : IsV (VT x3 1) 0 (sl.v897 (F := Ideal) c arg5 harg5 arg9 x3) :=
  ofEq (P := IsV (VT x3 1) 0) (vt1 (isB_128 arg5 harg5 x3 0 (by decide) inb_S2048x128_S256x128_0_0))
    (past (by decide) (past (by decide) (past (by decide) (past (by decide) (past (by decide) (past (by decide) (past (by decide) (past (by decide) (past (by decide) (past (by decide) (past (by decide) (past (by decide) (past (by decide) (past (by decide) (here)))))))))))))))
theorem vt_1_1 : IsV (VT x3 1) 256 (sl.v1304 (F := Ideal) c arg5 harg5 arg9 x3) :=
  ofEq (P := IsV (VT x3 1) 256) (vt1 (isB_128 arg5 harg5 x3 256 (by decide) inb_S2048x128_S256x128_256_0))
    (past (by decide) (past (by decide) (past (by decide) (past (by decide) (past (by decide) (past (by decide) (past (by decide) (past (by decide) (past (by decide) (past (by decide) (past (by decide) (past (by decide) (here)))))))))))))
theorem vt_1_2 : IsV (VT x3 1) 512 (sl.v2016 (F := Ideal) c arg5 harg5 arg9 x3) :=
  ofEq (P := IsV (VT x3 1) 512) (vt1 (isB_128 arg5 harg5 x3 512 (by decide) inb_S2048x128_S256x128_512_0))
    (past (by decide) (past (by decide) (past (by decide) (past (by decide) (past (by decide) (past (by decide) (past (by decide) (past (by decide) (past (by decide) (past (by decide) (here)))))))))))
theorem vt_1_3 : IsV (VT x3 1) 768 (sl.v2744 (F := Ideal) c arg5 harg5 arg9 x3) :=
  ofEq (P := IsV (VT x3 1) 768) (vt1 (isB_128 arg5 harg5 x3 768 (by decide) inb_S2048x128_S256x128_768_0))
    (past (by decide) (past (by decide) (past (by decide) (past (by decide) (past (by decide) (past (by decide) (past (by decide) (past (by decide) (here)))))))))
theorem vt_1_4 : IsV (VT x3 1) 1024 (sl.v3776 (F := Ideal) c arg5 harg5 arg9 x3) :=
  ofEq (P := IsV (VT x3 1) 1024) (vt1 (isB_128 arg5 harg5 x3 1024 (by decide) inb_S2048x128_S256x128_1024_0))
    (past (by decide) (past (by decide) (past (by decide) (past (by decide) (past (by decide) (past (by decide) (here)))))))
theorem vt_1_5 : IsV (VT x3 1) 1280 (sl.v4824 (F := Ideal) c arg5 harg5 arg9 x3) :=
  ofEq (P := IsV (VT x3 1) 1280) (vt1 (isB_128 arg5 harg5 x3 1280 (by decide) inb_S2048x128_S256x128_1280_0))
    (past (by decide) (past (by decide) (past (by decide) (past (by decide) (here)))))
theorem vt_1_6 : IsV (VT x3 1) 1536 (sl.v6176 (F := Ideal) c arg5 harg5 arg9 x3) :=
  ofEq (P := IsV (VT x3 1) 1536) (vt1 (isB_128 arg5 harg5 x3 1536 (by decide) inb_S2048x128_S256x128_1536_0))
    (past (by decide) (past (by decide) (here)))
theorem vt_1_7 : IsV (VT x3 1) 1792 (sl.v6348 (F := Ideal) c arg5 harg5 arg9 x3) :=
  ofEq (P := IsV (VT x3 1) 1792) (vt1 (isB_128 arg5 harg5 x3 1792 (by decide) inb_S2048x128_S256x128_1792_0))
    (here)
theorem bias_read : sl.v445 (F := Ideal) c arg11 = k0_pay2 (F := Ideal) :=
  here
end Cert.Mla

end
-- ==== Proof.Scores.lean ====
/- The tiles of scores as the kernel reads them back from its scratch. -/
module

public import proofs.«01_k».proof.Proof.Rows

@[expose] public section

set_option maxRecDepth 65536

noncomputable section

namespace Cert.Mla

open Idealize.ShloMosaic Cert.Kernel2Ideal Cert.Kernel2Ideal.Gen Cert.Kernel2Ideal.Gen.kernelRun0_A

variable (c : Dev nD) (arg2 : Memref sig .tc .vmem S2048x256 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .bf16) (harg5 : arg5.IsWhole)
  (arg7 : Memref sig .tc .vmem S2x2048x128 .bf16) (arg8 : Memref sig .tc .vmem S2x128x2048 .bf16) (arg9 : Memref sig .tc .vmem S2x80x2048 .bf16)
  (arg10 : Memref sig .tc .vmem S4x2048x256 .f32) (arg11 : Memref sig .tc .vmem S256x256 .f32)
  (x0 : Vec Ideal S2048x256 .bf16) (x1 x2 x3 : Vec Ideal S2048x128 .bf16)
include c arg2 harg2 arg3 harg3 arg4 harg4 arg5 harg5 arg7 arg8 arg9 arg10 arg11 x0 x1 x2 x3

theorem sl_0_0 : IsL (SF x0 x1 x2 0 0) 0 (sl.v733 (F := Ideal) c arg2 harg2 arg3 harg3 arg4 harg4 arg7 arg8 arg10 arg11 x0 x1 x2) :=
  load_eq (tile_diag (kx_0_0 c arg2 harg2 arg3 harg3 arg4 harg4 arg5 harg5 arg7 arg8 arg9 arg10 arg11 x0 x1 x2 x3) (qt_0_0 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (here))))
theorem sl_1_0 : IsL (SF x0 x1 x2 1 0) 0 (sl.v891 (F := Ideal) c arg2 harg2 arg3 harg3 arg4 harg4 arg7 arg8 arg10 arg11 x0 x1 x2) :=
  load_eq (tile_diag (kx_1_0 c arg2 harg2 arg3 harg3 arg4 harg4 arg5 harg5 arg7 arg8 arg9 arg10 arg11 x0 x1 x2 x3) (qt_1_0 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (here)))))
theorem sl_2_0 : IsL (SF x0 x1 x2 0 256) 0 (sl.v1051 (F := Ideal) c arg2 harg2 arg3 harg3 arg4 harg4 arg7 arg8 arg10 arg11 x0 x1 x2) :=
  load_eq (tile_off (kx_0_0 c arg2 harg2 arg3 harg3 arg4 harg4 arg5 harg5 arg7 arg8 arg9 arg10 arg11 x0 x1 x2 x3) (qt_0_1 c arg2 harg2 arg3 harg3 arg4 harg4 arg5 harg5 arg7 arg8 arg9 arg10 arg11 x0 x1 x2 x3) (by decide))
    (past (by decide) (past (by decide) (past (by decide) (past (by decide) (past (by decide) (here))))))
theorem sl_2_1 : IsL (SF x0 x1 x2 0 256) 256 (sl.v1060 (F := Ideal) c arg2 harg2 arg3 harg3 arg4 harg4 arg7 arg8 arg10 arg11 x0 x1 x2) :=
  load_eq (tile_diag (kx_0_1 c arg2 harg2 arg3 harg3 arg4 harg4 arg5 harg5 arg7 arg8 arg9 arg10 arg11 x0 x1 x2 x3) (qt_0_1 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (here)))))
theorem sl_3_0 : IsL (SF x0 x1 x2 1 256) 0 (sl.v1289 (F := Ideal) c arg2 harg2 arg3 harg3 arg4 harg4 arg7 arg8 arg10 arg11 x0 x1 x2) :=
  load_eq (tile_off (kx_1_0 c arg2 harg2 arg3 harg3 arg4 harg4 arg5 harg5 arg7 arg8 arg9 arg10 arg11 x0 x1 x2 x3) (qt_1_1 c arg2 harg2 arg3 harg3 arg4 harg4 arg5 harg5 arg7 arg8 arg9 arg10 arg11 x0 x1 x2 x3) (by decide))
    (past (by decide) (past (by decide) (past (by decide) (past (by decide) (past (by decide) (past (by decide) (here)))))))
theorem sl_3_1 : IsL (SF x0 x1 x2 1 256) 256 (sl.v1298 (F := Ideal) c arg2 harg2 arg3 harg3 arg4 harg4 arg7 arg8 arg10 arg11 x0 x1 x2) :=
  load_eq (tile_diag (kx_1_1 c arg2 harg2 arg3 harg3 arg4 harg4 arg5 harg5 arg7 arg8 arg9 arg10 arg11 x0 x1 x2 x3) (qt_1_1 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (here))))))
theorem sl_4_0 : IsL (SF x0 x1 x2 0 512) 0 (sl.v1531 (F := Ideal) c arg2 harg2 arg3 harg3 arg4 harg4 arg7 arg8 arg10 arg11 x0 x1 x2) :=
  load_eq (tile_off (kx_0_0 c arg2 harg2 arg3 harg3 arg4 harg4 arg5 harg5 arg7 arg8 arg9 arg10 arg11 x0 x1 x2 x3) (qt_0_2 c arg2 harg2 arg3 harg3 arg4 harg4 arg5 harg5 arg7 arg8 arg9 arg10 arg11 x0 x1 x2 x3) (by decide))
    (past (by decide) (past (by decide) (past (by decide) (past (by decide) (past (by decide) (past (by decide) (past (by decide) (here))))))))
theorem sl_4_1 : IsL (SF x0 x1 x2 0 512) 256 (sl.v1540 (F := Ideal) c arg2 harg2 arg3 harg3 arg4 harg4 arg7 arg8 arg10 arg11 x0 x1 x2) :=
  load_eq (tile_off (kx_0_1 c arg2 harg2 arg3 harg3 arg4 harg4 arg5 harg5 arg7 arg8 arg9 arg10 arg11 x0 x1 x2 x3) (qt_0_2 c arg2 harg2 arg3 harg3 arg4 harg4 arg5 harg5 arg7 arg8 arg9 arg10 arg11 x0 x1 x2 x3) (by decide))
    (past (by decide) (past (by decide) (past (by decide) (past (by decide) (past (by decide) (past (by decide) (here)))))))
theorem sl_4_2 : IsL (SF x0 x1 x2 0 512) 512 (sl.v1692 (F := Ideal) c arg2 harg2 arg3 harg3 arg4 harg4 arg7 arg8 arg10 arg11 x0 x1 x2) :=
  load_eq (tile_diag (kx_0_2 c arg2 harg2 arg3 harg3 arg4 harg4 arg5 harg5 arg7 arg8 arg9 arg10 arg11 x0 x1 x2 x3) (qt_0_2 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (here))))))))
theorem sl_5_0 : IsL (SF x0 x1 x2 1 512) 0 (sl.v1849 (F := Ideal) c arg2 harg2 arg3 harg3 arg4 harg4 arg7 arg8 arg10 arg11 x0 x1 x2) :=
  load_eq (tile_off (kx_1_0 c arg2 harg2 arg3 harg3 arg4 harg4 arg5 harg5 arg7 arg8 arg9 arg10 arg11 x0 x1 x2 x3) (qt_1_2 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (here)))))))))
theorem sl_5_1 : IsL (SF x0 x1 x2 1 512) 256 (sl.v1858 (F := Ideal) c arg2 harg2 arg3 harg3 arg4 harg4 arg7 arg8 arg10 arg11 x0 x1 x2) :=
  load_eq (tile_off (kx_1_1 c arg2 harg2 arg3 harg3 arg4 harg4 arg5 harg5 arg7 arg8 arg9 arg10 arg11 x0 x1 x2 x3) (qt_1_2 c arg2 harg2 arg3 harg3 arg4 harg4 arg5 harg5 arg7 arg8 arg9 arg10 arg11 x0 x1 x2 x3) (by decide))
    (past (by decide) (past (by decide) (past (by decide) (past (by decide) (past (by decide) (past (by decide) (past (by decide) (here))))))))
theorem sl_5_2 : IsL (SF x0 x1 x2 1 512) 512 (sl.v2010 (F := Ideal) c arg2 harg2 arg3 harg3 arg4 harg4 arg7 arg8 arg10 arg11 x0 x1 x2) :=
  load_eq (tile_diag (kx_1_2 c arg2 harg2 arg3 harg3 arg4 harg4 arg5 harg5 arg7 arg8 arg9 arg10 arg11 x0 x1 x2 x3) (qt_1_2 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (here)))))))))
theorem sl_6_0 : IsL (SF x0 x1 x2 0 768) 0 (sl.v2171 (F := Ideal) c arg2 harg2 arg3 harg3 arg4 harg4 arg7 arg8 arg10 arg11 x0 x1 x2) :=
  load_eq (tile_off (kx_0_0 c arg2 harg2 arg3 harg3 arg4 harg4 arg5 harg5 arg7 arg8 arg9 arg10 arg11 x0 x1 x2 x3) (qt_0_3 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (here))))))))))
theorem sl_6_1 : IsL (SF x0 x1 x2 0 768) 256 (sl.v2180 (F := Ideal) c arg2 harg2 arg3 harg3 arg4 harg4 arg7 arg8 arg10 arg11 x0 x1 x2) :=
  load_eq (tile_off (kx_0_1 c arg2 harg2 arg3 harg3 arg4 harg4 arg5 harg5 arg7 arg8 arg9 arg10 arg11 x0 x1 x2 x3) (qt_0_3 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (here)))))))))
theorem sl_6_2 : IsL (SF x0 x1 x2 0 768) 512 (sl.v2330 (F := Ideal) c arg2 harg2 arg3 harg3 arg4 harg4 arg7 arg8 arg10 arg11 x0 x1 x2) :=
  load_eq (tile_off (kx_0_2 c arg2 harg2 arg3 harg3 arg4 harg4 arg5 harg5 arg7 arg8 arg9 arg10 arg11 x0 x1 x2 x3) (qt_0_3 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (here))))))))))
theorem sl_6_3 : IsL (SF x0 x1 x2 0 768) 768 (sl.v2340 (F := Ideal) c arg2 harg2 arg3 harg3 arg4 harg4 arg7 arg8 arg10 arg11 x0 x1 x2) :=
  load_eq (tile_diag (kx_0_3 c arg2 harg2 arg3 harg3 arg4 harg4 arg5 harg5 arg7 arg8 arg9 arg10 arg11 x0 x1 x2 x3) (qt_0_3 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (here)))))))))
theorem sl_7_0 : IsL (SF x0 x1 x2 1 768) 0 (sl.v2569 (F := Ideal) c arg2 harg2 arg3 harg3 arg4 harg4 arg7 arg8 arg10 arg11 x0 x1 x2) :=
  load_eq (tile_off (kx_1_0 c arg2 harg2 arg3 harg3 arg4 harg4 arg5 harg5 arg7 arg8 arg9 arg10 arg11 x0 x1 x2 x3) (qt_1_3 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (here)))))))))))
theorem sl_7_1 : IsL (SF x0 x1 x2 1 768) 256 (sl.v2578 (F := Ideal) c arg2 harg2 arg3 harg3 arg4 harg4 arg7 arg8 arg10 arg11 x0 x1 x2) :=
  load_eq (tile_off (kx_1_1 c arg2 harg2 arg3 harg3 arg4 harg4 arg5 harg5 arg7 arg8 arg9 arg10 arg11 x0 x1 x2 x3) (qt_1_3 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (here))))))))))
theorem sl_7_2 : IsL (SF x0 x1 x2 1 768) 512 (sl.v2728 (F := Ideal) c arg2 harg2 arg3 harg3 arg4 harg4 arg7 arg8 arg10 arg11 x0 x1 x2) :=
  load_eq (tile_off (kx_1_2 c arg2 harg2 arg3 harg3 arg4 harg4 arg5 harg5 arg7 arg8 arg9 arg10 arg11 x0 x1 x2 x3) (qt_1_3 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (here)))))))))))
theorem sl_7_3 : IsL (SF x0 x1 x2 1 768) 768 (sl.v2738 (F := Ideal) c arg2 harg2 arg3 harg3 arg4 harg4 arg7 arg8 arg10 arg11 x0 x1 x2) :=
  load_eq (tile_diag (kx_1_3 c arg2 harg2 arg3 harg3 arg4 harg4 arg5 harg5 arg7 arg8 arg9 arg10 arg11 x0 x1 x2 x3) (qt_1_3 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (past (by decide) (here))))))))))
theorem sl_8_0 : IsL (SF x0 x1 x2 0 1024) 0 (sl.v2971 (F := Ideal) c arg2 harg2 arg3 harg3 arg4 harg4 arg7 arg8 arg10 arg11 x0 x1 x2) :=
  load_eq (tile_off (kx_0_0 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (here))))))))))))
theorem sl_8_1 : IsL (SF x0 x1 x2 0 1024) 256 (sl.v2980 (F := Ideal) c arg2 harg2 arg3 harg3 arg4 harg4 arg7 arg8 arg10 arg11 x0 x1 x2) :=
  load_eq (tile_off (kx_0_1 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (here)))))))))))
theorem sl_8_2 : IsL (SF x0 x1 x2 0 1024) 512 (sl.v3130 (F := Ideal) c arg2 harg2 arg3 harg3 arg4 harg4 arg7 arg8 arg10 arg11 x0 x1 x2) :=
  load_eq (tile_off (kx_0_2 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (here))))))))))))
theorem sl_8_3 : IsL (SF x0 x1 x2 0 1024) 768 (sl.v3140 (F := Ideal) c arg2 harg2 arg3 harg3 arg4 harg4 arg7 arg8 arg10 arg11 x0 x1 x2) :=
  load_eq (tile_off (kx_0_3 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (here)))))))))))
theorem sl_8_4 : IsL (SF x0 x1 x2 0 1024) 1024 (sl.v3292 (F := Ideal) c arg2 harg2 arg3 harg3 arg4 harg4 arg7 arg8 arg10 arg11 x0 x1 x2) :=
  load_eq (tile_diag (kx_0_4 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (past (by decide) (past (by decide) (past (by decide) (here))))))))))))
theorem sl_9_0 : IsL (SF x0 x1 x2 1 1024) 0 (sl.v3449 (F := Ideal) c arg2 harg2 arg3 harg3 arg4 harg4 arg7 arg8 arg10 arg11 x0 x1 x2) :=
  load_eq (tile_off (kx_1_0 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (here)))))))))))))
theorem sl_9_1 : IsL (SF x0 x1 x2 1 1024) 256 (sl.v3458 (F := Ideal) c arg2 harg2 arg3 harg3 arg4 harg4 arg7 arg8 arg10 arg11 x0 x1 x2) :=
  load_eq (tile_off (kx_1_1 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (here))))))))))))
theorem sl_9_2 : IsL (SF x0 x1 x2 1 1024) 512 (sl.v3608 (F := Ideal) c arg2 harg2 arg3 harg3 arg4 harg4 arg7 arg8 arg10 arg11 x0 x1 x2) :=
  load_eq (tile_off (kx_1_2 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (here)))))))))))))
theorem sl_9_3 : IsL (SF x0 x1 x2 1 1024) 768 (sl.v3618 (F := Ideal) c arg2 harg2 arg3 harg3 arg4 harg4 arg7 arg8 arg10 arg11 x0 x1 x2) :=
  load_eq (tile_off (kx_1_3 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (here))))))))))))
theorem sl_9_4 : IsL (SF x0 x1 x2 1 1024) 1024 (sl.v3770 (F := Ideal) c arg2 harg2 arg3 harg3 arg4 harg4 arg7 arg8 arg10 arg11 x0 x1 x2) :=
  load_eq (tile_diag (kx_1_4 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (past (by decide) (past (by decide) (past (by decide) (past (by decide) (here)))))))))))))
theorem sl_10_0 : IsL (SF x0 x1 x2 0 1280) 0 (sl.v3931 (F := Ideal) c arg2 harg2 arg3 harg3 arg4 harg4 arg7 arg8 arg10 arg11 x0 x1 x2) :=
  load_eq (tile_off (kx_0_0 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (here))))))))))))))
theorem sl_10_1 : IsL (SF x0 x1 x2 0 1280) 256 (sl.v3940 (F := Ideal) c arg2 harg2 arg3 harg3 arg4 harg4 arg7 arg8 arg10 arg11 x0 x1 x2) :=
  load_eq (tile_off (kx_0_1 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (here)))))))))))))
theorem sl_10_2 : IsL (SF x0 x1 x2 0 1280) 512 (sl.v4090 (F := Ideal) c arg2 harg2 arg3 harg3 arg4 harg4 arg7 arg8 arg10 arg11 x0 x1 x2) :=
  load_eq (tile_off (kx_0_2 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (here))))))))))))))
theorem sl_10_3 : IsL (SF x0 x1 x2 0 1280) 768 (sl.v4100 (F := Ideal) c arg2 harg2 arg3 harg3 arg4 harg4 arg7 arg8 arg10 arg11 x0 x1 x2) :=
  load_eq (tile_off (kx_0_3 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (here)))))))))))))
theorem sl_10_4 : IsL (SF x0 x1 x2 0 1280) 1024 (sl.v4250 (F := Ideal) c arg2 harg2 arg3 harg3 arg4 harg4 arg7 arg8 arg10 arg11 x0 x1 x2) :=
  load_eq (tile_off (kx_0_4 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (here))))))))))))))
theorem sl_10_5 : IsL (SF x0 x1 x2 0 1280) 1280 (sl.v4260 (F := Ideal) c arg2 harg2 arg3 harg3 arg4 harg4 arg7 arg8 arg10 arg11 x0 x1 x2) :=
  load_eq (tile_diag (kx_0_5 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (past (by decide) (past (by decide) (past (by decide) (past (by decide) (here)))))))))))))
theorem sl_11_0 : IsL (SF x0 x1 x2 1 1280) 0 (sl.v4489 (F := Ideal) c arg2 harg2 arg3 harg3 arg4 harg4 arg7 arg8 arg10 arg11 x0 x1 x2) :=
  load_eq (tile_off (kx_1_0 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (here)))))))))))))))
theorem sl_11_1 : IsL (SF x0 x1 x2 1 1280) 256 (sl.v4498 (F := Ideal) c arg2 harg2 arg3 harg3 arg4 harg4 arg7 arg8 arg10 arg11 x0 x1 x2) :=
  load_eq (tile_off (kx_1_1 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (here))))))))))))))
theorem sl_11_2 : IsL (SF x0 x1 x2 1 1280) 512 (sl.v4648 (F := Ideal) c arg2 harg2 arg3 harg3 arg4 harg4 arg7 arg8 arg10 arg11 x0 x1 x2) :=
  load_eq (tile_off (kx_1_2 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (here)))))))))))))))
theorem sl_11_3 : IsL (SF x0 x1 x2 1 1280) 768 (sl.v4658 (F := Ideal) c arg2 harg2 arg3 harg3 arg4 harg4 arg7 arg8 arg10 arg11 x0 x1 x2) :=
  load_eq (tile_off (kx_1_3 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (here))))))))))))))
theorem sl_11_4 : IsL (SF x0 x1 x2 1 1280) 1024 (sl.v4808 (F := Ideal) c arg2 harg2 arg3 harg3 arg4 harg4 arg7 arg8 arg10 arg11 x0 x1 x2) :=
  load_eq (tile_off (kx_1_4 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (here)))))))))))))))
theorem sl_11_5 : IsL (SF x0 x1 x2 1 1280) 1280 (sl.v4818 (F := Ideal) c arg2 harg2 arg3 harg3 arg4 harg4 arg7 arg8 arg10 arg11 x0 x1 x2) :=
  load_eq (tile_diag (kx_1_5 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (past (by decide) (past (by decide) (past (by decide) (past (by decide) (past (by decide) (here))))))))))))))
theorem sl_12_0 : IsL (SF x0 x1 x2 0 1536) 0 (sl.v5051 (F := Ideal) c arg2 harg2 arg3 harg3 arg4 harg4 arg7 arg8 arg10 arg11 x0 x1 x2) :=
  load_eq (tile_off (kx_0_0 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (here))))))))))))))))
theorem sl_12_1 : IsL (SF x0 x1 x2 0 1536) 256 (sl.v5060 (F := Ideal) c arg2 harg2 arg3 harg3 arg4 harg4 arg7 arg8 arg10 arg11 x0 x1 x2) :=
  load_eq (tile_off (kx_0_1 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (here)))))))))))))))
theorem sl_12_2 : IsL (SF x0 x1 x2 0 1536) 512 (sl.v5210 (F := Ideal) c arg2 harg2 arg3 harg3 arg4 harg4 arg7 arg8 arg10 arg11 x0 x1 x2) :=
  load_eq (tile_off (kx_0_2 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (here))))))))))))))))
theorem sl_12_3 : IsL (SF x0 x1 x2 0 1536) 768 (sl.v5220 (F := Ideal) c arg2 harg2 arg3 harg3 arg4 harg4 arg7 arg8 arg10 arg11 x0 x1 x2) :=
  load_eq (tile_off (kx_0_3 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (here)))))))))))))))
theorem sl_12_4 : IsL (SF x0 x1 x2 0 1536) 1024 (sl.v5370 (F := Ideal) c arg2 harg2 arg3 harg3 arg4 harg4 arg7 arg8 arg10 arg11 x0 x1 x2) :=
  load_eq (tile_off (kx_0_4 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (here))))))))))))))))
theorem sl_12_5 : IsL (SF x0 x1 x2 0 1536) 1280 (sl.v5380 (F := Ideal) c arg2 harg2 arg3 harg3 arg4 harg4 arg7 arg8 arg10 arg11 x0 x1 x2) :=
  load_eq (tile_off (kx_0_5 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (here)))))))))))))))
theorem sl_12_6 : IsL (SF x0 x1 x2 0 1536) 1536 (sl.v5532 (F := Ideal) c arg2 harg2 arg3 harg3 arg4 harg4 arg7 arg8 arg10 arg11 x0 x1 x2) :=
  load_eq (tile_diag (kx_0_6 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (past (by decide) (past (by decide) (past (by decide) (past (by decide) (past (by decide) (past (by decide) (past (by decide) (here))))))))))))))))
theorem sl_13_0 : IsL (SF x0 x1 x2 1 1536) 0 (sl.v5689 (F := Ideal) c arg2 harg2 arg3 harg3 arg4 harg4 arg7 arg8 arg10 arg11 x0 x1 x2) :=
  load_eq (tile_off (kx_1_0 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (past (by decide) (here)))))))))))))))))
theorem sl_13_1 : IsL (SF x0 x1 x2 1 1536) 256 (sl.v5698 (F := Ideal) c arg2 harg2 arg3 harg3 arg4 harg4 arg7 arg8 arg10 arg11 x0 x1 x2) :=
  load_eq (tile_off (kx_1_1 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (here))))))))))))))))
theorem sl_13_2 : IsL (SF x0 x1 x2 1 1536) 512 (sl.v5848 (F := Ideal) c arg2 harg2 arg3 harg3 arg4 harg4 arg7 arg8 arg10 arg11 x0 x1 x2) :=
  load_eq (tile_off (kx_1_2 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (past (by decide) (here)))))))))))))))))
theorem sl_13_3 : IsL (SF x0 x1 x2 1 1536) 768 (sl.v5858 (F := Ideal) c arg2 harg2 arg3 harg3 arg4 harg4 arg7 arg8 arg10 arg11 x0 x1 x2) :=
  load_eq (tile_off (kx_1_3 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (here))))))))))))))))
theorem sl_13_4 : IsL (SF x0 x1 x2 1 1536) 1024 (sl.v6008 (F := Ideal) c arg2 harg2 arg3 harg3 arg4 harg4 arg7 arg8 arg10 arg11 x0 x1 x2) :=
  load_eq (tile_off (kx_1_4 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (past (by decide) (here)))))))))))))))))
theorem sl_13_5 : IsL (SF x0 x1 x2 1 1536) 1280 (sl.v6018 (F := Ideal) c arg2 harg2 arg3 harg3 arg4 harg4 arg7 arg8 arg10 arg11 x0 x1 x2) :=
  load_eq (tile_off (kx_1_5 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (here))))))))))))))))
theorem sl_13_6 : IsL (SF x0 x1 x2 1 1536) 1536 (sl.v6170 (F := Ideal) c arg2 harg2 arg3 harg3 arg4 harg4 arg7 arg8 arg10 arg11 x0 x1 x2) :=
  load_eq (tile_diag (kx_1_6 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (past (by decide) (past (by decide) (past (by decide) (past (by decide) (past (by decide) (past (by decide) (past (by decide) (past (by decide) (here)))))))))))))))))
theorem sl_14_0 : IsL (SF x0 x1 x2 0 1792) 0 (sl.v6190 (F := Ideal) c arg2 harg2 arg3 harg3 arg4 harg4 arg7 arg8 arg10 arg11 x0 x1 x2) :=
  load_eq (tile_off (kx_0_0 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (past (by decide) (here))))))))))))))))
theorem sl_14_1 : IsL (SF x0 x1 x2 0 1792) 256 (sl.v6199 (F := Ideal) c arg2 harg2 arg3 harg3 arg4 harg4 arg7 arg8 arg10 arg11 x0 x1 x2) :=
  load_eq (tile_off (kx_0_1 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (past (by decide) (here)))))))))))))))
theorem sl_14_2 : IsL (SF x0 x1 x2 0 1792) 512 (sl.v6209 (F := Ideal) c arg2 harg2 arg3 harg3 arg4 harg4 arg7 arg8 arg10 arg11 x0 x1 x2) :=
  load_eq (tile_off (kx_0_2 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (past (by decide) (here))))))))))))))
theorem sl_14_3 : IsL (SF x0 x1 x2 0 1792) 768 (sl.v6219 (F := Ideal) c arg2 harg2 arg3 harg3 arg4 harg4 arg7 arg8 arg10 arg11 x0 x1 x2) :=
  load_eq (tile_off (kx_0_3 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (past (by decide) (here)))))))))))))
theorem sl_14_4 : IsL (SF x0 x1 x2 0 1792) 1024 (sl.v6229 (F := Ideal) c arg2 harg2 arg3 harg3 arg4 harg4 arg7 arg8 arg10 arg11 x0 x1 x2) :=
  load_eq (tile_off (kx_0_4 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (past (by decide) (here))))))))))))
theorem sl_14_5 : IsL (SF x0 x1 x2 0 1792) 1280 (sl.v6239 (F := Ideal) c arg2 harg2 arg3 harg3 arg4 harg4 arg7 arg8 arg10 arg11 x0 x1 x2) :=
  load_eq (tile_off (kx_0_5 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (past (by decide) (here)))))))))))
theorem sl_14_6 : IsL (SF x0 x1 x2 0 1792) 1536 (sl.v6249 (F := Ideal) c arg2 harg2 arg3 harg3 arg4 harg4 arg7 arg8 arg10 arg11 x0 x1 x2) :=
  load_eq (tile_off (kx_0_6 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide))
    (past (by decide) (past (by decide) (past (by decide) (past (by decide) (past (by decide) (past (by decide) (past (by decide) (past (by decide) (past (by decide) (here))))))))))
theorem sl_14_7 : IsL (SF x0 x1 x2 0 1792) 1792 (sl.v6259 (F := Ideal) c arg2 harg2 arg3 harg3 arg4 harg4 arg7 arg8 arg10 arg11 x0 x1 x2) :=
  load_eq (tile_diag (kx_0_7 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (past (by decide) (past (by decide) (past (by decide) (past (by decide) (past (by decide) (past (by decide) (past (by decide) (past (by decide) (here)))))))))
theorem sl_15_0 : IsL (SF x0 x1 x2 1 1792) 0 (sl.v6273 (F := Ideal) c arg2 harg2 arg3 harg3 arg4 harg4 arg7 arg8 arg10 arg11 x0 x1 x2) :=
  load_eq (tile_off (kx_1_0 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide))
    (past (by decide) (past (by decide) (past (by decide) (past (by decide) (past (by decide) (past (by decide) (past (by decide) (here))))))))
theorem sl_15_1 : IsL (SF x0 x1 x2 1 1792) 256 (sl.v6282 (F := Ideal) c arg2 harg2 arg3 harg3 arg4 harg4 arg7 arg8 arg10 arg11 x0 x1 x2) :=
  load_eq (tile_off (kx_1_1 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide))
    (past (by decide) (past (by decide) (past (by decide) (past (by decide) (past (by decide) (past (by decide) (here)))))))
theorem sl_15_2 : IsL (SF x0 x1 x2 1 1792) 512 (sl.v6292 (F := Ideal) c arg2 harg2 arg3 harg3 arg4 harg4 arg7 arg8 arg10 arg11 x0 x1 x2) :=
  load_eq (tile_off (kx_1_2 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide))
    (past (by decide) (past (by decide) (past (by decide) (past (by decide) (past (by decide) (here))))))
theorem sl_15_3 : IsL (SF x0 x1 x2 1 1792) 768 (sl.v6302 (F := Ideal) c arg2 harg2 arg3 harg3 arg4 harg4 arg7 arg8 arg10 arg11 x0 x1 x2) :=
  load_eq (tile_off (kx_1_3 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide))
    (past (by decide) (past (by decide) (past (by decide) (past (by decide) (here)))))
theorem sl_15_4 : IsL (SF x0 x1 x2 1 1792) 1024 (sl.v6312 (F := Ideal) c arg2 harg2 arg3 harg3 arg4 harg4 arg7 arg8 arg10 arg11 x0 x1 x2) :=
  load_eq (tile_off (kx_1_4 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide))
    (past (by decide) (past (by decide) (past (by decide) (here))))
theorem sl_15_5 : IsL (SF x0 x1 x2 1 1792) 1280 (sl.v6322 (F := Ideal) c arg2 harg2 arg3 harg3 arg4 harg4 arg7 arg8 arg10 arg11 x0 x1 x2) :=
  load_eq (tile_off (kx_1_5 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide))
    (past (by decide) (past (by decide) (here)))
theorem sl_15_6 : IsL (SF x0 x1 x2 1 1792) 1536 (sl.v6332 (F := Ideal) c arg2 harg2 arg3 harg3 arg4 harg4 arg7 arg8 arg10 arg11 x0 x1 x2) :=
  load_eq (tile_off (kx_1_6 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide))
    (past (by decide) (here))
theorem sl_15_7 : IsL (SF x0 x1 x2 1 1792) 1792 (sl.v6342 (F := Ideal) c arg2 harg2 arg3 harg3 arg4 harg4 arg7 arg8 arg10 arg11 x0 x1 x2) :=
  load_eq (tile_diag (kx_1_7 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3))
    (here)
end Cert.Mla

end
-- ==== Proof.Maxes.lean ====
/- Each query's greatest score. -/
module

public import proofs.«01_k».proof.Proof.Rows

@[expose] public section

set_option maxRecDepth 65536

noncomputable section

namespace Cert.Mla

open Idealize.ShloMosaic Cert.Kernel2Ideal Cert.Kernel2Ideal.Gen Cert.Kernel2Ideal.Gen.kernelRun0_A

variable (c : Dev nD) (arg2 : Memref sig .tc .vmem S2048x256 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .bf16) (harg5 : arg5.IsWhole)
  (arg7 : Memref sig .tc .vmem S2x2048x128 .bf16) (arg8 : Memref sig .tc .vmem S2x128x2048 .bf16) (arg9 : Memref sig .tc .vmem S2x80x2048 .bf16)
  (arg10 : Memref sig .tc .vmem S4x2048x256 .f32) (arg11 : Memref sig .tc .vmem S256x256 .f32)
  (x0 : Vec Ideal S2048x256 .bf16) (x1 x2 x3 : Vec Ideal S2048x128 .bf16)
include c arg2 harg2 arg3 harg3 arg4 harg4 arg5 harg5 arg7 arg8 arg9 arg10 arg11 x0 x1 x2 x3

theorem m_0 : IsM (MF (SF x0 x1 x2 0 0) 256) (sl.v514 (F := Ideal) c arg2 harg2 arg3 harg3 arg4 harg4 arg7 arg8 arg11 x0 x1 x2) := by
  have t := max_last (max_first (tile_diag (kx_0_0 c arg2 harg2 arg3 harg3 arg4 harg4 arg5 harg5 arg7 arg8 arg9 arg10 arg11 x0 x1 x2 x3) (qt_0_0 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_1 : IsM (MF (SF x0 x1 x2 1 0) 256) (sl.v589 (F := Ideal) c arg2 harg2 arg3 harg3 arg4 harg4 arg7 arg8 arg11 x0 x1 x2) := by
  have t := max_last (max_first (tile_diag (kx_1_0 c arg2 harg2 arg3 harg3 arg4 harg4 arg5 harg5 arg7 arg8 arg9 arg10 arg11 x0 x1 x2 x3) (qt_1_0 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_2 : IsM (MF (SF x0 x1 x2 0 256) 512) (sl.v747 (F := Ideal) c arg2 harg2 arg3 harg3 arg4 harg4 arg7 arg8 arg11 x0 x1 x2) := by
  have t := max_last (max_next (max_first (tile_off (kx_0_0 c arg2 harg2 arg3 harg3 arg4 harg4 arg5 harg5 arg7 arg8 arg9 arg10 arg11 x0 x1 x2 x3) (qt_0_1 c arg2 harg2 arg3 harg3 arg4 harg4 arg5 harg5 arg7 arg8 arg9 arg10 arg11 x0 x1 x2 x3) (by decide)))
    (tile_diag (kx_0_1 c arg2 harg2 arg3 harg3 arg4 harg4 arg5 harg5 arg7 arg8 arg9 arg10 arg11 x0 x1 x2 x3) (qt_0_1 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_3 : IsM (MF (SF x0 x1 x2 1 256) 512) (sl.v905 (F := Ideal) c arg2 harg2 arg3 harg3 arg4 harg4 arg7 arg8 arg11 x0 x1 x2) := by
  have t := max_last (max_next (max_first (tile_off (kx_1_0 c arg2 harg2 arg3 harg3 arg4 harg4 arg5 harg5 arg7 arg8 arg9 arg10 arg11 x0 x1 x2 x3) (qt_1_1 c arg2 harg2 arg3 harg3 arg4 harg4 arg5 harg5 arg7 arg8 arg9 arg10 arg11 x0 x1 x2 x3) (by decide)))
    (tile_diag (kx_1_1 c arg2 harg2 arg3 harg3 arg4 harg4 arg5 harg5 arg7 arg8 arg9 arg10 arg11 x0 x1 x2 x3) (qt_1_1 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_4 : IsM (MF (SF x0 x1 x2 0 512) 768) (sl.v1143 (F := Ideal) c arg2 harg2 arg3 harg3 arg4 harg4 arg7 arg8 arg11 x0 x1 x2) := by
  have t := max_last (max_next (max_next (max_first (tile_off (kx_0_0 c arg2 harg2 arg3 harg3 arg4 harg4 arg5 harg5 arg7 arg8 arg9 arg10 arg11 x0 x1 x2 x3) (qt_0_2 c arg2 harg2 arg3 harg3 arg4 harg4 arg5 harg5 arg7 arg8 arg9 arg10 arg11 x0 x1 x2 x3) (by decide)))
    (tile_off (kx_0_1 c arg2 harg2 arg3 harg3 arg4 harg4 arg5 harg5 arg7 arg8 arg9 arg10 arg11 x0 x1 x2 x3) (qt_0_2 c arg2 harg2 arg3 harg3 arg4 harg4 arg5 harg5 arg7 arg8 arg9 arg10 arg11 x0 x1 x2 x3) (by decide)))
    (tile_diag (kx_0_2 c arg2 harg2 arg3 harg3 arg4 harg4 arg5 harg5 arg7 arg8 arg9 arg10 arg11 x0 x1 x2 x3) (qt_0_2 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_5 : IsM (MF (SF x0 x1 x2 1 512) 768) (sl.v1381 (F := Ideal) c arg2 harg2 arg3 harg3 arg4 harg4 arg7 arg8 arg11 x0 x1 x2) := by
  have t := max_last (max_next (max_next (max_first (tile_off (kx_1_0 c arg2 harg2 arg3 harg3 arg4 harg4 arg5 harg5 arg7 arg8 arg9 arg10 arg11 x0 x1 x2 x3) (qt_1_2 c arg2 harg2 arg3 harg3 arg4 harg4 arg5 harg5 arg7 arg8 arg9 arg10 arg11 x0 x1 x2 x3) (by decide)))
    (tile_off (kx_1_1 c arg2 harg2 arg3 harg3 arg4 harg4 arg5 harg5 arg7 arg8 arg9 arg10 arg11 x0 x1 x2 x3) (qt_1_2 c arg2 harg2 arg3 harg3 arg4 harg4 arg5 harg5 arg7 arg8 arg9 arg10 arg11 x0 x1 x2 x3) (by decide)))
    (tile_diag (kx_1_2 c arg2 harg2 arg3 harg3 arg4 harg4 arg5 harg5 arg7 arg8 arg9 arg10 arg11 x0 x1 x2 x3) (qt_1_2 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_6 : IsM (MF (SF x0 x1 x2 0 768) 1024) (sl.v1707 (F := Ideal) c arg2 harg2 arg3 harg3 arg4 harg4 arg7 arg8 arg11 x0 x1 x2) := by
  have t := max_last (max_next (max_next (max_next (max_first (tile_off (kx_0_0 c arg2 harg2 arg3 harg3 arg4 harg4 arg5 harg5 arg7 arg8 arg9 arg10 arg11 x0 x1 x2 x3) (qt_0_3 c arg2 harg2 arg3 harg3 arg4 harg4 arg5 harg5 arg7 arg8 arg9 arg10 arg11 x0 x1 x2 x3) (by decide)))
    (tile_off (kx_0_1 c arg2 harg2 arg3 harg3 arg4 harg4 arg5 harg5 arg7 arg8 arg9 arg10 arg11 x0 x1 x2 x3) (qt_0_3 c arg2 harg2 arg3 harg3 arg4 harg4 arg5 harg5 arg7 arg8 arg9 arg10 arg11 x0 x1 x2 x3) (by decide)))
    (tile_off (kx_0_2 c arg2 harg2 arg3 harg3 arg4 harg4 arg5 harg5 arg7 arg8 arg9 arg10 arg11 x0 x1 x2 x3) (qt_0_3 c arg2 harg2 arg3 harg3 arg4 harg4 arg5 harg5 arg7 arg8 arg9 arg10 arg11 x0 x1 x2 x3) (by decide)))
    (tile_diag (kx_0_3 c arg2 harg2 arg3 harg3 arg4 harg4 arg5 harg5 arg7 arg8 arg9 arg10 arg11 x0 x1 x2 x3) (qt_0_3 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_7 : IsM (MF (SF x0 x1 x2 1 768) 1024) (sl.v2025 (F := Ideal) c arg2 harg2 arg3 harg3 arg4 harg4 arg7 arg8 arg11 x0 x1 x2) := by
  have t := max_last (max_next (max_next (max_next (max_first (tile_off (kx_1_0 c arg2 harg2 arg3 harg3 arg4 harg4 arg5 harg5 arg7 arg8 arg9 arg10 arg11 x0 x1 x2 x3) (qt_1_3 c arg2 harg2 arg3 harg3 arg4 harg4 arg5 harg5 arg7 arg8 arg9 arg10 arg11 x0 x1 x2 x3) (by decide)))
    (tile_off (kx_1_1 c arg2 harg2 arg3 harg3 arg4 harg4 arg5 harg5 arg7 arg8 arg9 arg10 arg11 x0 x1 x2 x3) (qt_1_3 c arg2 harg2 arg3 harg3 arg4 harg4 arg5 harg5 arg7 arg8 arg9 arg10 arg11 x0 x1 x2 x3) (by decide)))
    (tile_off (kx_1_2 c arg2 harg2 arg3 harg3 arg4 harg4 arg5 harg5 arg7 arg8 arg9 arg10 arg11 x0 x1 x2 x3) (qt_1_3 c arg2 harg2 arg3 harg3 arg4 harg4 arg5 harg5 arg7 arg8 arg9 arg10 arg11 x0 x1 x2 x3) (by decide)))
    (tile_diag (kx_1_3 c arg2 harg2 arg3 harg3 arg4 harg4 arg5 harg5 arg7 arg8 arg9 arg10 arg11 x0 x1 x2 x3) (qt_1_3 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_8 : IsM (MF (SF x0 x1 x2 0 1024) 1280) (sl.v2423 (F := Ideal) c arg2 harg2 arg3 harg3 arg4 harg4 arg7 arg8 arg11 x0 x1 x2) := by
  have t := max_last (max_next (max_next (max_next (max_next (max_first (tile_off (kx_0_0 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (by decide)))
    (tile_off (kx_0_1 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (by decide)))
    (tile_off (kx_0_2 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (by decide)))
    (tile_off (kx_0_3 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (by decide)))
    (tile_diag (kx_0_4 c arg2 harg2 arg3 harg3 arg4 harg4 arg5 harg5 arg7 arg8 arg9 arg10 arg11 x0 x1 x2 x3) (qt_0_4 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_9 : IsM (MF (SF x0 x1 x2 1 1024) 1280) (sl.v2821 (F := Ideal) c arg2 harg2 arg3 harg3 arg4 harg4 arg7 arg8 arg11 x0 x1 x2) := by
  have t := max_last (max_next (max_next (max_next (max_next (max_first (tile_off (kx_1_0 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (by decide)))
    (tile_off (kx_1_1 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (by decide)))
    (tile_off (kx_1_2 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (by decide)))
    (tile_off (kx_1_3 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (by decide)))
    (tile_diag (kx_1_4 c arg2 harg2 arg3 harg3 arg4 harg4 arg5 harg5 arg7 arg8 arg9 arg10 arg11 x0 x1 x2 x3) (qt_1_4 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_10 : IsM (MF (SF x0 x1 x2 0 1280) 1536) (sl.v3307 (F := Ideal) c arg2 harg2 arg3 harg3 arg4 harg4 arg7 arg8 arg11 x0 x1 x2) := by
  have t := max_last (max_next (max_next (max_next (max_next (max_next (max_first (tile_off (kx_0_0 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide)))
    (tile_off (kx_0_1 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide)))
    (tile_off (kx_0_2 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide)))
    (tile_off (kx_0_3 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide)))
    (tile_off (kx_0_4 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (by decide)))
    (tile_diag (kx_0_5 c arg2 harg2 arg3 harg3 arg4 harg4 arg5 harg5 arg7 arg8 arg9 arg10 arg11 x0 x1 x2 x3) (qt_0_5 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_11 : IsM (MF (SF x0 x1 x2 1 1280) 1536) (sl.v3785 (F := Ideal) c arg2 harg2 arg3 harg3 arg4 harg4 arg7 arg8 arg11 x0 x1 x2) := by
  have t := max_last (max_next (max_next (max_next (max_next (max_next (max_first (tile_off (kx_1_0 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide)))
    (tile_off (kx_1_1 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide)))
    (tile_off (kx_1_2 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide)))
    (tile_off (kx_1_3 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide)))
    (tile_off (kx_1_4 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (by decide)))
    (tile_diag (kx_1_5 c arg2 harg2 arg3 harg3 arg4 harg4 arg5 harg5 arg7 arg8 arg9 arg10 arg11 x0 x1 x2 x3) (qt_1_5 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_12 : IsM (MF (SF x0 x1 x2 0 1536) 1792) (sl.v4343 (F := Ideal) c arg2 harg2 arg3 harg3 arg4 harg4 arg7 arg8 arg11 x0 x1 x2) := by
  have t := max_last (max_next (max_next (max_next (max_next (max_next (max_next (max_first (tile_off (kx_0_0 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide)))
    (tile_off (kx_0_1 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide)))
    (tile_off (kx_0_2 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide)))
    (tile_off (kx_0_3 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide)))
    (tile_off (kx_0_4 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide)))
    (tile_off (kx_0_5 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (by decide)))
    (tile_diag (kx_0_6 c arg2 harg2 arg3 harg3 arg4 harg4 arg5 harg5 arg7 arg8 arg9 arg10 arg11 x0 x1 x2 x3) (qt_0_6 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_13 : IsM (MF (SF x0 x1 x2 1 1536) 1792) (sl.v4901 (F := Ideal) c arg2 harg2 arg3 harg3 arg4 harg4 arg7 arg8 arg11 x0 x1 x2) := by
  have t := max_last (max_next (max_next (max_next (max_next (max_next (max_next (max_first (tile_off (kx_1_0 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide)))
    (tile_off (kx_1_1 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide)))
    (tile_off (kx_1_2 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide)))
    (tile_off (kx_1_3 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide)))
    (tile_off (kx_1_4 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide)))
    (tile_off (kx_1_5 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (by decide)))
    (tile_diag (kx_1_6 c arg2 harg2 arg3 harg3 arg4 harg4 arg5 harg5 arg7 arg8 arg9 arg10 arg11 x0 x1 x2 x3) (qt_1_6 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_14 : IsM (MF (SF x0 x1 x2 0 1792) 2048) (sl.v5547 (F := Ideal) c arg2 harg2 arg3 harg3 arg4 harg4 arg7 arg8 arg11 x0 x1 x2) := by
  have t := max_last (max_next (max_next (max_next (max_next (max_next (max_next (max_next (max_first (tile_off (kx_0_0 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide)))
    (tile_off (kx_0_1 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide)))
    (tile_off (kx_0_2 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide)))
    (tile_off (kx_0_3 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide)))
    (tile_off (kx_0_4 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide)))
    (tile_off (kx_0_5 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide)))
    (tile_off (kx_0_6 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (by decide)))
    (tile_diag (kx_0_7 c arg2 harg2 arg3 harg3 arg4 harg4 arg5 harg5 arg7 arg8 arg9 arg10 arg11 x0 x1 x2 x3) (qt_0_7 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
theorem m_15 : IsM (MF (SF x0 x1 x2 1 1792) 2048) (sl.r_24 (F := Ideal) c arg2 harg2 arg3 harg3 arg4 harg4 arg7 arg8 arg11 x0 x1 x2) := by
  have t := max_last (max_next (max_next (max_next (max_next (max_next (max_next (max_next (max_first (tile_off (kx_1_0 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide)))
    (tile_off (kx_1_1 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide)))
    (tile_off (kx_1_2 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide)))
    (tile_off (kx_1_3 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide)))
    (tile_off (kx_1_4 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide)))
    (tile_off (kx_1_5 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide)))
    (tile_off (kx_1_6 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (by decide)))
    (tile_diag (kx_1_7 c arg2 harg2 arg3 harg3 arg4 harg4 arg5 harg5 arg7 arg8 arg9 arg10 arg11 x0 x1 x2 x3) (qt_1_7 c arg2 harg2 arg3 harg3 arg4 harg4 arg5 harg5 arg7 arg8 arg9 arg10 arg11 x0 x1 x2 x3) (bias_read c arg2 harg2 arg3 harg3 arg4 harg4 arg5 harg5 arg7 arg8 arg9 arg10 arg11 x0 x1 x2 x3)))
  exact t
end Cert.Mla

end
-- ==== Proof.Heads.lean ====
/- Each head's quotients, and the blocks of results. -/
module

public import proofs.«01_k».proof.Proof.Scores
public import proofs.«01_k».proof.Proof.Maxes

@[expose] public section

set_option maxRecDepth 65536

noncomputable section

namespace Cert.Mla

open Idealize.ShloMosaic Cert.Kernel2Ideal Cert.Kernel2Ideal.Gen Cert.Kernel2Ideal.Gen.kernelRun0_A

variable (c : Dev nD) (arg2 : Memref sig .tc .vmem S2048x256 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .bf16) (harg5 : arg5.IsWhole)
  (arg7 : Memref sig .tc .vmem S2x2048x128 .bf16) (arg8 : Memref sig .tc .vmem S2x128x2048 .bf16) (arg9 : Memref sig .tc .vmem S2x80x2048 .bf16)
  (arg10 : Memref sig .tc .vmem S4x2048x256 .f32) (arg11 : Memref sig .tc .vmem S256x256 .f32)
  (x0 : Vec Ideal S2048x256 .bf16) (x1 x2 x3 : Vec Ideal S2048x128 .bf16)
include c arg2 harg2 arg3 harg3 arg4 harg4 arg5 harg5 arg7 arg8 arg9 arg10 arg11 x0 x1 x2 x3

theorem o_0 : IsO x0 x1 x2 x3 0 0 256 (sl.v745 (F := Ideal) c arg2 harg2 arg3 harg3 arg4 harg4 arg5 harg5 arg7 arg8 arg9 arg10 arg11 x0 x1 x2 x3) := by
  have t := quot_eq (acc_first (m_0 c arg2 harg2 arg3 harg3 arg4 harg4 arg5 harg5 arg7 arg8 arg9 arg10 arg11 x0 x1 x2 x3) (vt_0_0 c arg2 harg2 arg3 harg3 arg4 harg4 arg5 harg5 arg7 arg8 arg9 arg10 arg11 x0 x1 x2 x3) (sl_0_0 c arg2 harg2 arg3 harg3 arg4 harg4 arg5 harg5 arg7 arg8 arg9 arg10 arg11 x0 x1 x2 x3))
  exact t
theorem o_1 : IsO x0 x1 x2 x3 1 0 256 (sl.v903 (F := Ideal) c arg2 harg2 arg3 harg3 arg4 harg4 arg5 harg5 arg7 arg8 arg9 arg10 arg11 x0 x1 x2 x3) := by
  have t := quot_eq (acc_first (m_1 c arg2 harg2 arg3 harg3 arg4 harg4 arg5 harg5 arg7 arg8 arg9 arg10 arg11 x0 x1 x2 x3) (vt_1_0 c arg2 harg2 arg3 harg3 arg4 harg4 arg5 harg5 arg7 arg8 arg9 arg10 arg11 x0 x1 x2 x3) (sl_1_0 c arg2 harg2 arg3 harg3 arg4 harg4 arg5 harg5 arg7 arg8 arg9 arg10 arg11 x0 x1 x2 x3))
  exact t
theorem o_2 : IsO x0 x1 x2 x3 0 256 512 (sl.v1147 (F := Ideal) c arg2 harg2 arg3 harg3 arg4 harg4 arg5 harg5 arg7 arg8 arg9 arg10 arg11 x0 x1 x2 x3) := by
  have t := quot_eq (acc_next (acc_first (m_2 c arg2 harg2 arg3 harg3 arg4 harg4 arg5 harg5 arg7 arg8 arg9 arg10 arg11 x0 x1 x2 x3) (vt_0_0 c arg2 harg2 arg3 harg3 arg4 harg4 arg5 harg5 arg7 arg8 arg9 arg10 arg11 x0 x1 x2 x3) (sl_2_0 c arg2 harg2 arg3 harg3 arg4 harg4 arg5 harg5 arg7 arg8 arg9 arg10 arg11 x0 x1 x2 x3)) (m_2 c arg2 harg2 arg3 harg3 arg4 harg4 arg5 harg5 arg7 arg8 arg9 arg10 arg11 x0 x1 x2 x3)
    (vt_0_1 c arg2 harg2 arg3 harg3 arg4 harg4 arg5 harg5 arg7 arg8 arg9 arg10 arg11 x0 x1 x2 x3) (sl_2_1 c arg2 harg2 arg3 harg3 arg4 harg4 arg5 harg5 arg7 arg8 arg9 arg10 arg11 x0 x1 x2 x3))
  exact t
theorem o_3 : IsO x0 x1 x2 x3 1 256 512 (sl.v1385 (F := Ideal) c arg2 harg2 arg3 harg3 arg4 harg4 arg5 harg5 arg7 arg8 arg9 arg10 arg11 x0 x1 x2 x3) := by
  have t := quot_eq (acc_next (acc_first (m_3 c arg2 harg2 arg3 harg3 arg4 harg4 arg5 harg5 arg7 arg8 arg9 arg10 arg11 x0 x1 x2 x3) (vt_1_0 c arg2 harg2 arg3 harg3 arg4 harg4 arg5 harg5 arg7 arg8 arg9 arg10 arg11 x0 x1 x2 x3) (sl_3_0 c arg2 harg2 arg3 harg3 arg4 harg4 arg5 harg5 arg7 arg8 arg9 arg10 arg11 x0 x1 x2 x3)) (m_3 c arg2 harg2 arg3 harg3 arg4 harg4 arg5 harg5 arg7 arg8 arg9 arg10 arg11 x0 x1 x2 x3)
    (vt_1_1 c arg2 harg2 arg3 harg3 arg4 harg4 arg5 harg5 arg7 arg8 arg9 arg10 arg11 x0 x1 x2 x3) (sl_3_1 c arg2 harg2 arg3 harg3 arg4 harg4 arg5 harg5 arg7 arg8 arg9 arg10 arg11 x0 x1 x2 x3))
  exact t
theorem o_4 : IsO x0 x1 x2 x3 0 512 768 (sl.v1705 (F := Ideal) c arg2 harg2 arg3 harg3 arg4 harg4 arg5 harg5 arg7 arg8 arg9 arg10 arg11 x0 x1 x2 x3) := by
  have t := quot_eq (acc_next (acc_next (acc_first (m_4 c arg2 harg2 arg3 harg3 arg4 harg4 arg5 harg5 arg7 arg8 arg9 arg10 arg11 x0 x1 x2 x3) (vt_0_0 c arg2 harg2 arg3 harg3 arg4 harg4 arg5 harg5 arg7 arg8 arg9 arg10 arg11 x0 x1 x2 x3) (sl_4_0 c arg2 harg2 arg3 harg3 arg4 harg4 arg5 harg5 arg7 arg8 arg9 arg10 arg11 x0 x1 x2 x3)) (m_4 c arg2 harg2 arg3 harg3 arg4 harg4 arg5 harg5 arg7 arg8 arg9 arg10 arg11 x0 x1 x2 x3)
    (vt_0_1 c arg2 harg2 arg3 harg3 arg4 harg4 arg5 harg5 arg7 arg8 arg9 arg10 arg11 x0 x1 x2 x3) (sl_4_1 c arg2 harg2 arg3 harg3 arg4 harg4 arg5 harg5 arg7 arg8 arg9 arg10 arg11 x0 x1 x2 x3)) (m_4 c arg2 harg2 arg3 harg3 arg4 harg4 arg5 harg5 arg7 arg8 arg9 arg10 arg11 x0 x1 x2 x3)
    (vt_0_2 c arg2 harg2 arg3 harg3 arg4 harg4 arg5 harg5 arg7 arg8 arg9 arg10 arg11 x0 x1 x2 x3) (sl_4_2 c arg2 harg2 arg3 harg3 arg4 harg4 arg5 harg5 arg7 arg8 arg9 arg10 arg11 x0 x1 x2 x3))
  exact t
theorem o_5 : IsO x0 x1 x2 x3 1 512 768 (sl.v2023 (F := Ideal) c arg2 harg2 arg3 harg3 arg4 harg4 arg5 harg5 arg7 arg8 arg9 arg10 arg11 x0 x1 x2 x3) := by
  have t := quot_eq (acc_next (acc_next (acc_first (m_5 c arg2 harg2 arg3 harg3 arg4 harg4 arg5 harg5 arg7 arg8 arg9 arg10 arg11 x0 x1 x2 x3) (vt_1_0 c arg2 harg2 arg3 harg3 arg4 harg4 arg5 harg5 arg7 arg8 arg9 arg10 arg11 x0 x1 x2 x3) (sl_5_0 c arg2 harg2 arg3 harg3 arg4 harg4 arg5 harg5 arg7 arg8 arg9 arg10 arg11 x0 x1 x2 x3)) (m_5 c arg2 harg2 arg3 harg3 arg4 harg4 arg5 harg5 arg7 arg8 arg9 arg10 arg11 x0 x1 x2 x3)
    (vt_1_1 c arg2 harg2 arg3 harg3 arg4 harg4 arg5 harg5 arg7 arg8 arg9 arg10 arg11 x0 x1 x2 x3) (sl_5_1 c arg2 harg2 arg3 harg3 arg4 harg4 arg5 harg5 arg7 arg8 arg9 arg10 arg11 x0 x1 x2 x3)) (m_5 c arg2 harg2 arg3 harg3 arg4 harg4 arg5 harg5 arg7 arg8 arg9 arg10 arg11 x0 x1 x2 x3)
    (vt_1_2 c arg2 harg2 arg3 harg3 arg4 harg4 arg5 harg5 arg7 arg8 arg9 arg10 arg11 x0 x1 x2 x3) (sl_5_2 c arg2 harg2 arg3 harg3 arg4 harg4 arg5 harg5 arg7 arg8 arg9 arg10 arg11 x0 x1 x2 x3))
  exact t
theorem o_6 : IsO x0 x1 x2 x3 0 768 1024 (sl.v2427 (F := Ideal) c arg2 harg2 arg3 harg3 arg4 harg4 arg5 harg5 arg7 arg8 arg9 arg10 arg11 x0 x1 x2 x3) := by
  have t := quot_eq (acc_next (acc_next (acc_next (acc_first (m_6 c arg2 harg2 arg3 harg3 arg4 harg4 arg5 harg5 arg7 arg8 arg9 arg10 arg11 x0 x1 x2 x3) (vt_0_0 c arg2 harg2 arg3 harg3 arg4 harg4 arg5 harg5 arg7 arg8 arg9 arg10 arg11 x0 x1 x2 x3) (sl_6_0 c arg2 harg2 arg3 harg3 arg4 harg4 arg5 harg5 arg7 arg8 arg9 arg10 arg11 x0 x1 x2 x3)) (m_6 c arg2 harg2 arg3 harg3 arg4 harg4 arg5 harg5 arg7 arg8 arg9 arg10 arg11 x0 x1 x2 x3)
    (vt_0_1 c arg2 harg2 arg3 harg3 arg4 harg4 arg5 harg5 arg7 arg8 arg9 arg10 arg11 x0 x1 x2 x3) (sl_6_1 c arg2 harg2 arg3 harg3 arg4 harg4 arg5 harg5 arg7 arg8 arg9 arg10 arg11 x0 x1 x2 x3)) (m_6 c arg2 harg2 arg3 harg3 arg4 harg4 arg5 harg5 arg7 arg8 arg9 arg10 arg11 x0 x1 x2 x3)
    (vt_0_2 c arg2 harg2 arg3 harg3 arg4 harg4 arg5 harg5 arg7 arg8 arg9 arg10 arg11 x0 x1 x2 x3) (sl_6_2 c arg2 harg2 arg3 harg3 arg4 harg4 arg5 harg5 arg7 arg8 arg9 arg10 arg11 x0 x1 x2 x3)) (m_6 c arg2 harg2 arg3 harg3 arg4 harg4 arg5 harg5 arg7 arg8 arg9 arg10 arg11 x0 x1 x2 x3)
    (vt_0_3 c arg2 harg2 arg3 harg3 arg4 harg4 arg5 harg5 arg7 arg8 arg9 arg10 arg11 x0 x1 x2 x3) (sl_6_3 c arg2 harg2 arg3 harg3 arg4 harg4 arg5 harg5 arg7 arg8 arg9 arg10 arg11 x0 x1 x2 x3))
  exact t
theorem o_7 : IsO x0 x1 x2 x3 1 768 1024 (sl.v2825 (F := Ideal) c arg2 harg2 arg3 harg3 arg4 harg4 arg5 harg5 arg7 arg8 arg9 arg10 arg11 x0 x1 x2 x3) := by
  have t := quot_eq (acc_next (acc_next (acc_next (acc_first (m_7 c arg2 harg2 arg3 harg3 arg4 harg4 arg5 harg5 arg7 arg8 arg9 arg10 arg11 x0 x1 x2 x3) (vt_1_0 c arg2 harg2 arg3 harg3 arg4 harg4 arg5 harg5 arg7 arg8 arg9 arg10 arg11 x0 x1 x2 x3) (sl_7_0 c arg2 harg2 arg3 harg3 arg4 harg4 arg5 harg5 arg7 arg8 arg9 arg10 arg11 x0 x1 x2 x3)) (m_7 c arg2 harg2 arg3 harg3 arg4 harg4 arg5 harg5 arg7 arg8 arg9 arg10 arg11 x0 x1 x2 x3)
    (vt_1_1 c arg2 harg2 arg3 harg3 arg4 harg4 arg5 harg5 arg7 arg8 arg9 arg10 arg11 x0 x1 x2 x3) (sl_7_1 c arg2 harg2 arg3 harg3 arg4 harg4 arg5 harg5 arg7 arg8 arg9 arg10 arg11 x0 x1 x2 x3)) (m_7 c arg2 harg2 arg3 harg3 arg4 harg4 arg5 harg5 arg7 arg8 arg9 arg10 arg11 x0 x1 x2 x3)
    (vt_1_2 c arg2 harg2 arg3 harg3 arg4 harg4 arg5 harg5 arg7 arg8 arg9 arg10 arg11 x0 x1 x2 x3) (sl_7_2 c arg2 harg2 arg3 harg3 arg4 harg4 arg5 harg5 arg7 arg8 arg9 arg10 arg11 x0 x1 x2 x3)) (m_7 c arg2 harg2 arg3 harg3 arg4 harg4 arg5 harg5 arg7 arg8 arg9 arg10 arg11 x0 x1 x2 x3)
    (vt_1_3 c arg2 harg2 arg3 harg3 arg4 harg4 arg5 harg5 arg7 arg8 arg9 arg10 arg11 x0 x1 x2 x3) (sl_7_3 c arg2 harg2 arg3 harg3 arg4 harg4 arg5 harg5 arg7 arg8 arg9 arg10 arg11 x0 x1 x2 x3))
  exact t
theorem o_8 : IsO x0 x1 x2 x3 0 1024 1280 (sl.v3305 (F := Ideal) c arg2 harg2 arg3 harg3 arg4 harg4 arg5 harg5 arg7 arg8 arg9 arg10 arg11 x0 x1 x2 x3) := by
  have t := quot_eq (acc_next (acc_next (acc_next (acc_next (acc_first (m_8 c arg2 harg2 arg3 harg3 arg4 harg4 arg5 harg5 arg7 arg8 arg9 arg10 arg11 x0 x1 x2 x3) (vt_0_0 c arg2 harg2 arg3 harg3 arg4 harg4 arg5 harg5 arg7 arg8 arg9 arg10 arg11 x0 x1 x2 x3) (sl_8_0 c arg2 harg2 arg3 harg3 arg4 harg4 arg5 harg5 arg7 arg8 arg9 arg10 arg11 x0 x1 x2 x3)) (m_8 c arg2 harg2 arg3 harg3 arg4 harg4 arg5 harg5 arg7 arg8 arg9 arg10 arg11 x0 x1 x2 x3)
    (vt_0_1 c arg2 harg2 arg3 harg3 arg4 harg4 arg5 harg5 arg7 arg8 arg9 arg10 arg11 x0 x1 x2 x3) (sl_8_1 c arg2 harg2 arg3 harg3 arg4 harg4 arg5 harg5 arg7 arg8 arg9 arg10 arg11 x0 x1 x2 x3)) (m_8 c arg2 harg2 arg3 harg3 arg4 harg4 arg5 harg5 arg7 arg8 arg9 arg10 arg11 x0 x1 x2 x3)
    (vt_0_2 c arg2 harg2 arg3 harg3 arg4 harg4 arg5 harg5 arg7 arg8 arg9 arg10 arg11 x0 x1 x2 x3) (sl_8_2 c arg2 harg2 arg3 harg3 arg4 harg4 arg5 harg5 arg7 arg8 arg9 arg10 arg11 x0 x1 x2 x3)) (m_8 c arg2 harg2 arg3 harg3 arg4 harg4 arg5 harg5 arg7 arg8 arg9 arg10 arg11 x0 x1 x2 x3)
    (vt_0_3 c arg2 harg2 arg3 harg3 arg4 harg4 arg5 harg5 arg7 arg8 arg9 arg10 arg11 x0 x1 x2 x3) (sl_8_3 c arg2 harg2 arg3 harg3 arg4 harg4 arg5 harg5 arg7 arg8 arg9 arg10 arg11 x0 x1 x2 x3)) (m_8 c arg2 harg2 arg3 harg3 arg4 harg4 arg5 harg5 arg7 arg8 arg9 arg10 arg11 x0 x1 x2 x3)
    (vt_0_4 c arg2 harg2 arg3 harg3 arg4 harg4 arg5 harg5 arg7 arg8 arg9 arg10 arg11 x0 x1 x2 x3) (sl_8_4 c arg2 harg2 arg3 harg3 arg4 harg4 arg5 harg5 arg7 arg8 arg9 arg10 arg11 x0 x1 x2 x3))
  exact t
theorem o_9 : IsO x0 x1 x2 x3 1 1024 1280 (sl.v3783 (F := Ideal) c arg2 harg2 arg3 harg3 arg4 harg4 arg5 harg5 arg7 arg8 arg9 arg10 arg11 x0 x1 x2 x3) := by
  have t := quot_eq (acc_next (acc_next (acc_next (acc_next (acc_first (m_9 c arg2 harg2 arg3 harg3 arg4 harg4 arg5 harg5 arg7 arg8 arg9 arg10 arg11 x0 x1 x2 x3) (vt_1_0 c arg2 harg2 arg3 harg3 arg4 harg4 arg5 harg5 arg7 arg8 arg9 arg10 arg11 x0 x1 x2 x3) (sl_9_0 c arg2 harg2 arg3 harg3 arg4 harg4 arg5 harg5 arg7 arg8 arg9 arg10 arg11 x0 x1 x2 x3)) (m_9 c arg2 harg2 arg3 harg3 arg4 harg4 arg5 harg5 arg7 arg8 arg9 arg10 arg11 x0 x1 x2 x3)
    (vt_1_1 c arg2 harg2 arg3 harg3 arg4 harg4 arg5 harg5 arg7 arg8 arg9 arg10 arg11 x0 x1 x2 x3) (sl_9_1 c arg2 harg2 arg3 harg3 arg4 harg4 arg5 harg5 arg7 arg8 arg9 arg10 arg11 x0 x1 x2 x3)) (m_9 c arg2 harg2 arg3 harg3 arg4 harg4 arg5 harg5 arg7 arg8 arg9 arg10 arg11 x0 x1 x2 x3)
    (vt_1_2 c arg2 harg2 arg3 harg3 arg4 harg4 arg5 harg5 arg7 arg8 arg9 arg10 arg11 x0 x1 x2 x3) (sl_9_2 c arg2 harg2 arg3 harg3 arg4 harg4 arg5 harg5 arg7 arg8 arg9 arg10 arg11 x0 x1 x2 x3)) (m_9 c arg2 harg2 arg3 harg3 arg4 harg4 arg5 harg5 arg7 arg8 arg9 arg10 arg11 x0 x1 x2 x3)
    (vt_1_3 c arg2 harg2 arg3 harg3 arg4 harg4 arg5 harg5 arg7 arg8 arg9 arg10 arg11 x0 x1 x2 x3) (sl_9_3 c arg2 harg2 arg3 harg3 arg4 harg4 arg5 harg5 arg7 arg8 arg9 arg10 arg11 x0 x1 x2 x3)) (m_9 c arg2 harg2 arg3 harg3 arg4 harg4 arg5 harg5 arg7 arg8 arg9 arg10 arg11 x0 x1 x2 x3)
    (vt_1_4 c arg2 harg2 arg3 harg3 arg4 harg4 arg5 harg5 arg7 arg8 arg9 arg10 arg11 x0 x1 x2 x3) (sl_9_4 c arg2 harg2 arg3 harg3 arg4 harg4 arg5 harg5 arg7 arg8 arg9 arg10 arg11 x0 x1 x2 x3))
  exact t
theorem o_10 : IsO x0 x1 x2 x3 0 1280 1536 (sl.v4347 (F := Ideal) c arg2 harg2 arg3 harg3 arg4 harg4 arg5 harg5 arg7 arg8 arg9 arg10 arg11 x0 x1 x2 x3) := by
  have t := quot_eq (acc_next (acc_next (acc_next (acc_next (acc_next (acc_first (m_10 c arg2 harg2 arg3 harg3 arg4 harg4 arg5 harg5 arg7 arg8 arg9 arg10 arg11 x0 x1 x2 x3) (vt_0_0 c arg2 harg2 arg3 harg3 arg4 harg4 arg5 harg5 arg7 arg8 arg9 arg10 arg11 x0 x1 x2 x3) (sl_10_0 c arg2 harg2 arg3 harg3 arg4 harg4 arg5 harg5 arg7 arg8 arg9 arg10 arg11 x0 x1 x2 x3)) (m_10 c arg2 harg2 arg3 harg3 arg4 harg4 arg5 harg5 arg7 arg8 arg9 arg10 arg11 x0 x1 x2 x3)
    (vt_0_1 c arg2 harg2 arg3 harg3 arg4 harg4 arg5 harg5 arg7 arg8 arg9 arg10 arg11 x0 x1 x2 x3) (sl_10_1 c arg2 harg2 arg3 harg3 arg4 harg4 arg5 harg5 arg7 arg8 arg9 arg10 arg11 x0 x1 x2 x3)) (m_10 c arg2 harg2 arg3 harg3 arg4 harg4 arg5 harg5 arg7 arg8 arg9 arg10 arg11 x0 x1 x2 x3)
    (vt_0_2 c arg2 harg2 arg3 harg3 arg4 harg4 arg5 harg5 arg7 arg8 arg9 arg10 arg11 x0 x1 x2 x3) (sl_10_2 c arg2 harg2 arg3 harg3 arg4 harg4 arg5 harg5 arg7 arg8 arg9 arg10 arg11 x0 x1 x2 x3)) (m_10 c arg2 harg2 arg3 harg3 arg4 harg4 arg5 harg5 arg7 arg8 arg9 arg10 arg11 x0 x1 x2 x3)
    (vt_0_3 c arg2 harg2 arg3 harg3 arg4 harg4 arg5 harg5 arg7 arg8 arg9 arg10 arg11 x0 x1 x2 x3) (sl_10_3 c arg2 harg2 arg3 harg3 arg4 harg4 arg5 harg5 arg7 arg8 arg9 arg10 arg11 x0 x1 x2 x3)) (m_10 c arg2 harg2 arg3 harg3 arg4 harg4 arg5 harg5 arg7 arg8 arg9 arg10 arg11 x0 x1 x2 x3)
    (vt_0_4 c arg2 harg2 arg3 harg3 arg4 harg4 arg5 harg5 arg7 arg8 arg9 arg10 arg11 x0 x1 x2 x3) (sl_10_4 c arg2 harg2 arg3 harg3 arg4 harg4 arg5 harg5 arg7 arg8 arg9 arg10 arg11 x0 x1 x2 x3)) (m_10 c arg2 harg2 arg3 harg3 arg4 harg4 arg5 harg5 arg7 arg8 arg9 arg10 arg11 x0 x1 x2 x3)
    (vt_0_5 c arg2 harg2 arg3 harg3 arg4 harg4 arg5 harg5 arg7 arg8 arg9 arg10 arg11 x0 x1 x2 x3) (sl_10_5 c arg2 harg2 arg3 harg3 arg4 harg4 arg5 harg5 arg7 arg8 arg9 arg10 arg11 x0 x1 x2 x3))
  exact t
theorem o_11 : IsO x0 x1 x2 x3 1 1280 1536 (sl.v4905 (F := Ideal) c arg2 harg2 arg3 harg3 arg4 harg4 arg5 harg5 arg7 arg8 arg9 arg10 arg11 x0 x1 x2 x3) := by
  have t := quot_eq (acc_next (acc_next (acc_next (acc_next (acc_next (acc_first (m_11 c arg2 harg2 arg3 harg3 arg4 harg4 arg5 harg5 arg7 arg8 arg9 arg10 arg11 x0 x1 x2 x3) (vt_1_0 c arg2 harg2 arg3 harg3 arg4 harg4 arg5 harg5 arg7 arg8 arg9 arg10 arg11 x0 x1 x2 x3) (sl_11_0 c arg2 harg2 arg3 harg3 arg4 harg4 arg5 harg5 arg7 arg8 arg9 arg10 arg11 x0 x1 x2 x3)) (m_11 c arg2 harg2 arg3 harg3 arg4 harg4 arg5 harg5 arg7 arg8 arg9 arg10 arg11 x0 x1 x2 x3)
    (vt_1_1 c arg2 harg2 arg3 harg3 arg4 harg4 arg5 harg5 arg7 arg8 arg9 arg10 arg11 x0 x1 x2 x3) (sl_11_1 c arg2 harg2 arg3 harg3 arg4 harg4 arg5 harg5 arg7 arg8 arg9 arg10 arg11 x0 x1 x2 x3)) (m_11 c arg2 harg2 arg3 harg3 arg4 harg4 arg5 harg5 arg7 arg8 arg9 arg10 arg11 x0 x1 x2 x3)
    (vt_1_2 c arg2 harg2 arg3 harg3 arg4 harg4 arg5 harg5 arg7 arg8 arg9 arg10 arg11 x0 x1 x2 x3) (sl_11_2 c arg2 harg2 arg3 harg3 arg4 harg4 arg5 harg5 arg7 arg8 arg9 arg10 arg11 x0 x1 x2 x3)) (m_11 c arg2 harg2 arg3 harg3 arg4 harg4 arg5 harg5 arg7 arg8 arg9 arg10 arg11 x0 x1 x2 x3)
    (vt_1_3 c arg2 harg2 arg3 harg3 arg4 harg4 arg5 harg5 arg7 arg8 arg9 arg10 arg11 x0 x1 x2 x3) (sl_11_3 c arg2 harg2 arg3 harg3 arg4 harg4 arg5 harg5 arg7 arg8 arg9 arg10 arg11 x0 x1 x2 x3)) (m_11 c arg2 harg2 arg3 harg3 arg4 harg4 arg5 harg5 arg7 arg8 arg9 arg10 arg11 x0 x1 x2 x3)
    (vt_1_4 c arg2 harg2 arg3 harg3 arg4 harg4 arg5 harg5 arg7 arg8 arg9 arg10 arg11 x0 x1 x2 x3) (sl_11_4 c arg2 harg2 arg3 harg3 arg4 harg4 arg5 harg5 arg7 arg8 arg9 arg10 arg11 x0 x1 x2 x3)) (m_11 c arg2 harg2 arg3 harg3 arg4 harg4 arg5 harg5 arg7 arg8 arg9 arg10 arg11 x0 x1 x2 x3)
    (vt_1_5 c arg2 harg2 arg3 harg3 arg4 harg4 arg5 harg5 arg7 arg8 arg9 arg10 arg11 x0 x1 x2 x3) (sl_11_5 c arg2 harg2 arg3 harg3 arg4 harg4 arg5 harg5 arg7 arg8 arg9 arg10 arg11 x0 x1 x2 x3))
  exact t
theorem o_12 : IsO x0 x1 x2 x3 0 1536 1792 (sl.v5545 (F := Ideal) c arg2 harg2 arg3 harg3 arg4 harg4 arg5 harg5 arg7 arg8 arg9 arg10 arg11 x0 x1 x2 x3) := by
  have t := quot_eq (acc_next (acc_next (acc_next (acc_next (acc_next (acc_next (acc_first (m_12 c arg2 harg2 arg3 harg3 arg4 harg4 arg5 harg5 arg7 arg8 arg9 arg10 arg11 x0 x1 x2 x3) (vt_0_0 c arg2 harg2 arg3 harg3 arg4 harg4 arg5 harg5 arg7 arg8 arg9 arg10 arg11 x0 x1 x2 x3) (sl_12_0 c arg2 harg2 arg3 harg3 arg4 harg4 arg5 harg5 arg7 arg8 arg9 arg10 arg11 x0 x1 x2 x3)) (m_12 c arg2 harg2 arg3 harg3 arg4 harg4 arg5 harg5 arg7 arg8 arg9 arg10 arg11 x0 x1 x2 x3)
    (vt_0_1 c arg2 harg2 arg3 harg3 arg4 harg4 arg5 harg5 arg7 arg8 arg9 arg10 arg11 x0 x1 x2 x3) (sl_12_1 c arg2 harg2 arg3 harg3 arg4 harg4 arg5 harg5 arg7 arg8 arg9 arg10 arg11 x0 x1 x2 x3)) (m_12 c arg2 harg2 arg3 harg3 arg4 harg4 arg5 harg5 arg7 arg8 arg9 arg10 arg11 x0 x1 x2 x3)
    (vt_0_2 c arg2 harg2 arg3 harg3 arg4 harg4 arg5 harg5 arg7 arg8 arg9 arg10 arg11 x0 x1 x2 x3) (sl_12_2 c arg2 harg2 arg3 harg3 arg4 harg4 arg5 harg5 arg7 arg8 arg9 arg10 arg11 x0 x1 x2 x3)) (m_12 c arg2 harg2 arg3 harg3 arg4 harg4 arg5 harg5 arg7 arg8 arg9 arg10 arg11 x0 x1 x2 x3)
    (vt_0_3 c arg2 harg2 arg3 harg3 arg4 harg4 arg5 harg5 arg7 arg8 arg9 arg10 arg11 x0 x1 x2 x3) (sl_12_3 c arg2 harg2 arg3 harg3 arg4 harg4 arg5 harg5 arg7 arg8 arg9 arg10 arg11 x0 x1 x2 x3)) (m_12 c arg2 harg2 arg3 harg3 arg4 harg4 arg5 harg5 arg7 arg8 arg9 arg10 arg11 x0 x1 x2 x3)
    (vt_0_4 c arg2 harg2 arg3 harg3 arg4 harg4 arg5 harg5 arg7 arg8 arg9 arg10 arg11 x0 x1 x2 x3) (sl_12_4 c arg2 harg2 arg3 harg3 arg4 harg4 arg5 harg5 arg7 arg8 arg9 arg10 arg11 x0 x1 x2 x3)) (m_12 c arg2 harg2 arg3 harg3 arg4 harg4 arg5 harg5 arg7 arg8 arg9 arg10 arg11 x0 x1 x2 x3)
    (vt_0_5 c arg2 harg2 arg3 harg3 arg4 harg4 arg5 harg5 arg7 arg8 arg9 arg10 arg11 x0 x1 x2 x3) (sl_12_5 c arg2 harg2 arg3 harg3 arg4 harg4 arg5 harg5 arg7 arg8 arg9 arg10 arg11 x0 x1 x2 x3)) (m_12 c arg2 harg2 arg3 harg3 arg4 harg4 arg5 harg5 arg7 arg8 arg9 arg10 arg11 x0 x1 x2 x3)
    (vt_0_6 c arg2 harg2 arg3 harg3 arg4 harg4 arg5 harg5 arg7 arg8 arg9 arg10 arg11 x0 x1 x2 x3) (sl_12_6 c arg2 harg2 arg3 harg3 arg4 harg4 arg5 harg5 arg7 arg8 arg9 arg10 arg11 x0 x1 x2 x3))
  exact t
theorem blk_0 (x : S256x128.Idx) : (sl.v908 (F := Ideal) c arg2 harg2 arg3 harg3 arg4 harg4 arg5 harg5 arg7 arg8 arg9 arg10 arg11 x0 x1 x2 x3) x = OF x0 x1 x2 x3 ((x 1).val / 64) (0 + (x 0).val) 256 ((x 1).val % 64) := by
  have h0 : IsO x0 x1 x2 x3 0 0 256 _ := o_0 c arg2 harg2 arg3 harg3 arg4 harg4 arg5 harg5 arg7 arg8 arg9 arg10 arg11 x0 x1 x2 x3
  have h1 : IsO x0 x1 x2 x3 1 0 256 _ := o_1 c arg2 harg2 arg3 harg3 arg4 harg4 arg5 harg5 arg7 arg8 arg9 arg10 arg11 x0 x1 x2 x3
  exact out_eq (i := 0) (by decide) h0 h1 x
theorem blk_1 (x : S256x128.Idx) : (sl.v1388 (F := Ideal) c arg2 harg2 arg3 harg3 arg4 harg4 arg5 harg5 arg7 arg8 arg9 arg10 arg11 x0 x1 x2 x3) x = OF x0 x1 x2 x3 ((x 1).val / 64) (256 + (x 0).val) 512 ((x 1).val % 64) := by
  have h0 : IsO x0 x1 x2 x3 0 256 512 _ := o_2 c arg2 harg2 arg3 harg3 arg4 harg4 arg5 harg5 arg7 arg8 arg9 arg10 arg11 x0 x1 x2 x3
  have h1 : IsO x0 x1 x2 x3 1 256 512 _ := o_3 c arg2 harg2 arg3 harg3 arg4 harg4 arg5 harg5 arg7 arg8 arg9 arg10 arg11 x0 x1 x2 x3
  exact out_eq (i := 1) (by decide) h0 h1 x
theorem blk_2 (x : S256x128.Idx) : (sl.v2028 (F := Ideal) c arg2 harg2 arg3 harg3 arg4 harg4 arg5 harg5 arg7 arg8 arg9 arg10 arg11 x0 x1 x2 x3) x = OF x0 x1 x2 x3 ((x 1).val / 64) (512 + (x 0).val) 768 ((x 1).val % 64) := by
  have h0 : IsO x0 x1 x2 x3 0 512 768 _ := o_4 c arg2 harg2 arg3 harg3 arg4 harg4 arg5 harg5 arg7 arg8 arg9 arg10 arg11 x0 x1 x2 x3
  have h1 : IsO x0 x1 x2 x3 1 512 768 _ := o_5 c arg2 harg2 arg3 harg3 arg4 harg4 arg5 harg5 arg7 arg8 arg9 arg10 arg11 x0 x1 x2 x3
  exact out_eq (i := 2) (by decide) h0 h1 x
theorem blk_3 (x : S256x128.Idx) : (sl.v2828 (F := Ideal) c arg2 harg2 arg3 harg3 arg4 harg4 arg5 harg5 arg7 arg8 arg9 arg10 arg11 x0 x1 x2 x3) x = OF x0 x1 x2 x3 ((x 1).val / 64) (768 + (x 0).val) 1024 ((x 1).val % 64) := by
  have h0 : IsO x0 x1 x2 x3 0 768 1024 _ := o_6 c arg2 harg2 arg3 harg3 arg4 harg4 arg5 harg5 arg7 arg8 arg9 arg10 arg11 x0 x1 x2 x3
  have h1 : IsO x0 x1 x2 x3 1 768 1024 _ := o_7 c arg2 harg2 arg3 harg3 arg4 harg4 arg5 harg5 arg7 arg8 arg9 arg10 arg11 x0 x1 x2 x3
  exact out_eq (i := 3) (by decide) h0 h1 x
theorem blk_4 (x : S256x128.Idx) : (sl.v3788 (F := Ideal) c arg2 harg2 arg3 harg3 arg4 harg4 arg5 harg5 arg7 arg8 arg9 arg10 arg11 x0 x1 x2 x3) x = OF x0 x1 x2 x3 ((x 1).val / 64) (1024 + (x 0).val) 1280 ((x 1).val % 64) := by
  have h0 : IsO x0 x1 x2 x3 0 1024 1280 _ := o_8 c arg2 harg2 arg3 harg3 arg4 harg4 arg5 harg5 arg7 arg8 arg9 arg10 arg11 x0 x1 x2 x3
  have h1 : IsO x0 x1 x2 x3 1 1024 1280 _ := o_9 c arg2 harg2 arg3 harg3 arg4 harg4 arg5 harg5 arg7 arg8 arg9 arg10 arg11 x0 x1 x2 x3
  exact out_eq (i := 4) (by decide) h0 h1 x
theorem blk_5 (x : S256x128.Idx) : (sl.v4908 (F := Ideal) c arg2 harg2 arg3 harg3 arg4 harg4 arg5 harg5 arg7 arg8 arg9 arg10 arg11 x0 x1 x2 x3) x = OF x0 x1 x2 x3 ((x 1).val / 64) (1280 + (x 0).val) 1536 ((x 1).val % 64) := by
  have h0 : IsO x0 x1 x2 x3 0 1280 1536 _ := o_10 c arg2 harg2 arg3 harg3 arg4 harg4 arg5 harg5 arg7 arg8 arg9 arg10 arg11 x0 x1 x2 x3
  have h1 : IsO x0 x1 x2 x3 1 1280 1536 _ := o_11 c arg2 harg2 arg3 harg3 arg4 harg4 arg5 harg5 arg7 arg8 arg9 arg10 arg11 x0 x1 x2 x3
  exact out_eq (i := 5) (by decide) h0 h1 x
theorem blk_6 (x : S256x128.Idx) : (k0_pay513 (F := Ideal) (sl.v5545 (F := Ideal) c arg2 harg2 arg3 harg3 arg4 harg4 arg5 harg5 arg7 arg8 arg9 arg10 arg11 x0 x1 x2 x3) (sl.r_14 (F := Ideal) c arg2 harg2 arg3 harg3 arg4 harg4 arg5 harg5 arg7 arg8 arg9 arg10 arg11 x0 x1 x2 x3) (sl.r_23 (F := Ideal) c arg2 harg2 arg3 harg3 arg4 harg4 arg7 arg8 arg10 arg11 x0 x1 x2) (sl.v6176 (F := Ideal) c arg5 harg5 arg9 x3)) x = OF x0 x1 x2 x3 ((x 1).val / 64) (1536 + (x 0).val) 1792 ((x 1).val % 64) := by
  have h0 : IsO x0 x1 x2 x3 0 1536 1792 _ := o_12 c arg2 harg2 arg3 harg3 arg4 harg4 arg5 harg5 arg7 arg8 arg9 arg10 arg11 x0 x1 x2 x3
  have h1 : IsO x0 x1 x2 x3 1 1536 1792 _ := quot_eq (acc_next (acc_next (acc_next (acc_next (acc_next (acc_next (acc_first (m_13 c arg2 harg2 arg3 harg3 arg4 harg4 arg5 harg5 arg7 arg8 arg9 arg10 arg11 x0 x1 x2 x3) (vt_1_0 c arg2 harg2 arg3 harg3 arg4 harg4 arg5 harg5 arg7 arg8 arg9 arg10 arg11 x0 x1 x2 x3) (sl_13_0 c arg2 harg2 arg3 harg3 arg4 harg4 arg5 harg5 arg7 arg8 arg9 arg10 arg11 x0 x1 x2 x3)) (m_13 c arg2 harg2 arg3 harg3 arg4 harg4 arg5 harg5 arg7 arg8 arg9 arg10 arg11 x0 x1 x2 x3)
    (vt_1_1 c arg2 harg2 arg3 harg3 arg4 harg4 arg5 harg5 arg7 arg8 arg9 arg10 arg11 x0 x1 x2 x3) (sl_13_1 c arg2 harg2 arg3 harg3 arg4 harg4 arg5 harg5 arg7 arg8 arg9 arg10 arg11 x0 x1 x2 x3)) (m_13 c arg2 harg2 arg3 harg3 arg4 harg4 arg5 harg5 arg7 arg8 arg9 arg10 arg11 x0 x1 x2 x3)
    (vt_1_2 c arg2 harg2 arg3 harg3 arg4 harg4 arg5 harg5 arg7 arg8 arg9 arg10 arg11 x0 x1 x2 x3) (sl_13_2 c arg2 harg2 arg3 harg3 arg4 harg4 arg5 harg5 arg7 arg8 arg9 arg10 arg11 x0 x1 x2 x3)) (m_13 c arg2 harg2 arg3 harg3 arg4 harg4 arg5 harg5 arg7 arg8 arg9 arg10 arg11 x0 x1 x2 x3)
    (vt_1_3 c arg2 harg2 arg3 harg3 arg4 harg4 arg5 harg5 arg7 arg8 arg9 arg10 arg11 x0 x1 x2 x3) (sl_13_3 c arg2 harg2 arg3 harg3 arg4 harg4 arg5 harg5 arg7 arg8 arg9 arg10 arg11 x0 x1 x2 x3)) (m_13 c arg2 harg2 arg3 harg3 arg4 harg4 arg5 harg5 arg7 arg8 arg9 arg10 arg11 x0 x1 x2 x3)
    (vt_1_4 c arg2 harg2 arg3 harg3 arg4 harg4 arg5 harg5 arg7 arg8 arg9 arg10 arg11 x0 x1 x2 x3) (sl_13_4 c arg2 harg2 arg3 harg3 arg4 harg4 arg5 harg5 arg7 arg8 arg9 arg10 arg11 x0 x1 x2 x3)) (m_13 c arg2 harg2 arg3 harg3 arg4 harg4 arg5 harg5 arg7 arg8 arg9 arg10 arg11 x0 x1 x2 x3)
    (vt_1_5 c arg2 harg2 arg3 harg3 arg4 harg4 arg5 harg5 arg7 arg8 arg9 arg10 arg11 x0 x1 x2 x3) (sl_13_5 c arg2 harg2 arg3 harg3 arg4 harg4 arg5 harg5 arg7 arg8 arg9 arg10 arg11 x0 x1 x2 x3)) (m_13 c arg2 harg2 arg3 harg3 arg4 harg4 arg5 harg5 arg7 arg8 arg9 arg10 arg11 x0 x1 x2 x3)
    (vt_1_6 c arg2 harg2 arg3 harg3 arg4 harg4 arg5 harg5 arg7 arg8 arg9 arg10 arg11 x0 x1 x2 x3) (sl_13_6 c arg2 harg2 arg3 harg3 arg4 harg4 arg5 harg5 arg7 arg8 arg9 arg10 arg11 x0 x1 x2 x3))
  exact out_eq (i := 6) (by decide) h0 h1 x
theorem blk_7 (x : S256x128.Idx) : (k0_pay1 (F := Ideal) (sl.r_35 (F := Ideal) c arg2 harg2 arg3 harg3 arg4 harg4 arg5 harg5 arg7 arg8 arg9 arg10 arg11 x0 x1 x2 x3)) x = OF x0 x1 x2 x3 ((x 1).val / 64) (1792 + (x 0).val) 2048 ((x 1).val % 64) := by
  have h0 : IsO x0 x1 x2 x3 0 1792 2048 _ := quot_eq (acc_next (acc_next (acc_next (acc_next (acc_next (acc_next (acc_next (acc_first (m_14 c arg2 harg2 arg3 harg3 arg4 harg4 arg5 harg5 arg7 arg8 arg9 arg10 arg11 x0 x1 x2 x3) (vt_0_0 c arg2 harg2 arg3 harg3 arg4 harg4 arg5 harg5 arg7 arg8 arg9 arg10 arg11 x0 x1 x2 x3) (sl_14_0 c arg2 harg2 arg3 harg3 arg4 harg4 arg5 harg5 arg7 arg8 arg9 arg10 arg11 x0 x1 x2 x3)) (m_14 c arg2 harg2 arg3 harg3 arg4 harg4 arg5 harg5 arg7 arg8 arg9 arg10 arg11 x0 x1 x2 x3)
    (vt_0_1 c arg2 harg2 arg3 harg3 arg4 harg4 arg5 harg5 arg7 arg8 arg9 arg10 arg11 x0 x1 x2 x3) (sl_14_1 c arg2 harg2 arg3 harg3 arg4 harg4 arg5 harg5 arg7 arg8 arg9 arg10 arg11 x0 x1 x2 x3)) (m_14 c arg2 harg2 arg3 harg3 arg4 harg4 arg5 harg5 arg7 arg8 arg9 arg10 arg11 x0 x1 x2 x3)
    (vt_0_2 c arg2 harg2 arg3 harg3 arg4 harg4 arg5 harg5 arg7 arg8 arg9 arg10 arg11 x0 x1 x2 x3) (sl_14_2 c arg2 harg2 arg3 harg3 arg4 harg4 arg5 harg5 arg7 arg8 arg9 arg10 arg11 x0 x1 x2 x3)) (m_14 c arg2 harg2 arg3 harg3 arg4 harg4 arg5 harg5 arg7 arg8 arg9 arg10 arg11 x0 x1 x2 x3)
    (vt_0_3 c arg2 harg2 arg3 harg3 arg4 harg4 arg5 harg5 arg7 arg8 arg9 arg10 arg11 x0 x1 x2 x3) (sl_14_3 c arg2 harg2 arg3 harg3 arg4 harg4 arg5 harg5 arg7 arg8 arg9 arg10 arg11 x0 x1 x2 x3)) (m_14 c arg2 harg2 arg3 harg3 arg4 harg4 arg5 harg5 arg7 arg8 arg9 arg10 arg11 x0 x1 x2 x3)
    (vt_0_4 c arg2 harg2 arg3 harg3 arg4 harg4 arg5 harg5 arg7 arg8 arg9 arg10 arg11 x0 x1 x2 x3) (sl_14_4 c arg2 harg2 arg3 harg3 arg4 harg4 arg5 harg5 arg7 arg8 arg9 arg10 arg11 x0 x1 x2 x3)) (m_14 c arg2 harg2 arg3 harg3 arg4 harg4 arg5 harg5 arg7 arg8 arg9 arg10 arg11 x0 x1 x2 x3)
    (vt_0_5 c arg2 harg2 arg3 harg3 arg4 harg4 arg5 harg5 arg7 arg8 arg9 arg10 arg11 x0 x1 x2 x3) (sl_14_5 c arg2 harg2 arg3 harg3 arg4 harg4 arg5 harg5 arg7 arg8 arg9 arg10 arg11 x0 x1 x2 x3)) (m_14 c arg2 harg2 arg3 harg3 arg4 harg4 arg5 harg5 arg7 arg8 arg9 arg10 arg11 x0 x1 x2 x3)
    (vt_0_6 c arg2 harg2 arg3 harg3 arg4 harg4 arg5 harg5 arg7 arg8 arg9 arg10 arg11 x0 x1 x2 x3) (sl_14_6 c arg2 harg2 arg3 harg3 arg4 harg4 arg5 harg5 arg7 arg8 arg9 arg10 arg11 x0 x1 x2 x3)) (m_14 c arg2 harg2 arg3 harg3 arg4 harg4 arg5 harg5 arg7 arg8 arg9 arg10 arg11 x0 x1 x2 x3)
    (vt_0_7 c arg2 harg2 arg3 harg3 arg4 harg4 arg5 harg5 arg7 arg8 arg9 arg10 arg11 x0 x1 x2 x3) (sl_14_7 c arg2 harg2 arg3 harg3 arg4 harg4 arg5 harg5 arg7 arg8 arg9 arg10 arg11 x0 x1 x2 x3))
  have h1 : IsO x0 x1 x2 x3 1 1792 2048 _ := quot_eq (acc_next (acc_next (acc_next (acc_next (acc_next (acc_next (acc_next (acc_first (m_15 c arg2 harg2 arg3 harg3 arg4 harg4 arg5 harg5 arg7 arg8 arg9 arg10 arg11 x0 x1 x2 x3) (vt_1_0 c arg2 harg2 arg3 harg3 arg4 harg4 arg5 harg5 arg7 arg8 arg9 arg10 arg11 x0 x1 x2 x3) (sl_15_0 c arg2 harg2 arg3 harg3 arg4 harg4 arg5 harg5 arg7 arg8 arg9 arg10 arg11 x0 x1 x2 x3)) (m_15 c arg2 harg2 arg3 harg3 arg4 harg4 arg5 harg5 arg7 arg8 arg9 arg10 arg11 x0 x1 x2 x3)
    (vt_1_1 c arg2 harg2 arg3 harg3 arg4 harg4 arg5 harg5 arg7 arg8 arg9 arg10 arg11 x0 x1 x2 x3) (sl_15_1 c arg2 harg2 arg3 harg3 arg4 harg4 arg5 harg5 arg7 arg8 arg9 arg10 arg11 x0 x1 x2 x3)) (m_15 c arg2 harg2 arg3 harg3 arg4 harg4 arg5 harg5 arg7 arg8 arg9 arg10 arg11 x0 x1 x2 x3)
    (vt_1_2 c arg2 harg2 arg3 harg3 arg4 harg4 arg5 harg5 arg7 arg8 arg9 arg10 arg11 x0 x1 x2 x3) (sl_15_2 c arg2 harg2 arg3 harg3 arg4 harg4 arg5 harg5 arg7 arg8 arg9 arg10 arg11 x0 x1 x2 x3)) (m_15 c arg2 harg2 arg3 harg3 arg4 harg4 arg5 harg5 arg7 arg8 arg9 arg10 arg11 x0 x1 x2 x3)
    (vt_1_3 c arg2 harg2 arg3 harg3 arg4 harg4 arg5 harg5 arg7 arg8 arg9 arg10 arg11 x0 x1 x2 x3) (sl_15_3 c arg2 harg2 arg3 harg3 arg4 harg4 arg5 harg5 arg7 arg8 arg9 arg10 arg11 x0 x1 x2 x3)) (m_15 c arg2 harg2 arg3 harg3 arg4 harg4 arg5 harg5 arg7 arg8 arg9 arg10 arg11 x0 x1 x2 x3)
    (vt_1_4 c arg2 harg2 arg3 harg3 arg4 harg4 arg5 harg5 arg7 arg8 arg9 arg10 arg11 x0 x1 x2 x3) (sl_15_4 c arg2 harg2 arg3 harg3 arg4 harg4 arg5 harg5 arg7 arg8 arg9 arg10 arg11 x0 x1 x2 x3)) (m_15 c arg2 harg2 arg3 harg3 arg4 harg4 arg5 harg5 arg7 arg8 arg9 arg10 arg11 x0 x1 x2 x3)
    (vt_1_5 c arg2 harg2 arg3 harg3 arg4 harg4 arg5 harg5 arg7 arg8 arg9 arg10 arg11 x0 x1 x2 x3) (sl_15_5 c arg2 harg2 arg3 harg3 arg4 harg4 arg5 harg5 arg7 arg8 arg9 arg10 arg11 x0 x1 x2 x3)) (m_15 c arg2 harg2 arg3 harg3 arg4 harg4 arg5 harg5 arg7 arg8 arg9 arg10 arg11 x0 x1 x2 x3)
    (vt_1_6 c arg2 harg2 arg3 harg3 arg4 harg4 arg5 harg5 arg7 arg8 arg9 arg10 arg11 x0 x1 x2 x3) (sl_15_6 c arg2 harg2 arg3 harg3 arg4 harg4 arg5 harg5 arg7 arg8 arg9 arg10 arg11 x0 x1 x2 x3)) (m_15 c arg2 harg2 arg3 harg3 arg4 harg4 arg5 harg5 arg7 arg8 arg9 arg10 arg11 x0 x1 x2 x3)
    (vt_1_7 c arg2 harg2 arg3 harg3 arg4 harg4 arg5 harg5 arg7 arg8 arg9 arg10 arg11 x0 x1 x2 x3) (sl_15_7 c arg2 harg2 arg3 harg3 arg4 harg4 arg5 harg5 arg7 arg8 arg9 arg10 arg11 x0 x1 x2 x3))
  exact out_eq (i := 7) (by decide) h0 h1 x
end Cert.Mla

end
-- ==== Proof.Block.lean ====
/- What one grid point writes: its block of results, entry by entry. -/
module

public import proofs.«01_k».proof.Proof.Heads
public import proofs.«01_k».proof.Proof.Gen.Kernel2Ideal.Frame
public import Idealize.ShloMosaic.Lib.Pipeline.ReadBack

@[expose] public section

set_option maxRecDepth 65536

noncomputable section

namespace Cert.Mla

open Idealize.ShloMosaic Cert.Kernel2Ideal Cert.Kernel2Ideal.Gen Cert.Kernel2Ideal.Gen.kernelRun0_A

/-- A block of 256 rows of results, from row `256 i`, is that block of `OB`. -/
theorem piece_eq (x0 : Vec Ideal S2048x256 .bf16) (x1 x2 x3 : Vec Ideal S2048x128 .bf16) {P : S256x128.Idx → EReal} {i : ℕ} (e : S256x128.Idx → S2048x128.Idx)
    (he0 : ∀ x, (e x 0).val = 256 * i + (x 0).val) (he1 : ∀ x, (e x 1).val = (x 1).val)
    (hP : ∀ x : S256x128.Idx, P x = OF x0 x1 x2 x3 ((x 1).val / 64) (256 * i + (x 0).val) (256 * i + 256) ((x 1).val % 64)) (x : S256x128.Idx) :
    P x = OB x0 x1 x2 x3 (e x) := by
  have h : (x 0).val < 256 := (x 0).isLt
  rw [hP]
  unfold OB
  rw [he0, he1, show (256 * i + (x 0).val) / 256 = i by omega]

set_option maxHeartbeats 4000000 in
theorem block_eq (c : Dev nD) (i : grid0.Coords) (arg2 : Memref sig .tc .vmem S2048x256 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole)
    (arg7 : Memref sig .tc .vmem S2x2048x128 .bf16) (harg7 : arg7.IsWhole) (arg8 : Memref sig .tc .vmem S2x128x2048 .bf16) (harg8 : arg8.IsWhole) (arg9 : Memref sig .tc .vmem S2x80x2048 .bf16) (harg9 : arg9.IsWhole)
    (arg10 : Memref sig .tc .vmem S4x2048x256 .f32) (harg10 : arg10.IsWhole) (arg11 : Memref sig .tc .vmem S256x256 .f32) (harg11 : arg11.IsWhole)
    (x0 : Vec Ideal S2048x256 .bf16) (x1 x2 x3 : Vec Ideal S2048x128 .bf16) :
    out0_A_4 (F := Ideal) c i arg2 harg2 arg3 harg3 arg4 harg4 arg5 harg5 arg6 harg6 arg7 harg7 arg8 harg8 arg9 harg9 arg10 harg10 arg11 harg11 x0 x1 x2 x3 = OB x0 x1 x2 x3 := by
  have hp : View.PiecesOf (Val := Elt Ideal) (s := S2048x128) (e := .bf16) (OB x0 x1 x2 x3) (kernelRun0_A (F := Ideal) c i arg2 harg2 arg3 harg3 arg4 harg4 arg5 harg5 arg6 harg6 arg7 harg7 arg8 harg8 arg9 harg9 arg10 harg10 arg11 harg11 x0 x1 x2 x3).1 :=
    ⟨piece_eq (i := 7) x0 x1 x2 x3 (fun x => (Rect.unit (s := S2048x128) ![1792, 0] S256x128.size inb_S2048x128_S256x128_1792_0).emb x) (fun x => show 1792 + 1 * (x 0).val = 256 * 7 + (x 0).val by omega) (fun x => show 0 + 1 * (x 1).val = (x 1).val by omega) (blk_7 c arg2 harg2 arg3 harg3 arg4 harg4 arg5 harg5 arg7 arg8 arg9 arg10 arg11 x0 x1 x2 x3),
      piece_eq (i := 6) x0 x1 x2 x3 (fun x => (Rect.unit (s := S2048x128) ![1536, 0] S256x128.size inb_S2048x128_S256x128_1536_0).emb x) (fun x => show 1536 + 1 * (x 0).val = 256 * 6 + (x 0).val by omega) (fun x => show 0 + 1 * (x 1).val = (x 1).val by omega) (blk_6 c arg2 harg2 arg3 harg3 arg4 harg4 arg5 harg5 arg7 arg8 arg9 arg10 arg11 x0 x1 x2 x3),
      piece_eq (i := 5) x0 x1 x2 x3 (fun x => (Rect.unit (s := S2048x128) ![1280, 0] S256x128.size inb_S2048x128_S256x128_1280_0).emb x) (fun x => show 1280 + 1 * (x 0).val = 256 * 5 + (x 0).val by omega) (fun x => show 0 + 1 * (x 1).val = (x 1).val by omega) (blk_5 c arg2 harg2 arg3 harg3 arg4 harg4 arg5 harg5 arg7 arg8 arg9 arg10 arg11 x0 x1 x2 x3),
      piece_eq (i := 4) x0 x1 x2 x3 (fun x => (Rect.unit (s := S2048x128) ![1024, 0] S256x128.size inb_S2048x128_S256x128_1024_0).emb x) (fun x => show 1024 + 1 * (x 0).val = 256 * 4 + (x 0).val by omega) (fun x => show 0 + 1 * (x 1).val = (x 1).val by omega) (blk_4 c arg2 harg2 arg3 harg3 arg4 harg4 arg5 harg5 arg7 arg8 arg9 arg10 arg11 x0 x1 x2 x3),
      piece_eq (i := 3) x0 x1 x2 x3 (fun x => (Rect.unit (s := S2048x128) ![768, 0] S256x128.size inb_S2048x128_S256x128_768_0).emb x) (fun x => show 768 + 1 * (x 0).val = 256 * 3 + (x 0).val by omega) (fun x => show 0 + 1 * (x 1).val = (x 1).val by omega) (blk_3 c arg2 harg2 arg3 harg3 arg4 harg4 arg5 harg5 arg7 arg8 arg9 arg10 arg11 x0 x1 x2 x3),
      piece_eq (i := 2) x0 x1 x2 x3 (fun x => (Rect.unit (s := S2048x128) ![512, 0] S256x128.size inb_S2048x128_S256x128_512_0).emb x) (fun x => show 512 + 1 * (x 0).val = 256 * 2 + (x 0).val by omega) (fun x => show 0 + 1 * (x 1).val = (x 1).val by omega) (blk_2 c arg2 harg2 arg3 harg3 arg4 harg4 arg5 harg5 arg7 arg8 arg9 arg10 arg11 x0 x1 x2 x3),
      piece_eq (i := 1) x0 x1 x2 x3 (fun x => (Rect.unit (s := S2048x128) ![256, 0] S256x128.size inb_S2048x128_S256x128_256_0).emb x) (fun x => show 256 + 1 * (x 0).val = 256 * 1 + (x 0).val by omega) (fun x => show 0 + 1 * (x 1).val = (x 1).val by omega) (blk_1 c arg2 harg2 arg3 harg3 arg4 harg4 arg5 harg5 arg7 arg8 arg9 arg10 arg11 x0 x1 x2 x3),
      piece_eq (i := 0) x0 x1 x2 x3 (fun x => (Rect.unit (s := S2048x128) ![0, 0] S256x128.size inb_S2048x128_S256x128_0_0).emb x) (fun x => show 0 + 1 * (x 0).val = 256 * 0 + (x 0).val by omega) (fun x => show 0 + 1 * (x 1).val = (x 1).val by omega) (blk_0 c arg2 harg2 arg3 harg3 arg4 harg4 arg5 harg5 arg7 arg8 arg9 arg10 arg11 x0 x1 x2 x3), trivial⟩
  unfold out0_A_4
  rw [View.read_writes_junk_eq_canon]
  funext y
  exact View.canon_apply_of_pieces (Val := Elt Ideal) (OB x0 x1 x2 x3) _ hp.mem y (cover0_A_4 c i arg2 harg2 arg3 harg3 arg4 harg4 arg5 harg5 arg6 harg6 arg7 harg7 arg8 harg8 arg9 harg9 arg10 harg10 arg11 harg11 x0 x1 x2 x3 y)

end Cert.Mla

end
-- ==== Proof.Args.lean ====
/- What the host passes to the attention kernel, entry by entry, and what each grid point reads of it. -/
module

public import proofs.«01_k».proof.Proof.Block
public import proofs.«01_k».proof.Proof.Gen.Kernel2Ideal.Value
public import Idealize.ShloMosaic.Lib.Pointwise

@[expose] public section

set_option maxRecDepth 16384

noncomputable section

namespace Cert.Mla

open Idealize.ShloMosaic Idealize.ShloMosaic.TcCoe Cert.Kernel2Ideal Cert.Kernel2Ideal.Gen

/-- What the queries are divided by. -/
def scaleE : EReal := Ideal.sqrt (Ideal.ofBits .f32 0x42C00000#32) * Ideal.log (Ideal.ofBits .f32 0x40000000#32)

/-! ## The host's layout -/

/-- The queries, each head's 96 lanes divided and filled up to 128. -/
def qPad (A : FVec Ideal S16x2048x16x96 .f32) : FVec Ideal S16x2048x16x128 .f32 :=
  concatenate S16x2048x16x128 3 [⟨S16x2048x16x96, (Host.divf A (broadcastInDim S16x2048x16x96 ![] bcast_S_S16x2048x16x96
      (mulf (Host.sqrt (constant S_ .f32 0x42C00000#32)) (Host.log (constant S_ .f32 0x40000000#32)))) : FVec Ideal S16x2048x16x96 .f32)⟩,
    ⟨S16x2048x16x32, (broadcastInDim S16x2048x16x32 ![] bcast_S_S16x2048x16x32 (constant S_ .f32 0x00000000#32) : FVec Ideal S16x2048x16x32 .f32)⟩]
    concatenates_S16x2048x16x96_S16x2048x16x32_S16x2048x16x128_d3
/-- The shared keys between zeros. -/
def rPad (A : FVec Ideal S16x2048x32 .f32) : FVec Ideal S16x2048x128 .f32 :=
  concatenate S16x2048x128 2 [⟨S16x2048x64, (broadcastInDim S16x2048x64 ![] bcast_S_S16x2048x64 (constant S_ .f32 0x00000000#32) : FVec Ideal S16x2048x64 .f32)⟩,
    ⟨S16x2048x32, A⟩, ⟨S16x2048x32, (broadcastInDim S16x2048x32 ![] bcast_S_S16x2048x32 (constant S_ .f32 0x00000000#32) : FVec Ideal S16x2048x32 .f32)⟩]
    concatenates_S16x2048x64_S16x2048x32_S16x2048x32_S16x2048x128_d2

theorem qPad_apply (A : FVec Ideal S16x2048x16x96 .f32) (b : Fin 16) (q : Fin 2048) (h : Fin 16) (d : Fin 128) :
    qPad A (ix4 b q h d) = if hd : d.val < 96 then Ideal.div (A (ix4 b q h ⟨d.val, hd⟩)) scaleE else 0 := by
  unfold qPad scaleE
  pointwise
theorem rPad_apply (A : FVec Ideal S16x2048x32 .f32) (b : Fin 16) (k : Fin 2048) (d : Fin 128) :
    rPad A (ix3 b k d) = if h1 : d.val < 64 then 0 else if h2 : d.val < 96 then A (ix3 b k ⟨d.val - 64, by omega⟩) else 0 := by
  unfold rPad
  pointwise
  by_cases h1 : d.val < 64
  · rw [dif_pos h1, dif_pos h1]
  · rw [dif_neg h1, dif_neg h1]
    by_cases h2 : d.val < 96
    · rw [dif_pos (show d.val - 64 < 32 by omega), dif_pos h2]
    · rw [dif_neg (show ¬ d.val - 64 < 32 by omega), dif_neg h2]

variable (m : (ℓ : Loc nD τ sig) → Buf (Elt Ideal) ℓ) (c : Dev nD)

theorem V_q (b : Fin 16) (q : Fin 2048) (h : Fin 16) (d : Fin 128) (R : Fin 32768) (J : Fin 2048) (hR : R.val = 2048 * b.val + q.val) (hJ : J.val = 128 * h.val + d.val) :
    V m c main_v11 (ix2 R J) = qPad (m ((c : Thread nD τ).loc main_arg0)) (ix4 b q h d) := by
  have e : V m c main_v11 = truncf .bf16 (shapeCast S32768x2048 (qPad (m ((c : Thread nD τ).loc main_arg0))) shapeCasts_S16x2048x16x128_S32768x2048) bitsLt_bf16_f32 := by
    unfold V hostOps0
    after_results_simp <;> rfl
  refine (congrFun e (ix2 R J)).trans (?_ : shapeCast S32768x2048 (qPad (m ((c : Thread nD τ).loc main_arg0))) shapeCasts_S16x2048x16x128_S32768x2048 (ix2 R J) = _)
  refine shapeCast_apply _ _ (ix2 R J) (ix4 b q h d) ?_
  rw [Shape.rowMajor_val_two, Shape.rowMajor_val_four]
  show ((b.val * 2048 + q.val) * 16 + h.val) * 128 + d.val = R.val * 2048 + J.val
  omega
theorem V_n (b : Fin 16) (q : Fin 2048) (h : Fin 16) (d : Fin 64) (R : Fin 32768) (J : Fin 1024) (hR : R.val = 2048 * b.val + q.val) (hJ : J.val = 64 * h.val + d.val) :
    V m c main_v13 (ix2 R J) = m ((c : Thread nD τ).loc main_arg1) (ix4 b q h d) := by
  have e : V m c main_v13 = truncf .bf16 (shapeCast S32768x1024 (m ((c : Thread nD τ).loc main_arg1)) shapeCasts_S16x2048x16x64_S32768x1024 : FVec Ideal S32768x1024 .f32) bitsLt_bf16_f32 := by
    unfold V hostOps0
    after_results_simp <;> rfl
  refine (congrFun e (ix2 R J)).trans (shapeCast_apply _ _ (ix2 R J) (ix4 b q h d) ?_)
  rw [Shape.rowMajor_val_two, Shape.rowMajor_val_four]
  show ((b.val * 2048 + q.val) * 16 + h.val) * 64 + d.val = R.val * 1024 + J.val
  omega
theorem V_v (b : Fin 16) (q : Fin 2048) (h : Fin 16) (d : Fin 64) (R : Fin 32768) (J : Fin 1024) (hR : R.val = 2048 * b.val + q.val) (hJ : J.val = 64 * h.val + d.val) :
    V m c main_v17 (ix2 R J) = m ((c : Thread nD τ).loc main_arg3) (ix4 b q h d) := by
  have e : V m c main_v17 = truncf .bf16 (shapeCast S32768x1024 (m ((c : Thread nD τ).loc main_arg3)) shapeCasts_S16x2048x16x64_S32768x1024 : FVec Ideal S32768x1024 .f32) bitsLt_bf16_f32 := by
    unfold V hostOps0
    after_results_simp <;> rfl
  refine (congrFun e (ix2 R J)).trans (shapeCast_apply _ _ (ix2 R J) (ix4 b q h d) ?_)
  rw [Shape.rowMajor_val_two, Shape.rowMajor_val_four]
  show ((b.val * 2048 + q.val) * 16 + h.val) * 64 + d.val = R.val * 1024 + J.val
  omega
theorem V_r (b : Fin 16) (q : Fin 2048) (d : Fin 128) (R : Fin 32768) (hR : R.val = 2048 * b.val + q.val) :
    V m c main_v15 (ix2 R d) = rPad (m ((c : Thread nD τ).loc main_arg2)) (ix3 b q d) := by
  have e : V m c main_v15 = truncf .bf16 (shapeCast S32768x128 (rPad (m ((c : Thread nD τ).loc main_arg2))) shapeCasts_S16x2048x128_S32768x128) bitsLt_bf16_f32 := by
    unfold V hostOps0
    after_results_simp <;> rfl
  refine (congrFun e (ix2 R d)).trans (?_ : shapeCast S32768x128 (rPad (m ((c : Thread nD τ).loc main_arg2))) shapeCasts_S16x2048x128_S32768x128 (ix2 R d) = _)
  refine shapeCast_apply _ _ (ix2 R d) (ix3 b q d) ?_
  rw [Shape.rowMajor_val_two, Shape.rowMajor_val_three]
  show (b.val * 2048 + q.val) * 128 + d.val = R.val * 128 + d.val
  omega

/-! ## The blocks -/

theorem at_0 : ∀ t : Fin cfg0.N, win0_0.index t = ![t.val / 8, t.val % 8] :=
  (by decide +kernel : ∀ t : Fin grid0.N, win0_0.index t = ![t.val / 8, t.val % 8])
theorem at_1 : ∀ t : Fin cfg0.N, win0_1.index t = ![t.val / 8, t.val % 8] :=
  (by decide +kernel : ∀ t : Fin grid0.N, win0_1.index t = ![t.val / 8, t.val % 8])
theorem at_2 : ∀ t : Fin cfg0.N, win0_2.index t = ![t.val / 8, 0] :=
  (by decide +kernel : ∀ t : Fin grid0.N, win0_2.index t = ![t.val / 8, 0])
theorem at_3 : ∀ t : Fin cfg0.N, win0_3.index t = ![t.val / 8, t.val % 8] :=
  (by decide +kernel : ∀ t : Fin grid0.N, win0_3.index t = ![t.val / 8, t.val % 8])
theorem at_4 : ∀ t : Fin cfg0.N, win0_4.index t = ![t.val / 8, t.val % 8] :=
  (by decide +kernel : ∀ t : Fin grid0.N, win0_4.index t = ![t.val / 8, t.val % 8])

theorem blk_q (t : Fin cfg0.N) (q : Fin 2048) (j : Fin 256) (R : Fin 32768) (J : Fin 2048) (hR : R.val = 2048 * (t.val / 8) + q.val) (hJ : J.val = 256 * (t.val % 8) + j.val) :
    (iblk m c 0 t : Vec Ideal S2048x256 .bf16) (ix2 q j) = V m c main_v11 (ix2 R J) := by
  show V m c main_v11 _ = _
  refine congrArg (V m c main_v11) (funext fun a => Fin.ext ?_)
  have h := at_0 t
  fin_cases a
  · show win0_0.index t 0 * 2048 + 1 * q.val = R.val
    rw [h]; show t.val / 8 * 2048 + 1 * q.val = R.val; omega
  · show win0_0.index t 1 * 256 + 1 * j.val = J.val
    rw [h]; show t.val % 8 * 256 + 1 * j.val = J.val; omega
theorem blk_n (t : Fin cfg0.N) (q : Fin 2048) (j : Fin 128) (R : Fin 32768) (J : Fin 1024) (hR : R.val = 2048 * (t.val / 8) + q.val) (hJ : J.val = 128 * (t.val % 8) + j.val) :
    (iblk m c 1 t : Vec Ideal S2048x128 .bf16) (ix2 q j) = V m c main_v13 (ix2 R J) := by
  show V m c main_v13 _ = _
  refine congrArg (V m c main_v13) (funext fun a => Fin.ext ?_)
  have h := at_1 t
  fin_cases a
  · show win0_1.index t 0 * 2048 + 1 * q.val = R.val
    rw [h]; show t.val / 8 * 2048 + 1 * q.val = R.val; omega
  · show win0_1.index t 1 * 128 + 1 * j.val = J.val
    rw [h]; show t.val % 8 * 128 + 1 * j.val = J.val; omega
theorem blk_r (t : Fin cfg0.N) (q : Fin 2048) (j : Fin 128) (R : Fin 32768) (hR : R.val = 2048 * (t.val / 8) + q.val) :
    (iblk m c 2 t : Vec Ideal S2048x128 .bf16) (ix2 q j) = V m c main_v15 (ix2 R j) := by
  show V m c main_v15 _ = _
  refine congrArg (V m c main_v15) (funext fun a => Fin.ext ?_)
  have h := at_2 t
  fin_cases a
  · show win0_2.index t 0 * 2048 + 1 * q.val = R.val
    rw [h]; show t.val / 8 * 2048 + 1 * q.val = R.val; omega
  · show win0_2.index t 1 * 128 + 1 * j.val = j.val
    rw [h]; show 0 * 128 + 1 * j.val = j.val; omega
theorem blk_v (t : Fin cfg0.N) (q : Fin 2048) (j : Fin 128) (R : Fin 32768) (J : Fin 1024) (hR : R.val = 2048 * (t.val / 8) + q.val) (hJ : J.val = 128 * (t.val % 8) + j.val) :
    (iblk m c 3 t : Vec Ideal S2048x128 .bf16) (ix2 q j) = V m c main_v17 (ix2 R J) := by
  show V m c main_v17 _ = _
  refine congrArg (V m c main_v17) (funext fun a => Fin.ext ?_)
  have h := at_3 t
  fin_cases a
  · show win0_3.index t 0 * 2048 + 1 * q.val = R.val
    rw [h]; show t.val / 8 * 2048 + 1 * q.val = R.val; omega
  · show win0_3.index t 1 * 128 + 1 * j.val = J.val
    rw [h]; show t.val % 8 * 128 + 1 * j.val = J.val; omega

/-- The result array, at an entry of block `t`. -/
theorem result_apply (t : Fin cfg0.N) (q : Fin 2048) (j : Fin 128) (R : Fin 32768) (J : Fin 1024) (hR : R.val = 2048 * (t.val / 8) + q.val) (hJ : J.val = 128 * (t.val % 8) + j.val) :
    (dats m 0 c).arrAt 4 cfg0.N (ix2 R J) = OB (iblk m c 0 t) (iblk m c 1 t) (iblk m c 2 t) (iblk m c 3 t) (ix2 q j) := by
  have hb := (Value.blocks4 m c t (flush0_4 t)).trans (Value.flushed4_A m c t)
  rw [block_eq] at hb
  have hq := congrFun hb (ix2 q j)
  refine Eq.trans ?_ hq
  show _ = (dats m 0 c).arrAt 4 cfg0.N _
  refine congrArg ((dats m 0 c).arrAt 4 cfg0.N) (funext fun a => Fin.ext ?_)
  have h := at_4 t
  fin_cases a
  · show R.val = win0_4.index t 0 * 2048 + 1 * q.val
    rw [h]; show R.val = t.val / 8 * 2048 + 1 * q.val; omega
  · show J.val = win0_4.index t 1 * 128 + 1 * j.val
    rw [h]; show J.val = t.val % 8 * 128 + 1 * j.val; omega

end Cert.Mla

end
-- ==== Proof.Ref2.lean ====
/- The attention reference's result over the extended reals, entry by entry. -/
module

public import proofs.«01_k».proof.Proof.Soft
public import proofs.«01_k».proof.Proof.Gen.Reference2Ideal.Run
public import Idealize.ShloMosaic.Lib.Pointwise
public import Idealize.ShloMosaic.Lib.WordCmp

@[expose] public section

set_option maxRecDepth 16384

noncomputable section

namespace Cert.Reference2Ideal.Attn

open Idealize.ShloMosaic Idealize.ShloMosaic.TcCoe Idealize.ShloMosaic.Tactic Idealize.SL.Sem
open Cert.Reference2Ideal Cert.Reference2Ideal.Gen

variable (a0 : FVec Ideal S16x2048x16x96 .f32) (a1 : FVec Ideal S16x2048x16x64 .f32) (a2 : FVec Ideal S16x2048x32 .f32) (a3 : FVec Ideal S16x2048x16x64 .f32)

/-- The queries over the square root of their length. -/
def qd : FVec Ideal S16x2048x16x96 .f32 :=
  Host.divf a0 (broadcastInDim S16x2048x16x96 ![] bcast_S_S16x2048x16x96 (Host.sqrt (constant S_ .f32 0x42C00000#32)))
/-- The scores. -/
def sc : FVec Ideal S16x16x2048x2048 .f32 :=
  addf (Host.dotGeneral dot_S16x2048x16x64_S16x2048x16x64_S16x16x2048x2048_3_3_1_1_02_02 none (extractStridedSlice S16x2048x16x64 ![0, 0, 0, 0] (qd a0) slices_S16x2048x16x96_S16x2048x16x64_0_0_0_0) a1)
    (transpose S16x16x2048x2048 [0, 3, 2, 1] (Host.dotGeneral dot_S16x2048x32_S16x2048x16x32_S16x2048x2048x16_2_3_1_12_0_0 none a2
      (extractStridedSlice S16x2048x16x32 ![0, 0, 0, 64] (qd a0) slices_S16x2048x16x96_S16x2048x16x32_0_0_0_64)) transposes_S16x2048x2048x16_S16x16x2048x2048_0_3_2_1)
/-- Which keys a query sees. -/
def msk : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))
/-- The scores, minus infinity where a key is not seen. -/
def sel : FVec Ideal S16x16x2048x2048 .f32 :=
  select (broadcastInDim S16x16x2048x2048 ![2, 3] bcast_S2048x2048_S16x16x2048x2048_2_3 msk) (sc a0 a1 a2)
    (broadcastInDim S16x16x2048x2048 ![] bcast_S_S16x16x2048x2048 (id (constant S_ .f32 0xFF800000#32)))
/-- Every row's greatest score. -/
def mx : FVec Ideal S16x16x2048 .f32 :=
  maximumf (broadcastInDim S16x16x2048 ![] bcast_S_S16x16x2048 (constant S_ .f32 0xFF800000#32))
    (Host.reduce FloatOps.maximumf (sel a0 a1 a2) (constant S_ .f32 0xFF800000#32) reducesTo_S16x16x2048x2048_S16x16x2048_d3 h_S_)
/-- The exponentials of the scores less their row's greatest. -/
def ex : FVec Ideal S16x16x2048x2048 .f32 :=
  Host.exp (subf (sel a0 a1 a2) (broadcastInDim S16x16x2048x2048 ![0, 1, 2, 3] bcast_S16x16x2048x1_S16x16x2048x2048_0_1_2_3
    (broadcastInDim S16x16x2048x1 ![0, 1, 2] bcast_S16x16x2048_S16x16x2048x1_0_1_2 (mx a0 a1 a2))))
/-- The weights. -/
def pr : FVec Ideal S16x16x2048x2048 .f32 :=
  mulf (Host.divf (ex a0 a1 a2) (broadcastInDim S16x16x2048x2048 ![0, 1, 2, 3] bcast_S16x16x2048x1_S16x16x2048x2048_0_1_2_3
      (broadcastInDim S16x16x2048x1 ![0, 1, 2] bcast_S16x16x2048_S16x16x2048x1_0_1_2
        (Host.reduceAdd (ex a0 a1 a2) (constant S_ .f32 0x00000000#32) reducesTo_S16x16x2048x2048_S16x16x2048_d3 h_S_))))
    (broadcastInDim S16x16x2048x2048 ![0, 1, 2, 3] bcast_S1x1x2048x2048_S16x16x2048x2048_0_1_2_3
      (broadcastInDim S1x1x2048x2048 ![2, 3] bcast_S2048x2048_S1x1x2048x2048_2_3 (uitofp .f32 msk)))
/-- The weighted values. -/
def av : FVec Ideal S16x2048x16x64 .f32 :=
  transpose S16x2048x16x64 [0, 3, 1, 2] (Host.dotGeneral dot_S16x2048x16x64_S16x16x2048x2048_S16x16x64x2048_1_3_3_2_02_01 none a3 (pr a0 a1 a2)) transposes_S16x16x64x2048_S16x2048x16x64_0_3_1_2

theorem res_eq (m : (ℓ : Loc nD τ sig) → Buf (Elt Ideal) ℓ) (c : Dev nD) : Value.res_main_v34 m c
    = truncf .bf16 (shapeCast _ (av (m ((c.tc : Thread nD τ).loc main_arg0)) (m ((c.tc : Thread nD τ).loc main_arg1)) (m ((c.tc : Thread nD τ).loc main_arg2)) (m ((c.tc : Thread nD τ).loc main_arg3)))
        shapeCasts_S16x2048x16x64_S32768x1024) bitsLt_bf16_f32 := rfl

/-- The root of the queries' length. -/
def rootE : EReal := Ideal.sqrt (Ideal.ofBits .f32 0x42C00000#32)

theorem sc_apply (b h : Fin 16) (q k : Fin 2048) : sc a0 a1 a2 (ix4 b h q k)
    = (∑ d : Fin 64, Ideal.div (a0 (ix4 b q h ⟨d.val, by omega⟩)) rootE * a1 (ix4 b k h d))
      + ∑ d : Fin 32, a2 (ix3 b k d) * Ideal.div (a0 (ix4 b q h ⟨64 + d.val, by omega⟩)) rootE := by
  unfold sc qd rootE
  pointwise

theorem sees (q k : Fin 2048) : IntOp.cmpi .sle (BitVec.ofNat 32 k.val) (BitVec.ofNat 32 q.val) = if k.val ≤ q.val then 1#1 else 0#1 := by
  have hk : k.val < 2 ^ (32 - 1) := by omega
  have hq : q.val < 2 ^ (32 - 1) := by omega
  by_cases h : k.val ≤ q.val
  · rw [if_pos h]; exact (WordCmp.cmpi_sle_ofNat_eq_one_iff hk hq).mpr h
  · rw [if_neg h]; exact (WordCmp.cmpi_sle_ofNat_eq_zero_iff hk hq).mpr h

theorem msk_apply (q k : Fin 2048) : msk (ix2 q k) = if k.val ≤ q.val then 1#1 else 0#1 := by
  unfold msk
  pointwise
  exact sees q k

theorem ninf : Ideal.ofBits .f32 0xFF800000#32 = ⊥ := by simp [Ideal.ofBits, Ideal.ieee]

theorem sel_apply (b h : Fin 16) (q k : Fin 2048) : sel a0 a1 a2 (ix4 b h q k) = if k.val ≤ q.val then sc a0 a1 a2 (ix4 b h q k) else ⊥ := by
  unfold sel
  pointwise [msk_apply]
  by_cases hk : k.val ≤ q.val
  · simp [hk, Scalar.select]
  · simp [hk, Scalar.select]
    exact ninf

theorem lift_key (hr : S16x16x2048x2048.Reduces [3] S16x16x2048) (b h : Fin 16) (q : Fin 2048) (k : Fin (S16x16x2048x2048.size 3)) :
    hr.lift (ix3 b h q) k = ix4 b h q (⟨k.val, k.isLt⟩ : Fin 2048) := by
  funext c; apply Fin.ext
  fin_cases c <;> rfl

/-- The greatest along the last axis, from minus infinity. -/
theorem greatest (X : FVec Ideal S16x16x2048x2048 .f32) (b h : Fin 16) (q : Fin 2048) :
    Host.reduce FloatOps.maximumf X (constant S_ .f32 0xFF800000#32) reducesTo_S16x16x2048x2048_S16x16x2048_d3 h_S_ (ix3 b h q)
      = Finset.univ.sup fun k : Fin 2048 => (X (ix4 b h q k) : EReal) := by
  have hr : S16x16x2048x2048.Reduces [3] S16x16x2048 := by decide
  rw [Host.reduce_eq_fold_single FloatOps.maximumf X _ reducesTo_S16x16x2048x2048_S16x16x2048_d3 hr h_S_]
  have hf : (X ∘ hr.lift (ix3 b h q)) = fun k : Fin 2048 => (X (ix4 b h q k) : EReal) := funext fun k => congrArg X (lift_key hr b h q k)
  have hi : (constant (F := Ideal) S_ .f32 0xFF800000#32) (Shape.Idx.first h_S_) = (⊥ : EReal) := ninf
  rw [hi]
  exact (congrArg (fun f => Finset.fold max (⊥ : EReal) f (Finset.univ : Finset (Fin 2048))) hf).trans (Finset.sup_def (s := Finset.univ) (f := fun k : Fin 2048 => (X (ix4 b h q k) : EReal))).symm

/-- Minus infinity is the least. -/
theorem over_ninf (Y : FVec Ideal S16x16x2048 .f32) (i : S16x16x2048.Idx) :
    maximumf (broadcastInDim S16x16x2048 ![] bcast_S_S16x16x2048 (constant S_ .f32 0xFF800000#32)) Y i = Y i := by
  show max (Ideal.ofBits .f32 0xFF800000#32 : EReal) (Y i) = Y i
  rw [ninf]
  exact max_eq_right bot_le

theorem mx_apply (b h : Fin 16) (q : Fin 2048) : mx a0 a1 a2 (ix3 b h q) = Finset.univ.sup fun k : Fin 2048 => (sel a0 a1 a2 (ix4 b h q k) : EReal) := by
  unfold mx
  exact (over_ninf _ _).trans (greatest _ b h q)

theorem seen_one : (FloatOps.uitofp .f32 1#1 : Ideal .f32) = (1 : EReal) := by
  show (((1#1 : BitVec 1).toNat : ℝ) : EReal) = 1
  simp
theorem seen_zero : (FloatOps.uitofp .f32 0#1 : Ideal .f32) = (0 : EReal) := by
  show (((0#1 : BitVec 1).toNat : ℝ) : EReal) = 0
  simp

theorem ex_apply (b h : Fin 16) (q k : Fin 2048) : ex a0 a1 a2 (ix4 b h q k) = Ideal.exp (sel a0 a1 a2 (ix4 b h q k) - mx a0 a1 a2 (ix3 b h q)) := by
  unfold ex
  pointwise

theorem pr_apply (b h : Fin 16) (q k : Fin 2048) : pr a0 a1 a2 (ix4 b h q k)
    = Ideal.div (ex a0 a1 a2 (ix4 b h q k)) (∑ l : Fin 2048, ex a0 a1 a2 (ix4 b h q l)) * (if k.val ≤ q.val then 1 else 0) := by
  unfold pr
  pointwise [msk_apply]
  by_cases hk : k.val ≤ q.val
  · rw [if_pos hk, if_pos hk, seen_one]
  · rw [if_neg hk, if_neg hk, seen_zero]

theorem av_apply (b h : Fin 16) (q : Fin 2048) (e : Fin 64) : av a0 a1 a2 a3 (ix4 b q h e) = ∑ k : Fin 2048, a3 (ix4 b k h e) * pr a0 a1 a2 (ix4 b h q k) := by
  unfold av
  pointwise

end Cert.Reference2Ideal.Attn

end
-- ==== Proof.Join.lean ====
/- The attention kernel's result and the reference's are the same rows: the real scores on both sides, then the softmax. -/
module

public import proofs.«01_k».proof.Proof.Args
public import proofs.«01_k».proof.Proof.Ref2

@[expose] public section

set_option maxRecDepth 16384

noncomputable section

namespace Cert.Mla

open Idealize.ShloMosaic Idealize.ShloMosaic.TcCoe Cert.Kernel2Ideal Cert.Kernel2Ideal.Gen
open Cert.Reference2Ideal.Attn (rootE sc sel mx ex pr av)

/-! ## The two divisors -/

theorem w96 : Ideal.ofBits .f32 0x42C00000#32 = ((96 : ℝ) : EReal) := by simp [Ideal.ofBits, Ideal.ieee]; rw [← EReal.coe_mul]; norm_num
theorem w2 : Ideal.ofBits .f32 0x40000000#32 = ((2 : ℝ) : EReal) := by simp [Ideal.ofBits, Ideal.ieee]; rw [← EReal.coe_mul]; norm_num
theorem rootE_eq : rootE = ((Real.sqrt 96 : ℝ) : EReal) := by
  unfold rootE
  rw [w96, Ideal.sqrt_coe, if_neg (by norm_num)]
theorem scaleE_eq : scaleE = ((Real.sqrt 96 * Real.log 2 : ℝ) : EReal) := by
  unfold scaleE
  rw [w96, w2, Ideal.sqrt_coe, if_neg (by norm_num), Ideal.log_coe, if_neg (by norm_num), EReal.coe_mul]
theorem root_ne : Real.sqrt 96 ≠ 0 := by positivity
theorem scale_ne : Real.sqrt 96 * Real.log 2 ≠ 0 := mul_ne_zero root_ne (Real.log_pos (by norm_num)).ne'
theorem div_root (r : ℝ) : Ideal.div (r : EReal) rootE = ((r * (1 / Real.sqrt 96) : ℝ) : EReal) := by
  rw [rootE_eq, Ideal.div_coe root_ne, ← EReal.coe_mul]
theorem div_scale (r : ℝ) : Ideal.div (r : EReal) scaleE = ((r * (1 / (Real.sqrt 96 * Real.log 2)) : ℝ) : EReal) := by
  rw [scaleE_eq, Ideal.div_coe scale_ne, ← EReal.coe_mul]

/-! ## The scores -/

/-- A score over the reals: the query's first 64 lanes against the head's key, the other 32 against the shared one. -/
def score (fq fn fr : ℕ → ℝ) : ℝ :=
  (∑ d ∈ Finset.range 64, fq d * (1 / Real.sqrt 96) * fn d) + ∑ d ∈ Finset.range 32, fr d * (fq (64 + d) * (1 / Real.sqrt 96))

theorem SC_real {x0 : Vec Ideal S2048x256 .bf16} {x1 x2 : Vec Ideal S2048x128 .bf16} {h q k : ℕ} (fq fn fr : ℕ → ℝ)
    (hQ : ∀ d < 128, QT x0 h d q = if d < 96 then ((fq d * (1 / (Real.sqrt 96 * Real.log 2)) : ℝ) : EReal) else 0)
    (hK : ∀ d < 128, KX x1 x2 h k d = if d < 64 then (fn d : EReal) else if d < 96 then (fr (d - 64) : EReal) else 0) :
    SC x0 x1 x2 h q k = ((score fq fn fr / Real.log 2 : ℝ) : EReal) := by
  have e : SC x0 x1 x2 h q k = ∑ d ∈ Finset.range 128, (((if d < 64 then fn d * (fq d * (1 / (Real.sqrt 96 * Real.log 2)))
      else if d < 96 then fr (d - 64) * (fq d * (1 / (Real.sqrt 96 * Real.log 2))) else 0 : ℝ)) : EReal) := by
    refine Finset.sum_congr rfl fun d hd => ?_
    have hd : d < 128 := Finset.mem_range.mp hd
    rw [hQ d hd, hK d hd]
    by_cases h1 : d < 64
    · rw [if_pos h1, if_pos (show d < 96 by omega), if_pos h1]; exact (EReal.coe_mul _ _).symm
    · rw [if_neg h1, if_neg h1]
      by_cases h2 : d < 96
      · rw [if_pos h2, if_pos h2, if_pos h2]; exact (EReal.coe_mul _ _).symm
      · rw [if_neg h2, if_neg h2, if_neg h2]; simp
  rw [e, sum_coe]
  refine congrArg (fun r : ℝ => (r : EReal)) ?_
  rw [show (128 : ℕ) = 64 + (32 + 32) from rfl, Finset.sum_range_add, Finset.sum_range_add]
  rw [Finset.sum_eq_zero (s := Finset.range 32) (f := fun d => (if 64 + (32 + d) < 64 then _ else _ : ℝ)), add_zero]
  · unfold score
    rw [add_div, Finset.sum_div, Finset.sum_div]
    have hl : Real.log 2 ≠ 0 := (Real.log_pos (by norm_num)).ne'
    have hr := root_ne
    congr 1
    · refine Finset.sum_congr rfl fun d hd => ?_
      rw [if_pos (Finset.mem_range.mp hd)]
      field_simp
    · refine Finset.sum_congr rfl fun d hd => ?_
      have := Finset.mem_range.mp hd
      rw [if_neg (by omega), if_pos (by omega), Nat.add_sub_cancel_left]
      field_simp
  · intro d _
    rw [if_neg (by omega), if_neg (by omega)]

/-! ## Entries as reals -/

variable (m : (ℓ : Loc nD τ sig) → Buf (Elt Ideal) ℓ) (c : Dev nD)

abbrev A0 : FVec Ideal S16x2048x16x96 .f32 := m ((c : Thread nD τ).loc main_arg0)
abbrev A1 : FVec Ideal S16x2048x16x64 .f32 := m ((c : Thread nD τ).loc main_arg1)
abbrev A2 : FVec Ideal S16x2048x32 .f32 := m ((c : Thread nD τ).loc main_arg2)
abbrev A3 : FVec Ideal S16x2048x16x64 .f32 := m ((c : Thread nD τ).loc main_arg3)

/-- A query's lanes. -/
def fQ (b h : Fin 16) (q : Fin 2048) (d : ℕ) : ℝ := (A0 m c (ix4 b q h (Fin.ofNat 96 d)) : EReal).toReal
/-- A key's own lanes. -/
def fN (b h : Fin 16) (k : ℕ) (d : ℕ) : ℝ := (A1 m c (ix4 b (Fin.ofNat 2048 k) h (Fin.ofNat 64 d)) : EReal).toReal
/-- A key's shared lanes. -/
def fR (b : Fin 16) (k : ℕ) (d : ℕ) : ℝ := (A2 m c (ix3 b (Fin.ofNat 2048 k) (Fin.ofNat 32 d)) : EReal).toReal
/-- A value's lane. -/
def fV (b h : Fin 16) (e : Fin 64) (k : ℕ) : EReal := A3 m c (ix4 b (Fin.ofNat 2048 k) h e)
/-- The scores of a query. -/
def sig' (b h : Fin 16) (q : Fin 2048) (k : ℕ) : ℝ := score (fQ m c b h q) (fN m c b h k) (fR m c b k)

theorem ofNat_val {n : ℕ} [NeZero n] (d : ℕ) (hd : d < n) : Fin.ofNat n d = ⟨d, hd⟩ := Fin.ext (Nat.mod_eq_of_lt hd)

/-- Queries and keys are real numbers. -/
structure Reals : Prop where
  q : ∀ i, (((A0 m c i : EReal).toReal : ℝ) : EReal) = A0 m c i
  n : ∀ i, (((A1 m c i : EReal).toReal : ℝ) : EReal) = A1 m c i
  r : ∀ i, (((A2 m c i : EReal).toReal : ℝ) : EReal) = A2 m c i

variable {m c}

theorem fQ_eq (H : Reals m c) (b h : Fin 16) (q : Fin 2048) (d : ℕ) (hd : d < 96) : (fQ m c b h q d : EReal) = A0 m c (ix4 b q h ⟨d, hd⟩) := by
  unfold fQ; rw [ofNat_val d hd]; exact H.q _
theorem fN_eq (H : Reals m c) (b h : Fin 16) (k d : ℕ) (hk : k < 2048) (hd : d < 64) : (fN m c b h k d : EReal) = A1 m c (ix4 b ⟨k, hk⟩ h ⟨d, hd⟩) := by
  unfold fN; rw [ofNat_val d hd, ofNat_val k hk]; exact H.n _
theorem fR_eq (H : Reals m c) (b : Fin 16) (k d : ℕ) (hk : k < 2048) (hd : d < 32) : (fR m c b k d : EReal) = A2 m c (ix3 b ⟨k, hk⟩ ⟨d, hd⟩) := by
  unfold fR; rw [ofNat_val d hd, ofNat_val k hk]; exact H.r _

/-! ## The kernel's side -/

/-- The grid point of a batch and a head. -/
def pt (b h : Fin 16) : Fin cfg0.N := ⟨8 * b.val + h.val / 2, by show 8 * b.val + h.val / 2 < 128; omega⟩

theorem QT_eq (H : Reals m c) (b h : Fin 16) (q : Fin 2048) (d : ℕ) (hd : d < 128) :
    QT (iblk m c 0 (pt b h)) (h.val % 2) d q.val = if d < 96 then ((fQ m c b h q d * (1 / (Real.sqrt 96 * Real.log 2)) : ℝ) : EReal) else 0 := by
  unfold QT rd
  rw [dif_pos ⟨q.isLt, by omega⟩]
  refine (blk_q m c (pt b h) q ⟨128 * (h.val % 2) + d, by omega⟩ ⟨2048 * b.val + q.val, by omega⟩ ⟨128 * h.val + d, by omega⟩
    (by show 2048 * b.val + q.val = 2048 * ((8 * b.val + h.val / 2) / 8) + q.val; omega)
    (by show 128 * h.val + d = 256 * ((8 * b.val + h.val / 2) % 8) + (128 * (h.val % 2) + d); omega)).trans ?_
  rw [V_q m c b q h ⟨d, hd⟩ _ _ rfl rfl, qPad_apply]
  by_cases h1 : d < 96
  · rw [dif_pos h1, if_pos h1]
    exact (congrArg (fun x => Ideal.div x scaleE) (fQ_eq H b h q d h1).symm).trans (div_scale _)
  · rw [dif_neg h1, if_neg h1]

theorem KX_eq (H : Reals m c) (b h : Fin 16) (k : ℕ) (hk : k < 2048) (d : ℕ) (hd : d < 128) :
    KX (iblk m c 1 (pt b h)) (iblk m c 2 (pt b h)) (h.val % 2) k d
      = if d < 64 then (fN m c b h k d : EReal) else if d < 96 then (fR m c b k (d - 64) : EReal) else 0 := by
  unfold KX
  by_cases h1 : d < 64
  · rw [if_pos h1, if_pos h1]
    unfold rd
    rw [dif_pos ⟨hk, by omega⟩]
    refine (blk_n m c (pt b h) ⟨k, hk⟩ ⟨64 * (h.val % 2) + d, by omega⟩ ⟨2048 * b.val + k, by omega⟩ ⟨64 * h.val + d, by omega⟩
      (by show 2048 * b.val + k = 2048 * ((8 * b.val + h.val / 2) / 8) + k; omega)
      (by show 64 * h.val + d = 128 * ((8 * b.val + h.val / 2) % 8) + (64 * (h.val % 2) + d); omega)).trans ?_
    rw [V_n m c b ⟨k, hk⟩ h ⟨d, h1⟩ _ _ rfl rfl]
    exact (fN_eq H b h k d hk h1).symm
  · rw [if_neg h1, if_neg h1]
    unfold rd
    rw [dif_pos ⟨hk, hd⟩]
    refine (blk_r m c (pt b h) ⟨k, hk⟩ ⟨d, hd⟩ ⟨2048 * b.val + k, by omega⟩
      (by show 2048 * b.val + k = 2048 * ((8 * b.val + h.val / 2) / 8) + k; omega)).trans ?_
    rw [V_r m c b ⟨k, hk⟩ ⟨d, hd⟩ _ rfl, rPad_apply, dif_neg h1]
    by_cases h2 : d < 96
    · rw [dif_pos h2, if_pos h2, fR_eq H b k (d - 64) hk (by omega)]
    · rw [dif_neg h2, if_neg h2]

theorem VT_eq (b h : Fin 16) (e : Fin 64) (k : ℕ) (hk : k < 2048) : VT (iblk m c 3 (pt b h)) (h.val % 2) e.val k = fV m c b h e k := by
  unfold VT rd fV
  rw [if_pos e.isLt, dif_pos ⟨hk, by omega⟩, ofNat_val k hk]
  refine (blk_v m c (pt b h) ⟨k, hk⟩ ⟨64 * (h.val % 2) + e.val, by omega⟩ ⟨2048 * b.val + k, by omega⟩ ⟨64 * h.val + e.val, by omega⟩
    (by show 2048 * b.val + k = 2048 * ((8 * b.val + h.val / 2) / 8) + k; omega)
    (by show 64 * h.val + e.val = 128 * ((8 * b.val + h.val / 2) % 8) + (64 * (h.val % 2) + e.val); omega)).trans ?_
  exact V_v m c b ⟨k, hk⟩ h e _ _ rfl rfl

theorem SM_eq (H : Reals m c) (b h : Fin 16) (q : Fin 2048) (k : ℕ) :
    SM (iblk m c 0 (pt b h)) (iblk m c 1 (pt b h)) (iblk m c 2 (pt b h)) (h.val % 2) q.val k
      = if k ≤ q.val then ((sig' m c b h q k / Real.log 2 : ℝ) : EReal) else ⊥ := by
  unfold SM
  by_cases hk : k ≤ q.val
  · rw [if_pos hk, if_pos hk]
    exact SC_real _ _ _ (QT_eq H b h q) (KX_eq H b h k (by omega))
  · rw [if_neg hk, if_neg hk]

/-- A row of weighted values over the whole sequence, the reference's way. -/
def rowR (sr v : ℕ → EReal) (q : ℕ) : EReal :=
  ∑ k ∈ Finset.range 2048, v k * (Ideal.div (Ideal.exp (sr k - (Finset.range 2048).sup sr)) (∑ l ∈ Finset.range 2048, Ideal.exp (sr l - (Finset.range 2048).sup sr)) * (if k ≤ q then 1 else 0))

theorem OF_eq (H : Reals m c) (b h : Fin 16) (q : Fin 2048) (e : Fin 64) :
    OF (iblk m c 0 (pt b h)) (iblk m c 1 (pt b h)) (iblk m c 2 (pt b h)) (iblk m c 3 (pt b h)) (h.val % 2) q.val (256 * (q.val / 256) + 256) e.val
      = rowR (fun k => if k ≤ q.val then (sig' m c b h q k : EReal) else ⊥) (fV m c b h e) q.val := by
  have hn : 256 * (q.val / 256) + 256 ≤ 2048 := by omega
  refine Eq.trans ?_ (row (sig' m c b h q) (fV m c b h e) (show q.val < 256 * (q.val / 256) + 256 by omega) hn
    (fun k => SM (iblk m c 0 (pt b h)) (iblk m c 1 (pt b h)) (iblk m c 2 (pt b h)) (h.val % 2) q.val k) _ (SM_eq H b h q) fun k => rfl)
  unfold OF
  refine congrArg₂ Ideal.div (Finset.sum_congr rfl fun k hk => ?_) (Finset.sum_congr rfl fun k hk => ?_)
  · rw [VT_eq b h e k (by have := Finset.mem_range.mp hk; omega)]
  · rw [show VT (iblk m c 3 (pt b h)) (h.val % 2) 64 k = 1 from by unfold VT; rw [if_neg (by omega), if_pos rfl]]

/-- The kernel's result at an entry. -/
theorem kernel_apply (H : Reals m c) (b h : Fin 16) (q : Fin 2048) (e : Fin 64) (R : Fin 32768) (J : Fin 1024) (hR : R.val = 2048 * b.val + q.val) (hJ : J.val = 64 * h.val + e.val) :
    (dats m 0 c).arrAt 4 cfg0.N (ix2 R J) = rowR (fun k => if k ≤ q.val then (sig' m c b h q k : EReal) else ⊥) (fV m c b h e) q.val := by
  refine (result_apply m c (pt b h) q ⟨64 * (h.val % 2) + e.val, by omega⟩ R J
    (by show R.val = 2048 * ((8 * b.val + h.val / 2) / 8) + q.val; omega)
    (by show J.val = 128 * ((8 * b.val + h.val / 2) % 8) + (64 * (h.val % 2) + e.val); omega)).trans (Eq.trans ?_ (OF_eq H b h q e))
  show OF _ _ _ _ ((64 * (h.val % 2) + e.val) / 64) q.val _ ((64 * (h.val % 2) + e.val) % 64) = _
  rw [show (64 * (h.val % 2) + e.val) / 64 = h.val % 2 by omega, show (64 * (h.val % 2) + e.val) % 64 = e.val by omega]
  rfl

/-! ## The reference's side -/

theorem sc_eq (H : Reals m c) (b h : Fin 16) (q k : Fin 2048) : sc (A0 m c) (A1 m c) (A2 m c) (ix4 b h q k) = (sig' m c b h q k.val : EReal) := by
  rw [Cert.Reference2Ideal.Attn.sc_apply]
  unfold sig' score
  rw [EReal.coe_add, ← sum_coe, ← sum_coe, Finset.sum_range, Finset.sum_range]
  refine congrArg₂ (· + ·) (Finset.sum_congr rfl fun d _ => ?_) (Finset.sum_congr rfl fun d _ => ?_)
  · rw [EReal.coe_mul, ← div_root, fQ_eq H b h q d.val (by omega), fN_eq H b h k.val d.val k.isLt d.isLt]
  · rw [EReal.coe_mul, ← div_root, fQ_eq H b h q (64 + d.val) (by omega), fR_eq H b k.val d.val k.isLt d.isLt]

theorem sel_eq (H : Reals m c) (b h : Fin 16) (q k : Fin 2048) :
    sel (A0 m c) (A1 m c) (A2 m c) (ix4 b h q k) = if k.val ≤ q.val then (sig' m c b h q k.val : EReal) else ⊥ := by
  rw [Cert.Reference2Ideal.Attn.sel_apply, sc_eq H]

theorem sup_fin {n : ℕ} (f : ℕ → EReal) : (Finset.univ.sup fun k : Fin n => f k.val) = (Finset.range n).sup f := by
  refine le_antisymm (Finset.sup_le fun k _ => Finset.le_sup (f := f) (Finset.mem_range.mpr k.isLt)) (Finset.sup_le fun k hk => ?_)
  exact Finset.le_sup (f := fun k : Fin n => f k.val) (Finset.mem_univ (⟨k, Finset.mem_range.mp hk⟩ : Fin n))

/-- The reference's weighted values at an entry. -/
theorem ref_apply (H : Reals m c) (b h : Fin 16) (q : Fin 2048) (e : Fin 64) :
    av (A0 m c) (A1 m c) (A2 m c) (A3 m c) (ix4 b q h e) = rowR (fun k => if k ≤ q.val then (sig' m c b h q k : EReal) else ⊥) (fV m c b h e) q.val := by
  have hm : mx (A0 m c) (A1 m c) (A2 m c) (ix3 b h q) = (Finset.range 2048).sup fun k => if k ≤ q.val then (sig' m c b h q k : EReal) else ⊥ := by
    rw [Cert.Reference2Ideal.Attn.mx_apply]
    simp only [sel_eq H]
    exact sup_fin (n := 2048) fun k => if k ≤ q.val then (sig' m c b h q k : EReal) else ⊥
  rw [Cert.Reference2Ideal.Attn.av_apply]
  unfold rowR
  rw [Finset.sum_range, Finset.sum_range]
  refine Finset.sum_congr rfl fun k _ => ?_
  rw [Cert.Reference2Ideal.Attn.pr_apply]
  simp only [Cert.Reference2Ideal.Attn.ex_apply, hm, sel_eq H]
  unfold fV
  rw [ofNat_val k.val k.isLt]

/-- From memories agreeing on the arguments, the reference's result is the kernel's. -/
theorem result_eq (H : Reals m c) (m' : (ℓ : Loc Cert.Reference2Ideal.nD Cert.Reference2Ideal.τ Cert.Reference2Ideal.sig) → Buf (Elt Ideal) ℓ) (c' : Dev Cert.Reference2Ideal.nD)
    (h0 : m' ((c' : Thread Cert.Reference2Ideal.nD Cert.Reference2Ideal.τ).loc Cert.Reference2Ideal.main_arg0) = A0 m c) (h1 : m' ((c' : Thread Cert.Reference2Ideal.nD Cert.Reference2Ideal.τ).loc Cert.Reference2Ideal.main_arg1) = A1 m c)
    (h2 : m' ((c' : Thread Cert.Reference2Ideal.nD Cert.Reference2Ideal.τ).loc Cert.Reference2Ideal.main_arg2) = A2 m c) (h3 : m' ((c' : Thread Cert.Reference2Ideal.nD Cert.Reference2Ideal.τ).loc Cert.Reference2Ideal.main_arg3) = A3 m c) :
    Cert.Reference2Ideal.Value.res_main_v34 m' c' = (dats m 0 c).arrAt 4 cfg0.N := by
  rw [Cert.Reference2Ideal.Attn.res_eq, h0, h1, h2, h3]
  funext j
  obtain ⟨R, J, rfl⟩ : ∃ (R : Fin 32768) (J : Fin 1024), j = ix2 R J := ⟨j 0, j 1, by funext a; fin_cases a <;> rfl⟩
  have hR : R.val = 2048 * (⟨R.val / 2048, by omega⟩ : Fin 16).val + (⟨R.val % 2048, by omega⟩ : Fin 2048).val := by show R.val = 2048 * (R.val / 2048) + R.val % 2048; omega
  have hJ : J.val = 64 * (⟨J.val / 64, by omega⟩ : Fin 16).val + (⟨J.val % 64, by omega⟩ : Fin 64).val := by show J.val = 64 * (J.val / 64) + J.val % 64; omega
  generalize (⟨R.val / 2048, _⟩ : Fin 16) = b at hR
  generalize (⟨R.val % 2048, _⟩ : Fin 2048) = q at hR
  generalize (⟨J.val / 64, _⟩ : Fin 16) = h at hJ
  generalize (⟨J.val % 64, _⟩ : Fin 64) = e at hJ
  refine Eq.trans ?_ ((ref_apply H b h q e).trans (kernel_apply H b h q e R J hR hJ).symm)
  show shapeCast _ (av (A0 m c) (A1 m c) (A2 m c) (A3 m c)) Cert.Reference2Ideal.Gen.shapeCasts_S16x2048x16x64_S32768x1024 (ix2 R J) = _
  refine shapeCast_apply _ _ (ix2 R J) (ix4 b q h e) ?_
  rw [Shape.rowMajor_val_two, Shape.rowMajor_val_four]
  show ((b.val * 2048 + q.val) * 16 + h.val) * 64 + e.val = R.val * 1024 + J.val
  omega

end Cert.Mla

end
-- ==== Proof.InTile.lean ====
/- The input projection's tiles over the extended reals: every window's block is a product of the token rows with a run of
columns of the packed weights, after SiLU for the two gate paths. -/
module

public import proofs.«01_k».proof.Proof.Gen.Kernel3Ideal.Value
public import Idealize.ShloMosaic.Lib.Pointwise
public import Idealize.ShloMosaic.Lib.MatmulPlain

@[expose] public section

set_option maxRecDepth 16384

noncomputable section

namespace Cert.InProj

open Idealize.ShloMosaic Idealize.ShloMosaic.TcCoe Cert.Kernel3Ideal Cert.Kernel3Ideal.Gen

/-- SiLU over the extended reals. -/
def silu (x : EReal) : EReal := x * Ideal.logistic x
/-- The scale of the queries, one eighth. -/
def eighth : EReal := Ideal.ofBits .bf16 0x3E00#16
/-- A token's product with a column of the weight. -/
def dotE (X : (⟨2, ![32768, 1024]⟩ : Shape).Idx → EReal) (A : (⟨3, ![1, 1024, 3368]⟩ : Shape).Idx → EReal) (R : Fin 32768) (c : Fin 3368) : EReal :=
  ∑ k : Fin 1024, X (ix2 R k) * A (ix3 0 k c)

theorem mm_512 (a : FVec Ideal S512x1024 .bf16) (w : FVec Ideal S1024x512 .bf16) (r : Fin 512) (j : Fin 512) :
    matmul dot_S512x1024_S1024x512_S512x512_1_0_0_1_n_n none a w (constant S512x512 .f32 0x00000000#32) (ix2 r j) = ∑ k : Fin 1024, a (ix2 r k) * w (ix2 k j) := by
  refine (Ideal.matmul_plain_apply (M := 512) (K := 1024) (N := 512) none _ _ _ r j).trans ?_
  pointwise
  rfl
theorem mm_256 (a : FVec Ideal S512x1024 .bf16) (w : FVec Ideal S1024x256 .bf16) (r : Fin 512) (j : Fin 256) :
    matmul dot_S512x1024_S1024x256_S512x256_1_0_0_1_n_n none a w (constant S512x256 .f32 0x00000000#32) (ix2 r j) = ∑ k : Fin 1024, a (ix2 r k) * w (ix2 k j) := by
  refine (Ideal.matmul_plain_apply (M := 512) (K := 1024) (N := 256) none _ _ _ r j).trans ?_
  pointwise
  rfl
theorem mm_128 (a : FVec Ideal S512x1024 .bf16) (w : FVec Ideal S1024x128 .bf16) (r : Fin 512) (j : Fin 128) :
    matmul dot_S512x1024_S1024x128_S512x128_1_0_0_1_n_n none a w (constant S512x128 .f32 0x00000000#32) (ix2 r j) = ∑ k : Fin 1024, a (ix2 r k) * w (ix2 k j) := by
  refine (Ideal.matmul_plain_apply (M := 512) (K := 1024) (N := 128) none _ _ _ r j).trans ?_
  pointwise
  rfl
theorem mm_nt (w : FVec Ideal S128x1024 .bf16) (a : FVec Ideal S512x1024 .bf16) (j : Fin 128) (r : Fin 512) :
    matmul dot_S128x1024_S512x1024_S128x512_1_1_0_0_n_n none w a (constant S128x512 .f32 0x00000000#32) (ix2 j r) = ∑ k : Fin 1024, w (ix2 j k) * a (ix2 r k) := by
  refine (Ideal.matmul_transposedRhs_apply (M := 128) (K := 1024) (N := 512) none _ _ _ j r).trans ?_
  pointwise
  rfl

theorem ld_x (x : Vec Ideal S512x1024 .f32) : View.ld x r0_0 = x :=
  View.ld_unit_zero (S := S512x1024) (funext fun a => by fin_cases a <;> rfl) inb_S512x1024_S512x1024_0_0 x
theorem ld_g (x : Vec Ideal S128x1024 .bf16) : View.ld x r0_6 = x :=
  View.ld_unit_zero (S := S128x1024) (funext fun a => by fin_cases a <;> rfl) inb_S128x1024_S128x1024_0_0 x

theorem ld_3 (x : Vec Ideal S1024x3584 .bf16) (k : Fin 1024) (j : Fin 512) : View.ld x r0_1 (ix2 k j) = x (ix2 k ⟨0 + j.val, by omega⟩) := by
  show x _ = x _
  refine congrArg x (funext fun a => Fin.ext ?_)
  fin_cases a
  · show 0 + 1 * k.val = k.val; omega
  · show 0 + 1 * j.val = 0 + j.val; omega
/-- Window 3's block. -/
theorem tile_3 (x0 : Vec Ideal S512x1024 .f32) (x1 : Vec Ideal S1024x3584 .bf16) (x2 : Vec Ideal S128x1024 .bf16) (r : Fin 512) (j : Fin 512) :
    out0_3 x0 x1 x2 (ix2 r j) = ∑ k : Fin 1024, x0 (ix2 r k) * x1 (ix2 k ⟨0 + j.val, by omega⟩) := by
  unfold out0_3
  refine (congrFun (View.canon_unit_zero (S := S512x512) (funext fun a => by fin_cases a <;> rfl) inb_S512x512_S512x512_0_0 _) (ix2 r j)).trans ?_
  unfold k0_pay6 k0_pay5
  dsimp only
  rw [ld_x]
  skip
  pointwise [mm_512, ld_3]

theorem ld_4 (x : Vec Ideal S1024x3584 .bf16) (k : Fin 1024) (j : Fin 256) : View.ld x r0_3 (ix2 k j) = x (ix2 k ⟨512 + j.val, by omega⟩) := by
  show x _ = x _
  refine congrArg x (funext fun a => Fin.ext ?_)
  fin_cases a
  · show 0 + 1 * k.val = k.val; omega
  · show 512 + 1 * j.val = 512 + j.val; omega
/-- Window 4's block. -/
theorem tile_4 (x0 : Vec Ideal S512x1024 .f32) (x1 : Vec Ideal S1024x3584 .bf16) (x2 : Vec Ideal S128x1024 .bf16) (r : Fin 512) (j : Fin 256) :
    out0_4 x0 x1 x2 (ix2 r j) = ∑ k : Fin 1024, x0 (ix2 r k) * x1 (ix2 k ⟨512 + j.val, by omega⟩) := by
  unfold out0_4
  refine (congrFun (View.canon_unit_zero (S := S512x256) (funext fun a => by fin_cases a <;> rfl) inb_S512x256_S512x256_0_0 _) (ix2 r j)).trans ?_
  unfold k0_pay7 k0_pay5
  dsimp only
  rw [ld_x]
  skip
  pointwise [mm_256, ld_4]

theorem ld_5 (x : Vec Ideal S1024x3584 .bf16) (k : Fin 1024) (j : Fin 512) : View.ld x r0_5 (ix2 k j) = x (ix2 k ⟨768 + j.val, by omega⟩) := by
  show x _ = x _
  refine congrArg x (funext fun a => Fin.ext ?_)
  fin_cases a
  · show 0 + 1 * k.val = k.val; omega
  · show 768 + 1 * j.val = 768 + j.val; omega
/-- Window 5's block. -/
theorem tile_5 (x0 : Vec Ideal S512x1024 .f32) (x1 : Vec Ideal S1024x3584 .bf16) (x2 : Vec Ideal S128x1024 .bf16) (r : Fin 512) (j : Fin 512) :
    out0_5 x0 x1 x2 (ix2 r j) = ∑ k : Fin 1024, x0 (ix2 r k) * x1 (ix2 k ⟨768 + j.val, by omega⟩) := by
  unfold out0_5
  refine (congrFun (View.canon_unit_zero (S := S512x512) (funext fun a => by fin_cases a <;> rfl) inb_S512x512_S512x512_0_0 _) (ix2 r j)).trans ?_
  unfold k0_pay8 k0_pay5
  dsimp only
  rw [ld_x]
  skip
  pointwise [mm_512, ld_5]

theorem ld_7 (x : Vec Ideal S1024x3584 .bf16) (k : Fin 1024) (j : Fin 512) : View.ld x r0_8 (ix2 k j) = x (ix2 k ⟨1408 + j.val, by omega⟩) := by
  show x _ = x _
  refine congrArg x (funext fun a => Fin.ext ?_)
  fin_cases a
  · show 0 + 1 * k.val = k.val; omega
  · show 1408 + 1 * j.val = 1408 + j.val; omega
/-- Window 7's block. -/
theorem tile_7 (x0 : Vec Ideal S512x1024 .f32) (x1 : Vec Ideal S1024x3584 .bf16) (x2 : Vec Ideal S128x1024 .bf16) (r : Fin 512) (j : Fin 512) :
    out0_7 x0 x1 x2 (ix2 r j) = silu (∑ k : Fin 1024, x0 (ix2 r k) * x1 (ix2 k ⟨1408 + j.val, by omega⟩)) := by
  unfold out0_7
  refine (congrFun (View.canon_unit_zero (S := S512x512) (funext fun a => by fin_cases a <;> rfl) inb_S512x512_S512x512_0_0 _) (ix2 r j)).trans ?_
  unfold k0_pay10 k0_pay5
  dsimp only
  rw [ld_x]
  unfold silu
  pointwise [mm_512, ld_7]

theorem ld_8 (x : Vec Ideal S1024x3584 .bf16) (k : Fin 1024) (j : Fin 512) : View.ld x r0_9 (ix2 k j) = x (ix2 k ⟨1920 + j.val, by omega⟩) := by
  show x _ = x _
  refine congrArg x (funext fun a => Fin.ext ?_)
  fin_cases a
  · show 0 + 1 * k.val = k.val; omega
  · show 1920 + 1 * j.val = 1920 + j.val; omega
/-- Window 8's block. -/
theorem tile_8 (x0 : Vec Ideal S512x1024 .f32) (x1 : Vec Ideal S1024x3584 .bf16) (x2 : Vec Ideal S128x1024 .bf16) (r : Fin 512) (j : Fin 512) :
    out0_8 x0 x1 x2 (ix2 r j) = ∑ k : Fin 1024, x0 (ix2 r k) * x1 (ix2 k ⟨1920 + j.val, by omega⟩) := by
  unfold out0_8 k0_pay11
  refine (congrFun (View.canon_unit_zero (S := S512x512) (funext fun a => by fin_cases a <;> rfl) inb_S512x512_S512x512_0_0 _) (ix2 r j)).trans ?_
  unfold k0_pay1 k0_pay5
  dsimp only
  rw [ld_x]
  skip
  pointwise [mm_512, ld_8]

theorem ld_9 (x : Vec Ideal S1024x3584 .bf16) (k : Fin 1024) (j : Fin 512) : View.ld x r0_10 (ix2 k j) = x (ix2 k ⟨2432 + j.val, by omega⟩) := by
  show x _ = x _
  refine congrArg x (funext fun a => Fin.ext ?_)
  fin_cases a
  · show 0 + 1 * k.val = k.val; omega
  · show 2432 + 1 * j.val = 2432 + j.val; omega
/-- Window 9's block. -/
theorem tile_9 (x0 : Vec Ideal S512x1024 .f32) (x1 : Vec Ideal S1024x3584 .bf16) (x2 : Vec Ideal S128x1024 .bf16) (r : Fin 512) (j : Fin 512) :
    out0_9 x0 x1 x2 (ix2 r j) = ∑ k : Fin 1024, x0 (ix2 r k) * x1 (ix2 k ⟨2432 + j.val, by omega⟩) := by
  unfold out0_9 k0_pay11
  refine (congrFun (View.canon_unit_zero (S := S512x512) (funext fun a => by fin_cases a <;> rfl) inb_S512x512_S512x512_0_0 _) (ix2 r j)).trans ?_
  unfold k0_pay2 k0_pay5
  dsimp only
  rw [ld_x]
  skip
  pointwise [mm_512, ld_9]

theorem ld_10 (x : Vec Ideal S1024x3584 .bf16) (k : Fin 1024) (j : Fin 128) : View.ld x r0_11 (ix2 k j) = x (ix2 k ⟨2944 + j.val, by omega⟩) := by
  show x _ = x _
  refine congrArg x (funext fun a => Fin.ext ?_)
  fin_cases a
  · show 0 + 1 * k.val = k.val; omega
  · show 2944 + 1 * j.val = 2944 + j.val; omega
/-- Window 10's block. -/
theorem tile_10 (x0 : Vec Ideal S512x1024 .f32) (x1 : Vec Ideal S1024x3584 .bf16) (x2 : Vec Ideal S128x1024 .bf16) (r : Fin 512) (j : Fin 128) :
    out0_10 x0 x1 x2 (ix2 r j) = ∑ k : Fin 1024, x0 (ix2 r k) * x1 (ix2 k ⟨2944 + j.val, by omega⟩) := by
  unfold out0_10 k0_pay11
  refine (congrFun (View.canon_unit_zero (S := S512x128) (funext fun a => by fin_cases a <;> rfl) inb_S512x128_S512x128_0_0 _) (ix2 r j)).trans ?_
  unfold k0_pay3 k0_pay5
  dsimp only
  rw [ld_x]
  skip
  pointwise [mm_128, ld_10]

theorem ld_11 (x : Vec Ideal S1024x3584 .bf16) (k : Fin 1024) (j : Fin 512) : View.ld x r0_13 (ix2 k j) = x (ix2 k ⟨3072 + j.val, by omega⟩) := by
  show x _ = x _
  refine congrArg x (funext fun a => Fin.ext ?_)
  fin_cases a
  · show 0 + 1 * k.val = k.val; omega
  · show 3072 + 1 * j.val = 3072 + j.val; omega
/-- Window 11's block. -/
theorem tile_11 (x0 : Vec Ideal S512x1024 .f32) (x1 : Vec Ideal S1024x3584 .bf16) (x2 : Vec Ideal S128x1024 .bf16) (r : Fin 512) (j : Fin 512) :
    out0_11 x0 x1 x2 (ix2 r j) = silu (∑ k : Fin 1024, x0 (ix2 r k) * x1 (ix2 k ⟨3072 + j.val, by omega⟩)) := by
  unfold out0_11 k0_pay11
  refine (congrFun (View.canon_unit_zero (S := S512x512) (funext fun a => by fin_cases a <;> rfl) inb_S512x512_S512x512_0_0 _) (ix2 r j)).trans ?_
  unfold k0_pay4 k0_pay5
  dsimp only
  rw [ld_x]
  unfold silu
  pointwise [mm_512, ld_11]

/-- Window 6's block: the gates' products, one row a gate. -/
theorem tile_6 (x0 : Vec Ideal S512x1024 .f32) (x1 : Vec Ideal S1024x3584 .bf16) (x2 : Vec Ideal S128x1024 .bf16) (j : Fin 128) (r : Fin 512) :
    out0_6 x0 x1 x2 (ix2 j r) = ∑ k : Fin 1024, x2 (ix2 j k) * x0 (ix2 r k) := by
  unfold out0_6
  refine (congrFun (View.canon_unit_zero (S := S128x512) (funext fun a => by fin_cases a <;> rfl) inb_S128x512_S128x512_0_0 _) (ix2 j r)).trans ?_
  unfold k0_pay9 k0_pay5
  dsimp only
  rw [ld_x, ld_g]
  pointwise [mm_nt]

end Cert.InProj

end
-- ==== Proof.InHost.lean ====
/- What the host passes to the input projection, column by column. -/
module

public import proofs.«01_k».proof.Proof.InTile
public import Idealize.ShloMosaic.Lib.KernelVsHost

@[expose] public section

set_option maxRecDepth 16384

noncomputable section

namespace Cert.InProj

open Idealize.ShloMosaic Idealize.ShloMosaic.TcCoe Cert.Kernel3Ideal Cert.Kernel3Ideal.Gen

/-- The weight as a matrix. -/
def w1 (A : FVec Ideal S1x1024x3368 .f32) : FVec Ideal S1024x3368 .bf16 :=
  truncf .bf16 (shapeCast S1024x3368 A shapeCasts_S1x1024x3368_S1024x3368) bitsLt_bf16_f32
theorem w1_apply (A : FVec Ideal S1x1024x3368 .f32) (k : Fin 1024) (c : Fin 3368) : w1 A (ix2 k c) = A (ix3 0 k c) := by
  refine ((?_ : shapeCast S1024x3368 A shapeCasts_S1x1024x3368_S1024x3368 (ix2 k c) = _))
  refine shapeCast_apply _ _ (ix2 k c) (ix3 0 k c) ?_
  rw [Shape.rowMajor_val_two, Shape.rowMajor_val_three]
  show (0 * 1024 + k.val) * 3368 + c.val = k.val * 3368 + c.val
  omega
/-- The columns of keys and values. -/
def w2 (A : FVec Ideal S1x1024x3368 .f32) : FVec Ideal S1024x768 .bf16 :=
  extractStridedSlice S1024x768 ![0, 512] (w1 A) slices_S1024x3368_S1024x768_0_512
theorem w2_apply (A : FVec Ideal S1x1024x3368 .f32) (k : Fin 1024) (c : Fin 768) : w2 A (ix2 k c) = A (ix3 0 k ⟨512 + c.val, by omega⟩) := by
  unfold w2
  pointwise [w1_apply]
def p20 (A : FVec Ideal S1x1024x3368 .f32) : FVec Ideal S1024x512 .bf16 :=
  extractStridedSlice S1024x512 ![0, 0] (w1 A) slices_S1024x3368_S1024x512_0_0
theorem p20_apply (A : FVec Ideal S1x1024x3368 .f32) (k : Fin 1024) (c : Fin 512) : p20 A (ix2 k c) = A (ix3 0 k ⟨0 + c.val, by omega⟩) := by
  unfold p20
  pointwise [w1_apply]
def p24 (A : FVec Ideal S1x1024x3368 .f32) : FVec Ideal S1024x512 .bf16 :=
  extractStridedSlice S1024x512 ![0, 1304] (w1 A) slices_S1024x3368_S1024x512_0_1304
theorem p24_apply (A : FVec Ideal S1x1024x3368 .f32) (k : Fin 1024) (c : Fin 512) : p24 A (ix2 k c) = A (ix3 0 k ⟨1304 + c.val, by omega⟩) := by
  unfold p24
  pointwise [w1_apply]
def p25 (A : FVec Ideal S1x1024x3368 .f32) : FVec Ideal S1024x512 .bf16 :=
  extractStridedSlice S1024x512 ![0, 1816] (w1 A) slices_S1024x3368_S1024x512_0_1816
theorem p25_apply (A : FVec Ideal S1x1024x3368 .f32) (k : Fin 1024) (c : Fin 512) : p25 A (ix2 k c) = A (ix3 0 k ⟨1816 + c.val, by omega⟩) := by
  unfold p25
  pointwise [w1_apply]
def p26 (A : FVec Ideal S1x1024x3368 .f32) : FVec Ideal S1024x512 .bf16 :=
  extractStridedSlice S1024x512 ![0, 2328] (w1 A) slices_S1024x3368_S1024x512_0_2328
theorem p26_apply (A : FVec Ideal S1x1024x3368 .f32) (k : Fin 1024) (c : Fin 512) : p26 A (ix2 k c) = A (ix3 0 k ⟨2328 + c.val, by omega⟩) := by
  unfold p26
  pointwise [w1_apply]
def p27 (A : FVec Ideal S1x1024x3368 .f32) : FVec Ideal S1024x512 .bf16 :=
  extractStridedSlice S1024x512 ![0, 2856] (w1 A) slices_S1024x3368_S1024x512_0_2856
theorem p27_apply (A : FVec Ideal S1x1024x3368 .f32) (k : Fin 1024) (c : Fin 512) : p27 A (ix2 k c) = A (ix3 0 k ⟨2856 + c.val, by omega⟩) := by
  unfold p27
  pointwise [w1_apply]
def p11 (A : FVec Ideal S1x1024x3368 .f32) : FVec Ideal S1024x24 .bf16 :=
  extractStridedSlice S1024x24 ![0, 1280] (w1 A) slices_S1024x3368_S1024x24_0_1280
theorem p11_apply (A : FVec Ideal S1x1024x3368 .f32) (k : Fin 1024) (c : Fin 24) : p11 A (ix2 k c) = A (ix3 0 k ⟨1280 + c.val, by omega⟩) := by
  unfold p11
  pointwise [w1_apply]
def p18 (A : FVec Ideal S1x1024x3368 .f32) : FVec Ideal S1024x16 .bf16 :=
  extractStridedSlice S1024x16 ![0, 2840] (w1 A) slices_S1024x3368_S1024x16_0_2840
theorem p18_apply (A : FVec Ideal S1x1024x3368 .f32) (k : Fin 1024) (c : Fin 16) : p18 A (ix2 k c) = A (ix3 0 k ⟨2840 + c.val, by omega⟩) := by
  unfold p18
  pointwise [w1_apply]
def p23 (A : FVec Ideal S1x1024x3368 .f32) : FVec Ideal S1024x256 .bf16 :=
  extractStridedSlice S1024x256 ![0, 0] (w2 A) slices_S1024x768_S1024x256_0_0
theorem p23_apply (A : FVec Ideal S1x1024x3368 .f32) (k : Fin 1024) (c : Fin 256) : p23 A (ix2 k c) = A (ix3 0 k ⟨512 + c.val, by omega⟩) := by
  refine (extractStridedSlice_apply _ (w2 A) slices_S1024x768_S1024x256_0_0 (ix2 k c) (ix2 k ⟨0 + c.val, by omega⟩) ?_).trans ?_
  · intro a; fin_cases a
    · show k.val = 0 + k.val; omega
    · rfl
  · rw [w2_apply]
    exact congrArg A (congrArg (ix3 0 k) (Fin.ext (by show 512 + (0 + c.val) = 512 + c.val; omega)))
def p3 (A : FVec Ideal S1x1024x3368 .f32) : FVec Ideal S1024x64 .bf16 :=
  extractStridedSlice S1024x64 ![0, 256] (w2 A) slices_S1024x768_S1024x64_0_256
theorem p3_apply (A : FVec Ideal S1x1024x3368 .f32) (k : Fin 1024) (c : Fin 64) : p3 A (ix2 k c) = A (ix3 0 k ⟨768 + c.val, by omega⟩) := by
  refine (extractStridedSlice_apply _ (w2 A) slices_S1024x768_S1024x64_0_256 (ix2 k c) (ix2 k ⟨256 + c.val, by omega⟩) ?_).trans ?_
  · intro a; fin_cases a
    · show k.val = 0 + k.val; omega
    · rfl
  · rw [w2_apply]
    exact congrArg A (congrArg (ix3 0 k) (Fin.ext (by show 512 + (256 + c.val) = 768 + c.val; omega)))
def p4 (A : FVec Ideal S1x1024x3368 .f32) : FVec Ideal S1024x64 .bf16 :=
  extractStridedSlice S1024x64 ![0, 512] (w2 A) slices_S1024x768_S1024x64_0_512
theorem p4_apply (A : FVec Ideal S1x1024x3368 .f32) (k : Fin 1024) (c : Fin 64) : p4 A (ix2 k c) = A (ix3 0 k ⟨1024 + c.val, by omega⟩) := by
  refine (extractStridedSlice_apply _ (w2 A) slices_S1024x768_S1024x64_0_512 (ix2 k c) (ix2 k ⟨512 + c.val, by omega⟩) ?_).trans ?_
  · intro a; fin_cases a
    · show k.val = 0 + k.val; omega
    · rfl
  · rw [w2_apply]
    exact congrArg A (congrArg (ix3 0 k) (Fin.ext (by show 512 + (512 + c.val) = 1024 + c.val; omega)))
def p5 (A : FVec Ideal S1x1024x3368 .f32) : FVec Ideal S1024x64 .bf16 :=
  extractStridedSlice S1024x64 ![0, 320] (w2 A) slices_S1024x768_S1024x64_0_320
theorem p5_apply (A : FVec Ideal S1x1024x3368 .f32) (k : Fin 1024) (c : Fin 64) : p5 A (ix2 k c) = A (ix3 0 k ⟨832 + c.val, by omega⟩) := by
  refine (extractStridedSlice_apply _ (w2 A) slices_S1024x768_S1024x64_0_320 (ix2 k c) (ix2 k ⟨320 + c.val, by omega⟩) ?_).trans ?_
  · intro a; fin_cases a
    · show k.val = 0 + k.val; omega
    · rfl
  · rw [w2_apply]
    exact congrArg A (congrArg (ix3 0 k) (Fin.ext (by show 512 + (320 + c.val) = 832 + c.val; omega)))
def p6 (A : FVec Ideal S1x1024x3368 .f32) : FVec Ideal S1024x64 .bf16 :=
  extractStridedSlice S1024x64 ![0, 576] (w2 A) slices_S1024x768_S1024x64_0_576
theorem p6_apply (A : FVec Ideal S1x1024x3368 .f32) (k : Fin 1024) (c : Fin 64) : p6 A (ix2 k c) = A (ix3 0 k ⟨1088 + c.val, by omega⟩) := by
  refine (extractStridedSlice_apply _ (w2 A) slices_S1024x768_S1024x64_0_576 (ix2 k c) (ix2 k ⟨576 + c.val, by omega⟩) ?_).trans ?_
  · intro a; fin_cases a
    · show k.val = 0 + k.val; omega
    · rfl
  · rw [w2_apply]
    exact congrArg A (congrArg (ix3 0 k) (Fin.ext (by show 512 + (576 + c.val) = 1088 + c.val; omega)))
def p7 (A : FVec Ideal S1x1024x3368 .f32) : FVec Ideal S1024x64 .bf16 :=
  extractStridedSlice S1024x64 ![0, 384] (w2 A) slices_S1024x768_S1024x64_0_384
theorem p7_apply (A : FVec Ideal S1x1024x3368 .f32) (k : Fin 1024) (c : Fin 64) : p7 A (ix2 k c) = A (ix3 0 k ⟨896 + c.val, by omega⟩) := by
  refine (extractStridedSlice_apply _ (w2 A) slices_S1024x768_S1024x64_0_384 (ix2 k c) (ix2 k ⟨384 + c.val, by omega⟩) ?_).trans ?_
  · intro a; fin_cases a
    · show k.val = 0 + k.val; omega
    · rfl
  · rw [w2_apply]
    exact congrArg A (congrArg (ix3 0 k) (Fin.ext (by show 512 + (384 + c.val) = 896 + c.val; omega)))
def p8 (A : FVec Ideal S1x1024x3368 .f32) : FVec Ideal S1024x64 .bf16 :=
  extractStridedSlice S1024x64 ![0, 640] (w2 A) slices_S1024x768_S1024x64_0_640
theorem p8_apply (A : FVec Ideal S1x1024x3368 .f32) (k : Fin 1024) (c : Fin 64) : p8 A (ix2 k c) = A (ix3 0 k ⟨1152 + c.val, by omega⟩) := by
  refine (extractStridedSlice_apply _ (w2 A) slices_S1024x768_S1024x64_0_640 (ix2 k c) (ix2 k ⟨640 + c.val, by omega⟩) ?_).trans ?_
  · intro a; fin_cases a
    · show k.val = 0 + k.val; omega
    · rfl
  · rw [w2_apply]
    exact congrArg A (congrArg (ix3 0 k) (Fin.ext (by show 512 + (640 + c.val) = 1152 + c.val; omega)))
def p9 (A : FVec Ideal S1x1024x3368 .f32) : FVec Ideal S1024x64 .bf16 :=
  extractStridedSlice S1024x64 ![0, 448] (w2 A) slices_S1024x768_S1024x64_0_448
theorem p9_apply (A : FVec Ideal S1x1024x3368 .f32) (k : Fin 1024) (c : Fin 64) : p9 A (ix2 k c) = A (ix3 0 k ⟨960 + c.val, by omega⟩) := by
  refine (extractStridedSlice_apply _ (w2 A) slices_S1024x768_S1024x64_0_448 (ix2 k c) (ix2 k ⟨448 + c.val, by omega⟩) ?_).trans ?_
  · intro a; fin_cases a
    · show k.val = 0 + k.val; omega
    · rfl
  · rw [w2_apply]
    exact congrArg A (congrArg (ix3 0 k) (Fin.ext (by show 512 + (448 + c.val) = 960 + c.val; omega)))
def p10 (A : FVec Ideal S1x1024x3368 .f32) : FVec Ideal S1024x64 .bf16 :=
  extractStridedSlice S1024x64 ![0, 704] (w2 A) slices_S1024x768_S1024x64_0_704
theorem p10_apply (A : FVec Ideal S1x1024x3368 .f32) (k : Fin 1024) (c : Fin 64) : p10 A (ix2 k c) = A (ix3 0 k ⟨1216 + c.val, by omega⟩) := by
  refine (extractStridedSlice_apply _ (w2 A) slices_S1024x768_S1024x64_0_704 (ix2 k c) (ix2 k ⟨704 + c.val, by omega⟩) ?_).trans ?_
  · intro a; fin_cases a
    · show k.val = 0 + k.val; omega
    · rfl
  · rw [w2_apply]
    exact congrArg A (congrArg (ix3 0 k) (Fin.ext (by show 512 + (704 + c.val) = 1216 + c.val; omega)))

/-- The queries' columns, scaled. -/
def p22 (A : FVec Ideal S1x1024x3368 .f32) : FVec Ideal S1024x512 .bf16 :=
  mulf (p20 A) (broadcastInDim S1024x512 ![] bcast_S_S1024x512 (constant S_ .bf16 0x3E00#16))
theorem p22_apply (A : FVec Ideal S1x1024x3368 .f32) (k : Fin 1024) (c : Fin 512) : p22 A (ix2 k c) = A (ix3 0 k ⟨0 + c.val, by omega⟩) * eighth := by
  unfold p22 eighth
  pointwise [p20_apply]
/-- The filling of the pads. -/
def zer : FVec Ideal S_ .bf16 := sitofp .bf16 (constantI S_ 32 0#32)
theorem zer_eq (i : S_.Idx) : zer i = (0 : EReal) := by
  show (((0#32 : BitVec 32).toInt : ℝ) : EReal) = 0
  simp
/-- The gates' columns: 16 for each group, of which 12 are used. -/
def p15 (A : FVec Ideal S1x1024x3368 .f32) : FVec Ideal S1024x2x16 .bf16 :=
  pad S1024x2x16 ![0, 0, 0] ![0, 0, 4] ![0, 0, 0]
    (shapeCast S1024x2x12 (transpose S1024x2x3x4 [0, 2, 1, 3] (shapeCast S1024x3x2x4 (p11 A) shapeCasts_S1024x24_S1024x3x2x4)
      transposes_S1024x3x2x4_S1024x2x3x4_0_2_1_3) shapeCasts_S1024x2x3x4_S1024x2x12) zer pads_S1024x2x12_S1024x2x16_000_000_040 h_S_
theorem p15_apply (A : FVec Ideal S1x1024x3368 .f32) (k : Fin 1024) (g : Fin 2) (i : Fin 16) :
    p15 A (ix3 k g i) = if h : i.val < 12 then A (ix3 0 k ⟨1280 + (8 * (i.val / 4) + 4 * g.val + i.val % 4), by omega⟩) else 0 := by
  unfold p15
  by_cases h : i.val < 12
  · rw [dif_pos h]
    refine (pad_apply_of_inside _ _ _ _ _ _ _ (ix3 k g i) (ix3 k g ⟨i.val, h⟩) ?_).trans ?_
    · intro a; fin_cases a
      · show k.val = 0 + k.val * (0 + 1); omega
      · show g.val = 0 + g.val * (0 + 1); omega
      · show i.val = 0 + i.val * (0 + 1); omega
    refine (shapeCast_apply _ _ (ix3 k g ⟨i.val, h⟩) (ix4 k g ⟨i.val / 4, by omega⟩ ⟨i.val % 4, by omega⟩) ?_).trans ?_
    · rw [Shape.rowMajor_val_three, Shape.rowMajor_val_four]
      show ((k.val * 2 + g.val) * 3 + i.val / 4) * 4 + i.val % 4 = (k.val * 2 + g.val) * 12 + i.val
      omega
    refine (transpose_apply [0, 2, 1, 3] (shapeCast S1024x3x2x4 (p11 A) shapeCasts_S1024x24_S1024x3x2x4) _ (ix4 k g ⟨i.val / 4, by omega⟩ ⟨i.val % 4, by omega⟩) (ix4 k ⟨i.val / 4, by omega⟩ g ⟨i.val % 4, by omega⟩) ?_).trans ?_
    · intro a; fin_cases a <;> rfl
    refine (shapeCast_apply _ _ (ix4 k ⟨i.val / 4, by omega⟩ g ⟨i.val % 4, by omega⟩) (ix2 k ⟨8 * (i.val / 4) + 4 * g.val + i.val % 4, by omega⟩) ?_).trans ?_
    · rw [Shape.rowMajor_val_two, Shape.rowMajor_val_four]
      show k.val * 24 + (8 * (i.val / 4) + 4 * g.val + i.val % 4) = ((k.val * 3 + i.val / 4) * 2 + g.val) * 4 + i.val % 4
      omega
    exact p11_apply A k _
  · rw [dif_neg h]
    refine (pad_apply_of_not_inside _ _ _ _ _ _ _ (ix3 k g i) 2 ?_).trans (zer_eq _)
    intro hc
    have h2 := hc.2.2
    exact h (by have h3 : (i.val - 0) / (0 + 1) < 12 := h2; omega)
def p17 (A : FVec Ideal S1x1024x3368 .f32) : FVec Ideal S1024x128 .bf16 :=
  pad S1024x128 ![0, 0] ![0, 96] ![0, 0] (shapeCast S1024x32 (p15 A) shapeCasts_S1024x2x16_S1024x32) zer pads_S1024x32_S1024x128_000_0960 h_S_
theorem p17_apply (A : FVec Ideal S1x1024x3368 .f32) (k : Fin 1024) (r : Fin 128) :
    p17 A (ix2 k r) = if h : r.val < 32 ∧ r.val % 16 < 12 then A (ix3 0 k ⟨1280 + (8 * (r.val % 16 / 4) + 4 * (r.val / 16) + r.val % 16 % 4), by omega⟩) else 0 := by
  unfold p17
  by_cases h : r.val < 32
  · refine (pad_apply_of_inside _ _ _ _ _ _ _ (ix2 k r) (ix2 k ⟨r.val, h⟩) ?_).trans ?_
    · intro a; fin_cases a
      · show k.val = 0 + k.val * (0 + 1); omega
      · show r.val = 0 + r.val * (0 + 1); omega
    refine (shapeCast_apply _ _ (ix2 k ⟨r.val, h⟩) (ix3 k ⟨r.val / 16, by omega⟩ ⟨r.val % 16, by omega⟩) ?_).trans ?_
    · rw [Shape.rowMajor_val_two, Shape.rowMajor_val_three]
      show (k.val * 2 + r.val / 16) * 16 + r.val % 16 = k.val * 32 + r.val
      omega
    rw [p15_apply]
    by_cases h2 : r.val % 16 < 12
    · rw [dif_pos h2, dif_pos ⟨h, h2⟩]
    · rw [dif_neg h2, dif_neg fun hc => h2 hc.2]
  · rw [dif_neg fun hc => h hc.1]
    refine (pad_apply_of_not_inside _ _ _ _ _ _ _ (ix2 k r) 1 ?_).trans (zer_eq _)
    intro hc
    exact h (by have h3 : (r.val - 0) / (0 + 1) < 32 := hc.2.2; omega)
def p19 (A : FVec Ideal S1x1024x3368 .f32) : FVec Ideal S1024x128 .bf16 :=
  pad S1024x128 ![0, 0] ![0, 112] ![0, 0] (p18 A) zer pads_S1024x16_S1024x128_000_01120 h_S_
theorem p19_apply (A : FVec Ideal S1x1024x3368 .f32) (k : Fin 1024) (r : Fin 128) :
    p19 A (ix2 k r) = if h : r.val < 16 then A (ix3 0 k ⟨2840 + r.val, by omega⟩) else 0 := by
  unfold p19
  by_cases h : r.val < 16
  · rw [dif_pos h]
    refine (pad_apply_of_inside _ _ _ _ _ _ _ (ix2 k r) (ix2 k ⟨r.val, h⟩) ?_).trans ?_
    · intro a; fin_cases a
      · show k.val = 0 + k.val * (0 + 1); omega
      · show r.val = 0 + r.val * (0 + 1); omega
    exact p18_apply A k _
  · rw [dif_neg h]
    refine (pad_apply_of_not_inside _ _ _ _ _ _ _ (ix2 k r) 1 ?_).trans (zer_eq _)
    intro hc
    exact h (by have h3 : (r.val - 0) / (0 + 1) < 16 := hc.2.2; omega)

/-- The packed weight. -/
def wCat (A : FVec Ideal S1x1024x3368 .f32) : FVec Ideal S1024x3584 .bf16 :=
  concatenate S1024x3584 1 [⟨S1024x512, p22 A⟩, ⟨S1024x256, p23 A⟩, ⟨S1024x64, p3 A⟩, ⟨S1024x64, p4 A⟩, ⟨S1024x64, p5 A⟩, ⟨S1024x64, p6 A⟩, ⟨S1024x64, p7 A⟩, ⟨S1024x64, p8 A⟩, ⟨S1024x64, p9 A⟩, ⟨S1024x64, p10 A⟩, ⟨S1024x128, p17 A⟩, ⟨S1024x512, p24 A⟩, ⟨S1024x512, p25 A⟩, ⟨S1024x512, p26 A⟩, ⟨S1024x128, p19 A⟩, ⟨S1024x512, p27 A⟩]
    concatenates_S1024x512_S1024x256_S1024x64_S1024x64_S1024x64_S1024x64_S1024x64_S1024x64_S1024x64_S1024x64_S1024x128_S1024x512_S1024x512_S1024x512_S1024x128_S1024x512_S1024x3584_d1
/-- The runs of columns of the packed weight. -/
def packed : List Shape := [S1024x512, S1024x256, S1024x64, S1024x64, S1024x64, S1024x64, S1024x64, S1024x64, S1024x64, S1024x64, S1024x128, S1024x512, S1024x512, S1024x512, S1024x128, S1024x512]
theorem pre_0 : ((packed.take 0).map fun s => if h : s.rank = S1024x3584.rank then s.size ((1 : Fin S1024x3584.rank).cast h.symm) else 0).sum = 0 := by decide +kernel
theorem cat_22 (A : FVec Ideal S1x1024x3368 .f32) (k : Fin 1024) (j : Fin 512) (J : Fin 3584) (hJ : J.val = 0 + j.val) : wCat A (ix2 k J) = p22 A (ix2 k j) := by
  unfold wCat
  refine concatenate_apply_piece (t := S1024x3584) 1 _ _ (ix2 k J) 0 (by show 0 < 16; decide) S1024x512 (p22 A) rfl rfl 0 ?_ (ix2 k j) ?_ hJ.symm
  · exact pre_0
  intro b hb; fin_cases b
  · rfl
  · exact absurd rfl hb
theorem pre_1 : ((packed.take 1).map fun s => if h : s.rank = S1024x3584.rank then s.size ((1 : Fin S1024x3584.rank).cast h.symm) else 0).sum = 512 := by decide +kernel
theorem cat_23 (A : FVec Ideal S1x1024x3368 .f32) (k : Fin 1024) (j : Fin 256) (J : Fin 3584) (hJ : J.val = 512 + j.val) : wCat A (ix2 k J) = p23 A (ix2 k j) := by
  unfold wCat
  refine concatenate_apply_piece (t := S1024x3584) 1 _ _ (ix2 k J) 1 (by show 1 < 16; decide) S1024x256 (p23 A) rfl rfl 512 ?_ (ix2 k j) ?_ hJ.symm
  · exact pre_1
  intro b hb; fin_cases b
  · rfl
  · exact absurd rfl hb
theorem pre_2 : ((packed.take 2).map fun s => if h : s.rank = S1024x3584.rank then s.size ((1 : Fin S1024x3584.rank).cast h.symm) else 0).sum = 768 := by decide +kernel
theorem cat_3 (A : FVec Ideal S1x1024x3368 .f32) (k : Fin 1024) (j : Fin 64) (J : Fin 3584) (hJ : J.val = 768 + j.val) : wCat A (ix2 k J) = p3 A (ix2 k j) := by
  unfold wCat
  refine concatenate_apply_piece (t := S1024x3584) 1 _ _ (ix2 k J) 2 (by show 2 < 16; decide) S1024x64 (p3 A) rfl rfl 768 ?_ (ix2 k j) ?_ hJ.symm
  · exact pre_2
  intro b hb; fin_cases b
  · rfl
  · exact absurd rfl hb
theorem pre_3 : ((packed.take 3).map fun s => if h : s.rank = S1024x3584.rank then s.size ((1 : Fin S1024x3584.rank).cast h.symm) else 0).sum = 832 := by decide +kernel
theorem cat_4 (A : FVec Ideal S1x1024x3368 .f32) (k : Fin 1024) (j : Fin 64) (J : Fin 3584) (hJ : J.val = 832 + j.val) : wCat A (ix2 k J) = p4 A (ix2 k j) := by
  unfold wCat
  refine concatenate_apply_piece (t := S1024x3584) 1 _ _ (ix2 k J) 3 (by show 3 < 16; decide) S1024x64 (p4 A) rfl rfl 832 ?_ (ix2 k j) ?_ hJ.symm
  · exact pre_3
  intro b hb; fin_cases b
  · rfl
  · exact absurd rfl hb
theorem pre_4 : ((packed.take 4).map fun s => if h : s.rank = S1024x3584.rank then s.size ((1 : Fin S1024x3584.rank).cast h.symm) else 0).sum = 896 := by decide +kernel
theorem cat_5 (A : FVec Ideal S1x1024x3368 .f32) (k : Fin 1024) (j : Fin 64) (J : Fin 3584) (hJ : J.val = 896 + j.val) : wCat A (ix2 k J) = p5 A (ix2 k j) := by
  unfold wCat
  refine concatenate_apply_piece (t := S1024x3584) 1 _ _ (ix2 k J) 4 (by show 4 < 16; decide) S1024x64 (p5 A) rfl rfl 896 ?_ (ix2 k j) ?_ hJ.symm
  · exact pre_4
  intro b hb; fin_cases b
  · rfl
  · exact absurd rfl hb
theorem pre_5 : ((packed.take 5).map fun s => if h : s.rank = S1024x3584.rank then s.size ((1 : Fin S1024x3584.rank).cast h.symm) else 0).sum = 960 := by decide +kernel
theorem cat_6 (A : FVec Ideal S1x1024x3368 .f32) (k : Fin 1024) (j : Fin 64) (J : Fin 3584) (hJ : J.val = 960 + j.val) : wCat A (ix2 k J) = p6 A (ix2 k j) := by
  unfold wCat
  refine concatenate_apply_piece (t := S1024x3584) 1 _ _ (ix2 k J) 5 (by show 5 < 16; decide) S1024x64 (p6 A) rfl rfl 960 ?_ (ix2 k j) ?_ hJ.symm
  · exact pre_5
  intro b hb; fin_cases b
  · rfl
  · exact absurd rfl hb
theorem pre_6 : ((packed.take 6).map fun s => if h : s.rank = S1024x3584.rank then s.size ((1 : Fin S1024x3584.rank).cast h.symm) else 0).sum = 1024 := by decide +kernel
theorem cat_7 (A : FVec Ideal S1x1024x3368 .f32) (k : Fin 1024) (j : Fin 64) (J : Fin 3584) (hJ : J.val = 1024 + j.val) : wCat A (ix2 k J) = p7 A (ix2 k j) := by
  unfold wCat
  refine concatenate_apply_piece (t := S1024x3584) 1 _ _ (ix2 k J) 6 (by show 6 < 16; decide) S1024x64 (p7 A) rfl rfl 1024 ?_ (ix2 k j) ?_ hJ.symm
  · exact pre_6
  intro b hb; fin_cases b
  · rfl
  · exact absurd rfl hb
theorem pre_7 : ((packed.take 7).map fun s => if h : s.rank = S1024x3584.rank then s.size ((1 : Fin S1024x3584.rank).cast h.symm) else 0).sum = 1088 := by decide +kernel
theorem cat_8 (A : FVec Ideal S1x1024x3368 .f32) (k : Fin 1024) (j : Fin 64) (J : Fin 3584) (hJ : J.val = 1088 + j.val) : wCat A (ix2 k J) = p8 A (ix2 k j) := by
  unfold wCat
  refine concatenate_apply_piece (t := S1024x3584) 1 _ _ (ix2 k J) 7 (by show 7 < 16; decide) S1024x64 (p8 A) rfl rfl 1088 ?_ (ix2 k j) ?_ hJ.symm
  · exact pre_7
  intro b hb; fin_cases b
  · rfl
  · exact absurd rfl hb
theorem pre_8 : ((packed.take 8).map fun s => if h : s.rank = S1024x3584.rank then s.size ((1 : Fin S1024x3584.rank).cast h.symm) else 0).sum = 1152 := by decide +kernel
theorem cat_9 (A : FVec Ideal S1x1024x3368 .f32) (k : Fin 1024) (j : Fin 64) (J : Fin 3584) (hJ : J.val = 1152 + j.val) : wCat A (ix2 k J) = p9 A (ix2 k j) := by
  unfold wCat
  refine concatenate_apply_piece (t := S1024x3584) 1 _ _ (ix2 k J) 8 (by show 8 < 16; decide) S1024x64 (p9 A) rfl rfl 1152 ?_ (ix2 k j) ?_ hJ.symm
  · exact pre_8
  intro b hb; fin_cases b
  · rfl
  · exact absurd rfl hb
theorem pre_9 : ((packed.take 9).map fun s => if h : s.rank = S1024x3584.rank then s.size ((1 : Fin S1024x3584.rank).cast h.symm) else 0).sum = 1216 := by decide +kernel
theorem cat_10 (A : FVec Ideal S1x1024x3368 .f32) (k : Fin 1024) (j : Fin 64) (J : Fin 3584) (hJ : J.val = 1216 + j.val) : wCat A (ix2 k J) = p10 A (ix2 k j) := by
  unfold wCat
  refine concatenate_apply_piece (t := S1024x3584) 1 _ _ (ix2 k J) 9 (by show 9 < 16; decide) S1024x64 (p10 A) rfl rfl 1216 ?_ (ix2 k j) ?_ hJ.symm
  · exact pre_9
  intro b hb; fin_cases b
  · rfl
  · exact absurd rfl hb
theorem pre_10 : ((packed.take 10).map fun s => if h : s.rank = S1024x3584.rank then s.size ((1 : Fin S1024x3584.rank).cast h.symm) else 0).sum = 1280 := by decide +kernel
theorem cat_17 (A : FVec Ideal S1x1024x3368 .f32) (k : Fin 1024) (j : Fin 128) (J : Fin 3584) (hJ : J.val = 1280 + j.val) : wCat A (ix2 k J) = p17 A (ix2 k j) := by
  unfold wCat
  refine concatenate_apply_piece (t := S1024x3584) 1 _ _ (ix2 k J) 10 (by show 10 < 16; decide) S1024x128 (p17 A) rfl rfl 1280 ?_ (ix2 k j) ?_ hJ.symm
  · exact pre_10
  intro b hb; fin_cases b
  · rfl
  · exact absurd rfl hb
theorem pre_11 : ((packed.take 11).map fun s => if h : s.rank = S1024x3584.rank then s.size ((1 : Fin S1024x3584.rank).cast h.symm) else 0).sum = 1408 := by decide +kernel
theorem cat_24 (A : FVec Ideal S1x1024x3368 .f32) (k : Fin 1024) (j : Fin 512) (J : Fin 3584) (hJ : J.val = 1408 + j.val) : wCat A (ix2 k J) = p24 A (ix2 k j) := by
  unfold wCat
  refine concatenate_apply_piece (t := S1024x3584) 1 _ _ (ix2 k J) 11 (by show 11 < 16; decide) S1024x512 (p24 A) rfl rfl 1408 ?_ (ix2 k j) ?_ hJ.symm
  · exact pre_11
  intro b hb; fin_cases b
  · rfl
  · exact absurd rfl hb
theorem pre_12 : ((packed.take 12).map fun s => if h : s.rank = S1024x3584.rank then s.size ((1 : Fin S1024x3584.rank).cast h.symm) else 0).sum = 1920 := by decide +kernel
theorem cat_25 (A : FVec Ideal S1x1024x3368 .f32) (k : Fin 1024) (j : Fin 512) (J : Fin 3584) (hJ : J.val = 1920 + j.val) : wCat A (ix2 k J) = p25 A (ix2 k j) := by
  unfold wCat
  refine concatenate_apply_piece (t := S1024x3584) 1 _ _ (ix2 k J) 12 (by show 12 < 16; decide) S1024x512 (p25 A) rfl rfl 1920 ?_ (ix2 k j) ?_ hJ.symm
  · exact pre_12
  intro b hb; fin_cases b
  · rfl
  · exact absurd rfl hb
theorem pre_13 : ((packed.take 13).map fun s => if h : s.rank = S1024x3584.rank then s.size ((1 : Fin S1024x3584.rank).cast h.symm) else 0).sum = 2432 := by decide +kernel
theorem cat_26 (A : FVec Ideal S1x1024x3368 .f32) (k : Fin 1024) (j : Fin 512) (J : Fin 3584) (hJ : J.val = 2432 + j.val) : wCat A (ix2 k J) = p26 A (ix2 k j) := by
  unfold wCat
  refine concatenate_apply_piece (t := S1024x3584) 1 _ _ (ix2 k J) 13 (by show 13 < 16; decide) S1024x512 (p26 A) rfl rfl 2432 ?_ (ix2 k j) ?_ hJ.symm
  · exact pre_13
  intro b hb; fin_cases b
  · rfl
  · exact absurd rfl hb
theorem pre_14 : ((packed.take 14).map fun s => if h : s.rank = S1024x3584.rank then s.size ((1 : Fin S1024x3584.rank).cast h.symm) else 0).sum = 2944 := by decide +kernel
theorem cat_19 (A : FVec Ideal S1x1024x3368 .f32) (k : Fin 1024) (j : Fin 128) (J : Fin 3584) (hJ : J.val = 2944 + j.val) : wCat A (ix2 k J) = p19 A (ix2 k j) := by
  unfold wCat
  refine concatenate_apply_piece (t := S1024x3584) 1 _ _ (ix2 k J) 14 (by show 14 < 16; decide) S1024x128 (p19 A) rfl rfl 2944 ?_ (ix2 k j) ?_ hJ.symm
  · exact pre_14
  intro b hb; fin_cases b
  · rfl
  · exact absurd rfl hb
theorem pre_15 : ((packed.take 15).map fun s => if h : s.rank = S1024x3584.rank then s.size ((1 : Fin S1024x3584.rank).cast h.symm) else 0).sum = 3072 := by decide +kernel
theorem cat_27 (A : FVec Ideal S1x1024x3368 .f32) (k : Fin 1024) (j : Fin 512) (J : Fin 3584) (hJ : J.val = 3072 + j.val) : wCat A (ix2 k J) = p27 A (ix2 k j) := by
  unfold wCat
  refine concatenate_apply_piece (t := S1024x3584) 1 _ _ (ix2 k J) 15 (by show 15 < 16; decide) S1024x512 (p27 A) rfl rfl 3072 ?_ (ix2 k j) ?_ hJ.symm
  · exact pre_15
  intro b hb; fin_cases b
  · rfl
  · exact absurd rfl hb

theorem kv_apply (A : FVec Ideal S1x1024x3368 .f32) (k : Fin 1024) (j : Fin 512) (J : Fin 3584) (hJ : J.val = 768 + j.val) :
    wCat A (ix2 k J) = A (ix3 0 k ⟨768 + (j.val / 64 % 2 * 256 + j.val / 64 / 2 * 64 + j.val % 64), by omega⟩) := by
  have hj : j.val / 64 = 0 ∨ j.val / 64 = 1 ∨ j.val / 64 = 2 ∨ j.val / 64 = 3 ∨ j.val / 64 = 4 ∨ j.val / 64 = 5 ∨ j.val / 64 = 6 ∨ j.val / 64 = 7 := by omega
  rcases hj with h | h | h | h | h | h | h | h
  · rw [cat_3 A k ⟨j.val % 64, by omega⟩ J (by show J.val = 768 + j.val % 64; omega), p3_apply]
    exact congrArg A (congrArg (ix3 0 k) (Fin.ext (by show 768 + j.val % 64 = 768 + (j.val / 64 % 2 * 256 + j.val / 64 / 2 * 64 + j.val % 64); omega)))
  · rw [cat_4 A k ⟨j.val % 64, by omega⟩ J (by show J.val = 832 + j.val % 64; omega), p4_apply]
    exact congrArg A (congrArg (ix3 0 k) (Fin.ext (by show 1024 + j.val % 64 = 768 + (j.val / 64 % 2 * 256 + j.val / 64 / 2 * 64 + j.val % 64); omega)))
  · rw [cat_5 A k ⟨j.val % 64, by omega⟩ J (by show J.val = 896 + j.val % 64; omega), p5_apply]
    exact congrArg A (congrArg (ix3 0 k) (Fin.ext (by show 832 + j.val % 64 = 768 + (j.val / 64 % 2 * 256 + j.val / 64 / 2 * 64 + j.val % 64); omega)))
  · rw [cat_6 A k ⟨j.val % 64, by omega⟩ J (by show J.val = 960 + j.val % 64; omega), p6_apply]
    exact congrArg A (congrArg (ix3 0 k) (Fin.ext (by show 1088 + j.val % 64 = 768 + (j.val / 64 % 2 * 256 + j.val / 64 / 2 * 64 + j.val % 64); omega)))
  · rw [cat_7 A k ⟨j.val % 64, by omega⟩ J (by show J.val = 1024 + j.val % 64; omega), p7_apply]
    exact congrArg A (congrArg (ix3 0 k) (Fin.ext (by show 896 + j.val % 64 = 768 + (j.val / 64 % 2 * 256 + j.val / 64 / 2 * 64 + j.val % 64); omega)))
  · rw [cat_8 A k ⟨j.val % 64, by omega⟩ J (by show J.val = 1088 + j.val % 64; omega), p8_apply]
    exact congrArg A (congrArg (ix3 0 k) (Fin.ext (by show 1152 + j.val % 64 = 768 + (j.val / 64 % 2 * 256 + j.val / 64 / 2 * 64 + j.val % 64); omega)))
  · rw [cat_9 A k ⟨j.val % 64, by omega⟩ J (by show J.val = 1152 + j.val % 64; omega), p9_apply]
    exact congrArg A (congrArg (ix3 0 k) (Fin.ext (by show 960 + j.val % 64 = 768 + (j.val / 64 % 2 * 256 + j.val / 64 / 2 * 64 + j.val % 64); omega)))
  · rw [cat_10 A k ⟨j.val % 64, by omega⟩ J (by show J.val = 1216 + j.val % 64; omega), p10_apply]
    exact congrArg A (congrArg (ix3 0 k) (Fin.ext (by show 1216 + j.val % 64 = 768 + (j.val / 64 % 2 * 256 + j.val / 64 / 2 * 64 + j.val % 64); omega)))

variable (m : (ℓ : Loc nD τ sig) → Buf (Elt Ideal) ℓ) (c : Dev nD)

theorem V_w : V m c main_v28 = wCat (m ((c : Thread nD τ).loc main_arg1)) := by
  unfold V hostOps0 hostOps0_1 hostOps0_2 hostOps0_3 hostOps0_4 hostOps0_5 hostOps0_6
  after_results_simp <;> rfl
theorem V_g : V m c main_v30 = transpose S128x1024 [1, 0] (extractStridedSlice S1024x128 ![0, 1280] (wCat (m ((c : Thread nD τ).loc main_arg1))) slices_S1024x3584_S1024x128_0_1280) transposes_S1024x128_S128x1024_1_0 := by
  unfold V hostOps0 hostOps0_1 hostOps0_2 hostOps0_3 hostOps0_4 hostOps0_5 hostOps0_6
  after_results_simp <;> rfl
theorem V_g_apply (r : Fin 128) (k : Fin 1024) : V m c main_v30 (ix2 r k) = p17 (m ((c : Thread nD τ).loc main_arg1)) (ix2 k r) := by
  rw [V_g]
  refine (transpose_apply [1, 0] _ transposes_S1024x128_S128x1024_1_0 (ix2 r k) (ix2 k r) ?_).trans ?_
  · intro a; fin_cases a <;> rfl
  refine (extractStridedSlice_apply _ _ slices_S1024x3584_S1024x128_0_1280 (ix2 k r) (ix2 k ⟨1280 + r.val, by omega⟩) ?_).trans ?_
  · intro a; fin_cases a
    · show k.val = 0 + k.val; omega
    · rfl
  exact cat_17 _ k r _ rfl

end Cert.InProj

end
-- ==== Proof.InRows.lean ====
/- The input projection's results, entry by entry. -/
module

public import proofs.«01_k».proof.Proof.InHost
public import proofs.«01_k».proof.Proof.Soft

@[expose] public section

set_option maxRecDepth 16384

noncomputable section

namespace Cert.InProj

open Idealize.ShloMosaic Idealize.ShloMosaic.TcCoe Cert.Kernel3Ideal Cert.Kernel3Ideal.Gen

theorem eighth_eq : eighth = ((1 / 8 : ℝ) : EReal) := by
  unfold eighth
  simp [Ideal.ofBits, Ideal.ieee]
  rw [← EReal.coe_mul]
  norm_num

variable (m : (ℓ : Loc nD τ sig) → Buf (Elt Ideal) ℓ) (c : Dev nD)

theorem at_0 : ∀ t : Fin cfg0.N, win0_0.index t = ![t.val, 0] :=
  (by decide +kernel : ∀ t : Fin grid0.N, win0_0.index t = ![t.val, 0])
theorem at_1 : ∀ t : Fin cfg0.N, win0_1.index t = ![0, 0] :=
  (by decide +kernel : ∀ t : Fin grid0.N, win0_1.index t = ![0, 0])
theorem at_2 : ∀ t : Fin cfg0.N, win0_2.index t = ![0, 0] :=
  (by decide +kernel : ∀ t : Fin grid0.N, win0_2.index t = ![0, 0])
theorem at_3 : ∀ t : Fin cfg0.N, win0_3.index t = ![t.val, 0] :=
  (by decide +kernel : ∀ t : Fin grid0.N, win0_3.index t = ![t.val, 0])
theorem at_4 : ∀ t : Fin cfg0.N, win0_4.index t = ![t.val, 0] :=
  (by decide +kernel : ∀ t : Fin grid0.N, win0_4.index t = ![t.val, 0])
theorem at_5 : ∀ t : Fin cfg0.N, win0_5.index t = ![t.val, 0] :=
  (by decide +kernel : ∀ t : Fin grid0.N, win0_5.index t = ![t.val, 0])
theorem at_6 : ∀ t : Fin cfg0.N, win0_6.index t = ![0, t.val] :=
  (by decide +kernel : ∀ t : Fin grid0.N, win0_6.index t = ![0, t.val])
theorem at_7 : ∀ t : Fin cfg0.N, win0_7.index t = ![t.val, 0] :=
  (by decide +kernel : ∀ t : Fin grid0.N, win0_7.index t = ![t.val, 0])
theorem at_8 : ∀ t : Fin cfg0.N, win0_8.index t = ![t.val, 0] :=
  (by decide +kernel : ∀ t : Fin grid0.N, win0_8.index t = ![t.val, 0])
theorem at_9 : ∀ t : Fin cfg0.N, win0_9.index t = ![t.val, 0] :=
  (by decide +kernel : ∀ t : Fin grid0.N, win0_9.index t = ![t.val, 0])
theorem at_10 : ∀ t : Fin cfg0.N, win0_10.index t = ![t.val, 0] :=
  (by decide +kernel : ∀ t : Fin grid0.N, win0_10.index t = ![t.val, 0])
theorem at_11 : ∀ t : Fin cfg0.N, win0_11.index t = ![t.val, 0] :=
  (by decide +kernel : ∀ t : Fin grid0.N, win0_11.index t = ![t.val, 0])

theorem blk_x (t : Fin cfg0.N) (r : Fin 512) (k : Fin 1024) (R : Fin 32768) (hR : R.val = 512 * t.val + r.val) :
    (iblk m c 0 t : Vec Ideal S512x1024 .f32) (ix2 r k) = m ((c : Thread nD τ).loc main_arg0) (ix2 R k) := by
  rw [← V_main_arg0 m c]
  show V m c main_arg0 _ = _
  refine congrArg (V m c main_arg0) (funext fun a => Fin.ext ?_)
  have h := at_0 t
  fin_cases a
  · show win0_0.index t 0 * 512 + 1 * r.val = R.val
    rw [h]; show t.val * 512 + 1 * r.val = R.val; omega
  · show win0_0.index t 1 * 1024 + 1 * k.val = k.val
    rw [h]; show 0 * 1024 + 1 * k.val = k.val; omega
theorem blk_w (t : Fin cfg0.N) (k : Fin 1024) (j : Fin 3584) :
    (iblk m c 1 t : Vec Ideal S1024x3584 .bf16) (ix2 k j) = wCat (m ((c : Thread nD τ).loc main_arg1)) (ix2 k j) := by
  rw [← V_w m c]
  show V m c main_v28 _ = _
  refine congrArg (V m c main_v28) (funext fun a => Fin.ext ?_)
  have h := at_1 t
  fin_cases a
  · show win0_1.index t 0 * 1024 + 1 * k.val = k.val
    rw [h]; show 0 * 1024 + 1 * k.val = k.val; omega
  · show win0_1.index t 1 * 3584 + 1 * j.val = j.val
    rw [h]; show 0 * 3584 + 1 * j.val = j.val; omega
theorem blk_g (t : Fin cfg0.N) (r : Fin 128) (k : Fin 1024) :
    (iblk m c 2 t : Vec Ideal S128x1024 .bf16) (ix2 r k) = p17 (m ((c : Thread nD τ).loc main_arg1)) (ix2 k r) := by
  rw [← V_g_apply m c]
  show V m c main_v30 _ = _
  refine congrArg (V m c main_v30) (funext fun a => Fin.ext ?_)
  have h := at_2 t
  fin_cases a
  · show win0_2.index t 0 * 128 + 1 * r.val = r.val
    rw [h]; show 0 * 128 + 1 * r.val = r.val; omega
  · show win0_2.index t 1 * 1024 + 1 * k.val = k.val
    rw [h]; show 0 * 1024 + 1 * k.val = k.val; omega

/-- A token's product with a column of the packed weight. -/
def rowE (X : S32768x1024.Idx → EReal) (A : FVec Ideal S1x1024x3368 .f32) (R : Fin 32768) (J : Fin 3584) : EReal :=
  ∑ k : Fin 1024, X (ix2 R k) * wCat A (ix2 k J)

theorem arr_3 (R : Fin 32768) (j : Fin 512) : (dats m 0 c).arrAt 3 cfg0.N (ix2 R j) = rowE (m ((c : Thread nD τ).loc main_arg0)) (m ((c : Thread nD τ).loc main_arg1)) R ⟨0 + j.val, by omega⟩ := by
  have hN : R.val / 512 < cfg0.N := by have := R.isLt; show R.val / 512 < 64; omega
  have hb := (Value.blocks3 m c ⟨R.val / 512, hN⟩ (flush0_3 _)).trans (Value.flushed3 m c ⟨R.val / 512, hN⟩)
  have hq := congrFun hb (ix2 ⟨R.val % 512, by omega⟩ j)
  refine Eq.trans ?_ (hq.trans ?_)
  · show _ = (dats m 0 c).arrAt 3 cfg0.N _
    refine congrArg ((dats m 0 c).arrAt 3 cfg0.N) (funext fun a => Fin.ext ?_)
    have h := at_3 ⟨R.val / 512, hN⟩
    fin_cases a
    · show R.val = win0_3.index ⟨R.val / 512, hN⟩ 0 * 512 + 1 * (R.val % 512)
      rw [h]; show R.val = R.val / 512 * 512 + 1 * (R.val % 512); omega
    · show j.val = win0_3.index ⟨R.val / 512, hN⟩ 1 * 512 + 1 * j.val
      rw [h]; show j.val = 0 * 512 + 1 * j.val; omega
  · refine (tile_3 _ _ _ ⟨R.val % 512, by omega⟩ j).trans ?_
    skip
    unfold rowE
    refine Finset.sum_congr rfl fun k _ => ?_
    rw [blk_x m c _ _ k R (by show R.val = 512 * (R.val / 512) + R.val % 512; omega), blk_w]
theorem arr_4 (R : Fin 32768) (j : Fin 256) : (dats m 0 c).arrAt 4 cfg0.N (ix2 R j) = rowE (m ((c : Thread nD τ).loc main_arg0)) (m ((c : Thread nD τ).loc main_arg1)) R ⟨512 + j.val, by omega⟩ := by
  have hN : R.val / 512 < cfg0.N := by have := R.isLt; show R.val / 512 < 64; omega
  have hb := (Value.blocks4 m c ⟨R.val / 512, hN⟩ (flush0_4 _)).trans (Value.flushed4 m c ⟨R.val / 512, hN⟩)
  have hq := congrFun hb (ix2 ⟨R.val % 512, by omega⟩ j)
  refine Eq.trans ?_ (hq.trans ?_)
  · show _ = (dats m 0 c).arrAt 4 cfg0.N _
    refine congrArg ((dats m 0 c).arrAt 4 cfg0.N) (funext fun a => Fin.ext ?_)
    have h := at_4 ⟨R.val / 512, hN⟩
    fin_cases a
    · show R.val = win0_4.index ⟨R.val / 512, hN⟩ 0 * 512 + 1 * (R.val % 512)
      rw [h]; show R.val = R.val / 512 * 512 + 1 * (R.val % 512); omega
    · show j.val = win0_4.index ⟨R.val / 512, hN⟩ 1 * 256 + 1 * j.val
      rw [h]; show j.val = 0 * 256 + 1 * j.val; omega
  · refine (tile_4 _ _ _ ⟨R.val % 512, by omega⟩ j).trans ?_
    skip
    unfold rowE
    refine Finset.sum_congr rfl fun k _ => ?_
    rw [blk_x m c _ _ k R (by show R.val = 512 * (R.val / 512) + R.val % 512; omega), blk_w]
theorem arr_5 (R : Fin 32768) (j : Fin 512) : (dats m 0 c).arrAt 5 cfg0.N (ix2 R j) = rowE (m ((c : Thread nD τ).loc main_arg0)) (m ((c : Thread nD τ).loc main_arg1)) R ⟨768 + j.val, by omega⟩ := by
  have hN : R.val / 512 < cfg0.N := by have := R.isLt; show R.val / 512 < 64; omega
  have hb := (Value.blocks5 m c ⟨R.val / 512, hN⟩ (flush0_5 _)).trans (Value.flushed5 m c ⟨R.val / 512, hN⟩)
  have hq := congrFun hb (ix2 ⟨R.val % 512, by omega⟩ j)
  refine Eq.trans ?_ (hq.trans ?_)
  · show _ = (dats m 0 c).arrAt 5 cfg0.N _
    refine congrArg ((dats m 0 c).arrAt 5 cfg0.N) (funext fun a => Fin.ext ?_)
    have h := at_5 ⟨R.val / 512, hN⟩
    fin_cases a
    · show R.val = win0_5.index ⟨R.val / 512, hN⟩ 0 * 512 + 1 * (R.val % 512)
      rw [h]; show R.val = R.val / 512 * 512 + 1 * (R.val % 512); omega
    · show j.val = win0_5.index ⟨R.val / 512, hN⟩ 1 * 512 + 1 * j.val
      rw [h]; show j.val = 0 * 512 + 1 * j.val; omega
  · refine (tile_5 _ _ _ ⟨R.val % 512, by omega⟩ j).trans ?_
    skip
    unfold rowE
    refine Finset.sum_congr rfl fun k _ => ?_
    rw [blk_x m c _ _ k R (by show R.val = 512 * (R.val / 512) + R.val % 512; omega), blk_w]
theorem arr_7 (R : Fin 32768) (j : Fin 512) : (dats m 0 c).arrAt 7 cfg0.N (ix2 R j) = silu (rowE (m ((c : Thread nD τ).loc main_arg0)) (m ((c : Thread nD τ).loc main_arg1)) R ⟨1408 + j.val, by omega⟩) := by
  have hN : R.val / 512 < cfg0.N := by have := R.isLt; show R.val / 512 < 64; omega
  have hb := (Value.blocks7 m c ⟨R.val / 512, hN⟩ (flush0_7 _)).trans (Value.flushed7 m c ⟨R.val / 512, hN⟩)
  have hq := congrFun hb (ix2 ⟨R.val % 512, by omega⟩ j)
  refine Eq.trans ?_ (hq.trans ?_)
  · show _ = (dats m 0 c).arrAt 7 cfg0.N _
    refine congrArg ((dats m 0 c).arrAt 7 cfg0.N) (funext fun a => Fin.ext ?_)
    have h := at_7 ⟨R.val / 512, hN⟩
    fin_cases a
    · show R.val = win0_7.index ⟨R.val / 512, hN⟩ 0 * 512 + 1 * (R.val % 512)
      rw [h]; show R.val = R.val / 512 * 512 + 1 * (R.val % 512); omega
    · show j.val = win0_7.index ⟨R.val / 512, hN⟩ 1 * 512 + 1 * j.val
      rw [h]; show j.val = 0 * 512 + 1 * j.val; omega
  · refine (tile_7 _ _ _ ⟨R.val % 512, by omega⟩ j).trans ?_
    refine congrArg silu ?_
    unfold rowE
    refine Finset.sum_congr rfl fun k _ => ?_
    rw [blk_x m c _ _ k R (by show R.val = 512 * (R.val / 512) + R.val % 512; omega), blk_w]
theorem arr_8 (R : Fin 32768) (j : Fin 512) : (dats m 0 c).arrAt 8 cfg0.N (ix2 R j) = rowE (m ((c : Thread nD τ).loc main_arg0)) (m ((c : Thread nD τ).loc main_arg1)) R ⟨1920 + j.val, by omega⟩ := by
  have hN : R.val / 512 < cfg0.N := by have := R.isLt; show R.val / 512 < 64; omega
  have hb := (Value.blocks8 m c ⟨R.val / 512, hN⟩ (flush0_8 _)).trans (Value.flushed8 m c ⟨R.val / 512, hN⟩)
  have hq := congrFun hb (ix2 ⟨R.val % 512, by omega⟩ j)
  refine Eq.trans ?_ (hq.trans ?_)
  · show _ = (dats m 0 c).arrAt 8 cfg0.N _
    refine congrArg ((dats m 0 c).arrAt 8 cfg0.N) (funext fun a => Fin.ext ?_)
    have h := at_8 ⟨R.val / 512, hN⟩
    fin_cases a
    · show R.val = win0_8.index ⟨R.val / 512, hN⟩ 0 * 512 + 1 * (R.val % 512)
      rw [h]; show R.val = R.val / 512 * 512 + 1 * (R.val % 512); omega
    · show j.val = win0_8.index ⟨R.val / 512, hN⟩ 1 * 512 + 1 * j.val
      rw [h]; show j.val = 0 * 512 + 1 * j.val; omega
  · refine (tile_8 _ _ _ ⟨R.val % 512, by omega⟩ j).trans ?_
    skip
    unfold rowE
    refine Finset.sum_congr rfl fun k _ => ?_
    rw [blk_x m c _ _ k R (by show R.val = 512 * (R.val / 512) + R.val % 512; omega), blk_w]
theorem arr_9 (R : Fin 32768) (j : Fin 512) : (dats m 0 c).arrAt 9 cfg0.N (ix2 R j) = rowE (m ((c : Thread nD τ).loc main_arg0)) (m ((c : Thread nD τ).loc main_arg1)) R ⟨2432 + j.val, by omega⟩ := by
  have hN : R.val / 512 < cfg0.N := by have := R.isLt; show R.val / 512 < 64; omega
  have hb := (Value.blocks9 m c ⟨R.val / 512, hN⟩ (flush0_9 _)).trans (Value.flushed9 m c ⟨R.val / 512, hN⟩)
  have hq := congrFun hb (ix2 ⟨R.val % 512, by omega⟩ j)
  refine Eq.trans ?_ (hq.trans ?_)
  · show _ = (dats m 0 c).arrAt 9 cfg0.N _
    refine congrArg ((dats m 0 c).arrAt 9 cfg0.N) (funext fun a => Fin.ext ?_)
    have h := at_9 ⟨R.val / 512, hN⟩
    fin_cases a
    · show R.val = win0_9.index ⟨R.val / 512, hN⟩ 0 * 512 + 1 * (R.val % 512)
      rw [h]; show R.val = R.val / 512 * 512 + 1 * (R.val % 512); omega
    · show j.val = win0_9.index ⟨R.val / 512, hN⟩ 1 * 512 + 1 * j.val
      rw [h]; show j.val = 0 * 512 + 1 * j.val; omega
  · refine (tile_9 _ _ _ ⟨R.val % 512, by omega⟩ j).trans ?_
    skip
    unfold rowE
    refine Finset.sum_congr rfl fun k _ => ?_
    rw [blk_x m c _ _ k R (by show R.val = 512 * (R.val / 512) + R.val % 512; omega), blk_w]
theorem arr_10 (R : Fin 32768) (j : Fin 128) : (dats m 0 c).arrAt 10 cfg0.N (ix2 R j) = rowE (m ((c : Thread nD τ).loc main_arg0)) (m ((c : Thread nD τ).loc main_arg1)) R ⟨2944 + j.val, by omega⟩ := by
  have hN : R.val / 512 < cfg0.N := by have := R.isLt; show R.val / 512 < 64; omega
  have hb := (Value.blocks10 m c ⟨R.val / 512, hN⟩ (flush0_10 _)).trans (Value.flushed10 m c ⟨R.val / 512, hN⟩)
  have hq := congrFun hb (ix2 ⟨R.val % 512, by omega⟩ j)
  refine Eq.trans ?_ (hq.trans ?_)
  · show _ = (dats m 0 c).arrAt 10 cfg0.N _
    refine congrArg ((dats m 0 c).arrAt 10 cfg0.N) (funext fun a => Fin.ext ?_)
    have h := at_10 ⟨R.val / 512, hN⟩
    fin_cases a
    · show R.val = win0_10.index ⟨R.val / 512, hN⟩ 0 * 512 + 1 * (R.val % 512)
      rw [h]; show R.val = R.val / 512 * 512 + 1 * (R.val % 512); omega
    · show j.val = win0_10.index ⟨R.val / 512, hN⟩ 1 * 128 + 1 * j.val
      rw [h]; show j.val = 0 * 128 + 1 * j.val; omega
  · refine (tile_10 _ _ _ ⟨R.val % 512, by omega⟩ j).trans ?_
    skip
    unfold rowE
    refine Finset.sum_congr rfl fun k _ => ?_
    rw [blk_x m c _ _ k R (by show R.val = 512 * (R.val / 512) + R.val % 512; omega), blk_w]
theorem arr_11 (R : Fin 32768) (j : Fin 512) : (dats m 0 c).arrAt 11 cfg0.N (ix2 R j) = silu (rowE (m ((c : Thread nD τ).loc main_arg0)) (m ((c : Thread nD τ).loc main_arg1)) R ⟨3072 + j.val, by omega⟩) := by
  have hN : R.val / 512 < cfg0.N := by have := R.isLt; show R.val / 512 < 64; omega
  have hb := (Value.blocks11 m c ⟨R.val / 512, hN⟩ (flush0_11 _)).trans (Value.flushed11 m c ⟨R.val / 512, hN⟩)
  have hq := congrFun hb (ix2 ⟨R.val % 512, by omega⟩ j)
  refine Eq.trans ?_ (hq.trans ?_)
  · show _ = (dats m 0 c).arrAt 11 cfg0.N _
    refine congrArg ((dats m 0 c).arrAt 11 cfg0.N) (funext fun a => Fin.ext ?_)
    have h := at_11 ⟨R.val / 512, hN⟩
    fin_cases a
    · show R.val = win0_11.index ⟨R.val / 512, hN⟩ 0 * 512 + 1 * (R.val % 512)
      rw [h]; show R.val = R.val / 512 * 512 + 1 * (R.val % 512); omega
    · show j.val = win0_11.index ⟨R.val / 512, hN⟩ 1 * 512 + 1 * j.val
      rw [h]; show j.val = 0 * 512 + 1 * j.val; omega
  · refine (tile_11 _ _ _ ⟨R.val % 512, by omega⟩ j).trans ?_
    refine congrArg silu ?_
    unfold rowE
    refine Finset.sum_congr rfl fun k _ => ?_
    rw [blk_x m c _ _ k R (by show R.val = 512 * (R.val / 512) + R.val % 512; omega), blk_w]
theorem arr_6 (r : Fin 128) (R : Fin 32768) : (dats m 0 c).arrAt 6 cfg0.N (ix2 r R)
    = ∑ k : Fin 1024, p17 (m ((c : Thread nD τ).loc main_arg1)) (ix2 k r) * m ((c : Thread nD τ).loc main_arg0) (ix2 R k) := by
  have hN : R.val / 512 < cfg0.N := by have := R.isLt; show R.val / 512 < 64; omega
  have hb := (Value.blocks6 m c ⟨R.val / 512, hN⟩ (flush0_6 _)).trans (Value.flushed6 m c ⟨R.val / 512, hN⟩)
  have hq := congrFun hb (ix2 r ⟨R.val % 512, by omega⟩)
  refine Eq.trans ?_ (hq.trans ?_)
  · show _ = (dats m 0 c).arrAt 6 cfg0.N _
    refine congrArg ((dats m 0 c).arrAt 6 cfg0.N) (funext fun a => Fin.ext ?_)
    have h := at_6 ⟨R.val / 512, hN⟩
    fin_cases a
    · show r.val = win0_6.index ⟨R.val / 512, hN⟩ 0 * 128 + 1 * r.val
      rw [h]; show r.val = 0 * 128 + 1 * r.val; omega
    · show R.val = win0_6.index ⟨R.val / 512, hN⟩ 1 * 512 + 1 * (R.val % 512)
      rw [h]; show R.val = R.val / 512 * 512 + 1 * (R.val % 512); omega
  · refine (tile_6 _ _ _ r ⟨R.val % 512, by omega⟩).trans ?_
    refine Finset.sum_congr rfl fun k _ => ?_
    rw [blk_x m c _ _ k R (by show R.val = 512 * (R.val / 512) + R.val % 512; omega), blk_g]

section
variable (X : S32768x1024.Idx → EReal) (A : FVec Ideal S1x1024x3368 .f32) (R : Fin 32768)

theorem row_q (j : Fin 512) : rowE X A R ⟨0 + j.val, by omega⟩ = dotE X A R ⟨0 + j.val, by omega⟩ * eighth := by
  unfold rowE dotE
  rw [eighth_eq, Cert.Mla.sum_mul_coe _ _ (by norm_num)]
  refine Finset.sum_congr rfl fun k _ => ?_
  rw [cat_22 A k j _ rfl, p22_apply, eighth_eq, mul_assoc]
theorem row_kv (j : Fin 512) : rowE X A R ⟨768 + j.val, by omega⟩ = dotE X A R ⟨768 + (j.val / 64 % 2 * 256 + j.val / 64 / 2 * 64 + j.val % 64), by omega⟩ := by
  unfold rowE dotE
  refine Finset.sum_congr rfl fun k _ => ?_
  rw [kv_apply A k j _ rfl]
theorem row_ga (j : Fin 128) : rowE X A R ⟨2944 + j.val, by omega⟩ = if h : j.val < 16 then dotE X A R ⟨2840 + j.val, by omega⟩ else 0 := by
  unfold rowE dotE
  by_cases h : j.val < 16
  · rw [dif_pos h]
    refine Finset.sum_congr rfl fun k _ => ?_
    rw [cat_19 A k j _ rfl, p19_apply, dif_pos h]
  · rw [dif_neg h]
    refine Finset.sum_eq_zero fun k _ => ?_
    rw [cat_19 A k j _ rfl, p19_apply, dif_neg h, mul_zero]
theorem row_ng (r : Fin 128) : (∑ k : Fin 1024, p17 A (ix2 k r) * X (ix2 R k))
    = if h : r.val < 32 ∧ r.val % 16 < 12 then dotE X A R ⟨1280 + (8 * (r.val % 16 / 4) + 4 * (r.val / 16) + r.val % 16 % 4), by omega⟩ else 0 := by
  unfold dotE
  by_cases h : r.val < 32 ∧ r.val % 16 < 12
  · rw [dif_pos h]
    refine Finset.sum_congr rfl fun k _ => ?_
    rw [p17_apply, dif_pos h, mul_comm]
  · rw [dif_neg h]
    refine Finset.sum_eq_zero fun k _ => ?_
    rw [p17_apply, dif_neg h, zero_mul]
theorem row_kvc (j : Fin 256) : rowE X A R ⟨512 + j.val, by omega⟩ = dotE X A R ⟨512 + j.val, by omega⟩ := by
  unfold rowE dotE
  refine Finset.sum_congr rfl fun k _ => ?_
  rw [cat_23 A k j _ rfl, p23_apply]
theorem row_nz (j : Fin 512) : rowE X A R ⟨1408 + j.val, by omega⟩ = dotE X A R ⟨1304 + j.val, by omega⟩ := by
  unfold rowE dotE
  refine Finset.sum_congr rfl fun k _ => ?_
  rw [cat_24 A k j _ rfl, p24_apply]
theorem row_gqk (j : Fin 512) : rowE X A R ⟨1920 + j.val, by omega⟩ = dotE X A R ⟨1816 + j.val, by omega⟩ := by
  unfold rowE dotE
  refine Finset.sum_congr rfl fun k _ => ?_
  rw [cat_25 A k j _ rfl, p25_apply]
theorem row_gv (j : Fin 512) : rowE X A R ⟨2432 + j.val, by omega⟩ = dotE X A R ⟨2328 + j.val, by omega⟩ := by
  unfold rowE dotE
  refine Finset.sum_congr rfl fun k _ => ?_
  rw [cat_26 A k j _ rfl, p26_apply]
theorem row_gz (j : Fin 512) : rowE X A R ⟨3072 + j.val, by omega⟩ = dotE X A R ⟨2856 + j.val, by omega⟩ := by
  unfold rowE dotE
  refine Finset.sum_congr rfl fun k _ => ?_
  rw [cat_27 A k j _ rfl, p27_apply]

end

end Cert.InProj

end
-- ==== Proof.InRef.lean ====
/- The input projection's reference, entry by entry. -/
module

public import proofs.«01_k».proof.Proof.InTile
public import proofs.«01_k».proof.Proof.Gen.Reference3Ideal.Run
public import Idealize.ShloMosaic.Lib.KernelVsHost
public import Idealize.ShloMosaic.Lib.StackMember
public import Idealize.ShloMosaic.Lib.IdealHost

@[expose] public section

set_option maxRecDepth 16384

noncomputable section

namespace Cert.Reference3Ideal.In

open Idealize.ShloMosaic Idealize.ShloMosaic.TcCoe Idealize.SL.Sem Cert.Reference3Ideal Cert.Reference3Ideal.Gen
open Cert.InProj (silu eighth dotE)

variable (X : FVec Ideal S32768x1024 .f32) (A : FVec Ideal S1x1024x3368 .f32)

/-- Every token's product with the whole weight. -/
def hid : FVec Ideal S32768x3368 .f32 :=
  Host.dotGeneral dot_S32768x1024_S1024x3368_S32768x3368_1_0_0_1_n_n none X (shapeCast _ A shapeCasts_S1x1024x3368_S1024x3368)
theorem w_apply (k : Fin 1024) (c : Fin 3368) : shapeCast S1024x3368 A shapeCasts_S1x1024x3368_S1024x3368 (ix2 k c) = A (ix3 0 k c) := by
  refine shapeCast_apply _ _ (ix2 k c) (ix3 0 k c) ?_
  rw [Shape.rowMajor_val_two, Shape.rowMajor_val_three]
  show (0 * 1024 + k.val) * 3368 + c.val = k.val * 3368 + c.val
  omega
theorem hid_apply (R : Fin 32768) (c : Fin 3368) : hid X A (ix2 R c) = dotE X A R c := by
  unfold hid dotE
  refine (StackMember.dotGeneral_plain_apply (m := 32768) (k := 1024) (n := 3368) none X _ R c).trans ?_
  refine Finset.sum_congr rfl fun k _ => ?_
  exact congrArg (X (ix2 R k) * ·) (w_apply A k c)
theorem eighth_f32 : Ideal.ofBits .f32 0x3E000000#32 = eighth := by
  unfold eighth
  simp [Ideal.ofBits, Ideal.ieee]
  rw [← EReal.coe_mul, ← EReal.coe_mul]
  norm_num
theorem zero_word (i : S_.Idx) : (sitofp .f32 (constantI S_ 32 0#32) : FVec Ideal S_ .f32) i = (0 : EReal) := by
  show (((0#32 : BitVec 32).toInt : ℝ) : EReal) = 0
  simp
/-- SiLU, one over one plus the exponential. -/
theorem silu_eq (h : EReal) : h * Ideal.div (Ideal.ofBits .f32 0x3F800000#32) (Ideal.ofBits .f32 0x3F800000#32 + Ideal.exp (-h)) = silu h := by
  unfold silu Ideal.logistic
  rw [Ideal.ofBits_one_f32]

def t21 : FVec Ideal S32768x512 .bf16 := truncf .bf16 (mulf (extractStridedSlice S32768x512 ![0, 0] (hid X A) slices_S32768x3368_S32768x512_0_0) (broadcastInDim S32768x512 ![] bcast_S_S32768x512 (constant S_ .f32 0x3E000000#32))) bitsLt_bf16_f32
def t22 : FVec Ideal S32768x256 .f32 := extractStridedSlice S32768x256 ![0, 0] (extractStridedSlice S32768x768 ![0, 512] (hid X A) slices_S32768x3368_S32768x768_0_512) slices_S32768x768_S32768x256_0_0
def t24 : FVec Ideal S32768x512 .bf16 := truncf .bf16 (shapeCast _ (transpose S32768x2x2x2x64 [0, 2, 3, 1, 4] (extractStridedSlice S32768x2x2x2x64 ![0, 1, 0, 0, 0] (shapeCast _ (extractStridedSlice S32768x768 ![0, 512] (hid X A) slices_S32768x3368_S32768x768_0_512) shapeCasts_S32768x768_S32768x3x2x2x64) slices_S32768x3x2x2x64_S32768x2x2x2x64_0_1_0_0_0) transposes_S32768x2x2x2x64_S32768x2x2x2x64_0_2_3_1_4) shapeCasts_S32768x2x2x2x64_S32768x512) bitsLt_bf16_f32
def t25 : FVec Ideal S128x32768 .f32 := pad S128x32768 ![0, 0] ![96, 0] ![0, 0] (shapeCast _ (pad S2x16x32768 ![0, 0, 0] ![0, 4, 0] ![0, 0, 0] (shapeCast _ (transpose S2x3x4x32768 [2, 1, 3, 0] (shapeCast _ (extractStridedSlice S32768x24 ![0, 1280] (hid X A) slices_S32768x3368_S32768x24_0_1280) shapeCasts_S32768x24_S32768x3x2x4) transposes_S32768x3x2x4_S2x3x4x32768_2_1_3_0) shapeCasts_S2x3x4x32768_S2x12x32768) (sitofp .f32 (constantI S_ 32 0#32)) pads_S2x12x32768_S2x16x32768_000_040_000 h_S_) shapeCasts_S2x16x32768_S32x32768) (sitofp .f32 (constantI S_ 32 0#32)) pads_S32x32768_S128x32768_0960_000 h_S_
def t27 : FVec Ideal S32768x512 .bf16 := truncf .bf16 (mulf (extractStridedSlice S32768x512 ![0, 1304] (hid X A) slices_S32768x3368_S32768x512_0_1304) (Host.divf (broadcastInDim S32768x512 ![] bcast_S_S32768x512 (constant S_ .f32 0x3F800000#32)) (addf (broadcastInDim S32768x512 ![] bcast_S_S32768x512 (constant S_ .f32 0x3F800000#32)) (Host.exp (Host.negf (extractStridedSlice S32768x512 ![0, 1304] (hid X A) slices_S32768x3368_S32768x512_0_1304)))))) bitsLt_bf16_f32
def t28 : FVec Ideal S32768x512 .f32 := concatenate S32768x512 1 [⟨S32768x256, (extractStridedSlice S32768x256 ![0, 1816] (hid X A) slices_S32768x3368_S32768x256_0_1816)⟩, ⟨S32768x256, (extractStridedSlice S32768x256 ![0, 2072] (hid X A) slices_S32768x3368_S32768x256_0_2072)⟩] concatenates_S32768x256_S32768x256_S32768x512_d1
def t29 : FVec Ideal S32768x512 .bf16 := truncf .bf16 (extractStridedSlice S32768x512 ![0, 2328] (hid X A) slices_S32768x3368_S32768x512_0_2328) bitsLt_bf16_f32
def t30 : FVec Ideal S32768x128 .f32 := pad S32768x128 ![0, 0] ![0, 112] ![0, 0] (extractStridedSlice S32768x16 ![0, 2840] (hid X A) slices_S32768x3368_S32768x16_0_2840) (sitofp .f32 (constantI S_ 32 0#32)) pads_S32768x16_S32768x128_000_01120 h_S_
def t32 : FVec Ideal S32768x512 .bf16 := truncf .bf16 (mulf (extractStridedSlice S32768x512 ![0, 2856] (hid X A) slices_S32768x3368_S32768x512_0_2856) (Host.divf (broadcastInDim S32768x512 ![] bcast_S_S32768x512 (constant S_ .f32 0x3F800000#32)) (addf (broadcastInDim S32768x512 ![] bcast_S_S32768x512 (constant S_ .f32 0x3F800000#32)) (Host.exp (Host.negf (extractStridedSlice S32768x512 ![0, 2856] (hid X A) slices_S32768x3368_S32768x512_0_2856)))))) bitsLt_bf16_f32

theorem t21_apply (R : Fin 32768) (j : Fin 512) : t21 X A (ix2 R j) = dotE X A R ⟨0 + j.val, by omega⟩ * eighth := by
  unfold t21
  rw [← eighth_f32]
  pointwise [hid_apply]
theorem t22_apply (R : Fin 32768) (j : Fin 256) : t22 X A (ix2 R j) = dotE X A R ⟨512 + j.val, by omega⟩ := by
  unfold t22
  refine (extractStridedSlice_apply _ _ slices_S32768x768_S32768x256_0_0 (ix2 R j) (ix2 R ⟨j.val, by omega⟩) ?_).trans ?_
  · intro a; fin_cases a
    · show R.val = 0 + R.val; omega
    · show j.val = 0 + j.val; omega
  refine (extractStridedSlice_apply _ _ slices_S32768x3368_S32768x768_0_512 (ix2 R ⟨j.val, by omega⟩) (ix2 R ⟨512 + j.val, by omega⟩) ?_).trans ?_
  · intro a; fin_cases a
    · show R.val = 0 + R.val; omega
    · rfl
  exact hid_apply X A R _
theorem t24_apply (R : Fin 32768) (j : Fin 512) : t24 X A (ix2 R j) = dotE X A R ⟨768 + (j.val / 64 % 2 * 256 + j.val / 64 / 2 * 64 + j.val % 64), by omega⟩ := by
  unfold t24
  refine ((?_ : shapeCast S32768x512 (transpose S32768x2x2x2x64 [0, 2, 3, 1, 4] (extractStridedSlice S32768x2x2x2x64 ![0, 1, 0, 0, 0] (shapeCast S32768x3x2x2x64 (extractStridedSlice S32768x768 ![0, 512] (hid X A) slices_S32768x3368_S32768x768_0_512) shapeCasts_S32768x768_S32768x3x2x2x64) slices_S32768x3x2x2x64_S32768x2x2x2x64_0_1_0_0_0) transposes_S32768x2x2x2x64_S32768x2x2x2x64_0_2_3_1_4) shapeCasts_S32768x2x2x2x64_S32768x512 (ix2 R j) = _))
  refine (shapeCast_apply _ _ (ix2 R j) (ix5 R ⟨j.val / 256, by omega⟩ ⟨j.val / 128 % 2, by omega⟩ ⟨j.val / 64 % 2, by omega⟩ ⟨j.val % 64, by omega⟩) ?_).trans ?_
  · rw [Shape.rowMajor_val_two, Shape.rowMajor_val_five]
    show (((R.val * 2 + j.val / 256) * 2 + j.val / 128 % 2) * 2 + j.val / 64 % 2) * 64 + j.val % 64 = R.val * 512 + j.val
    omega
  refine (transpose_apply [0, 2, 3, 1, 4] _ transposes_S32768x2x2x2x64_S32768x2x2x2x64_0_2_3_1_4 _
    (ix5 R ⟨j.val / 64 % 2, by omega⟩ ⟨j.val / 256, by omega⟩ ⟨j.val / 128 % 2, by omega⟩ ⟨j.val % 64, by omega⟩) ?_).trans ?_
  · intro a; fin_cases a <;> rfl
  refine (extractStridedSlice_apply _ _ slices_S32768x3x2x2x64_S32768x2x2x2x64_0_1_0_0_0 _
    (ix5 R ⟨1 + j.val / 64 % 2, by omega⟩ ⟨j.val / 256, by omega⟩ ⟨j.val / 128 % 2, by omega⟩ ⟨j.val % 64, by omega⟩) ?_).trans ?_
  · intro a; fin_cases a
    · show R.val = 0 + R.val; omega
    · rfl
    · show j.val / 256 = 0 + j.val / 256; omega
    · show j.val / 128 % 2 = 0 + j.val / 128 % 2; omega
    · show j.val % 64 = 0 + j.val % 64; omega
  refine (shapeCast_apply _ _ _ (ix2 R ⟨(1 + j.val / 64 % 2) * 256 + j.val / 256 * 128 + j.val / 128 % 2 * 64 + j.val % 64, by omega⟩) ?_).trans ?_
  · rw [Shape.rowMajor_val_two, Shape.rowMajor_val_five]
    show R.val * 768 + ((1 + j.val / 64 % 2) * 256 + j.val / 256 * 128 + j.val / 128 % 2 * 64 + j.val % 64)
      = (((R.val * 3 + (1 + j.val / 64 % 2)) * 2 + j.val / 256) * 2 + j.val / 128 % 2) * 64 + j.val % 64
    omega
  refine (extractStridedSlice_apply _ _ slices_S32768x3368_S32768x768_0_512 _ (ix2 R ⟨768 + (j.val / 64 % 2 * 256 + j.val / 64 / 2 * 64 + j.val % 64), by omega⟩) ?_).trans ?_
  · intro a; fin_cases a
    · show R.val = 0 + R.val; omega
    · show 768 + (j.val / 64 % 2 * 256 + j.val / 64 / 2 * 64 + j.val % 64) = 512 + ((1 + j.val / 64 % 2) * 256 + j.val / 256 * 128 + j.val / 128 % 2 * 64 + j.val % 64)
      omega
  exact hid_apply X A R _
/-- The gates, 16 rows for each group, of which 12 are used. -/
def gat : FVec Ideal S2x16x32768 .f32 :=
  pad S2x16x32768 ![0, 0, 0] ![0, 4, 0] ![0, 0, 0] (shapeCast _ (transpose S2x3x4x32768 [2, 1, 3, 0] (shapeCast _ (extractStridedSlice S32768x24 ![0, 1280] (hid X A) slices_S32768x3368_S32768x24_0_1280) shapeCasts_S32768x24_S32768x3x2x4) transposes_S32768x3x2x4_S2x3x4x32768_2_1_3_0) shapeCasts_S2x3x4x32768_S2x12x32768) (sitofp .f32 (constantI S_ 32 0#32)) pads_S2x12x32768_S2x16x32768_000_040_000 h_S_
theorem gat_apply (g : Fin 2) (i : Fin 16) (R : Fin 32768) :
    gat X A (ix3 g i R) = if h : i.val < 12 then dotE X A R ⟨1280 + (8 * (i.val / 4) + 4 * g.val + i.val % 4), by omega⟩ else 0 := by
  unfold gat
  by_cases h : i.val < 12
  · rw [dif_pos h]
    refine (pad_apply_of_inside _ _ _ _ _ _ _ (ix3 g i R) (ix3 g ⟨i.val, h⟩ R) ?_).trans ?_
    · intro a; fin_cases a
      · show g.val = 0 + g.val * (0 + 1); omega
      · show i.val = 0 + i.val * (0 + 1); omega
      · show R.val = 0 + R.val * (0 + 1); omega
    refine (shapeCast_apply _ _ (ix3 g ⟨i.val, h⟩ R) (ix4 g ⟨i.val / 4, by omega⟩ ⟨i.val % 4, by omega⟩ R) ?_).trans ?_
    · rw [Shape.rowMajor_val_three, Shape.rowMajor_val_four]
      show ((g.val * 3 + i.val / 4) * 4 + i.val % 4) * 32768 + R.val = (g.val * 12 + i.val) * 32768 + R.val
      omega
    refine (transpose_apply [2, 1, 3, 0] _ transposes_S32768x3x2x4_S2x3x4x32768_2_1_3_0 (ix4 g ⟨i.val / 4, by omega⟩ ⟨i.val % 4, by omega⟩ R) (ix4 R ⟨i.val / 4, by omega⟩ g ⟨i.val % 4, by omega⟩) ?_).trans ?_
    · intro a; fin_cases a <;> rfl
    refine (shapeCast_apply _ _ (ix4 R ⟨i.val / 4, by omega⟩ g ⟨i.val % 4, by omega⟩) (ix2 R ⟨8 * (i.val / 4) + 4 * g.val + i.val % 4, by omega⟩) ?_).trans ?_
    · rw [Shape.rowMajor_val_two, Shape.rowMajor_val_four]
      show R.val * 24 + (8 * (i.val / 4) + 4 * g.val + i.val % 4) = ((R.val * 3 + i.val / 4) * 2 + g.val) * 4 + i.val % 4
      omega
    refine (extractStridedSlice_apply _ _ slices_S32768x3368_S32768x24_0_1280 _ (ix2 R ⟨1280 + (8 * (i.val / 4) + 4 * g.val + i.val % 4), by omega⟩) ?_).trans ?_
    · intro a; fin_cases a
      · show R.val = 0 + R.val; omega
      · rfl
    exact hid_apply X A R _
  · rw [dif_neg h]
    refine (pad_apply_of_not_inside _ _ _ _ _ _ _ (ix3 g i R) 1 ?_).trans (zero_word _)
    intro hc
    exact h (by have h3 : (i.val - 0) / (0 + 1) < 12 := hc.2.2; omega)
theorem t25_apply (r : Fin 128) (R : Fin 32768) : t25 X A (ix2 r R)
    = if h : r.val < 32 ∧ r.val % 16 < 12 then dotE X A R ⟨1280 + (8 * (r.val % 16 / 4) + 4 * (r.val / 16) + r.val % 16 % 4), by omega⟩ else 0 := by
  have e : t25 X A = pad S128x32768 ![0, 0] ![96, 0] ![0, 0] (shapeCast S32x32768 (gat X A) shapeCasts_S2x16x32768_S32x32768) (sitofp .f32 (constantI S_ 32 0#32)) pads_S32x32768_S128x32768_0960_000 h_S_ := rfl
  refine (congrFun e (ix2 r R)).trans ?_
  by_cases h : r.val < 32
  · refine (pad_apply_of_inside _ _ _ _ _ _ _ (ix2 r R) (ix2 ⟨r.val, h⟩ R) ?_).trans ?_
    · intro a; fin_cases a
      · show r.val = 0 + r.val * (0 + 1); omega
      · show R.val = 0 + R.val * (0 + 1); omega
    refine (shapeCast_apply _ _ (ix2 ⟨r.val, h⟩ R) (ix3 ⟨r.val / 16, by omega⟩ ⟨r.val % 16, by omega⟩ R) ?_).trans ?_
    · rw [Shape.rowMajor_val_two, Shape.rowMajor_val_three]
      show (r.val / 16 * 16 + r.val % 16) * 32768 + R.val = r.val * 32768 + R.val
      omega
    rw [gat_apply]
    by_cases h2 : r.val % 16 < 12
    · rw [dif_pos h2, dif_pos ⟨h, h2⟩]
    · rw [dif_neg h2, dif_neg fun hc => h2 hc.2]
  · rw [dif_neg fun hc => h hc.1]
    refine (pad_apply_of_not_inside _ _ _ _ _ _ _ (ix2 r R) 0 ?_).trans (zero_word _)
    intro hc
    exact h (by have h3 : (r.val - 0) / (0 + 1) < 32 := hc.2.2; omega)
theorem t27_apply (R : Fin 32768) (j : Fin 512) : t27 X A (ix2 R j) = silu (dotE X A R ⟨1304 + j.val, by omega⟩) := by
  unfold t27
  rw [← silu_eq]
  pointwise [hid_apply]
theorem t32_apply (R : Fin 32768) (j : Fin 512) : t32 X A (ix2 R j) = silu (dotE X A R ⟨2856 + j.val, by omega⟩) := by
  unfold t32
  rw [← silu_eq]
  pointwise [hid_apply]
theorem t28_apply (R : Fin 32768) (j : Fin 512) : t28 X A (ix2 R j) = dotE X A R ⟨1816 + j.val, by omega⟩ := by
  unfold t28
  by_cases h : j.val < 256
  · refine (concatenate_apply_piece (t := S32768x512) 1 _ _ (ix2 R j) 0 (by show 0 < 2; decide) S32768x256 _ rfl rfl 0 rfl (ix2 R ⟨j.val, h⟩) ?_ (by show 0 + j.val = j.val; omega)).trans ?_
    · intro b hb; fin_cases b
      · rfl
      · exact absurd rfl hb
    refine (extractStridedSlice_apply _ _ slices_S32768x3368_S32768x256_0_1816 _ (ix2 R ⟨1816 + j.val, by omega⟩) ?_).trans ?_
    · intro a; fin_cases a
      · show R.val = 0 + R.val; omega
      · rfl
    exact hid_apply X A R _
  · refine (concatenate_apply_piece (t := S32768x512) 1 _ _ (ix2 R j) 1 (by show 1 < 2; decide) S32768x256 _ rfl rfl 256 rfl (ix2 R ⟨j.val - 256, by omega⟩) ?_ (by show 256 + (j.val - 256) = j.val; omega)).trans ?_
    · intro b hb; fin_cases b
      · rfl
      · exact absurd rfl hb
    refine (extractStridedSlice_apply _ _ slices_S32768x3368_S32768x256_0_2072 _ (ix2 R ⟨1816 + j.val, by omega⟩) ?_).trans ?_
    · intro a; fin_cases a
      · show R.val = 0 + R.val; omega
      · show 1816 + j.val = 2072 + (j.val - 256); omega
    exact hid_apply X A R _
theorem t29_apply (R : Fin 32768) (j : Fin 512) : t29 X A (ix2 R j) = dotE X A R ⟨2328 + j.val, by omega⟩ := by
  unfold t29
  pointwise [hid_apply]
theorem t30_apply (R : Fin 32768) (j : Fin 128) : t30 X A (ix2 R j) = if h : j.val < 16 then dotE X A R ⟨2840 + j.val, by omega⟩ else 0 := by
  unfold t30
  by_cases h : j.val < 16
  · rw [dif_pos h]
    refine (pad_apply_of_inside _ _ _ _ _ _ _ (ix2 R j) (ix2 R ⟨j.val, h⟩) ?_).trans ?_
    · intro a; fin_cases a
      · show R.val = 0 + R.val * (0 + 1); omega
      · show j.val = 0 + j.val * (0 + 1); omega
    refine (extractStridedSlice_apply _ _ slices_S32768x3368_S32768x16_0_2840 _ (ix2 R ⟨2840 + j.val, by omega⟩) ?_).trans ?_
    · intro a; fin_cases a
      · show R.val = 0 + R.val; omega
      · rfl
    exact hid_apply X A R _
  · rw [dif_neg h]
    refine (pad_apply_of_not_inside _ _ _ _ _ _ _ (ix2 R j) 1 ?_).trans (zero_word _)
    intro hc
    exact h (by have h3 : (j.val - 0) / (0 + 1) < 16 := hc.2.2; omega)

end Cert.Reference3Ideal.In

end
-- ==== Proof.InJoin.lean ====
/- The input projection's results and its reference's, one equation for each of the nine. -/
module

public import proofs.«01_k».proof.Proof.InRows
public import proofs.«01_k».proof.Proof.InRef

@[expose] public section

set_option maxRecDepth 16384

noncomputable section

namespace Cert.InProj

open Idealize.ShloMosaic Idealize.ShloMosaic.TcCoe Cert.Kernel3Ideal Cert.Kernel3Ideal.Gen
open Cert.Reference3Ideal.In

variable (m : (ℓ : Loc nD τ sig) → Buf (Elt Ideal) ℓ) (c : Dev nD)

theorem ix_two {a b : ℕ} (j : (⟨2, ![a, b]⟩ : Shape).Idx) : ∃ (p : Fin a) (q : Fin b), j = ix2 p q := ⟨j 0, j 1, by funext x; fin_cases x <;> rfl⟩

theorem eq_0 : t21 (m ((c : Thread nD τ).loc main_arg0)) (m ((c : Thread nD τ).loc main_arg1)) = (dats m 0 c).arrAt 3 cfg0.N := by
  funext j
  obtain ⟨p, q, rfl⟩ := ix_two (a := 32768) (b := 512) j
  refine (t21_apply _ _ p q).trans (((arr_3 m c p q).trans ?_).symm)
  exact row_q _ _ p q
theorem eq_1 : t22 (m ((c : Thread nD τ).loc main_arg0)) (m ((c : Thread nD τ).loc main_arg1)) = (dats m 0 c).arrAt 4 cfg0.N := by
  funext j
  obtain ⟨p, q, rfl⟩ := ix_two (a := 32768) (b := 256) j
  refine (t22_apply _ _ p q).trans (((arr_4 m c p q).trans ?_).symm)
  exact row_kvc _ _ p q
theorem eq_2 : t24 (m ((c : Thread nD τ).loc main_arg0)) (m ((c : Thread nD τ).loc main_arg1)) = (dats m 0 c).arrAt 5 cfg0.N := by
  funext j
  obtain ⟨p, q, rfl⟩ := ix_two (a := 32768) (b := 512) j
  refine (t24_apply _ _ p q).trans (((arr_5 m c p q).trans ?_).symm)
  exact row_kv _ _ p q
theorem eq_3 : t25 (m ((c : Thread nD τ).loc main_arg0)) (m ((c : Thread nD τ).loc main_arg1)) = (dats m 0 c).arrAt 6 cfg0.N := by
  funext j
  obtain ⟨p, q, rfl⟩ := ix_two (a := 128) (b := 32768) j
  refine (t25_apply _ _ p q).trans (((arr_6 m c p q).trans ?_).symm)
  exact row_ng _ _ q p
theorem eq_4 : t27 (m ((c : Thread nD τ).loc main_arg0)) (m ((c : Thread nD τ).loc main_arg1)) = (dats m 0 c).arrAt 7 cfg0.N := by
  funext j
  obtain ⟨p, q, rfl⟩ := ix_two (a := 32768) (b := 512) j
  refine (t27_apply _ _ p q).trans (((arr_7 m c p q).trans ?_).symm)
  exact congrArg silu (row_nz _ _ p q)
theorem eq_5 : t28 (m ((c : Thread nD τ).loc main_arg0)) (m ((c : Thread nD τ).loc main_arg1)) = (dats m 0 c).arrAt 8 cfg0.N := by
  funext j
  obtain ⟨p, q, rfl⟩ := ix_two (a := 32768) (b := 512) j
  refine (t28_apply _ _ p q).trans (((arr_8 m c p q).trans ?_).symm)
  exact row_gqk _ _ p q
theorem eq_6 : t29 (m ((c : Thread nD τ).loc main_arg0)) (m ((c : Thread nD τ).loc main_arg1)) = (dats m 0 c).arrAt 9 cfg0.N := by
  funext j
  obtain ⟨p, q, rfl⟩ := ix_two (a := 32768) (b := 512) j
  refine (t29_apply _ _ p q).trans (((arr_9 m c p q).trans ?_).symm)
  exact row_gv _ _ p q
theorem eq_7 : t30 (m ((c : Thread nD τ).loc main_arg0)) (m ((c : Thread nD τ).loc main_arg1)) = (dats m 0 c).arrAt 10 cfg0.N := by
  funext j
  obtain ⟨p, q, rfl⟩ := ix_two (a := 32768) (b := 128) j
  refine (t30_apply _ _ p q).trans (((arr_10 m c p q).trans ?_).symm)
  exact row_ga _ _ p q
theorem eq_8 : t32 (m ((c : Thread nD τ).loc main_arg0)) (m ((c : Thread nD τ).loc main_arg1)) = (dats m 0 c).arrAt 11 cfg0.N := by
  funext j
  obtain ⟨p, q, rfl⟩ := ix_two (a := 32768) (b := 512) j
  refine (t32_apply _ _ p q).trans (((arr_11 m c p q).trans ?_).symm)
  exact congrArg silu (row_gz _ _ p q)

end Cert.InProj

end
-- ==== Proof.OdRun.lean ====
/- What the odd layer input kernel's body leaves in each output of a tile, with the proof that it runs. -/
module

public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
/-- What the body's stores leave in each output, as pieces, with the proof that the body runs to them. -/
noncomputable def kernelRun0_A (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S384x2048 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1x384 .f32) (harg12 : arg12.IsWhole) (arg13 : Memref sig .tc .vmem S1x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x1024 .f32) (harg20 : arg20.IsWhole) (arg21 : Memref sig .tc .vmem S512x2048 .bf16) (harg21 : arg21.IsWhole) (arg22 : Memref sig .tc .vmem S512x1024 .bf16) (harg22 : arg22.IsWhole) (arg23 : Memref sig .tc .vmem S512x128 .bf16) (harg23 : arg23.IsWhole) (arg24 : Memref sig .tc .vmem S512x1024 .bf16) (harg24 : arg24.IsWhole) (arg25 : Memref sig .tc .vmem S512x1024 .bf16) (harg25 : arg25.IsWhole)
    (x0 : Vec F S512x512 .bf16) (x1 : Vec F S512x512 .bf16) (x2 : Vec F S512x512 .bf16) (x3 : Vec F S512x1024 .f32) (x4 : Vec F S1024x1024 .bf16) (x5 : Vec F S1x1024 .f32) (x6 : Vec F S1x1024 .f32) (x7 : Vec F S1024x1792 .bf16) (x8 : Vec F S384x2048 .bf16) (x9 : Vec F S256x1024 .bf16) (x10 : Vec F S256x1024 .bf16) (x11 : Vec F S1x384 .f32) (x12 : Vec F S1x256 .f32) (x13 : Vec F S512x128 .f32) (x14 : Vec F S512x128 .f32) (x15 : Vec F S512x128 .f32) (x16 : Vec F S512x128 .f32) (x17 : Vec F S512x128 .f32) (x18 : Vec F S512x128 .f32) :
    Σ' (L19 : List (View.Piece (Elt F) S512x1024 .f32)), Σ' (L20 : List (View.Piece (Elt F) S512x2048 .bf16)), Σ' (L21 : List (View.Piece (Elt F) S512x1024 .bf16)), Σ' (L22 : List (View.Piece (Elt F) S512x128 .bf16)), Σ' (L23 : List (View.Piece (Elt F) S512x1024 .bf16)), { L24 : List (View.Piece (Elt F) S512x1024 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24)) -∗ K ⟨⟩))
          ⊢ wp frame (wpE (defs₀ (F := F)) Variants.none c none) E (cc0_even_out_odd_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_even_out_odd_in_proj_eq_skeleton]; unfold cc0_even_out_odd_in_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.Kernel4Ideal.Gen

end
-- ==== Proof.OdFrame.lean ====
/- The run of the odd layer input call: what a tile of it leaves, and its outputs after the last tile. -/
module

public import proofs.«01_k».proof.Proof.OdRun
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
section
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S384x2048 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1x384 .f32) (harg12 : arg12.IsWhole) (arg13 : Memref sig .tc .vmem S1x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x1024 .f32) (harg20 : arg20.IsWhole) (arg21 : Memref sig .tc .vmem S512x2048 .bf16) (harg21 : arg21.IsWhole) (arg22 : Memref sig .tc .vmem S512x1024 .bf16) (harg22 : arg22.IsWhole) (arg23 : Memref sig .tc .vmem S512x128 .bf16) (harg23 : arg23.IsWhole) (arg24 : Memref sig .tc .vmem S512x1024 .bf16) (harg24 : arg24.IsWhole) (arg25 : Memref sig .tc .vmem S512x1024 .bf16) (harg25 : arg25.IsWhole)
    (x0 : Vec F S512x512 .bf16) (x1 : Vec F S512x512 .bf16) (x2 : Vec F S512x512 .bf16) (x3 : Vec F S512x1024 .f32) (x4 : Vec F S1024x1024 .bf16) (x5 : Vec F S1x1024 .f32) (x6 : Vec F S1x1024 .f32) (x7 : Vec F S1024x1792 .bf16) (x8 : Vec F S384x2048 .bf16) (x9 : Vec F S256x1024 .bf16) (x10 : Vec F S256x1024 .bf16) (x11 : Vec F S1x384 .f32) (x12 : Vec F S1x256 .f32) (x13 : Vec F S512x128 .f32) (x14 : Vec F S512x128 .f32) (x15 : Vec F S512x128 .f32) (x16 : Vec F S512x128 .f32) (x17 : Vec F S512x128 .f32) (x18 : Vec F S512x128 .f32)

theorem cover0_A_19 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).1 S256x1024.size (by sl_kernel_rfl) y

def out0_A_19 : Vec F S512x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).1)

theorem cover0_A_20 (y : S512x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.1 S256x128.size (by sl_kernel_rfl) y

def out0_A_20 : Vec F S512x2048 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.1)

theorem cover0_A_21 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.1 S256x1024.size (by sl_kernel_rfl) y

def out0_A_21 : Vec F S512x1024 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.1)

theorem cover0_A_22 (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.1 S256x128.size (by sl_kernel_rfl) y

def out0_A_22 : Vec F S512x128 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.1)

theorem cover0_A_23 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.1 S256x1024.size (by sl_kernel_rfl) y

def out0_A_23 : Vec F S512x1024 .bf16 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.1)

theorem cover0_A_24 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.2.1 ![256, 256] (by sl_kernel_rfl) y

def out0_A_24 : Vec F S512x1024 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.2.1)

end

def outsAt0 (c : Dev nD) (t : Fin cfg0.N) : Vec F S512x1024 .f32 × Vec F S512x2048 .bf16 × Vec F S512x1024 .bf16 × Vec F S512x128 .bf16 × Vec F S512x1024 .bf16 × Vec F S512x1024 .bf16 :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t).1
    | ⟨20, _⟩ => (outsAt0 m c t).2.1
    | ⟨21, _⟩ => (outsAt0 m c t).2.2.1
    | ⟨22, _⟩ => (outsAt0 m c t).2.2.2.1
    | ⟨23, _⟩ => (outsAt0 m c t).2.2.2.2.1
    | ⟨24, _⟩ => (outsAt0 m c t).2.2.2.2.2
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t).1 := by dsimp only [dats]
theorem after0_20 (c : Dev nD) (t : Fin cfg0.N) : (dats m 0 c).after 20 t = (outsAt0 m c t).2.1 := by dsimp only [dats]
theorem after0_21 (c : Dev nD) (t : Fin cfg0.N) : (dats m 0 c).after 21 t = (outsAt0 m c t).2.2.1 := by dsimp only [dats]
theorem after0_22 (c : Dev nD) (t : Fin cfg0.N) : (dats m 0 c).after 22 t = (outsAt0 m c t).2.2.2.1 := by dsimp only [dats]
theorem after0_23 (c : Dev nD) (t : Fin cfg0.N) : (dats m 0 c).after 23 t = (outsAt0 m c t).2.2.2.2.1 := by dsimp only [dats]
theorem after0_24 (c : Dev nD) (t : Fin cfg0.N) : (dats m 0 c).after 24 t = (outsAt0 m c t).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  unfold outsAt0
  unfold out0_A_19 out0_A_20 out0_A_21 out0_A_22 out0_A_23 out0_A_24; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 4000000 in
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 4000000 in
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

set_option maxHeartbeats 4000000 in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel4Ideal.Gen

end
-- ==== Proof.OdTable.lean ====
/- The odd layer's input stage as built has the same kernel bodies as its idealized version, so the frame holds of both. -/
module

public import proofs.«01_k».proof.Proof.OdFrame
public import proofs.«01_k».proof.Proof.Gen.Kernel4

@[expose] public section

set_option maxRecDepth 16384
set_option maxHeartbeats 4000000

noncomputable section

namespace Cert.OddIn

open Idealize.ShloMosaic Idealize.SL Idealize.SL.Sem

theorem table4_eq₀ {F : _} [FloatOps F] : Cert.Kernel4.defs₀ (F := F) = Cert.Kernel4Ideal.defs₀ (F := F) := by
  unfold Cert.Kernel4.defs₀ Cert.Kernel4Ideal.defs₀
  refine congrArg Defs.onTc ?_
  funext l a
  match l, a with
  | 0, a => rfl
theorem table4_eq {F : _} [FloatOps F] : Cert.Kernel4.defs (F := F) = Cert.Kernel4Ideal.defs (F := F) :=
  congrArg (Pipeline.defs (Cert.Kernel4Ideal.pcfgs (F := F))) table4_eq₀

end Cert.OddIn

end
-- ==== Proof.OdTile.lean ====
/- The odd layer's input stage over the extended reals: a row's layer norm, its projections, the root mean square norms and
the rotary embedding, and the payloads of the kernel that compute them half a tile at a time. -/
module

public import proofs.«01_k».proof.Proof.Value
public import proofs.«01_k».proof.Proof.InTile
public import proofs.«01_k».proof.Proof.Gen.Kernel4Ideal.Skeleton
public import Idealize.ShloMosaic.Lib.KernelVsHost

@[expose] public section

set_option maxRecDepth 16384

noncomputable section

namespace Cert.OddIn

open Idealize.ShloMosaic Idealize.ShloMosaic.TcCoe Cert.Kernel4Ideal Cert.Kernel4Ideal.Gen
open Cert.KernelIdeal.OddOut (meanRow normRow)
open Cert.InProj (silu)

/-- `alpha * x` plus the row's output projection, at column `q`. -/
def preY (o z og : Fin 512 → EReal) (x : Fin 1024 → EReal) (W : Fin 1024 → Fin 1024 → EReal) (q : Fin 1024) : EReal :=
  Ideal.ofBits .f32 0x3FB504F3#32 * x q + ((∑ k : Fin 512, (o k * z k) * W ⟨k.val, by omega⟩ q) + ∑ k : Fin 512, og k * W ⟨512 + k.val, by omega⟩ q)
/-- A row after its layer norm. -/
def x1R (o z og : Fin 512 → EReal) (x : Fin 1024 → EReal) (W : Fin 1024 → Fin 1024 → EReal) (g b : Fin 1024 → EReal) (q : Fin 1024) : EReal :=
  normRow (preY o z og x W) q * g q + b q
/-- A row's root mean square norm, with the count as its word. -/
def rmsR {n : ℕ} (w : BitVec 32) (v g : Fin n → EReal) (j : Fin n) : EReal :=
  v j * Ideal.rsqrt (Ideal.div (∑ k : Fin n, v k * v k) (Ideal.ofBits .f32 w) + Ideal.ofBits .f32 0x3727C5AC#32) * g j
/-- The rotary step of a head of 128 lanes: each lane scaled, plus the lanes 16 above and 16 below. -/
def ropeR (v c s t : Fin 128 → EReal) (j : Fin 128) : EReal :=
  v j * c j + v ⟨(j.val + 16) % 128, by omega⟩ * s j + v ⟨(j.val + 112) % 128, by omega⟩ * t j

theorem mm_wo (a : FVec Ideal S256x512 .bf16) (w : FVec Ideal S512x1024 .bf16) (r : Fin 256) (j : Fin 1024) :
    matmul dot_S256x512_S512x1024_S256x1024_1_0_0_1_n_n none a w (constant S256x1024 .f32 0x00000000#32) (ix2 r j) = ∑ k : Fin 512, a (ix2 r k) * w (ix2 k j) := by
  refine (Ideal.matmul_plain_apply (M := 256) (K := 512) (N := 1024) none _ _ _ r j).trans ?_
  pointwise
  rfl
theorem mm_384 (a : FVec Ideal S256x1024 .bf16) (w : FVec Ideal S1024x384 .bf16) (r : Fin 256) (j : Fin 384) :
    matmul dot_S256x1024_S1024x384_S256x384_1_0_0_1_n_n none a w (constant S256x384 .f32 0x00000000#32) (ix2 r j) = ∑ k : Fin 1024, a (ix2 r k) * w (ix2 k j) := by
  refine (Ideal.matmul_plain_apply (M := 256) (K := 1024) (N := 384) none _ _ _ r j).trans ?_
  pointwise
  rfl
theorem mm_256 (a : FVec Ideal S256x1024 .bf16) (w : FVec Ideal S1024x256 .bf16) (r : Fin 256) (j : Fin 256) :
    matmul dot_S256x1024_S1024x256_S256x256_1_0_0_1_n_n none a w (constant S256x256 .f32 0x00000000#32) (ix2 r j) = ∑ k : Fin 1024, a (ix2 r k) * w (ix2 k j) := by
  refine (Ideal.matmul_plain_apply (M := 256) (K := 1024) (N := 256) none _ _ _ r j).trans ?_
  pointwise
  rfl
theorem mm_128 (a : FVec Ideal S256x1024 .bf16) (w : FVec Ideal S1024x128 .bf16) (r : Fin 256) (j : Fin 128) :
    matmul dot_S256x1024_S1024x128_S256x128_1_0_0_1_n_n none a w (constant S256x128 .f32 0x00000000#32) (ix2 r j) = ∑ k : Fin 1024, a (ix2 r k) * w (ix2 k j) := by
  refine (Ideal.matmul_plain_apply (M := 256) (K := 1024) (N := 128) none _ _ _ r j).trans ?_
  pointwise
  rfl
theorem mm_512 (a : FVec Ideal S256x1024 .bf16) (w : FVec Ideal S1024x512 .bf16) (r : Fin 256) (j : Fin 512) :
    matmul dot_S256x1024_S1024x512_S256x512_1_0_0_1_n_n none a w (constant S256x512 .f32 0x00000000#32) (ix2 r j) = ∑ k : Fin 1024, a (ix2 r k) * w (ix2 k j) := by
  refine (Ideal.matmul_plain_apply (M := 256) (K := 1024) (N := 512) none _ _ _ r j).trans ?_
  pointwise
  rfl
theorem mm_q (a : FVec Ideal S256x384 .bf16) (w : FVec Ideal S384x512 .bf16) (r : Fin 256) (j : Fin 512) :
    matmul dot_S256x384_S384x512_S256x512_1_0_0_1_n_n none a w (constant S256x512 .f32 0x00000000#32) (ix2 r j) = ∑ k : Fin 384, a (ix2 r k) * w (ix2 k j) := by
  refine (Ideal.matmul_plain_apply (M := 256) (K := 384) (N := 512) none _ _ _ r j).trans ?_
  pointwise
  rfl
theorem mm_kv (a : FVec Ideal S256x256 .bf16) (w : FVec Ideal S256x1024 .bf16) (r : Fin 256) (j : Fin 1024) :
    matmul dot_S256x256_S256x1024_S256x1024_1_0_0_1_n_n none a w (constant S256x1024 .f32 0x00000000#32) (ix2 r j) = ∑ k : Fin 256, a (ix2 r k) * w (ix2 k j) := by
  refine (Ideal.matmul_plain_apply (M := 256) (K := 256) (N := 1024) none _ _ _ r j).trans ?_
  pointwise
  rfl

theorem pay6_apply (o z : Vec Ideal S256x512 .bf16) (w : Vec Ideal S512x1024 .bf16) (og : Vec Ideal S256x512 .bf16) (w' : Vec Ideal S512x1024 .bf16) (r : Fin 256) (q : Fin 1024) :
    k0_pay6 o z w og w' (ix2 r q) = (∑ k : Fin 512, (o (ix2 r k) * z (ix2 r k)) * w (ix2 k q)) + ∑ k : Fin 512, og (ix2 r k) * w' (ix2 k q) := by
  unfold k0_pay6
  pointwise [mm_wo]
theorem pay9_apply (v : FVec Ideal S256x1024 .f32) (x : Vec Ideal S256x1024 .f32) (g b : Vec Ideal S1x1024 .f32) (r : Fin 256) (q : Fin 1024) :
    k0_pay9 v x g b (ix2 r q) = normRow (fun q => Ideal.ofBits .f32 0x3FB504F3#32 * x (ix2 r q) + v (ix2 r q)) q * g (ix2 0 q) + b (ix2 0 q) := by
  unfold k0_pay9
  dsimp only
  pointwise
  unfold normRow meanRow
  rfl
theorem pay24_apply (v : FVec Ideal S256x384 .f32) (g : Vec Ideal S1x384 .f32) (r : Fin 256) (j : Fin 384) :
    k0_pay24 v g (ix2 r j) = rmsR 0x43C00000#32 (fun j => v (ix2 r j)) (fun j => g (ix2 0 j)) j := by
  unfold k0_pay24
  dsimp only
  pointwise
  unfold rmsR
  rfl
theorem pay25_apply (v : FVec Ideal S256x256 .f32) (g : Vec Ideal S1x256 .f32) (r : Fin 256) (j : Fin 256) :
    k0_pay25 v g (ix2 r j) = rmsR 0x43800000#32 (fun j => v (ix2 r j)) (fun j => g (ix2 0 j)) j := by
  unfold k0_pay25
  dsimp only
  pointwise
  unfold rmsR
  rfl

theorem rot_up (v : FVec Ideal S256x128 .f32) (r : Fin 256) (j : Fin 128) :
    dynamicRotate 1 112#32 none v rotates_S256x128_d1 (ix2 r j) = v (ix2 r ⟨(j.val + 16) % 128, by omega⟩) :=
  dynamicRotate_apply 1 112#32 v rotates_S256x128_d1 (ix2 r j) (ix2 r ⟨(j.val + 16) % 128, by omega⟩) (fun b => by
    fin_cases b
    · rfl
    · show (j.val + 16) % 128 = (j.val + 128 - 112 % 128) % 128
      omega)
theorem rot_down (v : FVec Ideal S256x128 .f32) (r : Fin 256) (j : Fin 128) :
    dynamicRotate 1 16#32 none v rotates_S256x128_d1 (ix2 r j) = v (ix2 r ⟨(j.val + 112) % 128, by omega⟩) :=
  dynamicRotate_apply 1 16#32 v rotates_S256x128_d1 (ix2 r j) (ix2 r ⟨(j.val + 112) % 128, by omega⟩) (fun b => by
    fin_cases b
    · rfl
    · show (j.val + 112) % 128 = (j.val + 128 - 16 % 128) % 128
      omega)

/-- The rotary step of a half tile. -/
def ropeV (v c s t : FVec Ideal S256x128 .f32) : FVec Ideal S256x128 .bf16 :=
  truncf .bf16 (addf (addf (mulf v c) (mulf (dynamicRotate 1 112#32 none v rotates_S256x128_d1) s)) (mulf (dynamicRotate 1 16#32 none v rotates_S256x128_d1) t)) bitsLt_bf16_f32
theorem ropeV_apply (v c s t : FVec Ideal S256x128 .f32) (r : Fin 256) (j : Fin 128) :
    ropeV v c s t (ix2 r j) = ropeR (fun j => v (ix2 r j)) (fun j => c (ix2 r j)) (fun j => s (ix2 r j)) (fun j => t (ix2 r j)) j := by
  unfold ropeV ropeR
  show v (ix2 r j) * c (ix2 r j) + dynamicRotate 1 112#32 none v rotates_S256x128_d1 (ix2 r j) * s (ix2 r j) + dynamicRotate 1 16#32 none v rotates_S256x128_d1 (ix2 r j) * t (ix2 r j) = _
  rw [rot_up, rot_down]

/-- One head of queries of a half tile, from column `o` of four heads' products. -/
def qV (a : FVec Ideal S256x384 .bf16) (w : Vec Ideal S384x512 .bf16) (c s t : FVec Ideal S256x128 .f32) (o : ℕ) (hs : S256x512.Slices ![0, o] S256x128) : FVec Ideal S256x128 .bf16 :=
  ropeV (extractStridedSlice S256x128 ![0, o] (k0_pay33 a w) hs) c s t
theorem qV_apply (a : FVec Ideal S256x384 .bf16) (w : Vec Ideal S384x512 .bf16) (c s t : FVec Ideal S256x128 .f32) (o : ℕ) (ho : o ≤ 384) (hs : S256x512.Slices ![0, o] S256x128) (r : Fin 256) (j : Fin 128) :
    qV a w c s t o hs (ix2 r j) = ropeR (fun d => ∑ k : Fin 384, a (ix2 r k) * w (ix2 k ⟨o + d.val, by omega⟩)) (fun j => c (ix2 r j)) (fun j => s (ix2 r j)) (fun j => t (ix2 r j)) j := by
  unfold qV
  rw [ropeV_apply]
  have e (d : Fin 128) : extractStridedSlice S256x128 ![0, o] (k0_pay33 a w) hs (ix2 r d) = ∑ k : Fin 384, a (ix2 r k) * w (ix2 k ⟨o + d.val, by omega⟩) := by
    rw [extractStridedSlice_apply ![0, o] _ hs (ix2 r d) (ix2 r ⟨o + d.val, by omega⟩) (fun b => by
      fin_cases b
      · show r.val = 0 + r.val; omega
      · rfl)]
    unfold k0_pay33
    pointwise [mm_q]
  simp only [e]

end Cert.OddIn

end
-- ==== Proof.OdHalf.lean ====
/- What a tile of the odd layer input call leaves in each output, entry by entry: every load is a part of an input block, and
every store is a part of one array of rows. -/
module

public import proofs.«01_k».proof.Proof.OdTile
public import Idealize.ShloMosaic.Lib.Pipeline.ReadBack

@[expose] public section

set_option maxRecDepth 16384

noncomputable section

namespace Cert.OddIn

open Idealize.ShloMosaic Idealize.ShloMosaic.TcCoe Cert.Kernel4Ideal Cert.Kernel4Ideal.Gen
open Cert.InProj (silu)

/-- `V` is the part of `x` from row `o`, column `p`. -/
def IsL {M N a b : ℕ} (o p : ℕ) (x : (⟨2, ![M, N]⟩ : Shape).Idx → EReal) (V : (⟨2, ![a, b]⟩ : Shape).Idx → EReal) : Prop :=
  ∀ (r : Fin a) (j : Fin b) (R : Fin M) (C : Fin N), R.val = o + r.val → C.val = p + j.val → V (ix2 r j) = x (ix2 R C)

theorem loadB {M N a b : ℕ} (A : Memref sig .tc .vmem ⟨2, ![M, N]⟩ .bf16) (hA : A.IsWhole) (x : Vec Ideal ⟨2, ![M, N]⟩ .bf16) (o p : ℕ)
    (inb : ∀ t, (![o, p] : Fin 2 → ℕ) t + (![a, b] : Fin 2 → ℕ) t ≤ (⟨2, ![M, N]⟩ : Shape).size t) :
    IsL (M := M) (N := N) (a := a) (b := b) o p x (View.readAt (Elt Ideal) A.view (Rect.unit (s := ⟨2, ![M, N]⟩) ![o, p] ![a, b] inb).toLoadRect (hA.unread x)) := by
  intro r j R C hR hC
  refine (congrFun (View.readAt_eq_ld A.view (hA.unread x) (Rect.unit (s := ⟨2, ![M, N]⟩) ![o, p] ![a, b] inb)) (ix2 r j)).trans ?_
  unfold View.ld
  rw [hA.read_unread]
  refine congrArg x (funext fun t => Fin.ext ?_)
  fin_cases t
  · show o + 1 * r.val = R.val; omega
  · show p + 1 * j.val = C.val; omega
theorem loadF {M N a b : ℕ} (A : Memref sig .tc .vmem ⟨2, ![M, N]⟩ .f32) (hA : A.IsWhole) (x : Vec Ideal ⟨2, ![M, N]⟩ .f32) (o p : ℕ)
    (inb : ∀ t, (![o, p] : Fin 2 → ℕ) t + (![a, b] : Fin 2 → ℕ) t ≤ (⟨2, ![M, N]⟩ : Shape).size t) :
    IsL (M := M) (N := N) (a := a) (b := b) o p x (View.readAt (Elt Ideal) A.view (Rect.unit (s := ⟨2, ![M, N]⟩) ![o, p] ![a, b] inb).toLoadRect (hA.unread x)) := by
  intro r j R C hR hC
  refine (congrFun (View.readAt_eq_ld A.view (hA.unread x) (Rect.unit (s := ⟨2, ![M, N]⟩) ![o, p] ![a, b] inb)) (ix2 r j)).trans ?_
  unfold View.ld
  rw [hA.read_unread]
  refine congrArg x (funext fun t => Fin.ext ?_)
  fin_cases t
  · show o + 1 * r.val = R.val; omega
  · show p + 1 * j.val = C.val; omega
/-- A store of a part of `G` writes `G`'s entries. -/
theorem piece_of {M N a b o p : ℕ} {G : (⟨2, ![M, N]⟩ : Shape).Idx → EReal} {P : (⟨2, ![a, b]⟩ : Shape).Idx → EReal}
    (inb : ∀ t, (![o, p] : Fin 2 → ℕ) t + (![a, b] : Fin 2 → ℕ) t ≤ (⟨2, ![M, N]⟩ : Shape).size t) (h : IsL o p G P) (x : (⟨2, ![a, b]⟩ : Shape).Idx) :
    P x = G ((Rect.unit (s := ⟨2, ![M, N]⟩) ![o, p] ![a, b] inb).emb x) := by
  have h0 : o + a ≤ M := inb 0
  have h1 : p + b ≤ N := inb 1
  have l0 : (x 0).val < a := (x 0).isLt
  have l1 : (x 1).val < b := (x 1).isLt
  refine (congrArg P (funext fun t => by fin_cases t <;> rfl : x = ix2 (x 0) (x 1))).trans ((h (x 0) (x 1) ⟨o + (x 0).val, by omega⟩ ⟨p + (x 1).val, by omega⟩ rfl rfl).trans ?_)
  refine congrArg G (funext fun t => Fin.ext ?_)
  fin_cases t
  · show o + (x 0).val = o + 1 * (x 0).val; omega
  · show p + (x 1).val = p + 1 * (x 1).val; omega

variable (x0 x1 x2 : (⟨2, ![512, 512]⟩ : Shape).Idx → EReal) (x3 : (⟨2, ![512, 1024]⟩ : Shape).Idx → EReal) (x4 : (⟨2, ![1024, 1024]⟩ : Shape).Idx → EReal)
  (x5 x6 : (⟨2, ![1, 1024]⟩ : Shape).Idx → EReal) (x7 : (⟨2, ![1024, 1792]⟩ : Shape).Idx → EReal) (x8 : (⟨2, ![384, 2048]⟩ : Shape).Idx → EReal)
  (x9 x10 : (⟨2, ![256, 1024]⟩ : Shape).Idx → EReal) (x11 : (⟨2, ![1, 384]⟩ : Shape).Idx → EReal) (x12 : (⟨2, ![1, 256]⟩ : Shape).Idx → EReal)
  (x13 x14 x15 x16 x17 x18 : (⟨2, ![512, 128]⟩ : Shape).Idx → EReal)

/-- The rows after the layer norm. -/
def G19 : (⟨2, ![512, 1024]⟩ : Shape).Idx → EReal := fun i =>
  x1R (fun k => x0 (ix2 (i 0) k)) (fun k => x1 (ix2 (i 0) k)) (fun k => x2 (ix2 (i 0) k)) (fun q => x3 (ix2 (i 0) q)) (fun k q => x4 (ix2 k q)) (fun q => x5 (ix2 0 q)) (fun q => x6 (ix2 0 q)) (i 1)
/-- The rows' query latents, normed. -/
def CQE (X : (⟨2, ![512, 1024]⟩ : Shape).Idx → EReal) : (⟨2, ![512, 384]⟩ : Shape).Idx → EReal := fun i =>
  rmsR 0x43C00000#32 (fun j : Fin 384 => ∑ k : Fin 1024, X (ix2 (i 0) k) * x7 (ix2 k ⟨j.val, by omega⟩)) (fun j => x11 (ix2 0 j)) (i 1)
/-- The rows' key and value latents, normed. -/
def CKE (X : (⟨2, ![512, 1024]⟩ : Shape).Idx → EReal) : (⟨2, ![512, 256]⟩ : Shape).Idx → EReal := fun i =>
  rmsR 0x43800000#32 (fun j : Fin 256 => ∑ k : Fin 1024, X (ix2 (i 0) k) * x7 (ix2 k ⟨384 + j.val, by omega⟩)) (fun j => x12 (ix2 0 j)) (i 1)
/-- The queries of sixteen heads from their latents. -/
def G20 (Q : (⟨2, ![512, 384]⟩ : Shape).Idx → EReal) : (⟨2, ![512, 2048]⟩ : Shape).Idx → EReal := fun i =>
  ropeR (fun d => ∑ k : Fin 384, Q (ix2 (i 0) k) * x8 (ix2 k ⟨128 * ((i 1).val / 128) + d.val, by have h : (i 1).val < 2048 := (i 1).isLt; omega⟩))
    (fun j => x13 (ix2 (i 0) j)) (fun j => x14 (ix2 (i 0) j)) (fun j => x15 (ix2 (i 0) j)) ⟨(i 1).val % 128, by omega⟩
/-- The keys or values of sixteen heads from their latents. -/
def G21 (K : (⟨2, ![512, 256]⟩ : Shape).Idx → EReal) (W : (⟨2, ![256, 1024]⟩ : Shape).Idx → EReal) : (⟨2, ![512, 1024]⟩ : Shape).Idx → EReal := fun i =>
  ∑ k : Fin 256, K (ix2 (i 0) k) * W (ix2 k (i 1))
/-- The keys the heads share. -/
def G22 (X : (⟨2, ![512, 1024]⟩ : Shape).Idx → EReal) : (⟨2, ![512, 128]⟩ : Shape).Idx → EReal := fun i =>
  ropeR (fun d => ∑ k : Fin 1024, X (ix2 (i 0) k) * x7 (ix2 k ⟨640 + d.val, by omega⟩)) (fun j => x16 (ix2 (i 0) j)) (fun j => x17 (ix2 (i 0) j)) (fun j => x18 (ix2 (i 0) j)) (i 1)
/-- The gate. -/
def G24 (X : (⟨2, ![512, 1024]⟩ : Shape).Idx → EReal) : (⟨2, ![512, 1024]⟩ : Shape).Idx → EReal := fun i =>
  silu (∑ k : Fin 1024, X (ix2 (i 0) k) * x7 (ix2 k ⟨768 + (i 1).val, by have h : (i 1).val < 1024 := (i 1).isLt; omega⟩))

variable {x0 x1 x2 x3 x4 x5 x6 x7 x8 x9 x10 x11 x12 x13 x14 x15 x16 x17 x18} {ρ : ℕ} {X : (⟨2, ![512, 1024]⟩ : Shape).Idx → EReal} {Q : (⟨2, ![512, 384]⟩ : Shape).Idx → EReal} {K : (⟨2, ![512, 256]⟩ : Shape).Idx → EReal}

theorem x1_half {o z og : Vec Ideal S256x512 .bf16} {w w' : Vec Ideal S512x1024 .bf16} {x : Vec Ideal S256x1024 .f32} {g b : Vec Ideal S1x1024 .f32}
    (ho : IsL ρ 0 x0 o) (hz : IsL ρ 0 x1 z) (hw : IsL 0 0 x4 w) (hog : IsL ρ 0 x2 og) (hw' : IsL 512 0 x4 w') (hx : IsL ρ 0 x3 x) (hg : IsL 0 0 x5 g) (hb : IsL 0 0 x6 b) :
    IsL ρ 0 (G19 x0 x1 x2 x3 x4 x5 x6) (k0_pay9 (k0_pay6 o z w og w') x g b) := by
  intro r j R C hR hC
  obtain rfl : C = j := Fin.ext (by omega)
  rw [pay9_apply]
  simp only [pay6_apply]
  unfold G19 x1R preY
  have e (k : Fin 512) : o (ix2 r k) = x0 (ix2 R k) := ho r k R k hR (by omega)
  have e1 (k : Fin 512) : z (ix2 r k) = x1 (ix2 R k) := hz r k R k hR (by omega)
  have e2 (k : Fin 512) : og (ix2 r k) = x2 (ix2 R k) := hog r k R k hR (by omega)
  have e3 (k : Fin 1024) : x (ix2 r k) = x3 (ix2 R k) := hx r k R k hR (by omega)
  have e4 (k : Fin 512) (q : Fin 1024) : w (ix2 k q) = x4 (ix2 ⟨k.val, by omega⟩ q) := hw k q ⟨k.val, by omega⟩ q (by show k.val = _; omega) (by omega)
  have e5 (k : Fin 512) (q : Fin 1024) : w' (ix2 k q) = x4 (ix2 ⟨512 + k.val, by omega⟩ q) := hw' k q ⟨512 + k.val, by omega⟩ q rfl (by omega)
  have e6 (q : Fin 1024) : g (ix2 0 q) = x5 (ix2 0 q) := hg 0 q 0 q rfl (by omega)
  have e7 (q : Fin 1024) : b (ix2 0 q) = x6 (ix2 0 q) := hb 0 q 0 q rfl (by omega)
  simp only [e, e1, e2, e3, e4, e5, e6, e7]
  rfl

/-- A half tile's products with the query latents' columns. -/
def cqV (X : FVec Ideal S256x1024 .bf16) (w : Vec Ideal S1024x384 .bf16) : FVec Ideal S256x384 .f32 :=
  matmul dot_S256x1024_S1024x384_S256x384_1_0_0_1_n_n none X (shapeCast S1024x384 w shapeCasts_S1024x384_S1024x384 : FVec Ideal S1024x384 .bf16) (constant S256x384 .f32 0x00000000#32)
theorem cq_half {V : FVec Ideal S256x1024 .bf16} {w : Vec Ideal S1024x384 .bf16} {g : Vec Ideal S1x384 .f32}
    (hX : IsL ρ 0 X V) (hw : IsL 0 0 x7 w) (hg : IsL 0 0 x11 g) : IsL ρ 0 (CQE x7 x11 X) (k0_pay24 (cqV V w) g) := by
  intro r j R C hR hC
  obtain rfl : C = j := Fin.ext (by omega)
  rw [pay24_apply]
  have e (j : Fin 384) : cqV V w (ix2 r j) = ∑ k : Fin 1024, V (ix2 r k) * w (ix2 k j) := by
    unfold cqV
    pointwise [mm_384]
  have e1 (k : Fin 1024) : V (ix2 r k) = X (ix2 R k) := hX r k R k hR (by omega)
  have e2 (k : Fin 1024) (q : Fin 384) : w (ix2 k q) = x7 (ix2 k ⟨q.val, by omega⟩) := hw k q k ⟨q.val, by omega⟩ (by omega) (by show q.val = _; omega)
  have e3 (q : Fin 384) : g (ix2 0 q) = x11 (ix2 0 q) := hg 0 q 0 q rfl (by omega)
  simp only [e, e1, e2, e3]
  rfl
theorem ck_half {V : FVec Ideal S256x1024 .bf16} {w : Vec Ideal S1024x256 .bf16} {g : Vec Ideal S1x256 .f32}
    (hX : IsL ρ 0 X V) (hw : IsL 0 384 x7 w) (hg : IsL 0 0 x12 g) : IsL ρ 0 (CKE x7 x12 X) (k0_pay25 (k0_pay13 V (k0_pay12 w)) g) := by
  intro r j R C hR hC
  obtain rfl : C = j := Fin.ext (by omega)
  rw [pay25_apply]
  have e (j : Fin 256) : k0_pay13 V (k0_pay12 w) (ix2 r j) = ∑ k : Fin 1024, V (ix2 r k) * w (ix2 k j) := by
    unfold k0_pay13 k0_pay12
    pointwise [mm_256]
  have e1 (k : Fin 1024) : V (ix2 r k) = X (ix2 R k) := hX r k R k hR (by omega)
  have e2 (k : Fin 1024) (q : Fin 256) : w (ix2 k q) = x7 (ix2 k ⟨384 + q.val, by omega⟩) := hw k q k ⟨384 + q.val, by omega⟩ (by omega) rfl
  have e3 (q : Fin 256) : g (ix2 0 q) = x12 (ix2 0 q) := hg 0 q 0 q rfl (by omega)
  simp only [e, e1, e2, e3]
  rfl
theorem k_half {W : (⟨2, ![256, 1024]⟩ : Shape).Idx → EReal} {V : FVec Ideal S256x256 .bf16} {w : Vec Ideal S256x1024 .bf16} (hK : IsL ρ 0 K V) (hw : IsL 0 0 W w) :
    IsL ρ 0 (G21 K W) (k0_pay63 V w) := by
  intro r j R C hR hC
  obtain rfl : C = j := Fin.ext (by omega)
  have e : k0_pay63 V w (ix2 r C) = ∑ k : Fin 256, V (ix2 r k) * w (ix2 k C) := by
    unfold k0_pay63
    pointwise [mm_kv]
  have e1 (k : Fin 256) : V (ix2 r k) = K (ix2 R k) := hK r k R k hR (by omega)
  have e2 (k : Fin 256) (q : Fin 1024) : w (ix2 k q) = W (ix2 k q) := hw k q k q (by omega) (by omega)
  rw [e]
  simp only [e1, e2]
  rfl
theorem kr_half {V : FVec Ideal S256x1024 .bf16} {w : Vec Ideal S1024x128 .bf16} {c s t : Vec Ideal S256x128 .f32}
    (hX : IsL ρ 0 X V) (hw : IsL 0 640 x7 w) (hc : IsL ρ 0 x16 c) (hs : IsL ρ 0 x17 s) (ht : IsL ρ 0 x18 t) : IsL ρ 0 (G22 x7 x16 x17 x18 X) (k0_pay26 (k0_pay14 V w) c s t) := by
  intro r j R C hR hC
  obtain rfl : C = j := Fin.ext (by omega)
  have c1 (x : Vec Ideal S256x128 .f32) (j : Fin 128) : shapeCast S256x128 x shapeCasts_S256x128_S256x128 (ix2 r j) = x (ix2 r j) := by pointwise
  have e : k0_pay26 (k0_pay14 V w) c s t (ix2 r C) = ropeR (fun j => k0_pay14 V w (ix2 r j)) (fun j => c (ix2 r j)) (fun j => s (ix2 r j)) (fun j => t (ix2 r j)) C := by
    refine (ropeV_apply (k0_pay14 V w) (shapeCast S256x128 c shapeCasts_S256x128_S256x128) (shapeCast S256x128 s shapeCasts_S256x128_S256x128) (shapeCast S256x128 t shapeCasts_S256x128_S256x128) r C).trans ?_
    simp only [c1]
  have e0 (j : Fin 128) : k0_pay14 V w (ix2 r j) = ∑ k : Fin 1024, V (ix2 r k) * w (ix2 k j) := by
    unfold k0_pay14
    pointwise [mm_128]
  have e1 (k : Fin 1024) : V (ix2 r k) = X (ix2 R k) := hX r k R k hR (by omega)
  have e2 (k : Fin 1024) (q : Fin 128) : w (ix2 k q) = x7 (ix2 k ⟨640 + q.val, by omega⟩) := hw k q k ⟨640 + q.val, by omega⟩ (by omega) rfl
  have e3 (q : Fin 128) : c (ix2 r q) = x16 (ix2 R q) := hc r q R q hR (by omega)
  have e4 (q : Fin 128) : s (ix2 r q) = x17 (ix2 R q) := hs r q R q hR (by omega)
  have e5 (q : Fin 128) : t (ix2 r q) = x18 (ix2 R q) := ht r q R q hR (by omega)
  rw [e]
  simp only [e0, e1, e2, e3, e4, e5]
  rfl
theorem z_half512 {V : FVec Ideal S256x1024 .bf16} {w : Vec Ideal S1024x512 .bf16} (hX : IsL ρ 0 X V) (hw : IsL 0 768 x7 w) : IsL ρ 0 (G24 x7 X) (k0_pay15 V w) := by
  intro r j R C hR hC
  have e : k0_pay15 V w (ix2 r j) = silu (∑ k : Fin 1024, V (ix2 r k) * w (ix2 k j)) := by
    unfold k0_pay15 silu
    pointwise [mm_512]
  have e1 (k : Fin 1024) : V (ix2 r k) = X (ix2 R k) := hX r k R k hR (by omega)
  have e2 (k : Fin 1024) : w (ix2 k j) = x7 (ix2 k ⟨768 + C.val, by omega⟩) := hw k j k ⟨768 + C.val, by omega⟩ (by omega) (by show 768 + C.val = _; omega)
  rw [e]
  simp only [e1, e2]
  rfl
theorem z_half256 (p : ℕ) {V : FVec Ideal S256x1024 .bf16} {w : Vec Ideal S1024x256 .bf16} (hX : IsL ρ 0 X V) (hw : IsL 0 (768 + p) x7 w) : IsL ρ p (G24 x7 X) (k0_pay53 V w) := by
  intro r j R C hR hC
  have e : k0_pay53 V w (ix2 r j) = silu (∑ k : Fin 1024, V (ix2 r k) * w (ix2 k j)) := by
    unfold k0_pay53 silu
    pointwise [mm_256]
  have e1 (k : Fin 1024) : V (ix2 r k) = X (ix2 R k) := hX r k R k hR (by omega)
  have e2 (k : Fin 1024) : w (ix2 k j) = x7 (ix2 k ⟨768 + C.val, by omega⟩) := hw k j k ⟨768 + C.val, by omega⟩ (by omega) (by show 768 + C.val = _; omega)
  rw [e]
  simp only [e1, e2]
  rfl
theorem tab_a {x : (⟨2, ![512, 128]⟩ : Shape).Idx → EReal} {t : Vec Ideal S512x128 .f32} (h : IsL 0 0 x t) : IsL 0 0 x (k0_pay30 (k0_pay3 t)) := by
  intro r j R C hR hC
  unfold k0_pay30 k0_pay3
  refine (extractStridedSlice_apply ![0, 0] _ slices_S512x128_o0_0_S256x128 (ix2 r j) (ix2 R C) (fun b => by
      fin_cases b
      · exact hR
      · exact hC)).trans ?_
  refine Eq.trans ?_ (h R C R C (by omega) (by omega))
  pointwise
theorem tab_b {x : (⟨2, ![512, 128]⟩ : Shape).Idx → EReal} {t : Vec Ideal S512x128 .f32} (h : IsL 0 0 x t) : IsL 256 0 x (k0_pay65 (k0_pay3 t)) := by
  intro r j R C hR hC
  unfold k0_pay65 k0_pay3
  refine (extractStridedSlice_apply ![256, 0] _ slices_S512x128_o256_0_S256x128 (ix2 r j) (ix2 R C) (fun b => by
      fin_cases b
      · exact hR
      · exact hC)).trans ?_
  refine Eq.trans ?_ (h R C R C (by omega) (by omega))
  pointwise
theorem q_half (wo o : ℕ) (ho : o ≤ 384) (h128 : o % 128 = 0) (hwo : wo % 128 = 0) (hs' : S256x512.Slices ![0, o] S256x128) {V : FVec Ideal S256x384 .bf16} {w : Vec Ideal S384x512 .bf16} {c s t : FVec Ideal S256x128 .f32}
    (hQ : IsL ρ 0 Q V) (hw : IsL 0 wo x8 w) (hc : IsL ρ 0 x13 c) (hs : IsL ρ 0 x14 s) (ht : IsL ρ 0 x15 t) : IsL ρ (wo + o) (G20 x8 x13 x14 x15 Q) (qV V w c s t o hs') := by
  intro r j R C hR hC
  rw [qV_apply V w c s t o ho hs' r j]
  have hj := j.isLt
  have hC' := C.isLt
  have e1 (k : Fin 384) : V (ix2 r k) = Q (ix2 R k) := hQ r k R k hR (by omega)
  have e2 (k : Fin 384) (d : Fin 128) : w (ix2 k ⟨o + d.val, by omega⟩) = x8 (ix2 k ⟨128 * (C.val / 128) + d.val, by omega⟩) :=
    hw k ⟨o + d.val, by omega⟩ k ⟨128 * (C.val / 128) + d.val, by omega⟩ (by omega) (by show 128 * (C.val / 128) + d.val = wo + (o + d.val); omega)
  have e3 (q : Fin 128) : c (ix2 r q) = x13 (ix2 R q) := hc r q R q hR (by omega)
  have e4 (q : Fin 128) : s (ix2 r q) = x14 (ix2 R q) := hs r q R q hR (by omega)
  have e5 (q : Fin 128) : t (ix2 r q) = x15 (ix2 R q) := ht r q R q hR (by omega)
  have e6 : j = ⟨C.val % 128, by omega⟩ := Fin.ext (by show j.val = C.val % 128; omega)
  simp only [e1, e2, e3, e4, e5]
  refine (congrArg (ropeR _ _ _ _) e6).trans ?_
  rfl

end Cert.OddIn

end
-- ==== Proof.OdSpec.lean ====
/- The odd layer's input stage, row by row, as both the kernel and its reference compute it. -/
module

public import proofs.«01_k».proof.Proof.OdHalf

@[expose] public section

set_option maxRecDepth 16384

noncomputable section

namespace Cert.OddIn

open Idealize.ShloMosaic Idealize.ShloMosaic.TcCoe Cert.Kernel4Ideal Cert.Kernel4Ideal.Gen
open Cert.InProj (silu)

/-- The angle of every position and frequency. -/
def angT : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.exp (Host.divf (mulf (mulf (broadcastInDim S16 ![] bcast_S_S16 (constant S_ .f32 0xC1135D8E#32)) (sitofp .f32 (iotaInDim S16 32 0))) (broadcastInDim S16 ![] bcast_S_S16 (constant S_ .f32 0x40000000#32))) (broadcastInDim S16 ![] bcast_S_S16 (constant S_ .f32 0x42000000#32))))))
def cosT : FVec Ideal S2048x16 .f32 := Host.cos angT
def sinT : FVec Ideal S2048x16 .f32 := Host.sin angT
def cosP (R : Fin 32768) (f : Fin 16) : EReal := cosT (ix2 ⟨R.val % 2048, by omega⟩ f)
def sinP (R : Fin 32768) (f : Fin 16) : EReal := sinT (ix2 ⟨R.val % 2048, by omega⟩ f)
/-- The query scale, `96 ** -0.5 * log2(e)` as its word. -/
def scq : EReal := Ideal.ofBits .f32 0x3E16C740#32

/-- A head of queries: 64 lanes scaled, 32 rotated and scaled, 32 of zeros. -/
def ropeQ (u : Fin 96 → EReal) (co si : Fin 16 → EReal) (sc : EReal) (l : Fin 128) : EReal :=
  if h : l.val < 64 then u ⟨l.val, by omega⟩ * sc
  else if h1 : l.val < 80 then (u ⟨l.val, by omega⟩ * co ⟨l.val - 64, by omega⟩ - u ⟨l.val + 16, by omega⟩ * si ⟨l.val - 64, by omega⟩) * sc
  else if h2 : l.val < 96 then (u ⟨l.val, by omega⟩ * co ⟨l.val - 80, by omega⟩ + u ⟨l.val - 16, by omega⟩ * si ⟨l.val - 80, by omega⟩) * sc
  else 0
/-- The shared keys: 32 lanes rotated, at lanes 64 to 95 of 128. -/
def ropeK (u : Fin 32 → EReal) (co si : Fin 16 → EReal) (l : Fin 128) : EReal :=
  if h : l.val < 64 then 0
  else if h1 : l.val < 80 then u ⟨l.val - 64, by omega⟩ * co ⟨l.val - 64, by omega⟩ - u ⟨l.val - 48, by omega⟩ * si ⟨l.val - 64, by omega⟩
  else if h2 : l.val < 96 then u ⟨l.val - 64, by omega⟩ * co ⟨l.val - 80, by omega⟩ + u ⟨l.val - 80, by omega⟩ * si ⟨l.val - 80, by omega⟩
  else 0
/-- A row of four pieces of 64, 16, 16 and 32 lanes. -/
def four (a : Fin 64 → EReal) (b d : Fin 16 → EReal) (e : Fin 32 → EReal) (l : Fin 128) : EReal :=
  if h : l.val < 64 then a ⟨l.val, h⟩ else if h1 : l.val < 80 then b ⟨l.val - 64, by omega⟩ else if h2 : l.val < 96 then d ⟨l.val - 80, by omega⟩ else e ⟨l.val - 96, by omega⟩

theorem scq_nonneg : 0 ≤ scq ∧ scq ≠ ⊤ := by
  unfold scq
  simp [Ideal.ofBits, Ideal.ieee]
  constructor
  · rw [← EReal.coe_mul]
    exact EReal.coe_nonneg.2 (by norm_num)
  · rw [← EReal.coe_mul]
    exact EReal.coe_ne_top _

theorem rope_q (u : Fin 96 → EReal) (co si : Fin 16 → EReal) (sc : EReal) (hs : 0 ≤ sc ∧ sc ≠ ⊤) (v c s t : Fin 128 → EReal)
    (hv : ∀ (l : Fin 128) (h : l.val < 96), v l = u ⟨l.val, h⟩)
    (hc : c = four (fun _ => sc) (fun f => co f * sc) (fun f => co f * sc) (fun _ => 0))
    (hS : s = four (fun _ => 0) (fun f => -(si f) * sc) (fun _ => 0) (fun _ => 0))
    (hT : t = four (fun _ => 0) (fun _ => 0) (fun f => si f * sc) (fun _ => 0)) (l : Fin 128) :
    ropeR v c s t l = ropeQ u co si sc l := by
  subst hc hS hT
  unfold ropeR ropeQ four
  by_cases h : l.val < 64
  · simp only [dif_pos h]
    rw [hv l (by omega), mul_zero, mul_zero, add_zero, add_zero]
  by_cases h1 : l.val < 80
  · simp only [dif_neg h, dif_pos h1]
    have e : (⟨(l.val + 16) % 128, by omega⟩ : Fin 128) = ⟨l.val + 16, by omega⟩ := Fin.ext (by show (l.val + 16) % 128 = l.val + 16; omega)
    rw [e, hv l (by omega), hv ⟨l.val + 16, by omega⟩ (by show l.val + 16 < 96; omega), mul_zero, add_zero, sub_eq_add_neg,
      EReal.right_distrib_of_nonneg_of_ne_top hs.1 hs.2, EReal.neg_mul, mul_neg, EReal.neg_mul, mul_assoc, mul_assoc]
  by_cases h2 : l.val < 96
  · simp only [dif_neg h, dif_neg h1, dif_pos h2]
    have e : (⟨(l.val + 112) % 128, by omega⟩ : Fin 128) = ⟨l.val - 16, by omega⟩ := Fin.ext (by show (l.val + 112) % 128 = l.val - 16; omega)
    rw [e, hv l (by omega), hv ⟨l.val - 16, by omega⟩ (by show l.val - 16 < 96; omega), mul_zero, add_zero,
      EReal.right_distrib_of_nonneg_of_ne_top hs.1 hs.2, mul_assoc, mul_assoc]
  · simp only [dif_neg h, dif_neg h1, dif_neg h2]
    rw [mul_zero, mul_zero, mul_zero, add_zero, add_zero]
theorem rope_k (u : Fin 32 → EReal) (co si : Fin 16 → EReal) (v c s t : Fin 128 → EReal)
    (hv : ∀ (l : Fin 128) (_ : 64 ≤ l.val) (h : l.val < 96), v l = u ⟨l.val - 64, by omega⟩)
    (hc : c = four (fun _ => 0) (fun f => co f * 1) (fun f => co f * 1) (fun _ => 0))
    (hS : s = four (fun _ => 0) (fun f => -(si f) * 1) (fun _ => 0) (fun _ => 0))
    (hT : t = four (fun _ => 0) (fun _ => 0) (fun f => si f * 1) (fun _ => 0)) (l : Fin 128) :
    ropeR v c s t l = ropeK u co si l := by
  subst hc hS hT
  unfold ropeR ropeK four
  by_cases h : l.val < 64
  · simp only [dif_pos h]
    rw [mul_zero, mul_zero, mul_zero, add_zero, add_zero]
  by_cases h1 : l.val < 80
  · simp only [dif_neg h, dif_pos h1]
    have e : (⟨(l.val + 16) % 128, by omega⟩ : Fin 128) = ⟨l.val + 16, by omega⟩ := Fin.ext (by show (l.val + 16) % 128 = l.val + 16; omega)
    have e2 : (⟨l.val + 16 - 64, by omega⟩ : Fin 32) = ⟨l.val - 48, by omega⟩ := Fin.ext (by show l.val + 16 - 64 = l.val - 48; omega)
    rw [e, hv l (by omega) (by omega), hv ⟨l.val + 16, by omega⟩ (by show 64 ≤ l.val + 16; omega) (by show l.val + 16 < 96; omega), mul_zero, add_zero, mul_one, mul_one, sub_eq_add_neg,
      mul_neg]
    show _ + -(u ⟨l.val + 16 - 64, _⟩ * _) = _
    rw [e2]
  by_cases h2 : l.val < 96
  · simp only [dif_neg h, dif_neg h1, dif_pos h2]
    have e : (⟨(l.val + 112) % 128, by omega⟩ : Fin 128) = ⟨l.val - 16, by omega⟩ := Fin.ext (by show (l.val + 112) % 128 = l.val - 16; omega)
    have e2 : (⟨l.val - 16 - 64, by omega⟩ : Fin 32) = ⟨l.val - 80, by omega⟩ := Fin.ext (by show l.val - 16 - 64 = l.val - 80; omega)
    rw [e, hv l (by omega) h2, hv ⟨l.val - 16, by omega⟩ (by show 64 ≤ l.val - 16; omega) (by show l.val - 16 < 96; omega), mul_zero, add_zero, mul_one, mul_one]
    show _ + u ⟨l.val - 16 - 64, _⟩ * _ = _
    rw [e2]
  · simp only [dif_neg h, dif_neg h1, dif_neg h2]
    rw [mul_zero, mul_zero, mul_zero, add_zero, add_zero]

section Rows
variable (a0 a1 a2 : FVec Ideal S32768x512 .bf16) (a3 : FVec Ideal S32768x1024 .f32) (a4 : FVec Ideal S1x1024x1024 .f32) (a5 a6 : FVec Ideal S1x1024 .f32)
  (a7 : FVec Ideal S1x1024x1696 .f32) (a8 : FVec Ideal S1x384 .f32) (a9 : FVec Ideal S1x384x1536 .f32) (a10 : FVec Ideal S1x256 .f32) (a11 : FVec Ideal S1x256x2048 .f32)
  (Y : Fin 32768 → Fin 1024 → EReal)

/-- A token after its layer norm. -/
def x1E (R : Fin 32768) (q : Fin 1024) : EReal :=
  x1R (fun k => a0 (ix2 R k)) (fun k => a1 (ix2 R k)) (fun k => a2 (ix2 R k)) (fun k => a3 (ix2 R k)) (fun k q => a4 (ix3 0 k q)) (fun q => a5 (ix2 0 q)) (fun q => a6 (ix2 0 q)) q
/-- A token's product with a column of the input weight. -/
def hE (R : Fin 32768) (J : Fin 1696) : EReal := ∑ k : Fin 1024, Y R k * a7 (ix3 0 k J)
/-- Its normed query latent, and its normed key and value latent. -/
def cqE (R : Fin 32768) : Fin 384 → EReal := rmsR 0x43C00000#32 (fun j : Fin 384 => hE a7 Y R ⟨j.val, by omega⟩) (fun j => a8 (ix2 0 j))
def ckE (R : Fin 32768) : Fin 256 → EReal := rmsR 0x43800000#32 (fun j : Fin 256 => hE a7 Y R ⟨384 + j.val, by omega⟩) (fun j => a10 (ix2 0 j))
/-- Its queries, and its keys and values. -/
def qE (R : Fin 32768) (J : Fin 1536) : EReal := ∑ k : Fin 384, cqE a7 a8 Y R k * a9 (ix3 0 k J)
def kvE (R : Fin 32768) (J : Fin 2048) : EReal := ∑ k : Fin 256, ckE a7 a10 Y R k * a11 (ix3 0 k J)
/-- The results after the first. -/
def resQ (R : Fin 32768) (C : Fin 2048) : EReal :=
  ropeQ (fun d => qE a7 a8 a9 Y R ⟨96 * (C.val / 128) + d.val, by omega⟩) (cosP R) (sinP R) scq ⟨C.val % 128, by omega⟩
def resK (o : ℕ) (ho : o ≤ 64) (R : Fin 32768) (C : Fin 1024) : EReal := kvE a7 a10 a11 Y R ⟨128 * (C.val / 64) + o + C.val % 64, by omega⟩
def resR (R : Fin 32768) (l : Fin 128) : EReal := ropeK (fun d => hE a7 Y R ⟨640 + d.val, by omega⟩) (cosP R) (sinP R) l
def resZ (R : Fin 32768) (q : Fin 1024) : EReal := silu (hE a7 Y R ⟨672 + q.val, by omega⟩)

variable {a0 a1 a2 a3 a4 a5 a6 a7 a8 a9 a10 a11 Y}
variable {x0 x1 x2 : Vec Ideal S512x512 .bf16} {x3 : Vec Ideal S512x1024 .f32} {x4 : Vec Ideal S1024x1024 .bf16} {x5 x6 : Vec Ideal S1x1024 .f32}
  {x7 : Vec Ideal S1024x1792 .bf16} {x8 : Vec Ideal S384x2048 .bf16} {x11 : Vec Ideal S1x384 .f32} {x12 : Vec Ideal S1x256 .f32}
  {x13 x14 x15 : Vec Ideal S512x128 .f32} {W : (⟨2, ![256, 1024]⟩ : Shape).Idx → EReal} {X : (⟨2, ![512, 1024]⟩ : Shape).Idx → EReal} {r : Fin 512} {R : Fin 32768}

theorem G19_eq (h0 : ∀ k, x0 (ix2 r k) = a0 (ix2 R k)) (h1 : ∀ k, x1 (ix2 r k) = a1 (ix2 R k)) (h2 : ∀ k, x2 (ix2 r k) = a2 (ix2 R k)) (h3 : ∀ k, x3 (ix2 r k) = a3 (ix2 R k))
    (h4 : ∀ k q, x4 (ix2 k q) = a4 (ix3 0 k q)) (h5 : ∀ q, x5 (ix2 0 q) = a5 (ix2 0 q)) (h6 : ∀ q, x6 (ix2 0 q) = a6 (ix2 0 q)) (q : Fin 1024) :
    G19 x0 x1 x2 x3 x4 x5 x6 (ix2 r q) = x1E a0 a1 a2 a3 a4 a5 a6 R q := by
  unfold G19 x1E
  show x1R (fun k => x0 (ix2 r k)) (fun k => x1 (ix2 r k)) (fun k => x2 (ix2 r k)) (fun q => x3 (ix2 r q)) _ _ _ q = _
  simp only [h0, h1, h2, h3, h4, h5, h6]
theorem CQE_eq (hX : ∀ k, X (ix2 r k) = Y R k) (h7 : ∀ (k : Fin 1024) (j : Fin 384), x7 (ix2 k ⟨j.val, by omega⟩) = a7 (ix3 0 k ⟨j.val, by omega⟩)) (h11 : ∀ j, x11 (ix2 0 j) = a8 (ix2 0 j)) (j : Fin 384) :
    CQE x7 x11 X (ix2 r j) = cqE a7 a8 Y R j := by
  unfold CQE cqE hE
  show rmsR _ (fun j : Fin 384 => ∑ k : Fin 1024, X (ix2 r k) * x7 (ix2 k ⟨j.val, _⟩)) _ j = _
  simp only [hX, h7, h11]
theorem CKE_eq (hX : ∀ k, X (ix2 r k) = Y R k) (h7 : ∀ (k : Fin 1024) (j : Fin 256), x7 (ix2 k ⟨384 + j.val, by omega⟩) = a7 (ix3 0 k ⟨384 + j.val, by omega⟩)) (h12 : ∀ j, x12 (ix2 0 j) = a10 (ix2 0 j)) (j : Fin 256) :
    CKE x7 x12 X (ix2 r j) = ckE a7 a10 Y R j := by
  unfold CKE ckE hE
  show rmsR _ (fun j : Fin 256 => ∑ k : Fin 1024, X (ix2 r k) * x7 (ix2 k ⟨384 + j.val, _⟩)) _ j = _
  simp only [hX, h7, h12]
theorem G20_eq {Q : (⟨2, ![512, 384]⟩ : Shape).Idx → EReal} (hQ : ∀ k, Q (ix2 r k) = cqE a7 a8 Y R k)
    (h8 : ∀ (k : Fin 384) (h : Fin 16) (d : Fin 96), x8 (ix2 k ⟨128 * h.val + d.val, by omega⟩) = a9 (ix3 0 k ⟨96 * h.val + d.val, by omega⟩))
    (h13 : ∀ j, x13 (ix2 r j) = four (fun _ => scq) (fun f => cosP R f * scq) (fun f => cosP R f * scq) (fun _ => 0) j)
    (h14 : ∀ j, x14 (ix2 r j) = four (fun _ => 0) (fun f => -(sinP R f) * scq) (fun _ => 0) (fun _ => 0) j)
    (h15 : ∀ j, x15 (ix2 r j) = four (fun _ => 0) (fun _ => 0) (fun f => sinP R f * scq) (fun _ => 0) j) (C : Fin 2048) :
    G20 x8 x13 x14 x15 Q (ix2 r C) = resQ a7 a8 a9 Y R C := by
  unfold G20 resQ
  refine rope_q _ _ _ scq scq_nonneg _ _ _ _ ?_ (funext h13) (funext h14) (funext h15) _
  intro l hl
  unfold qE
  refine Finset.sum_congr rfl fun k _ => ?_
  exact congrArg₂ (· * ·) (hQ k) (h8 k ⟨C.val / 128, by omega⟩ ⟨l.val, hl⟩)
theorem G21_eq {K : (⟨2, ![512, 256]⟩ : Shape).Idx → EReal} (o : ℕ) (ho : o ≤ 64) (hK : ∀ k, K (ix2 r k) = ckE a7 a10 Y R k)
    (hW : ∀ (k : Fin 256) (C : Fin 1024), W (ix2 k C) = a11 (ix3 0 k ⟨128 * (C.val / 64) + o + C.val % 64, by omega⟩)) (C : Fin 1024) :
    G21 K W (ix2 r C) = resK a7 a10 a11 Y o ho R C := by
  unfold G21 resK kvE
  exact Finset.sum_congr rfl fun k _ => congrArg₂ (· * ·) (hK k) (hW k C)
theorem G22_eq (hX : ∀ k, X (ix2 r k) = Y R k) (h7 : ∀ (k : Fin 1024) (d : Fin 32), x7 (ix2 k ⟨704 + d.val, by omega⟩) = a7 (ix3 0 k ⟨640 + d.val, by omega⟩))
    (h13 : ∀ j, x13 (ix2 r j) = four (fun _ => 0) (fun f => cosP R f * 1) (fun f => cosP R f * 1) (fun _ => 0) j)
    (h14 : ∀ j, x14 (ix2 r j) = four (fun _ => 0) (fun f => -(sinP R f) * 1) (fun _ => 0) (fun _ => 0) j)
    (h15 : ∀ j, x15 (ix2 r j) = four (fun _ => 0) (fun _ => 0) (fun f => sinP R f * 1) (fun _ => 0) j) (C : Fin 128) :
    G22 x7 x13 x14 x15 X (ix2 r C) = resR a7 Y R C := by
  unfold G22 resR
  refine rope_k _ _ _ _ _ _ _ ?_ (funext h13) (funext h14) (funext h15) _
  intro l h0 hl
  unfold hE
  refine Finset.sum_congr rfl fun k _ => congrArg₂ (· * ·) (hX k) (Eq.trans ?_ (h7 k ⟨l.val - 64, by omega⟩))
  exact congrArg x7 (congrArg (ix2 k) (Fin.ext (by show 640 + l.val = 704 + (l.val - 64); omega)))
theorem G24_eq (hX : ∀ k, X (ix2 r k) = Y R k) (h7 : ∀ (k : Fin 1024) (j : Fin 1024), x7 (ix2 k ⟨768 + j.val, by omega⟩) = a7 (ix3 0 k ⟨672 + j.val, by omega⟩)) (C : Fin 1024) :
    G24 x7 X (ix2 r C) = resZ a7 Y R C := by
  unfold G24 resZ hE
  exact congrArg silu (Finset.sum_congr rfl fun k _ => congrArg₂ (· * ·) (hX k) (h7 k C))
end Rows

end Cert.OddIn

end
-- ==== Proof.OdHost.lean ====
/- The buffers the odd layer's input stage is launched with, entry by entry. -/
module

public import proofs.«01_k».proof.Proof.OdSpec
public import proofs.«01_k».proof.Proof.OdFrame
public import Idealize.ShloMosaic.Lib.IdealHost
public import Idealize.ShloMosaic.Lib.StackMember

@[expose] public section

set_option maxRecDepth 16384

noncomputable section

namespace Cert.OddIn

open Idealize.ShloMosaic Idealize.ShloMosaic.TcCoe Idealize.SL.Sem Cert.Kernel4Ideal Cert.Kernel4Ideal.Gen

/-- A table of four pieces. -/
def cat4 (A : FVec Ideal S2048x64 .f32) (B C : FVec Ideal S2048x16 .f32) (D : FVec Ideal S2048x32 .f32) : FVec Ideal S2048x128 .f32 :=
  concatenate S2048x128 1 [⟨S2048x64, A⟩, ⟨S2048x16, B⟩, ⟨S2048x16, C⟩, ⟨S2048x32, D⟩] concatenates_S2048x64_S2048x16_S2048x16_S2048x32_S2048x128_d1
theorem cat4_apply (A : FVec Ideal S2048x64 .f32) (B C : FVec Ideal S2048x16 .f32) (D : FVec Ideal S2048x32 .f32) (p : Fin 2048) (l : Fin 128) :
    cat4 A B C D (ix2 p l) = four (fun f => A (ix2 p f)) (fun f => B (ix2 p f)) (fun f => C (ix2 p f)) (fun f => D (ix2 p f)) l := by
  unfold cat4 four
  by_cases h : l.val < 64
  · rw [dif_pos h]
    refine concatenate_apply_piece (t := S2048x128) 1 _ _ (ix2 p l) 0 (by show 0 < 4; decide) S2048x64 A rfl rfl 0 rfl (ix2 p ⟨l.val, h⟩) ?_ (by show 0 + l.val = l.val; omega)
    intro b hb; fin_cases b
    · rfl
    · exact absurd rfl hb
  rw [dif_neg h]
  by_cases h1 : l.val < 80
  · rw [dif_pos h1]
    refine concatenate_apply_piece (t := S2048x128) 1 _ _ (ix2 p l) 1 (by show 1 < 4; decide) S2048x16 B rfl rfl 64 rfl (ix2 p ⟨l.val - 64, by omega⟩) ?_ (by show 64 + (l.val - 64) = l.val; omega)
    intro b hb; fin_cases b
    · rfl
    · exact absurd rfl hb
  rw [dif_neg h1]
  by_cases h2 : l.val < 96
  · rw [dif_pos h2]
    refine concatenate_apply_piece (t := S2048x128) 1 _ _ (ix2 p l) 2 (by show 2 < 4; decide) S2048x16 C rfl rfl 80 rfl (ix2 p ⟨l.val - 80, by omega⟩) ?_ (by show 80 + (l.val - 80) = l.val; omega)
    intro b hb; fin_cases b
    · rfl
    · exact absurd rfl hb
  rw [dif_neg h2]
  refine concatenate_apply_piece (t := S2048x128) 1 _ _ (ix2 p l) 3 (by show 3 < 4; decide) S2048x32 D rfl rfl 96 rfl (ix2 p ⟨l.val - 96, by omega⟩) ?_ (by show 96 + (l.val - 96) = l.val; omega)
  intro b hb; fin_cases b
  · rfl
  · exact absurd rfl hb

/-- The input weight, its rotary columns moved to a head's place of 128. -/
def w1T (A : FVec Ideal S1x1024x1696 .f32) : FVec Ideal S1024x1696 .bf16 := truncf .bf16 (shapeCast S1024x1696 A shapeCasts_S1x1024x1696_S1024x1696) bitsLt_bf16_f32
theorem w1T_apply (A : FVec Ideal S1x1024x1696 .f32) (k : Fin 1024) (j : Fin 1696) : w1T A (ix2 k j) = A (ix3 0 k j) := by
  refine shapeCast_apply A _ (ix2 k j) (ix3 0 k j) ?_
  rw [Shape.rowMajor_val_two, Shape.rowMajor_val_three]
  show (0 * 1024 + k.val) * 1696 + j.val = k.val * 1696 + j.val
  omega
def w1P (A : FVec Ideal S1x1024x1696 .f32) : FVec Ideal S1024x1792 .bf16 :=
  concatenate S1024x1792 1 [⟨S1024x640, (extractStridedSlice S1024x640 ![0, 0] (w1T A) slices_S1024x1696_S1024x640_0_0 : FVec Ideal S1024x640 .bf16)⟩, ⟨S1024x64, (broadcastInDim S1024x64 ![] bcast_S_S1024x64 (constant S_ .bf16 0x0000#16) : FVec Ideal S1024x64 .bf16)⟩, ⟨S1024x32, (extractStridedSlice S1024x32 ![0, 640] (w1T A) slices_S1024x1696_S1024x32_0_640 : FVec Ideal S1024x32 .bf16)⟩, ⟨S1024x32, (broadcastInDim S1024x32 ![] bcast_S_S1024x32 (constant S_ .bf16 0x0000#16) : FVec Ideal S1024x32 .bf16)⟩, ⟨S1024x1024, (extractStridedSlice S1024x1024 ![0, 672] (w1T A) slices_S1024x1696_S1024x1024_0_672 : FVec Ideal S1024x1024 .bf16)⟩]
    concatenates_S1024x640_S1024x64_S1024x32_S1024x32_S1024x1024_S1024x1792_d1
theorem w1P_a (A : FVec Ideal S1x1024x1696 .f32) (k : Fin 1024) (j : Fin 640) : w1P A (ix2 k ⟨0 + j.val, by omega⟩) = A (ix3 0 k ⟨0 + j.val, by omega⟩) := by
  unfold w1P
  refine (concatenate_apply_piece (t := S1024x1792) 1 _ _ (ix2 k ⟨0 + j.val, by omega⟩) 0 (by show 0 < 5; decide) S1024x640 (extractStridedSlice S1024x640 ![0, 0] (w1T A) slices_S1024x1696_S1024x640_0_0 : FVec Ideal S1024x640 .bf16) rfl rfl 0 rfl (ix2 k j) ?_ rfl).trans ?_
  · intro b hb; fin_cases b
    · rfl
    · exact absurd rfl hb
  refine (extractStridedSlice_apply _ _ slices_S1024x1696_S1024x640_0_0 (ix2 k j) (ix2 k ⟨0 + j.val, by omega⟩) ?_).trans (w1T_apply A k _)
  intro a; fin_cases a
  · show k.val = 0 + k.val; omega
  · rfl
theorem w1P_r (A : FVec Ideal S1x1024x1696 .f32) (k : Fin 1024) (j : Fin 32) : w1P A (ix2 k ⟨704 + j.val, by omega⟩) = A (ix3 0 k ⟨640 + j.val, by omega⟩) := by
  unfold w1P
  refine (concatenate_apply_piece (t := S1024x1792) 1 _ _ (ix2 k ⟨704 + j.val, by omega⟩) 2 (by show 2 < 5; decide) S1024x32 (extractStridedSlice S1024x32 ![0, 640] (w1T A) slices_S1024x1696_S1024x32_0_640 : FVec Ideal S1024x32 .bf16) rfl rfl 704 rfl (ix2 k j) ?_ rfl).trans ?_
  · intro b hb; fin_cases b
    · rfl
    · exact absurd rfl hb
  refine (extractStridedSlice_apply _ _ slices_S1024x1696_S1024x32_0_640 (ix2 k j) (ix2 k ⟨640 + j.val, by omega⟩) ?_).trans (w1T_apply A k _)
  intro a; fin_cases a
  · show k.val = 0 + k.val; omega
  · rfl
theorem w1P_z (A : FVec Ideal S1x1024x1696 .f32) (k : Fin 1024) (j : Fin 1024) : w1P A (ix2 k ⟨768 + j.val, by omega⟩) = A (ix3 0 k ⟨672 + j.val, by omega⟩) := by
  unfold w1P
  refine (concatenate_apply_piece (t := S1024x1792) 1 _ _ (ix2 k ⟨768 + j.val, by omega⟩) 4 (by show 4 < 5; decide) S1024x1024 (extractStridedSlice S1024x1024 ![0, 672] (w1T A) slices_S1024x1696_S1024x1024_0_672 : FVec Ideal S1024x1024 .bf16) rfl rfl 768 rfl (ix2 k j) ?_ rfl).trans ?_
  · intro b hb; fin_cases b
    · rfl
    · exact absurd rfl hb
  refine (extractStridedSlice_apply _ _ slices_S1024x1696_S1024x1024_0_672 (ix2 k j) (ix2 k ⟨672 + j.val, by omega⟩) ?_).trans (w1T_apply A k _)
  intro a; fin_cases a
  · show k.val = 0 + k.val; omega
  · rfl

/-- The query weight, each head of 96 columns filled up to 128. -/
def wqP (A : FVec Ideal S1x384x1536 .f32) : FVec Ideal S384x2048 .bf16 :=
  shapeCast S384x2048 (concatenate S384x16x128 2 [⟨S384x16x96, (shapeCast S384x16x96 (truncf .bf16 (shapeCast S384x1536 A shapeCasts_S1x384x1536_S384x1536) bitsLt_bf16_f32 : FVec Ideal S384x1536 .bf16) shapeCasts_S384x1536_S384x16x96 : FVec Ideal S384x16x96 .bf16)⟩, ⟨S384x16x32, (broadcastInDim S384x16x32 ![] bcast_S_S384x16x32 (constant S_ .bf16 0x0000#16) : FVec Ideal S384x16x32 .bf16)⟩]
    concatenates_S384x16x96_S384x16x32_S384x16x128_d2 : FVec Ideal S384x16x128 .bf16) shapeCasts_S384x16x128_S384x2048
theorem wqP_apply (A : FVec Ideal S1x384x1536 .f32) (k : Fin 384) (h : Fin 16) (d : Fin 96) :
    wqP A (ix2 k ⟨128 * h.val + d.val, by omega⟩) = A (ix3 0 k ⟨96 * h.val + d.val, by omega⟩) := by
  unfold wqP
  refine (shapeCast_apply _ _ _ (ix3 k h ⟨d.val, by omega⟩) ?_).trans ?_
  · rw [Shape.rowMajor_val_two, Shape.rowMajor_val_three]
    show (k.val * 16 + h.val) * 128 + d.val = k.val * 2048 + (128 * h.val + d.val)
    omega
  refine (concatenate_pair_apply_left 2 _ _ concatenates_S384x16x96_S384x16x32_S384x16x128_d2 _ rfl (ix3 k h d) ?_).trans ?_
  · intro b; fin_cases b <;> rfl
  refine (shapeCast_apply _ _ (ix3 k h d) (ix2 k ⟨96 * h.val + d.val, by omega⟩) ?_).trans ?_
  · rw [Shape.rowMajor_val_two, Shape.rowMajor_val_three]
    show k.val * 1536 + (96 * h.val + d.val) = (k.val * 16 + h.val) * 96 + d.val
    omega
  refine shapeCast_apply A _ (ix2 k ⟨96 * h.val + d.val, by omega⟩) (ix3 0 k ⟨96 * h.val + d.val, by omega⟩) ?_
  rw [Shape.rowMajor_val_two, Shape.rowMajor_val_three]
  show (0 * 384 + k.val) * 1536 + (96 * h.val + d.val) = k.val * 1536 + (96 * h.val + d.val)
  omega

/-- The key and value weight by heads. -/
def wkv (A : FVec Ideal S1x256x2048 .f32) : FVec Ideal S256x16x128 .bf16 :=
  shapeCast S256x16x128 (truncf .bf16 (shapeCast S256x2048 A shapeCasts_S1x256x2048_S256x2048) bitsLt_bf16_f32 : FVec Ideal S256x2048 .bf16) shapeCasts_S256x2048_S256x16x128
theorem wkv_apply (A : FVec Ideal S1x256x2048 .f32) (k : Fin 256) (h : Fin 16) (d : Fin 128) : wkv A (ix3 k h d) = A (ix3 0 k ⟨128 * h.val + d.val, by omega⟩) := by
  unfold wkv
  refine (shapeCast_apply _ _ (ix3 k h d) (ix2 k ⟨128 * h.val + d.val, by omega⟩) ?_).trans ?_
  · rw [Shape.rowMajor_val_two, Shape.rowMajor_val_three]
    show k.val * 2048 + (128 * h.val + d.val) = (k.val * 16 + h.val) * 128 + d.val
    omega
  refine shapeCast_apply A _ (ix2 k ⟨128 * h.val + d.val, by omega⟩) (ix3 0 k ⟨128 * h.val + d.val, by omega⟩) ?_
  rw [Shape.rowMajor_val_two, Shape.rowMajor_val_three]
  show (0 * 256 + k.val) * 2048 + (128 * h.val + d.val) = k.val * 2048 + (128 * h.val + d.val)
  omega
def wkP (A : FVec Ideal S1x256x2048 .f32) : FVec Ideal S256x1024 .bf16 :=
  shapeCast S256x1024 (extractStridedSlice S256x16x64 ![0, 0, 0] (wkv A) slices_S256x16x128_S256x16x64_0_0_0 : FVec Ideal S256x16x64 .bf16) shapeCasts_S256x16x64_S256x1024
theorem wkP_apply (A : FVec Ideal S1x256x2048 .f32) (k : Fin 256) (C : Fin 1024) :
    wkP A (ix2 k C) = A (ix3 0 k ⟨128 * (C.val / 64) + 0 + C.val % 64, by omega⟩) := by
  unfold wkP
  refine (shapeCast_apply _ _ _ (ix3 k ⟨C.val / 64, by omega⟩ ⟨C.val % 64, by omega⟩) ?_).trans ?_
  · rw [Shape.rowMajor_val_two, Shape.rowMajor_val_three]
    show (k.val * 16 + C.val / 64) * 64 + C.val % 64 = k.val * 1024 + C.val
    omega
  refine (extractStridedSlice_apply _ _ slices_S256x16x128_S256x16x64_0_0_0 _ (ix3 k ⟨C.val / 64, by omega⟩ ⟨0 + C.val % 64, by omega⟩) ?_).trans ?_
  · intro a; fin_cases a
    · show k.val = 0 + k.val; omega
    · show C.val / 64 = 0 + C.val / 64; omega
    · rfl
  refine (wkv_apply A k _ _).trans (congrArg A (congrArg (ix3 0 k) (Fin.ext ?_)))
  show 128 * (C.val / 64) + (0 + C.val % 64) = 128 * (C.val / 64) + 0 + C.val % 64
  omega
def wvP (A : FVec Ideal S1x256x2048 .f32) : FVec Ideal S256x1024 .bf16 :=
  shapeCast S256x1024 (extractStridedSlice S256x16x64 ![0, 0, 64] (wkv A) slices_S256x16x128_S256x16x64_0_0_64 : FVec Ideal S256x16x64 .bf16) shapeCasts_S256x16x64_S256x1024
theorem wvP_apply (A : FVec Ideal S1x256x2048 .f32) (k : Fin 256) (C : Fin 1024) :
    wvP A (ix2 k C) = A (ix3 0 k ⟨128 * (C.val / 64) + 64 + C.val % 64, by omega⟩) := by
  unfold wvP
  refine (shapeCast_apply _ _ _ (ix3 k ⟨C.val / 64, by omega⟩ ⟨C.val % 64, by omega⟩) ?_).trans ?_
  · rw [Shape.rowMajor_val_two, Shape.rowMajor_val_three]
    show (k.val * 16 + C.val / 64) * 64 + C.val % 64 = k.val * 1024 + C.val
    omega
  refine (extractStridedSlice_apply _ _ slices_S256x16x128_S256x16x64_0_0_64 _ (ix3 k ⟨C.val / 64, by omega⟩ ⟨64 + C.val % 64, by omega⟩) ?_).trans ?_
  · intro a; fin_cases a
    · show k.val = 0 + k.val; omega
    · show C.val / 64 = 0 + C.val / 64; omega
    · rfl
  refine (wkv_apply A k _ _).trans (congrArg A (congrArg (ix3 0 k) (Fin.ext ?_)))
  show 128 * (C.val / 64) + (64 + C.val % 64) = 128 * (C.val / 64) + 64 + C.val % 64
  omega

variable (m : (ℓ : Loc nD τ sig) → Buf (Elt Ideal) ℓ) (c : Dev nD)

theorem V_w1 : V m c main_v11 = w1P (m ((c : Thread nD τ).loc main_arg7)) := by
  unfold V hostOps0
  after_results_simp <;> rfl
theorem V_wq : V m c main_v15 = wqP (m ((c : Thread nD τ).loc main_arg9)) := by
  unfold V hostOps0
  after_results_simp <;> rfl
theorem V_wk : V m c main_v18 = wkP (m ((c : Thread nD τ).loc main_arg11)) := by
  unfold V hostOps0
  after_results_simp <;> rfl
theorem V_wv : V m c main_v20 = wvP (m ((c : Thread nD τ).loc main_arg11)) := by
  unfold V hostOps0
  after_results_simp <;> rfl
theorem V_wo : V m c main_v67 = (truncf .bf16 (shapeCast S1024x1024 ((m ((c : Thread nD τ).loc main_arg4)) : FVec Ideal S1x1024x1024 .f32) shapeCasts_S1x1024x1024_S1024x1024) bitsLt_bf16_f32 : FVec Ideal S1024x1024 .bf16) := by
  unfold V hostOps0
  after_results_simp <;> rfl
theorem wo_apply (B : FVec Ideal S1x1024x1024 .f32) (k q : Fin 1024) : shapeCast S1024x1024 B shapeCasts_S1x1024x1024_S1024x1024 (ix2 k q) = B (ix3 0 k q) := by
  refine shapeCast_apply B _ (ix2 k q) (ix3 0 k q) ?_
  rw [Shape.rowMajor_val_two, Shape.rowMajor_val_three]
  show (0 * 1024 + k.val) * 1024 + q.val = k.val * 1024 + q.val
  omega
theorem V_wo_apply (k q : Fin 1024) : V m c main_v67 (ix2 k q) = (m ((c : Thread nD τ).loc main_arg4)) (ix3 0 k q) := by
  rw [V_wo]
  exact wo_apply _ k q
theorem V_g : V m c main_v69 = (shapeCast S1x1024 (shapeCast S1024 ((m ((c : Thread nD τ).loc main_arg5)) : FVec Ideal S1x1024 .f32) shapeCasts_S1x1024_S1024 : FVec Ideal S1024 .f32) shapeCasts_S1024_S1x1024 : FVec Ideal S1x1024 .f32) := by
  unfold V hostOps0
  after_results_simp <;> rfl
theorem V_g_apply (q : Fin 1024) : V m c main_v69 (ix2 0 q) = (m ((c : Thread nD τ).loc main_arg5)) (ix2 0 q) := by
  rw [V_g]
  pointwise
theorem V_b : V m c main_v71 = (shapeCast S1x1024 (shapeCast S1024 ((m ((c : Thread nD τ).loc main_arg6)) : FVec Ideal S1x1024 .f32) shapeCasts_S1x1024_S1024 : FVec Ideal S1024 .f32) shapeCasts_S1024_S1x1024 : FVec Ideal S1x1024 .f32) := by
  unfold V hostOps0
  after_results_simp <;> rfl
theorem V_b_apply (q : Fin 1024) : V m c main_v71 (ix2 0 q) = (m ((c : Thread nD τ).loc main_arg6)) (ix2 0 q) := by
  rw [V_b]
  pointwise
theorem V_qn : V m c main_v73 = (shapeCast S1x384 (shapeCast S384 ((m ((c : Thread nD τ).loc main_arg8)) : FVec Ideal S1x384 .f32) shapeCasts_S1x384_S384 : FVec Ideal S384 .f32) shapeCasts_S384_S1x384 : FVec Ideal S1x384 .f32) := by
  unfold V hostOps0
  after_results_simp <;> rfl
theorem V_qn_apply (q : Fin 384) : V m c main_v73 (ix2 0 q) = (m ((c : Thread nD τ).loc main_arg8)) (ix2 0 q) := by
  rw [V_qn]
  pointwise
theorem V_kn : V m c main_v75 = (shapeCast S1x256 (shapeCast S256 ((m ((c : Thread nD τ).loc main_arg10)) : FVec Ideal S1x256 .f32) shapeCasts_S1x256_S256 : FVec Ideal S256 .f32) shapeCasts_S256_S1x256 : FVec Ideal S1x256 .f32) := by
  unfold V hostOps0
  after_results_simp <;> rfl
theorem V_kn_apply (q : Fin 256) : V m c main_v75 (ix2 0 q) = (m ((c : Thread nD τ).loc main_arg10)) (ix2 0 q) := by
  rw [V_kn]
  pointwise
theorem V_q0 : V m c main_v45 = cat4 (broadcastInDim S2048x64 ![] bcast_S_S2048x64 (constant S_ .f32 0x3E16C740#32)) (mulf cosT (broadcastInDim S2048x16 ![] bcast_S_S2048x16 (constant S_ .f32 0x3E16C740#32))) (mulf cosT (broadcastInDim S2048x16 ![] bcast_S_S2048x16 (constant S_ .f32 0x3E16C740#32))) (broadcastInDim S2048x32 ![] bcast_S_S2048x32 (constant S_ .f32 0x00000000#32)) := by
  unfold V hostOps0
  after_results_simp <;> rfl
theorem V_q0_apply (p : Fin 2048) (j : Fin 128) : V m c main_v45 (ix2 p j) = four (fun _ => scq) (fun f => cosT (ix2 p f) * scq) (fun f => cosT (ix2 p f) * scq) (fun _ => 0) j := by
  rw [V_q0, cat4_apply]
  have hz : Ideal.ofBits .f32 0x00000000#32 = 0 := Ideal.ofBits_zero_f32
  have ho : Ideal.ofBits .f32 0x3E16C740#32 = scq := rfl
  show four (fun _ => Ideal.ofBits .f32 0x3E16C740#32) (fun f => cosT (ix2 p f) * Ideal.ofBits .f32 0x3E16C740#32) (fun f => cosT (ix2 p f) * Ideal.ofBits .f32 0x3E16C740#32) (fun _ => Ideal.ofBits .f32 0x00000000#32) j = _
  rw [hz, ho]
theorem V_q1 : V m c main_v49 = cat4 (broadcastInDim S2048x64 ![] bcast_S_S2048x64 (constant S_ .f32 0x00000000#32)) (mulf (Host.negf sinT) (broadcastInDim S2048x16 ![] bcast_S_S2048x16 (constant S_ .f32 0x3E16C740#32))) (broadcastInDim S2048x16 ![] bcast_S_S2048x16 (constant S_ .f32 0x00000000#32)) (broadcastInDim S2048x32 ![] bcast_S_S2048x32 (constant S_ .f32 0x00000000#32)) := by
  unfold V hostOps0
  after_results_simp <;> rfl
theorem V_q1_apply (p : Fin 2048) (j : Fin 128) : V m c main_v49 (ix2 p j) = four (fun _ => 0) (fun f => -(sinT (ix2 p f)) * scq) (fun _ => 0) (fun _ => 0) j := by
  rw [V_q1, cat4_apply]
  have hz : Ideal.ofBits .f32 0x00000000#32 = 0 := Ideal.ofBits_zero_f32
  have ho : Ideal.ofBits .f32 0x3E16C740#32 = scq := rfl
  show four (fun _ => Ideal.ofBits .f32 0x00000000#32) (fun f => -(sinT (ix2 p f)) * Ideal.ofBits .f32 0x3E16C740#32) (fun _ => Ideal.ofBits .f32 0x00000000#32) (fun _ => Ideal.ofBits .f32 0x00000000#32) j = _
  rw [hz, ho]
theorem V_q2 : V m c main_v52 = cat4 (broadcastInDim S2048x64 ![] bcast_S_S2048x64 (constant S_ .f32 0x00000000#32)) (broadcastInDim S2048x16 ![] bcast_S_S2048x16 (constant S_ .f32 0x00000000#32)) (mulf sinT (broadcastInDim S2048x16 ![] bcast_S_S2048x16 (constant S_ .f32 0x3E16C740#32))) (broadcastInDim S2048x32 ![] bcast_S_S2048x32 (constant S_ .f32 0x00000000#32)) := by
  unfold V hostOps0
  after_results_simp <;> rfl
theorem V_q2_apply (p : Fin 2048) (j : Fin 128) : V m c main_v52 (ix2 p j) = four (fun _ => 0) (fun _ => 0) (fun f => sinT (ix2 p f) * scq) (fun _ => 0) j := by
  rw [V_q2, cat4_apply]
  have hz : Ideal.ofBits .f32 0x00000000#32 = 0 := Ideal.ofBits_zero_f32
  have ho : Ideal.ofBits .f32 0x3E16C740#32 = scq := rfl
  show four (fun _ => Ideal.ofBits .f32 0x00000000#32) (fun _ => Ideal.ofBits .f32 0x00000000#32) (fun f => sinT (ix2 p f) * Ideal.ofBits .f32 0x3E16C740#32) (fun _ => Ideal.ofBits .f32 0x00000000#32) j = _
  rw [hz, ho]
theorem V_k0 : V m c main_v58 = cat4 (broadcastInDim S2048x64 ![] bcast_S_S2048x64 (constant S_ .f32 0x00000000#32)) (mulf cosT (broadcastInDim S2048x16 ![] bcast_S_S2048x16 (constant S_ .f32 0x3F800000#32))) (mulf cosT (broadcastInDim S2048x16 ![] bcast_S_S2048x16 (constant S_ .f32 0x3F800000#32))) (broadcastInDim S2048x32 ![] bcast_S_S2048x32 (constant S_ .f32 0x00000000#32)) := by
  unfold V hostOps0
  after_results_simp <;> rfl
theorem V_k0_apply (p : Fin 2048) (j : Fin 128) : V m c main_v58 (ix2 p j) = four (fun _ => 0) (fun f => cosT (ix2 p f) * 1) (fun f => cosT (ix2 p f) * 1) (fun _ => 0) j := by
  rw [V_k0, cat4_apply]
  have hz : Ideal.ofBits .f32 0x00000000#32 = 0 := Ideal.ofBits_zero_f32
  have ho : Ideal.ofBits .f32 0x3F800000#32 = 1 := Ideal.ofBits_one_f32
  show four (fun _ => Ideal.ofBits .f32 0x00000000#32) (fun f => cosT (ix2 p f) * Ideal.ofBits .f32 0x3F800000#32) (fun f => cosT (ix2 p f) * Ideal.ofBits .f32 0x3F800000#32) (fun _ => Ideal.ofBits .f32 0x00000000#32) j = _
  rw [hz, ho]
theorem V_k1 : V m c main_v62 = cat4 (broadcastInDim S2048x64 ![] bcast_S_S2048x64 (constant S_ .f32 0x00000000#32)) (mulf (Host.negf sinT) (broadcastInDim S2048x16 ![] bcast_S_S2048x16 (constant S_ .f32 0x3F800000#32))) (broadcastInDim S2048x16 ![] bcast_S_S2048x16 (constant S_ .f32 0x00000000#32)) (broadcastInDim S2048x32 ![] bcast_S_S2048x32 (constant S_ .f32 0x00000000#32)) := by
  unfold V hostOps0
  after_results_simp <;> rfl
theorem V_k1_apply (p : Fin 2048) (j : Fin 128) : V m c main_v62 (ix2 p j) = four (fun _ => 0) (fun f => -(sinT (ix2 p f)) * 1) (fun _ => 0) (fun _ => 0) j := by
  rw [V_k1, cat4_apply]
  have hz : Ideal.ofBits .f32 0x00000000#32 = 0 := Ideal.ofBits_zero_f32
  have ho : Ideal.ofBits .f32 0x3F800000#32 = 1 := Ideal.ofBits_one_f32
  show four (fun _ => Ideal.ofBits .f32 0x00000000#32) (fun f => -(sinT (ix2 p f)) * Ideal.ofBits .f32 0x3F800000#32) (fun _ => Ideal.ofBits .f32 0x00000000#32) (fun _ => Ideal.ofBits .f32 0x00000000#32) j = _
  rw [hz, ho]
theorem V_k2 : V m c main_v65 = cat4 (broadcastInDim S2048x64 ![] bcast_S_S2048x64 (constant S_ .f32 0x00000000#32)) (broadcastInDim S2048x16 ![] bcast_S_S2048x16 (constant S_ .f32 0x00000000#32)) (mulf sinT (broadcastInDim S2048x16 ![] bcast_S_S2048x16 (constant S_ .f32 0x3F800000#32))) (broadcastInDim S2048x32 ![] bcast_S_S2048x32 (constant S_ .f32 0x00000000#32)) := by
  unfold V hostOps0
  after_results_simp <;> rfl
theorem V_k2_apply (p : Fin 2048) (j : Fin 128) : V m c main_v65 (ix2 p j) = four (fun _ => 0) (fun _ => 0) (fun f => sinT (ix2 p f) * 1) (fun _ => 0) j := by
  rw [V_k2, cat4_apply]
  have hz : Ideal.ofBits .f32 0x00000000#32 = 0 := Ideal.ofBits_zero_f32
  have ho : Ideal.ofBits .f32 0x3F800000#32 = 1 := Ideal.ofBits_one_f32
  show four (fun _ => Ideal.ofBits .f32 0x00000000#32) (fun _ => Ideal.ofBits .f32 0x00000000#32) (fun f => sinT (ix2 p f) * Ideal.ofBits .f32 0x3F800000#32) (fun _ => Ideal.ofBits .f32 0x00000000#32) j = _
  rw [hz, ho]

end Cert.OddIn

end
-- ==== Proof.OdVal.lean ====
/- The outputs of the odd layer input call block by block. -/
module

public import proofs.«01_k».proof.Proof.OdFrame
public import Idealize.ShloMosaic.Lib.Pipeline.Value

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed19 (c : Dev nD) (t : Fin cfg0.N) :
    (dats m 0 c).flushed 19 t = (cfg0.win 19).cut (grid0.coords t) ((outsAt0 m c t).1) := by
  show (cfg0.win 19).cut (grid0.coords t) ((dats m 0 c).after 19 t) = _
  rw [after0_19]

theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed19, outsAt0]

theorem idx_inj19 : ∀ t t' : Fin cfg0.N, win0_19.index t = win0_19.index t' → t = t' :=
  (by decide +kernel : ∀ t t' : Fin grid0.N, win0_19.index t = win0_19.index t' → t = t')

theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

theorem entry19 (c : Dev nD) (i : S32768x1024.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

theorem flushed20 (c : Dev nD) (t : Fin cfg0.N) :
    (dats m 0 c).flushed 20 t = (cfg0.win 20).cut (grid0.coords t) ((outsAt0 m c t).2.1) := by
  show (cfg0.win 20).cut (grid0.coords t) ((dats m 0 c).after 20 t) = _
  rw [after0_20]

theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed20, outsAt0]

theorem idx_inj20 : ∀ t t' : Fin cfg0.N, win0_20.index t = win0_20.index t' → t = t' :=
  (by decide +kernel : ∀ t t' : Fin grid0.N, win0_20.index t = win0_20.index t' → t = t')

theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

theorem entry20 (c : Dev nD) (i : S32768x2048.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

theorem flushed21 (c : Dev nD) (t : Fin cfg0.N) :
    (dats m 0 c).flushed 21 t = (cfg0.win 21).cut (grid0.coords t) ((outsAt0 m c t).2.2.1) := by
  show (cfg0.win 21).cut (grid0.coords t) ((dats m 0 c).after 21 t) = _
  rw [after0_21]

theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed21, outsAt0]

theorem idx_inj21 : ∀ t t' : Fin cfg0.N, win0_21.index t = win0_21.index t' → t = t' :=
  (by decide +kernel : ∀ t t' : Fin grid0.N, win0_21.index t = win0_21.index t' → t = t')

theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

theorem entry21 (c : Dev nD) (i : S32768x1024.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

theorem flushed22 (c : Dev nD) (t : Fin cfg0.N) :
    (dats m 0 c).flushed 22 t = (cfg0.win 22).cut (grid0.coords t) ((outsAt0 m c t).2.2.2.1) := by
  show (cfg0.win 22).cut (grid0.coords t) ((dats m 0 c).after 22 t) = _
  rw [after0_22]

theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed22, outsAt0]

theorem idx_inj22 : ∀ t t' : Fin cfg0.N, win0_22.index t = win0_22.index t' → t = t' :=
  (by decide +kernel : ∀ t t' : Fin grid0.N, win0_22.index t = win0_22.index t' → t = t')

theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

theorem entry22 (c : Dev nD) (i : S32768x128.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

theorem flushed23 (c : Dev nD) (t : Fin cfg0.N) :
    (dats m 0 c).flushed 23 t = (cfg0.win 23).cut (grid0.coords t) ((outsAt0 m c t).2.2.2.2.1) := by
  show (cfg0.win 23).cut (grid0.coords t) ((dats m 0 c).after 23 t) = _
  rw [after0_23]

theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed23, outsAt0]

theorem idx_inj23 : ∀ t t' : Fin cfg0.N, win0_23.index t = win0_23.index t' → t = t' :=
  (by decide +kernel : ∀ t t' : Fin grid0.N, win0_23.index t = win0_23.index t' → t = t')

theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

theorem entry23 (c : Dev nD) (i : S32768x1024.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

theorem flushed24 (c : Dev nD) (t : Fin cfg0.N) :
    (dats m 0 c).flushed 24 t = (cfg0.win 24).cut (grid0.coords t) ((outsAt0 m c t).2.2.2.2.2) := by
  show (cfg0.win 24).cut (grid0.coords t) ((dats m 0 c).after 24 t) = _
  rw [after0_24]

theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed24, outsAt0]

theorem idx_inj24 : ∀ t t' : Fin cfg0.N, win0_24.index t = win0_24.index t' → t = t' :=
  (by decide +kernel : ∀ t t' : Fin grid0.N, win0_24.index t = win0_24.index t' → t = t')

theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

theorem entry24 (c : Dev nD) (i : S32768x1024.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

theorem post19 (r : PUnit × MemSt nD τ sig (Elt F)) (h : Pipeline.FramePost cfgs (dats m) 0 (V m) r) (c : Dev nD) :
    r.2.mem ((c : Thread nD τ).loc main_v76_0) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v76_1) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v76_2) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v76_3) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v76_4) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v76_5) = (dats m 0 c).arrAt 24 cfg0.N :=
  (h c).1 24

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

set_option maxHeartbeats 4000000 in
theorem run_blocks : θ_run defs (onTc (τ := τ) (main (F := F))) ⟨m, fun _ => 0, ρ⟩ fun r => ∀ c : Dev nD,
      r.2.mem ((c : Thread nD τ).loc main_v76_0) = (dats m 0 c).arrAt 19 cfg0.N
      ∧ r.2.mem ((c : Thread nD τ).loc main_v76_1) = (dats m 0 c).arrAt 20 cfg0.N
      ∧ r.2.mem ((c : Thread nD τ).loc main_v76_2) = (dats m 0 c).arrAt 21 cfg0.N
      ∧ r.2.mem ((c : Thread nD τ).loc main_v76_3) = (dats m 0 c).arrAt 22 cfg0.N
      ∧ r.2.mem ((c : Thread nD τ).loc main_v76_4) = (dats m 0 c).arrAt 23 cfg0.N
      ∧ r.2.mem ((c : Thread nD τ).loc main_v76_5) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.Kernel4Ideal.Value

end
-- ==== Proof.OdFacts.lean ====
/- What the odd layer input call holds in each half tile. -/
module

public import proofs.«01_k».proof.Proof.OdVal
public import proofs.«01_k».proof.Proof.OdHalf

@[expose] public section

set_option maxRecDepth 16384
set_option maxHeartbeats 400000

noncomputable section

namespace Cert.OddIn

open Idealize.ShloMosaic Idealize.ShloMosaic.TcCoe Cert.Kernel4Ideal Cert.Kernel4Ideal.Gen
open Cert.Kernel4Ideal.Gen.kernelRun0_A

/-- A half tile's products with the columns of the key and value latents. -/
def ckV (X : FVec Ideal S256x1024 .bf16) (w : Vec Ideal S1024x256 .bf16) : FVec Ideal S256x256 .f32 :=
  matmul dot_S256x1024_S1024x256_S256x256_1_0_0_1_n_n none X (shapeCast S1024x256 w shapeCasts_S1024x256_S1024x256 : FVec Ideal S1024x256 .bf16) (constant S256x256 .f32 0x00000000#32)
theorem ckV_eq (X : FVec Ideal S256x1024 .bf16) (w : Vec Ideal S1024x256 .bf16) : k0_pay13 X (k0_pay12 w) = ckV X w := rfl
theorem pay61_eq (V : FVec Ideal S256x256 .f32) (g : Vec Ideal S1x256 .f32) : k0_pay61 V g = k0_pay25 V g := rfl
theorem pay21_eq (a b : FVec Ideal S256x1024 .f32) (w : Vec Ideal S1024x256 .bf16) : k0_pay21 a b w = ckV (k0_pay19 a b) w := rfl
theorem kb_half {x7 : (⟨2, ![1024, 1792]⟩ : Shape).Idx → EReal} {x12 : (⟨2, ![1, 256]⟩ : Shape).Idx → EReal} {ρ : ℕ} {X : (⟨2, ![512, 1024]⟩ : Shape).Idx → EReal}
    {a b : FVec Ideal S256x1024 .f32} {w : Vec Ideal S1024x256 .bf16} {g : Vec Ideal S1x256 .f32} (hX : IsL ρ 0 X (k0_pay19 a b)) (hw : IsL 0 384 x7 w) (hg : IsL 0 0 x12 g) :
    IsL ρ 0 (CKE x7 x12 X) (k0_pay61 (k0_pay21 a b w) g) := by
  have h := ck_half hX hw hg
  rw [ckV_eq] at h
  rw [pay61_eq, pay21_eq]
  exact h

theorem fact_xa (c : Dev nD) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (x0 : Vec Ideal S512x512 .bf16) (x1 : Vec Ideal S512x512 .bf16) (x2 : Vec Ideal S512x512 .bf16) (x3 : Vec Ideal S512x1024 .f32) (x4 : Vec Ideal S1024x1024 .bf16) (x5 : Vec Ideal S1x1024 .f32) (x6 : Vec Ideal S1x1024 .f32) :
    IsL 0 0 (G19 x0 x1 x2 x3 x4 x5 x6) (kernelRun0_A.sl.r_7 (F := Ideal) c arg1 harg1 arg2 harg2 arg3 harg3 arg4 harg4 arg5 harg5 arg6 harg6 arg7 harg7 x0 x1 x2 x3 x4 x5 x6) :=
  x1_half (loadB arg1 harg1 x0 0 0 inb_S512x512_S256x512_0_0) (loadB arg2 harg2 x1 0 0 inb_S512x512_S256x512_0_0) (loadB arg5 harg5 x4 0 0 inb_S1024x1024_S512x1024_0_0) (loadB arg3 harg3 x2 0 0 inb_S512x512_S256x512_0_0) (loadB arg5 harg5 x4 512 0 inb_S1024x1024_S512x1024_512_0) (loadF arg4 harg4 x3 0 0 inb_S512x1024_S256x1024_0_0) (loadF arg6 harg6 x5 0 0 inb_S1x1024_S1x1024_0_0) (loadF arg7 harg7 x6 0 0 inb_S1x1024_S1x1024_0_0)

theorem fact_xb (c : Dev nD) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (x0 : Vec Ideal S512x512 .bf16) (x1 : Vec Ideal S512x512 .bf16) (x2 : Vec Ideal S512x512 .bf16) (x3 : Vec Ideal S512x1024 .f32) (x4 : Vec Ideal S1024x1024 .bf16) (x5 : Vec Ideal S1x1024 .f32) (x6 : Vec Ideal S1x1024 .f32) :
    IsL 256 0 (G19 x0 x1 x2 x3 x4 x5 x6) (kernelRun0_A.sl.r_14 (F := Ideal) c arg1 harg1 arg2 harg2 arg3 harg3 arg4 harg4 arg5 harg5 arg6 harg6 arg7 harg7 x0 x1 x2 x3 x4 x5 x6) :=
  x1_half (loadB arg1 harg1 x0 256 0 inb_S512x512_S256x512_256_0) (loadB arg2 harg2 x1 256 0 inb_S512x512_S256x512_256_0) (loadB arg5 harg5 x4 0 0 inb_S1024x1024_S512x1024_0_0) (loadB arg3 harg3 x2 256 0 inb_S512x512_S256x512_256_0) (loadB arg5 harg5 x4 512 0 inb_S1024x1024_S512x1024_512_0) (loadF arg4 harg4 x3 256 0 inb_S512x1024_S256x1024_256_0) (loadF arg6 harg6 x5 0 0 inb_S1x1024_S1x1024_0_0) (loadF arg7 harg7 x6 0 0 inb_S1x1024_S1x1024_0_0)

theorem fact_qa (c : Dev nD) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1792 .bf16) (harg8 : arg8.IsWhole) (arg12 : Memref sig .tc .vmem S1x384 .f32) (harg12 : arg12.IsWhole) (x0 : Vec Ideal S512x512 .bf16) (x1 : Vec Ideal S512x512 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S1024x1792 .bf16) (x11 : Vec Ideal S1x384 .f32) :
    IsL 0 0 (CQE x7 x11 (G19 x0 x1 x2 x3 x4 x5 x6)) (kernelRun0_A.sl.r_18 (F := Ideal) c arg1 harg1 arg2 harg2 arg3 harg3 arg4 harg4 arg5 harg5 arg6 harg6 arg7 harg7 arg8 harg8 arg12 harg12 x0 x1 x2 x3 x4 x5 x6 x7 x11) :=
  cq_half (fact_xa c arg1 harg1 arg2 harg2 arg3 harg3 arg4 harg4 arg5 harg5 arg6 harg6 arg7 harg7 x0 x1 x2 x3 x4 x5 x6) (loadB arg8 harg8 x7 0 0 inb_S1024x1792_S1024x384_0_0) (loadF arg12 harg12 x11 0 0 inb_S1x384_S1x384_0_0)

theorem fact_qb (c : Dev nD) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1792 .bf16) (harg8 : arg8.IsWhole) (arg12 : Memref sig .tc .vmem S1x384 .f32) (harg12 : arg12.IsWhole) (x0 : Vec Ideal S512x512 .bf16) (x1 : Vec Ideal S512x512 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S1024x1792 .bf16) (x11 : Vec Ideal S1x384 .f32) :
    IsL 256 0 (CQE x7 x11 (G19 x0 x1 x2 x3 x4 x5 x6)) (kernelRun0_A.sl.r_32 (F := Ideal) c arg1 harg1 arg2 harg2 arg3 harg3 arg4 harg4 arg5 harg5 arg6 harg6 arg7 harg7 arg8 harg8 arg12 harg12 x0 x1 x2 x3 x4 x5 x6 x7 x11) :=
  cq_half (fact_xb c arg1 harg1 arg2 harg2 arg3 harg3 arg4 harg4 arg5 harg5 arg6 harg6 arg7 harg7 x0 x1 x2 x3 x4 x5 x6) (loadB arg8 harg8 x7 0 0 inb_S1024x1792_S1024x384_0_0) (loadF arg12 harg12 x11 0 0 inb_S1x384_S1x384_0_0)

theorem fact_ka (c : Dev nD) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1792 .bf16) (harg8 : arg8.IsWhole) (arg13 : Memref sig .tc .vmem S1x256 .f32) (harg13 : arg13.IsWhole) (x0 : Vec Ideal S512x512 .bf16) (x1 : Vec Ideal S512x512 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S1024x1792 .bf16) (x12 : Vec Ideal S1x256 .f32) :
    IsL (a := 256) (b := 256) 0 0 (CKE x7 x12 (G19 x0 x1 x2 x3 x4 x5 x6)) (k0_pay25 (kernelRun0_A.sl.r_10 (F := Ideal) c arg1 harg1 arg2 harg2 arg3 harg3 arg4 harg4 arg5 harg5 arg6 harg6 arg7 harg7 arg8 harg8 x0 x1 x2 x3 x4 x5 x6 x7) (kernelRun0_A.sl.r_19 (F := Ideal) c arg13 harg13 x12)) :=
  ck_half (fact_xa c arg1 harg1 arg2 harg2 arg3 harg3 arg4 harg4 arg5 harg5 arg6 harg6 arg7 harg7 x0 x1 x2 x3 x4 x5 x6) (loadB arg8 harg8 x7 0 384 inb_S1024x1792_S1024x256_0_384) (loadF arg13 harg13 x12 0 0 inb_S1x256_S1x256_0_0)

theorem fact_kb (c : Dev nD) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1792 .bf16) (harg8 : arg8.IsWhole) (arg13 : Memref sig .tc .vmem S1x256 .f32) (harg13 : arg13.IsWhole) (x0 : Vec Ideal S512x512 .bf16) (x1 : Vec Ideal S512x512 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S1024x1792 .bf16) (x12 : Vec Ideal S1x256 .f32) :
    IsL 256 0 (CKE x7 x12 (G19 x0 x1 x2 x3 x4 x5 x6)) (kernelRun0_A.sl.r_33 (F := Ideal) c arg1 harg1 arg2 harg2 arg3 harg3 arg4 harg4 arg5 harg5 arg6 harg6 arg7 harg7 arg8 harg8 arg13 harg13 x0 x1 x2 x3 x4 x5 x6 x7 x12) :=
  kb_half (fact_xb c arg1 harg1 arg2 harg2 arg3 harg3 arg4 harg4 arg5 harg5 arg6 harg6 arg7 harg7 x0 x1 x2 x3 x4 x5 x6) (loadB arg8 harg8 x7 0 384 inb_S1024x1792_S1024x256_0_384) (loadF arg13 harg13 x12 0 0 inb_S1x256_S1x256_0_0)

theorem fact_ta0 (c : Dev nD) (arg14 : Memref sig .tc .vmem S512x128 .f32) (harg14 : arg14.IsWhole) (x13 : Vec Ideal S512x128 .f32) :
    IsL 0 0 x13 (kernelRun0_A.sl.r_21 (F := Ideal) c arg14 harg14 x13) :=
  tab_a (loadF arg14 harg14 x13 0 0 inb_S512x128_S512x128_0_0)

theorem fact_tb0 (c : Dev nD) (arg14 : Memref sig .tc .vmem S512x128 .f32) (harg14 : arg14.IsWhole) (x13 : Vec Ideal S512x128 .f32) :
    IsL 256 0 x13 (kernelRun0_A.sl.r_35 (F := Ideal) c arg14 harg14 x13) :=
  tab_b (loadF arg14 harg14 x13 0 0 inb_S512x128_S512x128_0_0)

theorem fact_ta1 (c : Dev nD) (arg15 : Memref sig .tc .vmem S512x128 .f32) (harg15 : arg15.IsWhole) (x14 : Vec Ideal S512x128 .f32) :
    IsL 0 0 x14 (kernelRun0_A.sl.r_22 (F := Ideal) c arg15 harg15 x14) :=
  tab_a (loadF arg15 harg15 x14 0 0 inb_S512x128_S512x128_0_0)

theorem fact_tb1 (c : Dev nD) (arg15 : Memref sig .tc .vmem S512x128 .f32) (harg15 : arg15.IsWhole) (x14 : Vec Ideal S512x128 .f32) :
    IsL 256 0 x14 (kernelRun0_A.sl.r_36 (F := Ideal) c arg15 harg15 x14) :=
  tab_b (loadF arg15 harg15 x14 0 0 inb_S512x128_S512x128_0_0)

theorem fact_ta2 (c : Dev nD) (arg16 : Memref sig .tc .vmem S512x128 .f32) (harg16 : arg16.IsWhole) (x15 : Vec Ideal S512x128 .f32) :
    IsL 0 0 x15 (kernelRun0_A.sl.r_23 (F := Ideal) c arg16 harg16 x15) :=
  tab_a (loadF arg16 harg16 x15 0 0 inb_S512x128_S512x128_0_0)

theorem fact_tb2 (c : Dev nD) (arg16 : Memref sig .tc .vmem S512x128 .f32) (harg16 : arg16.IsWhole) (x15 : Vec Ideal S512x128 .f32) :
    IsL 256 0 x15 (kernelRun0_A.sl.r_37 (F := Ideal) c arg16 harg16 x15) :=
  tab_b (loadF arg16 harg16 x15 0 0 inb_S512x128_S512x128_0_0)

end Cert.OddIn

end
-- ==== Proof.OdQ.lean ====
/- The queries a tile of the odd layer input call leaves. -/
module

public import proofs.«01_k».proof.Proof.OdFacts

@[expose] public section

set_option maxRecDepth 16384
set_option maxHeartbeats 1000000

noncomputable section

namespace Cert.OddIn

open Idealize.ShloMosaic Idealize.ShloMosaic.TcCoe Cert.Kernel4Ideal Cert.Kernel4Ideal.Gen
open Cert.Kernel4Ideal.Gen.kernelRun0_A

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S384x2048 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1x384 .f32) (harg12 : arg12.IsWhole) (arg13 : Memref sig .tc .vmem S1x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x1024 .f32) (harg20 : arg20.IsWhole) (arg21 : Memref sig .tc .vmem S512x2048 .bf16) (harg21 : arg21.IsWhole) (arg22 : Memref sig .tc .vmem S512x1024 .bf16) (harg22 : arg22.IsWhole) (arg23 : Memref sig .tc .vmem S512x128 .bf16) (harg23 : arg23.IsWhole) (arg24 : Memref sig .tc .vmem S512x1024 .bf16) (harg24 : arg24.IsWhole) (arg25 : Memref sig .tc .vmem S512x1024 .bf16) (harg25 : arg25.IsWhole)
  (x0 : Vec Ideal S512x512 .bf16) (x1 : Vec Ideal S512x512 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S1024x1792 .bf16) (x8 : Vec Ideal S384x2048 .bf16) (x9 : Vec Ideal S256x1024 .bf16) (x10 : Vec Ideal S256x1024 .bf16) (x11 : Vec Ideal S1x384 .f32) (x12 : Vec Ideal S1x256 .f32) (x13 : Vec Ideal S512x128 .f32) (x14 : Vec Ideal S512x128 .f32) (x15 : Vec Ideal S512x128 .f32) (x16 : Vec Ideal S512x128 .f32) (x17 : Vec Ideal S512x128 .f32) (x18 : Vec Ideal S512x128 .f32)

theorem out_20 : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 = (G20 x8 x13 x14 x15 (CQE x7 x11 (G19 x0 x1 x2 x3 x4 x5 x6))) := by
  have hp : View.PiecesOf (Val := Elt Ideal) (s := S512x2048) (e := .bf16) (G20 x8 x13 x14 x15 (CQE x7 x11 (G19 x0 x1 x2 x3 x4 x5 x6))) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.1 :=
    ⟨piece_of inb_S512x2048_S256x128_256_1920 (q_half 1536 384 (by omega) (by omega) (by omega) slices_S256x512_o0_384_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 1536 inb_S384x2048_S384x512_0_1536) (fact_tb0 c arg14 harg14 x13) (fact_tb1 c arg15 harg15 x14) (fact_tb2 c arg16 harg16 x15)),
      piece_of inb_S512x2048_S256x128_256_1792 (q_half 1536 256 (by omega) (by omega) (by omega) slices_S256x512_o0_256_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 1536 inb_S384x2048_S384x512_0_1536) (fact_tb0 c arg14 harg14 x13) (fact_tb1 c arg15 harg15 x14) (fact_tb2 c arg16 harg16 x15)),
      piece_of inb_S512x2048_S256x128_256_1664 (q_half 1536 128 (by omega) (by omega) (by omega) slices_S256x512_o0_128_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 1536 inb_S384x2048_S384x512_0_1536) (fact_tb0 c arg14 harg14 x13) (fact_tb1 c arg15 harg15 x14) (fact_tb2 c arg16 harg16 x15)),
      piece_of inb_S512x2048_S256x128_256_1536 (q_half 1536 0 (by omega) (by omega) (by omega) slices_S256x512_o0_0_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 1536 inb_S384x2048_S384x512_0_1536) (fact_tb0 c arg14 harg14 x13) (fact_tb1 c arg15 harg15 x14) (fact_tb2 c arg16 harg16 x15)),
      piece_of inb_S512x2048_S256x128_256_1408 (q_half 1024 384 (by omega) (by omega) (by omega) slices_S256x512_o0_384_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 1024 inb_S384x2048_S384x512_0_1024) (fact_tb0 c arg14 harg14 x13) (fact_tb1 c arg15 harg15 x14) (fact_tb2 c arg16 harg16 x15)),
      piece_of inb_S512x2048_S256x128_256_1280 (q_half 1024 256 (by omega) (by omega) (by omega) slices_S256x512_o0_256_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 1024 inb_S384x2048_S384x512_0_1024) (fact_tb0 c arg14 harg14 x13) (fact_tb1 c arg15 harg15 x14) (fact_tb2 c arg16 harg16 x15)),
      piece_of inb_S512x2048_S256x128_256_1152 (q_half 1024 128 (by omega) (by omega) (by omega) slices_S256x512_o0_128_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 1024 inb_S384x2048_S384x512_0_1024) (fact_tb0 c arg14 harg14 x13) (fact_tb1 c arg15 harg15 x14) (fact_tb2 c arg16 harg16 x15)),
      piece_of inb_S512x2048_S256x128_256_1024 (q_half 1024 0 (by omega) (by omega) (by omega) slices_S256x512_o0_0_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 1024 inb_S384x2048_S384x512_0_1024) (fact_tb0 c arg14 harg14 x13) (fact_tb1 c arg15 harg15 x14) (fact_tb2 c arg16 harg16 x15)),
      piece_of inb_S512x2048_S256x128_256_896 (q_half 512 384 (by omega) (by omega) (by omega) slices_S256x512_o0_384_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 512 inb_S384x2048_S384x512_0_512) (fact_tb0 c arg14 harg14 x13) (fact_tb1 c arg15 harg15 x14) (fact_tb2 c arg16 harg16 x15)),
      piece_of inb_S512x2048_S256x128_256_768 (q_half 512 256 (by omega) (by omega) (by omega) slices_S256x512_o0_256_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 512 inb_S384x2048_S384x512_0_512) (fact_tb0 c arg14 harg14 x13) (fact_tb1 c arg15 harg15 x14) (fact_tb2 c arg16 harg16 x15)),
      piece_of inb_S512x2048_S256x128_256_640 (q_half 512 128 (by omega) (by omega) (by omega) slices_S256x512_o0_128_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 512 inb_S384x2048_S384x512_0_512) (fact_tb0 c arg14 harg14 x13) (fact_tb1 c arg15 harg15 x14) (fact_tb2 c arg16 harg16 x15)),
      piece_of inb_S512x2048_S256x128_256_512 (q_half 512 0 (by omega) (by omega) (by omega) slices_S256x512_o0_0_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 512 inb_S384x2048_S384x512_0_512) (fact_tb0 c arg14 harg14 x13) (fact_tb1 c arg15 harg15 x14) (fact_tb2 c arg16 harg16 x15)),
      piece_of inb_S512x2048_S256x128_256_384 (q_half 0 384 (by omega) (by omega) (by omega) slices_S256x512_o0_384_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 0 inb_S384x2048_S384x512_0_0) (fact_tb0 c arg14 harg14 x13) (fact_tb1 c arg15 harg15 x14) (fact_tb2 c arg16 harg16 x15)),
      piece_of inb_S512x2048_S256x128_256_256 (q_half 0 256 (by omega) (by omega) (by omega) slices_S256x512_o0_256_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 0 inb_S384x2048_S384x512_0_0) (fact_tb0 c arg14 harg14 x13) (fact_tb1 c arg15 harg15 x14) (fact_tb2 c arg16 harg16 x15)),
      piece_of inb_S512x2048_S256x128_256_128 (q_half 0 128 (by omega) (by omega) (by omega) slices_S256x512_o0_128_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 0 inb_S384x2048_S384x512_0_0) (fact_tb0 c arg14 harg14 x13) (fact_tb1 c arg15 harg15 x14) (fact_tb2 c arg16 harg16 x15)),
      piece_of inb_S512x2048_S256x128_256_0 (q_half 0 0 (by omega) (by omega) (by omega) slices_S256x512_o0_0_S256x128 (fact_qb c arg1 harg1 arg2 harg2 arg3 harg3 arg4 harg4 arg5 harg5 arg6 harg6 arg7 harg7 arg8 harg8 arg12 harg12 x0 x1 x2 x3 x4 x5 x6 x7 x11) (loadB arg9 harg9 x8 0 0 inb_S384x2048_S384x512_0_0) (fact_tb0 c arg14 harg14 x13) (fact_tb1 c arg15 harg15 x14) (fact_tb2 c arg16 harg16 x15)),
      piece_of inb_S512x2048_S256x128_0_1920 (q_half 1536 384 (by omega) (by omega) (by omega) slices_S256x512_o0_384_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 1536 inb_S384x2048_S384x512_0_1536) (fact_ta0 c arg14 harg14 x13) (fact_ta1 c arg15 harg15 x14) (fact_ta2 c arg16 harg16 x15)),
      piece_of inb_S512x2048_S256x128_0_1792 (q_half 1536 256 (by omega) (by omega) (by omega) slices_S256x512_o0_256_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 1536 inb_S384x2048_S384x512_0_1536) (fact_ta0 c arg14 harg14 x13) (fact_ta1 c arg15 harg15 x14) (fact_ta2 c arg16 harg16 x15)),
      piece_of inb_S512x2048_S256x128_0_1664 (q_half 1536 128 (by omega) (by omega) (by omega) slices_S256x512_o0_128_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 1536 inb_S384x2048_S384x512_0_1536) (fact_ta0 c arg14 harg14 x13) (fact_ta1 c arg15 harg15 x14) (fact_ta2 c arg16 harg16 x15)),
      piece_of inb_S512x2048_S256x128_0_1536 (q_half 1536 0 (by omega) (by omega) (by omega) slices_S256x512_o0_0_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 1536 inb_S384x2048_S384x512_0_1536) (fact_ta0 c arg14 harg14 x13) (fact_ta1 c arg15 harg15 x14) (fact_ta2 c arg16 harg16 x15)),
      piece_of inb_S512x2048_S256x128_0_1408 (q_half 1024 384 (by omega) (by omega) (by omega) slices_S256x512_o0_384_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 1024 inb_S384x2048_S384x512_0_1024) (fact_ta0 c arg14 harg14 x13) (fact_ta1 c arg15 harg15 x14) (fact_ta2 c arg16 harg16 x15)),
      piece_of inb_S512x2048_S256x128_0_1280 (q_half 1024 256 (by omega) (by omega) (by omega) slices_S256x512_o0_256_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 1024 inb_S384x2048_S384x512_0_1024) (fact_ta0 c arg14 harg14 x13) (fact_ta1 c arg15 harg15 x14) (fact_ta2 c arg16 harg16 x15)),
      piece_of inb_S512x2048_S256x128_0_1152 (q_half 1024 128 (by omega) (by omega) (by omega) slices_S256x512_o0_128_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 1024 inb_S384x2048_S384x512_0_1024) (fact_ta0 c arg14 harg14 x13) (fact_ta1 c arg15 harg15 x14) (fact_ta2 c arg16 harg16 x15)),
      piece_of inb_S512x2048_S256x128_0_1024 (q_half 1024 0 (by omega) (by omega) (by omega) slices_S256x512_o0_0_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 1024 inb_S384x2048_S384x512_0_1024) (fact_ta0 c arg14 harg14 x13) (fact_ta1 c arg15 harg15 x14) (fact_ta2 c arg16 harg16 x15)),
      piece_of inb_S512x2048_S256x128_0_896 (q_half 512 384 (by omega) (by omega) (by omega) slices_S256x512_o0_384_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 512 inb_S384x2048_S384x512_0_512) (fact_ta0 c arg14 harg14 x13) (fact_ta1 c arg15 harg15 x14) (fact_ta2 c arg16 harg16 x15)),
      piece_of inb_S512x2048_S256x128_0_768 (q_half 512 256 (by omega) (by omega) (by omega) slices_S256x512_o0_256_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 512 inb_S384x2048_S384x512_0_512) (fact_ta0 c arg14 harg14 x13) (fact_ta1 c arg15 harg15 x14) (fact_ta2 c arg16 harg16 x15)),
      piece_of inb_S512x2048_S256x128_0_640 (q_half 512 128 (by omega) (by omega) (by omega) slices_S256x512_o0_128_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 512 inb_S384x2048_S384x512_0_512) (fact_ta0 c arg14 harg14 x13) (fact_ta1 c arg15 harg15 x14) (fact_ta2 c arg16 harg16 x15)),
      piece_of inb_S512x2048_S256x128_0_512 (q_half 512 0 (by omega) (by omega) (by omega) slices_S256x512_o0_0_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 512 inb_S384x2048_S384x512_0_512) (fact_ta0 c arg14 harg14 x13) (fact_ta1 c arg15 harg15 x14) (fact_ta2 c arg16 harg16 x15)),
      piece_of inb_S512x2048_S256x128_0_384 (q_half 0 384 (by omega) (by omega) (by omega) slices_S256x512_o0_384_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 0 inb_S384x2048_S384x512_0_0) (fact_ta0 c arg14 harg14 x13) (fact_ta1 c arg15 harg15 x14) (fact_ta2 c arg16 harg16 x15)),
      piece_of inb_S512x2048_S256x128_0_256 (q_half 0 256 (by omega) (by omega) (by omega) slices_S256x512_o0_256_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 0 inb_S384x2048_S384x512_0_0) (fact_ta0 c arg14 harg14 x13) (fact_ta1 c arg15 harg15 x14) (fact_ta2 c arg16 harg16 x15)),
      piece_of inb_S512x2048_S256x128_0_128 (q_half 0 128 (by omega) (by omega) (by omega) slices_S256x512_o0_128_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 0 inb_S384x2048_S384x512_0_0) (fact_ta0 c arg14 harg14 x13) (fact_ta1 c arg15 harg15 x14) (fact_ta2 c arg16 harg16 x15)),
      piece_of inb_S512x2048_S256x128_0_0 (q_half 0 0 (by omega) (by omega) (by omega) slices_S256x512_o0_0_S256x128 (fact_qa c arg1 harg1 arg2 harg2 arg3 harg3 arg4 harg4 arg5 harg5 arg6 harg6 arg7 harg7 arg8 harg8 arg12 harg12 x0 x1 x2 x3 x4 x5 x6 x7 x11) (loadB arg9 harg9 x8 0 0 inb_S384x2048_S384x512_0_0) (fact_ta0 c arg14 harg14 x13) (fact_ta1 c arg15 harg15 x14) (fact_ta2 c arg16 harg16 x15)),
      trivial⟩
  unfold out0_A_20
  rw [View.read_writes_junk_eq_canon]
  funext y
  exact View.canon_apply_of_pieces (Val := Elt Ideal) (G20 x8 x13 x14 x15 (CQE x7 x11 (G19 x0 x1 x2 x3 x4 x5 x6))) _ hp.mem y (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 y)

end Cert.OddIn

end
-- ==== Proof.OdPieces.lean ====
/- What a tile of the odd layer input call leaves in its other outputs. -/
module

public import proofs.«01_k».proof.Proof.OdFacts

@[expose] public section

set_option maxRecDepth 16384
set_option maxHeartbeats 1000000

noncomputable section

namespace Cert.OddIn

open Idealize.ShloMosaic Idealize.ShloMosaic.TcCoe Cert.Kernel4Ideal Cert.Kernel4Ideal.Gen
open Cert.Kernel4Ideal.Gen.kernelRun0_A

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1792 .bf16) (harg8 : arg8.IsWhole) (arg9 : Memref sig .tc .vmem S384x2048 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1x384 .f32) (harg12 : arg12.IsWhole) (arg13 : Memref sig .tc .vmem S1x256 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x1024 .f32) (harg20 : arg20.IsWhole) (arg21 : Memref sig .tc .vmem S512x2048 .bf16) (harg21 : arg21.IsWhole) (arg22 : Memref sig .tc .vmem S512x1024 .bf16) (harg22 : arg22.IsWhole) (arg23 : Memref sig .tc .vmem S512x128 .bf16) (harg23 : arg23.IsWhole) (arg24 : Memref sig .tc .vmem S512x1024 .bf16) (harg24 : arg24.IsWhole) (arg25 : Memref sig .tc .vmem S512x1024 .bf16) (harg25 : arg25.IsWhole)
  (x0 : Vec Ideal S512x512 .bf16) (x1 : Vec Ideal S512x512 .bf16) (x2 : Vec Ideal S512x512 .bf16) (x3 : Vec Ideal S512x1024 .f32) (x4 : Vec Ideal S1024x1024 .bf16) (x5 : Vec Ideal S1x1024 .f32) (x6 : Vec Ideal S1x1024 .f32) (x7 : Vec Ideal S1024x1792 .bf16) (x8 : Vec Ideal S384x2048 .bf16) (x9 : Vec Ideal S256x1024 .bf16) (x10 : Vec Ideal S256x1024 .bf16) (x11 : Vec Ideal S1x384 .f32) (x12 : Vec Ideal S1x256 .f32) (x13 : Vec Ideal S512x128 .f32) (x14 : Vec Ideal S512x128 .f32) (x15 : Vec Ideal S512x128 .f32) (x16 : Vec Ideal S512x128 .f32) (x17 : Vec Ideal S512x128 .f32) (x18 : Vec Ideal S512x128 .f32)

theorem out_19 : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 = (G19 x0 x1 x2 x3 x4 x5 x6) := by
  have hp : View.PiecesOf (Val := Elt Ideal) (s := S512x1024) (e := .f32) (G19 x0 x1 x2 x3 x4 x5 x6) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).1 :=
    ⟨piece_of inb_S512x1024_S256x1024_256_0 ((fact_xb c arg1 harg1 arg2 harg2 arg3 harg3 arg4 harg4 arg5 harg5 arg6 harg6 arg7 harg7 x0 x1 x2 x3 x4 x5 x6)),
      piece_of inb_S512x1024_S256x1024_0_0 ((fact_xa c arg1 harg1 arg2 harg2 arg3 harg3 arg4 harg4 arg5 harg5 arg6 harg6 arg7 harg7 x0 x1 x2 x3 x4 x5 x6)),
      trivial⟩
  unfold out0_A_19
  rw [View.read_writes_junk_eq_canon]
  funext y
  exact View.canon_apply_of_pieces (Val := Elt Ideal) (G19 x0 x1 x2 x3 x4 x5 x6) _ hp.mem y (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 y)

theorem out_21 : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 = (G21 (CKE x7 x12 (G19 x0 x1 x2 x3 x4 x5 x6)) x9) := by
  have hp : View.PiecesOf (Val := Elt Ideal) (s := S512x1024) (e := .bf16) (G21 (CKE x7 x12 (G19 x0 x1 x2 x3 x4 x5 x6)) x9) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.1 :=
    ⟨piece_of inb_S512x1024_S256x1024_256_0 (k_half (fact_kb c arg1 harg1 arg2 harg2 arg3 harg3 arg4 harg4 arg5 harg5 arg6 harg6 arg7 harg7 arg8 harg8 arg13 harg13 x0 x1 x2 x3 x4 x5 x6 x7 x12) (loadB arg10 harg10 x9 0 0 inb_S256x1024_S256x1024_0_0)),
      piece_of inb_S512x1024_S256x1024_0_0 (k_half (fact_ka c arg1 harg1 arg2 harg2 arg3 harg3 arg4 harg4 arg5 harg5 arg6 harg6 arg7 harg7 arg8 harg8 arg13 harg13 x0 x1 x2 x3 x4 x5 x6 x7 x12) (loadB arg10 harg10 x9 0 0 inb_S256x1024_S256x1024_0_0)),
      trivial⟩
  unfold out0_A_21
  rw [View.read_writes_junk_eq_canon]
  funext y
  exact View.canon_apply_of_pieces (Val := Elt Ideal) (G21 (CKE x7 x12 (G19 x0 x1 x2 x3 x4 x5 x6)) x9) _ hp.mem y (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 y)

theorem out_22 : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 = (G22 x7 x16 x17 x18 (G19 x0 x1 x2 x3 x4 x5 x6)) := by
  have hp : View.PiecesOf (Val := Elt Ideal) (s := S512x128) (e := .bf16) (G22 x7 x16 x17 x18 (G19 x0 x1 x2 x3 x4 x5 x6)) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.1 :=
    ⟨piece_of inb_S512x128_S256x128_256_0 (kr_half (fact_xb c arg1 harg1 arg2 harg2 arg3 harg3 arg4 harg4 arg5 harg5 arg6 harg6 arg7 harg7 x0 x1 x2 x3 x4 x5 x6) (loadB arg8 harg8 x7 0 640 inb_S1024x1792_S1024x128_0_640) (loadF arg17 harg17 x16 256 0 inb_S512x128_S256x128_256_0) (loadF arg18 harg18 x17 256 0 inb_S512x128_S256x128_256_0) (loadF arg19 harg19 x18 256 0 inb_S512x128_S256x128_256_0)),
      piece_of inb_S512x128_S256x128_0_0 (kr_half (fact_xa c arg1 harg1 arg2 harg2 arg3 harg3 arg4 harg4 arg5 harg5 arg6 harg6 arg7 harg7 x0 x1 x2 x3 x4 x5 x6) (loadB arg8 harg8 x7 0 640 inb_S1024x1792_S1024x128_0_640) (loadF arg17 harg17 x16 0 0 inb_S512x128_S256x128_0_0) (loadF arg18 harg18 x17 0 0 inb_S512x128_S256x128_0_0) (loadF arg19 harg19 x18 0 0 inb_S512x128_S256x128_0_0)),
      trivial⟩
  unfold out0_A_22
  rw [View.read_writes_junk_eq_canon]
  funext y
  exact View.canon_apply_of_pieces (Val := Elt Ideal) (G22 x7 x16 x17 x18 (G19 x0 x1 x2 x3 x4 x5 x6)) _ hp.mem y (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 y)

theorem out_23 : out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 = (G21 (CKE x7 x12 (G19 x0 x1 x2 x3 x4 x5 x6)) x10) := by
  have hp : View.PiecesOf (Val := Elt Ideal) (s := S512x1024) (e := .bf16) (G21 (CKE x7 x12 (G19 x0 x1 x2 x3 x4 x5 x6)) x10) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.1 :=
    ⟨piece_of inb_S512x1024_S256x1024_256_0 (k_half (fact_kb c arg1 harg1 arg2 harg2 arg3 harg3 arg4 harg4 arg5 harg5 arg6 harg6 arg7 harg7 arg8 harg8 arg13 harg13 x0 x1 x2 x3 x4 x5 x6 x7 x12) (loadB arg11 harg11 x10 0 0 inb_S256x1024_S256x1024_0_0)),
      piece_of inb_S512x1024_S256x1024_0_0 (k_half (fact_ka c arg1 harg1 arg2 harg2 arg3 harg3 arg4 harg4 arg5 harg5 arg6 harg6 arg7 harg7 arg8 harg8 arg13 harg13 x0 x1 x2 x3 x4 x5 x6 x7 x12) (loadB arg11 harg11 x10 0 0 inb_S256x1024_S256x1024_0_0)),
      trivial⟩
  unfold out0_A_23
  rw [View.read_writes_junk_eq_canon]
  funext y
  exact View.canon_apply_of_pieces (Val := Elt Ideal) (G21 (CKE x7 x12 (G19 x0 x1 x2 x3 x4 x5 x6)) x10) _ hp.mem y (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 y)

theorem out_24 : out0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 = (G24 x7 (G19 x0 x1 x2 x3 x4 x5 x6)) := by
  have hp : View.PiecesOf (Val := Elt Ideal) (s := S512x1024) (e := .bf16) (G24 x7 (G19 x0 x1 x2 x3 x4 x5 x6)) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18).2.2.2.2.2.1 :=
    ⟨piece_of inb_S512x1024_S256x256_256_768 (z_half256 768 (fact_xb c arg1 harg1 arg2 harg2 arg3 harg3 arg4 harg4 arg5 harg5 arg6 harg6 arg7 harg7 x0 x1 x2 x3 x4 x5 x6) (loadB arg8 harg8 x7 0 1536 inb_S1024x1792_S1024x256_0_1536)),
      piece_of inb_S512x1024_S256x256_256_512 (z_half256 512 (fact_xb c arg1 harg1 arg2 harg2 arg3 harg3 arg4 harg4 arg5 harg5 arg6 harg6 arg7 harg7 x0 x1 x2 x3 x4 x5 x6) (loadB arg8 harg8 x7 0 1280 inb_S1024x1792_S1024x256_0_1280)),
      piece_of inb_S512x1024_S256x256_0_768 (z_half256 768 (fact_xa c arg1 harg1 arg2 harg2 arg3 harg3 arg4 harg4 arg5 harg5 arg6 harg6 arg7 harg7 x0 x1 x2 x3 x4 x5 x6) (loadB arg8 harg8 x7 0 1536 inb_S1024x1792_S1024x256_0_1536)),
      piece_of inb_S512x1024_S256x256_0_512 (z_half256 512 (fact_xa c arg1 harg1 arg2 harg2 arg3 harg3 arg4 harg4 arg5 harg5 arg6 harg6 arg7 harg7 x0 x1 x2 x3 x4 x5 x6) (loadB arg8 harg8 x7 0 1280 inb_S1024x1792_S1024x256_0_1280)),
      piece_of inb_S512x1024_S256x512_256_0 (z_half512 (fact_xb c arg1 harg1 arg2 harg2 arg3 harg3 arg4 harg4 arg5 harg5 arg6 harg6 arg7 harg7 x0 x1 x2 x3 x4 x5 x6) (loadB arg8 harg8 x7 0 768 inb_S1024x1792_S1024x512_0_768)),
      piece_of inb_S512x1024_S256x512_0_0 (z_half512 (fact_xa c arg1 harg1 arg2 harg2 arg3 harg3 arg4 harg4 arg5 harg5 arg6 harg6 arg7 harg7 x0 x1 x2 x3 x4 x5 x6) (loadB arg8 harg8 x7 0 768 inb_S1024x1792_S1024x512_0_768)),
      trivial⟩
  unfold out0_A_24
  rw [View.read_writes_junk_eq_canon]
  funext y
  exact View.canon_apply_of_pieces (Val := Elt Ideal) (G24 x7 (G19 x0 x1 x2 x3 x4 x5 x6)) _ hp.mem y (cover0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16 x17 x18 y)

end Cert.OddIn

end
-- ==== Proof.OdRows.lean ====
/- The results of the odd layer's input stage, entry by entry. -/
module

public import proofs.«01_k».proof.Proof.OdHost
public import proofs.«01_k».proof.Proof.OdVal
public import proofs.«01_k».proof.Proof.OdQ
public import proofs.«01_k».proof.Proof.OdPieces

@[expose] public section

set_option maxRecDepth 16384

noncomputable section

namespace Cert.OddIn

open Idealize.ShloMosaic Idealize.ShloMosaic.TcCoe Cert.Kernel4Ideal Cert.Kernel4Ideal.Gen

variable (m : (ℓ : Loc nD τ sig) → Buf (Elt Ideal) ℓ) (c : Dev nD)

theorem at_0 : ∀ t : Fin cfg0.N, win0_0.index t = ![t.val, 0] :=
  (by decide +kernel : ∀ t : Fin grid0.N, win0_0.index t = ![t.val, 0])
theorem at_1 : ∀ t : Fin cfg0.N, win0_1.index t = ![t.val, 0] :=
  (by decide +kernel : ∀ t : Fin grid0.N, win0_1.index t = ![t.val, 0])
theorem at_2 : ∀ t : Fin cfg0.N, win0_2.index t = ![t.val, 0] :=
  (by decide +kernel : ∀ t : Fin grid0.N, win0_2.index t = ![t.val, 0])
theorem at_3 : ∀ t : Fin cfg0.N, win0_3.index t = ![t.val, 0] :=
  (by decide +kernel : ∀ t : Fin grid0.N, win0_3.index t = ![t.val, 0])
theorem at_4 : ∀ t : Fin cfg0.N, win0_4.index t = ![0, 0] :=
  (by decide +kernel : ∀ t : Fin grid0.N, win0_4.index t = ![0, 0])
theorem at_5 : ∀ t : Fin cfg0.N, win0_5.index t = ![0, 0] :=
  (by decide +kernel : ∀ t : Fin grid0.N, win0_5.index t = ![0, 0])
theorem at_6 : ∀ t : Fin cfg0.N, win0_6.index t = ![0, 0] :=
  (by decide +kernel : ∀ t : Fin grid0.N, win0_6.index t = ![0, 0])
theorem at_7 : ∀ t : Fin cfg0.N, win0_7.index t = ![0, 0] :=
  (by decide +kernel : ∀ t : Fin grid0.N, win0_7.index t = ![0, 0])
theorem at_8 : ∀ t : Fin cfg0.N, win0_8.index t = ![0, 0] :=
  (by decide +kernel : ∀ t : Fin grid0.N, win0_8.index t = ![0, 0])
theorem at_9 : ∀ t : Fin cfg0.N, win0_9.index t = ![0, 0] :=
  (by decide +kernel : ∀ t : Fin grid0.N, win0_9.index t = ![0, 0])
theorem at_10 : ∀ t : Fin cfg0.N, win0_10.index t = ![0, 0] :=
  (by decide +kernel : ∀ t : Fin grid0.N, win0_10.index t = ![0, 0])
theorem at_11 : ∀ t : Fin cfg0.N, win0_11.index t = ![0, 0] :=
  (by decide +kernel : ∀ t : Fin grid0.N, win0_11.index t = ![0, 0])
theorem at_12 : ∀ t : Fin cfg0.N, win0_12.index t = ![0, 0] :=
  (by decide +kernel : ∀ t : Fin grid0.N, win0_12.index t = ![0, 0])
theorem at_13 : ∀ t : Fin cfg0.N, win0_13.index t = ![t.val % 4, 0] :=
  (by decide +kernel : ∀ t : Fin grid0.N, win0_13.index t = ![t.val % 4, 0])
theorem at_14 : ∀ t : Fin cfg0.N, win0_14.index t = ![t.val % 4, 0] :=
  (by decide +kernel : ∀ t : Fin grid0.N, win0_14.index t = ![t.val % 4, 0])
theorem at_15 : ∀ t : Fin cfg0.N, win0_15.index t = ![t.val % 4, 0] :=
  (by decide +kernel : ∀ t : Fin grid0.N, win0_15.index t = ![t.val % 4, 0])
theorem at_16 : ∀ t : Fin cfg0.N, win0_16.index t = ![t.val % 4, 0] :=
  (by decide +kernel : ∀ t : Fin grid0.N, win0_16.index t = ![t.val % 4, 0])
theorem at_17 : ∀ t : Fin cfg0.N, win0_17.index t = ![t.val % 4, 0] :=
  (by decide +kernel : ∀ t : Fin grid0.N, win0_17.index t = ![t.val % 4, 0])
theorem at_18 : ∀ t : Fin cfg0.N, win0_18.index t = ![t.val % 4, 0] :=
  (by decide +kernel : ∀ t : Fin grid0.N, win0_18.index t = ![t.val % 4, 0])
theorem at_19 : ∀ t : Fin cfg0.N, win0_19.index t = ![t.val, 0] :=
  (by decide +kernel : ∀ t : Fin grid0.N, win0_19.index t = ![t.val, 0])
theorem at_20 : ∀ t : Fin cfg0.N, win0_20.index t = ![t.val, 0] :=
  (by decide +kernel : ∀ t : Fin grid0.N, win0_20.index t = ![t.val, 0])
theorem at_21 : ∀ t : Fin cfg0.N, win0_21.index t = ![t.val, 0] :=
  (by decide +kernel : ∀ t : Fin grid0.N, win0_21.index t = ![t.val, 0])
theorem at_22 : ∀ t : Fin cfg0.N, win0_22.index t = ![t.val, 0] :=
  (by decide +kernel : ∀ t : Fin grid0.N, win0_22.index t = ![t.val, 0])
theorem at_23 : ∀ t : Fin cfg0.N, win0_23.index t = ![t.val, 0] :=
  (by decide +kernel : ∀ t : Fin grid0.N, win0_23.index t = ![t.val, 0])
theorem at_24 : ∀ t : Fin cfg0.N, win0_24.index t = ![t.val, 0] :=
  (by decide +kernel : ∀ t : Fin grid0.N, win0_24.index t = ![t.val, 0])
theorem blk_0 (t : Fin cfg0.N) (r : Fin 512) (k : Fin 512) (R : Fin 32768) (hR : R.val = 512 * t.val + r.val) :
    (iblk m c 0 t : Vec Ideal S512x512 .bf16) (ix2 r k) = m ((c : Thread nD τ).loc main_arg0) (ix2 R k) := by
  rw [← V_main_arg0 m c]
  show V m c main_arg0 _ = _
  refine congrArg (V m c main_arg0) (funext fun a => Fin.ext ?_)
  have h := at_0 t
  fin_cases a
  · show win0_0.index t 0 * 512 + 1 * r.val = R.val
    rw [h]; show t.val * 512 + 1 * r.val = R.val; omega
  · show win0_0.index t 1 * 512 + 1 * k.val = k.val
    rw [h]; show 0 * 512 + 1 * k.val = k.val; omega
theorem blk_1 (t : Fin cfg0.N) (r : Fin 512) (k : Fin 512) (R : Fin 32768) (hR : R.val = 512 * t.val + r.val) :
    (iblk m c 1 t : Vec Ideal S512x512 .bf16) (ix2 r k) = m ((c : Thread nD τ).loc main_arg1) (ix2 R k) := by
  rw [← V_main_arg1 m c]
  show V m c main_arg1 _ = _
  refine congrArg (V m c main_arg1) (funext fun a => Fin.ext ?_)
  have h := at_1 t
  fin_cases a
  · show win0_1.index t 0 * 512 + 1 * r.val = R.val
    rw [h]; show t.val * 512 + 1 * r.val = R.val; omega
  · show win0_1.index t 1 * 512 + 1 * k.val = k.val
    rw [h]; show 0 * 512 + 1 * k.val = k.val; omega
theorem blk_2 (t : Fin cfg0.N) (r : Fin 512) (k : Fin 512) (R : Fin 32768) (hR : R.val = 512 * t.val + r.val) :
    (iblk m c 2 t : Vec Ideal S512x512 .bf16) (ix2 r k) = m ((c : Thread nD τ).loc main_arg2) (ix2 R k) := by
  rw [← V_main_arg2 m c]
  show V m c main_arg2 _ = _
  refine congrArg (V m c main_arg2) (funext fun a => Fin.ext ?_)
  have h := at_2 t
  fin_cases a
  · show win0_2.index t 0 * 512 + 1 * r.val = R.val
    rw [h]; show t.val * 512 + 1 * r.val = R.val; omega
  · show win0_2.index t 1 * 512 + 1 * k.val = k.val
    rw [h]; show 0 * 512 + 1 * k.val = k.val; omega
theorem blk_3 (t : Fin cfg0.N) (r : Fin 512) (k : Fin 1024) (R : Fin 32768) (hR : R.val = 512 * t.val + r.val) :
    (iblk m c 3 t : Vec Ideal S512x1024 .f32) (ix2 r k) = m ((c : Thread nD τ).loc main_arg3) (ix2 R k) := by
  rw [← V_main_arg3 m c]
  show V m c main_arg3 _ = _
  refine congrArg (V m c main_arg3) (funext fun a => Fin.ext ?_)
  have h := at_3 t
  fin_cases a
  · show win0_3.index t 0 * 512 + 1 * r.val = R.val
    rw [h]; show t.val * 512 + 1 * r.val = R.val; omega
  · show win0_3.index t 1 * 1024 + 1 * k.val = k.val
    rw [h]; show 0 * 1024 + 1 * k.val = k.val; omega
theorem blk_4 (t : Fin cfg0.N) (r : Fin 1024) (k : Fin 1024) :
    (iblk m c 4 t : Vec Ideal S1024x1024 .bf16) (ix2 r k) = V m c main_v67 (ix2 r k) := by
  show V m c main_v67 _ = _
  refine congrArg (V m c main_v67) (funext fun a => Fin.ext ?_)
  have h := at_4 t
  fin_cases a
  · show win0_4.index t 0 * 1024 + 1 * r.val = r.val
    rw [h]; show 0 * 1024 + 1 * r.val = r.val; omega
  · show win0_4.index t 1 * 1024 + 1 * k.val = k.val
    rw [h]; show 0 * 1024 + 1 * k.val = k.val; omega
theorem blk_5 (t : Fin cfg0.N) (r : Fin 1) (k : Fin 1024) :
    (iblk m c 5 t : Vec Ideal S1x1024 .f32) (ix2 r k) = V m c main_v69 (ix2 r k) := by
  show V m c main_v69 _ = _
  refine congrArg (V m c main_v69) (funext fun a => Fin.ext ?_)
  have h := at_5 t
  fin_cases a
  · show win0_5.index t 0 * 1 + 1 * r.val = r.val
    rw [h]; show 0 * 1 + 1 * r.val = r.val; omega
  · show win0_5.index t 1 * 1024 + 1 * k.val = k.val
    rw [h]; show 0 * 1024 + 1 * k.val = k.val; omega
theorem blk_6 (t : Fin cfg0.N) (r : Fin 1) (k : Fin 1024) :
    (iblk m c 6 t : Vec Ideal S1x1024 .f32) (ix2 r k) = V m c main_v71 (ix2 r k) := by
  show V m c main_v71 _ = _
  refine congrArg (V m c main_v71) (funext fun a => Fin.ext ?_)
  have h := at_6 t
  fin_cases a
  · show win0_6.index t 0 * 1 + 1 * r.val = r.val
    rw [h]; show 0 * 1 + 1 * r.val = r.val; omega
  · show win0_6.index t 1 * 1024 + 1 * k.val = k.val
    rw [h]; show 0 * 1024 + 1 * k.val = k.val; omega
theorem blk_7 (t : Fin cfg0.N) (r : Fin 1024) (k : Fin 1792) :
    (iblk m c 7 t : Vec Ideal S1024x1792 .bf16) (ix2 r k) = V m c main_v11 (ix2 r k) := by
  show V m c main_v11 _ = _
  refine congrArg (V m c main_v11) (funext fun a => Fin.ext ?_)
  have h := at_7 t
  fin_cases a
  · show win0_7.index t 0 * 1024 + 1 * r.val = r.val
    rw [h]; show 0 * 1024 + 1 * r.val = r.val; omega
  · show win0_7.index t 1 * 1792 + 1 * k.val = k.val
    rw [h]; show 0 * 1792 + 1 * k.val = k.val; omega
theorem blk_8 (t : Fin cfg0.N) (r : Fin 384) (k : Fin 2048) :
    (iblk m c 8 t : Vec Ideal S384x2048 .bf16) (ix2 r k) = V m c main_v15 (ix2 r k) := by
  show V m c main_v15 _ = _
  refine congrArg (V m c main_v15) (funext fun a => Fin.ext ?_)
  have h := at_8 t
  fin_cases a
  · show win0_8.index t 0 * 384 + 1 * r.val = r.val
    rw [h]; show 0 * 384 + 1 * r.val = r.val; omega
  · show win0_8.index t 1 * 2048 + 1 * k.val = k.val
    rw [h]; show 0 * 2048 + 1 * k.val = k.val; omega
theorem blk_9 (t : Fin cfg0.N) (r : Fin 256) (k : Fin 1024) :
    (iblk m c 9 t : Vec Ideal S256x1024 .bf16) (ix2 r k) = V m c main_v18 (ix2 r k) := by
  show V m c main_v18 _ = _
  refine congrArg (V m c main_v18) (funext fun a => Fin.ext ?_)
  have h := at_9 t
  fin_cases a
  · show win0_9.index t 0 * 256 + 1 * r.val = r.val
    rw [h]; show 0 * 256 + 1 * r.val = r.val; omega
  · show win0_9.index t 1 * 1024 + 1 * k.val = k.val
    rw [h]; show 0 * 1024 + 1 * k.val = k.val; omega
theorem blk_10 (t : Fin cfg0.N) (r : Fin 256) (k : Fin 1024) :
    (iblk m c 10 t : Vec Ideal S256x1024 .bf16) (ix2 r k) = V m c main_v20 (ix2 r k) := by
  show V m c main_v20 _ = _
  refine congrArg (V m c main_v20) (funext fun a => Fin.ext ?_)
  have h := at_10 t
  fin_cases a
  · show win0_10.index t 0 * 256 + 1 * r.val = r.val
    rw [h]; show 0 * 256 + 1 * r.val = r.val; omega
  · show win0_10.index t 1 * 1024 + 1 * k.val = k.val
    rw [h]; show 0 * 1024 + 1 * k.val = k.val; omega
theorem blk_11 (t : Fin cfg0.N) (r : Fin 1) (k : Fin 384) :
    (iblk m c 11 t : Vec Ideal S1x384 .f32) (ix2 r k) = V m c main_v73 (ix2 r k) := by
  show V m c main_v73 _ = _
  refine congrArg (V m c main_v73) (funext fun a => Fin.ext ?_)
  have h := at_11 t
  fin_cases a
  · show win0_11.index t 0 * 1 + 1 * r.val = r.val
    rw [h]; show 0 * 1 + 1 * r.val = r.val; omega
  · show win0_11.index t 1 * 384 + 1 * k.val = k.val
    rw [h]; show 0 * 384 + 1 * k.val = k.val; omega
theorem blk_12 (t : Fin cfg0.N) (r : Fin 1) (k : Fin 256) :
    (iblk m c 12 t : Vec Ideal S1x256 .f32) (ix2 r k) = V m c main_v75 (ix2 r k) := by
  show V m c main_v75 _ = _
  refine congrArg (V m c main_v75) (funext fun a => Fin.ext ?_)
  have h := at_12 t
  fin_cases a
  · show win0_12.index t 0 * 1 + 1 * r.val = r.val
    rw [h]; show 0 * 1 + 1 * r.val = r.val; omega
  · show win0_12.index t 1 * 256 + 1 * k.val = k.val
    rw [h]; show 0 * 256 + 1 * k.val = k.val; omega
theorem blk_13 (t : Fin cfg0.N) (r : Fin 512) (k : Fin 128) (R : Fin 32768) (hR : R.val = 512 * t.val + r.val) :
    (iblk m c 13 t : Vec Ideal S512x128 .f32) (ix2 r k) = V m c main_v45 (ix2 ⟨R.val % 2048, by omega⟩ k) := by
  show V m c main_v45 _ = _
  refine congrArg (V m c main_v45) (funext fun a => Fin.ext ?_)
  have h := at_13 t
  fin_cases a
  · show win0_13.index t 0 * 512 + 1 * r.val = R.val % 2048
    rw [h]; show t.val % 4 * 512 + 1 * r.val = R.val % 2048; omega
  · show win0_13.index t 1 * 128 + 1 * k.val = k.val
    rw [h]; show 0 * 128 + 1 * k.val = k.val; omega
theorem blk_14 (t : Fin cfg0.N) (r : Fin 512) (k : Fin 128) (R : Fin 32768) (hR : R.val = 512 * t.val + r.val) :
    (iblk m c 14 t : Vec Ideal S512x128 .f32) (ix2 r k) = V m c main_v49 (ix2 ⟨R.val % 2048, by omega⟩ k) := by
  show V m c main_v49 _ = _
  refine congrArg (V m c main_v49) (funext fun a => Fin.ext ?_)
  have h := at_14 t
  fin_cases a
  · show win0_14.index t 0 * 512 + 1 * r.val = R.val % 2048
    rw [h]; show t.val % 4 * 512 + 1 * r.val = R.val % 2048; omega
  · show win0_14.index t 1 * 128 + 1 * k.val = k.val
    rw [h]; show 0 * 128 + 1 * k.val = k.val; omega
theorem blk_15 (t : Fin cfg0.N) (r : Fin 512) (k : Fin 128) (R : Fin 32768) (hR : R.val = 512 * t.val + r.val) :
    (iblk m c 15 t : Vec Ideal S512x128 .f32) (ix2 r k) = V m c main_v52 (ix2 ⟨R.val % 2048, by omega⟩ k) := by
  show V m c main_v52 _ = _
  refine congrArg (V m c main_v52) (funext fun a => Fin.ext ?_)
  have h := at_15 t
  fin_cases a
  · show win0_15.index t 0 * 512 + 1 * r.val = R.val % 2048
    rw [h]; show t.val % 4 * 512 + 1 * r.val = R.val % 2048; omega
  · show win0_15.index t 1 * 128 + 1 * k.val = k.val
    rw [h]; show 0 * 128 + 1 * k.val = k.val; omega
theorem blk_16 (t : Fin cfg0.N) (r : Fin 512) (k : Fin 128) (R : Fin 32768) (hR : R.val = 512 * t.val + r.val) :
    (iblk m c 16 t : Vec Ideal S512x128 .f32) (ix2 r k) = V m c main_v58 (ix2 ⟨R.val % 2048, by omega⟩ k) := by
  show V m c main_v58 _ = _
  refine congrArg (V m c main_v58) (funext fun a => Fin.ext ?_)
  have h := at_16 t
  fin_cases a
  · show win0_16.index t 0 * 512 + 1 * r.val = R.val % 2048
    rw [h]; show t.val % 4 * 512 + 1 * r.val = R.val % 2048; omega
  · show win0_16.index t 1 * 128 + 1 * k.val = k.val
    rw [h]; show 0 * 128 + 1 * k.val = k.val; omega
theorem blk_17 (t : Fin cfg0.N) (r : Fin 512) (k : Fin 128) (R : Fin 32768) (hR : R.val = 512 * t.val + r.val) :
    (iblk m c 17 t : Vec Ideal S512x128 .f32) (ix2 r k) = V m c main_v62 (ix2 ⟨R.val % 2048, by omega⟩ k) := by
  show V m c main_v62 _ = _
  refine congrArg (V m c main_v62) (funext fun a => Fin.ext ?_)
  have h := at_17 t
  fin_cases a
  · show win0_17.index t 0 * 512 + 1 * r.val = R.val % 2048
    rw [h]; show t.val % 4 * 512 + 1 * r.val = R.val % 2048; omega
  · show win0_17.index t 1 * 128 + 1 * k.val = k.val
    rw [h]; show 0 * 128 + 1 * k.val = k.val; omega
theorem blk_18 (t : Fin cfg0.N) (r : Fin 512) (k : Fin 128) (R : Fin 32768) (hR : R.val = 512 * t.val + r.val) :
    (iblk m c 18 t : Vec Ideal S512x128 .f32) (ix2 r k) = V m c main_v65 (ix2 ⟨R.val % 2048, by omega⟩ k) := by
  show V m c main_v65 _ = _
  refine congrArg (V m c main_v65) (funext fun a => Fin.ext ?_)
  have h := at_18 t
  fin_cases a
  · show win0_18.index t 0 * 512 + 1 * r.val = R.val % 2048
    rw [h]; show t.val % 4 * 512 + 1 * r.val = R.val % 2048; omega
  · show win0_18.index t 1 * 128 + 1 * k.val = k.val
    rw [h]; show 0 * 128 + 1 * k.val = k.val; omega

section Tile
variable (t : Fin cfg0.N) (r : Fin 512) (R : Fin 32768) (hR : R.val = 512 * t.val + r.val)
include hR

theorem g19 (q : Fin 1024) : G19 (iblk m c 0 t) (iblk m c 1 t) (iblk m c 2 t) (iblk m c 3 t) (iblk m c 4 t) (iblk m c 5 t) (iblk m c 6 t) (ix2 r q) = x1E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R q :=
  G19_eq (fun k => blk_0 m c t r k R hR) (fun k => blk_1 m c t r k R hR) (fun k => blk_2 m c t r k R hR) (fun k => blk_3 m c t r k R hR)
    (fun k q => (blk_4 m c t k q).trans (V_wo_apply m c k q)) (fun q => (blk_5 m c t 0 q).trans (V_g_apply m c q)) (fun q => (blk_6 m c t 0 q).trans (V_b_apply m c q)) q
theorem w7_a (k : Fin 1024) (J : Fin 640) : (iblk m c 7 t : Vec Ideal S1024x1792 .bf16) (ix2 k ⟨J.val, by omega⟩) = (m ((c : Thread nD τ).loc main_arg7)) (ix3 0 k ⟨J.val, by omega⟩) := by
  refine (blk_7 m c t k _).trans ((congrFun (V_w1 m c) _).trans ((congrArg (w1P (m ((c : Thread nD τ).loc main_arg7))) (congrArg (ix2 k) (Fin.ext (by show J.val = 0 + J.val; omega)))).trans ((w1P_a (m ((c : Thread nD τ).loc main_arg7)) k J).trans ?_)))
  exact congrArg (m ((c : Thread nD τ).loc main_arg7)) (congrArg (ix3 0 k) (Fin.ext (by show 0 + J.val = J.val; omega)))
theorem gcq (j : Fin 384) : CQE (iblk m c 7 t) (iblk m c 11 t) (G19 (iblk m c 0 t) (iblk m c 1 t) (iblk m c 2 t) (iblk m c 3 t) (iblk m c 4 t) (iblk m c 5 t) (iblk m c 6 t)) (ix2 r j) = cqE (m ((c : Thread nD τ).loc main_arg7)) (m ((c : Thread nD τ).loc main_arg8)) (x1E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) R j :=
  CQE_eq (g19 m c t r R hR) (fun k j => w7_a m c t r R hR k ⟨j.val, by omega⟩) (fun j => (blk_11 m c t 0 j).trans (V_qn_apply m c j)) j
theorem gck (j : Fin 256) : CKE (iblk m c 7 t) (iblk m c 12 t) (G19 (iblk m c 0 t) (iblk m c 1 t) (iblk m c 2 t) (iblk m c 3 t) (iblk m c 4 t) (iblk m c 5 t) (iblk m c 6 t)) (ix2 r j) = ckE (m ((c : Thread nD τ).loc main_arg7)) (m ((c : Thread nD τ).loc main_arg10)) (x1E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) R j :=
  CKE_eq (g19 m c t r R hR) (fun k j => w7_a m c t r R hR k ⟨384 + j.val, by omega⟩) (fun j => (blk_12 m c t 0 j).trans (V_kn_apply m c j)) j
end Tile

theorem arr_19 (R : Fin 32768) (j : Fin 1024) : (dats m 0 c).arrAt 19 cfg0.N (ix2 R j) = (x1E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) R j := by
  have hN : R.val / 512 < cfg0.N := by have := R.isLt; show R.val / 512 < 64; omega
  have hb := (Value.blocks19 m c ⟨R.val / 512, hN⟩ (flush0_19 _)).trans (Value.flushed19_A m c ⟨R.val / 512, hN⟩)
  have hq := congrFun hb (ix2 ⟨R.val % 512, by omega⟩ j)
  have hR : R.val = 512 * (⟨R.val / 512, hN⟩ : Fin cfg0.N).val + (⟨R.val % 512, by omega⟩ : Fin 512).val := by show R.val = 512 * (R.val / 512) + R.val % 512; omega
  refine Eq.trans ?_ (hq.trans ((congrFun (out_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 ⟨R.val % 512, by omega⟩ j)).trans (g19 m c _ _ R hR j)))
  show _ = (dats m 0 c).arrAt 19 cfg0.N _
  refine congrArg ((dats m 0 c).arrAt 19 cfg0.N) (funext fun a => Fin.ext ?_)
  have h := at_19 ⟨R.val / 512, hN⟩
  fin_cases a
  · show R.val = win0_19.index ⟨R.val / 512, hN⟩ 0 * 512 + 1 * (R.val % 512)
    rw [h]; show R.val = R.val / 512 * 512 + 1 * (R.val % 512); omega
  · show j.val = win0_19.index ⟨R.val / 512, hN⟩ 1 * 1024 + 1 * j.val
    rw [h]; show j.val = 0 * 1024 + 1 * j.val; omega
theorem arr_20 (R : Fin 32768) (j : Fin 2048) : (dats m 0 c).arrAt 20 cfg0.N (ix2 R j) = resQ (m ((c : Thread nD τ).loc main_arg7)) (m ((c : Thread nD τ).loc main_arg8)) (m ((c : Thread nD τ).loc main_arg9)) (x1E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) R j := by
  have hN : R.val / 512 < cfg0.N := by have := R.isLt; show R.val / 512 < 64; omega
  have hb := (Value.blocks20 m c ⟨R.val / 512, hN⟩ (flush0_20 _)).trans (Value.flushed20_A m c ⟨R.val / 512, hN⟩)
  have hq := congrFun hb (ix2 ⟨R.val % 512, by omega⟩ j)
  have hR : R.val = 512 * (⟨R.val / 512, hN⟩ : Fin cfg0.N).val + (⟨R.val % 512, by omega⟩ : Fin 512).val := by show R.val = 512 * (R.val / 512) + R.val % 512; omega
  refine Eq.trans ?_ (hq.trans ((congrFun (out_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 ⟨R.val % 512, by omega⟩ j)).trans (G20_eq (gcq m c _ _ R hR) (fun k h d => (blk_8 m c _ k _).trans ((congrFun (V_wq m c) _).trans (wqP_apply _ k h d))) (fun j => (blk_13 m c _ _ j R hR).trans (V_q0_apply m c _ j)) (fun j => (blk_14 m c _ _ j R hR).trans (V_q1_apply m c _ j)) (fun j => (blk_15 m c _ _ j R hR).trans (V_q2_apply m c _ j)) j)))
  show _ = (dats m 0 c).arrAt 20 cfg0.N _
  refine congrArg ((dats m 0 c).arrAt 20 cfg0.N) (funext fun a => Fin.ext ?_)
  have h := at_20 ⟨R.val / 512, hN⟩
  fin_cases a
  · show R.val = win0_20.index ⟨R.val / 512, hN⟩ 0 * 512 + 1 * (R.val % 512)
    rw [h]; show R.val = R.val / 512 * 512 + 1 * (R.val % 512); omega
  · show j.val = win0_20.index ⟨R.val / 512, hN⟩ 1 * 2048 + 1 * j.val
    rw [h]; show j.val = 0 * 2048 + 1 * j.val; omega
theorem arr_21 (R : Fin 32768) (j : Fin 1024) : (dats m 0 c).arrAt 21 cfg0.N (ix2 R j) = resK (m ((c : Thread nD τ).loc main_arg7)) (m ((c : Thread nD τ).loc main_arg10)) (m ((c : Thread nD τ).loc main_arg11)) (x1E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) 0 (by omega) R j := by
  have hN : R.val / 512 < cfg0.N := by have := R.isLt; show R.val / 512 < 64; omega
  have hb := (Value.blocks21 m c ⟨R.val / 512, hN⟩ (flush0_21 _)).trans (Value.flushed21_A m c ⟨R.val / 512, hN⟩)
  have hq := congrFun hb (ix2 ⟨R.val % 512, by omega⟩ j)
  have hR : R.val = 512 * (⟨R.val / 512, hN⟩ : Fin cfg0.N).val + (⟨R.val % 512, by omega⟩ : Fin 512).val := by show R.val = 512 * (R.val / 512) + R.val % 512; omega
  refine Eq.trans ?_ (hq.trans ((congrFun (out_21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 ⟨R.val % 512, by omega⟩ j)).trans (G21_eq 0 (by omega) (gck m c _ _ R hR) (fun k C => (blk_9 m c _ k C).trans ((congrFun (V_wk m c) _).trans (wkP_apply _ k C))) j)))
  show _ = (dats m 0 c).arrAt 21 cfg0.N _
  refine congrArg ((dats m 0 c).arrAt 21 cfg0.N) (funext fun a => Fin.ext ?_)
  have h := at_21 ⟨R.val / 512, hN⟩
  fin_cases a
  · show R.val = win0_21.index ⟨R.val / 512, hN⟩ 0 * 512 + 1 * (R.val % 512)
    rw [h]; show R.val = R.val / 512 * 512 + 1 * (R.val % 512); omega
  · show j.val = win0_21.index ⟨R.val / 512, hN⟩ 1 * 1024 + 1 * j.val
    rw [h]; show j.val = 0 * 1024 + 1 * j.val; omega
theorem arr_22 (R : Fin 32768) (j : Fin 128) : (dats m 0 c).arrAt 22 cfg0.N (ix2 R j) = resR (m ((c : Thread nD τ).loc main_arg7)) (x1E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) R j := by
  have hN : R.val / 512 < cfg0.N := by have := R.isLt; show R.val / 512 < 64; omega
  have hb := (Value.blocks22 m c ⟨R.val / 512, hN⟩ (flush0_22 _)).trans (Value.flushed22_A m c ⟨R.val / 512, hN⟩)
  have hq := congrFun hb (ix2 ⟨R.val % 512, by omega⟩ j)
  have hR : R.val = 512 * (⟨R.val / 512, hN⟩ : Fin cfg0.N).val + (⟨R.val % 512, by omega⟩ : Fin 512).val := by show R.val = 512 * (R.val / 512) + R.val % 512; omega
  refine Eq.trans ?_ (hq.trans ((congrFun (out_22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 ⟨R.val % 512, by omega⟩ j)).trans (G22_eq (g19 m c _ _ R hR) (fun k d => (blk_7 m c _ k _).trans ((congrFun (V_w1 m c) _).trans (w1P_r _ k d))) (fun j => (blk_16 m c _ _ j R hR).trans (V_k0_apply m c _ j)) (fun j => (blk_17 m c _ _ j R hR).trans (V_k1_apply m c _ j)) (fun j => (blk_18 m c _ _ j R hR).trans (V_k2_apply m c _ j)) j)))
  show _ = (dats m 0 c).arrAt 22 cfg0.N _
  refine congrArg ((dats m 0 c).arrAt 22 cfg0.N) (funext fun a => Fin.ext ?_)
  have h := at_22 ⟨R.val / 512, hN⟩
  fin_cases a
  · show R.val = win0_22.index ⟨R.val / 512, hN⟩ 0 * 512 + 1 * (R.val % 512)
    rw [h]; show R.val = R.val / 512 * 512 + 1 * (R.val % 512); omega
  · show j.val = win0_22.index ⟨R.val / 512, hN⟩ 1 * 128 + 1 * j.val
    rw [h]; show j.val = 0 * 128 + 1 * j.val; omega
theorem arr_23 (R : Fin 32768) (j : Fin 1024) : (dats m 0 c).arrAt 23 cfg0.N (ix2 R j) = resK (m ((c : Thread nD τ).loc main_arg7)) (m ((c : Thread nD τ).loc main_arg10)) (m ((c : Thread nD τ).loc main_arg11)) (x1E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) 64 (by omega) R j := by
  have hN : R.val / 512 < cfg0.N := by have := R.isLt; show R.val / 512 < 64; omega
  have hb := (Value.blocks23 m c ⟨R.val / 512, hN⟩ (flush0_23 _)).trans (Value.flushed23_A m c ⟨R.val / 512, hN⟩)
  have hq := congrFun hb (ix2 ⟨R.val % 512, by omega⟩ j)
  have hR : R.val = 512 * (⟨R.val / 512, hN⟩ : Fin cfg0.N).val + (⟨R.val % 512, by omega⟩ : Fin 512).val := by show R.val = 512 * (R.val / 512) + R.val % 512; omega
  refine Eq.trans ?_ (hq.trans ((congrFun (out_23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 ⟨R.val % 512, by omega⟩ j)).trans (G21_eq 64 (by omega) (gck m c _ _ R hR) (fun k C => (blk_10 m c _ k C).trans ((congrFun (V_wv m c) _).trans (wvP_apply _ k C))) j)))
  show _ = (dats m 0 c).arrAt 23 cfg0.N _
  refine congrArg ((dats m 0 c).arrAt 23 cfg0.N) (funext fun a => Fin.ext ?_)
  have h := at_23 ⟨R.val / 512, hN⟩
  fin_cases a
  · show R.val = win0_23.index ⟨R.val / 512, hN⟩ 0 * 512 + 1 * (R.val % 512)
    rw [h]; show R.val = R.val / 512 * 512 + 1 * (R.val % 512); omega
  · show j.val = win0_23.index ⟨R.val / 512, hN⟩ 1 * 1024 + 1 * j.val
    rw [h]; show j.val = 0 * 1024 + 1 * j.val; omega
theorem arr_24 (R : Fin 32768) (j : Fin 1024) : (dats m 0 c).arrAt 24 cfg0.N (ix2 R j) = resZ (m ((c : Thread nD τ).loc main_arg7)) (x1E (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) R j := by
  have hN : R.val / 512 < cfg0.N := by have := R.isLt; show R.val / 512 < 64; omega
  have hb := (Value.blocks24 m c ⟨R.val / 512, hN⟩ (flush0_24 _)).trans (Value.flushed24_A m c ⟨R.val / 512, hN⟩)
  have hq := congrFun hb (ix2 ⟨R.val % 512, by omega⟩ j)
  have hR : R.val = 512 * (⟨R.val / 512, hN⟩ : Fin cfg0.N).val + (⟨R.val % 512, by omega⟩ : Fin 512).val := by show R.val = 512 * (R.val / 512) + R.val % 512; omega
  refine Eq.trans ?_ (hq.trans ((congrFun (out_24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 ⟨R.val % 512, by omega⟩ j)).trans (G24_eq (g19 m c _ _ R hR) (fun k d => (blk_7 m c _ k _).trans ((congrFun (V_w1 m c) _).trans (w1P_z _ k d))) j)))
  show _ = (dats m 0 c).arrAt 24 cfg0.N _
  refine congrArg ((dats m 0 c).arrAt 24 cfg0.N) (funext fun a => Fin.ext ?_)
  have h := at_24 ⟨R.val / 512, hN⟩
  fin_cases a
  · show R.val = win0_24.index ⟨R.val / 512, hN⟩ 0 * 512 + 1 * (R.val % 512)
    rw [h]; show R.val = R.val / 512 * 512 + 1 * (R.val % 512); omega
  · show j.val = win0_24.index ⟨R.val / 512, hN⟩ 1 * 1024 + 1 * j.val
    rw [h]; show j.val = 0 * 1024 + 1 * j.val; omega

end Cert.OddIn

end
-- ==== Proof.OdRef.lean ====
/- The reference of the odd layer's input stage, entry by entry. -/
module

public import proofs.«01_k».proof.Proof.OdSpec
public import proofs.«01_k».proof.Proof.Gen.Reference4Ideal.Run
public import proofs.«01_k».proof.Proof.InRef

@[expose] public section

set_option maxRecDepth 16384
set_option maxHeartbeats 1000000

noncomputable section

namespace Cert.Reference4Ideal.Od

open Idealize.ShloMosaic Idealize.ShloMosaic.TcCoe Idealize.ShloMosaic.Tactic Idealize.SL.Sem Cert.Reference4Ideal Cert.Reference4Ideal.Gen
open Cert.KernelIdeal.OddOut (meanRow normRow)
open Cert.OddIn (preY x1R rmsR x1E hE cqE ckE qE kvE resQ resK resR resZ ropeQ ropeK cosP sinP cosT sinT angT scq)
open Cert.InProj (silu)

/-- The pre-norm sum of every row. -/
def hPre (a0 a1 a2 : FVec Ideal S32768x512 .bf16) (a3 : FVec Ideal S32768x1024 .f32) (a4 : FVec Ideal S1x1024x1024 .f32) : FVec Ideal S32768x1024 .f32 :=
  addf (mulf (broadcastInDim S32768x1024 ![] bcast_S_S32768x1024 (constant S_ .f32 0x3FB504F3#32)) a3) (Host.dotGeneral dot_S32768x1024_S1024x1024_S32768x1024_1_0_0_1_n_n none (concatenate S32768x1024 1 [⟨S32768x512, (mulf (extf .f32 a0 bitsLt_bf16_f32) (extf .f32 a1 bitsLt_bf16_f32))⟩, ⟨S32768x512, (extf .f32 a2 bitsLt_bf16_f32)⟩] concatenates_S32768x512_S32768x512_S32768x1024_d1) (shapeCast S1024x1024 a4 shapeCasts_S1x1024x1024_S1024x1024))
def hMean (S : FVec Ideal S32768x1024 .f32) : FVec Ideal S32768x1 .f32 :=
  Host.divf (broadcastInDim S32768x1 ![0] bcast_S32768_S32768x1_0 (Host.reduceAdd S (constant S_ .f32 0x00000000#32) reducesTo_S32768x1024_S32768_d1 h_S_))
    (broadcastInDim S32768x1 ![] bcast_S_S32768x1 (constant S_ .f32 0x44800000#32))
def hCen (S : FVec Ideal S32768x1024 .f32) : FVec Ideal S32768x1024 .f32 :=
  subf S (broadcastInDim S32768x1024 ![0, 1] bcast_S32768x1_S32768x1024_0_1 (hMean S))
def hNorm (S : FVec Ideal S32768x1024 .f32) : FVec Ideal S32768x1024 .f32 :=
  mulf (hCen S) (broadcastInDim S32768x1024 ![0, 1] bcast_S32768x1_S32768x1024_0_1
    (Host.rsqrt (addf (hMean (mulf (hCen S) (hCen S))) (broadcastInDim S32768x1 ![] bcast_S_S32768x1 (constant S_ .f32 0x3727C5AC#32)))))
def hRow (g : FVec Ideal S1x1024 .f32) : FVec Ideal S32768x1024 .f32 :=
  broadcastInDim S32768x1024 ![0, 1] bcast_S1x1024_S32768x1024_0_1 (broadcastInDim S1x1024 ![1] bcast_S1024_S1x1024_1 (shapeCast S1024 g shapeCasts_S1x1024_S1024))
theorem dot_apply (a : FVec Ideal S32768x1024 .f32) (w : FVec Ideal S1024x1024 .f32) (r : Fin 32768) (k : Fin 1024) :
    Host.dotGeneral dot_S32768x1024_S1024x1024_S32768x1024_1_0_0_1_n_n none a w (ix2 r k) = ∑ c : Fin 1024, a (ix2 r c) * w (ix2 c k) :=
  StackMember.dotGeneral_plain_apply (m := 32768) (k := 1024) (n := 1024) none a w r k
theorem wo_apply (a4 : FVec Ideal S1x1024x1024 .f32) (k q : Fin 1024) : shapeCast S1024x1024 a4 shapeCasts_S1x1024x1024_S1024x1024 (ix2 k q) = a4 (ix3 0 k q) := by
  refine shapeCast_apply a4 _ (ix2 k q) (ix3 0 k q) ?_
  rw [Shape.rowMajor_val_two, Shape.rowMajor_val_three]
  show (0 * 1024 + k.val) * 1024 + q.val = k.val * 1024 + q.val
  omega
theorem hPre_apply (a0 a1 a2 : FVec Ideal S32768x512 .bf16) (a3 : FVec Ideal S32768x1024 .f32) (a4 : FVec Ideal S1x1024x1024 .f32) (i : Fin 32768) (q : Fin 1024) :
    hPre a0 a1 a2 a3 a4 (ix2 i q) = preY (fun k => a0 (ix2 i k)) (fun k => a1 (ix2 i k)) (fun k => a2 (ix2 i k)) (fun k => a3 (ix2 i k)) (fun k q => a4 (ix3 0 k q)) q := by
  unfold hPre preY
  refine congrArg₂ (· + ·) (by pointwise) ?_
  refine (dot_apply _ _ i q).trans ((Fin.sum_univ_add (a := 512) (b := 512) _).trans ?_)
  refine congrArg₂ (· + ·) (Finset.sum_congr rfl fun k _ => ?_) (Finset.sum_congr rfl fun k _ => ?_)
  · refine congrArg₂ (· * ·) ((concatenate_pair_apply_left 1 _ _ concatenates_S32768x512_S32768x512_S32768x1024_d1 _ rfl (ix2 i k) ?_).trans ?_) (wo_apply a4 _ q)
    · intro b; fin_cases b <;> rfl
    · pointwise
  · refine congrArg₂ (· * ·) ((concatenate_pair_apply_right 1 _ _ concatenates_S32768x512_S32768x512_S32768x1024_d1 _ rfl rfl (ix2 i k) ?_ ?_).trans ?_) (wo_apply a4 _ q)
    · intro b hb; fin_cases b
      · rfl
      · exact absurd rfl hb
    · show k.val + 512 = 512 + k.val; omega
    · pointwise
theorem hMean_apply (S : FVec Ideal S32768x1024 .f32) (i : Fin 32768) (j : Fin 1) :
    hMean S (ix2 i j) = meanRow (fun k => S (ix2 i k)) := by
  unfold hMean meanRow
  pointwise
theorem hCen_apply (S : FVec Ideal S32768x1024 .f32) (i : Fin 32768) (q : Fin 1024) :
    hCen S (ix2 i q) = S (ix2 i q) - meanRow (fun k => S (ix2 i k)) := by
  unfold hCen
  pointwise [hMean_apply]
theorem hNorm_apply (S : FVec Ideal S32768x1024 .f32) (i : Fin 32768) (q : Fin 1024) :
    hNorm S (ix2 i q) = normRow (fun k => S (ix2 i k)) q := by
  unfold hNorm normRow
  pointwise [hMean_apply, hCen_apply]
theorem hRow_apply (g : FVec Ideal S1x1024 .f32) (i : Fin 32768) (q : Fin 1024) : hRow g (ix2 i q) = g (ix2 0 q) := by
  unfold hRow
  pointwise

/-- A latent's root mean square norm, row by row. -/
def rmsQ (v : FVec Ideal S32768x384 .f32) (g : FVec Ideal S1x384 .f32) : FVec Ideal S32768x384 .f32 :=
  mulf (mulf v (broadcastInDim S32768x384 ![0, 1] bcast_S32768x1_S32768x384_0_1 (Host.rsqrt (addf (Host.divf (broadcastInDim S32768x1 ![0] bcast_S32768_S32768x1_0 (Host.reduceAdd (mulf v v) (constant S_ .f32 0x00000000#32) reducesTo_S32768x384_S32768_d1 h_S_)) (broadcastInDim S32768x1 ![] bcast_S_S32768x1 (constant S_ .f32 0x43C00000#32))) (broadcastInDim S32768x1 ![] bcast_S_S32768x1 (constant S_ .f32 0x3727C5AC#32)))))) (broadcastInDim S32768x384 ![0, 1] bcast_S1x384_S32768x384_0_1 (broadcastInDim S1x384 ![1] bcast_S384_S1x384_1 (shapeCast S384 g shapeCasts_S1x384_S384)))
theorem rmsQ_apply (v : FVec Ideal S32768x384 .f32) (g : FVec Ideal S1x384 .f32) (R : Fin 32768) (j : Fin 384) :
    rmsQ v g (ix2 R j) = rmsR 0x43C00000#32 (fun j => v (ix2 R j)) (fun j => g (ix2 0 j)) j := by
  unfold rmsQ rmsR
  pointwise
/-- A latent's root mean square norm, row by row. -/
def rmsK (v : FVec Ideal S32768x256 .f32) (g : FVec Ideal S1x256 .f32) : FVec Ideal S32768x256 .f32 :=
  mulf (mulf v (broadcastInDim S32768x256 ![0, 1] bcast_S32768x1_S32768x256_0_1 (Host.rsqrt (addf (Host.divf (broadcastInDim S32768x1 ![0] bcast_S32768_S32768x1_0 (Host.reduceAdd (mulf v v) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x3727C5AC#32)))))) (broadcastInDim S32768x256 ![0, 1] bcast_S1x256_S32768x256_0_1 (broadcastInDim S1x256 ![1] bcast_S256_S1x256_1 (shapeCast S256 g shapeCasts_S1x256_S256)))
theorem rmsK_apply (v : FVec Ideal S32768x256 .f32) (g : FVec Ideal S1x256 .f32) (R : Fin 32768) (j : Fin 256) :
    rmsK v g (ix2 R j) = rmsR 0x43800000#32 (fun j => v (ix2 R j)) (fun j => g (ix2 0 j)) j := by
  unfold rmsK rmsR
  pointwise
theorem doth (a : FVec Ideal S32768x1024 .f32) (w : FVec Ideal S1x1024x1696 .f32) (R : Fin 32768) (J : Fin 1696) :
    Host.dotGeneral dot_S32768x1024_S1024x1696_S32768x1696_1_0_0_1_n_n none a (shapeCast S1024x1696 w shapeCasts_S1x1024x1696_S1024x1696 : FVec Ideal S1024x1696 .f32) (ix2 R J) = ∑ k : Fin 1024, a (ix2 R k) * w (ix3 0 k J) := by
  refine (StackMember.dotGeneral_plain_apply (m := 32768) (k := 1024) (n := 1696) none a _ R J).trans ?_
  refine Finset.sum_congr rfl fun k _ => congrArg (a (ix2 R k) * ·) ?_
  refine shapeCast_apply w _ (ix2 k J) (ix3 0 k J) ?_
  rw [Shape.rowMajor_val_two, Shape.rowMajor_val_three]
  show (0 * 1024 + k.val) * 1696 + J.val = k.val * 1696 + J.val
  omega
theorem dotq (a : FVec Ideal S32768x384 .f32) (w : FVec Ideal S1x384x1536 .f32) (R : Fin 32768) (J : Fin 1536) :
    Host.dotGeneral dot_S32768x384_S384x1536_S32768x1536_1_0_0_1_n_n none a (shapeCast S384x1536 w shapeCasts_S1x384x1536_S384x1536 : FVec Ideal S384x1536 .f32) (ix2 R J) = ∑ k : Fin 384, a (ix2 R k) * w (ix3 0 k J) := by
  refine (StackMember.dotGeneral_plain_apply (m := 32768) (k := 384) (n := 1536) none a _ R J).trans ?_
  refine Finset.sum_congr rfl fun k _ => congrArg (a (ix2 R k) * ·) ?_
  refine shapeCast_apply w _ (ix2 k J) (ix3 0 k J) ?_
  rw [Shape.rowMajor_val_two, Shape.rowMajor_val_three]
  show (0 * 384 + k.val) * 1536 + J.val = k.val * 1536 + J.val
  omega
theorem dotk (a : FVec Ideal S32768x256 .f32) (w : FVec Ideal S1x256x2048 .f32) (R : Fin 32768) (J : Fin 2048) :
    Host.dotGeneral dot_S32768x256_S256x2048_S32768x2048_1_0_0_1_n_n none a (shapeCast S256x2048 w shapeCasts_S1x256x2048_S256x2048 : FVec Ideal S256x2048 .f32) (ix2 R J) = ∑ k : Fin 256, a (ix2 R k) * w (ix3 0 k J) := by
  refine (StackMember.dotGeneral_plain_apply (m := 32768) (k := 256) (n := 2048) none a _ R J).trans ?_
  refine Finset.sum_congr rfl fun k _ => congrArg (a (ix2 R k) * ·) ?_
  refine shapeCast_apply w _ (ix2 k J) (ix3 0 k J) ?_
  rw [Shape.rowMajor_val_two, Shape.rowMajor_val_three]
  show (0 * 256 + k.val) * 2048 + J.val = k.val * 2048 + J.val
  omega

variable (V : Valuation τ sig (Elt Ideal))

/-- The rows after their layer norm. -/
def x1T : FVec Ideal S32768x1024 .f32 := addf (mulf (hNorm (hPre (V (Proc.devRef .tc main_arg0)) (V (Proc.devRef .tc main_arg1)) (V (Proc.devRef .tc main_arg2)) (V (Proc.devRef .tc main_arg3)) (V (Proc.devRef .tc main_arg4)))) (hRow (V (Proc.devRef .tc main_arg5)))) (hRow (V (Proc.devRef .tc main_arg6)))
theorem x1T_apply (R : Fin 32768) (q : Fin 1024) : x1T V (ix2 R q) = (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R q := by
  show hNorm _ (ix2 R q) * hRow _ (ix2 R q) + hRow _ (ix2 R q) = _
  rw [hNorm_apply, hRow_apply, hRow_apply]
  unfold x1E x1R
  simp only [hPre_apply]
theorem hid_eq : Value.res_main_v37 V = Host.dotGeneral dot_S32768x1024_S1024x1696_S32768x1696_1_0_0_1_n_n none (x1T V) (shapeCast S1024x1696 ((V (Proc.devRef .tc main_arg7)) : FVec Ideal S1x1024x1696 .f32) shapeCasts_S1x1024x1696_S1024x1696 : FVec Ideal S1024x1696 .f32) := rfl
theorem hid_apply (R : Fin 32768) (J : Fin 1696) : Value.res_main_v37 V (ix2 R J) = hE (V (Proc.devRef .tc main_arg7)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R J := by
  rw [hid_eq]
  refine (doth _ _ R J).trans ?_
  unfold hE
  exact Finset.sum_congr rfl fun k _ => congrArg (· * _) (x1T_apply V R k)
theorem v38_apply (R : Fin 32768) (j : Fin 384) : Value.res_main_v38 V (ix2 R j) = hE (V (Proc.devRef .tc main_arg7)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R ⟨j.val, by omega⟩ := by
  unfold Value.res_main_v38
  refine (extractStridedSlice_apply _ _ slices_S32768x1696_S32768x384_0_0 (ix2 R j) (ix2 R ⟨j.val, by omega⟩) ?_).trans (hid_apply V R _)
  intro a; fin_cases a
  · show R.val = 0 + R.val; omega
  · show _ = 0 + j.val; show j.val = 0 + j.val; omega
theorem v39_apply (R : Fin 32768) (j : Fin 256) : Value.res_main_v39 V (ix2 R j) = hE (V (Proc.devRef .tc main_arg7)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R ⟨384 + j.val, by omega⟩ := by
  unfold Value.res_main_v39
  refine (extractStridedSlice_apply _ _ slices_S32768x1696_S32768x256_0_384 (ix2 R j) (ix2 R ⟨384 + j.val, by omega⟩) ?_).trans (hid_apply V R _)
  intro a; fin_cases a
  · show R.val = 0 + R.val; omega
  · show _ = 384 + j.val; rfl
theorem v41_apply (R : Fin 32768) (j : Fin 1024) : Value.res_main_v41 V (ix2 R j) = hE (V (Proc.devRef .tc main_arg7)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R ⟨672 + j.val, by omega⟩ := by
  unfold Value.res_main_v41
  refine (extractStridedSlice_apply _ _ slices_S32768x1696_S32768x1024_0_672 (ix2 R j) (ix2 R ⟨672 + j.val, by omega⟩) ?_).trans (hid_apply V R _)
  intro a; fin_cases a
  · show R.val = 0 + R.val; omega
  · show _ = 672 + j.val; rfl

theorem q_eq : Value.res_main_v59 V = shapeCast S16x2048x16x96 (Host.dotGeneral dot_S32768x384_S384x1536_S32768x1536_1_0_0_1_n_n none (rmsQ (Value.res_main_v38 V) (V (Proc.devRef .tc main_arg8))) (shapeCast S384x1536 ((V (Proc.devRef .tc main_arg9)) : FVec Ideal S1x384x1536 .f32) shapeCasts_S1x384x1536_S384x1536 : FVec Ideal S384x1536 .f32) : FVec Ideal S32768x1536 .f32) shapeCasts_S32768x1536_S16x2048x16x96 := rfl
theorem q_apply (R : Fin 32768) (h : Fin 16) (d : Fin 96) :
    Value.res_main_v59 V (ix4 ⟨R.val / 2048, by omega⟩ ⟨R.val % 2048, by omega⟩ h d) = qE (V (Proc.devRef .tc main_arg7)) (V (Proc.devRef .tc main_arg8)) (V (Proc.devRef .tc main_arg9)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R ⟨96 * h.val + d.val, by omega⟩ := by
  rw [q_eq]
  refine (shapeCast_apply _ _ (ix4 ⟨R.val / 2048, by omega⟩ ⟨R.val % 2048, by omega⟩ h d) (ix2 R ⟨96 * h.val + d.val, by omega⟩) ?_).trans ?_
  · rw [Shape.rowMajor_val_two, Shape.rowMajor_val_four]
    show R.val * 1536 + (96 * h.val + d.val) = ((R.val / 2048 * 2048 + R.val % 2048) * 16 + h.val) * 96 + d.val
    omega
  refine (dotq _ _ R _).trans ?_
  unfold qE cqE
  refine Finset.sum_congr rfl fun k _ => congrArg (· * _) ?_
  rw [rmsQ_apply]
  simp only [v38_apply]
theorem kv_eq : Value.res_main_v115 V = shapeCast S16x2048x16x128 (Host.dotGeneral dot_S32768x256_S256x2048_S32768x2048_1_0_0_1_n_n none (rmsK (Value.res_main_v39 V) (V (Proc.devRef .tc main_arg10))) (shapeCast S256x2048 ((V (Proc.devRef .tc main_arg11)) : FVec Ideal S1x256x2048 .f32) shapeCasts_S1x256x2048_S256x2048 : FVec Ideal S256x2048 .f32) : FVec Ideal S32768x2048 .f32) shapeCasts_S32768x2048_S16x2048x16x128 := rfl
theorem kv_apply (R : Fin 32768) (h : Fin 16) (d : Fin 128) :
    Value.res_main_v115 V (ix4 ⟨R.val / 2048, by omega⟩ ⟨R.val % 2048, by omega⟩ h d) = kvE (V (Proc.devRef .tc main_arg7)) (V (Proc.devRef .tc main_arg10)) (V (Proc.devRef .tc main_arg11)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R ⟨128 * h.val + d.val, by omega⟩ := by
  rw [kv_eq]
  refine (shapeCast_apply _ _ (ix4 ⟨R.val / 2048, by omega⟩ ⟨R.val % 2048, by omega⟩ h d) (ix2 R ⟨128 * h.val + d.val, by omega⟩) ?_).trans ?_
  · rw [Shape.rowMajor_val_two, Shape.rowMajor_val_four]
    show R.val * 2048 + (128 * h.val + d.val) = ((R.val / 2048 * 2048 + R.val % 2048) * 16 + h.val) * 128 + d.val
    omega
  refine (dotk _ _ R _).trans ?_
  unfold kvE ckE
  refine Finset.sum_congr rfl fun k _ => congrArg (· * _) ?_
  rw [rmsK_apply]
  simp only [v39_apply]

def tK : FVec Ideal S32768x1024 .bf16 := truncf .bf16 (shapeCast S32768x1024 (extractStridedSlice S16x2048x16x64 ![0, 0, 0, 0] (Value.res_main_v115 V : FVec Ideal S16x2048x16x128 .f32) slices_S16x2048x16x128_S16x2048x16x64_0_0_0_0 : FVec Ideal S16x2048x16x64 .f32) shapeCasts_S16x2048x16x64_S32768x1024 : FVec Ideal S32768x1024 .f32) bitsLt_bf16_f32
theorem tK_apply (R : Fin 32768) (C : Fin 1024) : tK V (ix2 R C) = resK (V (Proc.devRef .tc main_arg7)) (V (Proc.devRef .tc main_arg10)) (V (Proc.devRef .tc main_arg11)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) 0 (by omega) R C := by
  unfold tK resK
  show shapeCast S32768x1024 (extractStridedSlice S16x2048x16x64 ![0, 0, 0, 0] (Value.res_main_v115 V : FVec Ideal S16x2048x16x128 .f32) slices_S16x2048x16x128_S16x2048x16x64_0_0_0_0 : FVec Ideal S16x2048x16x64 .f32) shapeCasts_S16x2048x16x64_S32768x1024 (ix2 R C) = _
  refine (shapeCast_apply _ shapeCasts_S16x2048x16x64_S32768x1024 (ix2 R C) (ix4 ⟨R.val / 2048, by omega⟩ ⟨R.val % 2048, by omega⟩ ⟨C.val / 64, by omega⟩ ⟨C.val % 64, by omega⟩) ?_).trans ?_
  · rw [Shape.rowMajor_val_two, Shape.rowMajor_val_four]
    show ((R.val / 2048 * 2048 + R.val % 2048) * 16 + C.val / 64) * 64 + C.val % 64 = R.val * 1024 + C.val
    omega
  refine (extractStridedSlice_apply _ _ slices_S16x2048x16x128_S16x2048x16x64_0_0_0_0 _ (ix4 ⟨R.val / 2048, by omega⟩ ⟨R.val % 2048, by omega⟩ ⟨C.val / 64, by omega⟩ ⟨0 + C.val % 64, by omega⟩) ?_).trans ?_
  · intro a; fin_cases a
    · show R.val / 2048 = 0 + R.val / 2048; omega
    · show R.val % 2048 = 0 + R.val % 2048; omega
    · show C.val / 64 = 0 + C.val / 64; omega
    · rfl
  refine (kv_apply V R _ _).trans (congrArg (kvE _ _ _ _ R) (Fin.ext ?_))
  show 128 * (C.val / 64) + (0 + C.val % 64) = 128 * (C.val / 64) + 0 + C.val % 64
  omega

def tV : FVec Ideal S32768x1024 .bf16 := truncf .bf16 (shapeCast S32768x1024 (extractStridedSlice S16x2048x16x64 ![0, 0, 0, 64] (Value.res_main_v115 V : FVec Ideal S16x2048x16x128 .f32) slices_S16x2048x16x128_S16x2048x16x64_0_0_0_64 : FVec Ideal S16x2048x16x64 .f32) shapeCasts_S16x2048x16x64_S32768x1024 : FVec Ideal S32768x1024 .f32) bitsLt_bf16_f32
theorem tV_apply (R : Fin 32768) (C : Fin 1024) : tV V (ix2 R C) = resK (V (Proc.devRef .tc main_arg7)) (V (Proc.devRef .tc main_arg10)) (V (Proc.devRef .tc main_arg11)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) 64 (by omega) R C := by
  unfold tV resK
  show shapeCast S32768x1024 (extractStridedSlice S16x2048x16x64 ![0, 0, 0, 64] (Value.res_main_v115 V : FVec Ideal S16x2048x16x128 .f32) slices_S16x2048x16x128_S16x2048x16x64_0_0_0_64 : FVec Ideal S16x2048x16x64 .f32) shapeCasts_S16x2048x16x64_S32768x1024 (ix2 R C) = _
  refine (shapeCast_apply _ shapeCasts_S16x2048x16x64_S32768x1024 (ix2 R C) (ix4 ⟨R.val / 2048, by omega⟩ ⟨R.val % 2048, by omega⟩ ⟨C.val / 64, by omega⟩ ⟨C.val % 64, by omega⟩) ?_).trans ?_
  · rw [Shape.rowMajor_val_two, Shape.rowMajor_val_four]
    show ((R.val / 2048 * 2048 + R.val % 2048) * 16 + C.val / 64) * 64 + C.val % 64 = R.val * 1024 + C.val
    omega
  refine (extractStridedSlice_apply _ _ slices_S16x2048x16x128_S16x2048x16x64_0_0_0_64 _ (ix4 ⟨R.val / 2048, by omega⟩ ⟨R.val % 2048, by omega⟩ ⟨C.val / 64, by omega⟩ ⟨64 + C.val % 64, by omega⟩) ?_).trans ?_
  · intro a; fin_cases a
    · show R.val / 2048 = 0 + R.val / 2048; omega
    · show R.val % 2048 = 0 + R.val % 2048; omega
    · show C.val / 64 = 0 + C.val / 64; omega
    · rfl
  refine (kv_apply V R _ _).trans (congrArg (kvE _ _ _ _ R) (Fin.ext ?_))
  show 128 * (C.val / 64) + (64 + C.val % 64) = 128 * (C.val / 64) + 64 + C.val % 64
  omega

def tZ : FVec Ideal S32768x1024 .bf16 := truncf .bf16 (mulf (Value.res_main_v41 V) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (Value.res_main_v41 V)))))) bitsLt_bf16_f32
theorem tZ_apply (R : Fin 32768) (q : Fin 1024) : tZ V (ix2 R q) = resZ (V (Proc.devRef .tc main_arg7)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R q := by
  unfold tZ resZ
  rw [← Cert.Reference3Ideal.In.silu_eq]
  pointwise [v41_apply]

/-- The queries' 32 rotated lanes, all 96 lanes, and the result. -/
def qr : FVec Ideal S16x2048x16x32 .f32 := concatenate S16x2048x16x32 3 [⟨S16x2048x16x16, (subf (mulf (Value.res_main_v79 V) (broadcastInDim S16x2048x16x16 ![0, 1, 2, 3] bcast_S1x2048x1x16_S16x2048x16x16_0_1_2_3 (broadcastInDim S1x2048x1x16 ![1, 2, 3] bcast_S2048x1x16_S1x2048x1x16_1_2_3 (Value.res_main_v76 V)))) (mulf (Value.res_main_v80 V) (broadcastInDim S16x2048x16x16 ![0, 1, 2, 3] bcast_S1x2048x1x16_S16x2048x16x16_0_1_2_3 (broadcastInDim S1x2048x1x16 ![1, 2, 3] bcast_S2048x1x16_S1x2048x1x16_1_2_3 (Value.res_main_v78 V)))))⟩, ⟨S16x2048x16x16, (addf (mulf (Value.res_main_v80 V) (broadcastInDim S16x2048x16x16 ![0, 1, 2, 3] bcast_S1x2048x1x16_S16x2048x16x16_0_1_2_3 (broadcastInDim S1x2048x1x16 ![1, 2, 3] bcast_S2048x1x16_S1x2048x1x16_1_2_3 (Value.res_main_v76 V)))) (mulf (Value.res_main_v79 V) (broadcastInDim S16x2048x16x16 ![0, 1, 2, 3] bcast_S1x2048x1x16_S16x2048x16x16_0_1_2_3 (broadcastInDim S1x2048x1x16 ![1, 2, 3] bcast_S2048x1x16_S1x2048x1x16_1_2_3 (Value.res_main_v78 V)))))⟩] concatenates_S16x2048x16x16_S16x2048x16x16_S16x2048x16x32_d3
def qc : FVec Ideal S16x2048x16x96 .f32 := concatenate S16x2048x16x96 3 [⟨S16x2048x16x64, (extractStridedSlice S16x2048x16x64 ![0, 0, 0, 0] (Value.res_main_v59 V) slices_S16x2048x16x96_S16x2048x16x64_0_0_0_0)⟩, ⟨S16x2048x16x32, (qr V)⟩] concatenates_S16x2048x16x64_S16x2048x16x32_S16x2048x16x96_d3
def tQ : FVec Ideal S32768x2048 .bf16 := truncf .bf16 (shapeCast _ (pad S16x2048x16x128 ![0, 0, 0, 0] ![0, 0, 0, 32] ![0, 0, 0, 0] (mulf (qc V) (broadcastInDim S16x2048x16x96 ![] bcast_S_S16x2048x16x96 (constant S_ .f32 0x3E16C740#32))) (sitofp .f32 (constantI S_ 32 0#32)) pads_S16x2048x16x96_S16x2048x16x128_000_000_000_0320 h_S_) shapeCasts_S16x2048x16x128_S32768x2048) bitsLt_bf16_f32
/-- The shared keys' 32 rotated lanes, and the result. -/
def kr : FVec Ideal S16x2048x32 .f32 := concatenate S16x2048x32 2 [⟨S16x2048x16, (subf (mulf (Value.res_main_v132 V) (broadcastInDim S16x2048x16 ![0, 1, 2] bcast_S1x2048x16_S16x2048x16_0_1_2 (broadcastInDim S1x2048x16 ![1, 2] bcast_S2048x16_S1x2048x16_1_2 (Value.res_main_v130 V)))) (mulf (Value.res_main_v133 V) (broadcastInDim S16x2048x16 ![0, 1, 2] bcast_S1x2048x16_S16x2048x16_0_1_2 (broadcastInDim S1x2048x16 ![1, 2] bcast_S2048x16_S1x2048x16_1_2 (Value.res_main_v131 V)))))⟩, ⟨S16x2048x16, (addf (mulf (Value.res_main_v133 V) (broadcastInDim S16x2048x16 ![0, 1, 2] bcast_S1x2048x16_S16x2048x16_0_1_2 (broadcastInDim S1x2048x16 ![1, 2] bcast_S2048x16_S1x2048x16_1_2 (Value.res_main_v130 V)))) (mulf (Value.res_main_v132 V) (broadcastInDim S16x2048x16 ![0, 1, 2] bcast_S1x2048x16_S16x2048x16_0_1_2 (broadcastInDim S1x2048x16 ![1, 2] bcast_S2048x16_S1x2048x16_1_2 (Value.res_main_v131 V)))))⟩] concatenates_S16x2048x16_S16x2048x16_S16x2048x32_d2
def tR : FVec Ideal S32768x128 .bf16 := truncf .bf16 (pad S32768x128 ![0, 64] ![0, 32] ![0, 0] (shapeCast _ (kr V) shapeCasts_S16x2048x32_S32768x32) (sitofp .f32 (constantI S_ 32 0#32)) pads_S32768x32_S32768x128_000_64320 h_S_) bitsLt_bf16_f32

/-- The queries of every head, and the shared keys before their rotation. -/
def qv : FVec Ideal S16x2048x16x96 .f32 := Value.res_main_v59 V
def kx : FVec Ideal S16x2048x32 .f32 := shapeCast S16x2048x32 (extractStridedSlice S32768x32 ![0, 640] (Value.res_main_v37 V : FVec Ideal S32768x1696 .f32) slices_S32768x1696_S32768x32_0_640 : FVec Ideal S32768x32 .f32) shapeCasts_S32768x32_S16x2048x32
theorem bc4_apply (T : FVec Ideal S2048x16 .f32) (a : Fin 16) (p : Fin 2048) (h f : Fin 16) :
    (broadcastInDim S16x2048x16x16 ![0, 1, 2, 3] bcast_S1x2048x1x16_S16x2048x16x16_0_1_2_3 (broadcastInDim S1x2048x1x16 ![1, 2, 3] bcast_S2048x1x16_S1x2048x1x16_1_2_3 (shapeCast S2048x1x16 T shapeCasts_S2048x16_S2048x1x16)) : FVec Ideal S16x2048x16x16 .f32) (ix4 a p h f) = T (ix2 p f) := by
  pointwise
theorem bc3_apply (T : FVec Ideal S2048x16 .f32) (a : Fin 16) (p : Fin 2048) (f : Fin 16) :
    (broadcastInDim S16x2048x16 ![0, 1, 2] bcast_S1x2048x16_S16x2048x16_0_1_2 (broadcastInDim S1x2048x16 ![1, 2] bcast_S2048x16_S1x2048x16_1_2 T) : FVec Ideal S16x2048x16 .f32) (ix3 a p f) = T (ix2 p f) := by
  pointwise
theorem v79_apply (a : Fin 16) (p : Fin 2048) (h f : Fin 16) : Value.res_main_v79 V (ix4 a p h f) = qv V (ix4 a p h ⟨64 + f.val, by omega⟩) := by
  unfold Value.res_main_v79 Value.res_main_v61
  refine (extractStridedSlice_apply _ _ slices_S16x2048x16x32_S16x2048x16x16_0_0_0_0 _ (ix4 a p h ⟨f.val, by omega⟩) ?_).trans (extractStridedSlice_apply _ _ slices_S16x2048x16x96_S16x2048x16x32_0_0_0_64 _ (ix4 a p h ⟨64 + f.val, by omega⟩) ?_)
  · intro b; fin_cases b
    · show a.val = 0 + a.val; omega
    · show p.val = 0 + p.val; omega
    · show h.val = 0 + h.val; omega
    · show f.val = 0 + f.val; omega
  · intro b; fin_cases b
    · show a.val = 0 + a.val; omega
    · show p.val = 0 + p.val; omega
    · show h.val = 0 + h.val; omega
    · rfl
theorem v80_apply (a : Fin 16) (p : Fin 2048) (h f : Fin 16) : Value.res_main_v80 V (ix4 a p h f) = qv V (ix4 a p h ⟨80 + f.val, by omega⟩) := by
  unfold Value.res_main_v80 Value.res_main_v61
  refine (extractStridedSlice_apply _ _ slices_S16x2048x16x32_S16x2048x16x16_0_0_0_16 _ (ix4 a p h ⟨16 + f.val, by omega⟩) ?_).trans (extractStridedSlice_apply _ _ slices_S16x2048x16x96_S16x2048x16x32_0_0_0_64 _ (ix4 a p h ⟨80 + f.val, by omega⟩) ?_)
  · intro b; fin_cases b
    · show a.val = 0 + a.val; omega
    · show p.val = 0 + p.val; omega
    · show h.val = 0 + h.val; omega
    · rfl
  · intro b; fin_cases b
    · show a.val = 0 + a.val; omega
    · show p.val = 0 + p.val; omega
    · show h.val = 0 + h.val; omega
    · show 80 + f.val = 64 + (16 + f.val); omega
theorem qr_a (a : Fin 16) (p : Fin 2048) (h f : Fin 16) : qr V (ix4 a p h ⟨f.val, by omega⟩)
    = qv V (ix4 a p h ⟨64 + f.val, by omega⟩) * cosT (ix2 p f) - qv V (ix4 a p h ⟨80 + f.val, by omega⟩) * sinT (ix2 p f) := by
  unfold qr
  refine (concatenate_pair_apply_left 3 _ _ concatenates_S16x2048x16x16_S16x2048x16x16_S16x2048x16x32_d3 _ rfl (ix4 a p h f) ?_).trans ?_
  · intro b; fin_cases b <;> rfl
  refine congrArg₂ (· - ·) (congrArg₂ (· * ·) (v79_apply V a p h f) (bc4_apply cosT a p h f)) (congrArg₂ (· * ·) (v80_apply V a p h f) (bc4_apply sinT a p h f))
theorem qr_b (a : Fin 16) (p : Fin 2048) (h f : Fin 16) : qr V (ix4 a p h ⟨16 + f.val, by omega⟩)
    = qv V (ix4 a p h ⟨80 + f.val, by omega⟩) * cosT (ix2 p f) + qv V (ix4 a p h ⟨64 + f.val, by omega⟩) * sinT (ix2 p f) := by
  unfold qr
  refine (concatenate_pair_apply_right 3 _ _ concatenates_S16x2048x16x16_S16x2048x16x16_S16x2048x16x32_d3 _ rfl rfl (ix4 a p h f) ?_ ?_).trans ?_
  · intro b hb; fin_cases b
    · rfl
    · rfl
    · rfl
    · exact absurd rfl hb
  · show f.val + 16 = 16 + f.val; omega
  refine congrArg₂ (· + ·) (congrArg₂ (· * ·) (v80_apply V a p h f) (bc4_apply cosT a p h f)) (congrArg₂ (· * ·) (v79_apply V a p h f) (bc4_apply sinT a p h f))
theorem qc_lo (a : Fin 16) (p : Fin 2048) (h : Fin 16) (d : Fin 64) : qc V (ix4 a p h ⟨d.val, by omega⟩) = qv V (ix4 a p h ⟨d.val, by omega⟩) := by
  unfold qc
  refine (concatenate_pair_apply_left 3 _ _ concatenates_S16x2048x16x64_S16x2048x16x32_S16x2048x16x96_d3 _ rfl (ix4 a p h d) ?_).trans (extractStridedSlice_apply _ _ slices_S16x2048x16x96_S16x2048x16x64_0_0_0_0 _ (ix4 a p h ⟨d.val, by omega⟩) ?_)
  · intro b; fin_cases b <;> rfl
  · intro b; fin_cases b
    · show a.val = 0 + a.val; omega
    · show p.val = 0 + p.val; omega
    · show h.val = 0 + h.val; omega
    · show d.val = 0 + d.val; omega
theorem qc_hi (a : Fin 16) (p : Fin 2048) (h : Fin 16) (d : Fin 32) : qc V (ix4 a p h ⟨64 + d.val, by omega⟩) = qr V (ix4 a p h d) := by
  unfold qc
  refine concatenate_pair_apply_right 3 _ _ concatenates_S16x2048x16x64_S16x2048x16x32_S16x2048x16x96_d3 _ rfl rfl (ix4 a p h d) ?_ ?_
  · intro b hb; fin_cases b
    · rfl
    · rfl
    · rfl
    · exact absurd rfl hb
  · show d.val + 64 = 64 + d.val; omega
/-- The padded queries. -/
def qp : FVec Ideal S16x2048x16x128 .f32 := pad S16x2048x16x128 ![0, 0, 0, 0] ![0, 0, 0, 32] ![0, 0, 0, 0] (mulf (qc V) (broadcastInDim S16x2048x16x96 ![] bcast_S_S16x2048x16x96 (constant S_ .f32 0x3E16C740#32))) (sitofp .f32 (constantI S_ 32 0#32)) pads_S16x2048x16x96_S16x2048x16x128_000_000_000_0320 h_S_
theorem qp_in (a : Fin 16) (p : Fin 2048) (h : Fin 16) (d : Fin 96) : qp V (ix4 a p h ⟨d.val, by omega⟩) = qc V (ix4 a p h d) * scq := by
  unfold qp
  refine (pad_apply_of_inside _ _ _ _ _ _ _ _ (ix4 a p h d) ?_).trans rfl
  intro b; fin_cases b
  · show a.val = 0 + a.val * (0 + 1); omega
  · show p.val = 0 + p.val * (0 + 1); omega
  · show h.val = 0 + h.val * (0 + 1); omega
  · show d.val = 0 + d.val * (0 + 1); omega
theorem qp_out (a : Fin 16) (p : Fin 2048) (h : Fin 16) (l : Fin 128) (hl : ¬ l.val < 96) : qp V (ix4 a p h l) = 0 := by
  unfold qp
  refine (pad_apply_of_not_inside _ _ _ _ _ _ _ _ 3 ?_).trans (Cert.Reference3Ideal.In.zero_word _)
  intro hc
  exact hl (by have h3 : (l.val - 0) / (0 + 1) < 96 := hc.2.2; omega)

theorem tQ_apply (R : Fin 32768) (C : Fin 2048) : tQ V (ix2 R C) = resQ (V (Proc.devRef .tc main_arg7)) (V (Proc.devRef .tc main_arg8)) (V (Proc.devRef .tc main_arg9)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R C := by
  have e : tQ V (ix2 R C) = qp V (ix4 ⟨R.val / 2048, by omega⟩ ⟨R.val % 2048, by omega⟩ ⟨C.val / 128, by omega⟩ ⟨C.val % 128, by omega⟩) := by
    show shapeCast S32768x2048 (qp V) shapeCasts_S16x2048x16x128_S32768x2048 (ix2 R C) = _
    refine shapeCast_apply _ _ _ _ ?_
    rw [Shape.rowMajor_val_two, Shape.rowMajor_val_four]
    show ((R.val / 2048 * 2048 + R.val % 2048) * 16 + C.val / 128) * 128 + C.val % 128 = R.val * 2048 + C.val
    omega
  rw [e]
  unfold resQ ropeQ cosP sinP
  obtain ⟨l, hl⟩ : ∃ l : Fin 128, l = ⟨C.val % 128, by omega⟩ := ⟨_, rfl⟩
  obtain ⟨h, hh⟩ : ∃ h : Fin 16, h = ⟨C.val / 128, by omega⟩ := ⟨_, rfl⟩
  have hq (d : Fin 96) : qv V (ix4 ⟨R.val / 2048, by omega⟩ ⟨R.val % 2048, by omega⟩ h d) = qE (V (Proc.devRef .tc main_arg7)) (V (Proc.devRef .tc main_arg8)) (V (Proc.devRef .tc main_arg9)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R ⟨96 * (C.val / 128) + d.val, by omega⟩ := by
    subst hh; exact q_apply V R _ d
  rw [← hl, ← hh]
  by_cases h0 : l.val < 64
  · rw [dif_pos h0]
    refine (qp_in V _ _ h ⟨l.val, by omega⟩).trans (congrArg (· * scq) ?_)
    exact (qc_lo V _ _ h ⟨l.val, h0⟩).trans (hq _)
  rw [dif_neg h0]
  by_cases h1 : l.val < 80
  · rw [dif_pos h1]
    have e1 : l = ⟨64 + (l.val - 64), by omega⟩ := Fin.ext (by show l.val = 64 + (l.val - 64); omega)
    refine ((congrArg (fun l => qp V (ix4 _ _ h l)) e1).trans (qp_in V _ _ h ⟨64 + (l.val - 64), by omega⟩)).trans (congrArg (· * scq) ?_)
    refine (qc_hi V _ _ h ⟨l.val - 64, by omega⟩).trans ((qr_a V _ _ h ⟨l.val - 64, by omega⟩).trans ?_)
    rw [hq, hq]
    exact congrArg₂ (· - ·) (congrArg (fun j => qE (V (Proc.devRef .tc main_arg7)) (V (Proc.devRef .tc main_arg8)) (V (Proc.devRef .tc main_arg9)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R j * _) (Fin.ext (by show 96 * (C.val / 128) + (64 + (l.val - 64)) = 96 * (C.val / 128) + l.val; omega)))
      (congrArg (fun j => qE (V (Proc.devRef .tc main_arg7)) (V (Proc.devRef .tc main_arg8)) (V (Proc.devRef .tc main_arg9)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R j * _) (Fin.ext (by show 96 * (C.val / 128) + (80 + (l.val - 64)) = 96 * (C.val / 128) + (l.val + 16); omega)))
  rw [dif_neg h1]
  by_cases h2 : l.val < 96
  · rw [dif_pos h2]
    have e1 : l = ⟨64 + (16 + (l.val - 80)), by omega⟩ := Fin.ext (by show l.val = 64 + (16 + (l.val - 80)); omega)
    refine ((congrArg (fun l => qp V (ix4 _ _ h l)) e1).trans (qp_in V _ _ h ⟨64 + (16 + (l.val - 80)), by omega⟩)).trans (congrArg (· * scq) ?_)
    refine (qc_hi V _ _ h ⟨16 + (l.val - 80), by omega⟩).trans ((qr_b V _ _ h ⟨l.val - 80, by omega⟩).trans ?_)
    rw [hq, hq]
    exact congrArg₂ (· + ·) (congrArg (fun j => qE (V (Proc.devRef .tc main_arg7)) (V (Proc.devRef .tc main_arg8)) (V (Proc.devRef .tc main_arg9)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R j * _) (Fin.ext (by show 96 * (C.val / 128) + (80 + (l.val - 80)) = 96 * (C.val / 128) + l.val; omega)))
      (congrArg (fun j => qE (V (Proc.devRef .tc main_arg7)) (V (Proc.devRef .tc main_arg8)) (V (Proc.devRef .tc main_arg9)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R j * _) (Fin.ext (by show 96 * (C.val / 128) + (64 + (l.val - 80)) = 96 * (C.val / 128) + (l.val - 16); omega)))
  · rw [dif_neg h2]
    exact qp_out V _ _ h l h2

theorem v116_apply (R : Fin 32768) (d : Fin 32) : kx V (ix3 ⟨R.val / 2048, by omega⟩ ⟨R.val % 2048, by omega⟩ d) = hE (V (Proc.devRef .tc main_arg7)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R ⟨640 + d.val, by omega⟩ := by
  unfold kx
  refine (shapeCast_apply _ _ _ (ix2 R d) ?_).trans ((extractStridedSlice_apply _ _ slices_S32768x1696_S32768x32_0_640 (ix2 R d) (ix2 R ⟨640 + d.val, by omega⟩) ?_).trans (hid_apply V R _))
  · rw [Shape.rowMajor_val_two, Shape.rowMajor_val_three]
    show R.val * 32 + d.val = (R.val / 2048 * 2048 + R.val % 2048) * 32 + d.val
    omega
  · intro a; fin_cases a
    · show R.val = 0 + R.val; omega
    · rfl
theorem v132_apply (a : Fin 16) (p : Fin 2048) (f : Fin 16) : Value.res_main_v132 V (ix3 a p f) = kx V (ix3 a p ⟨f.val, by omega⟩) := by
  show extractStridedSlice S16x2048x16 ![0, 0, 0] (kx V) slices_S16x2048x32_S16x2048x16_0_0_0 _ = _
  refine extractStridedSlice_apply _ _ slices_S16x2048x32_S16x2048x16_0_0_0 _ _ ?_
  intro b; fin_cases b
  · show a.val = 0 + a.val; omega
  · show p.val = 0 + p.val; omega
  · show f.val = 0 + f.val; omega
theorem v133_apply (a : Fin 16) (p : Fin 2048) (f : Fin 16) : Value.res_main_v133 V (ix3 a p f) = kx V (ix3 a p ⟨16 + f.val, by omega⟩) := by
  show extractStridedSlice S16x2048x16 ![0, 0, 16] (kx V) slices_S16x2048x32_S16x2048x16_0_0_16 _ = _
  refine extractStridedSlice_apply _ _ slices_S16x2048x32_S16x2048x16_0_0_16 _ _ ?_
  intro b; fin_cases b
  · show a.val = 0 + a.val; omega
  · show p.val = 0 + p.val; omega
  · rfl
theorem kr_a (a : Fin 16) (p : Fin 2048) (f : Fin 16) : kr V (ix3 a p ⟨f.val, by omega⟩)
    = kx V (ix3 a p ⟨f.val, by omega⟩) * cosT (ix2 p f) - kx V (ix3 a p ⟨16 + f.val, by omega⟩) * sinT (ix2 p f) := by
  unfold kr
  refine (concatenate_pair_apply_left 2 _ _ concatenates_S16x2048x16_S16x2048x16_S16x2048x32_d2 _ rfl (ix3 a p f) ?_).trans ?_
  · intro b; fin_cases b <;> rfl
  refine congrArg₂ (· - ·) (congrArg₂ (· * ·) (v132_apply V a p f) (bc3_apply cosT a p f)) (congrArg₂ (· * ·) (v133_apply V a p f) (bc3_apply sinT a p f))
theorem kr_b (a : Fin 16) (p : Fin 2048) (f : Fin 16) : kr V (ix3 a p ⟨16 + f.val, by omega⟩)
    = kx V (ix3 a p ⟨16 + f.val, by omega⟩) * cosT (ix2 p f) + kx V (ix3 a p ⟨f.val, by omega⟩) * sinT (ix2 p f) := by
  unfold kr
  refine (concatenate_pair_apply_right 2 _ _ concatenates_S16x2048x16_S16x2048x16_S16x2048x32_d2 _ rfl rfl (ix3 a p f) ?_ ?_).trans ?_
  · intro b hb; fin_cases b
    · rfl
    · rfl
    · exact absurd rfl hb
  · show f.val + 16 = 16 + f.val; omega
  refine congrArg₂ (· + ·) (congrArg₂ (· * ·) (v133_apply V a p f) (bc3_apply cosT a p f)) (congrArg₂ (· * ·) (v132_apply V a p f) (bc3_apply sinT a p f))
theorem tR_in (R : Fin 32768) (d : Fin 32) : tR V (ix2 R ⟨64 + d.val, by omega⟩) = kr V (ix3 ⟨R.val / 2048, by omega⟩ ⟨R.val % 2048, by omega⟩ d) := by
  unfold tR
  refine ((pad_apply_of_inside _ _ _ _ _ pads_S32768x32_S32768x128_000_64320 h_S_ (ix2 R ⟨64 + d.val, by omega⟩) (ix2 R d) ?_).trans ?_)
  · intro b; fin_cases b
    · show R.val = 0 + R.val * (0 + 1); omega
    · show 64 + d.val = 64 + d.val * (0 + 1); omega
  refine shapeCast_apply _ _ _ _ ?_
  rw [Shape.rowMajor_val_two, Shape.rowMajor_val_three]
  show (R.val / 2048 * 2048 + R.val % 2048) * 32 + d.val = R.val * 32 + d.val
  omega
theorem tR_out (R : Fin 32768) (l : Fin 128) (hl : l.val < 64 ∨ 96 ≤ l.val) : tR V (ix2 R l) = 0 := by
  unfold tR
  refine (pad_apply_of_not_inside _ _ _ _ _ pads_S32768x32_S32768x128_000_64320 h_S_ (ix2 R l) 1 ?_).trans (Cert.Reference3Ideal.In.zero_word _)
  intro hc
  have h1 : 64 ≤ l.val := hc.1
  have h3 : (l.val - 64) / (0 + 1) < 32 := hc.2.2
  omega
theorem tR_apply (R : Fin 32768) (l : Fin 128) : tR V (ix2 R l) = resR (V (Proc.devRef .tc main_arg7)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R l := by
  unfold resR ropeK cosP sinP
  by_cases h0 : l.val < 64
  · rw [dif_pos h0]; exact tR_out V R l (Or.inl h0)
  rw [dif_neg h0]
  by_cases h1 : l.val < 80
  · rw [dif_pos h1]
    have e1 : l = ⟨64 + (l.val - 64), by omega⟩ := Fin.ext (by show l.val = 64 + (l.val - 64); omega)
    refine ((congrArg (fun l => tR V (ix2 R l)) e1).trans (tR_in V R ⟨l.val - 64, by omega⟩)).trans ((kr_a V _ _ ⟨l.val - 64, by omega⟩).trans ?_)
    rw [v116_apply, v116_apply]
    exact congrArg (fun j => _ - hE (V (Proc.devRef .tc main_arg7)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R j * _) (Fin.ext (by show 640 + (16 + (l.val - 64)) = 640 + (l.val - 48); omega))
  rw [dif_neg h1]
  by_cases h2 : l.val < 96
  · rw [dif_pos h2]
    have e1 : l = ⟨64 + (16 + (l.val - 80)), by omega⟩ := Fin.ext (by show l.val = 64 + (16 + (l.val - 80)); omega)
    refine ((congrArg (fun l => tR V (ix2 R l)) e1).trans (tR_in V R ⟨16 + (l.val - 80), by omega⟩)).trans ((kr_b V _ _ ⟨l.val - 80, by omega⟩).trans ?_)
    rw [v116_apply, v116_apply]
    exact congrArg (fun j => hE (V (Proc.devRef .tc main_arg7)) (x1E (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) R j * _ + _) (Fin.ext (by show 640 + (16 + (l.val - 80)) = 640 + (l.val - 64); omega))
  · rw [dif_neg h2]; exact tR_out V R l (Or.inr (by omega))

end Cert.Reference4Ideal.Od

end
-- ==== Proof.OdJoin.lean ====
/- The odd layer's input stage and its reference, one equation for each of the six results. -/
module

public import proofs.«01_k».proof.Proof.OdRows
public import proofs.«01_k».proof.Proof.OdRef
public import proofs.«01_k».proof.Proof.InJoin

@[expose] public section

set_option maxRecDepth 16384

noncomputable section

namespace Cert.OddIn

open Idealize.ShloMosaic Idealize.ShloMosaic.TcCoe Cert.Kernel4Ideal Cert.Kernel4Ideal.Gen
open Cert.Reference4Ideal.Od
open Cert.InProj (ix_two)

variable (m : (ℓ : Loc nD τ sig) → Buf (Elt Ideal) ℓ) (c : Dev nD)
variable (V : Valuation Cert.Reference4Ideal.τ Cert.Reference4Ideal.sig (Elt Ideal))

/-- The reference's arguments are the kernel's. -/
structure Same : Prop where
  h0 : V (Proc.devRef .tc Cert.Reference4Ideal.main_arg0) = m ((c : Thread nD τ).loc main_arg0)
  h1 : V (Proc.devRef .tc Cert.Reference4Ideal.main_arg1) = m ((c : Thread nD τ).loc main_arg1)
  h2 : V (Proc.devRef .tc Cert.Reference4Ideal.main_arg2) = m ((c : Thread nD τ).loc main_arg2)
  h3 : V (Proc.devRef .tc Cert.Reference4Ideal.main_arg3) = m ((c : Thread nD τ).loc main_arg3)
  h4 : V (Proc.devRef .tc Cert.Reference4Ideal.main_arg4) = m ((c : Thread nD τ).loc main_arg4)
  h5 : V (Proc.devRef .tc Cert.Reference4Ideal.main_arg5) = m ((c : Thread nD τ).loc main_arg5)
  h6 : V (Proc.devRef .tc Cert.Reference4Ideal.main_arg6) = m ((c : Thread nD τ).loc main_arg6)
  h7 : V (Proc.devRef .tc Cert.Reference4Ideal.main_arg7) = m ((c : Thread nD τ).loc main_arg7)
  h8 : V (Proc.devRef .tc Cert.Reference4Ideal.main_arg8) = m ((c : Thread nD τ).loc main_arg8)
  h9 : V (Proc.devRef .tc Cert.Reference4Ideal.main_arg9) = m ((c : Thread nD τ).loc main_arg9)
  h10 : V (Proc.devRef .tc Cert.Reference4Ideal.main_arg10) = m ((c : Thread nD τ).loc main_arg10)
  h11 : V (Proc.devRef .tc Cert.Reference4Ideal.main_arg11) = m ((c : Thread nD τ).loc main_arg11)

variable {m c V} (H : Same m c V)
include H

theorem eq_0 : x1T V = (dats m 0 c).arrAt 19 cfg0.N := by
  funext j
  obtain ⟨p, q, rfl⟩ := ix_two (a := 32768) (b := 1024) j
  refine (x1T_apply V p q).trans (Eq.trans ?_ (arr_19 m c p q).symm)
  simp only [H.h0, H.h1, H.h2, H.h3, H.h4, H.h5, H.h6, H.h7, H.h8, H.h9, H.h10, H.h11]
theorem eq_1 : tQ V = (dats m 0 c).arrAt 20 cfg0.N := by
  funext j
  obtain ⟨p, q, rfl⟩ := ix_two (a := 32768) (b := 2048) j
  refine (tQ_apply V p q).trans (Eq.trans ?_ (arr_20 m c p q).symm)
  simp only [H.h0, H.h1, H.h2, H.h3, H.h4, H.h5, H.h6, H.h7, H.h8, H.h9, H.h10, H.h11]
theorem eq_2 : tK V = (dats m 0 c).arrAt 21 cfg0.N := by
  funext j
  obtain ⟨p, q, rfl⟩ := ix_two (a := 32768) (b := 1024) j
  refine (tK_apply V p q).trans (Eq.trans ?_ (arr_21 m c p q).symm)
  simp only [H.h0, H.h1, H.h2, H.h3, H.h4, H.h5, H.h6, H.h7, H.h8, H.h9, H.h10, H.h11]
theorem eq_3 : tR V = (dats m 0 c).arrAt 22 cfg0.N := by
  funext j
  obtain ⟨p, q, rfl⟩ := ix_two (a := 32768) (b := 128) j
  refine (tR_apply V p q).trans (Eq.trans ?_ (arr_22 m c p q).symm)
  simp only [H.h0, H.h1, H.h2, H.h3, H.h4, H.h5, H.h6, H.h7, H.h8, H.h9, H.h10, H.h11]
theorem eq_4 : tV V = (dats m 0 c).arrAt 23 cfg0.N := by
  funext j
  obtain ⟨p, q, rfl⟩ := ix_two (a := 32768) (b := 1024) j
  refine (tV_apply V p q).trans (Eq.trans ?_ (arr_23 m c p q).symm)
  simp only [H.h0, H.h1, H.h2, H.h3, H.h4, H.h5, H.h6, H.h7, H.h8, H.h9, H.h10, H.h11]
theorem eq_5 : tZ V = (dats m 0 c).arrAt 24 cfg0.N := by
  funext j
  obtain ⟨p, q, rfl⟩ := ix_two (a := 32768) (b := 1024) j
  refine (tZ_apply V p q).trans (Eq.trans ?_ (arr_24 m c p q).symm)
  simp only [H.h0, H.h1, H.h2, H.h3, H.h4, H.h5, H.h6, H.h7, H.h8, H.h9, H.h10, H.h11]

end Cert.OddIn

end
-- ==== Proof.OdEnd.lean ====
/- The odd layer's input stage: its frames and the equality of its results with the reference's. -/
module

public import proofs.«01_k».proof.Defs
public import proofs.«01_k».proof.Proof.OdTable
public import proofs.«01_k».proof.Proof.OdJoin

@[expose] public section

set_option maxRecDepth 16384

noncomputable section

namespace Cert.OddIn

open Idealize.ShloMosaic Idealize.SL.Sem Idealize.ShloMosaic.StableHlo

set_option maxHeartbeats 20000000 in
/-- `Kernel4` terminates, leaves its arguments and every counter as it found them. -/
theorem frame_kernel : Cert.quiescent_Kernel4 := by
  intro m ρ _
  have h := Cert.Kernel4Ideal.Gen.frame (F := Bits) m ρ
  rw [← table4_eq] at h
  exact h

end Cert.OddIn

end
-- ==== Proof.OdEndB.lean ====
/- The odd layer's input stage: its results are the reference's. -/
module

public import proofs.«01_k».proof.Defs
public import proofs.«01_k».proof.Proof.OdJoin

@[expose] public section

set_option maxRecDepth 16384

noncomputable section

namespace Cert.OddIn

open Idealize.ShloMosaic Idealize.SL.Sem Idealize.ShloMosaic.StableHlo

set_option maxHeartbeats 4000000 in
/-- From memories agreeing on the arguments both input stages end with the same six results. -/
theorem same_results : Cert.algebraic_Kernel4Ideal_Reference4Ideal := fun m g m' g' _ hm =>
  ⟨fun c => (Cert.Kernel4Ideal.Gen.dats m 0 c).arrAt 19 Cert.Kernel4Ideal.cfg0.N,
    fun c => (Cert.Kernel4Ideal.Gen.dats m 0 c).arrAt 20 Cert.Kernel4Ideal.cfg0.N,
    fun c => (Cert.Kernel4Ideal.Gen.dats m 0 c).arrAt 21 Cert.Kernel4Ideal.cfg0.N,
    fun c => (Cert.Kernel4Ideal.Gen.dats m 0 c).arrAt 22 Cert.Kernel4Ideal.cfg0.N,
    fun c => (Cert.Kernel4Ideal.Gen.dats m 0 c).arrAt 23 Cert.Kernel4Ideal.cfg0.N,
    fun c => (Cert.Kernel4Ideal.Gen.dats m 0 c).arrAt 24 Cert.Kernel4Ideal.cfg0.N,
    Cert.Kernel4Ideal.Value.run_blocks (F := Ideal) m g,
    (θ_run (Cert.Reference4Ideal.defs (F := Ideal)) _ _).mono (fun r h c => by
      obtain ⟨h0, h1, h2, h3, h4, h5, h6, h7, h8, h9, h10, h11⟩ := hm c
      have H : Same m c (launchContents m' c) := ⟨h0, h1, h2, h3, h4, h5, h6, h7, h8, h9, h10, h11⟩
      obtain ⟨e0, e1, e2, e3, e4, e5, ek⟩ := h c
      exact ⟨e0.trans (eq_0 H), e1.trans (eq_1 H), e2.trans (eq_2 H), e3.trans (eq_3 H), e4.trans (eq_4 H), e5.trans (eq_5 H), ek⟩)
      (Cert.Reference4Ideal.Value.run (F := Ideal) m' g')⟩

end Cert.OddIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Reals
public import proofs.«01_k».proof.Proof.Join
public import proofs.«01_k».proof.Proof.InJoin
public import proofs.«01_k».proof.Proof.OdEnd
public import proofs.«01_k».proof.Proof.OdEndB
public import Idealize.ShloMosaic.Adequacy
public import Idealize.ShloMosaic.Init

@[expose] public section

noncomputable section

namespace Cert.Proof

open Idealize.ShloMosaic Idealize.SL.Sem

/-- The two programs' tables of kernel functions are the same: one function each, of the same text. -/
theorem kernelTable_eq {F : _} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, a => rfl

/-- So are the whole body tables, which add the same region. -/
theorem table_eq {F : _} [FloatOps F] : Cert.Kernel.defs (F := F) = Cert.KernelIdeal.defs (F := F) := by
  unfold Cert.Kernel.defs Cert.KernelIdeal.defs
  exact congrArg (Pipeline.defs (Cert.KernelIdeal.pcfgs (F := F))) kernelTable_eq

/-- `Kernel` terminates, leaves its arguments and every counter as it found them. -/
theorem frame_kernel : Cert.quiescent_Kernel := by
  intro m ρ _
  have h := Cert.KernelIdeal.OddOut.frame_any (F := Bits) m ρ
  rw [← table_eq] at h
  exact h

/-- So does `KernelIdeal`. -/
theorem frame_kernelIdeal : Cert.quiescent_KernelIdeal := fun m ρ _ => Cert.KernelIdeal.OddOut.frame_any (F := Ideal) m ρ
/-- So does `ReferenceIdeal`. -/
theorem frame_referenceIdeal : Cert.quiescent_ReferenceIdeal := fun m ρ _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m ρ)
/-- Nothing is rewritten. -/
theorem preserves : Cert.preserves_Kernel_KernelIdeal := trivial

/-- From memories agreeing on the arguments both end with the same result. -/
theorem algebraic : Cert.algebraic_KernelIdeal_ReferenceIdeal := fun m g m' g' _ hm =>
  ⟨fun c => Cert.KernelIdeal.OddOut.outY m c,
    (θ_run (Cert.KernelIdeal.defs (F := Ideal)) _ _).mono (fun _ h => h.1) (Cert.KernelIdeal.OddOut.run_main (F := Ideal) m g),
    (θ_run (Cert.ReferenceIdeal.defs (F := Ideal)) _ _).mono (fun _ h c => ⟨(h c).1.trans (by
        obtain ⟨h0, h1, h2, h3, h4, h5⟩ := hm c
        funext j
        obtain ⟨i, q, rfl⟩ : ∃ (i : Fin 32768) (q : Fin 1024), j = ix2 i q := ⟨j 0, j 1, by funext a; fin_cases a <;> rfl⟩
        refine (Cert.ReferenceIdeal.OddOut.ref_apply m' c i q).trans ?_
        rw [h0, h1, h2, h3, h4, h5]
        exact (Cert.KernelIdeal.OddOut.outY_apply m c i q).symm), (h c).2⟩) (Cert.ReferenceIdeal.Value.run (F := Ideal) m' g')⟩

/-- `Kernel2` terminates, leaves its arguments and every counter as it found them. -/
theorem frame_kernel2 : Cert.quiescent_Kernel2 := fun m ρ _ => Cert.Kernel2.Gen.frame m ρ
/-- So does `Kernel2Ideal`, -/
theorem frame_kernel2Ideal : Cert.quiescent_Kernel2Ideal := fun m ρ _ => Cert.Kernel2Ideal.Gen.frame m ρ
/-- under the condition on its arguments as without it; -/
theorem frame_kernel2Ideal_pre [Cert.Pre_real_scores.Facts] : Cert.quiescent_Kernel2Ideal_pre_real_scores := fun m ρ _ => Cert.Kernel2Ideal.Gen.frame m ρ
/-- and so does `Reference2Ideal`, -/
theorem frame_reference2Ideal : Cert.quiescent_Reference2Ideal := fun m ρ _ =>
  (θ_run (Cert.Reference2Ideal.defs (F := Ideal)) _ _).mono (fun r h => ⟨fun c => (h c).2, Idealize.ShloMosaic.sem_eq_zero_of_no_sems (by decide) r.2⟩)
    (Cert.Reference2Ideal.Value.run (F := Ideal) m ρ)
/-- under the condition as without it. -/
theorem frame_reference2Ideal_pre [Cert.Pre_real_scores.Facts] : Cert.quiescent_Reference2Ideal_pre_real_scores := fun m ρ _ => frame_reference2Ideal m ρ trivial
/-- The mask's constant reads as minus infinity. -/
theorem preserves2 : Cert.preserves_Kernel2_Kernel2Ideal := IdealRules.named_const.statement Cert.Kernel2Ideal.κ "mask" .f32 0xF149F2CA#32 ⊥ rfl

/-- From memories agreeing on the arguments, the queries and keys real numbers, both attention programs end with the same result. -/
theorem algebraic2 [Cert.Pre_real_scores.Facts] : Cert.algebraic_Kernel2Ideal_Reference2Ideal_pre_real_scores := fun m g m' g' hp hm =>
  ⟨fun c => (Cert.Kernel2Ideal.Gen.dats m 0 c).arrAt 4 Cert.Kernel2Ideal.cfg0.N,
    Cert.Kernel2Ideal.Value.run_blocks (F := Ideal) m g,
    (θ_run (Cert.Reference2Ideal.defs (F := Ideal)) _ _).mono (fun _ h c => ⟨(h c).1.trans (by
        obtain ⟨h0, h1, h2, h3⟩ := hm c
        have hr := Cert.Pre_real_scores.reals _ _ _ _ (hp c)
        exact Cert.Mla.result_eq ⟨hr.1, hr.2.1, hr.2.2⟩ m' c h0 h1 h2 h3), (h c).2⟩) (Cert.Reference2Ideal.Value.run (F := Ideal) m' g')⟩

/-- `Kernel3` terminates, leaves its arguments and every counter as it found them. -/
theorem frame_kernel3 : Cert.quiescent_Kernel3 := fun m ρ _ => Cert.Kernel3.Gen.frame m ρ
/-- So does `Kernel3Ideal`, -/
theorem frame_kernel3Ideal : Cert.quiescent_Kernel3Ideal := fun m ρ _ => Cert.Kernel3Ideal.Gen.frame m ρ
/-- and so does `Reference3Ideal`. -/
theorem frame_reference3Ideal : Cert.quiescent_Reference3Ideal := fun m ρ _ =>
  (θ_run (Cert.Reference3Ideal.defs (F := Ideal)) _ _).mono
    (fun r h => ⟨fun c => (h c).2.2.2.2.2.2.2.2.2, Idealize.ShloMosaic.sem_eq_zero_of_no_sems (by decide) r.2⟩)
    (Cert.Reference3Ideal.Value.run (F := Ideal) m ρ)
/-- Nothing is rewritten. -/
theorem preserves3 : Cert.preserves_Kernel3_Kernel3Ideal := trivial

/-- From memories agreeing on the arguments both input projections end with the same nine results. -/
theorem algebraic3 : Cert.algebraic_Kernel3Ideal_Reference3Ideal := fun m g m' g' _ hm =>
  ⟨fun c => (Cert.Kernel3Ideal.Gen.dats m 0 c).arrAt 3 Cert.Kernel3Ideal.cfg0.N, fun c => (Cert.Kernel3Ideal.Gen.dats m 0 c).arrAt 4 Cert.Kernel3Ideal.cfg0.N,
    fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N,
    Cert.Kernel3Ideal.Value.run_blocks (F := Ideal) m g,
    (θ_run (Cert.Reference3Ideal.defs (F := Ideal)) _ _).mono (fun r h c => by
      obtain ⟨h0, h1⟩ := hm c
      obtain ⟨e0, e1, e2, e3, e4, e5, e6, e7, e8, ek⟩ := h c
      rw [h0, h1] at e0 e1 e2 e3 e4 e5 e6 e7 e8
      exact ⟨e0.trans (Cert.InProj.eq_0 m c), e1.trans (Cert.InProj.eq_1 m c), e2.trans (Cert.InProj.eq_2 m c), e3.trans (Cert.InProj.eq_3 m c), e4.trans (Cert.InProj.eq_4 m c),
        e5.trans (Cert.InProj.eq_5 m c), e6.trans (Cert.InProj.eq_6 m c), e7.trans (Cert.InProj.eq_7 m c), e8.trans (Cert.InProj.eq_8 m c), ek⟩)
      (Cert.Reference3Ideal.Value.run (F := Ideal) m' g')⟩

/-- `Kernel4` terminates, leaves its arguments and every counter as it found them. -/
theorem frame_kernel4 : Cert.quiescent_Kernel4 := Cert.OddIn.frame_kernel
/-- So does `Kernel4Ideal`, -/
theorem frame_kernel4Ideal : Cert.quiescent_Kernel4Ideal := fun m ρ _ => Cert.Kernel4Ideal.Gen.frame m ρ
/-- and so does `Reference4Ideal`. -/
theorem frame_reference4Ideal : Cert.quiescent_Reference4Ideal := fun m ρ _ =>
  (θ_run (Cert.Reference4Ideal.defs (F := Ideal)) _ _).mono
    (fun r h => ⟨fun c => (h c).2.2.2.2.2.2, Idealize.ShloMosaic.sem_eq_zero_of_no_sems (by decide) r.2⟩)
    (Cert.Reference4Ideal.Value.run (F := Ideal) m ρ)
/-- Nothing is rewritten. -/
theorem preserves4 : Cert.preserves_Kernel4_Kernel4Ideal := trivial

/-- From memories agreeing on the arguments both input stages end with the same six results. -/
theorem algebraic4 : Cert.algebraic_Kernel4Ideal_Reference4Ideal := Cert.OddIn.same_results

/-- Everything claimed. -/
theorem claim : Cert.Claim :=
  haveI := Cert.Pre_real_scores.facts
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_real_scores.facts, frame_kernel, frame_kernelIdeal, frame_referenceIdeal, frame_kernel2, frame_kernel2Ideal, frame_kernel2Ideal_pre, frame_reference2Ideal,
    frame_reference2Ideal_pre, frame_kernel3, frame_kernel3Ideal, frame_reference3Ideal, frame_kernel4, frame_kernel4Ideal, frame_reference4Ideal, preserves, algebraic, preserves2, algebraic2, preserves3, algebraic3, preserves4, algebraic4⟩

end Cert.Proof

end
